-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Kernel14Ideal_finite_pair [hPre_finite_pair : Cert.Pre_finite_pair.Facts] (m : (ℓ : Loc Cert.Kernel14Ideal.nD Cert.Kernel14Ideal.τ Cert.Kernel14Ideal.sig) → Buf (Elt Ideal) ℓ) : Prop :=
  ∀ c : Dev Cert.Kernel14Ideal.nD,
    (Cert.Pre_finite_pair.fn (F := Ideal) (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1))).1 = (fun _ => 1#1)
    ∧ (Cert.Pre_finite_pair.fn (F := Ideal) (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1))).2 = (fun _ => 1#1)

def Pre_Reference14Ideal (m : (ℓ : Loc Cert.Reference14Ideal.nD Cert.Reference14Ideal.τ Cert.Reference14Ideal.sig) → Buf (Elt Ideal) ℓ) : Prop :=
  True

def Pre_Reference14Ideal_finite_pair [hPre_finite_pair : Cert.Pre_finite_pair.Facts] (m : (ℓ : Loc Cert.Reference14Ideal.nD Cert.Reference14Ideal.τ Cert.Reference14Ideal.sig) → Buf (Elt Ideal) ℓ) : Prop :=
  ∀ c : Dev Cert.Reference14Ideal.nD,
    (Cert.Pre_finite_pair.fn (F := Ideal) (m ((c.tc : Thread Cert.Reference14Ideal.nD Cert.Reference14Ideal.τ).loc Cert.Reference14Ideal.main_arg0)) (m ((c.tc : Thread Cert.Reference14Ideal.nD Cert.Reference14Ideal.τ).loc Cert.Reference14Ideal.main_arg1))).1 = (fun _ => 1#1)
    ∧ (Cert.Pre_finite_pair.fn (F := Ideal) (m ((c.tc : Thread Cert.Reference14Ideal.nD Cert.Reference14Ideal.τ).loc Cert.Reference14Ideal.main_arg0)) (m ((c.tc : Thread Cert.Reference14Ideal.nD Cert.Reference14Ideal.τ).loc Cert.Reference14Ideal.main_arg1))).2 = (fun _ => 1#1)

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Kernel14Ideal_pre_finite_pair [hKernel14Ideal : Cert.Kernel14Ideal.Facts] [hPre_finite_pair : Cert.Pre_finite_pair.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal_finite_pair m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Reference14Ideal_pre_finite_pair [hReference14Ideal : Cert.Reference14Ideal.Facts] [hPre_finite_pair : Cert.Pre_finite_pair.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal_finite_pair m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def preserves_Kernel_KernelIdeal : Prop :=
  True

def algebraic_KernelIdeal_ReferenceIdeal_on_of_gate_pre_finite [hKernelIdeal : Cert.KernelIdeal.Facts] [hReferenceIdeal : Cert.ReferenceIdeal.Facts] [hPre_finite : Cert.Pre_finite.Facts] [hOn_of_gate : Cert.On_of_gate.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v14_0)) (v1 : (c : Dev Cert.KernelIdeal.nD) → Buf (Elt Ideal) ((c.tc : Thread Cert.KernelIdeal.nD Cert.KernelIdeal.τ).loc Cert.KernelIdeal.main_v14_1)) (v2 : (c : Dev Cert.KernelIdeal.nD) → Buf (Elt Ideal) ((c.tc : Thread Cert.KernelIdeal.nD Cert.KernelIdeal.τ).loc Cert.KernelIdeal.main_v14_2)) (v3 : (c : Dev Cert.KernelIdeal.nD) → Buf (Elt Ideal) ((c.tc : Thread Cert.KernelIdeal.nD Cert.KernelIdeal.τ).loc Cert.KernelIdeal.main_v14_3)) (v4 : (c : Dev Cert.KernelIdeal.nD) → Buf (Elt Ideal) ((c.tc : Thread Cert.KernelIdeal.nD Cert.KernelIdeal.τ).loc Cert.KernelIdeal.main_v14_4)) (v5 : (c : Dev Cert.KernelIdeal.nD) → Buf (Elt Ideal) ((c.tc : Thread Cert.KernelIdeal.nD Cert.KernelIdeal.τ).loc Cert.KernelIdeal.main_v14_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![8192, 256]⟩ : Shape).Idx, (Cert.On_of_gate.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 i = 1#1 → r.2.mem ((c.tc : Thread Cert.KernelIdeal.nD Cert.KernelIdeal.τ).loc Cert.KernelIdeal.main_v14_0) i = v0 c i)
          ∧ (∀ i : (⟨2, ![8192, 256]⟩ : Shape).Idx, (Cert.On_of_gate.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 i = 1#1 → r.2.mem ((c.tc : Thread Cert.KernelIdeal.nD Cert.KernelIdeal.τ).loc Cert.KernelIdeal.main_v14_1) i = v1 c i)
          ∧ (∀ i : (⟨2, ![8192, 512]⟩ : Shape).Idx, (Cert.On_of_gate.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 i = 1#1 → r.2.mem ((c.tc : Thread Cert.KernelIdeal.nD Cert.KernelIdeal.τ).loc Cert.KernelIdeal.main_v14_2) i = v2 c i)
          ∧ (∀ i : (⟨2, ![8192, 128]⟩ : Shape).Idx, (Cert.On_of_gate.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.1 i = 1#1 → r.2.mem ((c.tc : Thread Cert.KernelIdeal.nD Cert.KernelIdeal.τ).loc Cert.KernelIdeal.main_v14_3) i = v3 c i)
          ∧ (∀ i : (⟨2, ![128, 256]⟩ : Shape).Idx, (Cert.On_of_gate.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2.1 i = 1#1 → r.2.mem ((c.tc : Thread Cert.KernelIdeal.nD Cert.KernelIdeal.τ).loc Cert.KernelIdeal.main_v14_4) i = v4 c i)
          ∧ (∀ i : (⟨2, ![1, 256]⟩ : Shape).Idx, (Cert.On_of_gate.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2.2 i = 1#1 → r.2.mem ((c.tc : Thread Cert.KernelIdeal.nD Cert.KernelIdeal.τ).loc Cert.KernelIdeal.main_v14_5) i = v5 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![8192, 256]⟩ : Shape).Idx, (Cert.On_of_gate.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 i = 1#1 → r.2.mem ((c.tc : Thread Cert.ReferenceIdeal.nD Cert.ReferenceIdeal.τ).loc Cert.ReferenceIdeal.main_v19) i = v0 c i)
          ∧ (∀ i : (⟨2, ![8192, 256]⟩ : Shape).Idx, (Cert.On_of_gate.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 i = 1#1 → r.2.mem ((c.tc : Thread Cert.ReferenceIdeal.nD Cert.ReferenceIdeal.τ).loc Cert.ReferenceIdeal.main_v20) i = v1 c i)
          ∧ (∀ i : (⟨2, ![8192, 512]⟩ : Shape).Idx, (Cert.On_of_gate.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 i = 1#1 → r.2.mem ((c.tc : Thread Cert.ReferenceIdeal.nD Cert.ReferenceIdeal.τ).loc Cert.ReferenceIdeal.main_v21) i = v2 c i)
          ∧ (∀ i : (⟨2, ![8192, 128]⟩ : Shape).Idx, (Cert.On_of_gate.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.1 i = 1#1 → r.2.mem ((c.tc : Thread Cert.ReferenceIdeal.nD Cert.ReferenceIdeal.τ).loc Cert.ReferenceIdeal.main_v22) i = v3 c i)
          ∧ (∀ i : (⟨2, ![128, 256]⟩ : Shape).Idx, (Cert.On_of_gate.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2.1 i = 1#1 → r.2.mem ((c.tc : Thread Cert.ReferenceIdeal.nD Cert.ReferenceIdeal.τ).loc Cert.ReferenceIdeal.main_v23) i = v4 c i)
          ∧ (∀ i : (⟨2, ![1, 256]⟩ : Shape).Idx, (Cert.On_of_gate.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2.2 i = 1#1 → r.2.mem ((c.tc : Thread Cert.ReferenceIdeal.nD Cert.ReferenceIdeal.τ).loc Cert.ReferenceIdeal.main_v24) i = v5 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v4) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v7) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v5) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v5)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v5) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v4) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v7) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v4) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v5) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v3)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v3) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v4) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v4)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v4) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v2) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v4)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v4) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v3) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v2) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v2) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal_pre_finite_pair [hKernel14Ideal : Cert.Kernel14Ideal.Facts] [hReference14Ideal : Cert.Reference14Ideal.Facts] [hPre_finite_pair : Cert.Pre_finite_pair.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal_finite_pair m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v4)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v4) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v12) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v1)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v1) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v15) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v2_0)) (v1 : (c : Dev Cert.Kernel16Ideal.nD) → Buf (Elt Ideal) ((c.tc : Thread Cert.Kernel16Ideal.nD Cert.Kernel16Ideal.τ).loc Cert.Kernel16Ideal.main_v2_1)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v2_0) = v0 c
          ∧ r.2.mem ((c.tc : Thread Cert.Kernel16Ideal.nD Cert.Kernel16Ideal.τ).loc Cert.Kernel16Ideal.main_v2_1) = v1 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v16) = v0 c
          ∧ r.2.mem ((c.tc : Thread Cert.Reference16Ideal.nD Cert.Reference16Ideal.τ).loc Cert.Reference16Ideal.main_v32) = v1 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hPre_finite : Cert.Pre_finite.Facts) (hPre_finite_pair : Cert.Pre_finite_pair.Facts) (hOn_of_gate : Cert.On_of_gate.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Kernel14Ideal_pre_finite_pair (hKernel14Ideal := hKernel14Ideal) (hPre_finite_pair := hPre_finite_pair)
    ∧ quiescent_Reference14Ideal (hReference14Ideal := hReference14Ideal)
    ∧ quiescent_Reference14Ideal_pre_finite_pair (hReference14Ideal := hReference14Ideal) (hPre_finite_pair := hPre_finite_pair)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ preserves_Kernel_KernelIdeal
    ∧ algebraic_KernelIdeal_ReferenceIdeal_on_of_gate_pre_finite (hKernelIdeal := hKernelIdeal) (hReferenceIdeal := hReferenceIdeal) (hPre_finite := hPre_finite) (hOn_of_gate := hOn_of_gate)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal_pre_finite_pair (hKernel14Ideal := hKernel14Ideal) (hReference14Ideal := hReference14Ideal) (hPre_finite_pair := hPre_finite_pair)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
-- ==== On_of_gate.lean ====
abbrev S8192x3200 : Shape := ⟨2, ![8192, 3200]⟩
abbrev S4x16x256 : Shape := ⟨3, ![4, 16, 256]⟩
abbrev S4x256 : Shape := ⟨2, ![4, 256]⟩
abbrev S4x128x64x128 : Shape := ⟨4, ![4, 128, 64, 128]⟩
abbrev S8192x512 : Shape := ⟨2, ![8192, 512]⟩
abbrev S_ : Shape := ⟨0, ![]⟩
abbrev S8192x256 : Shape := ⟨2, ![8192, 256]⟩
abbrev S8192x128 : Shape := ⟨2, ![8192, 128]⟩
abbrev S128x256 : Shape := ⟨2, ![128, 256]⟩
abbrev S1x256 : Shape := ⟨2, ![1, 256]⟩

class Facts : Prop where
  bcast_S_S8192x256 : S_.BroadcastsInDim S8192x256 (![] : Fin 0 → Fin S8192x256.rank)
  bcast_S_S8192x512 : S_.BroadcastsInDim S8192x512 (![] : Fin 0 → Fin S8192x512.rank)
  bcast_S_S8192x128 : S_.BroadcastsInDim S8192x128 (![] : Fin 0 → Fin S8192x128.rank)
  bcast_S_S128x256 : S_.BroadcastsInDim S128x256 (![] : Fin 0 → Fin S128x256.rank)
  bcast_S_S1x256 : S_.BroadcastsInDim S1x256 (![] : Fin 0 → Fin S1x256.rank)

variable [Facts]

def fn {F : FTy → Type} [FloatOps F] (main_arg0 : FVec F S8192x3200 .bf16) (main_arg1 : FVec F S4x16x256 .f32) (main_arg2 : FVec F S4x256 .f32) (main_arg3 : FVec F S4x128x64x128 .bf16) (main_arg4 : FVec F S8192x512 .bf16) : IVec S8192x256 1 × IVec S8192x256 1 × IVec S8192x512 1 × IVec S8192x128 1 × IVec S128x256 1 × IVec S1x256 1 :=
  let main_c : IVec S_ 1 := constantI S_ 1 1#1
  let main_v0 : IVec S8192x256 1 := broadcastInDim S8192x256 ![] bcast_S_S8192x256 main_c
  let main_c_0 : IVec S_ 1 := constantI S_ 1 1#1
  let main_v1 : IVec S8192x256 1 := broadcastInDim S8192x256 ![] bcast_S_S8192x256 main_c_0
  let main_c_1 : IVec S_ 1 := constantI S_ 1 1#1
  let main_v2 : IVec S8192x512 1 := broadcastInDim S8192x512 ![] bcast_S_S8192x512 main_c_1
  let main_c_2 : IVec S_ 1 := constantI S_ 1 1#1
  let main_v3 : IVec S8192x128 1 := broadcastInDim S8192x128 ![] bcast_S_S8192x128 main_c_2
  let main_v4 : IVec S128x256 32 := iotaInDim S128x256 32 0
  let main_c_3 : IVec S_ 32 := constantI S_ 32 16#32
  let main_v5 : IVec S128x256 32 := broadcastInDim S128x256 ![] bcast_S_S128x256 main_c_3
  let main_v6 : IVec S128x256 1 := cmpi .slt main_v4 main_v5
  let main_c_4 : IVec S_ 1 := constantI S_ 1 1#1
  let main_v7 : IVec S1x256 1 := broadcastInDim S1x256 ![] bcast_S_S1x256 main_c_4
  (main_v0, main_v1, main_v2, main_v3, main_v6, main_v7)
-- ==== Pre_finite.lean ====
abbrev S8192x3200 : Shape := ⟨2, ![8192, 3200]⟩
abbrev S4x16x256 : Shape := ⟨3, ![4, 16, 256]⟩
abbrev S4x256 : Shape := ⟨2, ![4, 256]⟩
abbrev S4x128x64x128 : Shape := ⟨4, ![4, 128, 64, 128]⟩
abbrev S8192x512 : Shape := ⟨2, ![8192, 512]⟩
abbrev S_ : Shape := ⟨0, ![]⟩

class Facts : Prop where
  bcast_S_S8192x3200 : S_.BroadcastsInDim S8192x3200 (![] : Fin 0 → Fin S8192x3200.rank)
  reducesTo_S8192x3200_S_d0_1 : S8192x3200.ReducesTo [0, 1] S_
  h_S_ : 0 < S_.numel
  bcast_S_S4x16x256 : S_.BroadcastsInDim S4x16x256 (![] : Fin 0 → Fin S4x16x256.rank)
  reducesTo_S4x16x256_S_d0_1_2 : S4x16x256.ReducesTo [0, 1, 2] S_
  bcast_S_S4x256 : S_.BroadcastsInDim S4x256 (![] : Fin 0 → Fin S4x256.rank)
  reducesTo_S4x256_S_d0_1 : S4x256.ReducesTo [0, 1] S_
  bcast_S_S4x128x64x128 : S_.BroadcastsInDim S4x128x64x128 (![] : Fin 0 → Fin S4x128x64x128.rank)
  reducesTo_S4x128x64x128_S_d0_1_2_3 : S4x128x64x128.ReducesTo [0, 1, 2, 3] S_
  bcast_S_S8192x512 : S_.BroadcastsInDim S8192x512 (![] : Fin 0 → Fin S8192x512.rank)
  reducesTo_S8192x512_S_d0_1 : S8192x512.ReducesTo [0, 1] S_

variable [Facts]

def fn_part1 {F : FTy → Type} [FloatOps F] (main_arg4 : FVec F S8192x512 .bf16) (main_v3 : IVec S_ 1) (main_v7 : IVec S_ 1) (main_v11 : IVec S_ 1) (main_v15 : IVec S_ 1) : IVec S_ 1 × IVec S_ 1 × IVec S_ 1 × IVec S_ 1 × IVec S_ 1 :=
  let main_v16 : FVec F S8192x512 .bf16 := Host.absf main_arg4
  let main_cst_6 : FVec F S_ .bf16 := constant S_ .bf16 0x7F80#16
  let main_v17 : FVec F S8192x512 .bf16 := broadcastInDim S8192x512 ![] bcast_S_S8192x512 main_cst_6
  let main_v18 : IVec S8192x512 1 := cmpf .olt main_v16 main_v17
  let main_c_7 : IVec S_ 1 := constantI S_ 1 1#1
  let main_v19 : IVec S_ 1 := (fun x v => Host.reduce IntOp.andi x v reducesTo_S8192x512_S_d0_1 h_S_) main_v18 main_c_7
  (main_v3, main_v7, main_v11, main_v15, main_v19)

def fn {F : FTy → Type} [FloatOps F] (main_arg0 : FVec F S8192x3200 .bf16) (main_arg1 : FVec F S4x16x256 .f32) (main_arg2 : FVec F S4x256 .f32) (main_arg3 : FVec F S4x128x64x128 .bf16) (main_arg4 : FVec F S8192x512 .bf16) : IVec S_ 1 × IVec S_ 1 × IVec S_ 1 × IVec S_ 1 × IVec S_ 1 :=
  let main_v0 : FVec F S8192x3200 .bf16 := Host.absf main_arg0
  let main_cst : FVec F S_ .bf16 := constant S_ .bf16 0x7F80#16
  let main_v1 : FVec F S8192x3200 .bf16 := broadcastInDim S8192x3200 ![] bcast_S_S8192x3200 main_cst
  let main_v2 : IVec S8192x3200 1 := cmpf .olt main_v0 main_v1
  let main_c : IVec S_ 1 := constantI S_ 1 1#1
  let main_v3 : IVec S_ 1 := (fun x v => Host.reduce IntOp.andi x v reducesTo_S8192x3200_S_d0_1 h_S_) main_v2 main_c
  let main_v4 : FVec F S4x16x256 .f32 := Host.absf main_arg1
  let main_cst_0 : FVec F S_ .f32 := constant S_ .f32 0x7F800000#32
  let main_v5 : FVec F S4x16x256 .f32 := broadcastInDim S4x16x256 ![] bcast_S_S4x16x256 main_cst_0
  let main_v6 : IVec S4x16x256 1 := cmpf .olt main_v4 main_v5
  let main_c_1 : IVec S_ 1 := constantI S_ 1 1#1
  let main_v7 : IVec S_ 1 := (fun x v => Host.reduce IntOp.andi x v reducesTo_S4x16x256_S_d0_1_2 h_S_) main_v6 main_c_1
  let main_v8 : FVec F S4x256 .f32 := Host.absf main_arg2
  let main_cst_2 : FVec F S_ .f32 := constant S_ .f32 0x7F800000#32
  let main_v9 : FVec F S4x256 .f32 := broadcastInDim S4x256 ![] bcast_S_S4x256 main_cst_2
  let main_v10 : IVec S4x256 1 := cmpf .olt main_v8 main_v9
  let main_c_3 : IVec S_ 1 := constantI S_ 1 1#1
  let main_v11 : IVec S_ 1 := (fun x v => Host.reduce IntOp.andi x v reducesTo_S4x256_S_d0_1 h_S_) main_v10 main_c_3
  let main_v12 : FVec F S4x128x64x128 .bf16 := Host.absf main_arg3
  let main_cst_4 : FVec F S_ .bf16 := constant S_ .bf16 0x7F80#16
  let main_v13 : FVec F S4x128x64x128 .bf16 := broadcastInDim S4x128x64x128 ![] bcast_S_S4x128x64x128 main_cst_4
  let main_v14 : IVec S4x128x64x128 1 := cmpf .olt main_v12 main_v13
  let main_c_5 : IVec S_ 1 := constantI S_ 1 1#1
  let main_v15 : IVec S_ 1 := (fun x v => Host.reduce IntOp.andi x v reducesTo_S4x128x64x128_S_d0_1_2_3 h_S_) main_v14 main_c_5
  fn_part1 (F := F) main_arg4 main_v3 main_v7 main_v11 main_v15
-- ==== Pre_finite_pair.lean ====
abbrev S8192x5632 : Shape := ⟨2, ![8192, 5632]⟩
abbrev S8192x2816 : Shape := ⟨2, ![8192, 2816]⟩
abbrev S_ : Shape := ⟨0, ![]⟩

class Facts : Prop where
  bcast_S_S8192x5632 : S_.BroadcastsInDim S8192x5632 (![] : Fin 0 → Fin S8192x5632.rank)
  reducesTo_S8192x5632_S_d0_1 : S8192x5632.ReducesTo [0, 1] S_
  h_S_ : 0 < S_.numel
  bcast_S_S8192x2816 : S_.BroadcastsInDim S8192x2816 (![] : Fin 0 → Fin S8192x2816.rank)
  reducesTo_S8192x2816_S_d0_1 : S8192x2816.ReducesTo [0, 1] S_

variable [Facts]

def fn {F : FTy → Type} [FloatOps F] (main_arg0 : FVec F S8192x5632 .bf16) (main_arg1 : FVec F S8192x2816 .bf16) : IVec S_ 1 × IVec S_ 1 :=
  let main_v0 : FVec F S8192x5632 .bf16 := Host.absf main_arg0
  let main_cst : FVec F S_ .bf16 := constant S_ .bf16 0x7F80#16
  let main_v1 : FVec F S8192x5632 .bf16 := broadcastInDim S8192x5632 ![] bcast_S_S8192x5632 main_cst
  let main_v2 : IVec S8192x5632 1 := cmpf .olt main_v0 main_v1
  let main_c : IVec S_ 1 := constantI S_ 1 1#1
  let main_v3 : IVec S_ 1 := (fun x v => Host.reduce IntOp.andi x v reducesTo_S8192x5632_S_d0_1 h_S_) main_v2 main_c
  let main_v4 : FVec F S8192x2816 .bf16 := Host.absf main_arg1
  let main_cst_0 : FVec F S_ .bf16 := constant S_ .bf16 0x7F80#16
  let main_v5 : FVec F S8192x2816 .bf16 := broadcastInDim S8192x2816 ![] bcast_S_S8192x2816 main_cst_0
  let main_v6 : IVec S8192x2816 1 := cmpf .olt main_v4 main_v5
  let main_c_1 : IVec S_ 1 := constantI S_ 1 1#1
  let main_v7 : IVec S_ 1 := (fun x v => Host.reduce IntOp.andi x v reducesTo_S8192x2816_S_d0_1 h_S_) main_v6 main_c_1
  (main_v3, main_v7)
-- ==== Kernel.lean ====
abbrev S8192x3200 : Shape := ⟨2, ![8192, 3200]⟩
abbrev S4x16x256 : Shape := ⟨3, ![4, 16, 256]⟩
abbrev S4x256 : Shape := ⟨2, ![4, 256]⟩
abbrev S4x128x64x128 : Shape := ⟨4, ![4, 128, 64, 128]⟩
abbrev S8192x512 : Shape := ⟨2, ![8192, 512]⟩
abbrev S_ : Shape := ⟨0, ![]⟩
abbrev S4x128x256 : Shape := ⟨3, ![4, 128, 256]⟩
abbrev S1 : Shape := ⟨1, ![1]⟩
abbrev S4x1x256 : Shape := ⟨3, ![4, 1, 256]⟩
abbrev S128x4x128x64 : Shape := ⟨4, ![128, 4, 128, 64]⟩
abbrev S128x512x64 : Shape := ⟨3, ![128, 512, 64]⟩
abbrev S128x512x256 : Shape := ⟨3, ![128, 512, 256]⟩
abbrev S8192x256 : Shape := ⟨2, ![8192, 256]⟩
abbrev S8192x128 : Shape := ⟨2, ![8192, 128]⟩
abbrev S128x256 : Shape := ⟨2, ![128, 256]⟩
abbrev S1x256 : Shape := ⟨2, ![1, 256]⟩
abbrev S512x256 : Shape := ⟨2, ![512, 256]⟩
abbrev S512x512 : Shape := ⟨2, ![512, 512]⟩
abbrev S512x128 : Shape := ⟨2, ![512, 128]⟩
abbrev S1x128x256 : Shape := ⟨3, ![1, 128, 256]⟩
abbrev S1x1x256 : Shape := ⟨3, ![1, 1, 256]⟩
abbrev S8x512x256 : Shape := ⟨3, ![8, 512, 256]⟩
abbrev S256x256 : Shape := ⟨2, ![256, 256]⟩
abbrev S256x64 : Shape := ⟨2, ![256, 64]⟩
abbrev S64x256 : Shape := ⟨2, ![64, 256]⟩
abbrev S256 : Shape := ⟨1, ![256]⟩
abbrev S8x256 : Shape := ⟨2, ![8, 256]⟩
abbrev S64x512 : Shape := ⟨2, ![64, 512]⟩
abbrev S1x512x256 : Shape := ⟨3, ![1, 512, 256]⟩
abbrev S64x128 : Shape := ⟨2, ![64, 128]⟩
abbrev S64x64 : Shape := ⟨2, ![64, 64]⟩

abbrev nBuf : Space → Nat
  | .hbm => 64
  | .vmem => 25
  | .smem => 0
  | _ => 0

abbrev bufTy : (tb : Table) → Fin (tcTables nBuf tb) → BufTy
  | .hbm, ⟨0, _⟩ => ⟨S8192x3200, .bf16⟩
  | .hbm, ⟨1, _⟩ => ⟨S4x16x256, .f32⟩
  | .hbm, ⟨2, _⟩ => ⟨S4x256, .f32⟩
  | .hbm, ⟨3, _⟩ => ⟨S4x128x64x128, .bf16⟩
  | .hbm, ⟨4, _⟩ => ⟨S8192x512, .bf16⟩
  | .hbm, ⟨5, _⟩ => ⟨S_, .bf16⟩
  | .hbm, ⟨6, _⟩ => ⟨S4x128x256, .bf16⟩
  | .hbm, ⟨7, _⟩ => ⟨S4x16x256, .bf16⟩
  | .hbm, ⟨8, _⟩ => ⟨S_, .i32⟩
  | .hbm, ⟨9, _⟩ => ⟨S1, .i32⟩
  | .hbm, ⟨10, _⟩ => ⟨S4x128x256, .bf16⟩
  | .hbm, ⟨11, _⟩ => ⟨S4x1x256, .f32⟩
  | .hbm, ⟨12, _⟩ => ⟨S128x4x128x64, .bf16⟩
  | .hbm, ⟨13, _⟩ => ⟨S128x512x64, .bf16⟩
  | .hbm, ⟨14, _⟩ => ⟨S128x512x256, .i32⟩
  | .hbm, ⟨15, _⟩ => ⟨S_, .i32⟩
  | .hbm, ⟨16, _⟩ => ⟨S_, .i32⟩
  | .hbm, ⟨17, _⟩ => ⟨S128x512x256, .i32⟩
  | .hbm, ⟨18, _⟩ => ⟨S128x512x256, .i32⟩
  | .hbm, ⟨19, _⟩ => ⟨S128x512x256, .i32⟩
  | .hbm, ⟨20, _⟩ => ⟨S_, .i32⟩
  | .hbm, ⟨21, _⟩ => ⟨S128x512x256, .i32⟩
  | .hbm, ⟨22, _⟩ => ⟨S128x512x256, .i1⟩
  | .hbm, ⟨23, _⟩ => ⟨S128x512x256, .i32⟩
  | .hbm, ⟨24, _⟩ => ⟨S128x512x256, .i32⟩
  | .hbm, ⟨25, _⟩ => ⟨S_, .i32⟩
  | .hbm, ⟨26, _⟩ => ⟨S128x512x256, .i32⟩
  | .hbm, ⟨27, _⟩ => ⟨S128x512x256, .i1⟩
  | .hbm, ⟨28, _⟩ => ⟨S128x512x256, .i1⟩
  | .hbm, ⟨29, _⟩ => ⟨S_, .i32⟩
  | .hbm, ⟨30, _⟩ => ⟨S128x512x256, .i32⟩
  | .hbm, ⟨31, _⟩ => ⟨S128x512x256, .i32⟩
  | .hbm, ⟨32, _⟩ => ⟨S128x512x256, .i32⟩
  | .hbm, ⟨33, _⟩ => ⟨S128x512x256, .i32⟩
  | .hbm, ⟨34, _⟩ => ⟨S_, .i32⟩
  | .hbm, ⟨35, _⟩ => ⟨S_, .i32⟩
  | .hbm, ⟨36, _⟩ => ⟨S128x512x256, .i32⟩
  | .hbm, ⟨37, _⟩ => ⟨S128x512x256, .i32⟩
  | .hbm, ⟨38, _⟩ => ⟨S128x512x256, .i32⟩
  | .hbm, ⟨39, _⟩ => ⟨S_, .i32⟩
  | .hbm, ⟨40, _⟩ => ⟨S128x512x256, .i32⟩
  | .hbm, ⟨41, _⟩ => ⟨S128x512x256, .i1⟩
  | .hbm, ⟨42, _⟩ => ⟨S128x512x256, .i32⟩
  | .hbm, ⟨43, _⟩ => ⟨S128x512x256, .i32⟩
  | .hbm, ⟨44, _⟩ => ⟨S_, .i32⟩
  | .hbm, ⟨45, _⟩ => ⟨S128x512x256, .i32⟩
  | .hbm, ⟨46, _⟩ => ⟨S128x512x256, .i1⟩
  | .hbm, ⟨47, _⟩ => ⟨S128x512x256, .i1⟩
  | .hbm, ⟨48, _⟩ => ⟨S_, .i32⟩
  | .hbm, ⟨49, _⟩ => ⟨S128x512x256, .i32⟩
  | .hbm, ⟨50, _⟩ => ⟨S128x512x256, .i32⟩
  | .hbm, ⟨51, _⟩ => ⟨S128x512x256, .i32⟩
  | .hbm, ⟨52, _⟩ => ⟨S128x512x256, .i1⟩
  | .hbm, ⟨53, _⟩ => ⟨S128x512x256, .bf16⟩
  | .hbm, ⟨54, _⟩ => ⟨S_, .i32⟩
  | .hbm, ⟨55, _⟩ => ⟨S_, .bf16⟩
  | .hbm, ⟨56, _⟩ => ⟨S128x512x256, .bf16⟩
  | .hbm, ⟨57, _⟩ => ⟨S128x512x256, .bf16⟩
  | .hbm, ⟨58, _⟩ => ⟨S8192x256, .bf16⟩
  | .hbm, ⟨59, _⟩ => ⟨S8192x256, .bf16⟩
  | .hbm, ⟨60, _⟩ => ⟨S8192x512, .bf16⟩
  | .hbm, ⟨61, _⟩ => ⟨S8192x128, .bf16⟩
  | .hbm, ⟨62, _⟩ => ⟨S128x256, .f32⟩
  | .hbm, ⟨63, _⟩ => ⟨S1x256, .f32⟩
  | .local _ .vmem, ⟨0, _⟩ => ⟨S512x256, .bf16⟩
  | .local _ .vmem, ⟨1, _⟩ => ⟨S512x256, .bf16⟩
  | .local _ .vmem, ⟨2, _⟩ => ⟨S512x256, .bf16⟩
  | .local _ .vmem, ⟨3, _⟩ => ⟨S512x256, .bf16⟩
  | .local _ .vmem, ⟨4, _⟩ => ⟨S512x512, .bf16⟩
  | .local _ .vmem, ⟨5, _⟩ => ⟨S512x512, .bf16⟩
  | .local _ .vmem, ⟨6, _⟩ => ⟨S512x128, .bf16⟩
  | .local _ .vmem, ⟨7, _⟩ => ⟨S512x128, .bf16⟩
  | .local _ .vmem, ⟨8, _⟩ => ⟨S1x128x256, .bf16⟩
  | .local _ .vmem, ⟨9, _⟩ => ⟨S1x1x256, .f32⟩
  | .local _ .vmem, ⟨10, _⟩ => ⟨S8x512x256, .bf16⟩
  | .local _ .vmem, ⟨11, _⟩ => ⟨S8x512x256, .bf16⟩
  | .local _ .vmem, ⟨12, _⟩ => ⟨S512x512, .bf16⟩
  | .local _ .vmem, ⟨13, _⟩ => ⟨S512x512, .bf16⟩
  | .local _ .vmem, ⟨14, _⟩ => ⟨S512x256, .bf16⟩
  | .local _ .vmem, ⟨15, _⟩ => ⟨S512x256, .bf16⟩
  | .local _ .vmem, ⟨16, _⟩ => ⟨S512x256, .bf16⟩
  | .local _ .vmem, ⟨17, _⟩ => ⟨S512x256, .bf16⟩
  | .local _ .vmem, ⟨18, _⟩ => ⟨S512x512, .bf16⟩
  | .local _ .vmem, ⟨19, _⟩ => ⟨S512x512, .bf16⟩
  | .local _ .vmem, ⟨20, _⟩ => ⟨S512x128, .bf16⟩
  | .local _ .vmem, ⟨21, _⟩ => ⟨S512x128, .bf16⟩
  | .local _ .vmem, ⟨22, _⟩ => ⟨S128x256, .f32⟩
  | .local _ .vmem, ⟨23, _⟩ => ⟨S1x256, .f32⟩
  | .local _ .vmem, ⟨24, _⟩ => ⟨S512x256, .f32⟩
  | _, _ => ⟨S8192x3200, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_0 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_c : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_0 : Ref sig .tc := ⟨.hbm, 29, rfl⟩
abbrev main_call0_v12 : Ref sig .tc := ⟨.hbm, 30, rfl⟩
abbrev main_call0_v13 : Ref sig .tc := ⟨.hbm, 31, rfl⟩
abbrev main_v8 : Ref sig .tc := ⟨.hbm, 32, rfl⟩
abbrev main_v9 : Ref sig .tc := ⟨.hbm, 33, rfl⟩
abbrev main_c_1 : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_call1_v5 : Ref sig .tc := ⟨.hbm, 40, rfl⟩
abbrev main_call1_v6 : Ref sig .tc := ⟨.hbm, 41, rfl⟩
abbrev main_call1_v7 : Ref sig .tc := ⟨.hbm, 42, rfl⟩
abbrev main_call1_v8 : Ref sig .tc := ⟨.hbm, 43, rfl⟩
abbrev main_call1_c : Ref sig .tc := ⟨.hbm, 44, rfl⟩
abbrev main_call1_v9 : Ref sig .tc := ⟨.hbm, 45, rfl⟩
abbrev main_call1_v10 : Ref sig .tc := ⟨.hbm, 46, rfl⟩
abbrev main_call1_v11 : Ref sig .tc := ⟨.hbm, 47, rfl⟩
abbrev main_call1_c_0 : Ref sig .tc := ⟨.hbm, 48, rfl⟩
abbrev main_call1_v12 : Ref sig .tc := ⟨.hbm, 49, rfl⟩
abbrev main_call1_v13 : Ref sig .tc := ⟨.hbm, 50, rfl⟩
abbrev main_v10 : Ref sig .tc := ⟨.hbm, 51, rfl⟩
abbrev main_v11 : Ref sig .tc := ⟨.hbm, 52, rfl⟩
abbrev main_v12 : Ref sig .tc := ⟨.hbm, 53, rfl⟩
abbrev main_c_2 : Ref sig .tc := ⟨.hbm, 54, rfl⟩
abbrev main_call2_v0 : Ref sig .tc := ⟨.hbm, 55, rfl⟩
abbrev main_call2_v1 : Ref sig .tc := ⟨.hbm, 56, rfl⟩
abbrev main_v13 : Ref sig .tc := ⟨.hbm, 57, rfl⟩
abbrev main_v14_0 : Ref sig .tc := ⟨.hbm, 58, rfl⟩
abbrev main_v14_1 : Ref sig .tc := ⟨.hbm, 59, rfl⟩
abbrev main_v14_2 : Ref sig .tc := ⟨.hbm, 60, rfl⟩
abbrev main_v14_3 : Ref sig .tc := ⟨.hbm, 61, rfl⟩
abbrev main_v14_4 : Ref sig .tc := ⟨.hbm, 62, rfl⟩
abbrev main_v14_5 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg13_0 : Ref sig .tc := ⟨.vmem, 23, rfl⟩
abbrev cc0_scratch0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem13_0 : DmaSem sig := 23

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c15_i32 : BitVec 32 := 15#32
  let v0 : BitVec 32 := Scalar.subi c15_i32 arg0
  let c6_i32 : BitVec 32 := 6#32
  let c0_i32 : BitVec 32 := 0#32
  ![v0.toNat, c6_i32.toNat]

def cc0_transform_1 (i : grid0.Coords) : Fin 2 → Nat :=
  let arg0 : BitVec 32 := BitVec.ofNat 32 (i 0).val
  let c15_i32 : BitVec 32 := 15#32
  let v0 : BitVec 32 := Scalar.subi c15_i32 arg0
  let c7_i32 : BitVec 32 := 7#32
  let c0_i32 : BitVec 32 := 0#32
  ![v0.toNat, c7_i32.toNat]

def cc0_transform_2 (i : grid0.Coords) : Fin 2 → Nat :=
  let arg0 : BitVec 32 := BitVec.ofNat 32 (i 0).val
  let c15_i32 : BitVec 32 := 15#32
  let v0 : BitVec 32 := Scalar.subi c15_i32 arg0
  let c4_i32 : BitVec 32 := 4#32
  let c0_i32 : BitVec 32 := 0#32
  ![v0.toNat, c4_i32.toNat]

def cc0_transform_3 (i : grid0.Coords) : Fin 2 → Nat :=
  let arg0 : BitVec 32 := BitVec.ofNat 32 (i 0).val
  let c15_i32 : BitVec 32 := 15#32
  let v0 : BitVec 32 := Scalar.subi c15_i32 arg0
  let c24_i32 : BitVec 32 := 24#32
  let c0_i32 : BitVec 32 := 0#32
  ![v0.toNat, c24_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  ![v0.toNat, c0_i32.toNat, c0_i32_0.toNat]

def cc0_transform_7 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S8x512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S128x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== ReferenceIdeal.lean ====
abbrev S8192x3200 : Shape := ⟨2, ![8192, 3200]⟩
abbrev S4x16x256 : Shape := ⟨3, ![4, 16, 256]⟩
abbrev S4x256 : Shape := ⟨2, ![4, 256]⟩
abbrev S4x128x64x128 : Shape := ⟨4, ![4, 128, 64, 128]⟩
abbrev S8192x512 : Shape := ⟨2, ![8192, 512]⟩
abbrev S1x16x256 : Shape := ⟨3, ![1, 16, 256]⟩
abbrev S16x256 : Shape := ⟨2, ![16, 256]⟩
abbrev S1x256 : Shape := ⟨2, ![1, 256]⟩
abbrev S256 : Shape := ⟨1, ![256]⟩
abbrev S128x4x64x128 : Shape := ⟨4, ![128, 4, 64, 128]⟩
abbrev S1x4x64x128 : Shape := ⟨4, ![1, 4, 64, 128]⟩
abbrev S4x64x128 : Shape := ⟨3, ![4, 64, 128]⟩
abbrev S_ : Shape := ⟨0, ![]⟩
abbrev S128x64x3200 : Shape := ⟨3, ![128, 64, 3200]⟩
abbrev S128x64x512 : Shape := ⟨3, ![128, 64, 512]⟩
abbrev S128x64x1152 : Shape := ⟨3, ![128, 64, 1152]⟩
abbrev S1x64x3200 : Shape := ⟨3, ![1, 64, 3200]⟩
abbrev S64x3200 : Shape := ⟨2, ![64, 3200]⟩
abbrev S1x64x512 : Shape := ⟨3, ![1, 64, 512]⟩
abbrev S64x512 : Shape := ⟨2, ![64, 512]⟩
abbrev S64x256 : Shape := ⟨2, ![64, 256]⟩
abbrev S64x128 : Shape := ⟨2, ![64, 128]⟩
abbrev S64x4x64 : Shape := ⟨3, ![64, 4, 64]⟩
abbrev S4x64x64 : Shape := ⟨3, ![4, 64, 64]⟩
abbrev S64x4x128 : Shape := ⟨3, ![64, 4, 128]⟩
abbrev S64x16 : Shape := ⟨2, ![64, 16]⟩
abbrev S4x1x64 : Shape := ⟨3, ![4, 1, 64]⟩
abbrev S64x64 : Shape := ⟨2, ![64, 64]⟩
abbrev S4x64 : Shape := ⟨2, ![4, 64]⟩
abbrev S4x64x1 : Shape := ⟨3, ![4, 64, 1]⟩
abbrev S4x128x64 : Shape := ⟨3, ![4, 128, 64]⟩
abbrev S256x16 : Shape := ⟨2, ![256, 16]⟩
abbrev S64x1152 : Shape := ⟨2, ![64, 1152]⟩
abbrev S1x64x1152 : Shape := ⟨3, ![1, 64, 1152]⟩
abbrev S8192x1152 : Shape := ⟨2, ![8192, 1152]⟩
abbrev S8192x256 : Shape := ⟨2, ![8192, 256]⟩
abbrev S8192x128 : Shape := ⟨2, ![8192, 128]⟩
abbrev S128x256 : Shape := ⟨2, ![128, 256]⟩

abbrev nBuf : Space → Nat
  | .hbm => 270
  | .vmem => 0
  | .smem => 0
  | _ => 0

abbrev hbmTy0_0 (i : Nat) : BufTy := match i % 128 with
  | 0 => ⟨S8192x3200, .bf16⟩
  | 1 => ⟨S4x16x256, .f32⟩
  | 2 => ⟨S4x256, .f32⟩
  | 3 => ⟨S4x128x64x128, .bf16⟩
  | 4 => ⟨S8192x512, .bf16⟩
  | 5 => ⟨S1x16x256, .f32⟩
  | 6 => ⟨S16x256, .f32⟩
  | 7 => ⟨S1x256, .f32⟩
  | 8 => ⟨S256, .f32⟩
  | 9 => ⟨S4x128x64x128, .f32⟩
  | 10 => ⟨S128x4x64x128, .f32⟩
  | 11 => ⟨S1x4x64x128, .f32⟩
  | 12 => ⟨S4x64x128, .f32⟩
  | 13 => ⟨S_, .f32⟩
  | 14 => ⟨S4x64x128, .f32⟩
  | 15 => ⟨S_, .f32⟩
  | 16 => ⟨S16x256, .f32⟩
  | 17 => ⟨S_, .f32⟩
  | 18 => ⟨S256, .f32⟩
  | 19 => ⟨S8192x3200, .f32⟩
  | 20 => ⟨S128x64x3200, .f32⟩
  | 21 => ⟨S8192x512, .f32⟩
  | 22 => ⟨S128x64x512, .f32⟩
  | 23 => ⟨S_, .f32⟩
  | 24 => ⟨S128x64x1152, .f32⟩
  | 25 => ⟨S_, .i32⟩
  | 26 => ⟨S128x64x3200, .f32⟩
  | 27 => ⟨S128x64x512, .f32⟩
  | 28 => ⟨S128x4x64x128, .f32⟩
  | 29 => ⟨S16x256, .f32⟩
  | 30 => ⟨S256, .f32⟩
  | 31 => ⟨S_, .i32⟩
  | 32 => ⟨S4x64x128, .f32⟩
  | 33 => ⟨S16x256, .f32⟩
  | 34 => ⟨S256, .f32⟩
  | 35 => ⟨S128x64x1152, .f32⟩
  | 36 => ⟨S_, .i32⟩
  | 37 => ⟨S_, .i1⟩
  | 38 => ⟨S_, .i32⟩
  | 39 => ⟨S_, .i32⟩
  | 40 => ⟨S_, .i32⟩
  | 41 => ⟨S_, .i32⟩
  | 42 => ⟨S_, .i32⟩
  | 43 => ⟨S_, .i32⟩
  | 44 => ⟨S1x64x3200, .f32⟩
  | 45 => ⟨S64x3200, .f32⟩
  | 46 => ⟨S_, .i32⟩
  | 47 => ⟨S_, .i32⟩
  | 48 => ⟨S1x64x512, .f32⟩
  | 49 => ⟨S64x512, .f32⟩
  | 50 => ⟨S_, .i32⟩
  | 51 => ⟨S_, .i32⟩
  | 52 => ⟨S_, .i32⟩
  | 53 => ⟨S1x4x64x128, .f32⟩
  | 54 => ⟨S4x64x128, .f32⟩
  | 55 => ⟨S64x256, .f32⟩
  | 56 => ⟨S64x256, .f32⟩
  | 57 => ⟨S64x512, .f32⟩
  | 58 => ⟨S64x128, .f32⟩
  | 59 => ⟨S64x4x64, .f32⟩
  | 60 => ⟨S4x64x64, .f32⟩
  | 61 => ⟨S_, .f32⟩
  | 62 => ⟨S4x64x64, .f32⟩
  | 63 => ⟨S4x64x64, .f32⟩
  | 64 => ⟨S64x4x64, .f32⟩
  | 65 => ⟨S4x64x64, .f32⟩
  | 66 => ⟨S64x4x128, .f32⟩
  | 67 => ⟨S4x64x128, .f32⟩
  | 68 => ⟨S64x16, .f32⟩
  | 69 => ⟨S64x256, .f32⟩
  | 70 => ⟨S1x256, .f32⟩
  | 71 => ⟨S64x256, .f32⟩
  | 72 => ⟨S64x256, .f32⟩
  | 73 => ⟨S64x256, .f32⟩
  | 74 => ⟨S_, .f32⟩
  | 75 => ⟨S64x256, .f32⟩
  | 76 => ⟨S64x256, .f32⟩
  | 77 => ⟨S64x256, .f32⟩
  | 78 => ⟨S64x256, .f32⟩
  | 79 => ⟨S64x256, .i1⟩
  | 80 => ⟨S64x256, .f32⟩
  | 81 => ⟨S64x256, .f32⟩
  | 82 => ⟨S64x256, .f32⟩
  | 83 => ⟨S64x256, .f32⟩
  | 84 => ⟨S64x256, .f32⟩
  | 85 => ⟨S64x256, .f32⟩
  | 86 => ⟨S64x256, .f32⟩
  | 87 => ⟨S64x256, .f32⟩
  | 88 => ⟨S_, .f32⟩
  | 89 => ⟨S64x256, .f32⟩
  | 90 => ⟨S64x256, .i1⟩
  | 91 => ⟨S_, .f32⟩
  | 92 => ⟨S64x256, .f32⟩
  | 93 => ⟨S64x256, .f32⟩
  | 94 => ⟨S_, .f32⟩
  | 95 => ⟨S64x256, .f32⟩
  | 96 => ⟨S64x256, .i1⟩
  | 97 => ⟨S_, .f32⟩
  | 98 => ⟨S64x256, .f32⟩
  | 99 => ⟨S64x256, .f32⟩
  | 100 => ⟨S64x256, .f32⟩
  | 101 => ⟨S64x256, .f32⟩
  | 102 => ⟨S_, .f32⟩
  | 103 => ⟨S_, .f32⟩
  | 104 => ⟨S_, .i1⟩
  | 105 => ⟨S_, .f32⟩
  | 106 => ⟨S_, .f32⟩
  | 107 => ⟨S_, .f32⟩
  | 108 => ⟨S_, .f32⟩
  | 109 => ⟨S64x256, .f32⟩
  | 110 => ⟨S64x256, .i1⟩
  | 111 => ⟨S_, .f32⟩
  | 112 => ⟨S64x256, .f32⟩
  | 113 => ⟨S64x256, .f32⟩
  | 114 => ⟨S64x256, .f32⟩
  | 115 => ⟨S64x256, .f32⟩
  | 116 => ⟨S64x256, .f32⟩
  | 117 => ⟨S_, .f32⟩
  | 118 => ⟨S64x256, .f32⟩
  | 119 => ⟨S64x256, .f32⟩
  | 120 => ⟨S64x256, .f32⟩
  | 121 => ⟨S_, .f32⟩
  | 122 => ⟨S64x256, .f32⟩
  | 123 => ⟨S64x256, .f32⟩
  | 124 => ⟨S64x4x64, .f32⟩
  | 125 => ⟨S4x64x64, .f32⟩
  | 126 => ⟨S_, .f32⟩
  | 127 => ⟨S_, .f32⟩
  | _ => ⟨S8192x3200, .bf16⟩

abbrev hbmTy0_1 (i : Nat) : BufTy := match i % 128 with
  | 0 => ⟨S4x64x64, .f32⟩
  | 1 => ⟨S4x1x64, .f32⟩
  | 2 => ⟨S4x64x64, .f32⟩
  | 3 => ⟨S4x64x64, .f32⟩
  | 4 => ⟨S4x64x64, .f32⟩
  | 5 => ⟨S4x64x64, .f32⟩
  | 6 => ⟨S4x64x64, .f32⟩
  | 7 => ⟨S4x64x64, .f32⟩
  | 8 => ⟨S4x64x64, .f32⟩
  | 9 => ⟨S4x64x64, .f32⟩
  | 10 => ⟨S4x64x64, .f32⟩
  | 11 => ⟨S_, .i1⟩
  | 12 => ⟨S64x64, .i1⟩
  | 13 => ⟨S64x64, .i32⟩
  | 14 => ⟨S_, .i32⟩
  | 15 => ⟨S64x64, .i32⟩
  | 16 => ⟨S64x64, .i32⟩
  | 17 => ⟨S64x64, .i32⟩
  | 18 => ⟨S64x64, .i1⟩
  | 19 => ⟨S_, .i1⟩
  | 20 => ⟨S64x64, .i1⟩
  | 21 => ⟨S64x64, .i1⟩
  | 22 => ⟨S4x64x64, .f32⟩
  | 23 => ⟨S_, .f32⟩
  | 24 => ⟨S_, .f32⟩
  | 25 => ⟨S4x64x64, .i1⟩
  | 26 => ⟨S4x64x64, .f32⟩
  | 27 => ⟨S4x64x64, .f32⟩
  | 28 => ⟨S_, .f32⟩
  | 29 => ⟨S4x64x64, .f32⟩
  | 30 => ⟨S4x64x128, .f32⟩
  | 31 => ⟨S4x64x128, .f32⟩
  | 32 => ⟨S4x64, .f32⟩
  | 33 => ⟨S4x64, .f32⟩
  | 34 => ⟨S4x64x128, .f32⟩
  | 35 => ⟨S4x64x128, .f32⟩
  | 36 => ⟨S64x4x128, .f32⟩
  | 37 => ⟨S64x512, .f32⟩
  | 38 => ⟨S4x64x1, .f32⟩
  | 39 => ⟨S4x64x128, .f32⟩
  | 40 => ⟨S4x64x128, .f32⟩
  | 41 => ⟨S4x64x128, .f32⟩
  | 42 => ⟨S4x64x128, .f32⟩
  | 43 => ⟨S4x64x128, .f32⟩
  | 44 => ⟨S4x64x128, .f32⟩
  | 45 => ⟨S_, .f32⟩
  | 46 => ⟨S4x64, .f32⟩
  | 47 => ⟨S4x64x1, .f32⟩
  | 48 => ⟨S_, .f32⟩
  | 49 => ⟨S4x64, .f32⟩
  | 50 => ⟨S64x4x128, .f32⟩
  | 51 => ⟨S4x64x128, .f32⟩
  | 52 => ⟨S4x128x64, .f32⟩
  | 53 => ⟨S4x64x128, .f32⟩
  | 54 => ⟨S4x64x128, .f32⟩
  | 55 => ⟨S4x64x64, .f32⟩
  | 56 => ⟨S4x64, .f32⟩
  | 57 => ⟨S4x1x64, .f32⟩
  | 58 => ⟨S4x128x64, .f32⟩
  | 59 => ⟨S4x64x128, .f32⟩
  | 60 => ⟨S4x64x64, .f32⟩
  | 61 => ⟨S4x64x64, .f32⟩
  | 62 => ⟨S4x128x64, .f32⟩
  | 63 => ⟨S4x64x128, .f32⟩
  | 64 => ⟨S4x64x128, .f32⟩
  | 65 => ⟨S4x64x64, .f32⟩
  | 66 => ⟨S_, .f32⟩
  | 67 => ⟨S4x64x64, .f32⟩
  | 68 => ⟨S4x64x64, .f32⟩
  | 69 => ⟨S4x64x64, .f32⟩
  | 70 => ⟨S4x64x64, .f32⟩
  | 71 => ⟨S4x64x64, .f32⟩
  | 72 => ⟨S4x64x64, .f32⟩
  | 73 => ⟨S4x64x64, .f32⟩
  | 74 => ⟨S4x64x64, .f32⟩
  | 75 => ⟨S_, .f32⟩
  | 76 => ⟨S4x64, .f32⟩
  | 77 => ⟨S4x1x64, .f32⟩
  | 78 => ⟨S4x64x64, .f32⟩
  | 79 => ⟨S4x1x64, .f32⟩
  | 80 => ⟨S4x64x64, .f32⟩
  | 81 => ⟨S4x64x64, .f32⟩
  | 82 => ⟨S4x64x64, .f32⟩
  | 83 => ⟨S4x64x64, .f32⟩
  | 84 => ⟨S4x64x64, .f32⟩
  | 85 => ⟨S4x64x64, .f32⟩
  | 86 => ⟨S4x64x64, .f32⟩
  | 87 => ⟨S4x64x64, .f32⟩
  | 88 => ⟨S4x64x64, .f32⟩
  | 89 => ⟨S4x64x64, .f32⟩
  | 90 => ⟨S_, .f32⟩
  | 91 => ⟨S4x64x64, .f32⟩
  | 92 => ⟨S4x64x64, .f32⟩
  | 93 => ⟨S_, .f32⟩
  | 94 => ⟨S_, .f32⟩
  | 95 => ⟨S4x64x64, .f32⟩
  | 96 => ⟨S64x4x64, .f32⟩
  | 97 => ⟨S64x256, .f32⟩
  | 98 => ⟨S_, .f32⟩
  | 99 => ⟨S64x256, .f32⟩
  | 100 => ⟨S64x256, .f32⟩
  | 101 => ⟨S64x256, .f32⟩
  | 102 => ⟨S64x256, .f32⟩
  | 103 => ⟨S64x256, .f32⟩
  | 104 => ⟨S_, .f32⟩
  | 105 => ⟨S256, .f32⟩
  | 106 => ⟨S1x256, .f32⟩
  | 107 => ⟨S_, .f32⟩
  | 108 => ⟨S256, .f32⟩
  | 109 => ⟨S256x16, .f32⟩
  | 110 => ⟨S16x256, .f32⟩
  | 111 => ⟨S64x16, .f32⟩
  | 112 => ⟨S_, .f32⟩
  | 113 => ⟨S64x128, .f32⟩
  | 114 => ⟨S64x4x128, .f32⟩
  | 115 => ⟨S64x512, .f32⟩
  | 116 => ⟨S64x4x64, .f32⟩
  | 117 => ⟨S64x256, .f32⟩
  | 118 => ⟨S_, .f32⟩
  | 119 => ⟨S4x64x64, .f32⟩
  | 120 => ⟨S4x64x64, .f32⟩
  | 121 => ⟨S64x4x64, .f32⟩
  | 122 => ⟨S64x256, .f32⟩
  | 123 => ⟨S16x256, .f32⟩
  | 124 => ⟨S256, .f32⟩
  | 125 => ⟨S64x1152, .f32⟩
  | 126 => ⟨S1x64x1152, .f32⟩
  | 127 => ⟨S_, .i32⟩
  | _ => ⟨S8192x3200, .bf16⟩

abbrev hbmTy0_2 (i : Nat) : BufTy := match i % 128 with
  | 0 => ⟨S_, .i32⟩
  | 1 => ⟨S128x64x1152, .f32⟩
  | 2 => ⟨S_, .i32⟩
  | 3 => ⟨S_, .i32⟩
  | 4 => ⟨S8192x1152, .f32⟩
  | 5 => ⟨S8192x1152, .bf16⟩
  | 6 => ⟨S8192x256, .bf16⟩
  | 7 => ⟨S8192x256, .bf16⟩
  | 8 => ⟨S8192x512, .bf16⟩
  | 9 => ⟨S8192x128, .bf16⟩
  | 10 => ⟨S_, .i32⟩
  | 11 => ⟨S_, .f32⟩
  | 12 => ⟨S128x256, .f32⟩
  | 13 => ⟨S1x256, .f32⟩
  | _ => ⟨S8192x3200, .bf16⟩

abbrev hbmTy (i : Nat) : BufTy := match i / 128 with
  | 0 => hbmTy0_0 i
  | 1 => hbmTy0_1 i
  | 2 => hbmTy0_2 i
  | _ => ⟨S8192x3200, .bf16⟩

abbrev bufTy : (tb : Table) → Fin (tcTables nBuf tb) → BufTy
  | .hbm, ⟨i, _⟩ => hbmTy i
  | _, _ => ⟨S8192x3200, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_c : Ref sig .tc := ⟨.hbm, 25, rfl⟩
abbrev main_v16_0 : Ref sig .tc := ⟨.hbm, 26, rfl⟩
abbrev main_v16_1 : Ref sig .tc := ⟨.hbm, 27, rfl⟩
abbrev main_v16_2 : Ref sig .tc := ⟨.hbm, 28, rfl⟩
abbrev main_v16_3 : Ref sig .tc := ⟨.hbm, 29, rfl⟩
abbrev main_v16_4 : Ref sig .tc := ⟨.hbm, 30, rfl⟩
abbrev main_v16_5 : Ref sig .tc := ⟨.hbm, 31, rfl⟩
abbrev main_v16_6 : Ref sig .tc := ⟨.hbm, 32, rfl⟩
abbrev main_v16_7 : Ref sig .tc := ⟨.hbm, 33, rfl⟩
abbrev main_v16_8 : Ref sig .tc := ⟨.hbm, 34, rfl⟩
abbrev main_v16_9 : Ref sig .tc := ⟨.hbm, 35, rfl⟩
abbrev main_while0c_c_13 : Ref sig .tc := ⟨.hbm, 36, rfl⟩
abbrev main_while0c_v25 : Ref sig .tc := ⟨.hbm, 37, rfl⟩
abbrev main_while0b_c_13 : Ref sig .tc := ⟨.hbm, 38, rfl⟩
abbrev main_while0b_v25 : Ref sig .tc := ⟨.hbm, 39, rfl⟩
abbrev main_while0b_c_14 : Ref sig .tc := ⟨.hbm, 40, rfl⟩
abbrev main_while0b_v26 : Ref sig .tc := ⟨.hbm, 41, rfl⟩
abbrev main_while0b_call0_c : Ref sig .tc := ⟨.hbm, 42, rfl⟩
abbrev main_while0b_call0_c_0 : Ref sig .tc := ⟨.hbm, 43, rfl⟩
abbrev main_while0b_call0_v0 : Ref sig .tc := ⟨.hbm, 44, rfl⟩
abbrev main_while0b_v27 : Ref sig .tc := ⟨.hbm, 45, rfl⟩
abbrev main_while0b_call1_c : Ref sig .tc := ⟨.hbm, 46, rfl⟩
abbrev main_while0b_call1_c_0 : Ref sig .tc := ⟨.hbm, 47, rfl⟩
abbrev main_while0b_call1_v0 : Ref sig .tc := ⟨.hbm, 48, rfl⟩
abbrev main_while0b_v28 : Ref sig .tc := ⟨.hbm, 49, rfl⟩
abbrev main_while0b_call2_c : Ref sig .tc := ⟨.hbm, 50, rfl⟩
abbrev main_while0b_call2_c_0 : Ref sig .tc := ⟨.hbm, 51, rfl⟩
abbrev main_while0b_call2_c_1 : Ref sig .tc := ⟨.hbm, 52, rfl⟩
abbrev main_while0b_call2_v0 : Ref sig .tc := ⟨.hbm, 53, rfl⟩
abbrev main_while0b_v29 : Ref sig .tc := ⟨.hbm, 54, rfl⟩
abbrev main_while0b_v30 : Ref sig .tc := ⟨.hbm, 55, rfl⟩
abbrev main_while0b_v31 : Ref sig .tc := ⟨.hbm, 56, rfl⟩
abbrev main_while0b_v32 : Ref sig .tc := ⟨.hbm, 57, rfl⟩
abbrev main_while0b_v33 : Ref sig .tc := ⟨.hbm, 58, rfl⟩
abbrev main_while0b_v34 : Ref sig .tc := ⟨.hbm, 59, rfl⟩
abbrev main_while0b_v35 : Ref sig .tc := ⟨.hbm, 60, rfl⟩
abbrev main_while0b_cst_15 : Ref sig .tc := ⟨.hbm, 61, rfl⟩
abbrev main_while0b_v36 : Ref sig .tc := ⟨.hbm, 62, rfl⟩
abbrev main_while0b_v37 : Ref sig .tc := ⟨.hbm, 63, rfl⟩
abbrev main_while0b_v38 : Ref sig .tc := ⟨.hbm, 64, rfl⟩
abbrev main_while0b_v39 : Ref sig .tc := ⟨.hbm, 65, rfl⟩
abbrev main_while0b_v40 : Ref sig .tc := ⟨.hbm, 66, rfl⟩
abbrev main_while0b_v41 : Ref sig .tc := ⟨.hbm, 67, rfl⟩
abbrev main_while0b_v42 : Ref sig .tc := ⟨.hbm, 68, rfl⟩
abbrev main_while0b_v43 : Ref sig .tc := ⟨.hbm, 69, rfl⟩
abbrev main_while0b_v44 : Ref sig .tc := ⟨.hbm, 70, rfl⟩
abbrev main_while0b_v45 : Ref sig .tc := ⟨.hbm, 71, rfl⟩
abbrev main_while0b_v46 : Ref sig .tc := ⟨.hbm, 72, rfl⟩
abbrev main_while0b_v47 : Ref sig .tc := ⟨.hbm, 73, rfl⟩
abbrev main_while0b_call3_cst : Ref sig .tc := ⟨.hbm, 74, rfl⟩
abbrev main_while0b_call3_v0 : Ref sig .tc := ⟨.hbm, 75, rfl⟩
abbrev main_while0b_call3_v1 : Ref sig .tc := ⟨.hbm, 76, rfl⟩
abbrev main_while0b_call3_v2 : Ref sig .tc := ⟨.hbm, 77, rfl⟩
abbrev main_while0b_call3_v3 : Ref sig .tc := ⟨.hbm, 78, rfl⟩
abbrev main_while0b_call3_v4 : Ref sig .tc := ⟨.hbm, 79, rfl⟩
abbrev main_while0b_call3_v5 : Ref sig .tc := ⟨.hbm, 80, rfl⟩
abbrev main_while0b_call3_v6 : Ref sig .tc := ⟨.hbm, 81, rfl⟩
abbrev main_while0b_call3_v7 : Ref sig .tc := ⟨.hbm, 82, rfl⟩
abbrev main_while0b_call3_v8 : Ref sig .tc := ⟨.hbm, 83, rfl⟩
abbrev main_while0b_call3_v9 : Ref sig .tc := ⟨.hbm, 84, rfl⟩
abbrev main_while0b_call3_v10 : Ref sig .tc := ⟨.hbm, 85, rfl⟩
abbrev main_while0b_call3_v11 : Ref sig .tc := ⟨.hbm, 86, rfl⟩
abbrev main_while0b_v48_0 : Ref sig .tc := ⟨.hbm, 87, rfl⟩
abbrev main_while0b_call3_cst_0 : Ref sig .tc := ⟨.hbm, 88, rfl⟩
abbrev main_while0b_call3_v13 : Ref sig .tc := ⟨.hbm, 89, rfl⟩
abbrev main_while0b_call3_v14 : Ref sig .tc := ⟨.hbm, 90, rfl⟩
abbrev main_while0b_call3_cst_1 : Ref sig .tc := ⟨.hbm, 91, rfl⟩
abbrev main_while0b_call3_v15 : Ref sig .tc := ⟨.hbm, 92, rfl⟩
abbrev main_while0b_call3_v16 : Ref sig .tc := ⟨.hbm, 93, rfl⟩
abbrev main_while0b_call3_cst_2 : Ref sig .tc := ⟨.hbm, 94, rfl⟩
abbrev main_while0b_call3_v17 : Ref sig .tc := ⟨.hbm, 95, rfl⟩
abbrev main_while0b_call3_v18 : Ref sig .tc := ⟨.hbm, 96, rfl⟩
abbrev main_while0b_call3_cst_3 : Ref sig .tc := ⟨.hbm, 97, rfl⟩
abbrev main_while0b_call3_v19 : Ref sig .tc := ⟨.hbm, 98, rfl⟩
abbrev main_while0b_call3_v20 : Ref sig .tc := ⟨.hbm, 99, rfl⟩
abbrev main_while0b_call3_v21 : Ref sig .tc := ⟨.hbm, 100, rfl⟩
abbrev main_while0b_v48_1 : Ref sig .tc := ⟨.hbm, 101, rfl⟩
abbrev main_while0b_call3_cst_4 : Ref sig .tc := ⟨.hbm, 102, rfl⟩
abbrev main_while0b_call3_cst_5 : Ref sig .tc := ⟨.hbm, 103, rfl⟩
abbrev main_while0b_call3_v23 : Ref sig .tc := ⟨.hbm, 104, rfl⟩
abbrev main_while0b_call3_cst_6 : Ref sig .tc := ⟨.hbm, 105, rfl⟩
abbrev main_while0b_call3_cst_7 : Ref sig .tc := ⟨.hbm, 106, rfl⟩
abbrev main_while0b_call3_v24 : Ref sig .tc := ⟨.hbm, 107, rfl⟩
abbrev main_while0b_call3_cst_8 : Ref sig .tc := ⟨.hbm, 108, rfl⟩
abbrev main_while0b_call3_v25 : Ref sig .tc := ⟨.hbm, 109, rfl⟩
abbrev main_while0b_call3_v26 : Ref sig .tc := ⟨.hbm, 110, rfl⟩
abbrev main_while0b_call3_cst_9 : Ref sig .tc := ⟨.hbm, 111, rfl⟩
abbrev main_while0b_call3_v27 : Ref sig .tc := ⟨.hbm, 112, rfl⟩
abbrev main_while0b_call3_v28 : Ref sig .tc := ⟨.hbm, 113, rfl⟩
abbrev main_while0b_call3_v29 : Ref sig .tc := ⟨.hbm, 114, rfl⟩
abbrev main_while0b_call3_v30 : Ref sig .tc := ⟨.hbm, 115, rfl⟩
abbrev main_while0b_call3_v31 : Ref sig .tc := ⟨.hbm, 116, rfl⟩
abbrev main_while0b_call3_cst_10 : Ref sig .tc := ⟨.hbm, 117, rfl⟩
abbrev main_while0b_call3_v32 : Ref sig .tc := ⟨.hbm, 118, rfl⟩
abbrev main_while0b_v48_2 : Ref sig .tc := ⟨.hbm, 119, rfl⟩
abbrev main_while0b_v49 : Ref sig .tc := ⟨.hbm, 120, rfl⟩
abbrev main_while0b_cst_16 : Ref sig .tc := ⟨.hbm, 121, rfl⟩
abbrev main_while0b_v50 : Ref sig .tc := ⟨.hbm, 122, rfl⟩
abbrev main_while0b_v51 : Ref sig .tc := ⟨.hbm, 123, rfl⟩
abbrev main_while0b_v52 : Ref sig .tc := ⟨.hbm, 124, rfl⟩
abbrev main_while0b_v53 : Ref sig .tc := ⟨.hbm, 125, rfl⟩
abbrev main_while0b_call4_call0_cst : Ref sig .tc := ⟨.hbm, 126, rfl⟩
abbrev main_while0b_call4_call0_v0 : Ref sig .tc := ⟨.hbm, 127, rfl⟩
abbrev main_while0b_v54 : Ref sig .tc := ⟨.hbm, 128, rfl⟩
abbrev main_while0b_v55 : Ref sig .tc := ⟨.hbm, 129, rfl⟩
abbrev main_while0b_v56 : Ref sig .tc := ⟨.hbm, 130, rfl⟩
abbrev main_while0b_v57 : Ref sig .tc := ⟨.hbm, 131, rfl⟩
abbrev main_while0b_v58 : Ref sig .tc := ⟨.hbm, 132, rfl⟩
abbrev main_while0b_v59 : Ref sig .tc := ⟨.hbm, 133, rfl⟩
abbrev main_while0b_v60 : Ref sig .tc := ⟨.hbm, 134, rfl⟩
abbrev main_while0b_v61 : Ref sig .tc := ⟨.hbm, 135, rfl⟩
abbrev main_while0b_v62 : Ref sig .tc := ⟨.hbm, 136, rfl⟩
abbrev main_while0b_v63 : Ref sig .tc := ⟨.hbm, 137, rfl⟩
abbrev main_while0b_v64 : Ref sig .tc := ⟨.hbm, 138, rfl⟩
abbrev main_while0b_c_17 : Ref sig .tc := ⟨.hbm, 139, rfl⟩
abbrev main_while0b_v65 : Ref sig .tc := ⟨.hbm, 140, rfl⟩
abbrev main_while0b_call5_v0 : Ref sig .tc := ⟨.hbm, 141, rfl⟩
abbrev main_while0b_call5_c : Ref sig .tc := ⟨.hbm, 142, rfl⟩
abbrev main_while0b_call5_v1 : Ref sig .tc := ⟨.hbm, 143, rfl⟩
abbrev main_while0b_call5_v2 : Ref sig .tc := ⟨.hbm, 144, rfl⟩
abbrev main_while0b_call5_v3 : Ref sig .tc := ⟨.hbm, 145, rfl⟩
abbrev main_while0b_call5_v4 : Ref sig .tc := ⟨.hbm, 146, rfl⟩
abbrev main_while0b_call5_c_0 : Ref sig .tc := ⟨.hbm, 147, rfl⟩
abbrev main_while0b_call5_v5 : Ref sig .tc := ⟨.hbm, 148, rfl⟩
abbrev main_while0b_v66 : Ref sig .tc := ⟨.hbm, 149, rfl⟩
abbrev main_while0b_v67 : Ref sig .tc := ⟨.hbm, 150, rfl⟩
abbrev main_while0b_cst_18 : Ref sig .tc := ⟨.hbm, 151, rfl⟩
abbrev main_while0b_call6_v0 : Ref sig .tc := ⟨.hbm, 152, rfl⟩
abbrev main_while0b_v68_1 : Ref sig .tc := ⟨.hbm, 153, rfl⟩
abbrev main_while0b_call6_v2 : Ref sig .tc := ⟨.hbm, 154, rfl⟩
abbrev main_while0b_v68_0 : Ref sig .tc := ⟨.hbm, 155, rfl⟩
abbrev main_while0b_call6_cst : Ref sig .tc := ⟨.hbm, 156, rfl⟩
abbrev main_while0b_v68_2 : Ref sig .tc := ⟨.hbm, 157, rfl⟩
abbrev main_while0b_v69 : Ref sig .tc := ⟨.hbm, 158, rfl⟩
abbrev main_while0b_v70 : Ref sig .tc := ⟨.hbm, 159, rfl⟩
abbrev main_while0b_v71 : Ref sig .tc := ⟨.hbm, 160, rfl⟩
abbrev main_while0b_v72 : Ref sig .tc := ⟨.hbm, 161, rfl⟩
abbrev main_while0b_v73 : Ref sig .tc := ⟨.hbm, 162, rfl⟩
abbrev main_while0b_v74 : Ref sig .tc := ⟨.hbm, 163, rfl⟩
abbrev main_while0b_v75 : Ref sig .tc := ⟨.hbm, 164, rfl⟩
abbrev main_while0b_v76 : Ref sig .tc := ⟨.hbm, 165, rfl⟩
abbrev main_while0b_v77 : Ref sig .tc := ⟨.hbm, 166, rfl⟩
abbrev main_while0b_v78 : Ref sig .tc := ⟨.hbm, 167, rfl⟩
abbrev main_while0b_v79 : Ref sig .tc := ⟨.hbm, 168, rfl⟩
abbrev main_while0b_v80 : Ref sig .tc := ⟨.hbm, 169, rfl⟩
abbrev main_while0b_v81 : Ref sig .tc := ⟨.hbm, 170, rfl⟩
abbrev main_while0b_v82 : Ref sig .tc := ⟨.hbm, 171, rfl⟩
abbrev main_while0b_v83 : Ref sig .tc := ⟨.hbm, 172, rfl⟩
abbrev main_while0b_cst_19 : Ref sig .tc := ⟨.hbm, 173, rfl⟩
abbrev main_while0b_v84 : Ref sig .tc := ⟨.hbm, 174, rfl⟩
abbrev main_while0b_v85 : Ref sig .tc := ⟨.hbm, 175, rfl⟩
abbrev main_while0b_cst_20 : Ref sig .tc := ⟨.hbm, 176, rfl⟩
abbrev main_while0b_v86 : Ref sig .tc := ⟨.hbm, 177, rfl⟩
abbrev main_while0b_v87 : Ref sig .tc := ⟨.hbm, 178, rfl⟩
abbrev main_while0b_v88 : Ref sig .tc := ⟨.hbm, 179, rfl⟩
abbrev main_while0b_v89 : Ref sig .tc := ⟨.hbm, 180, rfl⟩
abbrev main_while0b_v90 : Ref sig .tc := ⟨.hbm, 181, rfl⟩
abbrev main_while0b_v91 : Ref sig .tc := ⟨.hbm, 182, rfl⟩
abbrev main_while0b_v92 : Ref sig .tc := ⟨.hbm, 183, rfl⟩
abbrev main_while0b_v93 : Ref sig .tc := ⟨.hbm, 184, rfl⟩
abbrev main_while0b_v94 : Ref sig .tc := ⟨.hbm, 185, rfl⟩
abbrev main_while0b_v95 : Ref sig .tc := ⟨.hbm, 186, rfl⟩
abbrev main_while0b_v96 : Ref sig .tc := ⟨.hbm, 187, rfl⟩
abbrev main_while0b_v97 : Ref sig .tc := ⟨.hbm, 188, rfl⟩
abbrev main_while0b_v98 : Ref sig .tc := ⟨.hbm, 189, rfl⟩
abbrev main_while0b_v99 : Ref sig .tc := ⟨.hbm, 190, rfl⟩
abbrev main_while0b_v100 : Ref sig .tc := ⟨.hbm, 191, rfl⟩
abbrev main_while0b_v101 : Ref sig .tc := ⟨.hbm, 192, rfl⟩
abbrev main_while0b_v102 : Ref sig .tc := ⟨.hbm, 193, rfl⟩
abbrev main_while0b_call7_cst : Ref sig .tc := ⟨.hbm, 194, rfl⟩
abbrev main_while0b_call7_v0 : Ref sig .tc := ⟨.hbm, 195, rfl⟩
abbrev main_while0b_v103 : Ref sig .tc := ⟨.hbm, 196, rfl⟩
abbrev main_while0b_v104 : Ref sig .tc := ⟨.hbm, 197, rfl⟩
abbrev main_while0b_v105 : Ref sig .tc := ⟨.hbm, 198, rfl⟩
abbrev main_while0b_v106 : Ref sig .tc := ⟨.hbm, 199, rfl⟩
abbrev main_while0b_v107 : Ref sig .tc := ⟨.hbm, 200, rfl⟩
abbrev main_while0b_v108 : Ref sig .tc := ⟨.hbm, 201, rfl⟩
abbrev main_while0b_v109 : Ref sig .tc := ⟨.hbm, 202, rfl⟩
abbrev main_while0b_cst_21 : Ref sig .tc := ⟨.hbm, 203, rfl⟩
abbrev main_while0b_v110 : Ref sig .tc := ⟨.hbm, 204, rfl⟩
abbrev main_while0b_v111 : Ref sig .tc := ⟨.hbm, 205, rfl⟩
abbrev main_while0b_v112 : Ref sig .tc := ⟨.hbm, 206, rfl⟩
abbrev main_while0b_v113 : Ref sig .tc := ⟨.hbm, 207, rfl⟩
abbrev main_while0b_v114 : Ref sig .tc := ⟨.hbm, 208, rfl⟩
abbrev main_while0b_v115 : Ref sig .tc := ⟨.hbm, 209, rfl⟩
abbrev main_while0b_v116 : Ref sig .tc := ⟨.hbm, 210, rfl⟩
abbrev main_while0b_v117 : Ref sig .tc := ⟨.hbm, 211, rfl⟩
abbrev main_while0b_v118 : Ref sig .tc := ⟨.hbm, 212, rfl⟩
abbrev main_while0b_v119 : Ref sig .tc := ⟨.hbm, 213, rfl⟩
abbrev main_while0b_v120 : Ref sig .tc := ⟨.hbm, 214, rfl⟩
abbrev main_while0b_v121 : Ref sig .tc := ⟨.hbm, 215, rfl⟩
abbrev main_while0b_v122 : Ref sig .tc := ⟨.hbm, 216, rfl⟩
abbrev main_while0b_v123 : Ref sig .tc := ⟨.hbm, 217, rfl⟩
abbrev main_while0b_cst_22 : Ref sig .tc := ⟨.hbm, 218, rfl⟩
abbrev main_while0b_v124 : Ref sig .tc := ⟨.hbm, 219, rfl⟩
abbrev main_while0b_v125 : Ref sig .tc := ⟨.hbm, 220, rfl⟩
abbrev main_while0b_call8_call0_cst : Ref sig .tc := ⟨.hbm, 221, rfl⟩
abbrev main_while0b_call8_call0_v0 : Ref sig .tc := ⟨.hbm, 222, rfl⟩
abbrev main_while0b_v126 : Ref sig .tc := ⟨.hbm, 223, rfl⟩
abbrev main_while0b_v127 : Ref sig .tc := ⟨.hbm, 224, rfl⟩
abbrev main_while0b_v128 : Ref sig .tc := ⟨.hbm, 225, rfl⟩
abbrev main_while0b_cst_23 : Ref sig .tc := ⟨.hbm, 226, rfl⟩
abbrev main_while0b_v129 : Ref sig .tc := ⟨.hbm, 227, rfl⟩
abbrev main_while0b_v130 : Ref sig .tc := ⟨.hbm, 228, rfl⟩
abbrev main_while0b_v131 : Ref sig .tc := ⟨.hbm, 229, rfl⟩
abbrev main_while0b_v132 : Ref sig .tc := ⟨.hbm, 230, rfl⟩
abbrev main_while0b_v133 : Ref sig .tc := ⟨.hbm, 231, rfl⟩
abbrev main_while0b_cst_24 : Ref sig .tc := ⟨.hbm, 232, rfl⟩
abbrev main_while0b_v134 : Ref sig .tc := ⟨.hbm, 233, rfl⟩
abbrev main_while0b_v135 : Ref sig .tc := ⟨.hbm, 234, rfl⟩
abbrev main_while0b_cst_25 : Ref sig .tc := ⟨.hbm, 235, rfl⟩
abbrev main_while0b_v136 : Ref sig .tc := ⟨.hbm, 236, rfl⟩
abbrev main_while0b_v137 : Ref sig .tc := ⟨.hbm, 237, rfl⟩
abbrev main_while0b_v138 : Ref sig .tc := ⟨.hbm, 238, rfl⟩
abbrev main_while0b_v139 : Ref sig .tc := ⟨.hbm, 239, rfl⟩
abbrev main_while0b_cst_26 : Ref sig .tc := ⟨.hbm, 240, rfl⟩
abbrev main_while0b_v140 : Ref sig .tc := ⟨.hbm, 241, rfl⟩
abbrev main_while0b_v141 : Ref sig .tc := ⟨.hbm, 242, rfl⟩
abbrev main_while0b_v142 : Ref sig .tc := ⟨.hbm, 243, rfl⟩
abbrev main_while0b_v143 : Ref sig .tc := ⟨.hbm, 244, rfl⟩
abbrev main_while0b_v144 : Ref sig .tc := ⟨.hbm, 245, rfl⟩
abbrev main_while0b_cst_27 : Ref sig .tc := ⟨.hbm, 246, rfl⟩
abbrev main_while0b_v145 : Ref sig .tc := ⟨.hbm, 247, rfl⟩
abbrev main_while0b_v146 : Ref sig .tc := ⟨.hbm, 248, rfl⟩
abbrev main_while0b_v147 : Ref sig .tc := ⟨.hbm, 249, rfl⟩
abbrev main_while0b_v148 : Ref sig .tc := ⟨.hbm, 250, rfl⟩
abbrev main_while0b_v149 : Ref sig .tc := ⟨.hbm, 251, rfl⟩
abbrev main_while0b_v150 : Ref sig .tc := ⟨.hbm, 252, rfl⟩
abbrev main_while0b_v151 : Ref sig .tc := ⟨.hbm, 253, rfl⟩
abbrev main_while0b_call10_v0 : Ref sig .tc := ⟨.hbm, 254, rfl⟩
abbrev main_while0b_call10_c : Ref sig .tc := ⟨.hbm, 255, rfl⟩
abbrev main_while0b_call10_c_0 : Ref sig .tc := ⟨.hbm, 256, rfl⟩
abbrev main_while0b_v152 : Ref sig .tc := ⟨.hbm, 257, rfl⟩
abbrev main_while0b_c_28 : Ref sig .tc := ⟨.hbm, 258, rfl⟩
abbrev main_while0b_v153 : Ref sig .tc := ⟨.hbm, 259, rfl⟩
abbrev main_v17 : Ref sig .tc := ⟨.hbm, 260, rfl⟩
abbrev main_v18 : Ref sig .tc := ⟨.hbm, 261, rfl⟩
abbrev main_v19 : Ref sig .tc := ⟨.hbm, 262, rfl⟩
abbrev main_v20 : Ref sig .tc := ⟨.hbm, 263, rfl⟩
abbrev main_v21 : Ref sig .tc := ⟨.hbm, 264, rfl⟩
abbrev main_v22 : Ref sig .tc := ⟨.hbm, 265, rfl⟩
abbrev main_c_3 : Ref sig .tc := ⟨.hbm, 266, rfl⟩
abbrev main_call11_v0 : Ref sig .tc := ⟨.hbm, 267, rfl⟩
abbrev main_v23 : Ref sig .tc := ⟨.hbm, 268, rfl⟩
abbrev main_v24 : Ref sig .tc := ⟨.hbm, 269, rfl⟩

abbrev nD : Nat := 1
abbrev τ : Topo := Topo.v7x

variable {F : FTy → Type} [FloatOps F]

abbrev main_while0_count : Scf.Loop 32 := ⟨0#32, 128#32, 1#32⟩
-- ==== Kernel2.lean ====
abbrev S1024x5632 : Shape := ⟨2, ![1024, 5632]⟩
abbrev S8192x5632 : Shape := ⟨2, ![8192, 5632]⟩
abbrev S5632x1024 : Shape := ⟨2, ![5632, 1024]⟩
abbrev S1x8x704x1024 : Shape := ⟨4, ![1, 8, 704, 1024]⟩
abbrev S8192x8x704 : Shape := ⟨3, ![8192, 8, 704]⟩
abbrev S8x8192x704 : Shape := ⟨3, ![8, 8192, 704]⟩
abbrev S8192x1024 : Shape := ⟨2, ![8192, 1024]⟩
abbrev S4x1024x704 : Shape := ⟨3, ![4, 1024, 704]⟩
abbrev S1x4x704x1024 : Shape := ⟨4, ![1, 4, 704, 1024]⟩
abbrev S1024x1024 : Shape := ⟨2, ![1024, 1024]⟩
abbrev S1x1024x704 : Shape := ⟨3, ![1, 1024, 704]⟩
abbrev S1024x704 : Shape := ⟨2, ![1024, 704]⟩
abbrev S1x1x704x1024 : Shape := ⟨4, ![1, 1, 704, 1024]⟩
abbrev S704x1024 : Shape := ⟨2, ![704, 1024]⟩

abbrev nBuf : Space → Nat
  | .hbm => 8
  | .vmem => 7
  | .smem => 0
  | _ => 0

abbrev bufTy : (tb : Table) → Fin (tcTables nBuf tb) → BufTy
  | .hbm, ⟨0, _⟩ => ⟨S1024x5632, .f32⟩
  | .hbm, ⟨1, _⟩ => ⟨S8192x5632, .bf16⟩
  | .hbm, ⟨2, _⟩ => ⟨S1024x5632, .bf16⟩
  | .hbm, ⟨3, _⟩ => ⟨S5632x1024, .bf16⟩
  | .hbm, ⟨4, _⟩ => ⟨S1x8x704x1024, .bf16⟩
  | .hbm, ⟨5, _⟩ => ⟨S8192x8x704, .bf16⟩
  | .hbm, ⟨6, _⟩ => ⟨S8x8192x704, .bf16⟩
  | .hbm, ⟨7, _⟩ => ⟨S8192x1024, .bf16⟩
  | .local _ .vmem, ⟨0, _⟩ => ⟨S4x1024x704, .bf16⟩
  | .local _ .vmem, ⟨1, _⟩ => ⟨S4x1024x704, .bf16⟩
  | .local _ .vmem, ⟨2, _⟩ => ⟨S1x4x704x1024, .bf16⟩
  | .local _ .vmem, ⟨3, _⟩ => ⟨S1x4x704x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S1024x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 2], ![false, false, false]⟩

def k0_cond3 (i : grid0.Coords) : BitVec 1 :=
  let arg2 : BitVec 32 := BitVec.ofNat 32 (i 2).val
  let c1_i32 : BitVec 32 := 1#32
  let v29 : BitVec 1 := Scalar.cmpi .eq arg2 c1_i32
  let v30 : BitVec 32 := Scalar.extui v29
  let c0_i32_30 : BitVec 32 := 0#32
  let v31 : BitVec 1 := Scalar.cmpi .ne v30 c0_i32_30
  v31

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, arg2.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S4x1024x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x4x704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== Reference2Ideal.lean ====
abbrev S1024x5632 : Shape := ⟨2, ![1024, 5632]⟩
abbrev S8192x5632 : Shape := ⟨2, ![8192, 5632]⟩
abbrev S_ : Shape := ⟨0, ![]⟩
abbrev S8192x1024 : Shape := ⟨2, ![8192, 1024]⟩

abbrev nBuf : Space → Nat
  | .hbm => 8
  | .vmem => 0
  | .smem => 0
  | _ => 0

abbrev bufTy : (tb : Table) → Fin (tcTables nBuf tb) → BufTy
  | .hbm, ⟨0, _⟩ => ⟨S1024x5632, .f32⟩
  | .hbm, ⟨1, _⟩ => ⟨S8192x5632, .bf16⟩
  | .hbm, ⟨2, _⟩ => ⟨S_, .f32⟩
  | .hbm, ⟨3, _⟩ => ⟨S8192x1024, .f32⟩
  | .hbm, ⟨4, _⟩ => ⟨S8192x5632, .f32⟩
  | .hbm, ⟨5, _⟩ => ⟨S8192x5632, .f32⟩
  | .hbm, ⟨6, _⟩ => ⟨S8192x1024, .f32⟩
  | .hbm, ⟨7, _⟩ => ⟨S8192x1024, .bf16⟩
  | _, _ => ⟨S1024x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel3.lean ====
abbrev S8192x1024 : Shape := ⟨2, ![8192, 1024]⟩
abbrev S8192x5632 : Shape := ⟨2, ![8192, 5632]⟩
abbrev S8192x8x704 : Shape := ⟨3, ![8192, 8, 704]⟩
abbrev S8x8192x704 : Shape := ⟨3, ![8, 8192, 704]⟩
abbrev S8x704x1024 : Shape := ⟨3, ![8, 704, 1024]⟩
abbrev S1x4096x704 : Shape := ⟨3, ![1, 4096, 704]⟩
abbrev S4096x1024 : Shape := ⟨2, ![4096, 1024]⟩
abbrev S1x704x1024 : Shape := ⟨3, ![1, 704, 1024]⟩
abbrev S704x1024 : Shape := ⟨2, ![704, 1024]⟩
abbrev S4096x704 : Shape := ⟨2, ![4096, 704]⟩

abbrev nBuf : Space → Nat
  | .hbm => 5
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x5632, .bf16⟩
  | .hbm, ⟨2, _⟩ => ⟨S8192x8x704, .bf16⟩
  | .hbm, ⟨3, _⟩ => ⟨S8x8192x704, .bf16⟩
  | .hbm, ⟨4, _⟩ => ⟨S8x704x1024, .f32⟩
  | .local _ .vmem, ⟨0, _⟩ => ⟨S1x4096x704, .bf16⟩
  | .local _ .vmem, ⟨1, _⟩ => ⟨S1x4096x704, .bf16⟩
  | .local _ .vmem, ⟨2, _⟩ => ⟨S4096x1024, .bf16⟩
  | .local _ .vmem, ⟨3, _⟩ => ⟨S4096x1024, .bf16⟩
  | .local _ .vmem, ⟨4, _⟩ => ⟨S1x704x1024, .f32⟩
  | .local _ .vmem, ⟨5, _⟩ => ⟨S1x704x1024, .f32⟩
  | .local _ .vmem, ⟨6, _⟩ => ⟨S704x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 2], ![false, false, false]⟩

def k0_cond3 (i : grid0.Coords) : BitVec 1 :=
  let arg2 : BitVec 32 := BitVec.ofNat 32 (i 2).val
  let c1_i32 : BitVec 32 := 1#32
  let v10 : BitVec 1 := Scalar.cmpi .eq arg2 c1_i32
  let v11 : BitVec 32 := Scalar.extui v10
  let c0_i32_7 : BitVec 32 := 0#32
  let v12 : BitVec 1 := Scalar.cmpi .ne v11 c0_i32_7
  v12

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1x704x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== Reference3Ideal.lean ====
abbrev S8192x1024 : Shape := ⟨2, ![8192, 1024]⟩
abbrev S8192x5632 : Shape := ⟨2, ![8192, 5632]⟩
abbrev S_ : Shape := ⟨0, ![]⟩
abbrev S1024x5632 : Shape := ⟨2, ![1024, 5632]⟩
abbrev S5632x1024 : Shape := ⟨2, ![5632, 1024]⟩
abbrev S8x704x1024 : Shape := ⟨3, ![8, 704, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x5632, .bf16⟩
  | .hbm, ⟨2, _⟩ => ⟨S_, .f32⟩
  | .hbm, ⟨3, _⟩ => ⟨S1024x5632, .f32⟩
  | .hbm, ⟨4, _⟩ => ⟨S8192x1024, .f32⟩
  | .hbm, ⟨5, _⟩ => ⟨S8192x5632, .f32⟩
  | .hbm, ⟨6, _⟩ => ⟨S8192x5632, .f32⟩
  | .hbm, ⟨7, _⟩ => ⟨S5632x1024, .f32⟩
  | .hbm, ⟨8, _⟩ => ⟨S1024x5632, .f32⟩
  | .hbm, ⟨9, _⟩ => ⟨S5632x1024, .f32⟩
  | .hbm, ⟨10, _⟩ => ⟨S8x704x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel4.lean ====
abbrev S2816x1024 : Shape := ⟨2, ![2816, 1024]⟩
abbrev S8192x1024 : Shape := ⟨2, ![8192, 1024]⟩
abbrev S1x4x704x1024 : Shape := ⟨4, ![1, 4, 704, 1024]⟩
abbrev S4x8192x704 : Shape := ⟨3, ![4, 8192, 704]⟩
abbrev S2048x1024 : Shape := ⟨2, ![2048, 1024]⟩
abbrev S1x1x704x1024 : Shape := ⟨4, ![1, 1, 704, 1024]⟩
abbrev S1x2048x704 : Shape := ⟨3, ![1, 2048, 704]⟩
abbrev S704x1024 : Shape := ⟨2, ![704, 1024]⟩
abbrev S2048x704 : Shape := ⟨2, ![2048, 704]⟩

abbrev nBuf : Space → Nat
  | .hbm => 5
  | .vmem => 6
  | .smem => 0
  | _ => 0

abbrev bufTy : (tb : Table) → Fin (tcTables nBuf tb) → BufTy
  | .hbm, ⟨0, _⟩ => ⟨S2816x1024, .f32⟩
  | .hbm, ⟨1, _⟩ => ⟨S8192x1024, .bf16⟩
  | .hbm, ⟨2, _⟩ => ⟨S2816x1024, .bf16⟩
  | .hbm, ⟨3, _⟩ => ⟨S1x4x704x1024, .bf16⟩
  | .hbm, ⟨4, _⟩ => ⟨S4x8192x704, .bf16⟩
  | .local _ .vmem, ⟨0, _⟩ => ⟨S2048x1024, .bf16⟩
  | .local _ .vmem, ⟨1, _⟩ => ⟨S2048x1024, .bf16⟩
  | .local _ .vmem, ⟨2, _⟩ => ⟨S1x1x704x1024, .bf16⟩
  | .local _ .vmem, ⟨3, _⟩ => ⟨S1x1x704x1024, .bf16⟩
  | .local _ .vmem, ⟨4, _⟩ => ⟨S1x2048x704, .bf16⟩
  | .local _ .vmem, ⟨5, _⟩ => ⟨S1x2048x704, .bf16⟩
  | _, _ => ⟨S2816x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1x1x704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1x2048x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S2816x1024 : Shape := ⟨2, ![2816, 1024]⟩
abbrev S8192x1024 : Shape := ⟨2, ![8192, 1024]⟩
abbrev S_ : Shape := ⟨0, ![]⟩
abbrev S8192x2816 : Shape := ⟨2, ![8192, 2816]⟩
abbrev S8192x4x704 : Shape := ⟨3, ![8192, 4, 704]⟩
abbrev S4x8192x704 : Shape := ⟨3, ![4, 8192, 704]⟩

abbrev nBuf : Space → Nat
  | .hbm => 10
  | .vmem => 0
  | .smem => 0
  | _ => 0

abbrev bufTy : (tb : Table) → Fin (tcTables nBuf tb) → BufTy
  | .hbm, ⟨0, _⟩ => ⟨S2816x1024, .f32⟩
  | .hbm, ⟨1, _⟩ => ⟨S8192x1024, .bf16⟩
  | .hbm, ⟨2, _⟩ => ⟨S_, .f32⟩
  | .hbm, ⟨3, _⟩ => ⟨S8192x2816, .f32⟩
  | .hbm, ⟨4, _⟩ => ⟨S8192x1024, .f32⟩
  | .hbm, ⟨5, _⟩ => ⟨S8192x1024, .f32⟩
  | .hbm, ⟨6, _⟩ => ⟨S8192x2816, .f32⟩
  | .hbm, ⟨7, _⟩ => ⟨S8192x2816, .bf16⟩
  | .hbm, ⟨8, _⟩ => ⟨S8192x4x704, .bf16⟩
  | .hbm, ⟨9, _⟩ => ⟨S4x8192x704, .bf16⟩
  | _, _ => ⟨S2816x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel5.lean ====
abbrev S8192x2816 : Shape := ⟨2, ![8192, 2816]⟩
abbrev S8192x1024 : Shape := ⟨2, ![8192, 1024]⟩
abbrev S8192x4x704 : Shape := ⟨3, ![8192, 4, 704]⟩
abbrev S4x8192x704 : Shape := ⟨3, ![4, 8192, 704]⟩
abbrev S2816x1024 : Shape := ⟨2, ![2816, 1024]⟩
abbrev S1x4096x704 : Shape := ⟨3, ![1, 4096, 704]⟩
abbrev S4096x1024 : Shape := ⟨2, ![4096, 1024]⟩
abbrev S704x1024 : Shape := ⟨2, ![704, 1024]⟩
abbrev S4096x704 : Shape := ⟨2, ![4096, 704]⟩

abbrev nBuf : Space → Nat
  | .hbm => 5
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S8192x4x704, .bf16⟩
  | .hbm, ⟨3, _⟩ => ⟨S4x8192x704, .bf16⟩
  | .hbm, ⟨4, _⟩ => ⟨S2816x1024, .f32⟩
  | .local _ .vmem, ⟨0, _⟩ => ⟨S1x4096x704, .bf16⟩
  | .local _ .vmem, ⟨1, _⟩ => ⟨S1x4096x704, .bf16⟩
  | .local _ .vmem, ⟨2, _⟩ => ⟨S4096x1024, .bf16⟩
  | .local _ .vmem, ⟨3, _⟩ => ⟨S4096x1024, .bf16⟩
  | .local _ .vmem, ⟨4, _⟩ => ⟨S704x1024, .f32⟩
  | .local _ .vmem, ⟨5, _⟩ => ⟨S704x1024, .f32⟩
  | .local _ .vmem, ⟨6, _⟩ => ⟨S704x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond3 (i : grid0.Coords) : BitVec 1 :=
  let arg2 : BitVec 32 := BitVec.ofNat 32 (i 2).val
  let c1_i32 : BitVec 32 := 1#32
  let v10 : BitVec 1 := Scalar.cmpi .eq arg2 c1_i32
  let v11 : BitVec 32 := Scalar.extui v10
  let c0_i32_7 : BitVec 32 := 0#32
  let v12 : BitVec 1 := Scalar.cmpi .ne v11 c0_i32_7
  v12

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1x4096x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S704x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== Reference5Ideal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 9
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S_, .f32⟩
  | .hbm, ⟨3, _⟩ => ⟨S2816x1024, .f32⟩
  | .hbm, ⟨4, _⟩ => ⟨S8192x2816, .f32⟩
  | .hbm, ⟨5, _⟩ => ⟨S8192x1024, .f32⟩
  | .hbm, ⟨6, _⟩ => ⟨S8192x1024, .f32⟩
  | .hbm, ⟨7, _⟩ => ⟨S1024x2816, .f32⟩
  | .hbm, ⟨8, _⟩ => ⟨S2816x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel6.lean ====
abbrev S1024x3104 : Shape := ⟨2, ![1024, 3104]⟩
abbrev S8192x3104 : Shape := ⟨2, ![8192, 3104]⟩
abbrev S3104x1024 : Shape := ⟨2, ![3104, 1024]⟩
abbrev S_ : Shape := ⟨0, ![]⟩
abbrev S3200x1024 : Shape := ⟨2, ![3200, 1024]⟩
abbrev S1x3200x1024 : Shape := ⟨3, ![1, 3200, 1024]⟩
abbrev S8192x3200 : Shape := ⟨2, ![8192, 3200]⟩
abbrev S8192x1024 : Shape := ⟨2, ![8192, 1024]⟩
abbrev S1024x3200 : Shape := ⟨2, ![1024, 3200]⟩
abbrev S1024x1024 : Shape := ⟨2, ![1024, 1024]⟩

abbrev nBuf : Space → Nat
  | .hbm => 12
  | .vmem => 5
  | .smem => 0
  | _ => 0

abbrev bufTy : (tb : Table) → Fin (tcTables nBuf tb) → BufTy
  | .hbm, ⟨0, _⟩ => ⟨S1024x3104, .f32⟩
  | .hbm, ⟨1, _⟩ => ⟨S8192x3104, .bf16⟩
  | .hbm, ⟨2, _⟩ => ⟨S1024x3104, .bf16⟩
  | .hbm, ⟨3, _⟩ => ⟨S3104x1024, .bf16⟩
  | .hbm, ⟨4, _⟩ => ⟨S_, .i32⟩
  | .hbm, ⟨5, _⟩ => ⟨S_, .bf16⟩
  | .hbm, ⟨6, _⟩ => ⟨S3200x1024, .bf16⟩
  | .hbm, ⟨7, _⟩ => ⟨S1x3200x1024, .bf16⟩
  | .hbm, ⟨8, _⟩ => ⟨S_, .i32⟩
  | .hbm, ⟨9, _⟩ => ⟨S_, .bf16⟩
  | .hbm, ⟨10, _⟩ => ⟨S8192x3200, .bf16⟩
  | .hbm, ⟨11, _⟩ => ⟨S8192x1024, .bf16⟩
  | .local _ .vmem, ⟨0, _⟩ => ⟨S1024x3200, .bf16⟩
  | .local _ .vmem, ⟨1, _⟩ => ⟨S1024x3200, .bf16⟩
  | .local _ .vmem, ⟨2, _⟩ => ⟨S1x3200x1024, .bf16⟩
  | .local _ .vmem, ⟨3, _⟩ => ⟨S1024x1024, .bf16⟩
  | .local _ .vmem, ⟨4, _⟩ => ⟨S1024x1024, .bf16⟩
  | _, _ => ⟨S1024x3104, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev main_c_0 : Ref sig .tc := ⟨.hbm, 8, rfl⟩
abbrev main_call1_v0 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1024x3200 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1x3200x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== Reference6Ideal.lean ====
abbrev S1024x3104 : Shape := ⟨2, ![1024, 3104]⟩
abbrev S8192x3104 : Shape := ⟨2, ![8192, 3104]⟩
abbrev S_ : Shape := ⟨0, ![]⟩
abbrev S8192x1024 : Shape := ⟨2, ![8192, 1024]⟩

abbrev nBuf : Space → Nat
  | .hbm => 8
  | .vmem => 0
  | .smem => 0
  | _ => 0

abbrev bufTy : (tb : Table) → Fin (tcTables nBuf tb) → BufTy
  | .hbm, ⟨0, _⟩ => ⟨S1024x3104, .f32⟩
  | .hbm, ⟨1, _⟩ => ⟨S8192x3104, .bf16⟩
  | .hbm, ⟨2, _⟩ => ⟨S_, .f32⟩
  | .hbm, ⟨3, _⟩ => ⟨S8192x1024, .f32⟩
  | .hbm, ⟨4, _⟩ => ⟨S8192x3104, .f32⟩
  | .hbm, ⟨5, _⟩ => ⟨S8192x3104, .f32⟩
  | .hbm, ⟨6, _⟩ => ⟨S8192x1024, .f32⟩
  | .hbm, ⟨7, _⟩ => ⟨S8192x1024, .bf16⟩
  | _, _ => ⟨S1024x3104, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel7.lean ====
abbrev S8192x1024 : Shape := ⟨2, ![8192, 1024]⟩
abbrev S8192x3104 : Shape := ⟨2, ![8192, 3104]⟩
abbrev S_ : Shape := ⟨0, ![]⟩
abbrev S8192x3200 : Shape := ⟨2, ![8192, 3200]⟩
abbrev S3200x1024 : Shape := ⟨2, ![3200, 1024]⟩
abbrev S4096x640 : Shape := ⟨2, ![4096, 640]⟩
abbrev S4096x1024 : Shape := ⟨2, ![4096, 1024]⟩
abbrev S640x1024 : Shape := ⟨2, ![640, 1024]⟩

abbrev nBuf : Space → Nat
  | .hbm => 6
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x3104, .bf16⟩
  | .hbm, ⟨2, _⟩ => ⟨S_, .i32⟩
  | .hbm, ⟨3, _⟩ => ⟨S_, .bf16⟩
  | .hbm, ⟨4, _⟩ => ⟨S8192x3200, .bf16⟩
  | .hbm, ⟨5, _⟩ => ⟨S3200x1024, .f32⟩
  | .local _ .vmem, ⟨0, _⟩ => ⟨S4096x640, .bf16⟩
  | .local _ .vmem, ⟨1, _⟩ => ⟨S4096x640, .bf16⟩
  | .local _ .vmem, ⟨2, _⟩ => ⟨S4096x1024, .bf16⟩
  | .local _ .vmem, ⟨3, _⟩ => ⟨S4096x1024, .bf16⟩
  | .local _ .vmem, ⟨4, _⟩ => ⟨S640x1024, .f32⟩
  | .local _ .vmem, ⟨5, _⟩ => ⟨S640x1024, .f32⟩
  | .local _ .vmem, ⟨6, _⟩ => ⟨S640x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![5, 1, 2], ![false, false, false]⟩

def k0_cond3 (i : grid0.Coords) : BitVec 1 :=
  let arg2 : BitVec 32 := BitVec.ofNat 32 (i 2).val
  let c1_i32 : BitVec 32 := 1#32
  let v10 : BitVec 1 := Scalar.cmpi .eq arg2 c1_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S4096x640 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S640x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== Reference7Ideal.lean ====
abbrev S8192x1024 : Shape := ⟨2, ![8192, 1024]⟩
abbrev S8192x3104 : Shape := ⟨2, ![8192, 3104]⟩
abbrev S_ : Shape := ⟨0, ![]⟩
abbrev S1024x3104 : Shape := ⟨2, ![1024, 3104]⟩
abbrev S3104x1024 : Shape := ⟨2, ![3104, 1024]⟩
abbrev S3200x1024 : Shape := ⟨2, ![3200, 1024]⟩

abbrev nBuf : Space → Nat
  | .hbm => 13
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x3104, .bf16⟩
  | .hbm, ⟨2, _⟩ => ⟨S_, .f32⟩
  | .hbm, ⟨3, _⟩ => ⟨S1024x3104, .f32⟩
  | .hbm, ⟨4, _⟩ => ⟨S8192x1024, .f32⟩
  | .hbm, ⟨5, _⟩ => ⟨S8192x3104, .f32⟩
  | .hbm, ⟨6, _⟩ => ⟨S8192x3104, .f32⟩
  | .hbm, ⟨7, _⟩ => ⟨S3104x1024, .f32⟩
  | .hbm, ⟨8, _⟩ => ⟨S1024x3104, .f32⟩
  | .hbm, ⟨9, _⟩ => ⟨S3104x1024, .f32⟩
  | .hbm, ⟨10, _⟩ => ⟨S_, .i32⟩
  | .hbm, ⟨11, _⟩ => ⟨S_, .f32⟩
  | .hbm, ⟨12, _⟩ => ⟨S3200x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c : Ref sig .tc := ⟨.hbm, 10, rfl⟩
abbrev main_call0_v0 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== Kernel8.lean ====
abbrev S1024x1024 : Shape := ⟨2, ![1024, 1024]⟩
abbrev S8192x1024 : Shape := ⟨2, ![8192, 1024]⟩
abbrev S1x1024x1024 : Shape := ⟨3, ![1, 1024, 1024]⟩
abbrev S2048x1024 : Shape := ⟨2, ![2048, 1024]⟩

abbrev nBuf : Space → Nat
  | .hbm => 5
  | .vmem => 5
  | .smem => 0
  | _ => 0

abbrev bufTy : (tb : Table) → Fin (tcTables nBuf tb) → BufTy
  | .hbm, ⟨0, _⟩ => ⟨S1024x1024, .f32⟩
  | .hbm, ⟨1, _⟩ => ⟨S8192x1024, .bf16⟩
  | .hbm, ⟨2, _⟩ => ⟨S1024x1024, .bf16⟩
  | .hbm, ⟨3, _⟩ => ⟨S1x1024x1024, .bf16⟩
  | .hbm, ⟨4, _⟩ => ⟨S8192x1024, .bf16⟩
  | .local _ .vmem, ⟨0, _⟩ => ⟨S2048x1024, .bf16⟩
  | .local _ .vmem, ⟨1, _⟩ => ⟨S2048x1024, .bf16⟩
  | .local _ .vmem, ⟨2, _⟩ => ⟨S1x1024x1024, .bf16⟩
  | .local _ .vmem, ⟨3, _⟩ => ⟨S2048x1024, .bf16⟩
  | .local _ .vmem, ⟨4, _⟩ => ⟨S2048x1024, .bf16⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== Reference8Ideal.lean ====
abbrev S1024x1024 : Shape := ⟨2, ![1024, 1024]⟩
abbrev S8192x1024 : Shape := ⟨2, ![8192, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S8192x1024, .bf16⟩
  | .hbm, ⟨2, _⟩ => ⟨S_, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S8192x1024, .bf16⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel9.lean ====
abbrev S8192x1024 : Shape := ⟨2, ![8192, 1024]⟩
abbrev S1024x1024 : Shape := ⟨2, ![1024, 1024]⟩
abbrev S4096x1024 : Shape := ⟨2, ![4096, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .f32⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]
-- ==== Reference9Ideal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S1024x1024, .f32⟩
  | .hbm, ⟨8, _⟩ => ⟨S1024x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel10.lean ====
abbrev S8192x1024 : Shape := ⟨2, ![8192, 1024]⟩
abbrev S1024x5632 : Shape := ⟨2, ![1024, 5632]⟩
abbrev S5632x1024 : Shape := ⟨2, ![5632, 1024]⟩
abbrev S1x8x704x1024 : Shape := ⟨4, ![1, 8, 704, 1024]⟩
abbrev S8x8192x704 : Shape := ⟨3, ![8, 8192, 704]⟩
abbrev S2048x1024 : Shape := ⟨2, ![2048, 1024]⟩
abbrev S1x1x704x1024 : Shape := ⟨4, ![1, 1, 704, 1024]⟩
abbrev S1x2048x704 : Shape := ⟨3, ![1, 2048, 704]⟩
abbrev S704x1024 : Shape := ⟨2, ![704, 1024]⟩
abbrev S2048x704 : Shape := ⟨2, ![2048, 704]⟩

abbrev nBuf : Space → Nat
  | .hbm => 6
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x5632, .f32⟩
  | .hbm, ⟨2, _⟩ => ⟨S1024x5632, .bf16⟩
  | .hbm, ⟨3, _⟩ => ⟨S5632x1024, .bf16⟩
  | .hbm, ⟨4, _⟩ => ⟨S1x8x704x1024, .bf16⟩
  | .hbm, ⟨5, _⟩ => ⟨S8x8192x704, .bf16⟩
  | .local _ .vmem, ⟨0, _⟩ => ⟨S2048x1024, .bf16⟩
  | .local _ .vmem, ⟨1, _⟩ => ⟨S2048x1024, .bf16⟩
  | .local _ .vmem, ⟨2, _⟩ => ⟨S1x1x704x1024, .bf16⟩
  | .local _ .vmem, ⟨3, _⟩ => ⟨S1x1x704x1024, .bf16⟩
  | .local _ .vmem, ⟨4, _⟩ => ⟨S1x2048x704, .bf16⟩
  | .local _ .vmem, ⟨5, _⟩ => ⟨S1x2048x704, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1x1x704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1x2048x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S8192x1024 : Shape := ⟨2, ![8192, 1024]⟩
abbrev S1024x5632 : Shape := ⟨2, ![1024, 5632]⟩
abbrev S8192x5632 : Shape := ⟨2, ![8192, 5632]⟩
abbrev S8192x8x704 : Shape := ⟨3, ![8192, 8, 704]⟩
abbrev S8x8192x704 : Shape := ⟨3, ![8, 8192, 704]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x5632, .f32⟩
  | .hbm, ⟨2, _⟩ => ⟨S8192x1024, .f32⟩
  | .hbm, ⟨3, _⟩ => ⟨S8192x5632, .f32⟩
  | .hbm, ⟨4, _⟩ => ⟨S8192x5632, .bf16⟩
  | .hbm, ⟨5, _⟩ => ⟨S8192x8x704, .bf16⟩
  | .hbm, ⟨6, _⟩ => ⟨S8x8192x704, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel11.lean ====
abbrev S8192x2816 : Shape := ⟨2, ![8192, 2816]⟩
abbrev S2816x1024 : Shape := ⟨2, ![2816, 1024]⟩
abbrev S8192x4x704 : Shape := ⟨3, ![8192, 4, 704]⟩
abbrev S4x8192x704 : Shape := ⟨3, ![4, 8192, 704]⟩
abbrev S1x4x704x1024 : Shape := ⟨4, ![1, 4, 704, 1024]⟩
abbrev S8192x1024 : Shape := ⟨2, ![8192, 1024]⟩
abbrev S4x1024x704 : Shape := ⟨3, ![4, 1024, 704]⟩
abbrev S1024x1024 : Shape := ⟨2, ![1024, 1024]⟩
abbrev S1x1024x704 : Shape := ⟨3, ![1, 1024, 704]⟩
abbrev S1024x704 : Shape := ⟨2, ![1024, 704]⟩
abbrev S1x1x704x1024 : Shape := ⟨4, ![1, 1, 704, 1024]⟩
abbrev S704x1024 : Shape := ⟨2, ![704, 1024]⟩

abbrev nBuf : Space → Nat
  | .hbm => 7
  | .vmem => 5
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .f32⟩
  | .hbm, ⟨2, _⟩ => ⟨S8192x4x704, .bf16⟩
  | .hbm, ⟨3, _⟩ => ⟨S4x8192x704, .bf16⟩
  | .hbm, ⟨4, _⟩ => ⟨S2816x1024, .bf16⟩
  | .hbm, ⟨5, _⟩ => ⟨S1x4x704x1024, .bf16⟩
  | .hbm, ⟨6, _⟩ => ⟨S8192x1024, .bf16⟩
  | .local _ .vmem, ⟨0, _⟩ => ⟨S4x1024x704, .bf16⟩
  | .local _ .vmem, ⟨1, _⟩ => ⟨S4x1024x704, .bf16⟩
  | .local _ .vmem, ⟨2, _⟩ => ⟨S1x4x704x1024, .bf16⟩
  | .local _ .vmem, ⟨3, _⟩ => ⟨S1024x1024, .bf16⟩
  | .local _ .vmem, ⟨4, _⟩ => ⟨S1024x1024, .bf16⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S4x1024x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1x4x704x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== Reference11Ideal.lean ====
abbrev S8192x2816 : Shape := ⟨2, ![8192, 2816]⟩
abbrev S2816x1024 : Shape := ⟨2, ![2816, 1024]⟩
abbrev S8192x1024 : Shape := ⟨2, ![8192, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .f32⟩
  | .hbm, ⟨2, _⟩ => ⟨S8192x2816, .f32⟩
  | .hbm, ⟨3, _⟩ => ⟨S8192x1024, .f32⟩
  | .hbm, ⟨4, _⟩ => ⟨S8192x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel12.lean ====
abbrev S8192x1024 : Shape := ⟨2, ![8192, 1024]⟩
abbrev S1024x3104 : Shape := ⟨2, ![1024, 3104]⟩
abbrev S3104x1024 : Shape := ⟨2, ![3104, 1024]⟩
abbrev S_ : Shape := ⟨0, ![]⟩
abbrev S3200x1024 : Shape := ⟨2, ![3200, 1024]⟩
abbrev S1x3200x1024 : Shape := ⟨3, ![1, 3200, 1024]⟩
abbrev S8192x3200 : Shape := ⟨2, ![8192, 3200]⟩
abbrev S2048x1024 : Shape := ⟨2, ![2048, 1024]⟩
abbrev S1x640x1024 : Shape := ⟨3, ![1, 640, 1024]⟩
abbrev S2048x640 : Shape := ⟨2, ![2048, 640]⟩
abbrev S640x1024 : Shape := ⟨2, ![640, 1024]⟩

abbrev nBuf : Space → Nat
  | .hbm => 9
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x3104, .f32⟩
  | .hbm, ⟨2, _⟩ => ⟨S1024x3104, .bf16⟩
  | .hbm, ⟨3, _⟩ => ⟨S3104x1024, .bf16⟩
  | .hbm, ⟨4, _⟩ => ⟨S_, .i32⟩
  | .hbm, ⟨5, _⟩ => ⟨S_, .bf16⟩
  | .hbm, ⟨6, _⟩ => ⟨S3200x1024, .bf16⟩
  | .hbm, ⟨7, _⟩ => ⟨S1x3200x1024, .bf16⟩
  | .hbm, ⟨8, _⟩ => ⟨S8192x3200, .bf16⟩
  | .local _ .vmem, ⟨0, _⟩ => ⟨S2048x1024, .bf16⟩
  | .local _ .vmem, ⟨1, _⟩ => ⟨S2048x1024, .bf16⟩
  | .local _ .vmem, ⟨2, _⟩ => ⟨S1x640x1024, .bf16⟩
  | .local _ .vmem, ⟨3, _⟩ => ⟨S1x640x1024, .bf16⟩
  | .local _ .vmem, ⟨4, _⟩ => ⟨S2048x640, .bf16⟩
  | .local _ .vmem, ⟨5, _⟩ => ⟨S2048x640, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 5, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1x640x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S2048x640 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S8192x1024 : Shape := ⟨2, ![8192, 1024]⟩
abbrev S1024x3104 : Shape := ⟨2, ![1024, 3104]⟩
abbrev S8192x3104 : Shape := ⟨2, ![8192, 3104]⟩
abbrev S_ : Shape := ⟨0, ![]⟩
abbrev S8192x3200 : Shape := ⟨2, ![8192, 3200]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x3104, .f32⟩
  | .hbm, ⟨2, _⟩ => ⟨S8192x1024, .f32⟩
  | .hbm, ⟨3, _⟩ => ⟨S8192x3104, .f32⟩
  | .hbm, ⟨4, _⟩ => ⟨S8192x3104, .bf16⟩
  | .hbm, ⟨5, _⟩ => ⟨S_, .i32⟩
  | .hbm, ⟨6, _⟩ => ⟨S_, .bf16⟩
  | .hbm, ⟨7, _⟩ => ⟨S8192x3200, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_call0_v0 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== Kernel13.lean ====
abbrev S8192x1024 : Shape := ⟨2, ![8192, 1024]⟩
abbrev S1024x1024 : Shape := ⟨2, ![1024, 1024]⟩
abbrev S1x1024x1024 : Shape := ⟨3, ![1, 1024, 1024]⟩
abbrev S2048x1024 : Shape := ⟨2, ![2048, 1024]⟩

abbrev nBuf : Space → Nat
  | .hbm => 5
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .f32⟩
  | .hbm, ⟨2, _⟩ => ⟨S1024x1024, .bf16⟩
  | .hbm, ⟨3, _⟩ => ⟨S1x1024x1024, .bf16⟩
  | .hbm, ⟨4, _⟩ => ⟨S8192x1024, .bf16⟩
  | .local _ .vmem, ⟨0, _⟩ => ⟨S2048x1024, .bf16⟩
  | .local _ .vmem, ⟨1, _⟩ => ⟨S2048x1024, .bf16⟩
  | .local _ .vmem, ⟨2, _⟩ => ⟨S1x1024x1024, .bf16⟩
  | .local _ .vmem, ⟨3, _⟩ => ⟨S2048x1024, .bf16⟩
  | .local _ .vmem, ⟨4, _⟩ => ⟨S2048x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== Reference13Ideal.lean ====
abbrev S8192x1024 : Shape := ⟨2, ![8192, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .f32⟩
  | .hbm, ⟨2, _⟩ => ⟨S8192x1024, .f32⟩
  | .hbm, ⟨3, _⟩ => ⟨S8192x1024, .f32⟩
  | .hbm, ⟨4, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel14.lean ====
abbrev S8192x5632 : Shape := ⟨2, ![8192, 5632]⟩
abbrev S8192x2816 : Shape := ⟨2, ![8192, 2816]⟩
abbrev S8192x2x4x704 : Shape := ⟨4, ![8192, 2, 4, 704]⟩
abbrev S2x4x8192x704 : Shape := ⟨4, ![2, 4, 8192, 704]⟩
abbrev S8192x4x704 : Shape := ⟨3, ![8192, 4, 704]⟩
abbrev S4x8192x704 : Shape := ⟨3, ![4, 8192, 704]⟩
abbrev S2x1x1024x704 : Shape := ⟨4, ![2, 1, 1024, 704]⟩
abbrev S1x1024x704 : Shape := ⟨3, ![1, 1024, 704]⟩
abbrev S1x1x1024x704 : Shape := ⟨4, ![1, 1, 1024, 704]⟩
abbrev S1024x704 : Shape := ⟨2, ![1024, 704]⟩

abbrev nBuf : Space → Nat
  | .hbm => 7
  | .vmem => 6
  | .smem => 0
  | _ => 0

abbrev bufTy : (tb : Table) → Fin (tcTables nBuf tb) → BufTy
  | .hbm, ⟨0, _⟩ => ⟨S8192x5632, .bf16⟩
  | .hbm, ⟨1, _⟩ => ⟨S8192x2816, .bf16⟩
  | .hbm, ⟨2, _⟩ => ⟨S8192x2x4x704, .bf16⟩
  | .hbm, ⟨3, _⟩ => ⟨S2x4x8192x704, .bf16⟩
  | .hbm, ⟨4, _⟩ => ⟨S8192x4x704, .bf16⟩
  | .hbm, ⟨5, _⟩ => ⟨S4x8192x704, .bf16⟩
  | .hbm, ⟨6, _⟩ => ⟨S2x4x8192x704, .bf16⟩
  | .local _ .vmem, ⟨0, _⟩ => ⟨S2x1x1024x704, .bf16⟩
  | .local _ .vmem, ⟨1, _⟩ => ⟨S2x1x1024x704, .bf16⟩
  | .local _ .vmem, ⟨2, _⟩ => ⟨S1x1024x704, .bf16⟩
  | .local _ .vmem, ⟨3, _⟩ => ⟨S1x1024x704, .bf16⟩
  | .local _ .vmem, ⟨4, _⟩ => ⟨S2x1x1024x704, .bf16⟩
  | .local _ .vmem, ⟨5, _⟩ => ⟨S2x1x1024x704, .bf16⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

abbrev stage0_0 : Fin 2 → Memref sig .tc .vmem S2x1x1024x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference14Ideal.lean ====
abbrev S8192x5632 : Shape := ⟨2, ![8192, 5632]⟩
abbrev S8192x2816 : Shape := ⟨2, ![8192, 2816]⟩
abbrev S_ : Shape := ⟨0, ![]⟩
abbrev S8192x2x4x704 : Shape := ⟨4, ![8192, 2, 4, 704]⟩
abbrev S2x4x8192x704 : Shape := ⟨4, ![2, 4, 8192, 704]⟩

abbrev nBuf : Space → Nat
  | .hbm => 30
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S8192x2816, .bf16⟩
  | .hbm, ⟨2, _⟩ => ⟨S8192x5632, .f32⟩
  | .hbm, ⟨3, _⟩ => ⟨S8192x2816, .f32⟩
  | .hbm, ⟨4, _⟩ => ⟨S8192x2816, .f32⟩
  | .hbm, ⟨5, _⟩ => ⟨S8192x2816, .f32⟩
  | .hbm, ⟨6, _⟩ => ⟨S8192x2816, .f32⟩
  | .hbm, ⟨7, _⟩ => ⟨S_, .f32⟩
  | .hbm, ⟨8, _⟩ => ⟨S8192x2816, .f32⟩
  | .hbm, ⟨9, _⟩ => ⟨S8192x2816, .f32⟩
  | .hbm, ⟨10, _⟩ => ⟨S_, .f32⟩
  | .hbm, ⟨11, _⟩ => ⟨S8192x2816, .f32⟩
  | .hbm, ⟨12, _⟩ => ⟨S8192x2816, .f32⟩
  | .hbm, ⟨13, _⟩ => ⟨S_, .f32⟩
  | .hbm, ⟨14, _⟩ => ⟨S8192x2816, .f32⟩
  | .hbm, ⟨15, _⟩ => ⟨S8192x2816, .f32⟩
  | .hbm, ⟨16, _⟩ => ⟨S8192x2816, .f32⟩
  | .hbm, ⟨17, _⟩ => ⟨S8192x2816, .f32⟩
  | .hbm, ⟨18, _⟩ => ⟨S8192x2816, .f32⟩
  | .hbm, ⟨19, _⟩ => ⟨S8192x2816, .f32⟩
  | .hbm, ⟨20, _⟩ => ⟨S8192x2816, .f32⟩
  | .hbm, ⟨21, _⟩ => ⟨S8192x2816, .f32⟩
  | .hbm, ⟨22, _⟩ => ⟨S8192x2816, .f32⟩
  | .hbm, ⟨23, _⟩ => ⟨S8192x2816, .f32⟩
  | .hbm, ⟨24, _⟩ => ⟨S8192x2816, .f32⟩
  | .hbm, ⟨25, _⟩ => ⟨S8192x2816, .f32⟩
  | .hbm, ⟨26, _⟩ => ⟨S8192x5632, .f32⟩
  | .hbm, ⟨27, _⟩ => ⟨S8192x5632, .bf16⟩
  | .hbm, ⟨28, _⟩ => ⟨S8192x2x4x704, .bf16⟩
  | .hbm, ⟨29, _⟩ => ⟨S2x4x8192x704, .bf16⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_v3_2 : Ref sig .tc := ⟨.hbm, 12, rfl⟩
abbrev main_call0_cst_1 : Ref sig .tc := ⟨.hbm, 13, rfl⟩
abbrev main_call0_v6 : Ref sig .tc := ⟨.hbm, 14, rfl⟩
abbrev main_call0_v7 : Ref sig .tc := ⟨.hbm, 15, rfl⟩
abbrev main_v3_1 : Ref sig .tc := ⟨.hbm, 16, rfl⟩
abbrev main_v3_0 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩

abbrev nD : Nat := 1
abbrev τ : Topo := Topo.v7x

variable {F : FTy → Type} [FloatOps F]
-- ==== Kernel15.lean ====
abbrev S8192x1024 : Shape := ⟨2, ![8192, 1024]⟩
abbrev S4x1024 : Shape := ⟨2, ![4, 1024]⟩
abbrev S4x1x1024 : Shape := ⟨3, ![4, 1, 1024]⟩
abbrev S512x1024 : Shape := ⟨2, ![512, 1024]⟩
abbrev S1x1x1024 : Shape := ⟨3, ![1, 1, 1024]⟩
abbrev S512 : Shape := ⟨1, ![512]⟩
abbrev S512x1 : Shape := ⟨2, ![512, 1]⟩
abbrev S1x1024 : Shape := ⟨2, ![1, 1024]⟩

abbrev nBuf : Space → Nat
  | .hbm => 4
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S4x1024, .f32⟩
  | .hbm, ⟨2, _⟩ => ⟨S4x1x1024, .f32⟩
  | .hbm, ⟨3, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S512x1024, .bf16⟩
  | .local _ .vmem, ⟨4, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference15Ideal.lean ====
abbrev S8192x1024 : Shape := ⟨2, ![8192, 1024]⟩
abbrev S4x1024 : Shape := ⟨2, ![4, 1024]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩

abbrev nBuf : Space → Nat
  | .hbm => 21
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S4x1024, .f32⟩
  | .hbm, ⟨2, _⟩ => ⟨S1x1024, .f32⟩
  | .hbm, ⟨3, _⟩ => ⟨S1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S1x1024, .f32⟩
  | .hbm, ⟨18, _⟩ => ⟨S8192x1024, .f32⟩
  | .hbm, ⟨19, _⟩ => ⟨S8192x1024, .f32⟩
  | .hbm, ⟨20, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]
-- ==== Kernel16.lean ====
abbrev S8192x1024 : Shape := ⟨2, ![8192, 1024]⟩
abbrev S4x1024 : Shape := ⟨2, ![4, 1024]⟩
abbrev S4x1x1024 : Shape := ⟨3, ![4, 1, 1024]⟩
abbrev S512x1024 : Shape := ⟨2, ![512, 1024]⟩
abbrev S1x1x1024 : Shape := ⟨3, ![1, 1, 1024]⟩
abbrev S512 : Shape := ⟨1, ![512]⟩
abbrev S512x1 : Shape := ⟨2, ![512, 1]⟩
abbrev S1x1024 : Shape := ⟨2, ![1, 1024]⟩

abbrev nBuf : Space → Nat
  | .hbm => 8
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S4x1024, .f32⟩
  | .hbm, ⟨3, _⟩ => ⟨S4x1024, .f32⟩
  | .hbm, ⟨4, _⟩ => ⟨S4x1x1024, .f32⟩
  | .hbm, ⟨5, _⟩ => ⟨S4x1x1024, .f32⟩
  | .hbm, ⟨6, _⟩ => ⟨S8192x1024, .f32⟩
  | .hbm, ⟨7, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1x1x1024, .f32⟩
  | .local _ .vmem, ⟨5, _⟩ => ⟨S1x1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference16Ideal.lean ====
abbrev S8192x1024 : Shape := ⟨2, ![8192, 1024]⟩
abbrev S4x1024 : Shape := ⟨2, ![4, 1024]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩

abbrev nBuf : Space → Nat
  | .hbm => 43
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S4x1024, .f32⟩
  | .hbm, ⟨3, _⟩ => ⟨S4x1024, .f32⟩
  | .hbm, ⟨4, _⟩ => ⟨S8192x1024, .f32⟩
  | .hbm, ⟨5, _⟩ => ⟨S1x1024, .f32⟩
  | .hbm, ⟨6, _⟩ => ⟨S1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S1x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S1x1024, .f32⟩
  | .hbm, ⟨25, _⟩ => ⟨S1024, .f32⟩
  | .hbm, ⟨26, _⟩ => ⟨S8192x1024, .f32⟩
  | .hbm, ⟨27, _⟩ => ⟨S_, .f32⟩
  | .hbm, ⟨28, _⟩ => ⟨S8192, .f32⟩
  | .hbm, ⟨29, _⟩ => ⟨S8192x1, .f32⟩
  | .hbm, ⟨30, _⟩ => ⟨S_, .f32⟩
  | .hbm, ⟨31, _⟩ => ⟨S8192x1, .f32⟩
  | .hbm, ⟨32, _⟩ => ⟨S8192x1, .f32⟩
  | .hbm, ⟨33, _⟩ => ⟨S_, .f32⟩
  | .hbm, ⟨34, _⟩ => ⟨S8192x1, .f32⟩
  | .hbm, ⟨35, _⟩ => ⟨S8192x1, .f32⟩
  | .hbm, ⟨36, _⟩ => ⟨S8192x1, .f32⟩
  | .hbm, ⟨37, _⟩ => ⟨S8192x1024, .f32⟩
  | .hbm, ⟨38, _⟩ => ⟨S8192x1024, .f32⟩
  | .hbm, ⟨39, _⟩ => ⟨S1x1024, .f32⟩
  | .hbm, ⟨40, _⟩ => ⟨S8192x1024, .f32⟩
  | .hbm, ⟨41, _⟩ => ⟨S8192x1024, .f32⟩
  | .hbm, ⟨42, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_v23 : Ref sig .tc := ⟨.hbm, 32, rfl⟩
abbrev main_cst_4 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩

abbrev nD : Nat := 1
abbrev τ : Topo := Topo.v7x

variable {F : FTy → Type} [FloatOps F]
-- ==== Proof.Gla.Frames.lean ====
/- The frames: the kernel terminates with its arguments unchanged and its counters at zero, in machine arithmetic and
   over the extended reals, and so does the reference. -/
module

public import proofs.«01_k».proof.Defs
public import proofs.«01_k».proof.Proof.Gen.Kernel.Frame
public import proofs.«01_k».proof.Proof.Gen.KernelIdeal.Frame
public import proofs.«01_k».proof.Proof.Gen.ReferenceIdeal.Run
public import Idealize.ShloMosaic.Lib.Quiescent

@[expose] public section

noncomputable section

namespace Gla

open Idealize.ShloMosaic Idealize.SL.Sem

/-- The kernel's frame, in machine arithmetic. -/
theorem frame_kernel : Cert.quiescent_Kernel (hKernel := Cert.Kernel.Gen.facts) :=
  fun m ρ _ => Cert.Kernel.Gen.frame m ρ

/-- The kernel's frame, over the extended reals. -/
theorem frame_kernelIdeal : Cert.quiescent_KernelIdeal (hKernelIdeal := Cert.KernelIdeal.Gen.facts) :=
  fun m ρ _ => Cert.KernelIdeal.Gen.frame m ρ

/-- The reference has no semaphores, so its frame is what its run says of the arguments. -/
theorem frame_referenceIdeal :
    Cert.quiescent_ReferenceIdeal (hReferenceIdeal := Cert.ReferenceIdeal.Gen.facts) :=
  fun m ρ _ => (θ_run Cert.ReferenceIdeal.defs _ _).mono
    (fun _ h => ⟨fun c => (h c).2.2.2.2.2.2, sem_eq_zero_of_no_sems rfl _⟩)
    (Cert.ReferenceIdeal.Value.run m ρ)

end Gla

end
-- ==== Proof.Gla.RefRun.lean ====
/- The reference's run, stated over one step of its loop.  A valuation HOLDS a state when the loop's carried buffers, its set-up
   values and its counter have the state's values; every value of one trip is then the step's value of the same name (one lemma
   each), so one trip keeps holding, and the results of the program are read off the 128th state. -/
module

public import proofs.«01_k».proof.Proof.Gen.ReferenceIdeal.Run
public import proofs.«01_k».proof.Proof.Gen.ReferenceIdeal.Step

@[expose] public section

set_option maxRecDepth 8192

noncomputable section

namespace Cert.ReferenceIdeal.RefRun

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

/-- The contents of a buffer. -/
abbrev At (F : FTy → Type) (r : Ref sig .tc) := (Proc.devRef .tc r : DevRef τ sig).ty.Contents (Elt F)

variable (V0 : Valuation τ sig (Elt F)) (s : State F) (j : ℕ)

/-- The valuation holds the state, the set-up values and the trip's number. -/
structure Holds : Prop where
  f_6 : V0 (Proc.devRef .tc main_v16_6) = s.main_v16_6
  f_7 : V0 (Proc.devRef .tc main_v16_7) = s.main_v16_7
  f_8 : V0 (Proc.devRef .tc main_v16_8) = s.main_v16_8
  f_9 : V0 (Proc.devRef .tc main_v16_9) = s.main_v16_9
  f_0 : V0 (Proc.devRef .tc main_v16_0) = s.main_v16_0
  f_1 : V0 (Proc.devRef .tc main_v16_1) = s.main_v16_1
  f_2 : V0 (Proc.devRef .tc main_v16_2) = s.main_v16_2
  f_3 : V0 (Proc.devRef .tc main_v16_3) = s.main_v16_3
  f_4 : V0 (Proc.devRef .tc main_v16_4) = s.main_v16_4
  n_5 : V0 (Proc.devRef .tc main_v16_5) = constantI S_ 32 (BitVec.ofNat 32 j)

variable {V0 s j}

section

variable (h : Holds V0 s j)
include h

theorem al_0 : (constantI S_ 32 128#32 : At F main_while0b_c_13) = Step.b0 j s := rfl
theorem al_1 : (subi (constantI S_ 32 128#32) (V0 (Proc.devRef .tc main_v16_5)) : At F main_while0b_v25) = Step.b1 j s := by
  unfold Step.b1
  rw [← al_0 h, h.n_5]
  try rfl
theorem al_2 : (constantI S_ 32 1#32 : At F main_while0b_c_14) = Step.b2 j s := rfl
theorem al_3 : (res_main_while0b_v26 V0 : At F main_while0b_v26) = Step.b3 j s := by
  unfold res_main_while0b_v26 Step.b3
  rw [← al_1 h, ← al_2 h]
  try rfl
theorem al_4 : (constantI S_ 32 0#32 : At F main_while0b_call0_c) = Step.b4 j s := rfl
theorem al_5 : (constantI S_ 32 0#32 : At F main_while0b_call0_c_0) = Step.b5 j s := rfl
theorem al_6 : (Host.dynamicSlice S1x64x3200 (V0 (Proc.devRef .tc main_v16_0)) (fun k => (((![res_main_while0b_v26 V0, constantI S_ 32 0#32, constantI S_ 32 0#32] : Fin 3 → (⟨S_, .i32⟩ : BufTy).Contents (Elt F))) k (Shape.Idx.first h_S_)).toInt) sliceFits_S128x64x3200_S1x64x3200 : At F main_while0b_call0_v0) = Step.b6 j s := by
  unfold Step.b6
  rw [← al_3 h, ← al_4 h, ← al_5 h, h.f_0]
  try rfl
theorem al_7 : (res_main_while0b_v27 V0 : At F main_while0b_v27) = Step.b7 j s := by
  unfold res_main_while0b_v27 Step.b7
  rw [← al_6 h]
  try rfl
theorem al_8 : (constantI S_ 32 0#32 : At F main_while0b_call1_c) = Step.b8 j s := rfl
theorem al_9 : (constantI S_ 32 0#32 : At F main_while0b_call1_c_0) = Step.b9 j s := rfl
theorem al_10 : (Host.dynamicSlice S1x64x512 (V0 (Proc.devRef .tc main_v16_1)) (fun k => (((![res_main_while0b_v26 V0, constantI S_ 32 0#32, constantI S_ 32 0#32] : Fin 3 → (⟨S_, .i32⟩ : BufTy).Contents (Elt F))) k (Shape.Idx.first h_S_)).toInt) sliceFits_S128x64x512_S1x64x512 : At F main_while0b_call1_v0) = Step.b10 j s := by
  unfold Step.b10
  rw [← al_3 h, ← al_8 h, ← al_9 h, h.f_1]
  try rfl
theorem al_11 : (shapeCast S64x512 (Host.dynamicSlice S1x64x512 (V0 (Proc.devRef .tc main_v16_1)) (fun k => (((![res_main_while0b_v26 V0, constantI S_ 32 0#32, constantI S_ 32 0#32] : Fin 3 → (⟨S_, .i32⟩ : BufTy).Contents (Elt F))) k (Shape.Idx.first h_S_)).toInt) sliceFits_S128x64x512_S1x64x512) shapeCasts_S1x64x512_S64x512 : At F main_while0b_v28) = Step.b11 j s := by
  unfold Step.b11
  rw [← al_10 h]
  try rfl
theorem al_12 : (constantI S_ 32 0#32 : At F main_while0b_call2_c) = Step.b12 j s := rfl
theorem al_13 : (constantI S_ 32 0#32 : At F main_while0b_call2_c_0) = Step.b13 j s := rfl
theorem al_14 : (constantI S_ 32 0#32 : At F main_while0b_call2_c_1) = Step.b14 j s := rfl
theorem al_15 : (Host.dynamicSlice S1x4x64x128 (V0 (Proc.devRef .tc main_v16_2)) (fun k => (((![res_main_while0b_v26 V0, constantI S_ 32 0#32, constantI S_ 32 0#32, constantI S_ 32 0#32] : Fin 4 → (⟨S_, .i32⟩ : BufTy).Contents (Elt F))) k (Shape.Idx.first h_S_)).toInt) sliceFits_S128x4x64x128_S1x4x64x128 : At F main_while0b_call2_v0) = Step.b15 j s := by
  unfold Step.b15
  rw [← al_3 h, ← al_12 h, ← al_13 h, ← al_14 h, h.f_2]
  try rfl
theorem al_16 : (res_main_while0b_v29 V0 : At F main_while0b_v29) = Step.b16 j s := by
  unfold res_main_while0b_v29 Step.b16
  rw [← al_15 h]
  try rfl
theorem al_17 : (extractStridedSlice S64x256 ![0, 1536] (res_main_while0b_v27 V0) slices_S64x3200_S64x256_0_1536 : At F main_while0b_v30) = Step.b17 j s := by
  unfold Step.b17
  rw [← al_7 h]
  try rfl
theorem al_18 : (extractStridedSlice S64x256 ![0, 1792] (res_main_while0b_v27 V0) slices_S64x3200_S64x256_0_1792 : At F main_while0b_v31) = Step.b18 j s := by
  unfold Step.b18
  rw [← al_7 h]
  try rfl
theorem al_19 : (extractStridedSlice S64x512 ![0, 2048] (res_main_while0b_v27 V0) slices_S64x3200_S64x512_0_2048 : At F main_while0b_v32) = Step.b19 j s := by
  unfold Step.b19
  rw [← al_7 h]
  try rfl
theorem al_20 : (extractStridedSlice S64x128 ![0, 3072] (res_main_while0b_v27 V0) slices_S64x3200_S64x128_0_3072 : At F main_while0b_v33) = Step.b20 j s := by
  unfold Step.b20
  rw [← al_7 h]
  try rfl
theorem al_21 : (shapeCast S64x4x64 (extractStridedSlice S64x256 ![0, 1536] (res_main_while0b_v27 V0) slices_S64x3200_S64x256_0_1536) shapeCasts_S64x256_S64x4x64 : At F main_while0b_v34) = Step.b21 j s := by
  unfold Step.b21
  rw [← al_17 h]
  try rfl
theorem al_22 : (transpose S4x64x64 [1, 0, 2] (shapeCast S64x4x64 (extractStridedSlice S64x256 ![0, 1536] (res_main_while0b_v27 V0) slices_S64x3200_S64x256_0_1536) shapeCasts_S64x256_S64x4x64) transposes_S64x4x64_S4x64x64_1_0_2 : At F main_while0b_v35) = Step.b22 j s := by
  unfold Step.b22
  rw [← al_21 h]
  try rfl
theorem al_23 : (constant S_ .f32 0x3E000000#32 : At F main_while0b_cst_15) = Step.b23 j s := rfl
theorem al_24 : (broadcastInDim S4x64x64 ![] bcast_S_S4x64x64 (constant S_ .f32 0x3E000000#32) : At F main_while0b_v36) = Step.b24 j s := by
  unfold Step.b24
  rw [← al_23 h]
  try rfl
theorem al_25 : (res_main_while0b_v37 V0 : At F main_while0b_v37) = Step.b25 j s := by
  unfold res_main_while0b_v37 Step.b25
  rw [← al_22 h, ← al_24 h]
  try rfl
theorem al_26 : (shapeCast S64x4x64 (extractStridedSlice S64x256 ![0, 1792] (res_main_while0b_v27 V0) slices_S64x3200_S64x256_0_1792) shapeCasts_S64x256_S64x4x64 : At F main_while0b_v38) = Step.b26 j s := by
  unfold Step.b26
  rw [← al_18 h]
  try rfl
theorem al_27 : (res_main_while0b_v39 V0 : At F main_while0b_v39) = Step.b27 j s := by
  unfold res_main_while0b_v39 Step.b27
  rw [← al_26 h]
  try rfl
theorem al_28 : (shapeCast S64x4x128 (extractStridedSlice S64x512 ![0, 2048] (res_main_while0b_v27 V0) slices_S64x3200_S64x512_0_2048) shapeCasts_S64x512_S64x4x128 : At F main_while0b_v40) = Step.b28 j s := by
  unfold Step.b28
  rw [← al_19 h]
  try rfl
theorem al_29 : (res_main_while0b_v41 V0 : At F main_while0b_v41) = Step.b29 j s := by
  unfold res_main_while0b_v41 Step.b29
  rw [← al_28 h]
  try rfl
theorem al_30 : (res_main_while0b_v42 V0 : At F main_while0b_v42) = Step.b30 j s := by
  unfold res_main_while0b_v42 Step.b30
  rw [← al_20 h]
  try rfl
theorem al_31 : (Host.dotGeneral dot_S64x16_S16x256_S64x256_1_0_0_1_n_n none (res_main_while0b_v42 V0) (V0 (Proc.devRef .tc main_v16_3)) : At F main_while0b_v43) = Step.b31 j s := by
  unfold Step.b31
  rw [← al_30 h, h.f_3]
  try rfl
theorem al_32 : (broadcastInDim S1x256 ![1] bcast_S256_S1x256_1 (V0 (Proc.devRef .tc main_v16_4)) : At F main_while0b_v44) = Step.b32 j s := by
  unfold Step.b32
  rw [h.f_4]
  try rfl
theorem al_33 : (broadcastInDim S64x256 ![0, 1] bcast_S1x256_S64x256_0_1 (broadcastInDim S1x256 ![1] bcast_S256_S1x256_1 (V0 (Proc.devRef .tc main_v16_4))) : At F main_while0b_v45) = Step.b33 j s := by
  unfold Step.b33
  rw [← al_32 h]
  try rfl
theorem al_34 : (addf (Host.dotGeneral dot_S64x16_S16x256_S64x256_1_0_0_1_n_n none (res_main_while0b_v42 V0) (V0 (Proc.devRef .tc main_v16_3))) (broadcastInDim S64x256 ![0, 1] bcast_S1x256_S64x256_0_1 (broadcastInDim S1x256 ![1] bcast_S256_S1x256_1 (V0 (Proc.devRef .tc main_v16_4)))) : At F main_while0b_v46) = Step.b34 j s := by
  unfold Step.b34
  rw [← al_31 h, ← al_33 h]
  try rfl
theorem al_35 : (res_main_while0b_v47 V0 : At F main_while0b_v47) = Step.b35 j s := by
  unfold res_main_while0b_v47 Step.b35
  rw [← al_34 h]
  try rfl
theorem al_36 : (res_main_while0b_call3_cst V0 : At F main_while0b_call3_cst) = Step.b36 j s := by
  unfold res_main_while0b_call3_cst Step.b36
  rfl
theorem al_37 : (broadcastInDim S64x256 ![] bcast_S_S64x256 (res_main_while0b_call3_cst V0) : At F main_while0b_call3_v0) = Step.b37 j s := by
  unfold Step.b37
  rw [← al_36 h]
  try rfl
theorem al_38 : (maximumf (res_main_while0b_v47 V0) (broadcastInDim S64x256 ![] bcast_S_S64x256 (res_main_while0b_call3_cst V0)) : At F main_while0b_call3_v1) = Step.b38 j s := by
  unfold Step.b38
  rw [← al_35 h, ← al_37 h]
  try rfl
theorem al_39 : (broadcastInDim S64x256 ![] bcast_S_S64x256 (res_main_while0b_call3_cst V0) : At F main_while0b_call3_v2) = Step.b39 j s := by
  unfold Step.b39
  rw [← al_36 h]
  try rfl
theorem al_40 : (res_main_while0b_call3_v3 V0 : At F main_while0b_call3_v3) = Step.b40 j s := by
  unfold res_main_while0b_call3_v3 Step.b40
  rw [← al_35 h, ← al_39 h]
  try rfl
theorem al_41 : (cmpf .une (res_main_while0b_call3_v3 V0) (res_main_while0b_call3_v3 V0) : At F main_while0b_call3_v4) = Step.b41 j s := by
  unfold Step.b41
  rw [← al_40 h]
  try rfl
theorem al_42 : (broadcastInDim S64x256 ![] bcast_S_S64x256 (res_main_while0b_call3_cst V0) : At F main_while0b_call3_v5) = Step.b42 j s := by
  unfold Step.b42
  rw [← al_36 h]
  try rfl
theorem al_43 : (addf (res_main_while0b_v47 V0) (broadcastInDim S64x256 ![] bcast_S_S64x256 (res_main_while0b_call3_cst V0)) : At F main_while0b_call3_v6) = Step.b43 j s := by
  unfold Step.b43
  rw [← al_35 h, ← al_42 h]
  try rfl
theorem al_44 : (Host.absf (res_main_while0b_call3_v3 V0) : At F main_while0b_call3_v7) = Step.b44 j s := by
  unfold Step.b44
  rw [← al_40 h]
  try rfl
theorem al_45 : (Host.negf (Host.absf (res_main_while0b_call3_v3 V0)) : At F main_while0b_call3_v8) = Step.b45 j s := by
  unfold Step.b45
  rw [← al_44 h]
  try rfl
theorem al_46 : (Host.exp (Host.negf (Host.absf (res_main_while0b_call3_v3 V0))) : At F main_while0b_call3_v9) = Step.b46 j s := by
  unfold Step.b46
  rw [← al_45 h]
  try rfl
theorem al_47 : (Host.log1p (Host.exp (Host.negf (Host.absf (res_main_while0b_call3_v3 V0)))) : At F main_while0b_call3_v10) = Step.b47 j s := by
  unfold Step.b47
  rw [← al_46 h]
  try rfl
theorem al_48 : (addf (maximumf (res_main_while0b_v47 V0) (broadcastInDim S64x256 ![] bcast_S_S64x256 (res_main_while0b_call3_cst V0))) (Host.log1p (Host.exp (Host.negf (Host.absf (res_main_while0b_call3_v3 V0))))) : At F main_while0b_call3_v11) = Step.b48 j s := by
  unfold Step.b48
  rw [← al_38 h, ← al_47 h]
  try rfl
theorem al_49 : (res_main_while0b_v48_0 V0 : At F main_while0b_v48_0) = Step.b49 j s := by
  unfold res_main_while0b_v48_0 Step.b49
  rw [← al_41 h, ← al_43 h, ← al_48 h]
  try rfl
theorem al_50 : (constant S_ .f32 0x7F800000#32 : At F main_while0b_call3_cst_0) = Step.b50 j s := rfl
theorem al_51 : (broadcastInDim S64x256 ![] bcast_S_S64x256 (constant S_ .f32 0x7F800000#32) : At F main_while0b_call3_v13) = Step.b51 j s := by
  unfold Step.b51
  rw [← al_50 h]
  try rfl
theorem al_52 : (cmpf .oeq (res_main_while0b_v47 V0) (broadcastInDim S64x256 ![] bcast_S_S64x256 (constant S_ .f32 0x7F800000#32)) : At F main_while0b_call3_v14) = Step.b52 j s := by
  unfold Step.b52
  rw [← al_35 h, ← al_51 h]
  try rfl
theorem al_53 : (constant S_ .f32 0x00000000#32 : At F main_while0b_call3_cst_1) = Step.b53 j s := rfl
theorem al_54 : (broadcastInDim S64x256 ![] bcast_S_S64x256 (constant S_ .f32 0x00000000#32) : At F main_while0b_call3_v15) = Step.b54 j s := by
  unfold Step.b54
  rw [← al_53 h]
  try rfl
theorem al_55 : (select (cmpf .oeq (res_main_while0b_v47 V0) (broadcastInDim S64x256 ![] bcast_S_S64x256 (constant S_ .f32 0x7F800000#32))) (broadcastInDim S64x256 ![] bcast_S_S64x256 (constant S_ .f32 0x00000000#32)) (res_main_while0b_v47 V0) : At F main_while0b_call3_v16) = Step.b55 j s := by
  unfold Step.b55
  rw [← al_52 h, ← al_54 h, ← al_35 h]
  try rfl
theorem al_56 : (constant S_ .f32 0x7F800000#32 : At F main_while0b_call3_cst_2) = Step.b56 j s := rfl
theorem al_57 : (broadcastInDim S64x256 ![] bcast_S_S64x256 (constant S_ .f32 0x7F800000#32) : At F main_while0b_call3_v17) = Step.b57 j s := by
  unfold Step.b57
  rw [← al_56 h]
  try rfl
theorem al_58 : (cmpf .oeq (res_main_while0b_v48_0 V0) (broadcastInDim S64x256 ![] bcast_S_S64x256 (constant S_ .f32 0x7F800000#32)) : At F main_while0b_call3_v18) = Step.b58 j s := by
  unfold Step.b58
  rw [← al_49 h, ← al_57 h]
  try rfl
theorem al_59 : (constant S_ .f32 0x00000000#32 : At F main_while0b_call3_cst_3) = Step.b59 j s := rfl
theorem al_60 : (broadcastInDim S64x256 ![] bcast_S_S64x256 (constant S_ .f32 0x00000000#32) : At F main_while0b_call3_v19) = Step.b60 j s := by
  unfold Step.b60
  rw [← al_59 h]
  try rfl
theorem al_61 : (select (cmpf .oeq (res_main_while0b_v48_0 V0) (broadcastInDim S64x256 ![] bcast_S_S64x256 (constant S_ .f32 0x7F800000#32))) (broadcastInDim S64x256 ![] bcast_S_S64x256 (constant S_ .f32 0x00000000#32)) (res_main_while0b_v48_0 V0) : At F main_while0b_call3_v20) = Step.b61 j s := by
  unfold Step.b61
  rw [← al_58 h, ← al_60 h, ← al_49 h]
  try rfl
theorem al_62 : (subf (select (cmpf .oeq (res_main_while0b_v47 V0) (broadcastInDim S64x256 ![] bcast_S_S64x256 (constant S_ .f32 0x7F800000#32))) (broadcastInDim S64x256 ![] bcast_S_S64x256 (constant S_ .f32 0x00000000#32)) (res_main_while0b_v47 V0)) (select (cmpf .oeq (res_main_while0b_v48_0 V0) (broadcastInDim S64x256 ![] bcast_S_S64x256 (constant S_ .f32 0x7F800000#32))) (broadcastInDim S64x256 ![] bcast_S_S64x256 (constant S_ .f32 0x00000000#32)) (res_main_while0b_v48_0 V0)) : At F main_while0b_call3_v21) = Step.b62 j s := by
  unfold Step.b62
  rw [← al_55 h, ← al_61 h]
  try rfl
theorem al_63 : (Host.exp (subf (select (cmpf .oeq (res_main_while0b_v47 V0) (broadcastInDim S64x256 ![] bcast_S_S64x256 (constant S_ .f32 0x7F800000#32))) (broadcastInDim S64x256 ![] bcast_S_S64x256 (constant S_ .f32 0x00000000#32)) (res_main_while0b_v47 V0)) (select (cmpf .oeq (res_main_while0b_v48_0 V0) (broadcastInDim S64x256 ![] bcast_S_S64x256 (constant S_ .f32 0x7F800000#32))) (broadcastInDim S64x256 ![] bcast_S_S64x256 (constant S_ .f32 0x00000000#32)) (res_main_while0b_v48_0 V0))) : At F main_while0b_v48_1) = Step.b63 j s := by
  unfold Step.b63
  rw [← al_62 h]
  try rfl
theorem al_64 : (constant S_ .f32 0x00000000#32 : At F main_while0b_call3_cst_4) = Step.b64 j s := rfl
theorem al_65 : (constant S_ .f32 0x7F800000#32 : At F main_while0b_call3_cst_5) = Step.b65 j s := rfl
theorem al_66 : (cmpf .oeq (constant S_ .f32 0x00000000#32 : (⟨S_, .f32⟩ : BufTy).Contents (Elt F)) (constant S_ .f32 0x7F800000#32) : At F main_while0b_call3_v23) = Step.b66 j s := by
  unfold Step.b66
  rw [← al_64 h, ← al_65 h]
  try rfl
theorem al_67 : (constant S_ .f32 0x00000000#32 : At F main_while0b_call3_cst_6) = Step.b67 j s := rfl
theorem al_68 : (constant S_ .f32 0x00000000#32 : At F main_while0b_call3_cst_7) = Step.b68 j s := rfl
theorem al_69 : (select (cmpf .oeq (constant S_ .f32 0x00000000#32 : (⟨S_, .f32⟩ : BufTy).Contents (Elt F)) (constant S_ .f32 0x7F800000#32)) (constant S_ .f32 0x00000000#32) (constant S_ .f32 0x00000000#32) : At F main_while0b_call3_v24) = Step.b69 j s := by
  unfold Step.b69
  rw [← al_66 h, ← al_68 h, ← al_67 h]
  try rfl
theorem al_70 : (constant S_ .f32 0x7F800000#32 : At F main_while0b_call3_cst_8) = Step.b70 j s := rfl
theorem al_71 : (broadcastInDim S64x256 ![] bcast_S_S64x256 (constant S_ .f32 0x7F800000#32) : At F main_while0b_call3_v25) = Step.b71 j s := by
  unfold Step.b71
  rw [← al_70 h]
  try rfl
theorem al_72 : (cmpf .oeq (res_main_while0b_v48_0 V0) (broadcastInDim S64x256 ![] bcast_S_S64x256 (constant S_ .f32 0x7F800000#32)) : At F main_while0b_call3_v26) = Step.b72 j s := by
  unfold Step.b72
  rw [← al_49 h, ← al_71 h]
  try rfl
theorem al_73 : (constant S_ .f32 0x00000000#32 : At F main_while0b_call3_cst_9) = Step.b73 j s := rfl
theorem al_74 : (broadcastInDim S64x256 ![] bcast_S_S64x256 (constant S_ .f32 0x00000000#32) : At F main_while0b_call3_v27) = Step.b74 j s := by
  unfold Step.b74
  rw [← al_73 h]
  try rfl
theorem al_75 : (select (cmpf .oeq (res_main_while0b_v48_0 V0) (broadcastInDim S64x256 ![] bcast_S_S64x256 (constant S_ .f32 0x7F800000#32))) (broadcastInDim S64x256 ![] bcast_S_S64x256 (constant S_ .f32 0x00000000#32)) (res_main_while0b_v48_0 V0) : At F main_while0b_call3_v28) = Step.b75 j s := by
  unfold Step.b75
  rw [← al_72 h, ← al_74 h, ← al_49 h]
  try rfl
theorem al_76 : (broadcastInDim S64x256 ![] bcast_S_S64x256 (select (cmpf .oeq (constant S_ .f32 0x00000000#32 : (⟨S_, .f32⟩ : BufTy).Contents (Elt F)) (constant S_ .f32 0x7F800000#32)) (constant S_ .f32 0x00000000#32) (constant S_ .f32 0x00000000#32)) : At F main_while0b_call3_v29) = Step.b76 j s := by
  unfold Step.b76
  rw [← al_69 h]
  try rfl
theorem al_77 : (subf (broadcastInDim S64x256 ![] bcast_S_S64x256 (select (cmpf .oeq (constant S_ .f32 0x00000000#32 : (⟨S_, .f32⟩ : BufTy).Contents (Elt F)) (constant S_ .f32 0x7F800000#32)) (constant S_ .f32 0x00000000#32) (constant S_ .f32 0x00000000#32))) (select (cmpf .oeq (res_main_while0b_v48_0 V0) (broadcastInDim S64x256 ![] bcast_S_S64x256 (constant S_ .f32 0x7F800000#32))) (broadcastInDim S64x256 ![] bcast_S_S64x256 (constant S_ .f32 0x00000000#32)) (res_main_while0b_v48_0 V0)) : At F main_while0b_call3_v30) = Step.b77 j s := by
  unfold Step.b77
  rw [← al_76 h, ← al_75 h]
  try rfl
theorem al_78 : (Host.exp (subf (broadcastInDim S64x256 ![] bcast_S_S64x256 (select (cmpf .oeq (constant S_ .f32 0x00000000#32 : (⟨S_, .f32⟩ : BufTy).Contents (Elt F)) (constant S_ .f32 0x7F800000#32)) (constant S_ .f32 0x00000000#32) (constant S_ .f32 0x00000000#32))) (select (cmpf .oeq (res_main_while0b_v48_0 V0) (broadcastInDim S64x256 ![] bcast_S_S64x256 (constant S_ .f32 0x7F800000#32))) (broadcastInDim S64x256 ![] bcast_S_S64x256 (constant S_ .f32 0x00000000#32)) (res_main_while0b_v48_0 V0))) : At F main_while0b_call3_v31) = Step.b78 j s := by
  unfold Step.b78
  rw [← al_77 h]
  try rfl
theorem al_79 : (constant S_ .f32 0x00000000#32 : At F main_while0b_call3_cst_10) = Step.b79 j s := rfl
theorem al_80 : (broadcastInDim S64x256 ![] bcast_S_S64x256 (constant S_ .f32 0x00000000#32) : At F main_while0b_call3_v32) = Step.b80 j s := by
  unfold Step.b80
  rw [← al_79 h]
  try rfl
theorem al_81 : (mulf (broadcastInDim S64x256 ![] bcast_S_S64x256 (constant S_ .f32 0x00000000#32)) (Host.exp (subf (broadcastInDim S64x256 ![] bcast_S_S64x256 (select (cmpf .oeq (constant S_ .f32 0x00000000#32 : (⟨S_, .f32⟩ : BufTy).Contents (Elt F)) (constant S_ .f32 0x7F800000#32)) (constant S_ .f32 0x00000000#32) (constant S_ .f32 0x00000000#32))) (select (cmpf .oeq (res_main_while0b_v48_0 V0) (broadcastInDim S64x256 ![] bcast_S_S64x256 (constant S_ .f32 0x7F800000#32))) (broadcastInDim S64x256 ![] bcast_S_S64x256 (constant S_ .f32 0x00000000#32)) (res_main_while0b_v48_0 V0)))) : At F main_while0b_v48_2) = Step.b81 j s := by
  unfold Step.b81
  rw [← al_80 h, ← al_78 h]
  try rfl
theorem al_82 : (Host.negf (res_main_while0b_v48_0 V0) : At F main_while0b_v49) = Step.b82 j s := by
  unfold Step.b82
  rw [← al_49 h]
  try rfl
theorem al_83 : (constant S_ .f32 0x41800000#32 : At F main_while0b_cst_16) = Step.b83 j s := rfl
theorem al_84 : (broadcastInDim S64x256 ![] bcast_S_S64x256 (constant S_ .f32 0x41800000#32) : At F main_while0b_v50) = Step.b84 j s := by
  unfold Step.b84
  rw [← al_83 h]
  try rfl
theorem al_85 : (Host.divf (Host.negf (res_main_while0b_v48_0 V0)) (broadcastInDim S64x256 ![] bcast_S_S64x256 (constant S_ .f32 0x41800000#32)) : At F main_while0b_v51) = Step.b85 j s := by
  unfold Step.b85
  rw [← al_82 h, ← al_84 h]
  try rfl
theorem al_86 : (shapeCast S64x4x64 (Host.divf (Host.negf (res_main_while0b_v48_0 V0)) (broadcastInDim S64x256 ![] bcast_S_S64x256 (constant S_ .f32 0x41800000#32))) shapeCasts_S64x256_S64x4x64 : At F main_while0b_v52) = Step.b86 j s := by
  unfold Step.b86
  rw [← al_85 h]
  try rfl
theorem al_87 : (transpose S4x64x64 [1, 0, 2] (shapeCast S64x4x64 (Host.divf (Host.negf (res_main_while0b_v48_0 V0)) (broadcastInDim S64x256 ![] bcast_S_S64x256 (constant S_ .f32 0x41800000#32))) shapeCasts_S64x256_S64x4x64) transposes_S64x4x64_S4x64x64_1_0_2 : At F main_while0b_v53) = Step.b87 j s := by
  unfold Step.b87
  rw [← al_86 h]
  try rfl
theorem al_88 : (constant S_ .f32 0x00000000#32 : At F main_while0b_call4_call0_cst) = Step.b88 j s := rfl
theorem al_89 : (broadcastInDim S_ ![] bcast_S_S_ (constant S_ .f32 0x00000000#32) : At F main_while0b_call4_call0_v0) = Step.b89 j s := by
  unfold Step.b89
  rw [← al_88 h]
  try rfl
theorem al_90 : (res_main_while0b_v54 V0 : At F main_while0b_v54) = Step.b90 j s := by
  unfold res_main_while0b_v54 Step.b90
  rw [← al_87 h, ← al_89 h]
  try rfl
theorem al_91 : (res_main_while0b_v55 V0 : At F main_while0b_v55) = Step.b91 j s := by
  unfold res_main_while0b_v55 Step.b91
  rw [← al_90 h]
  try rfl
theorem al_92 : (res_main_while0b_v56 V0 : At F main_while0b_v56) = Step.b92 j s := by
  unfold res_main_while0b_v56 Step.b92
  rw [← al_90 h]
  try rfl
theorem al_93 : (res_main_while0b_v57 V0 : At F main_while0b_v57) = Step.b93 j s := by
  unfold res_main_while0b_v57 Step.b93
  rw [← al_25 h, ← al_92 h]
  try rfl
theorem al_94 : (Host.negf (res_main_while0b_v54 V0) : At F main_while0b_v58) = Step.b94 j s := by
  unfold Step.b94
  rw [← al_90 h]
  try rfl
theorem al_95 : (res_main_while0b_v59 V0 : At F main_while0b_v59) = Step.b95 j s := by
  unfold res_main_while0b_v59 Step.b95
  rw [← al_94 h]
  try rfl
theorem al_96 : (res_main_while0b_v60 V0 : At F main_while0b_v60) = Step.b96 j s := by
  unfold res_main_while0b_v60 Step.b96
  rw [← al_27 h, ← al_95 h]
  try rfl
theorem al_97 : (broadcastInDim S4x64x64 ![0, 1, 2] bcast_S4x1x64_S4x64x64_0_1_2 (res_main_while0b_v55 V0) : At F main_while0b_v61) = Step.b97 j s := by
  unfold Step.b97
  rw [← al_91 h]
  try rfl
theorem al_98 : (subf (broadcastInDim S4x64x64 ![0, 1, 2] bcast_S4x1x64_S4x64x64_0_1_2 (res_main_while0b_v55 V0)) (res_main_while0b_v54 V0) : At F main_while0b_v62) = Step.b98 j s := by
  unfold Step.b98
  rw [← al_97 h, ← al_90 h]
  try rfl
theorem al_99 : (res_main_while0b_v63 V0 : At F main_while0b_v63) = Step.b99 j s := by
  unfold res_main_while0b_v63 Step.b99
  rw [← al_98 h]
  try rfl
theorem al_100 : (res_main_while0b_v64 V0 : At F main_while0b_v64) = Step.b100 j s := by
  unfold res_main_while0b_v64 Step.b100
  rw [← al_27 h, ← al_99 h]
  try rfl
theorem al_101 : (constantI S_ 1 1#1 : At F main_while0b_c_17) = Step.b101 j s := rfl
theorem al_102 : (broadcastInDim S64x64 ![] bcast_S_S64x64 (constantI S_ 1 1#1) : At F main_while0b_v65) = Step.b102 j s := by
  unfold Step.b102
  rw [← al_101 h]
  try rfl
theorem al_103 : (iotaInDim S64x64 32 0 : At F main_while0b_call5_v0) = Step.b103 j s := rfl
theorem al_104 : (constantI S_ 32 0#32 : At F main_while0b_call5_c) = Step.b104 j s := rfl
theorem al_105 : (broadcastInDim S64x64 ![] bcast_S_S64x64 (constantI S_ 32 0#32) : At F main_while0b_call5_v1) = Step.b105 j s := by
  unfold Step.b105
  rw [← al_104 h]
  try rfl
theorem al_106 : (addi (iotaInDim S64x64 32 0) (broadcastInDim S64x64 ![] bcast_S_S64x64 (constantI S_ 32 0#32)) : At F main_while0b_call5_v2) = Step.b106 j s := by
  unfold Step.b106
  rw [← al_103 h, ← al_105 h]
  try rfl
theorem al_107 : (iotaInDim S64x64 32 1 : At F main_while0b_call5_v3) = Step.b107 j s := rfl
theorem al_108 : (cmpi .sge (addi (iotaInDim S64x64 32 0) (broadcastInDim S64x64 ![] bcast_S_S64x64 (constantI S_ 32 0#32))) (iotaInDim S64x64 32 1) : At F main_while0b_call5_v4) = Step.b108 j s := by
  unfold Step.b108
  rw [← al_106 h, ← al_107 h]
  try rfl
theorem al_109 : (constantI S_ 1 0#1 : At F main_while0b_call5_c_0) = Step.b109 j s := rfl
theorem al_110 : (broadcastInDim S64x64 ![] bcast_S_S64x64 (constantI S_ 1 0#1) : At F main_while0b_call5_v5) = Step.b110 j s := by
  unfold Step.b110
  rw [← al_109 h]
  try rfl
theorem al_111 : (select (cmpi .sge (addi (iotaInDim S64x64 32 0) (broadcastInDim S64x64 ![] bcast_S_S64x64 (constantI S_ 32 0#32))) (iotaInDim S64x64 32 1)) (broadcastInDim S64x64 ![] bcast_S_S64x64 (constantI S_ 1 1#1)) (broadcastInDim S64x64 ![] bcast_S_S64x64 (constantI S_ 1 0#1)) : At F main_while0b_v66) = Step.b111 j s := by
  unfold Step.b111
  rw [← al_108 h, ← al_102 h, ← al_110 h]
  try rfl
theorem al_112 : (Host.dotGeneral dot_S4x64x64_S4x64x64_S4x64x64_2_2_1_1_0_0 none (res_main_while0b_v57 V0) (res_main_while0b_v60 V0) : At F main_while0b_v67) = Step.b112 j s := by
  unfold Step.b112
  rw [← al_93 h, ← al_96 h]
  try rfl
theorem al_113 : (constant S_ .f32 0x00000000#32 : At F main_while0b_cst_18) = Step.b113 j s := rfl
theorem al_114 : (id (constant S_ .f32 0x00000000#32) : At F main_while0b_call6_v0) = Step.b114 j s := by
  unfold Step.b114
  rw [← al_113 h]
  try rfl
theorem al_115 : (res_main_while0b_v68_1 V0 : At F main_while0b_v68_1) = Step.b115 j s := by
  unfold res_main_while0b_v68_1 Step.b115
  rw [← al_111 h]
  try rfl
theorem al_116 : (broadcastInDim S4x64x64 ![] bcast_S_S4x64x64 (id (constant S_ .f32 0x00000000#32)) : At F main_while0b_call6_v2) = Step.b116 j s := by
  unfold Step.b116
  rw [← al_114 h]
  try rfl
theorem al_117 : (res_main_while0b_v68_0 V0 : At F main_while0b_v68_0) = Step.b117 j s := by
  unfold res_main_while0b_v68_0 Step.b117
  rw [← al_115 h, ← al_112 h, ← al_116 h]
  try rfl
theorem al_118 : (constant S_ .f32 0x00000000#32 : At F main_while0b_call6_cst) = Step.b118 j s := rfl
theorem al_119 : (broadcastInDim S4x64x64 ![] bcast_S_S4x64x64 (constant S_ .f32 0x00000000#32) : At F main_while0b_v68_2) = Step.b119 j s := by
  unfold Step.b119
  rw [← al_118 h]
  try rfl
theorem al_120 : (Host.dotGeneral dot_S4x64x64_S4x64x128_S4x64x128_2_1_1_2_0_0 none (res_main_while0b_v68_0 V0) (res_main_while0b_v41 V0) : At F main_while0b_v69) = Step.b120 j s := by
  unfold Step.b120
  rw [← al_117 h, ← al_29 h]
  try rfl
theorem al_121 : (Host.dotGeneral dot_S4x64x64_S4x64x128_S4x64x128_1_1_2_2_0_0 none (res_main_while0b_v64 V0) (res_main_while0b_v41 V0) : At F main_while0b_v70) = Step.b121 j s := by
  unfold Step.b121
  rw [← al_100 h, ← al_29 h]
  try rfl
theorem al_122 : (shapeCast S4x64 (res_main_while0b_v55 V0) shapeCasts_S4x1x64_S4x64 : At F main_while0b_v71) = Step.b122 j s := by
  unfold Step.b122
  rw [← al_91 h]
  try rfl
theorem al_123 : (res_main_while0b_v72 V0 : At F main_while0b_v72) = Step.b123 j s := by
  unfold res_main_while0b_v72 Step.b123
  rw [← al_122 h]
  try rfl
theorem al_124 : (Host.dotGeneral dot_S4x64x64_S4x64x128_S4x64x128_2_1_1_2_0_0 none (res_main_while0b_v57 V0) (res_main_while0b_v29 V0) : At F main_while0b_v73) = Step.b124 j s := by
  unfold Step.b124
  rw [← al_93 h, ← al_16 h]
  try rfl
theorem al_125 : (addf (Host.dotGeneral dot_S4x64x64_S4x64x128_S4x64x128_2_1_1_2_0_0 none (res_main_while0b_v68_0 V0) (res_main_while0b_v41 V0)) (Host.dotGeneral dot_S4x64x64_S4x64x128_S4x64x128_2_1_1_2_0_0 none (res_main_while0b_v57 V0) (res_main_while0b_v29 V0)) : At F main_while0b_v74) = Step.b125 j s := by
  unfold Step.b125
  rw [← al_120 h, ← al_124 h]
  try rfl
theorem al_126 : (transpose S64x4x128 [1, 0, 2] (addf (Host.dotGeneral dot_S4x64x64_S4x64x128_S4x64x128_2_1_1_2_0_0 none (res_main_while0b_v68_0 V0) (res_main_while0b_v41 V0)) (Host.dotGeneral dot_S4x64x64_S4x64x128_S4x64x128_2_1_1_2_0_0 none (res_main_while0b_v57 V0) (res_main_while0b_v29 V0))) transposes_S4x64x128_S64x4x128_1_0_2 : At F main_while0b_v75) = Step.b126 j s := by
  unfold Step.b126
  rw [← al_125 h]
  try rfl
theorem al_127 : (shapeCast S64x512 (transpose S64x4x128 [1, 0, 2] (addf (Host.dotGeneral dot_S4x64x64_S4x64x128_S4x64x128_2_1_1_2_0_0 none (res_main_while0b_v68_0 V0) (res_main_while0b_v41 V0)) (Host.dotGeneral dot_S4x64x64_S4x64x128_S4x64x128_2_1_1_2_0_0 none (res_main_while0b_v57 V0) (res_main_while0b_v29 V0))) transposes_S4x64x128_S64x4x128_1_0_2) shapeCasts_S64x4x128_S64x512 : At F main_while0b_v76) = Step.b127 j s := by
  unfold Step.b127
  rw [← al_126 h]
  try rfl
theorem al_128 : (res_main_while0b_v77 V0 : At F main_while0b_v77) = Step.b128 j s := by
  unfold res_main_while0b_v77 Step.b128
  rw [← al_123 h]
  try rfl
theorem al_129 : (broadcastInDim S4x64x128 ![0, 1, 2] bcast_S4x64x1_S4x64x128_0_1_2 (res_main_while0b_v77 V0) : At F main_while0b_v78) = Step.b129 j s := by
  unfold Step.b129
  rw [← al_128 h]
  try rfl
theorem al_130 : (mulf (broadcastInDim S4x64x128 ![0, 1, 2] bcast_S4x64x1_S4x64x128_0_1_2 (res_main_while0b_v77 V0)) (res_main_while0b_v29 V0) : At F main_while0b_v79) = Step.b130 j s := by
  unfold Step.b130
  rw [← al_129 h, ← al_16 h]
  try rfl
theorem al_131 : (addf (mulf (broadcastInDim S4x64x128 ![0, 1, 2] bcast_S4x64x1_S4x64x128_0_1_2 (res_main_while0b_v77 V0)) (res_main_while0b_v29 V0)) (Host.dotGeneral dot_S4x64x64_S4x64x128_S4x64x128_1_1_2_2_0_0 none (res_main_while0b_v64 V0) (res_main_while0b_v41 V0)) : At F main_while0b_v80) = Step.b131 j s := by
  unfold Step.b131
  rw [← al_130 h, ← al_121 h]
  try rfl
theorem al_132 : (broadcastInDim S4x64x128 ![0, 1, 2] bcast_S4x64x1_S4x64x128_0_1_2 (res_main_while0b_v77 V0) : At F main_while0b_v81) = Step.b132 j s := by
  unfold Step.b132
  rw [← al_128 h]
  try rfl
theorem al_133 : (mulf (broadcastInDim S4x64x128 ![0, 1, 2] bcast_S4x64x1_S4x64x128_0_1_2 (res_main_while0b_v77 V0)) (V0 (Proc.devRef .tc main_v16_6)) : At F main_while0b_v82) = Step.b133 j s := by
  unfold Step.b133
  rw [← al_132 h, h.f_6]
  try rfl
theorem al_134 : (mulf (V0 (Proc.devRef .tc main_v16_6)) (res_main_while0b_v29 V0) : At F main_while0b_v83) = Step.b134 j s := by
  unfold Step.b134
  rw [← al_16 h, h.f_6]
  try rfl
theorem al_135 : (constant S_ .f32 0x00000000#32 : At F main_while0b_cst_19) = Step.b135 j s := rfl
theorem al_136 : (Host.reduceAdd (mulf (V0 (Proc.devRef .tc main_v16_6)) (res_main_while0b_v29 V0)) (constant S_ .f32 0x00000000#32) reducesTo_S4x64x128_S4x64_d2 h_S_ : At F main_while0b_v84) = Step.b136 j s := by
  unfold Step.b136
  rw [← al_134 h, ← al_135 h]
  try rfl
theorem al_137 : (shapeCast S4x64x1 (Host.reduceAdd (mulf (V0 (Proc.devRef .tc main_v16_6)) (res_main_while0b_v29 V0)) (constant S_ .f32 0x00000000#32) reducesTo_S4x64x128_S4x64_d2 h_S_) shapeCasts_S4x64_S4x64x1 : At F main_while0b_v85) = Step.b137 j s := by
  unfold Step.b137
  rw [← al_136 h]
  try rfl
theorem al_138 : (constant S_ .f32 0x00000000#32 : At F main_while0b_cst_20) = Step.b138 j s := rfl
theorem al_139 : (Host.reduceAdd (shapeCast S4x64x1 (Host.reduceAdd (mulf (V0 (Proc.devRef .tc main_v16_6)) (res_main_while0b_v29 V0)) (constant S_ .f32 0x00000000#32) reducesTo_S4x64x128_S4x64_d2 h_S_) shapeCasts_S4x64_S4x64x1) (constant S_ .f32 0x00000000#32) reducesTo_S4x64x1_S4x64_d2 h_S_ : At F main_while0b_v86) = Step.b139 j s := by
  unfold Step.b139
  rw [← al_137 h, ← al_138 h]
  try rfl
theorem al_140 : (shapeCast S64x4x128 (shapeCast S64x512 (Host.dynamicSlice S1x64x512 (V0 (Proc.devRef .tc main_v16_1)) (fun k => (((![res_main_while0b_v26 V0, constantI S_ 32 0#32, constantI S_ 32 0#32] : Fin 3 → (⟨S_, .i32⟩ : BufTy).Contents (Elt F))) k (Shape.Idx.first h_S_)).toInt) sliceFits_S128x64x512_S1x64x512) shapeCasts_S1x64x512_S64x512) shapeCasts_S64x512_S64x4x128 : At F main_while0b_v87) = Step.b140 j s := by
  unfold Step.b140
  rw [← al_11 h]
  try rfl
theorem al_141 : (res_main_while0b_v88 V0 : At F main_while0b_v88) = Step.b141 j s := by
  unfold res_main_while0b_v88 Step.b141
  rw [← al_140 h]
  try rfl
theorem al_142 : (Host.dotGeneral dot_S4x64x128_S4x64x64_S4x128x64_1_1_2_2_0_0 none (res_main_while0b_v88 V0) (res_main_while0b_v57 V0) : At F main_while0b_v89) = Step.b142 j s := by
  unfold Step.b142
  rw [← al_141 h, ← al_93 h]
  try rfl
theorem al_143 : (transpose S4x64x128 [0, 2, 1] (Host.dotGeneral dot_S4x64x128_S4x64x64_S4x128x64_1_1_2_2_0_0 none (res_main_while0b_v88 V0) (res_main_while0b_v57 V0)) transposes_S4x128x64_S4x64x128_0_2_1 : At F main_while0b_v90) = Step.b143 j s := by
  unfold Step.b143
  rw [← al_142 h]
  try rfl
theorem al_144 : (addf (mulf (broadcastInDim S4x64x128 ![0, 1, 2] bcast_S4x64x1_S4x64x128_0_1_2 (res_main_while0b_v77 V0)) (V0 (Proc.devRef .tc main_v16_6))) (transpose S4x64x128 [0, 2, 1] (Host.dotGeneral dot_S4x64x128_S4x64x64_S4x128x64_1_1_2_2_0_0 none (res_main_while0b_v88 V0) (res_main_while0b_v57 V0)) transposes_S4x128x64_S4x64x128_0_2_1) : At F main_while0b_v91) = Step.b144 j s := by
  unfold Step.b144
  rw [← al_133 h, ← al_143 h]
  try rfl
theorem al_145 : (Host.dotGeneral dot_S4x64x128_S4x64x128_S4x64x64_2_2_1_1_0_0 none (res_main_while0b_v88 V0) (res_main_while0b_v29 V0) : At F main_while0b_v92) = Step.b145 j s := by
  unfold Step.b145
  rw [← al_141 h, ← al_16 h]
  try rfl
theorem al_146 : (mulf (Host.reduceAdd (shapeCast S4x64x1 (Host.reduceAdd (mulf (V0 (Proc.devRef .tc main_v16_6)) (res_main_while0b_v29 V0)) (constant S_ .f32 0x00000000#32) reducesTo_S4x64x128_S4x64_d2 h_S_) shapeCasts_S4x64_S4x64x1) (constant S_ .f32 0x00000000#32) reducesTo_S4x64x1_S4x64_d2 h_S_) (res_main_while0b_v72 V0) : At F main_while0b_v93) = Step.b146 j s := by
  unfold Step.b146
  rw [← al_139 h, ← al_123 h]
  try rfl
theorem al_147 : (broadcastInDim S4x1x64 ![0, 2] bcast_S4x64_S4x1x64_0_2 (mulf (Host.reduceAdd (shapeCast S4x64x1 (Host.reduceAdd (mulf (V0 (Proc.devRef .tc main_v16_6)) (res_main_while0b_v29 V0)) (constant S_ .f32 0x00000000#32) reducesTo_S4x64x128_S4x64_d2 h_S_) shapeCasts_S4x64_S4x64x1) (constant S_ .f32 0x00000000#32) reducesTo_S4x64x1_S4x64_d2 h_S_) (res_main_while0b_v72 V0)) : At F main_while0b_v94) = Step.b147 j s := by
  unfold Step.b147
  rw [← al_146 h]
  try rfl
theorem al_148 : (Host.dotGeneral dot_S4x64x128_S4x64x64_S4x128x64_1_2_2_1_0_0 none (V0 (Proc.devRef .tc main_v16_6)) (res_main_while0b_v64 V0) : At F main_while0b_v95) = Step.b148 j s := by
  unfold Step.b148
  rw [← al_100 h, h.f_6]
  try rfl
theorem al_149 : (transpose S4x64x128 [0, 2, 1] (Host.dotGeneral dot_S4x64x128_S4x64x64_S4x128x64_1_2_2_1_0_0 none (V0 (Proc.devRef .tc main_v16_6)) (res_main_while0b_v64 V0)) transposes_S4x128x64_S4x64x128_0_2_1 : At F main_while0b_v96) = Step.b149 j s := by
  unfold Step.b149
  rw [← al_148 h]
  try rfl
theorem al_150 : (Host.dotGeneral dot_S4x64x128_S4x64x128_S4x64x64_2_2_1_1_0_0 none (V0 (Proc.devRef .tc main_v16_6)) (res_main_while0b_v41 V0) : At F main_while0b_v97) = Step.b150 j s := by
  unfold Step.b150
  rw [← al_29 h, h.f_6]
  try rfl
theorem al_151 : (res_main_while0b_v98 V0 : At F main_while0b_v98) = Step.b151 j s := by
  unfold res_main_while0b_v98 Step.b151
  rw [← al_150 h]
  try rfl
theorem al_152 : (Host.dotGeneral dot_S4x64x128_S4x64x64_S4x128x64_1_1_2_2_0_0 none (res_main_while0b_v88 V0) (res_main_while0b_v68_0 V0) : At F main_while0b_v99) = Step.b152 j s := by
  unfold Step.b152
  rw [← al_141 h, ← al_117 h]
  try rfl
theorem al_153 : (transpose S4x64x128 [0, 2, 1] (Host.dotGeneral dot_S4x64x128_S4x64x64_S4x128x64_1_1_2_2_0_0 none (res_main_while0b_v88 V0) (res_main_while0b_v68_0 V0)) transposes_S4x128x64_S4x64x128_0_2_1 : At F main_while0b_v100) = Step.b153 j s := by
  unfold Step.b153
  rw [← al_152 h]
  try rfl
theorem al_154 : (addf (transpose S4x64x128 [0, 2, 1] (Host.dotGeneral dot_S4x64x128_S4x64x64_S4x128x64_1_2_2_1_0_0 none (V0 (Proc.devRef .tc main_v16_6)) (res_main_while0b_v64 V0)) transposes_S4x128x64_S4x64x128_0_2_1) (transpose S4x64x128 [0, 2, 1] (Host.dotGeneral dot_S4x64x128_S4x64x64_S4x128x64_1_1_2_2_0_0 none (res_main_while0b_v88 V0) (res_main_while0b_v68_0 V0)) transposes_S4x128x64_S4x64x128_0_2_1) : At F main_while0b_v101) = Step.b154 j s := by
  unfold Step.b154
  rw [← al_149 h, ← al_153 h]
  try rfl
theorem al_155 : (Host.dotGeneral dot_S4x64x128_S4x64x128_S4x64x64_2_2_1_1_0_0 none (res_main_while0b_v88 V0) (res_main_while0b_v41 V0) : At F main_while0b_v102) = Step.b155 j s := by
  unfold Step.b155
  rw [← al_141 h, ← al_29 h]
  try rfl
theorem al_156 : (constant S_ .f32 0x00000000#32 : At F main_while0b_call7_cst) = Step.b156 j s := rfl
theorem al_157 : (broadcastInDim S4x64x64 ![] bcast_S_S4x64x64 (constant S_ .f32 0x00000000#32) : At F main_while0b_call7_v0) = Step.b157 j s := by
  unfold Step.b157
  rw [← al_156 h]
  try rfl
theorem al_158 : (res_main_while0b_v103 V0 : At F main_while0b_v103) = Step.b158 j s := by
  unfold res_main_while0b_v103 Step.b158
  rw [← al_115 h, ← al_155 h, ← al_157 h]
  try rfl
theorem al_159 : (res_main_while0b_v104 V0 : At F main_while0b_v104) = Step.b159 j s := by
  unfold res_main_while0b_v104 Step.b159
  rw [← al_158 h, ← al_93 h]
  try rfl
theorem al_160 : (Host.dotGeneral dot_S4x64x64_S4x64x64_S4x64x64_2_1_1_2_0_0 none (res_main_while0b_v103 V0) (res_main_while0b_v60 V0) : At F main_while0b_v105) = Step.b160 j s := by
  unfold Step.b160
  rw [← al_158 h, ← al_96 h]
  try rfl
theorem al_161 : (res_main_while0b_v106 V0 : At F main_while0b_v106) = Step.b161 j s := by
  unfold res_main_while0b_v106 Step.b161
  rw [← al_145 h, ← al_160 h]
  try rfl
theorem al_162 : (mulf (res_main_while0b_v39 V0) (res_main_while0b_v98 V0) : At F main_while0b_v107) = Step.b162 j s := by
  unfold Step.b162
  rw [← al_27 h, ← al_151 h]
  try rfl
theorem al_163 : (mulf (res_main_while0b_v98 V0) (res_main_while0b_v63 V0) : At F main_while0b_v108) = Step.b163 j s := by
  unfold Step.b163
  rw [← al_151 h, ← al_99 h]
  try rfl
theorem al_164 : (res_main_while0b_v109 V0 : At F main_while0b_v109) = Step.b164 j s := by
  unfold res_main_while0b_v109 Step.b164
  rw [← al_162 h, ← al_99 h]
  try rfl
theorem al_165 : (constant S_ .f32 0x00000000#32 : At F main_while0b_cst_21) = Step.b165 j s := rfl
theorem al_166 : (Host.reduceAdd (res_main_while0b_v109 V0) (constant S_ .f32 0x00000000#32) reducesTo_S4x64x64_S4x64_d1 h_S_ : At F main_while0b_v110) = Step.b166 j s := by
  unfold Step.b166
  rw [← al_164 h, ← al_165 h]
  try rfl
theorem al_167 : (shapeCast S4x1x64 (Host.reduceAdd (res_main_while0b_v109 V0) (constant S_ .f32 0x00000000#32) reducesTo_S4x64x64_S4x64_d1 h_S_) shapeCasts_S4x64_S4x1x64 : At F main_while0b_v111) = Step.b167 j s := by
  unfold Step.b167
  rw [← al_166 h]
  try rfl
theorem al_168 : (Host.negf (res_main_while0b_v109 V0) : At F main_while0b_v112) = Step.b168 j s := by
  unfold Step.b168
  rw [← al_164 h]
  try rfl
theorem al_169 : (addf (broadcastInDim S4x1x64 ![0, 2] bcast_S4x64_S4x1x64_0_2 (mulf (Host.reduceAdd (shapeCast S4x64x1 (Host.reduceAdd (mulf (V0 (Proc.devRef .tc main_v16_6)) (res_main_while0b_v29 V0)) (constant S_ .f32 0x00000000#32) reducesTo_S4x64x128_S4x64_d2 h_S_) shapeCasts_S4x64_S4x64x1) (constant S_ .f32 0x00000000#32) reducesTo_S4x64x1_S4x64_d2 h_S_) (res_main_while0b_v72 V0))) (shapeCast S4x1x64 (Host.reduceAdd (res_main_while0b_v109 V0) (constant S_ .f32 0x00000000#32) reducesTo_S4x64x64_S4x64_d1 h_S_) shapeCasts_S4x64_S4x1x64) : At F main_while0b_v113) = Step.b169 j s := by
  unfold Step.b169
  rw [← al_147 h, ← al_167 h]
  try rfl
theorem al_170 : (mulf (res_main_while0b_v39 V0) (res_main_while0b_v104 V0) : At F main_while0b_v114) = Step.b170 j s := by
  unfold Step.b170
  rw [← al_27 h, ← al_159 h]
  try rfl
theorem al_171 : (mulf (res_main_while0b_v104 V0) (res_main_while0b_v59 V0) : At F main_while0b_v115) = Step.b171 j s := by
  unfold Step.b171
  rw [← al_159 h, ← al_95 h]
  try rfl
theorem al_172 : (addf (mulf (res_main_while0b_v98 V0) (res_main_while0b_v63 V0)) (mulf (res_main_while0b_v104 V0) (res_main_while0b_v59 V0)) : At F main_while0b_v116) = Step.b172 j s := by
  unfold Step.b172
  rw [← al_163 h, ← al_171 h]
  try rfl
theorem al_173 : (mulf (mulf (res_main_while0b_v39 V0) (res_main_while0b_v104 V0)) (res_main_while0b_v59 V0) : At F main_while0b_v117) = Step.b173 j s := by
  unfold Step.b173
  rw [← al_170 h, ← al_95 h]
  try rfl
theorem al_174 : (Host.negf (mulf (mulf (res_main_while0b_v39 V0) (res_main_while0b_v104 V0)) (res_main_while0b_v59 V0)) : At F main_while0b_v118) = Step.b174 j s := by
  unfold Step.b174
  rw [← al_173 h]
  try rfl
theorem al_175 : (addf (Host.negf (res_main_while0b_v109 V0)) (Host.negf (mulf (mulf (res_main_while0b_v39 V0) (res_main_while0b_v104 V0)) (res_main_while0b_v59 V0))) : At F main_while0b_v119) = Step.b175 j s := by
  unfold Step.b175
  rw [← al_168 h, ← al_174 h]
  try rfl
theorem al_176 : (mulf (res_main_while0b_v37 V0) (res_main_while0b_v106 V0) : At F main_while0b_v120) = Step.b176 j s := by
  unfold Step.b176
  rw [← al_25 h, ← al_161 h]
  try rfl
theorem al_177 : (mulf (res_main_while0b_v106 V0) (res_main_while0b_v56 V0) : At F main_while0b_v121) = Step.b177 j s := by
  unfold Step.b177
  rw [← al_161 h, ← al_92 h]
  try rfl
theorem al_178 : (mulf (mulf (res_main_while0b_v37 V0) (res_main_while0b_v106 V0)) (res_main_while0b_v56 V0) : At F main_while0b_v122) = Step.b178 j s := by
  unfold Step.b178
  rw [← al_176 h, ← al_92 h]
  try rfl
theorem al_179 : (addf (addf (Host.negf (res_main_while0b_v109 V0)) (Host.negf (mulf (mulf (res_main_while0b_v39 V0) (res_main_while0b_v104 V0)) (res_main_while0b_v59 V0)))) (mulf (mulf (res_main_while0b_v37 V0) (res_main_while0b_v106 V0)) (res_main_while0b_v56 V0)) : At F main_while0b_v123) = Step.b179 j s := by
  unfold Step.b179
  rw [← al_175 h, ← al_178 h]
  try rfl
theorem al_180 : (constant S_ .f32 0x00000000#32 : At F main_while0b_cst_22) = Step.b180 j s := rfl
theorem al_181 : (pad S4x64x64 ![0, 63, 0] ![0, 0, 0] ![0, 0, 0] (addf (broadcastInDim S4x1x64 ![0, 2] bcast_S4x64_S4x1x64_0_2 (mulf (Host.reduceAdd (shapeCast S4x64x1 (Host.reduceAdd (mulf (V0 (Proc.devRef .tc main_v16_6)) (res_main_while0b_v29 V0)) (constant S_ .f32 0x00000000#32) reducesTo_S4x64x128_S4x64_d2 h_S_) shapeCasts_S4x64_S4x64x1) (constant S_ .f32 0x00000000#32) reducesTo_S4x64x1_S4x64_d2 h_S_) (res_main_while0b_v72 V0))) (shapeCast S4x1x64 (Host.reduceAdd (res_main_while0b_v109 V0) (constant S_ .f32 0x00000000#32) reducesTo_S4x64x64_S4x64_d1 h_S_) shapeCasts_S4x64_S4x1x64)) (constant S_ .f32 0x00000000#32) pads_S4x1x64_S4x64x64_000_6300_000 h_S_ : At F main_while0b_v124) = Step.b181 j s := by
  unfold Step.b181
  rw [← al_169 h, ← al_180 h]
  try rfl
theorem al_182 : (addf (addf (addf (Host.negf (res_main_while0b_v109 V0)) (Host.negf (mulf (mulf (res_main_while0b_v39 V0) (res_main_while0b_v104 V0)) (res_main_while0b_v59 V0)))) (mulf (mulf (res_main_while0b_v37 V0) (res_main_while0b_v106 V0)) (res_main_while0b_v56 V0))) (pad S4x64x64 ![0, 63, 0] ![0, 0, 0] ![0, 0, 0] (addf (broadcastInDim S4x1x64 ![0, 2] bcast_S4x64_S4x1x64_0_2 (mulf (Host.reduceAdd (shapeCast S4x64x1 (Host.reduceAdd (mulf (V0 (Proc.devRef .tc main_v16_6)) (res_main_while0b_v29 V0)) (constant S_ .f32 0x00000000#32) reducesTo_S4x64x128_S4x64_d2 h_S_) shapeCasts_S4x64_S4x64x1) (constant S_ .f32 0x00000000#32) reducesTo_S4x64x1_S4x64_d2 h_S_) (res_main_while0b_v72 V0))) (shapeCast S4x1x64 (Host.reduceAdd (res_main_while0b_v109 V0) (constant S_ .f32 0x00000000#32) reducesTo_S4x64x64_S4x64_d1 h_S_) shapeCasts_S4x64_S4x1x64)) (constant S_ .f32 0x00000000#32) pads_S4x1x64_S4x64x64_000_6300_000 h_S_) : At F main_while0b_v125) = Step.b182 j s := by
  unfold Step.b182
  rw [← al_179 h, ← al_181 h]
  try rfl
theorem al_183 : (constant S_ .f32 0x00000000#32 : At F main_while0b_call8_call0_cst) = Step.b183 j s := rfl
theorem al_184 : (broadcastInDim S_ ![] bcast_S_S_ (constant S_ .f32 0x00000000#32) : At F main_while0b_call8_call0_v0) = Step.b184 j s := by
  unfold Step.b184
  rw [← al_183 h]
  try rfl
theorem al_185 : (Host.reduceWindowAdd ![1, 64, 1] ![1, 1, 1] ![0, 0, 0] ![0, 63, 0] (addf (addf (addf (Host.negf (res_main_while0b_v109 V0)) (Host.negf (mulf (mulf (res_main_while0b_v39 V0) (res_main_while0b_v104 V0)) (res_main_while0b_v59 V0)))) (mulf (mulf (res_main_while0b_v37 V0) (res_main_while0b_v106 V0)) (res_main_while0b_v56 V0))) (pad S4x64x64 ![0, 63, 0] ![0, 0, 0] ![0, 0, 0] (addf (broadcastInDim S4x1x64 ![0, 2] bcast_S4x64_S4x1x64_0_2 (mulf (Host.reduceAdd (shapeCast S4x64x1 (Host.reduceAdd (mulf (V0 (Proc.devRef .tc main_v16_6)) (res_main_while0b_v29 V0)) (constant S_ .f32 0x00000000#32) reducesTo_S4x64x128_S4x64_d2 h_S_) shapeCasts_S4x64_S4x64x1) (constant S_ .f32 0x00000000#32) reducesTo_S4x64x1_S4x64_d2 h_S_) (res_main_while0b_v72 V0))) (shapeCast S4x1x64 (Host.reduceAdd (res_main_while0b_v109 V0) (constant S_ .f32 0x00000000#32) reducesTo_S4x64x64_S4x64_d1 h_S_) shapeCasts_S4x64_S4x1x64)) (constant S_ .f32 0x00000000#32) pads_S4x1x64_S4x64x64_000_6300_000 h_S_)) (broadcastInDim S_ ![] bcast_S_S_ (constant S_ .f32 0x00000000#32)) reduceWindows_S4x64x64_S4x64x64_w1s1p0_0_w64s1p0_63_w1s1p0_0 h_S_ : At F main_while0b_v126) = Step.b185 j s := by
  unfold Step.b185
  rw [← al_182 h, ← al_184 h]
  try rfl
theorem al_186 : (transpose S64x4x64 [1, 0, 2] (Host.reduceWindowAdd ![1, 64, 1] ![1, 1, 1] ![0, 0, 0] ![0, 63, 0] (addf (addf (addf (Host.negf (res_main_while0b_v109 V0)) (Host.negf (mulf (mulf (res_main_while0b_v39 V0) (res_main_while0b_v104 V0)) (res_main_while0b_v59 V0)))) (mulf (mulf (res_main_while0b_v37 V0) (res_main_while0b_v106 V0)) (res_main_while0b_v56 V0))) (pad S4x64x64 ![0, 63, 0] ![0, 0, 0] ![0, 0, 0] (addf (broadcastInDim S4x1x64 ![0, 2] bcast_S4x64_S4x1x64_0_2 (mulf (Host.reduceAdd (shapeCast S4x64x1 (Host.reduceAdd (mulf (V0 (Proc.devRef .tc main_v16_6)) (res_main_while0b_v29 V0)) (constant S_ .f32 0x00000000#32) reducesTo_S4x64x128_S4x64_d2 h_S_) shapeCasts_S4x64_S4x64x1) (constant S_ .f32 0x00000000#32) reducesTo_S4x64x1_S4x64_d2 h_S_) (res_main_while0b_v72 V0))) (shapeCast S4x1x64 (Host.reduceAdd (res_main_while0b_v109 V0) (constant S_ .f32 0x00000000#32) reducesTo_S4x64x64_S4x64_d1 h_S_) shapeCasts_S4x64_S4x1x64)) (constant S_ .f32 0x00000000#32) pads_S4x1x64_S4x64x64_000_6300_000 h_S_)) (broadcastInDim S_ ![] bcast_S_S_ (constant S_ .f32 0x00000000#32)) reduceWindows_S4x64x64_S4x64x64_w1s1p0_0_w64s1p0_63_w1s1p0_0 h_S_) transposes_S4x64x64_S64x4x64_1_0_2 : At F main_while0b_v127) = Step.b186 j s := by
  unfold Step.b186
  rw [← al_185 h]
  try rfl
theorem al_187 : (shapeCast S64x256 (transpose S64x4x64 [1, 0, 2] (Host.reduceWindowAdd ![1, 64, 1] ![1, 1, 1] ![0, 0, 0] ![0, 63, 0] (addf (addf (addf (Host.negf (res_main_while0b_v109 V0)) (Host.negf (mulf (mulf (res_main_while0b_v39 V0) (res_main_while0b_v104 V0)) (res_main_while0b_v59 V0)))) (mulf (mulf (res_main_while0b_v37 V0) (res_main_while0b_v106 V0)) (res_main_while0b_v56 V0))) (pad S4x64x64 ![0, 63, 0] ![0, 0, 0] ![0, 0, 0] (addf (broadcastInDim S4x1x64 ![0, 2] bcast_S4x64_S4x1x64_0_2 (mulf (Host.reduceAdd (shapeCast S4x64x1 (Host.reduceAdd (mulf (V0 (Proc.devRef .tc main_v16_6)) (res_main_while0b_v29 V0)) (constant S_ .f32 0x00000000#32) reducesTo_S4x64x128_S4x64_d2 h_S_) shapeCasts_S4x64_S4x64x1) (constant S_ .f32 0x00000000#32) reducesTo_S4x64x1_S4x64_d2 h_S_) (res_main_while0b_v72 V0))) (shapeCast S4x1x64 (Host.reduceAdd (res_main_while0b_v109 V0) (constant S_ .f32 0x00000000#32) reducesTo_S4x64x64_S4x64_d1 h_S_) shapeCasts_S4x64_S4x1x64)) (constant S_ .f32 0x00000000#32) pads_S4x1x64_S4x64x64_000_6300_000 h_S_)) (broadcastInDim S_ ![] bcast_S_S_ (constant S_ .f32 0x00000000#32)) reduceWindows_S4x64x64_S4x64x64_w1s1p0_0_w64s1p0_63_w1s1p0_0 h_S_) transposes_S4x64x64_S64x4x64_1_0_2) shapeCasts_S64x4x64_S64x256 : At F main_while0b_v128) = Step.b187 j s := by
  unfold Step.b187
  rw [← al_186 h]
  try rfl
theorem al_188 : (constant S_ .f32 0x41800000#32 : At F main_while0b_cst_23) = Step.b188 j s := rfl
theorem al_189 : (broadcastInDim S64x256 ![] bcast_S_S64x256 (constant S_ .f32 0x41800000#32) : At F main_while0b_v129) = Step.b189 j s := by
  unfold Step.b189
  rw [← al_188 h]
  try rfl
theorem al_190 : (Host.divf (shapeCast S64x256 (transpose S64x4x64 [1, 0, 2] (Host.reduceWindowAdd ![1, 64, 1] ![1, 1, 1] ![0, 0, 0] ![0, 63, 0] (addf (addf (addf (Host.negf (res_main_while0b_v109 V0)) (Host.negf (mulf (mulf (res_main_while0b_v39 V0) (res_main_while0b_v104 V0)) (res_main_while0b_v59 V0)))) (mulf (mulf (res_main_while0b_v37 V0) (res_main_while0b_v106 V0)) (res_main_while0b_v56 V0))) (pad S4x64x64 ![0, 63, 0] ![0, 0, 0] ![0, 0, 0] (addf (broadcastInDim S4x1x64 ![0, 2] bcast_S4x64_S4x1x64_0_2 (mulf (Host.reduceAdd (shapeCast S4x64x1 (Host.reduceAdd (mulf (V0 (Proc.devRef .tc main_v16_6)) (res_main_while0b_v29 V0)) (constant S_ .f32 0x00000000#32) reducesTo_S4x64x128_S4x64_d2 h_S_) shapeCasts_S4x64_S4x64x1) (constant S_ .f32 0x00000000#32) reducesTo_S4x64x1_S4x64_d2 h_S_) (res_main_while0b_v72 V0))) (shapeCast S4x1x64 (Host.reduceAdd (res_main_while0b_v109 V0) (constant S_ .f32 0x00000000#32) reducesTo_S4x64x64_S4x64_d1 h_S_) shapeCasts_S4x64_S4x1x64)) (constant S_ .f32 0x00000000#32) pads_S4x1x64_S4x64x64_000_6300_000 h_S_)) (broadcastInDim S_ ![] bcast_S_S_ (constant S_ .f32 0x00000000#32)) reduceWindows_S4x64x64_S4x64x64_w1s1p0_0_w64s1p0_63_w1s1p0_0 h_S_) transposes_S4x64x64_S64x4x64_1_0_2) shapeCasts_S64x4x64_S64x256) (broadcastInDim S64x256 ![] bcast_S_S64x256 (constant S_ .f32 0x41800000#32)) : At F main_while0b_v130) = Step.b190 j s := by
  unfold Step.b190
  rw [← al_187 h, ← al_189 h]
  try rfl
theorem al_191 : (Host.negf (Host.divf (shapeCast S64x256 (transpose S64x4x64 [1, 0, 2] (Host.reduceWindowAdd ![1, 64, 1] ![1, 1, 1] ![0, 0, 0] ![0, 63, 0] (addf (addf (addf (Host.negf (res_main_while0b_v109 V0)) (Host.negf (mulf (mulf (res_main_while0b_v39 V0) (res_main_while0b_v104 V0)) (res_main_while0b_v59 V0)))) (mulf (mulf (res_main_while0b_v37 V0) (res_main_while0b_v106 V0)) (res_main_while0b_v56 V0))) (pad S4x64x64 ![0, 63, 0] ![0, 0, 0] ![0, 0, 0] (addf (broadcastInDim S4x1x64 ![0, 2] bcast_S4x64_S4x1x64_0_2 (mulf (Host.reduceAdd (shapeCast S4x64x1 (Host.reduceAdd (mulf (V0 (Proc.devRef .tc main_v16_6)) (res_main_while0b_v29 V0)) (constant S_ .f32 0x00000000#32) reducesTo_S4x64x128_S4x64_d2 h_S_) shapeCasts_S4x64_S4x64x1) (constant S_ .f32 0x00000000#32) reducesTo_S4x64x1_S4x64_d2 h_S_) (res_main_while0b_v72 V0))) (shapeCast S4x1x64 (Host.reduceAdd (res_main_while0b_v109 V0) (constant S_ .f32 0x00000000#32) reducesTo_S4x64x64_S4x64_d1 h_S_) shapeCasts_S4x64_S4x1x64)) (constant S_ .f32 0x00000000#32) pads_S4x1x64_S4x64x64_000_6300_000 h_S_)) (broadcastInDim S_ ![] bcast_S_S_ (constant S_ .f32 0x00000000#32)) reduceWindows_S4x64x64_S4x64x64_w1s1p0_0_w64s1p0_63_w1s1p0_0 h_S_) transposes_S4x64x64_S64x4x64_1_0_2) shapeCasts_S64x4x64_S64x256) (broadcastInDim S64x256 ![] bcast_S_S64x256 (constant S_ .f32 0x41800000#32))) : At F main_while0b_v131) = Step.b191 j s := by
  unfold Step.b191
  rw [← al_190 h]
  try rfl
theorem al_192 : (mulf (Host.negf (Host.divf (shapeCast S64x256 (transpose S64x4x64 [1, 0, 2] (Host.reduceWindowAdd ![1, 64, 1] ![1, 1, 1] ![0, 0, 0] ![0, 63, 0] (addf (addf (addf (Host.negf (res_main_while0b_v109 V0)) (Host.negf (mulf (mulf (res_main_while0b_v39 V0) (res_main_while0b_v104 V0)) (res_main_while0b_v59 V0)))) (mulf (mulf (res_main_while0b_v37 V0) (res_main_while0b_v106 V0)) (res_main_while0b_v56 V0))) (pad S4x64x64 ![0, 63, 0] ![0, 0, 0] ![0, 0, 0] (addf (broadcastInDim S4x1x64 ![0, 2] bcast_S4x64_S4x1x64_0_2 (mulf (Host.reduceAdd (shapeCast S4x64x1 (Host.reduceAdd (mulf (V0 (Proc.devRef .tc main_v16_6)) (res_main_while0b_v29 V0)) (constant S_ .f32 0x00000000#32) reducesTo_S4x64x128_S4x64_d2 h_S_) shapeCasts_S4x64_S4x64x1) (constant S_ .f32 0x00000000#32) reducesTo_S4x64x1_S4x64_d2 h_S_) (res_main_while0b_v72 V0))) (shapeCast S4x1x64 (Host.reduceAdd (res_main_while0b_v109 V0) (constant S_ .f32 0x00000000#32) reducesTo_S4x64x64_S4x64_d1 h_S_) shapeCasts_S4x64_S4x1x64)) (constant S_ .f32 0x00000000#32) pads_S4x1x64_S4x64x64_000_6300_000 h_S_)) (broadcastInDim S_ ![] bcast_S_S_ (constant S_ .f32 0x00000000#32)) reduceWindows_S4x64x64_S4x64x64_w1s1p0_0_w64s1p0_63_w1s1p0_0 h_S_) transposes_S4x64x64_S64x4x64_1_0_2) shapeCasts_S64x4x64_S64x256) (broadcastInDim S64x256 ![] bcast_S_S64x256 (constant S_ .f32 0x41800000#32)))) (Host.exp (subf (select (cmpf .oeq (res_main_while0b_v47 V0) (broadcastInDim S64x256 ![] bcast_S_S64x256 (constant S_ .f32 0x7F800000#32))) (broadcastInDim S64x256 ![] bcast_S_S64x256 (constant S_ .f32 0x00000000#32)) (res_main_while0b_v47 V0)) (select (cmpf .oeq (res_main_while0b_v48_0 V0) (broadcastInDim S64x256 ![] bcast_S_S64x256 (constant S_ .f32 0x7F800000#32))) (broadcastInDim S64x256 ![] bcast_S_S64x256 (constant S_ .f32 0x00000000#32)) (res_main_while0b_v48_0 V0)))) : At F main_while0b_v132) = Step.b192 j s := by
  unfold Step.b192
  rw [← al_191 h, ← al_63 h]
  try rfl
theorem al_193 : (res_main_while0b_v133 V0 : At F main_while0b_v133) = Step.b193 j s := by
  unfold res_main_while0b_v133 Step.b193
  rw [← al_192 h]
  try rfl
theorem al_194 : (constant S_ .f32 0x00000000#32 : At F main_while0b_cst_24) = Step.b194 j s := rfl
theorem al_195 : (Host.reduceAdd (res_main_while0b_v133 V0) (constant S_ .f32 0x00000000#32) reducesTo_S64x256_S256_d0 h_S_ : At F main_while0b_v134) = Step.b195 j s := by
  unfold Step.b195
  rw [← al_193 h, ← al_194 h]
  try rfl
theorem al_196 : (shapeCast S1x256 (Host.reduceAdd (res_main_while0b_v133 V0) (constant S_ .f32 0x00000000#32) reducesTo_S64x256_S256_d0 h_S_) shapeCasts_S256_S1x256 : At F main_while0b_v135) = Step.b196 j s := by
  unfold Step.b196
  rw [← al_195 h]
  try rfl
theorem al_197 : (constant S_ .f32 0x00000000#32 : At F main_while0b_cst_25) = Step.b197 j s := rfl
theorem al_198 : (Host.reduceAdd (shapeCast S1x256 (Host.reduceAdd (res_main_while0b_v133 V0) (constant S_ .f32 0x00000000#32) reducesTo_S64x256_S256_d0 h_S_) shapeCasts_S256_S1x256) (constant S_ .f32 0x00000000#32) reducesTo_S1x256_S256_d0 h_S_ : At F main_while0b_v136) = Step.b198 j s := by
  unfold Step.b198
  rw [← al_196 h, ← al_197 h]
  try rfl
theorem al_199 : (Host.dotGeneral dot_S64x256_S64x16_S256x16_0_0_1_1_n_n none (res_main_while0b_v133 V0) (res_main_while0b_v42 V0) : At F main_while0b_v137) = Step.b199 j s := by
  unfold Step.b199
  rw [← al_193 h, ← al_30 h]
  try rfl
theorem al_200 : (transpose S16x256 [1, 0] (Host.dotGeneral dot_S64x256_S64x16_S256x16_0_0_1_1_n_n none (res_main_while0b_v133 V0) (res_main_while0b_v42 V0)) transposes_S256x16_S16x256_1_0 : At F main_while0b_v138) = Step.b200 j s := by
  unfold Step.b200
  rw [← al_199 h]
  try rfl
theorem al_201 : (Host.dotGeneral dot_S64x256_S16x256_S64x16_1_1_0_0_n_n none (res_main_while0b_v133 V0) (V0 (Proc.devRef .tc main_v16_3)) : At F main_while0b_v139) = Step.b201 j s := by
  unfold Step.b201
  rw [← al_193 h, h.f_3]
  try rfl
theorem al_202 : (constant S_ .f32 0x00000000#32 : At F main_while0b_cst_26) = Step.b202 j s := rfl
theorem al_203 : (pad S64x128 ![0, 0] ![0, 112] ![0, 0] (Host.dotGeneral dot_S64x256_S16x256_S64x16_1_1_0_0_n_n none (res_main_while0b_v133 V0) (V0 (Proc.devRef .tc main_v16_3))) (constant S_ .f32 0x00000000#32) pads_S64x16_S64x128_000_01120 h_S_ : At F main_while0b_v140) = Step.b203 j s := by
  unfold Step.b203
  rw [← al_201 h, ← al_202 h]
  try rfl
theorem al_204 : (transpose S64x4x128 [1, 0, 2] (addf (transpose S4x64x128 [0, 2, 1] (Host.dotGeneral dot_S4x64x128_S4x64x64_S4x128x64_1_2_2_1_0_0 none (V0 (Proc.devRef .tc main_v16_6)) (res_main_while0b_v64 V0)) transposes_S4x128x64_S4x64x128_0_2_1) (transpose S4x64x128 [0, 2, 1] (Host.dotGeneral dot_S4x64x128_S4x64x64_S4x128x64_1_1_2_2_0_0 none (res_main_while0b_v88 V0) (res_main_while0b_v68_0 V0)) transposes_S4x128x64_S4x64x128_0_2_1)) transposes_S4x64x128_S64x4x128_1_0_2 : At F main_while0b_v141) = Step.b204 j s := by
  unfold Step.b204
  rw [← al_154 h]
  try rfl
theorem al_205 : (shapeCast S64x512 (transpose S64x4x128 [1, 0, 2] (addf (transpose S4x64x128 [0, 2, 1] (Host.dotGeneral dot_S4x64x128_S4x64x64_S4x128x64_1_2_2_1_0_0 none (V0 (Proc.devRef .tc main_v16_6)) (res_main_while0b_v64 V0)) transposes_S4x128x64_S4x64x128_0_2_1) (transpose S4x64x128 [0, 2, 1] (Host.dotGeneral dot_S4x64x128_S4x64x64_S4x128x64_1_1_2_2_0_0 none (res_main_while0b_v88 V0) (res_main_while0b_v68_0 V0)) transposes_S4x128x64_S4x64x128_0_2_1)) transposes_S4x64x128_S64x4x128_1_0_2) shapeCasts_S64x4x128_S64x512 : At F main_while0b_v142) = Step.b205 j s := by
  unfold Step.b205
  rw [← al_204 h]
  try rfl
theorem al_206 : (transpose S64x4x64 [1, 0, 2] (addf (mulf (res_main_while0b_v98 V0) (res_main_while0b_v63 V0)) (mulf (res_main_while0b_v104 V0) (res_main_while0b_v59 V0))) transposes_S4x64x64_S64x4x64_1_0_2 : At F main_while0b_v143) = Step.b206 j s := by
  unfold Step.b206
  rw [← al_172 h]
  try rfl
theorem al_207 : (shapeCast S64x256 (transpose S64x4x64 [1, 0, 2] (addf (mulf (res_main_while0b_v98 V0) (res_main_while0b_v63 V0)) (mulf (res_main_while0b_v104 V0) (res_main_while0b_v59 V0))) transposes_S4x64x64_S64x4x64_1_0_2) shapeCasts_S64x4x64_S64x256 : At F main_while0b_v144) = Step.b207 j s := by
  unfold Step.b207
  rw [← al_206 h]
  try rfl
theorem al_208 : (constant S_ .f32 0x3E000000#32 : At F main_while0b_cst_27) = Step.b208 j s := rfl
theorem al_209 : (broadcastInDim S4x64x64 ![] bcast_S_S4x64x64 (constant S_ .f32 0x3E000000#32) : At F main_while0b_v145) = Step.b209 j s := by
  unfold Step.b209
  rw [← al_208 h]
  try rfl
theorem al_210 : (mulf (mulf (res_main_while0b_v106 V0) (res_main_while0b_v56 V0)) (broadcastInDim S4x64x64 ![] bcast_S_S4x64x64 (constant S_ .f32 0x3E000000#32)) : At F main_while0b_v146) = Step.b210 j s := by
  unfold Step.b210
  rw [← al_177 h, ← al_209 h]
  try rfl
theorem al_211 : (transpose S64x4x64 [1, 0, 2] (mulf (mulf (res_main_while0b_v106 V0) (res_main_while0b_v56 V0)) (broadcastInDim S4x64x64 ![] bcast_S_S4x64x64 (constant S_ .f32 0x3E000000#32))) transposes_S4x64x64_S64x4x64_1_0_2 : At F main_while0b_v147) = Step.b211 j s := by
  unfold Step.b211
  rw [← al_210 h]
  try rfl
theorem al_212 : (shapeCast S64x256 (transpose S64x4x64 [1, 0, 2] (mulf (mulf (res_main_while0b_v106 V0) (res_main_while0b_v56 V0)) (broadcastInDim S4x64x64 ![] bcast_S_S4x64x64 (constant S_ .f32 0x3E000000#32))) transposes_S4x64x64_S64x4x64_1_0_2) shapeCasts_S64x4x64_S64x256 : At F main_while0b_v148) = Step.b212 j s := by
  unfold Step.b212
  rw [← al_211 h]
  try rfl
theorem al_213 : (addf (V0 (Proc.devRef .tc main_v16_7)) (transpose S16x256 [1, 0] (Host.dotGeneral dot_S64x256_S64x16_S256x16_0_0_1_1_n_n none (res_main_while0b_v133 V0) (res_main_while0b_v42 V0)) transposes_S256x16_S16x256_1_0) : At F main_while0b_v149) = Step.b213 j s := by
  unfold Step.b213
  rw [← al_200 h, h.f_7]
  try rfl
theorem al_214 : (addf (V0 (Proc.devRef .tc main_v16_8)) (Host.reduceAdd (shapeCast S1x256 (Host.reduceAdd (res_main_while0b_v133 V0) (constant S_ .f32 0x00000000#32) reducesTo_S64x256_S256_d0 h_S_) shapeCasts_S256_S1x256) (constant S_ .f32 0x00000000#32) reducesTo_S1x256_S256_d0 h_S_) : At F main_while0b_v150) = Step.b214 j s := by
  unfold Step.b214
  rw [← al_198 h, h.f_8]
  try rfl
theorem al_215 : ((concatenate S64x1152 1 [⟨S64x256, ((shapeCast S64x256 (transpose S64x4x64 [1, 0, 2] (mulf (mulf (res_main_while0b_v106 V0) (res_main_while0b_v56 V0)) (broadcastInDim S4x64x64 ![] bcast_S_S4x64x64 (constant S_ .f32 0x3E000000#32))) transposes_S4x64x64_S64x4x64_1_0_2) shapeCasts_S64x4x64_S64x256) : (⟨S64x256, .f32⟩ : BufTy).Contents (Elt F))⟩, ⟨S64x256, ((shapeCast S64x256 (transpose S64x4x64 [1, 0, 2] (addf (mulf (res_main_while0b_v98 V0) (res_main_while0b_v63 V0)) (mulf (res_main_while0b_v104 V0) (res_main_while0b_v59 V0))) transposes_S4x64x64_S64x4x64_1_0_2) shapeCasts_S64x4x64_S64x256) : (⟨S64x256, .f32⟩ : BufTy).Contents (Elt F))⟩, ⟨S64x512, ((shapeCast S64x512 (transpose S64x4x128 [1, 0, 2] (addf (transpose S4x64x128 [0, 2, 1] (Host.dotGeneral dot_S4x64x128_S4x64x64_S4x128x64_1_2_2_1_0_0 none (V0 (Proc.devRef .tc main_v16_6)) (res_main_while0b_v64 V0)) transposes_S4x128x64_S4x64x128_0_2_1) (transpose S4x64x128 [0, 2, 1] (Host.dotGeneral dot_S4x64x128_S4x64x64_S4x128x64_1_1_2_2_0_0 none (res_main_while0b_v88 V0) (res_main_while0b_v68_0 V0)) transposes_S4x128x64_S4x64x128_0_2_1)) transposes_S4x64x128_S64x4x128_1_0_2) shapeCasts_S64x4x128_S64x512) : (⟨S64x512, .f32⟩ : BufTy).Contents (Elt F))⟩, ⟨S64x128, ((pad S64x128 ![0, 0] ![0, 112] ![0, 0] (Host.dotGeneral dot_S64x256_S16x256_S64x16_1_1_0_0_n_n none (res_main_while0b_v133 V0) (V0 (Proc.devRef .tc main_v16_3))) (constant S_ .f32 0x00000000#32) pads_S64x16_S64x128_000_01120 h_S_) : (⟨S64x128, .f32⟩ : BufTy).Contents (Elt F))⟩] concatenates_S64x256_S64x256_S64x512_S64x128_S64x1152_d1 : (⟨S64x1152, .f32⟩ : BufTy).Contents (Elt F)) : At F main_while0b_v151) = Step.b215 j s := by
  unfold Step.b215
  rw [← al_212 h, ← al_207 h, ← al_205 h, ← al_203 h]
  try rfl
theorem al_216 : (broadcastInDim S1x64x1152 ![1, 2] bcast_S64x1152_S1x64x1152_1_2 ((concatenate S64x1152 1 [⟨S64x256, ((shapeCast S64x256 (transpose S64x4x64 [1, 0, 2] (mulf (mulf (res_main_while0b_v106 V0) (res_main_while0b_v56 V0)) (broadcastInDim S4x64x64 ![] bcast_S_S4x64x64 (constant S_ .f32 0x3E000000#32))) transposes_S4x64x64_S64x4x64_1_0_2) shapeCasts_S64x4x64_S64x256) : (⟨S64x256, .f32⟩ : BufTy).Contents (Elt F))⟩, ⟨S64x256, ((shapeCast S64x256 (transpose S64x4x64 [1, 0, 2] (addf (mulf (res_main_while0b_v98 V0) (res_main_while0b_v63 V0)) (mulf (res_main_while0b_v104 V0) (res_main_while0b_v59 V0))) transposes_S4x64x64_S64x4x64_1_0_2) shapeCasts_S64x4x64_S64x256) : (⟨S64x256, .f32⟩ : BufTy).Contents (Elt F))⟩, ⟨S64x512, ((shapeCast S64x512 (transpose S64x4x128 [1, 0, 2] (addf (transpose S4x64x128 [0, 2, 1] (Host.dotGeneral dot_S4x64x128_S4x64x64_S4x128x64_1_2_2_1_0_0 none (V0 (Proc.devRef .tc main_v16_6)) (res_main_while0b_v64 V0)) transposes_S4x128x64_S4x64x128_0_2_1) (transpose S4x64x128 [0, 2, 1] (Host.dotGeneral dot_S4x64x128_S4x64x64_S4x128x64_1_1_2_2_0_0 none (res_main_while0b_v88 V0) (res_main_while0b_v68_0 V0)) transposes_S4x128x64_S4x64x128_0_2_1)) transposes_S4x64x128_S64x4x128_1_0_2) shapeCasts_S64x4x128_S64x512) : (⟨S64x512, .f32⟩ : BufTy).Contents (Elt F))⟩, ⟨S64x128, ((pad S64x128 ![0, 0] ![0, 112] ![0, 0] (Host.dotGeneral dot_S64x256_S16x256_S64x16_1_1_0_0_n_n none (res_main_while0b_v133 V0) (V0 (Proc.devRef .tc main_v16_3))) (constant S_ .f32 0x00000000#32) pads_S64x16_S64x128_000_01120 h_S_) : (⟨S64x128, .f32⟩ : BufTy).Contents (Elt F))⟩] concatenates_S64x256_S64x256_S64x512_S64x128_S64x1152_d1 : (⟨S64x1152, .f32⟩ : BufTy).Contents (Elt F))) : At F main_while0b_call10_v0) = Step.b216 j s := by
  unfold Step.b216
  rw [← al_215 h]
  try rfl
theorem al_217 : (constantI S_ 32 0#32 : At F main_while0b_call10_c) = Step.b217 j s := rfl
theorem al_218 : (constantI S_ 32 0#32 : At F main_while0b_call10_c_0) = Step.b218 j s := rfl
theorem al_219 : (Host.dynamicUpdateSlice (V0 (Proc.devRef .tc main_v16_9)) (broadcastInDim S1x64x1152 ![1, 2] bcast_S64x1152_S1x64x1152_1_2 ((concatenate S64x1152 1 [⟨S64x256, ((shapeCast S64x256 (transpose S64x4x64 [1, 0, 2] (mulf (mulf (res_main_while0b_v106 V0) (res_main_while0b_v56 V0)) (broadcastInDim S4x64x64 ![] bcast_S_S4x64x64 (constant S_ .f32 0x3E000000#32))) transposes_S4x64x64_S64x4x64_1_0_2) shapeCasts_S64x4x64_S64x256) : (⟨S64x256, .f32⟩ : BufTy).Contents (Elt F))⟩, ⟨S64x256, ((shapeCast S64x256 (transpose S64x4x64 [1, 0, 2] (addf (mulf (res_main_while0b_v98 V0) (res_main_while0b_v63 V0)) (mulf (res_main_while0b_v104 V0) (res_main_while0b_v59 V0))) transposes_S4x64x64_S64x4x64_1_0_2) shapeCasts_S64x4x64_S64x256) : (⟨S64x256, .f32⟩ : BufTy).Contents (Elt F))⟩, ⟨S64x512, ((shapeCast S64x512 (transpose S64x4x128 [1, 0, 2] (addf (transpose S4x64x128 [0, 2, 1] (Host.dotGeneral dot_S4x64x128_S4x64x64_S4x128x64_1_2_2_1_0_0 none (V0 (Proc.devRef .tc main_v16_6)) (res_main_while0b_v64 V0)) transposes_S4x128x64_S4x64x128_0_2_1) (transpose S4x64x128 [0, 2, 1] (Host.dotGeneral dot_S4x64x128_S4x64x64_S4x128x64_1_1_2_2_0_0 none (res_main_while0b_v88 V0) (res_main_while0b_v68_0 V0)) transposes_S4x128x64_S4x64x128_0_2_1)) transposes_S4x64x128_S64x4x128_1_0_2) shapeCasts_S64x4x128_S64x512) : (⟨S64x512, .f32⟩ : BufTy).Contents (Elt F))⟩, ⟨S64x128, ((pad S64x128 ![0, 0] ![0, 112] ![0, 0] (Host.dotGeneral dot_S64x256_S16x256_S64x16_1_1_0_0_n_n none (res_main_while0b_v133 V0) (V0 (Proc.devRef .tc main_v16_3))) (constant S_ .f32 0x00000000#32) pads_S64x16_S64x128_000_01120 h_S_) : (⟨S64x128, .f32⟩ : BufTy).Contents (Elt F))⟩] concatenates_S64x256_S64x256_S64x512_S64x128_S64x1152_d1 : (⟨S64x1152, .f32⟩ : BufTy).Contents (Elt F)))) (fun k => (((![res_main_while0b_v26 V0, constantI S_ 32 0#32, constantI S_ 32 0#32] : Fin 3 → (⟨S_, .i32⟩ : BufTy).Contents (Elt F))) k (Shape.Idx.first h_S_)).toInt) updateFits_S128x64x1152_S1x64x1152 : At F main_while0b_v152) = Step.b219 j s := by
  unfold Step.b219
  rw [← al_216 h, ← al_3 h, ← al_217 h, ← al_218 h, h.f_9]
  try rfl

end

/-! One trip's step of the carried values is `step`, field by field; a counter steps to the next number. -/

theorem step_6 (h : Holds V0 s j) : step_main_v16_6 V0 = (step j s).main_v16_6 := by
  unfold step_main_v16_6 Step.step
  show id (addf (mulf (broadcastInDim S4x64x128 ![0, 1, 2] bcast_S4x64x1_S4x64x128_0_1_2 (res_main_while0b_v77 V0)) (V0 (Proc.devRef .tc main_v16_6))) (transpose S4x64x128 [0, 2, 1] (Host.dotGeneral dot_S4x64x128_S4x64x64_S4x128x64_1_1_2_2_0_0 none (res_main_while0b_v88 V0) (res_main_while0b_v57 V0)) transposes_S4x128x64_S4x64x128_0_2_1)) = _
  rw [al_144 h]
  try rfl
theorem step_7 (h : Holds V0 s j) : step_main_v16_7 V0 = (step j s).main_v16_7 := by
  unfold step_main_v16_7 Step.step
  show id (addf (V0 (Proc.devRef .tc main_v16_7)) (transpose S16x256 [1, 0] (Host.dotGeneral dot_S64x256_S64x16_S256x16_0_0_1_1_n_n none (res_main_while0b_v133 V0) (res_main_while0b_v42 V0)) transposes_S256x16_S16x256_1_0)) = _
  rw [al_213 h]
  try rfl
theorem step_8 (h : Holds V0 s j) : step_main_v16_8 V0 = (step j s).main_v16_8 := by
  unfold step_main_v16_8 Step.step
  show id (addf (V0 (Proc.devRef .tc main_v16_8)) (Host.reduceAdd (shapeCast S1x256 (Host.reduceAdd (res_main_while0b_v133 V0) (constant S_ .f32 0x00000000#32) reducesTo_S64x256_S256_d0 h_S_) shapeCasts_S256_S1x256) (constant S_ .f32 0x00000000#32) reducesTo_S1x256_S256_d0 h_S_)) = _
  rw [al_214 h]
  try rfl
theorem step_9 (h : Holds V0 s j) : step_main_v16_9 V0 = (step j s).main_v16_9 := by
  unfold step_main_v16_9 Step.step
  show id (Host.dynamicUpdateSlice (V0 (Proc.devRef .tc main_v16_9)) (broadcastInDim S1x64x1152 ![1, 2] bcast_S64x1152_S1x64x1152_1_2 ((concatenate S64x1152 1 [⟨S64x256, ((shapeCast S64x256 (transpose S64x4x64 [1, 0, 2] (mulf (mulf (res_main_while0b_v106 V0) (res_main_while0b_v56 V0)) (broadcastInDim S4x64x64 ![] bcast_S_S4x64x64 (constant S_ .f32 0x3E000000#32))) transposes_S4x64x64_S64x4x64_1_0_2) shapeCasts_S64x4x64_S64x256) : (⟨S64x256, .f32⟩ : BufTy).Contents (Elt F))⟩, ⟨S64x256, ((shapeCast S64x256 (transpose S64x4x64 [1, 0, 2] (addf (mulf (res_main_while0b_v98 V0) (res_main_while0b_v63 V0)) (mulf (res_main_while0b_v104 V0) (res_main_while0b_v59 V0))) transposes_S4x64x64_S64x4x64_1_0_2) shapeCasts_S64x4x64_S64x256) : (⟨S64x256, .f32⟩ : BufTy).Contents (Elt F))⟩, ⟨S64x512, ((shapeCast S64x512 (transpose S64x4x128 [1, 0, 2] (addf (transpose S4x64x128 [0, 2, 1] (Host.dotGeneral dot_S4x64x128_S4x64x64_S4x128x64_1_2_2_1_0_0 none (V0 (Proc.devRef .tc main_v16_6)) (res_main_while0b_v64 V0)) transposes_S4x128x64_S4x64x128_0_2_1) (transpose S4x64x128 [0, 2, 1] (Host.dotGeneral dot_S4x64x128_S4x64x64_S4x128x64_1_1_2_2_0_0 none (res_main_while0b_v88 V0) (res_main_while0b_v68_0 V0)) transposes_S4x128x64_S4x64x128_0_2_1)) transposes_S4x64x128_S64x4x128_1_0_2) shapeCasts_S64x4x128_S64x512) : (⟨S64x512, .f32⟩ : BufTy).Contents (Elt F))⟩, ⟨S64x128, ((pad S64x128 ![0, 0] ![0, 112] ![0, 0] (Host.dotGeneral dot_S64x256_S16x256_S64x16_1_1_0_0_n_n none (res_main_while0b_v133 V0) (V0 (Proc.devRef .tc main_v16_3))) (constant S_ .f32 0x00000000#32) pads_S64x16_S64x128_000_01120 h_S_) : (⟨S64x128, .f32⟩ : BufTy).Contents (Elt F))⟩] concatenates_S64x256_S64x256_S64x512_S64x128_S64x1152_d1 : (⟨S64x1152, .f32⟩ : BufTy).Contents (Elt F)))) (fun k => (((![res_main_while0b_v26 V0, constantI S_ 32 0#32, constantI S_ 32 0#32] : Fin 3 → (⟨S_, .i32⟩ : BufTy).Contents (Elt F))) k (Shape.Idx.first h_S_)).toInt) updateFits_S128x64x1152_S1x64x1152) = _
  exact al_219 h
theorem step_5 (h : Holds V0 s j) : step_main_v16_5 V0 = constantI S_ 32 (BitVec.ofNat 32 (j + 1)) := by
  unfold step_main_v16_5
  rw [h.n_5]
  funext i
  show BitVec.ofNat 32 j + 1#32 = BitVec.ofNat 32 (j + 1)
  simp only [BitVec.ofNat_add]

theorem out_main_v19_holds (h : Holds V0 s j) : out_main_v19 V0 = Step.R_main_v19 s := by
  unfold out_main_v19 Step.R_main_v19
  rw [h.f_9]
  try rfl

theorem out_main_v20_holds (h : Holds V0 s j) : out_main_v20 V0 = Step.R_main_v20 s := by
  unfold out_main_v20 Step.R_main_v20
  rw [h.f_9]
  try rfl

theorem out_main_v21_holds (h : Holds V0 s j) : out_main_v21 V0 = Step.R_main_v21 s := by
  unfold out_main_v21 Step.R_main_v21
  rw [h.f_9]
  try rfl

theorem out_main_v22_holds (h : Holds V0 s j) : out_main_v22 V0 = Step.R_main_v22 s := by
  unfold out_main_v22 Step.R_main_v22
  rw [h.f_9]
  try rfl

theorem out_main_v23_holds (h : Holds V0 s j) : out_main_v23 V0 = Step.R_main_v23 s := by
  unfold out_main_v23 Step.R_main_v23
  rw [h.f_7]
  try rfl

theorem out_main_v24_holds (h : Holds V0 s j) : out_main_v24 V0 = Step.R_main_v24 s := by
  unfold out_main_v24 Step.R_main_v24
  rw [h.f_8]
  try rfl

/-- One trip keeps the valuation holding: `step` of the state, the same set-up values, the next number. -/
theorem holds_step (h : Holds V0 s j) : Holds (STEP V0) (step j s) (j + 1) where
  f_6 := (STEP_main_v16_6 V0).trans (step_6 h)
  f_7 := (STEP_main_v16_7 V0).trans (step_7 h)
  f_8 := (STEP_main_v16_8 V0).trans (step_8 h)
  f_9 := (STEP_main_v16_9 V0).trans (step_9 h)
  n_5 := (STEP_main_v16_5 V0).trans (step_5 h)
  f_0 := (STEP_main_v16_0 V0).trans h.f_0
  f_1 := (STEP_main_v16_1 V0).trans h.f_1
  f_2 := (STEP_main_v16_2 V0).trans h.f_2
  f_3 := (STEP_main_v16_3 V0).trans h.f_3
  f_4 := (STEP_main_v16_4 V0).trans h.f_4

/-- The state the first trip starts from, of the memory the run starts from. -/
abbrev initState (m : (ℓ : Loc nD τ sig) → Buf (Elt F) ℓ) (c : Dev nD) : State F :=
  init (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))

variable (m : (ℓ : Loc nD τ sig) → Buf (Elt F) ℓ) (c : Dev nD)

set_option maxRecDepth 65536 in
set_option maxHeartbeats 400000 in
/-- What @main's operations before the loop leave: the set-up values, number 0, the initial state. -/
theorem entry_holds : Holds (entryContents preI m c) (initState m c) 0 := by
  constructor <;> (simp only [entryContents, afterL_cons, afterL_nil]; after_reads_simp) <;> rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- THE RESULTS as `step` iterated: every weakly fair execution of `ReferenceIdeal` terminates with each result at its field of state
    number 128 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v19) = Step.R_main_v19 (it c 128)
      ∧ r.2.mem ((c.tc : Thread nD τ).loc main_v20) = Step.R_main_v20 (it c 128)
      ∧ r.2.mem ((c.tc : Thread nD τ).loc main_v21) = Step.R_main_v21 (it c 128)
      ∧ r.2.mem ((c.tc : Thread nD τ).loc main_v22) = Step.R_main_v22 (it c 128)
      ∧ r.2.mem ((c.tc : Thread nD τ).loc main_v23) = Step.R_main_v23 (it c 128)
      ∧ r.2.mem ((c.tc : Thread nD τ).loc main_v24) = Step.R_main_v24 (it c 128)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    have hk := holds_iter m c (it c) (h0 c) (hs c) 128
    ⟨(h c).1.trans (out_main_v19_holds hk), (h c).2.1.trans (out_main_v20_holds hk), (h c).2.2.1.trans (out_main_v21_holds hk), (h c).2.2.2.1.trans (out_main_v22_holds hk), (h c).2.2.2.2.1.trans (out_main_v23_holds hk), (h c).2.2.2.2.2.1.trans (out_main_v24_holds hk), (h c).2.2.2.2.2.2.1, (h c).2.2.2.2.2.2.2.1, (h c).2.2.2.2.2.2.2.2.1, (h c).2.2.2.2.2.2.2.2.2.1, (h c).2.2.2.2.2.2.2.2.2.2⟩) (Value.run m ρ)

end Cert.ReferenceIdeal.RefRun

end
-- ==== Proof.Gla.Core.lean ====
/-
  What the kernel's body computes for one chunk of 64 tokens, as functions of the tiles it takes for it, and for the whole
  block of 512 tokens before and after its chunks.  The operations are the body's, in the body's order; the names are
  those of the mathematics.
-/
module

public import proofs.«01_k».proof.Proof.Gen.KernelIdeal.Skeleton

@[expose] public section

set_option maxRecDepth 16384

noncomputable section

namespace Gla.Core

open Idealize.ShloMosaic Cert.KernelIdeal Cert.KernelIdeal.Gen

variable {F : FTy → Type} [FloatOps F]

/-! The masks: the lanes of each head, the lower triangle of every head's scores, the blocks of the stacked state on
    the diagonal. -/

abbrev hd0 : IVec S1x256 1 := k0_pay15
abbrev hd1 : IVec S1x256 1 := k0_pay16
abbrev hd2 : IVec S1x256 1 := k0_pay17 k0_pay14
abbrev hd3 : IVec S1x256 1 := k0_pay18 k0_pay14
abbrev tri : IVec S256x64 1 := k0_pay13
abbrev diag : IVec S512x256 1 :=
  k0_pay24 k0_pay19 (iota .tc S512x256 32 [1] iota_S512x256_d1_w32) 64#32 k0_pay20 k0_pay21

/-- A head's lanes of a tile, zero elsewhere. -/
def keep (hd : IVec S1x256 1) (x : FVec F S64x256 .f32) : FVec F S64x256 .f32 :=
  select (broadcastTo S64x256 (shapeCast S1x256 hd shapeCasts_S1x256_S1x256) broadcasts_S1x256_S64x256) x
    (broadcast S64x256 (Scalar.ofBits .f32 0x00000000#32))

/-- The queries, head over head, each head's in its own lanes. -/
def stack (qin : FVec F S64x256 .f32) : FVec F S256x256 .bf16 :=
  truncf .bf16 (concatenate S256x256 0
    [⟨S64x256, keep hd0 qin⟩, ⟨S64x256, keep hd1 qin⟩, ⟨S64x256, keep hd2 qin⟩, ⟨S64x256, keep hd3 qin⟩]
    concatenates_S64x256_S64x256_S64x256_S64x256_S256x256_d0) bitsLt_bf16_f32

/-- The scores, head over head. -/
def scores (qin kin : FVec F S64x256 .f32) : FVec F S256x64 .bf16 :=
  truncf .bf16 (select tri
    (matmul dot_S256x256_S64x256_S256x64_1_1_0_0_n_n none (stack qin) (truncf .bf16 kin bitsLt_bf16_f32)
      (constant S256x64 .f32 0x00000000#32))
    (broadcast S256x64 (Scalar.ofBits .f32 0x00000000#32))) bitsLt_bf16_f32

/-- The scores' gradient, head over head. -/
def dscores (v o : FVec F S64x512 .bf16) : FVec F S256x64 .bf16 :=
  truncf .bf16 (select tri
    (concatenate S256x64 0
      [⟨S64x64, matmul dot_S64x128_S64x128_S64x64_1_1_0_0_n_n none
          (extractStridedSlice S64x128 ![0, 0] o slices_S64x512_o0_0_S64x128)
          (extractStridedSlice S64x128 ![0, 0] v slices_S64x512_o0_0_S64x128) (constant S64x64 .f32 0x00000000#32)⟩,
       ⟨S64x64, matmul dot_S64x128_S64x128_S64x64_1_1_0_0_n_n none
          (extractStridedSlice S64x128 ![0, 128] o slices_S64x512_o0_128_S64x128)
          (extractStridedSlice S64x128 ![0, 128] v slices_S64x512_o0_128_S64x128) (constant S64x64 .f32 0x00000000#32)⟩,
       ⟨S64x64, matmul dot_S64x128_S64x128_S64x64_1_1_0_0_n_n none
          (extractStridedSlice S64x128 ![0, 256] o slices_S64x512_o0_256_S64x128)
          (extractStridedSlice S64x128 ![0, 256] v slices_S64x512_o0_256_S64x128) (constant S64x64 .f32 0x00000000#32)⟩,
       ⟨S64x64, matmul dot_S64x128_S64x128_S64x64_1_1_0_0_n_n none
          (extractStridedSlice S64x128 ![0, 384] o slices_S64x512_o0_384_S64x128)
          (extractStridedSlice S64x128 ![0, 384] v slices_S64x512_o0_384_S64x128) (constant S64x64 .f32 0x00000000#32)⟩]
      concatenates_S64x64_S64x64_S64x64_S64x64_S256x64_d0)
    (broadcast S256x64 (Scalar.ofBits .f32 0x00000000#32))) bitsLt_bf16_f32

/-- The scores' part of the values' gradient. -/
def dvScores (sc : FVec F S256x64 .bf16) (o : FVec F S64x512 .bf16) : FVec F S64x512 .f32 :=
  concatenate S64x512 1
    [⟨S64x128, matmul dot_S64x64_S64x128_S64x128_0_0_1_1_n_n none
        (extractStridedSlice S64x64 ![0, 0] sc slices_S256x64_o0_0_S64x64)
        (extractStridedSlice S64x128 ![0, 0] o slices_S64x512_o0_0_S64x128) (constant S64x128 .f32 0x00000000#32)⟩,
     ⟨S64x128, matmul dot_S64x64_S64x128_S64x128_0_0_1_1_n_n none
        (extractStridedSlice S64x64 ![64, 0] sc slices_S256x64_o64_0_S64x64)
        (extractStridedSlice S64x128 ![0, 128] o slices_S64x512_o0_128_S64x128) (constant S64x128 .f32 0x00000000#32)⟩,
     ⟨S64x128, matmul dot_S64x64_S64x128_S64x128_0_0_1_1_n_n none
        (extractStridedSlice S64x64 ![128, 0] sc slices_S256x64_o128_0_S64x64)
        (extractStridedSlice S64x128 ![0, 256] o slices_S64x512_o0_256_S64x128) (constant S64x128 .f32 0x00000000#32)⟩,
     ⟨S64x128, matmul dot_S64x64_S64x128_S64x128_0_0_1_1_n_n none
        (extractStridedSlice S64x64 ![192, 0] sc slices_S256x64_o192_0_S64x64)
        (extractStridedSlice S64x128 ![0, 384] o slices_S64x512_o0_384_S64x128) (constant S64x128 .f32 0x00000000#32)⟩]
    concatenates_S64x128_S64x128_S64x128_S64x128_S64x512_d1

/-- The values' gradient. -/
def dv (qin kin kout : FVec F S64x256 .f32) (o : FVec F S64x512 .bf16) (ds : FVec F S512x256 .f32) :
    FVec F S64x512 .f32 :=
  addf (dvScores (scores qin kin) o)
    (matmul dot_S64x256_S512x256_S64x512_1_1_0_0_n_n none (truncf .bf16 kout bitsLt_bf16_f32)
      (truncf .bf16 ds bitsLt_bf16_f32) (constant S64x512 .f32 0x00000000#32))

/-- The scores' part of the queries' gradient, head over head. -/
def dqStack (kin : FVec F S64x256 .f32) (v o : FVec F S64x512 .bf16) : FVec F S256x256 .f32 :=
  matmul dot_S256x64_S64x256_S256x256_1_0_0_1_n_n none (dscores v o) (truncf .bf16 kin bitsLt_bf16_f32)
    (constant S256x256 .f32 0x00000000#32)

/-- The gradient of the scaled and decayed queries. -/
def dqin (kin : FVec F S64x256 .f32) (v o : FVec F S64x512 .bf16) (sp : FVec F S512x256 .bf16) :
    FVec F S64x256 .f32 :=
  addf (addf (addf (addf
    (matmul dot_S64x512_S512x256_S64x256_1_0_0_1_n_n none o sp (constant S64x256 .f32 0x00000000#32))
    (keep hd0 (extractStridedSlice S64x256 ![0, 0] (dqStack kin v o) slices_S256x256_o0_0_S64x256)))
    (keep hd1 (extractStridedSlice S64x256 ![64, 0] (dqStack kin v o) slices_S256x256_o64_0_S64x256)))
    (keep hd2 (extractStridedSlice S64x256 ![128, 0] (dqStack kin v o) slices_S256x256_o128_0_S64x256)))
    (keep hd3 (extractStridedSlice S64x256 ![192, 0] (dqStack kin v o) slices_S256x256_o192_0_S64x256))

/-- The gradient of the keys as they enter the scores. -/
def dkin (qin : FVec F S64x256 .f32) (v o : FVec F S64x512 .bf16) : FVec F S64x256 .f32 :=
  matmul dot_S256x64_S256x256_S64x256_0_0_1_1_n_n none (dscores v o) (stack qin) (constant S64x256 .f32 0x00000000#32)

/-- The gradient of the keys as they enter the state. -/
def dkout (v : FVec F S64x512 .bf16) (ds : FVec F S512x256 .f32) : FVec F S64x256 .f32 :=
  matmul dot_S64x512_S512x256_S64x256_1_0_0_1_n_n none v (truncf .bf16 ds bitsLt_bf16_f32)
    (constant S64x256 .f32 0x00000000#32)

/-- The gradient of the chunk's decay. -/
def ddec (sp : FVec F S512x256 .bf16) (ds : FVec F S512x256 .f32) : FVec F S1x256 .f32 :=
  shapeCast S1x256 (multiReduction .add [0] S256 (mulf ds (extf .f32 sp bitsLt_bf16_f32)) 0x00000000#32
    reduces_S512x256_S256 (.inl rfl) rfl) shapeCasts_S256_S1x256

/-- The gradient of the state before the chunk. -/
def dstate (dec : FVec F S1x256 .f32) (qin : FVec F S64x256 .f32) (o : FVec F S64x512 .bf16)
    (ds : FVec F S512x256 .f32) : FVec F S512x256 .f32 :=
  shapeCast S512x256 (addf (mulf ds (broadcastTo S512x256 dec broadcasts_S1x256_S512x256))
    (select diag
      (matmul dot_S64x512_S64x256_S512x256_0_0_1_1_n_n none o (truncf .bf16 qin bitsLt_bf16_f32)
        (constant S512x256 .f32 0x00000000#32))
      (broadcast S512x256 (Scalar.ofBits .f32 0x00000000#32)))) shapeCasts_S512x256_S512x256

/-- The queries' gradient. -/
def dq (e kin : FVec F S64x256 .f32) (v o : FVec F S64x512 .bf16) (sp : FVec F S512x256 .bf16) :
    FVec F S64x256 .bf16 :=
  truncf .bf16 (mulf (mulf (dqin kin v o sp) e) (broadcast S64x256 (Scalar.ofBits .f32 0x3E000000#32))) bitsLt_bf16_f32

/-- The keys' gradient. -/
def dk (einv eout qin : FVec F S64x256 .f32) (v o : FVec F S64x512 .bf16) (ds : FVec F S512x256 .f32) :
    FVec F S64x256 .bf16 :=
  truncf .bf16 (addf (mulf (dkin qin v o) einv) (mulf (dkout v ds) eout)) bitsLt_bf16_f32

/-- The gradient of the decay's running sum at each token. -/
def dcum (qin kin kout : FVec F S64x256 .f32) (v o : FVec F S64x512 .bf16) (sp : FVec F S512x256 .bf16)
    (ds : FVec F S512x256 .f32) : FVec F S64x256 .f32 :=
  subf (subf (mulf (dqin kin v o sp) qin) (mulf (dkin qin v o) kin)) (mulf (dkout v ds) kout)

/-- The gradient of the decay's running sum at the chunk's end, the same on every row. -/
def dcl (dec : FVec F S1x256 .f32) (kout : FVec F S64x256 .f32) (v : FVec F S64x512 .bf16) (sp : FVec F S512x256 .bf16)
    (ds : FVec F S512x256 .f32) : FVec F S64x256 .f32 :=
  broadcastTo S64x256 (shapeCast S1x256
    (addf (shapeCast S1x256 (multiReduction .add [0] S256 (mulf (dkout v ds) kout) 0x00000000#32
        reduces_S64x256_S256 (.inl rfl) rfl) shapeCasts_S256_S1x256)
      (mulf (ddec sp ds) dec)) shapeCasts_S1x256_S1x256) broadcasts_S1x256_S64x256

/-! The block of 512 tokens, eight chunks. -/

/-- What the body takes for a block: queries, keys, the gate's low-rank input, weight and bias, and for every chunk its
    values, its output's gradient and the state before it. -/
structure In (F : FTy → Type) where
  q : FVec F S512x256 .bf16
  k : FVec F S512x256 .bf16
  lr : FVec F S512x128 .bf16
  w : FVec F S1x128x256 .bf16
  b : FVec F S1x1x256 .f32
  v : Fin 8 → FVec F S64x512 .bf16
  o : Fin 8 → FVec F S64x512 .bf16
  s : Fin 8 → FVec F S1x512x256 .bf16

theorem slices64 : ∀ c : Fin 8, S512x256.Slices ![64 * c.val, 0] S64x256 := by decide
theorem slices8 : ∀ c : Fin 8, S512x256.Slices ![64 * c.val, 0] S8x256 := by decide

/-- A chunk's rows. -/
def rows (x : FVec F S512x256 .f32) (c : Fin 8) : FVec F S64x256 .f32 :=
  extractStridedSlice S64x256 ![64 * c.val, 0] x (slices64 c)

/-- Eight tiles, one below the other. -/
def pile (x : Fin 8 → FVec F S64x256 .f32) : FVec F S512x256 .f32 :=
  concatenate S512x256 0 [⟨S64x256, x 0⟩, ⟨S64x256, x 1⟩, ⟨S64x256, x 2⟩, ⟨S64x256, x 3⟩, ⟨S64x256, x 4⟩,
    ⟨S64x256, x 5⟩, ⟨S64x256, x 6⟩, ⟨S64x256, x 7⟩]
    concatenates_S64x256_S64x256_S64x256_S64x256_S64x256_S64x256_S64x256_S64x256_S512x256_d0

/-- A 0/1 matrix times a block, half by half, the block given as its rounding and what the rounding left. -/
def sums (t : FVec F S256x256 .bf16) (x : FVec F S512x256 .f32) : FVec F S512x256 .f32 :=
  let hi := truncf .bf16 x bitsLt_bf16_f32
  let lo := truncf .bf16 (subf x (extf .f32 hi bitsLt_bf16_f32)) bitsLt_bf16_f32
  concatenate S512x256 0
    [⟨S256x256, addf
        (matmul dot_S256x256_S256x256_S256x256_1_0_0_1_n_n none t
          (extractStridedSlice S256x256 ![0, 0] hi slices_S512x256_o0_0_S256x256) (constant S256x256 .f32 0x00000000#32))
        (matmul dot_S256x256_S256x256_S256x256_1_0_0_1_n_n none t
          (extractStridedSlice S256x256 ![0, 0] lo slices_S512x256_o0_0_S256x256) (constant S256x256 .f32 0x00000000#32))⟩,
     ⟨S256x256, addf
        (matmul dot_S256x256_S256x256_S256x256_1_0_0_1_n_n none t
          (extractStridedSlice S256x256 ![256, 0] hi slices_S512x256_o256_0_S256x256) (constant S256x256 .f32 0x00000000#32))
        (matmul dot_S256x256_S256x256_S256x256_1_0_0_1_n_n none t
          (extractStridedSlice S256x256 ![256, 0] lo slices_S512x256_o256_0_S256x256) (constant S256x256 .f32 0x00000000#32))⟩]
    concatenates_S256x256_S256x256_S512x256_d0

/-- Ones on and below the diagonal of each chunk's square. -/
abbrev low : FVec F S256x256 .bf16 :=
  k0_pay22 (k0_pay11 (iota .tc S256x256 32 [0] iota_S256x256_d0_w32) (iota .tc S256x256 32 [1] iota_S256x256_d1_w32)
    k0_pay6 64#32 k0_pay7 k0_pay8 k0_pay9)

/-- Ones on and above it. -/
abbrev upp : FVec F S256x256 .bf16 :=
  k0_pay23 (k0_pay12 (iota .tc S256x256 32 [0] iota_S256x256_d0_w32) (iota .tc S256x256 32 [1] iota_S256x256_d1_w32)
    k0_pay6 64#32 k0_pay7 k0_pay8 k0_pay9)

namespace In

variable (B : In F)

/-- The gate before its activation. -/
def pre : FVec F S512x256 .f32 :=
  addf (matmul dot_S512x128_S128x256_S512x256_1_0_0_1_n_n none B.lr
      (shapeCast S128x256 B.w shapeCasts_S1x128x256_S128x256) (constant S512x256 .f32 0x00000000#32))
    (broadcastTo S512x256 (shapeCast S1x256 B.b shapeCasts_S1x1x256_S1x256) broadcasts_S1x256_S512x256)

/-- The activation's derivative. -/
def dact : FVec F S512x256 .f32 :=
  divf (broadcast S512x256 (Scalar.ofBits .f32 0x3F800000#32))
    (addf (broadcast S512x256 (Scalar.ofBits .f32 0x3F800000#32)) (exp B.pre))

/-- The decay's logarithm. -/
def la : FVec F S512x256 .f32 :=
  mulf (subf (minimumf B.pre (broadcast S512x256 (Scalar.ofBits .f32 0x00000000#32)))
      (log (addf (broadcast S512x256 (Scalar.ofBits .f32 0x3F800000#32))
        (exp (subf (broadcast S512x256 (Scalar.ofBits .f32 0x00000000#32)) (absf B.pre))))))
    (broadcast S512x256 (Scalar.ofBits .f32 0x3D800000#32))

/-- Its running sum within each chunk. -/
def cum : FVec F S512x256 .f32 := sums low B.la

/-- The running sum at each chunk's end, on every row of the chunk. -/
def cl : FVec F S512x256 .f32 :=
  pile fun c => broadcastTo S64x256 (shapeCast S1x256 (shapeCast S1x256
    (multiReduction .minimumf [0] S256 (rows B.cum c) 0x7F800000#32 reduces_S64x256_S256 (.inl rfl) rfl)
    shapeCasts_S256_S1x256) shapeCasts_S1x256_S1x256) broadcasts_S1x256_S64x256

def e : FVec F S512x256 .f32 := exp B.cum
def einv : FVec F S512x256 .f32 := exp (subf (broadcast S512x256 (Scalar.ofBits .f32 0x00000000#32)) B.cum)
def eout : FVec F S512x256 .f32 := exp (subf B.cl B.cum)
def qin : FVec F S512x256 .f32 :=
  mulf (mulf (extf .f32 B.q bitsLt_bf16_f32) B.e) (broadcast S512x256 (Scalar.ofBits .f32 0x3E000000#32))
def kin : FVec F S512x256 .f32 := mulf (extf .f32 B.k bitsLt_bf16_f32) B.einv
def kout : FVec F S512x256 .f32 := mulf (extf .f32 B.k bitsLt_bf16_f32) B.eout

/-- A chunk's whole decay. -/
def dec (c : Fin 8) : FVec F S1x256 .f32 :=
  shapeCast S1x256 (multiReduction .maximumf [0] S256
    (extractStridedSlice S8x256 ![64 * c.val, 0] (exp B.cl) (slices8 c)) 0xFF800000#32 reduces_S8x256_S256 (.inl rfl) rfl)
    shapeCasts_S256_S1x256

/-- The state before a chunk. -/
def st (c : Fin 8) : FVec F S512x256 .bf16 := shapeCast S512x256 (B.s c) shapeCasts_S1x512x256_S512x256

/-- The chunk that is done after `n` others: the block is walked from its end. -/
def at' (n : ℕ) : Fin 8 := ⟨7 - n % 8, by omega⟩

/-- The state's gradient once `n` chunks are done, `d` before them. -/
def ds (d : FVec F S512x256 .f32) : ℕ → FVec F S512x256 .f32
  | 0 => d
  | n + 1 => dstate (B.dec (at' n)) (rows B.qin (at' n)) (B.o (at' n)) (ds d n)

/-! With `d` the state's gradient as it leaves chunk `c`: -/

def dq (c : Fin 8) : FVec F S64x256 .bf16 := Core.dq (rows B.e c) (rows B.kin c) (B.v c) (B.o c) (B.st c)
def dk (c : Fin 8) (d : FVec F S512x256 .f32) : FVec F S64x256 .bf16 :=
  Core.dk (rows B.einv c) (rows B.eout c) (rows B.qin c) (B.v c) (B.o c) d
def dv (c : Fin 8) (d : FVec F S512x256 .f32) : FVec F S64x512 .bf16 :=
  truncf .bf16 (Core.dv (rows B.qin c) (rows B.kin c) (rows B.kout c) (B.o c) d) bitsLt_bf16_f32
def dcum (c : Fin 8) (d : FVec F S512x256 .f32) : FVec F S64x256 .f32 :=
  Core.dcum (rows B.qin c) (rows B.kin c) (rows B.kout c) (B.v c) (B.o c) (B.st c) d
def dcl (c : Fin 8) (d : FVec F S512x256 .f32) : FVec F S64x256 .f32 :=
  Core.dcl (B.dec c) (rows B.kout c) (B.v c) (B.st c) d

/-! With `d` the state's gradient before the block: -/

variable (d : FVec F S512x256 .f32)

/-- The gradient of the gate before its activation. -/
def dpre : FVec F S512x256 .f32 :=
  mulf (mulf (addf (sums upp (pile fun c => B.dcum c (B.ds d (7 - c.val)))) (pile fun c => B.dcl c (B.ds d (7 - c.val)))) B.dact)
    (broadcast S512x256 (Scalar.ofBits .f32 0x3D800000#32))

/-- The gradient of the gate's low-rank input. -/
def dlr : FVec F S512x128 .bf16 :=
  truncf .bf16 (matmul dot_S512x256_S128x256_S512x128_1_1_0_0_n_n none (truncf .bf16 (B.dpre d) bitsLt_bf16_f32)
    (shapeCast S128x256 B.w shapeCasts_S1x128x256_S128x256) (constant S512x128 .f32 0x00000000#32)) bitsLt_bf16_f32

/-- The gate weight's gradient, added to what the blocks before left. -/
def dw (acc : FVec F S128x256 .f32) : FVec F S128x256 .f32 :=
  addf (shapeCast S128x256 acc shapeCasts_S128x256_S128x256)
    (matmul dot_S512x128_S512x256_S128x256_0_0_1_1_n_n none B.lr (truncf .bf16 (B.dpre d) bitsLt_bf16_f32)
      (constant S128x256 .f32 0x00000000#32))

/-- The gate bias's gradient, added to what the blocks before left. -/
def db (acc : FVec F S1x256 .f32) : FVec F S1x256 .f32 :=
  addf (shapeCast S1x256 acc shapeCasts_S1x256_S1x256)
    (shapeCast S1x256 (multiReduction .add [0] S256 (B.dpre d) 0x00000000#32 reduces_S512x256_S256 (.inl rfl) rfl)
      shapeCasts_S256_S1x256)

end In

end Gla.Core

end
-- ==== Proof.Gla.Reals.lean ====
/-
  The extended reals' operations on real numbers, and the host's running sums along the middle axis of a rank-three array.
-/
module

public import Idealize.ShloMosaic.Lib.Pointwise

@[expose] public section

set_option maxRecDepth 16384

noncomputable section

namespace Gla

open Idealize.ShloMosaic

theorem coe_sum {ι : Type*} (s : Finset ι) (f : ι → ℝ) : (∑ i ∈ s, (f i : EReal)) = ((∑ i ∈ s, f i : ℝ) : EReal) := by
  classical
  induction s using Finset.induction with
  | empty => simp
  | insert a s ha ih => rw [Finset.sum_insert ha, Finset.sum_insert ha, ih, EReal.coe_add]

theorem coe_sum_of {ι : Type*} (s : Finset ι) (F : ι → EReal) (f : ι → ℝ) (h : ∀ i ∈ s, F i = (f i : EReal)) :
    (∑ i ∈ s, F i) = ((∑ i ∈ s, f i : ℝ) : EReal) := by
  rw [Finset.sum_congr rfl h, coe_sum]

theorem coe_dot {n : ℕ} (F G : Fin n → EReal) (f g : Fin n → ℝ) (hF : ∀ i, F i = (f i : EReal)) (hG : ∀ i, G i = (g i : EReal)) :
    (∑ i, F i * G i) = ((∑ i, f i * g i : ℝ) : EReal) :=
  coe_sum_of _ _ _ fun i _ => by rw [hF, hG, EReal.coe_mul]

theorem coe_ite (p : Prop) [Decidable p] (a b : ℝ) : (if p then (a : EReal) else (b : EReal)) = ((if p then a else b : ℝ) : EReal) := by
  split <;> rfl

theorem coe_ite_zero (p : Prop) [Decidable p] (a : ℝ) : (if p then (a : EReal) else 0) = ((if p then a else 0 : ℝ) : EReal) := by
  split <;> simp

theorem exp_coe (r : ℝ) : Ideal.exp (r : EReal) = (Real.exp r : EReal) := rfl

theorem log_coe {r : ℝ} (h : 0 < r) : Ideal.log (r : EReal) = (Real.log r : EReal) := by
  show (if r ≤ 0 then (⊥ : EReal) else (Real.log r : EReal)) = _
  rw [if_neg (not_le.mpr h)]

theorem max_coe (a b : ℝ) : max (a : EReal) (b : EReal) = ((max a b : ℝ) : EReal) := (EReal.coe_strictMono.monotone.map_max).symm

theorem min_coe (a b : ℝ) : min (a : EReal) (b : EReal) = ((min a b : ℝ) : EReal) := (EReal.coe_strictMono.monotone.map_min).symm

theorem abs_coe (a : ℝ) : max (a : EReal) (-(a : EReal)) = ((|a| : ℝ) : EReal) := by
  rw [← EReal.coe_neg, max_coe]; rfl

theorem log1p_exp (r : ℝ) : Ideal.log1p (Ideal.exp (r : EReal)) = ((Real.log (1 + Real.exp r) : ℝ) : EReal) := by
  unfold Ideal.log1p
  rw [exp_coe, show (1 : EReal) = ((1 : ℝ) : EReal) from rfl, ← EReal.coe_add, log_coe (by have := Real.exp_pos r; linarith)]

theorem div_coe (a : ℝ) {b : ℝ} (hb : b ≠ 0) : Ideal.div (a : EReal) (b : EReal) = ((a / b : ℝ) : EReal) := by
  unfold Ideal.div
  rw [if_neg (by exact_mod_cast hb), ← EReal.coe_inv, ← EReal.coe_mul, div_eq_mul_inv]

theorem bits_eighth : Ideal.ofBits .f32 0x3E000000#32 = ((1 / 8 : ℝ) : EReal) := by
  simp [Ideal.ofBits, Ideal.ieee, -EReal.coe_mul]
  norm_num

theorem bits_sixteenth : Ideal.ofBits .f32 0x3D800000#32 = ((1 / 16 : ℝ) : EReal) := by
  simp [Ideal.ofBits, Ideal.ieee, -EReal.coe_mul]
  norm_num

theorem bits_sixteen : Ideal.ofBits .f32 0x41800000#32 = ((16 : ℝ) : EReal) := by
  simp [Ideal.ofBits, Ideal.ieee, -EReal.coe_mul]
  norm_num

theorem bits_top : Ideal.ofBits .f32 0x7F800000#32 = (⊤ : EReal) := by
  simp [Ideal.ofBits, Ideal.ieee]

theorem bits_bot : Ideal.ofBits .f32 0xFF800000#32 = (⊥ : EReal) := by
  simp [Ideal.ofBits, Ideal.ieee]

/-! The gate's activation, in the two spellings that occur. -/

theorem softplus_eq (a : ℝ) : max a 0 + Real.log (1 + Real.exp (-|a|)) = Real.log (1 + Real.exp a) := by
  have h0 : 0 < 1 + Real.exp (-|a|) := by have := Real.exp_pos (-|a|); linarith
  rcases le_total 0 a with h | h
  · rw [max_eq_left h, abs_of_nonneg h] at *
    have : Real.log (Real.exp a) = a := Real.log_exp a
    rw [← this, ← Real.log_mul (Real.exp_pos _).ne' (by rw [this]; exact h0.ne'), this, mul_add, ← Real.exp_add]
    simp [add_comm]
  · rw [max_eq_right h, abs_of_nonpos h, neg_neg, zero_add]

theorem logsigmoid_eq (p : ℝ) : min p 0 - Real.log (1 + Real.exp (0 - |p|)) = -Real.log (1 + Real.exp (-p)) := by
  have h := softplus_eq (-p)
  rw [abs_neg] at h
  rw [zero_sub, ← h]
  have : min p 0 = -max (-p) 0 := by rw [← min_neg_neg]; simp
  rw [this]; ring

theorem exp_sub_softplus (a : ℝ) : Real.exp (a - Real.log (1 + Real.exp a)) = 1 / (1 + Real.exp (-a)) := by
  have h0 : 0 < 1 + Real.exp a := by have := Real.exp_pos a; linarith
  rw [Real.exp_sub, Real.exp_log h0, Real.exp_neg]
  have := (Real.exp_pos a).ne'
  field_simp
  ring

/-! Running sums. -/

theorem foldl_add (n : ℕ) (g : Fin n → EReal) : (List.finRange n).foldl (fun r k => r + g k) 0 = ∑ k, g k := by
  rw [← List.sum_ofFn, List.ofFn_eq_map]
  generalize List.finRange n = L
  have : ∀ (z : EReal), L.foldl (fun r k => r + g k) z = z + (L.map g).sum := by
    induction L with
    | nil => intro z; simp
    | cons a L ih => intro z; rw [List.foldl_cons, ih, List.map_cons, List.sum_cons, add_assoc]
  rw [this, zero_add]

/-- The window of a running sum along the middle axis. -/
abbrev colWindow : Shape := ⟨3, ![1, 64, 1]⟩

theorem colWindow_mid : ∀ n : Fin colWindow.numel, (colWindow.rowMajor.symm n 1).val = n.val := by decide +kernel
theorem colWindow_fst (n : Fin colWindow.numel) : (colWindow.rowMajor.symm n 0).val = 0 := Nat.lt_one_iff.mp (colWindow.rowMajor.symm n 0).isLt
theorem colWindow_lst (n : Fin colWindow.numel) : (colWindow.rowMajor.symm n 2).val = 0 := Nat.lt_one_iff.mp (colWindow.rowMajor.symm n 2).isLt

theorem sum_shift_down (i : ℕ) (hi : i < 64) (f : ℕ → ℝ) :
    (∑ n : Fin 64, if 63 ≤ i + n.val then f (i + n.val - 63) else 0) = ∑ j : Fin 64, if j.val ≤ i then f j else 0 := by
  rw [← Finset.sum_filter, ← Finset.sum_filter]
  refine Finset.sum_bij' (fun n _ => ⟨i + n.val - 63, by omega⟩) (fun j hj => ⟨63 + j.val - i, by
    have := (Finset.mem_filter.mp hj).2; omega⟩) ?_ ?_ ?_ ?_ ?_
  · intro n hn; have := (Finset.mem_filter.mp hn).2; simp only [Finset.mem_filter, Finset.mem_univ, true_and]; omega
  · intro n hn; have := (Finset.mem_filter.mp hn).2; simp only [Finset.mem_filter, Finset.mem_univ, true_and]; omega
  · intro n hn; have := (Finset.mem_filter.mp hn).2; ext; simp only; omega
  · intro n hn; have := (Finset.mem_filter.mp hn).2; ext; simp only; omega
  · intro n _; rfl

theorem sum_shift_up (i : ℕ) (hi : i < 64) (f : ℕ → ℝ) :
    (∑ n : Fin 64, if i + n.val < 64 then f (i + n.val) else 0) = ∑ j : Fin 64, if i ≤ j.val then f j else 0 := by
  rw [← Finset.sum_filter, ← Finset.sum_filter]
  refine Finset.sum_bij' (fun n hn => ⟨i + n.val, (Finset.mem_filter.mp hn).2⟩) (fun j hj => ⟨j.val - i, by omega⟩) ?_ ?_ ?_ ?_ ?_
  · intro n hn; have := (Finset.mem_filter.mp hn).2; simp only [Finset.mem_filter, Finset.mem_univ, true_and]; omega
  · intro n hn; have := (Finset.mem_filter.mp hn).2; simp only [Finset.mem_filter, Finset.mem_univ, true_and]; omega
  · intro n hn; have := (Finset.mem_filter.mp hn).2; ext; simp only; omega
  · intro n hn; have := (Finset.mem_filter.mp hn).2; ext; simp only; omega
  · intro n _; rfl

/-- The running sum along the middle axis: the window of 64, padded low by 63. -/
theorem window_down {A C : ℕ} (x : Shape.Idx ⟨3, ![A, 64, C]⟩ → EReal) (init : EReal) (h0 : init = 0)
    (h : Shape.ReduceWindows ⟨3, ![A, 64, C]⟩ (![1, 64, 1] : Fin 3 → Nat) ![1, 1, 1] ![0, 63, 0] ![0, 0, 0] ⟨3, ![A, 64, C]⟩)
    (a : Fin A) (i : Fin 64) (c : Fin C) (f : ℕ → ℝ) (hx : ∀ j : Fin 64, x (ix3 a j c) = (f j : EReal)) :
    Ideal.hostReduceWindowAdd ![1, 64, 1] ![1, 1, 1] ![0, 63, 0] ![0, 0, 0] h x init (ix3 a i c)
      = ((∑ j : Fin 64, if j.val ≤ i.val then f j else 0 : ℝ) : EReal) := by
  subst h0
  unfold Ideal.hostReduceWindowAdd Host.reduceWindow
  dsimp only
  refine (foldl_add _ _).trans ?_
  rw [← sum_shift_down i.val i.isLt f]
  refine coe_sum_of (ι := Fin 64) _ _ _ fun n _ => ?_
  have hm := colWindow_mid n
  have hf := colWindow_fst n
  have hl := colWindow_lst n
  have hi := i.isLt
  have hn := n.isLt
  have ha := a.isLt
  have hc := c.isLt
  split
  · next hin =>
    have h1 := hin 1
    change 63 ≤ i.val * 1 + (colWindow.rowMajor.symm n 1).val ∧ i.val * 1 + (colWindow.rowMajor.symm n 1).val - 63 < 64 at h1
    rw [hm] at h1
    rw [if_pos (by omega)]
    refine (congrArg x (funext fun k => Fin.ext ?_)).trans (hx ⟨i.val + n.val - 63, by omega⟩)
    match k with
    | ⟨0, _⟩ =>
      show a.val * 1 + (colWindow.rowMajor.symm n 0).val - 0 = a.val
      rw [hf]; omega
    | ⟨1, _⟩ =>
      show i.val * 1 + (colWindow.rowMajor.symm n 1).val - 63 = i.val + n.val - 63
      rw [hm]; omega
    | ⟨2, _⟩ =>
      show c.val * 1 + (colWindow.rowMajor.symm n 2).val - 0 = c.val
      rw [hl]; omega
  · next hin =>
    rw [if_neg fun hle => hin fun k => by
      match k with
      | ⟨0, _⟩ =>
        show 0 ≤ a.val * 1 + (colWindow.rowMajor.symm n 0).val ∧ a.val * 1 + (colWindow.rowMajor.symm n 0).val - 0 < A
        rw [hf]; omega
      | ⟨1, _⟩ =>
        show 63 ≤ i.val * 1 + (colWindow.rowMajor.symm n 1).val ∧ i.val * 1 + (colWindow.rowMajor.symm n 1).val - 63 < 64
        rw [hm]; omega
      | ⟨2, _⟩ =>
        show 0 ≤ c.val * 1 + (colWindow.rowMajor.symm n 2).val ∧ c.val * 1 + (colWindow.rowMajor.symm n 2).val - 0 < C
        rw [hl]; omega]
    simp

/-- The running sum from the other end: the window of 64, padded high by 63. -/
theorem window_up {A C : ℕ} (x : Shape.Idx ⟨3, ![A, 64, C]⟩ → EReal) (init : EReal) (h0 : init = 0)
    (h : Shape.ReduceWindows ⟨3, ![A, 64, C]⟩ (![1, 64, 1] : Fin 3 → Nat) ![1, 1, 1] ![0, 0, 0] ![0, 63, 0] ⟨3, ![A, 64, C]⟩)
    (a : Fin A) (i : Fin 64) (c : Fin C) (f : ℕ → ℝ) (hx : ∀ j : Fin 64, x (ix3 a j c) = (f j : EReal)) :
    Ideal.hostReduceWindowAdd ![1, 64, 1] ![1, 1, 1] ![0, 0, 0] ![0, 63, 0] h x init (ix3 a i c)
      = ((∑ j : Fin 64, if i.val ≤ j.val then f j else 0 : ℝ) : EReal) := by
  subst h0
  unfold Ideal.hostReduceWindowAdd Host.reduceWindow
  dsimp only
  refine (foldl_add _ _).trans ?_
  rw [← sum_shift_up i.val i.isLt f]
  refine coe_sum_of (ι := Fin 64) _ _ _ fun n _ => ?_
  have hm := colWindow_mid n
  have hf := colWindow_fst n
  have hl := colWindow_lst n
  have hi := i.isLt
  have hn := n.isLt
  have ha := a.isLt
  have hc := c.isLt
  split
  · next hin =>
    have h1 := hin 1
    change 0 ≤ i.val * 1 + (colWindow.rowMajor.symm n 1).val ∧ i.val * 1 + (colWindow.rowMajor.symm n 1).val - 0 < 64 at h1
    rw [hm] at h1
    rw [if_pos (by omega)]
    refine (congrArg x (funext fun k => Fin.ext ?_)).trans (hx ⟨i.val + n.val, by omega⟩)
    match k with
    | ⟨0, _⟩ =>
      show a.val * 1 + (colWindow.rowMajor.symm n 0).val - 0 = a.val
      rw [hf]; omega
    | ⟨1, _⟩ =>
      show i.val * 1 + (colWindow.rowMajor.symm n 1).val - 0 = i.val + n.val
      rw [hm]; omega
    | ⟨2, _⟩ =>
      show c.val * 1 + (colWindow.rowMajor.symm n 2).val - 0 = c.val
      rw [hl]; omega
  · next hin =>
    rw [if_neg fun hle => hin fun k => by
      match k with
      | ⟨0, _⟩ =>
        show 0 ≤ a.val * 1 + (colWindow.rowMajor.symm n 0).val ∧ a.val * 1 + (colWindow.rowMajor.symm n 0).val - 0 < A
        rw [hf]; omega
      | ⟨1, _⟩ =>
        show 0 ≤ i.val * 1 + (colWindow.rowMajor.symm n 1).val ∧ i.val * 1 + (colWindow.rowMajor.symm n 1).val - 0 < 64
        rw [hm]; omega
      | ⟨2, _⟩ =>
        show 0 ≤ c.val * 1 + (colWindow.rowMajor.symm n 2).val ∧ c.val * 1 + (colWindow.rowMajor.symm n 2).val - 0 < C
        rw [hl]; omega]
    simp

end Gla

end
-- ==== Proof.Gla.Mask.lean ====
/-
  The kernel's masks and 0/1 matrices, read at an index.
-/
module

public import proofs.«01_k».proof.Proof.Gla.Core
public import proofs.«01_k».proof.Proof.Gla.Reals

@[expose] public section

set_option maxRecDepth 16384

noncomputable section

namespace Gla.Core

open Idealize.ShloMosaic Cert.KernelIdeal Cert.KernelIdeal.Gen

theorem pay14_at (l : Fin 256) : k0_pay14 (ix2 (0 : Fin 1) l) = BitVec.ofNat 32 (l.val / 64) := by
  pointwise [k0_pay14]
  revert l
  decide +kernel

theorem hd0_at (l : Fin 256) : hd0 (ix2 (0 : Fin 1) l) = if l.val / 64 = 0 then 1#1 else 0#1 := by
  pointwise [k0_pay15]
  rw [pay14_at]; revert l; decide +kernel

theorem hd1_at (l : Fin 256) : hd1 (ix2 (0 : Fin 1) l) = if l.val / 64 = 1 then 1#1 else 0#1 := by
  pointwise [k0_pay16]
  rw [pay14_at]; revert l; decide +kernel

theorem hd2_at (l : Fin 256) : hd2 (ix2 (0 : Fin 1) l) = if l.val / 64 = 2 then 1#1 else 0#1 := by
  pointwise [k0_pay17]
  rw [pay14_at]; revert l; decide +kernel

theorem hd3_at (l : Fin 256) : hd3 (ix2 (0 : Fin 1) l) = if l.val / 64 = 3 then 1#1 else 0#1 := by
  pointwise [k0_pay18]
  rw [pay14_at]; revert l; decide +kernel

theorem tri_at (r : Fin 256) (j : Fin 64) : tri (ix2 r j) = if j.val ≤ r.val % 64 then 1#1 else 0#1 := by
  pointwise [k0_pay13]
  revert r j
  decide +kernel

theorem pay19_at (r : Fin 512) (l : Fin 256) : k0_pay19 (ix2 r l) = BitVec.ofNat 32 (r.val / 128) := by
  pointwise [k0_pay19]
  clear l
  revert r
  decide +kernel

theorem diag_at (r : Fin 512) (l : Fin 256) : diag (ix2 r l) = if r.val / 128 = l.val / 64 then 1#1 else 0#1 := by
  have h : diag (ix2 r l) = IntOp.cmpi .eq (k0_pay19 (ix2 r l)) (BitVec.ofNat 32 (l.val / 64)) := by
    pointwise [k0_pay24, k0_pay20, k0_pay21]
    congr 1
    clear r
    revert l
    decide +kernel
  rw [h, pay19_at]
  have h1 : ∀ a b : Fin 4, IntOp.cmpi .eq (BitVec.ofNat 32 a.val) (BitVec.ofNat 32 b.val) = if a.val = b.val then 1#1 else 0#1 := by
    decide +kernel
  exact h1 ⟨r.val / 128, by omega⟩ ⟨l.val / 64, by omega⟩

/-- The squares on the diagonal. -/
theorem pay6_at (i j : Fin 256) : k0_pay6 (ix2 i j) = BitVec.ofNat 32 (i.val / 64) := by
  pointwise [k0_pay6]
  clear j
  revert i
  decide +kernel

theorem pay10_at (i j : Fin 256) :
    k0_pay10 (iota .tc S256x256 32 [1] iota_S256x256_d1_w32) k0_pay6 64#32 k0_pay7 k0_pay8 k0_pay9 (ix2 i j)
      = if i.val / 64 = j.val / 64 then 1#1 else 0#1 := by
  have h : k0_pay10 (iota .tc S256x256 32 [1] iota_S256x256_d1_w32) k0_pay6 64#32 k0_pay7 k0_pay8 k0_pay9 (ix2 i j)
      = IntOp.cmpi .eq (k0_pay6 (ix2 i j)) (BitVec.ofNat 32 (j.val / 64)) := by
    pointwise [k0_pay10, k0_pay7, k0_pay8, k0_pay9]
    congr 1
    clear i
    revert j
    decide +kernel
  rw [h, pay6_at]
  have h1 : ∀ a b : Fin 4, IntOp.cmpi .eq (BitVec.ofNat 32 a.val) (BitVec.ofNat 32 b.val) = if a.val = b.val then 1#1 else 0#1 := by
    decide +kernel
  exact h1 ⟨i.val / 64, by omega⟩ ⟨j.val / 64, by omega⟩

theorem le_at : ∀ i j : Fin 256, IntOp.cmpi .sle (BitVec.ofNat 32 j.val) (BitVec.ofNat 32 i.val) = if j.val ≤ i.val then 1#1 else 0#1 := by
  decide +kernel

theorem ge_at : ∀ i j : Fin 256, IntOp.cmpi .sge (BitVec.ofNat 32 j.val) (BitVec.ofNat 32 i.val) = if i.val ≤ j.val then 1#1 else 0#1 := by
  decide +kernel

theorem bit_and (p q : Prop) [Decidable p] [Decidable q] :
    ((((if p then 1#1 else 0#1) &&& (if q then 1#1 else 0#1) : BitVec 1).setWidth 32).toInt : ℝ) = if p ∧ q then 1 else 0 := by
  by_cases hp : p <;> by_cases hq : q <;> simp [hp, hq]

theorem low_at (i j : Fin 256) :
    low (F := Ideal) (ix2 i j) = ((if i.val / 64 = j.val / 64 ∧ j.val ≤ i.val then 1 else 0 : ℝ) : EReal) := by
  pointwise [k0_pay22, k0_pay11]
  rw [pay10_at]
  refine Eq.trans ?_ (congrArg _ (bit_and _ _))
  rw [← le_at]
  rfl

theorem upp_at (i j : Fin 256) :
    upp (F := Ideal) (ix2 i j) = ((if i.val / 64 = j.val / 64 ∧ i.val ≤ j.val then 1 else 0 : ℝ) : EReal) := by
  pointwise [k0_pay23, k0_pay12]
  rw [pay10_at]
  refine Eq.trans ?_ (congrArg _ (bit_and _ _))
  rw [← ge_at]
  rfl

end Gla.Core

end
-- ==== Proof.Gla.Spec.lean ====
/-
  One chunk of the gated linear attention's backward pass, in the real numbers.

  A chunk is 64 tokens.  Its queries and keys have 256 lanes (four heads of 64), its values 512 lanes (four heads
  of 128).  `Chunk` holds what the chunk reads, `D` is the gradient of the state that leaves the chunk, indexed by head,
  key lane and value lane.  Everything below is a function of these two.
-/
module

public import Mathlib.Analysis.SpecialFunctions.Log.Basic
public import Mathlib.Algebra.BigOperators.Fin
public import Mathlib.Tactic.Ring
public import Mathlib.Tactic.Linarith

@[expose] public section

noncomputable section

namespace Gla

/-- What one chunk reads: queries, keys and values by token and lane, the gate's low-rank input by token and rank, the
    gate's weight by rank and lane and its bias by lane, the state before the chunk by head, key lane and value lane, and
    the gradient of the chunk's output by token and lane. -/
structure Chunk where
  q : ℕ → ℕ → ℝ
  k : ℕ → ℕ → ℝ
  v : ℕ → ℕ → ℝ
  lr : ℕ → ℕ → ℝ
  w : ℕ → ℕ → ℝ
  b : ℕ → ℝ
  s : ℕ → ℕ → ℕ → ℝ
  o : ℕ → ℕ → ℝ

namespace Chunk

variable (x : Chunk) (D : ℕ → ℕ → ℕ → ℝ)

/-- The gate before its activation. -/
def pre (i l : ℕ) : ℝ := (∑ r : Fin 16, x.lr i r * x.w r l) + x.b l

/-- The logarithm of the decay: the log-sigmoid over the normalizer 16. -/
def la (i l : ℕ) : ℝ := -Real.log (1 + Real.exp (-x.pre i l)) / 16

/-- The decay's running sum within the chunk. -/
def cum (i l : ℕ) : ℝ := ∑ j ∈ Finset.range (i + 1), x.la j l

/-- The running sum at the chunk's end. -/
def cl (l : ℕ) : ℝ := x.cum 63 l

def qin (i l : ℕ) : ℝ := x.q i l * (1 / 8) * Real.exp (x.cum i l)
def kin (i l : ℕ) : ℝ := x.k i l * Real.exp (-x.cum i l)
def kout (i l : ℕ) : ℝ := x.k i l * Real.exp (x.cl l - x.cum i l)

/-- The attention scores of a head, nothing above the diagonal. -/
def sc (h i j : ℕ) : ℝ := if j ≤ i then ∑ d : Fin 64, x.qin i (64 * h + d) * x.kin j (64 * h + d) else 0

/-- The gradient of the scores. -/
def dsc (h i j : ℕ) : ℝ := if j ≤ i then ∑ e : Fin 128, x.o i (128 * h + e) * x.v j (128 * h + e) else 0

def dqin (i l : ℕ) : ℝ :=
  (∑ e : Fin 128, x.o i (128 * (l / 64) + e) * x.s (l / 64) (l % 64) e) + ∑ j : Fin 64, x.dsc (l / 64) i j * x.kin j l

def dkin (j l : ℕ) : ℝ := ∑ i : Fin 64, x.dsc (l / 64) i j * x.qin i l

def dkout (j l : ℕ) : ℝ := ∑ e : Fin 128, x.v j (128 * (l / 64) + e) * D (l / 64) (l % 64) e

/-- The gradient of the values, by head and value lane. -/
def dv (j h e : ℕ) : ℝ :=
  (∑ i : Fin 64, x.sc h i j * x.o i (128 * h + e)) + ∑ d : Fin 64, x.kout j (64 * h + d) * D h d e

/-- The gradient of the state before the chunk. -/
def dstate (h d e : ℕ) : ℝ :=
  D h d e * Real.exp (x.cl (64 * h + d)) + ∑ i : Fin 64, x.qin i (64 * h + d) * x.o i (128 * h + e)

/-- The gradient of the whole chunk's decay. -/
def ddec (l : ℕ) : ℝ := ∑ e : Fin 128, D (l / 64) (l % 64) e * x.s (l / 64) (l % 64) e

def dq (i l : ℕ) : ℝ := x.dqin i l * Real.exp (x.cum i l) * (1 / 8)
def dk (i l : ℕ) : ℝ :=
  x.dkin i l * Real.exp (-x.cum i l) + x.dkout D i l * Real.exp (x.cl l - x.cum i l)

/-- The gradient of the running sum at a token, but for its part in the chunk's end. -/
def dcum (i l : ℕ) : ℝ := x.dqin i l * x.qin i l - x.dkin i l * x.kin i l - x.dkout D i l * x.kout i l

/-- The gradient of the running sum at the chunk's end. -/
def dcl (l : ℕ) : ℝ := (∑ i : Fin 64, x.dkout D i l * x.kout i l) + x.ddec D l * Real.exp (x.cl l)

/-- The gradient of the decay's logarithm: the running sum's, summed backwards. -/
def da (i l : ℕ) : ℝ := (∑ j : Fin 64, if i ≤ j.val then x.dcum D j l else 0) + x.dcl D l

def dpre (i l : ℕ) : ℝ := x.da D i l * (1 / (1 + Real.exp (x.pre i l))) * (1 / 16)

def dlr (i r : ℕ) : ℝ := ∑ l : Fin 256, x.dpre D i l * x.w r l

/-- The chunk's share of the gate weight's gradient, and of the bias's. -/
def dw (r l : ℕ) : ℝ := ∑ i : Fin 64, x.lr i r * x.dpre D i l
def db (l : ℕ) : ℝ := ∑ i : Fin 64, x.dpre D i l

end Chunk

/-- The state's gradient once the chunks from the last one, 127, down to `127 - (j - 1)` are done. -/
def carry (x : ℕ → Chunk) : ℕ → ℕ → ℕ → ℕ → ℝ
  | 0 => fun _ _ _ => 0
  | j + 1 => (x (127 - j)).dstate (carry x j)

/-- The gate weight's gradient over those chunks. -/
def carryW (x : ℕ → Chunk) : ℕ → ℕ → ℕ → ℝ
  | 0 => fun _ _ => 0
  | j + 1 => fun r l => carryW x j r l + (x (127 - j)).dw (carry x j) r l

/-- The gate bias's gradient over those chunks. -/
def carryB (x : ℕ → Chunk) : ℕ → ℕ → ℝ
  | 0 => fun _ => 0
  | j + 1 => fun l => carryB x j l + (x (127 - j)).db (carry x j) l

/-! Sums over all lanes of which only one head's are kept. -/

theorem sum_head {n : ℕ} (H : ℕ) (f : ℕ → ℝ) (h : ℕ) (hh : h < H) (hn : 0 < n) :
    (∑ l : Fin (H * n), if (l : ℕ) / n = h then f l else 0) = ∑ d : Fin n, f (n * h + d) := by
  rw [← Finset.sum_filter]
  symm
  refine Finset.sum_bij' (fun d _ => ⟨n * h + d, ?_⟩) (fun l _ => ⟨l % n, Nat.mod_lt _ hn⟩) ?_ ?_ ?_ ?_ ?_
  · have := d.isLt
    calc n * h + d < n * h + n := by omega
      _ = (h + 1) * n := by ring
      _ ≤ H * n := Nat.mul_le_mul_right _ hh
  · intro d _
    have h1 : (n * h + (d : ℕ)) / n = h := by
      rw [Nat.mul_add_div hn, Nat.div_eq_of_lt d.isLt, Nat.add_zero]
    simp [h1]
  · intro l _; exact Finset.mem_univ _
  · intro d _; ext; simp [Nat.mod_eq_of_lt d.isLt]
  · intro l hl
    have := (Finset.mem_filter.mp hl).2
    ext
    show n * h + l % n = l
    rw [← this, Nat.div_add_mod]
  · intro d _; rfl

theorem sum_head64 (f : ℕ → ℝ) (h : ℕ) (hh : h < 4) :
    (∑ l : Fin 256, if (l : ℕ) / 64 = h then f l else 0) = ∑ d : Fin 64, f (64 * h + d) :=
  sum_head (n := 64) 4 f h hh (by decide)

theorem sum_head128 (f : ℕ → ℝ) (h : ℕ) (hh : h < 4) :
    (∑ l : Fin 512, if (l : ℕ) / 128 = h then f l else 0) = ∑ d : Fin 128, f (128 * h + d) :=
  sum_head (n := 128) 4 f h hh (by decide)

/-- A sum over a block's 512 tokens, chunk by chunk. -/
theorem sum_chunks (f : ℕ → ℝ) : (∑ r : Fin 512, f r) = ∑ c : Fin 8, ∑ i : Fin 64, f (64 * c + i) := by
  have h : ∀ c : Fin 8, (∑ i : Fin 64, f (64 * c + i)) = ∑ r : Fin 512, if (r : ℕ) / 64 = c then f r else 0 :=
    fun c => (sum_head (n := 64) 8 f c c.isLt (by decide)).symm
  simp only [h]
  rw [Finset.sum_comm]
  refine Finset.sum_congr rfl fun r _ => ?_
  have hr : (r : ℕ) / 64 < 8 := by have := r.isLt; omega
  rw [Finset.sum_eq_single ⟨(r : ℕ) / 64, hr⟩]
  · simp
  · intro c _ hc; rw [if_neg]; intro h; exact hc (Fin.ext h.symm)
  · intro h; exact absurd (Finset.mem_univ _) h

/-- The running sum as a sum over a head's lanes with a bound. -/
theorem cum_eq (x : Chunk) (i l : ℕ) (hi : i < 64) : x.cum i l = ∑ j : Fin 64, if j.val ≤ i then x.la j l else 0 := by
  unfold Chunk.cum
  rw [Fin.sum_univ_eq_sum_range (fun j => if j ≤ i then x.la j l else 0) 64, ← Finset.sum_filter]
  refine Finset.sum_congr ?_ fun _ _ => rfl
  ext j; simp only [Finset.mem_range, Finset.mem_filter]; omega

theorem la_nonpos (x : Chunk) (i l : ℕ) : x.la i l ≤ 0 := by
  unfold Chunk.la
  have : 0 ≤ Real.log (1 + Real.exp (-x.pre i l)) := Real.log_nonneg (by have := Real.exp_pos (-x.pre i l); linarith)
  linarith

/-- The running sum only falls, so that its least value in the chunk is the last. -/
theorem cl_le_cum (x : Chunk) (i l : ℕ) (hi : i < 64) : x.cl l ≤ x.cum i l := by
  unfold Chunk.cl Chunk.cum
  have h := Finset.sum_le_sum_of_subset_of_nonneg (f := fun j => -x.la j l)
    (s := Finset.range (i + 1)) (t := Finset.range (63 + 1))
    (fun j hj => by simp only [Finset.mem_range] at *; omega) (fun j _ _ => by have := la_nonpos x j l; linarith)
  simp only [Finset.sum_neg_distrib] at h
  linarith

end Gla

end
-- ==== Proof.Gla.Tile.lean ====
/-
  The body's values for one chunk, read at an index: each is the real number that `Gla.Chunk` names.
-/
module

public import proofs.«01_k».proof.Proof.Gla.Mask
public import proofs.«01_k».proof.Proof.Gla.Spec

@[expose] public section

set_option maxRecDepth 16384

noncomputable section

namespace Gla.Core

open Idealize.ShloMosaic Cert.KernelIdeal Cert.KernelIdeal.Gen

theorem zero_bits : Ideal.ofBits .f32 0x00000000#32 = ((0 : ℝ) : EReal) := by
  simp [Ideal.ofBits, Ideal.ieee]

theorem select_if {α : Type} (p : Prop) [Decidable p] (a b : α) : Scalar.select (if p then 1#1 else 0#1) a b = if p then a else b := by
  by_cases h : p
  · rw [if_pos h, if_pos h]; exact if_pos rfl
  · rw [if_neg h, if_neg h]; exact if_neg (by decide)

theorem keep_at (hd : IVec S1x256 1) (n : ℕ) (hh : ∀ l : Fin 256, hd (ix2 (0 : Fin 1) l) = if l.val / 64 = n then 1#1 else 0#1)
    (x : FVec Ideal S64x256 .f32) (i : Fin 64) (l : Fin 256) :
    keep hd x (ix2 i l) = if l.val / 64 = n then x (ix2 i l) else ((0 : ℝ) : EReal) := by
  pointwise [keep]
  rw [hh, select_if]
  rfl

/-- What the body takes for a chunk, as real numbers: `x` what the chunk reads, `D` the state's gradient. -/
structure Tiles (x : Chunk) (D : ℕ → ℕ → ℕ → ℝ) (qin kin kout : FVec Ideal S64x256 .f32) (v o : FVec Ideal S64x512 .bf16)
    (sp : FVec Ideal S512x256 .bf16) (ds : FVec Ideal S512x256 .f32) : Prop where
  qin : ∀ (i : Fin 64) (l : Fin 256), qin (ix2 i l) = (x.qin i l : EReal)
  kin : ∀ (i : Fin 64) (l : Fin 256), kin (ix2 i l) = (x.kin i l : EReal)
  kout : ∀ (i : Fin 64) (l : Fin 256), kout (ix2 i l) = (x.kout i l : EReal)
  v : ∀ (i : Fin 64) (l : Fin 512), v (ix2 i l) = (x.v i l : EReal)
  o : ∀ (i : Fin 64) (l : Fin 512), o (ix2 i l) = (x.o i l : EReal)
  s : ∀ (r : Fin 512) (l : Fin 256), sp (ix2 r l) = ((if r.val / 128 = l.val / 64 then x.s (l / 64) (l % 64) (r % 128) else 0 : ℝ) : EReal)
  d : ∀ (r : Fin 512) (l : Fin 256), ds (ix2 r l) = ((if r.val / 128 = l.val / 64 then D (l / 64) (l % 64) (r % 128) else 0 : ℝ) : EReal)

variable {x : Chunk} {D : ℕ → ℕ → ℕ → ℝ} {qin kin kout : FVec Ideal S64x256 .f32} {v o : FVec Ideal S64x512 .bf16}
  {sp : FVec Ideal S512x256 .bf16} {ds : FVec Ideal S512x256 .f32} (H : Tiles x D qin kin kout v o sp ds)
include H

theorem stack_at (r l : Fin 256) :
    stack qin (ix2 r l) = ((if l.val / 64 = r.val / 64 then x.qin (r % 64) l else 0 : ℝ) : EReal) := by
  pointwise [stack]
  have k0 := keep_at hd0 0 hd0_at qin
  have k1 := keep_at hd1 1 hd1_at qin
  have k2 := keep_at hd2 2 hd2_at qin
  have k3 := keep_at hd3 3 hd3_at qin
  split
  · have e1 : r.val / 64 = 0 := by omega
    have e2 : r.val % 64 = r.val := by omega
    rw [k0, H.qin, coe_ite, e1, e2]
  split
  · have e1 : r.val / 64 = 1 := by omega
    have e2 : r.val % 64 = r.val - 64 := by omega
    rw [k1, H.qin, coe_ite, e1, e2]
  split
  · have e1 : r.val / 64 = 2 := by omega
    have e2 : r.val % 64 = r.val - 64 - 64 := by omega
    rw [k2, H.qin, coe_ite, e1, e2]
  · have e1 : r.val / 64 = 3 := by omega
    have e2 : r.val % 64 = r.val - 64 - 64 - 64 := by omega
    rw [k3, H.qin, coe_ite, e1, e2]

theorem scores_at (r : Fin 256) (j : Fin 64) : scores qin kin (ix2 r j) = (x.sc (r / 64) (r % 64) j : EReal) := by
  pointwise [scores]
  rw [tri_at, select_if, coe_dot _ _ _ _ (fun l => stack_at H r l) (fun l => H.kin j l)]
  unfold Chunk.sc
  rw [← coe_ite, ← sum_head64 (fun l => x.qin (r % 64) l * x.kin j l) _ (by omega)]
  refine if_congr Iff.rfl ?_ EReal.coe_zero.symm
  congr 1
  refine Finset.sum_congr rfl fun l _ => ?_
  split <;> simp

theorem oDotV (i j : Fin 64) (n : ℕ) (g : Fin 128 → Fin 512) (hg : ∀ e, (g e).val = 128 * n + e.val) :
    (∑ e : Fin 128, o (ix2 i (g e)) * v (ix2 j (g e)))
      = ((∑ e : Fin 128, x.o i (128 * n + e) * x.v j (128 * n + e) : ℝ) : EReal) :=
  coe_dot _ _ _ _ (fun e => by rw [H.o, hg]) (fun e => by rw [H.v, hg])

theorem dscores_at (r : Fin 256) (j : Fin 64) : dscores v o (ix2 r j) = (x.dsc (r / 64) (r % 64) j : EReal) := by
  pointwise [dscores]
  rw [tri_at, select_if]
  unfold Chunk.dsc
  rw [← coe_ite]
  refine if_congr Iff.rfl ?_ EReal.coe_zero.symm
  split
  · have e1 : r.val / 64 = 0 := by omega
    have e2 : r.val % 64 = r.val := by omega
    rw [e1, e2]
    exact oDotV H _ _ 0 (fun e => ⟨e.val, by omega⟩) (fun e => by simp)
  split
  · have e1 : r.val / 64 = 1 := by omega
    have e2 : r.val % 64 = r.val - 64 := by omega
    rw [e1, e2]
    exact oDotV H _ _ 1 (fun e => ⟨128 + e.val, by omega⟩) (fun e => by simp)
  split
  · have e1 : r.val / 64 = 2 := by omega
    have e2 : r.val % 64 = r.val - 64 - 64 := by omega
    rw [e1, e2]
    exact oDotV H _ _ 2 (fun e => ⟨256 + e.val, by omega⟩) (fun e => by simp)
  · have e1 : r.val / 64 = 3 := by omega
    have e2 : r.val % 64 = r.val - 64 - 64 - 64 := by omega
    rw [e1, e2]
    exact oDotV H _ _ 3 (fun e => ⟨384 + e.val, by omega⟩) (fun e => by simp)

theorem scDotO (j : Fin 64) (l l' : Fin 512) (n : ℕ) (g : Fin 64 → Fin 256) (hg : ∀ i, (g i).val = 64 * n + i.val)
    (hn : l.val / 128 = n) (hl : l'.val = l.val) :
    (∑ i : Fin 64, scores qin kin (ix2 (g i) j) * o (ix2 i l'))
      = ((∑ i : Fin 64, x.sc (l / 128) i j * x.o i l : ℝ) : EReal) :=
  coe_dot _ _ _ _ (fun i => by
      have e1 : (64 * n + i.val) / 64 = n := by omega
      have e2 : (64 * n + i.val) % 64 = i.val := by omega
      rw [scores_at H, hg, hn, e1, e2]) (fun i => by rw [H.o, hl])

theorem dvScores_at (j : Fin 64) (l : Fin 512) :
    dvScores (scores qin kin) o (ix2 j l) = ((∑ i : Fin 64, x.sc (l / 128) i j * x.o i l : ℝ) : EReal) := by
  pointwise [dvScores]
  split
  · exact scDotO H j l l 0 (fun i => ⟨i.val, by omega⟩) (fun i => by simp) (by omega) rfl
  split
  · exact scDotO H j l ⟨128 + (l.val - 128), by omega⟩ 1 (fun i => ⟨64 + i.val, by omega⟩) (fun i => by simp) (by omega) (by show 128 + (l.val - 128) = l.val; omega)
  split
  · exact scDotO H j l ⟨256 + (l.val - 128 - 128), by omega⟩ 2 (fun i => ⟨128 + i.val, by omega⟩) (fun i => by simp) (by omega) (by show 256 + (l.val - 128 - 128) = l.val; omega)
  · exact scDotO H j l ⟨384 + (l.val - 128 - 128 - 128), by omega⟩ 3 (fun i => ⟨192 + i.val, by omega⟩) (fun i => by simp) (by omega) (by show 384 + (l.val - 128 - 128 - 128) = l.val; omega)

theorem dv_at (j : Fin 64) (l : Fin 512) : dv qin kin kout o ds (ix2 j l) = (x.dv D j (l / 128) (l % 128) : EReal) := by
  pointwise [dv]
  rw [dvScores_at H, coe_dot _ _ _ _ (fun r => H.kout j r) (fun r => H.d l r), ← EReal.coe_add]
  unfold Chunk.dv
  rw [Nat.div_add_mod]
  have h := sum_head64 (fun r => x.kout j r * D (r / 64) (r % 64) (l % 128)) (l / 128) (by omega)
  congr 2
  refine Eq.trans (Finset.sum_congr rfl fun r _ => ?_) (h.trans (Finset.sum_congr rfl fun d _ => ?_))
  · by_cases hc : l.val / 128 = r.val / 64
    · rw [if_pos hc, if_pos hc.symm]
    · rw [if_neg hc, if_neg (Ne.symm hc), mul_zero]
  · have e1 : (64 * (l.val / 128) + d.val) / 64 = l.val / 128 := by omega
    have e2 : (64 * (l.val / 128) + d.val) % 64 = d.val := by omega
    rw [e1, e2]

theorem dqStack_at (r l : Fin 256) :
    dqStack kin v o (ix2 r l) = ((∑ j : Fin 64, x.dsc (r / 64) (r % 64) j * x.kin j l : ℝ) : EReal) := by
  pointwise [dqStack]
  exact coe_dot _ _ _ _ (fun j => dscores_at H r j) (fun j => H.kin j l)

/-- A product with the stacked state: only the rows of the lane's head count. -/
theorem sum_s (f : ℕ → ℝ) (S : ℕ → ℕ → ℕ → ℝ) (l : Fin 256) :
    (∑ r : Fin 512, f r * if r.val / 128 = l.val / 64 then S (l / 64) (l % 64) (r % 128) else 0)
      = ∑ e : Fin 128, f (128 * (l / 64) + e) * S (l / 64) (l % 64) e := by
  have h := sum_head128 (fun r => f r * S (l / 64) (l % 64) (r % 128)) (l / 64) (by omega)
  refine Eq.trans (Finset.sum_congr rfl fun r _ => ?_) (h.trans (Finset.sum_congr rfl fun d _ => ?_))
  · split <;> simp
  · have e2 : (128 * (l.val / 64) + d.val) % 128 = d.val := by omega
    rw [e2]

theorem keepStack (hd : IVec S1x256 1) (n : ℕ) (hh : ∀ l : Fin 256, hd (ix2 (0 : Fin 1) l) = if l.val / 64 = n then 1#1 else 0#1)
    (y : FVec Ideal S64x256 .f32) (i : Fin 64) (l : Fin 256) (r : Fin 256) (hr : r.val = 64 * n + i.val)
    (hy : y (ix2 i l) = dqStack kin v o (ix2 r l)) :
    keep hd y (ix2 i l) = ((if l.val / 64 = n then ∑ j : Fin 64, x.dsc (l / 64) i j * x.kin j l else 0 : ℝ) : EReal) := by
  rw [keep_at hd n hh, hy, dqStack_at H, coe_ite]
  congr 1
  have e1 : (64 * n + i.val) / 64 = n := by omega
  have e2 : (64 * n + i.val) % 64 = i.val := by omega
  split
  · rename_i hl
    rw [hr, e1, e2, hl]
  · rfl

theorem dqin_at (i : Fin 64) (l : Fin 256) : dqin kin v o sp (ix2 i l) = (x.dqin i l : EReal) := by
  pointwise [dqin]
  rw [keepStack H hd0 0 hd0_at _ i l ⟨64 * 0 + i.val, by omega⟩ rfl (by pointwise []),
    keepStack H hd1 1 hd1_at _ i l ⟨64 * 1 + i.val, by omega⟩ rfl (by pointwise []),
    keepStack H hd2 2 hd2_at _ i l ⟨64 * 2 + i.val, by omega⟩ rfl (by pointwise []),
    keepStack H hd3 3 hd3_at _ i l ⟨64 * 3 + i.val, by omega⟩ rfl (by pointwise []),
    coe_dot _ _ _ _ (fun r => H.o i r) (fun r => H.s r l), sum_s H (fun r => x.o i r) x.s]
  simp only [← EReal.coe_add]
  congr 1
  unfold Chunk.dqin
  generalize (∑ j : Fin 64, x.dsc (l / 64) i j * x.kin j l) = a
  have h : l.val / 64 = 0 ∨ l.val / 64 = 1 ∨ l.val / 64 = 2 ∨ l.val / 64 = 3 := by omega
  generalize l.val / 64 = n at *
  rcases h with h | h | h | h <;> subst h <;> simp

theorem dkin_at (j : Fin 64) (l : Fin 256) : dkin qin v o (ix2 j l) = (x.dkin j l : EReal) := by
  pointwise [dkin]
  rw [coe_dot _ _ _ _ (fun r => dscores_at H r j) (fun r => stack_at H r l)]
  unfold Chunk.dkin
  have h := sum_head64 (fun r => x.dsc (r / 64) (r % 64) j * x.qin (r % 64) l) (l / 64) (by omega)
  congr 1
  refine Eq.trans (Finset.sum_congr rfl fun r _ => ?_) (h.trans (Finset.sum_congr rfl fun d _ => ?_))
  · by_cases hc : l.val / 64 = r.val / 64
    · rw [if_pos hc, if_pos hc.symm]
    · rw [if_neg hc, if_neg (Ne.symm hc), mul_zero]
  · have e1 : (64 * (l.val / 64) + d.val) / 64 = l.val / 64 := by omega
    have e2 : (64 * (l.val / 64) + d.val) % 64 = d.val := by omega
    rw [e1, e2]

theorem dkout_at (j : Fin 64) (l : Fin 256) : dkout v ds (ix2 j l) = (x.dkout D j l : EReal) := by
  pointwise [dkout]
  rw [coe_dot _ _ _ _ (fun r => H.v j r) (fun r => H.d r l), sum_s H (fun r => x.v j r) D]
  rfl

theorem ddec_at (l : Fin 256) : ddec sp ds (ix2 (0 : Fin 1) l) = (x.ddec D l : EReal) := by
  pointwise [ddec]
  rw [coe_dot _ _ _ _ (fun r => H.d r l) (fun r => H.s r l)]
  unfold Chunk.ddec
  have h := sum_s H (fun r => D (l / 64) (l % 64) (r % 128)) x.s l
  congr 1
  refine Eq.trans (Finset.sum_congr rfl fun r _ => ?_) (h.trans (Finset.sum_congr rfl fun d _ => ?_))
  · split <;> simp
  · have e2 : (128 * (l.val / 64) + d.val) % 128 = d.val := by omega
    rw [e2]

theorem dstate_at (dec : FVec Ideal S1x256 .f32) (hdec : ∀ l : Fin 256, dec (ix2 (0 : Fin 1) l) = (Real.exp (x.cl l) : EReal))
    (r : Fin 512) (l : Fin 256) :
    dstate dec qin o ds (ix2 r l)
      = ((if r.val / 128 = l.val / 64 then x.dstate D (l / 64) (l % 64) (r % 128) else 0 : ℝ) : EReal) := by
  pointwise [dstate]
  rw [diag_at, select_if, hdec, H.d, coe_dot _ _ _ _ (fun i => H.o i r) (fun i => H.qin i l)]
  by_cases hc : r.val / 128 = l.val / 64
  · rw [if_pos hc, if_pos hc, if_pos hc, ← EReal.coe_mul, ← EReal.coe_add]
    unfold Chunk.dstate
    rw [Nat.div_add_mod, ← hc, Nat.div_add_mod]
    simp only [mul_comm]
  · rw [if_neg hc, if_neg hc, if_neg hc, ← EReal.coe_mul]
    simp

theorem dq_at (e : FVec Ideal S64x256 .f32) (he : ∀ (i : Fin 64) (l : Fin 256), e (ix2 i l) = (Real.exp (x.cum i l) : EReal))
    (i : Fin 64) (l : Fin 256) : dq e kin v o sp (ix2 i l) = (x.dq i l : EReal) := by
  pointwise [dq]
  rw [dqin_at H, he, bits_eighth, ← EReal.coe_mul, ← EReal.coe_mul]
  rfl

theorem dk_at (einv eout : FVec Ideal S64x256 .f32)
    (h1 : ∀ (i : Fin 64) (l : Fin 256), einv (ix2 i l) = (Real.exp (-x.cum i l) : EReal))
    (h2 : ∀ (i : Fin 64) (l : Fin 256), eout (ix2 i l) = (Real.exp (x.cl l - x.cum i l) : EReal))
    (i : Fin 64) (l : Fin 256) : dk einv eout qin v o ds (ix2 i l) = (x.dk D i l : EReal) := by
  pointwise [dk]
  rw [dkin_at H, dkout_at H, h1, h2, ← EReal.coe_mul, ← EReal.coe_mul, ← EReal.coe_add]
  rfl

theorem dcum_at (i : Fin 64) (l : Fin 256) : dcum qin kin kout v o sp ds (ix2 i l) = (x.dcum D i l : EReal) := by
  pointwise [dcum]
  rw [dqin_at H, dkin_at H, dkout_at H, H.qin, H.kin, H.kout]
  simp only [← EReal.coe_mul, ← EReal.coe_sub]
  rfl

theorem dcl_at (dec : FVec Ideal S1x256 .f32) (hdec : ∀ l : Fin 256, dec (ix2 (0 : Fin 1) l) = (Real.exp (x.cl l) : EReal))
    (i : Fin 64) (l : Fin 256) : dcl dec kout v sp ds (ix2 i l) = (x.dcl D l : EReal) := by
  pointwise [dcl]
  rw [ddec_at H, hdec, coe_dot _ _ _ _ (fun j => dkout_at H j l) (fun j => H.kout j l), ← EReal.coe_mul, ← EReal.coe_add]
  rfl

end Gla.Core

end
-- ==== Proof.Gla.Block.lean ====
/-
  The body's values for a block of 512 tokens, read at an index, and the block's results: from the carried state gradient,
  gate weight and gate bias of the blocks after it to its own.
-/
module

public import proofs.«01_k».proof.Proof.Gla.Tile

@[expose] public section

set_option maxRecDepth 16384

noncomputable section

namespace Gla.Core

open Idealize.ShloMosaic Cert.KernelIdeal Cert.KernelIdeal.Gen

/-- What the body takes for a block, as real numbers: `x c` what chunk `c` reads. -/
structure Reads (B : In Ideal) (x : ℕ → Chunk) : Prop where
  q : ∀ (r : Fin 512) (l : Fin 256), B.q (ix2 r l) = ((x (r / 64)).q (r % 64) l : EReal)
  k : ∀ (r : Fin 512) (l : Fin 256), B.k (ix2 r l) = ((x (r / 64)).k (r % 64) l : EReal)
  lr : ∀ (r : Fin 512) (n : Fin 128), B.lr (ix2 r n) = ((x (r / 64)).lr (r % 64) n : EReal)
  w : ∀ (c : ℕ) (n : Fin 128) (l : Fin 256), B.w (ix3 (0 : Fin 1) n l) = ((if n.val < 16 then (x c).w n l else 0 : ℝ) : EReal)
  b : ∀ (c : ℕ) (l : Fin 256), B.b (ix3 (0 : Fin 1) (0 : Fin 1) l) = ((x c).b l : EReal)
  v : ∀ (c : Fin 8) (i : Fin 64) (l : Fin 512), B.v c (ix2 i l) = ((x c).v i l : EReal)
  o : ∀ (c : Fin 8) (i : Fin 64) (l : Fin 512), B.o c (ix2 i l) = ((x c).o i l : EReal)
  s : ∀ (c : Fin 8) (r : Fin 512) (l : Fin 256), B.s c (ix3 (0 : Fin 1) r l)
    = ((if r.val / 128 = l.val / 64 then (x c).s (l / 64) (l % 64) (r % 128) else 0 : ℝ) : EReal)

theorem rows_at (y : FVec Ideal S512x256 .f32) (c : Fin 8) (i : Fin 64) (l : Fin 256) :
    rows y c (ix2 i l) = y (ix2 ⟨64 * c.val + i.val, by omega⟩ l) := by
  pointwise [rows]

theorem pile_at (f : Fin 8 → FVec Ideal S64x256 .f32) (r : Fin 512) (l : Fin 256) :
    pile f (ix2 r l) = f ⟨r.val / 64, by omega⟩ (ix2 ⟨r.val % 64, by omega⟩ l) := by
  have h (c : Fin 8) (i : Fin 64) (hr : r.val = 64 * c.val + i.val) :
      f ⟨r.val / 64, by omega⟩ (ix2 ⟨r.val % 64, by omega⟩ l) = f c (ix2 i l) := by
    have e1 : (⟨r.val / 64, by omega⟩ : Fin 8) = c := Fin.ext (by show r.val / 64 = c.val; omega)
    have e2 : (⟨r.val % 64, by omega⟩ : Fin 64) = i := Fin.ext (by show r.val % 64 = i.val; omega)
    rw [e1, e2]
  pointwise [pile]
  split
  · exact (h 0 ⟨r.val, by omega⟩ (by simp)).symm
  split
  · exact (h 1 ⟨r.val - 64, by omega⟩ (by simp; omega)).symm
  split
  · exact (h 2 ⟨r.val - 64 - 64, by omega⟩ (by simp; omega)).symm
  split
  · exact (h 3 ⟨r.val - 64 - 64 - 64, by omega⟩ (by simp; omega)).symm
  split
  · exact (h 4 ⟨r.val - 64 - 64 - 64 - 64, by omega⟩ (by simp; omega)).symm
  split
  · exact (h 5 ⟨r.val - 64 - 64 - 64 - 64 - 64, by omega⟩ (by simp; omega)).symm
  split
  · exact (h 6 ⟨r.val - 64 - 64 - 64 - 64 - 64 - 64, by omega⟩ (by simp; omega)).symm
  · exact (h 7 ⟨r.val - 64 - 64 - 64 - 64 - 64 - 64 - 64, by omega⟩ (by simp; omega)).symm

/-- Half a block times a 0/1 matrix, the block's rounding and what it left added up. -/
theorem half (t : FVec Ideal S256x256 .bf16) (T : ℕ → ℕ → ℝ) (ht : ∀ i j : Fin 256, t (ix2 i j) = (T i j : EReal))
    (y : FVec Ideal S512x256 .f32) (Y : ℕ → ℕ → ℝ) (hy : ∀ (r : Fin 512) (l : Fin 256), y (ix2 r l) = (Y r l : EReal))
    (i : Fin 256) (l : Fin 256) (n : ℕ) (g : Fin 256 → Fin 512) (hg : ∀ k, (g k).val = n + k.val) :
    (∑ k : Fin 256, t (ix2 i k) * y (ix2 (g k) l)) + (∑ k : Fin 256, t (ix2 i k) * (y (ix2 (g k) l) - y (ix2 (g k) l)))
      = ((∑ k : Fin 256, T i k * Y (n + k) l : ℝ) : EReal) := by
  rw [coe_dot _ _ _ _ (fun k => ht i k) (fun k => hy (g k) l),
    coe_dot _ _ _ (fun _ => 0) (fun k => ht i k) (fun k => by rw [hy, ← EReal.coe_sub, sub_self]), ← EReal.coe_add]
  simp [hg]

theorem sums_at (t : FVec Ideal S256x256 .bf16) (T : ℕ → ℕ → ℝ) (ht : ∀ i j : Fin 256, t (ix2 i j) = (T i j : EReal))
    (y : FVec Ideal S512x256 .f32) (Y : ℕ → ℕ → ℝ) (hy : ∀ (r : Fin 512) (l : Fin 256), y (ix2 r l) = (Y r l : EReal))
    (r : Fin 512) (l : Fin 256) :
    sums t y (ix2 r l) = ((∑ k : Fin 256, T (r % 256) k * Y (256 * (r / 256) + k) l : ℝ) : EReal) := by
  pointwise [sums]
  split
  · have e1 : r.val / 256 = 0 := by omega
    have e2 : r.val % 256 = r.val := by omega
    rw [e1, e2]
    exact half t T ht y Y hy _ l (256 * 0) (fun k => ⟨k.val, by omega⟩) (fun k => by simp)
  · have e1 : r.val / 256 = 1 := by omega
    have e2 : r.val % 256 = r.val - 256 := by omega
    rw [e1, e2]
    exact half t T ht y Y hy _ l (256 * 1) (fun k => ⟨256 + k.val, by omega⟩) (fun k => by simp)

/-- A row of the 0/1 matrix keeps the rows of its own chunk that `P` holds of. -/
theorem sum_square (P : ℕ → ℕ → Prop) [∀ i j, Decidable (P i j)] (hP : ∀ n i j, i < 64 → j < 64 → (P (64 * n + i) (64 * n + j) ↔ P i j))
    (Y : ℕ → ℝ) (r : ℕ) (hr : r < 512) :
    (∑ k : Fin 256, (if r % 256 / 64 = k.val / 64 ∧ P (r % 256) k then (1 : ℝ) else 0) * Y (256 * (r / 256) + k))
      = ∑ j : Fin 64, if P (r % 64) j then Y (64 * (r / 64) + j) else 0 := by
  have h := sum_head64 (fun k => if P (r % 256) k then Y (256 * (r / 256) + k) else 0) (r % 256 / 64) (by omega)
  refine Eq.trans (Finset.sum_congr rfl fun k _ => ?_) (h.trans (Finset.sum_congr rfl fun j _ => ?_))
  · by_cases h1 : r % 256 / 64 = k.val / 64
    · rw [if_pos h1.symm]
      by_cases h2 : P (r % 256) k
      · rw [if_pos ⟨h1, h2⟩, if_pos h2, one_mul]
      · rw [if_neg (fun h => h2 h.2), if_neg h2, zero_mul]
    · rw [if_neg (fun h => h1 h.1), if_neg (Ne.symm h1), zero_mul]
  · have e1 : 256 * (r / 256) + (64 * (r % 256 / 64) + j.val) = 64 * (r / 64) + j.val := by omega
    have e2 : r % 256 = 64 * (r % 256 / 64) + r % 64 := by omega
    have e3 := hP (r % 256 / 64) (r % 64) j.val (by omega) j.isLt
    rw [← e2] at e3
    rw [e1]
    exact if_congr e3 rfl rfl

theorem fold_min (f : Fin 64 → EReal) (m : EReal) (hm : ∀ k, m ≤ f k) (h : f 63 = m) (i : EReal) (hi : m ≤ i) :
    Finset.univ.fold min i f = m := by
  refine le_antisymm ?_ ?_
  · exact (Finset.fold_min_le _).mpr (.inr ⟨63, Finset.mem_univ _, h.le⟩)
  · exact (Finset.le_fold_min _).mpr ⟨hi, fun k _ => hm k⟩

theorem fold_max (f : Fin 8 → EReal) (m : EReal) (h : ∀ k, f k = m) (i : EReal) (hi : i ≤ m) :
    Finset.univ.fold max i f = m := by
  refine le_antisymm ?_ ?_
  · exact (Finset.fold_max_le _).mpr ⟨hi, fun k _ => (h k).le⟩
  · exact (Finset.le_fold_max _).mpr (.inr ⟨0, Finset.mem_univ _, (h 0).ge⟩)

/-- Eight steps of an accumulation, in the order of the block's chunks. -/
theorem eight (f : ℕ → ℝ) (g : ℕ → ℝ) (hf : ∀ j, f (j + 1) = f j + g j) (J : ℕ) : f (J + 8) = f J + ∑ c : Fin 8, g (J + (7 - c)) := by
  rw [Fin.sum_univ_eight]
  show f (J + 8) = f J + (g (J + 7) + g (J + 6) + g (J + 5) + g (J + 4) + g (J + 3) + g (J + 2) + g (J + 1) + g (J + 0))
  rw [hf (J + 7), hf (J + 6), hf (J + 5), hf (J + 4), hf (J + 3), hf (J + 2), hf (J + 1), hf J]
  simp only [Nat.add_zero]
  ring

theorem carryW_block {x y : ℕ → Chunk} {J : ℕ} (hx : ∀ c < 8, x c = y (127 - (J + (7 - c)))) (r l : ℕ) :
    carryW y (J + 8) r l = carryW y J r l + ∑ c : Fin 8, (x c).dw (carry y (J + (7 - c))) r l := by
  rw [eight (fun j => carryW y j r l) (fun j => (y (127 - j)).dw (carry y j) r l) (fun _ => rfl)]
  congr 1
  refine Finset.sum_congr rfl fun c _ => ?_
  rw [hx c c.isLt]

theorem carryB_block {x y : ℕ → Chunk} {J : ℕ} (hx : ∀ c < 8, x c = y (127 - (J + (7 - c)))) (l : ℕ) :
    carryB y (J + 8) l = carryB y J l + ∑ c : Fin 8, (x c).db (carry y (J + (7 - c))) l := by
  rw [eight (fun j => carryB y j l) (fun j => (y (127 - j)).db (carry y j) l) (fun _ => rfl)]
  congr 1
  refine Finset.sum_congr rfl fun c _ => ?_
  rw [hx c c.isLt]

variable {B : In Ideal} {x : ℕ → Chunk} (H : Reads B x)
include H

theorem pre_at (r : Fin 512) (l : Fin 256) : B.pre (ix2 r l) = ((x (r / 64)).pre (r % 64) l : EReal) := by
  pointwise [In.pre]
  rw [coe_dot _ _ _ _ (fun n => H.lr r n) (fun n => H.w (r / 64) n l), H.b (r / 64), ← EReal.coe_add]
  unfold Chunk.pre
  congr 2
  have h := sum_head (n := 16) 8 (fun n => (x (r / 64)).lr (r % 64) n * (x (r / 64)).w n l) 0 (by decide) (by decide)
  refine Eq.trans (Finset.sum_congr rfl fun n _ => ?_) (h.trans (Finset.sum_congr rfl fun d _ => ?_))
  · by_cases hc : n.val < 16
    · rw [if_pos hc, if_pos (by omega)]
    · rw [if_neg hc, if_neg (by omega), mul_zero]
  · simp

theorem dact_at (r : Fin 512) (l : Fin 256) :
    B.dact (ix2 r l) = ((1 / (1 + Real.exp ((x (r / 64)).pre (r % 64) l)) : ℝ) : EReal) := by
  pointwise [In.dact]
  rw [pre_at H, exp_coe, show (1 : EReal) = ((1 : ℝ) : EReal) from rfl, ← EReal.coe_add,
    div_coe _ (by have := Real.exp_pos ((x (r / 64)).pre (r % 64) l); linarith)]

theorem la_at (r : Fin 512) (l : Fin 256) : B.la (ix2 r l) = ((x (r / 64)).la (r % 64) l : EReal) := by
  pointwise [In.la]
  rw [pre_at H]
  change (min _ ((0 : ℝ) : EReal) - Ideal.log (((1 : ℝ) : EReal) + Ideal.exp (((0 : ℝ) : EReal) - max _ (-_)))) * _ = _
  rw [abs_coe, ← EReal.coe_sub, exp_coe, ← EReal.coe_add, log_coe (by positivity), min_coe, ← EReal.coe_sub, logsigmoid_eq,
    bits_sixteenth, ← EReal.coe_mul]
  congr 1
  unfold Chunk.la
  ring

theorem cum_at (r : Fin 512) (l : Fin 256) : B.cum (ix2 r l) = ((x (r / 64)).cum (r % 64) l : EReal) := by
  unfold In.cum
  rw [sums_at low (fun i j => if i / 64 = j / 64 ∧ j ≤ i then 1 else 0) low_at B.la (fun r l => (x (r / 64)).la (r % 64) l) (la_at H),
    sum_square (fun i j => j ≤ i) (fun n i j _ _ => by omega) (fun k => (x (k / 64)).la (k % 64) l) r r.isLt, cum_eq _ _ _ (by omega)]
  congr 1
  refine Finset.sum_congr rfl fun j _ => ?_
  have e1 : (64 * (r.val / 64) + j.val) / 64 = r.val / 64 := by omega
  have e2 : (64 * (r.val / 64) + j.val) % 64 = j.val := by omega
  rw [e1, e2]

theorem cl_at (r : Fin 512) (l : Fin 256) : B.cl (ix2 r l) = ((x (r / 64)).cl l : EReal) := by
  unfold In.cl
  rw [pile_at]
  pointwise []
  rw [bits_top]
  refine fold_min _ _ (fun k => ?_) ?_ _ le_top
  · rw [rows_at, cum_at H]
    have e1 : (64 * (r.val / 64) + k.val) / 64 = r.val / 64 := by omega
    have e2 : (64 * (r.val / 64) + k.val) % 64 = k.val := by omega
    simp only [e1, e2]
    exact EReal.coe_le_coe_iff.mpr (cl_le_cum _ _ _ k.isLt)
  · rw [rows_at, cum_at H]
    have e1 : (64 * (r.val / 64) + (63 : Fin 64).val) / 64 = r.val / 64 := by show (64 * (r.val / 64) + 63) / 64 = _; omega
    have e2 : (64 * (r.val / 64) + (63 : Fin 64).val) % 64 = 63 := by show (64 * (r.val / 64) + 63) % 64 = _; omega
    simp only [e1, e2]
    rfl

theorem e_at (r : Fin 512) (l : Fin 256) : B.e (ix2 r l) = (Real.exp ((x (r / 64)).cum (r % 64) l) : EReal) := by
  pointwise [In.e]
  rw [cum_at H, exp_coe]

theorem einv_at (r : Fin 512) (l : Fin 256) : B.einv (ix2 r l) = (Real.exp (-(x (r / 64)).cum (r % 64) l) : EReal) := by
  pointwise [In.einv]
  rw [cum_at H]
  change Ideal.exp (((0 : ℝ) : EReal) - _) = _
  rw [← EReal.coe_sub, exp_coe, zero_sub]

theorem eout_at (r : Fin 512) (l : Fin 256) :
    B.eout (ix2 r l) = (Real.exp ((x (r / 64)).cl l - (x (r / 64)).cum (r % 64) l) : EReal) := by
  pointwise [In.eout]
  rw [cum_at H, cl_at H, ← EReal.coe_sub, exp_coe]

theorem qin_at (r : Fin 512) (l : Fin 256) : B.qin (ix2 r l) = ((x (r / 64)).qin (r % 64) l : EReal) := by
  pointwise [In.qin]
  rw [e_at H, H.q, bits_eighth, ← EReal.coe_mul, ← EReal.coe_mul]
  congr 1
  unfold Chunk.qin
  ring

theorem kin_at (r : Fin 512) (l : Fin 256) : B.kin (ix2 r l) = ((x (r / 64)).kin (r % 64) l : EReal) := by
  pointwise [In.kin]
  rw [einv_at H, H.k, ← EReal.coe_mul]
  rfl

theorem kout_at (r : Fin 512) (l : Fin 256) : B.kout (ix2 r l) = ((x (r / 64)).kout (r % 64) l : EReal) := by
  pointwise [In.kout]
  rw [eout_at H, H.k, ← EReal.coe_mul]
  rfl

theorem dec_at (c : Fin 8) (l : Fin 256) : B.dec c (ix2 (0 : Fin 1) l) = (Real.exp ((x c).cl l) : EReal) := by
  pointwise [In.dec]
  rw [bits_bot]
  refine fold_max _ _ (fun k => ?_) _ bot_le
  have e1 : (64 * c.val + k.val) / 64 = c.val := by omega
  rw [cl_at H, exp_coe]
  simp only [e1]

theorem st_at (c : Fin 8) (r : Fin 512) (l : Fin 256) :
    B.st c (ix2 r l) = ((if r.val / 128 = l.val / 64 then (x c).s (l / 64) (l % 64) (r % 128) else 0 : ℝ) : EReal) := by
  pointwise [In.st]
  rw [H.s]

/-- A chunk's tiles, `D` the gradient of the state that leaves it. -/
theorem tiles (c : Fin 8) (D : ℕ → ℕ → ℕ → ℝ) (d : FVec Ideal S512x256 .f32)
    (hd : ∀ (r : Fin 512) (l : Fin 256), d (ix2 r l)
      = ((if r.val / 128 = l.val / 64 then D (l / 64) (l % 64) (r % 128) else 0 : ℝ) : EReal)) :
    Tiles (x c) D (rows B.qin c) (rows B.kin c) (rows B.kout c) (B.v c) (B.o c) (B.st c) d := by
  have e1 (i : Fin 64) : (64 * c.val + i.val) / 64 = c.val := by omega
  have e2 (i : Fin 64) : (64 * c.val + i.val) % 64 = i.val := by omega
  refine ⟨fun i l => ?_, fun i l => ?_, fun i l => ?_, H.v c, H.o c, st_at H c, hd⟩
  · rw [rows_at, qin_at H]; simp only [e1, e2]
  · rw [rows_at, kin_at H]; simp only [e1, e2]
  · rw [rows_at, kout_at H]; simp only [e1, e2]

variable {y : ℕ → Chunk} {J : ℕ} (hx : ∀ c < 8, x c = y (127 - (J + (7 - c))))
  {d : FVec Ideal S512x256 .f32} (hd : ∀ (r : Fin 512) (l : Fin 256), d (ix2 r l)
      = ((if r.val / 128 = l.val / 64 then carry y J (l / 64) (l % 64) (r % 128) else 0 : ℝ) : EReal))
include hx hd

/-- The state's gradient once `n` of the block's chunks are done. -/
theorem ds_at (n : ℕ) (hn : n ≤ 8) (r : Fin 512) (l : Fin 256) : B.ds d n (ix2 r l)
    = ((if r.val / 128 = l.val / 64 then carry y (J + n) (l / 64) (l % 64) (r % 128) else 0 : ℝ) : EReal) := by
  induction n generalizing r l with
  | zero => exact hd r l
  | succ n ih =>
    have e : (In.at' n).val = 7 - n := by show 7 - n % 8 = 7 - n; omega
    have e' : x (In.at' n).val = y (127 - (J + n)) := by rw [e, hx _ (by omega)]; congr 1; omega
    have h := dstate_at (tiles H (In.at' n) _ (B.ds d n) (ih (by omega))) (B.dec (In.at' n)) (dec_at H (In.at' n)) r l
    rw [e'] at h
    exact h

theorem tiles_at (c : Fin 8) : Tiles (x c) (carry y (J + (7 - c))) (rows B.qin c) (rows B.kin c) (rows B.kout c) (B.v c) (B.o c)
    (B.st c) (B.ds d (7 - c.val)) :=
  tiles H c _ _ (ds_at H hx hd _ (by omega))

theorem dq_out (c : Fin 8) (i : Fin 64) (l : Fin 256) : B.dq c (ix2 i l) = ((x c).dq i l : EReal) := by
  have e1 : (64 * c.val + i.val) / 64 = c.val := by omega
  have e2 : (64 * c.val + i.val) % 64 = i.val := by omega
  refine dq_at (tiles_at H hx hd c) _ (fun i l => ?_) i l
  have e1 : (64 * c.val + i.val) / 64 = c.val := by omega
  have e2 : (64 * c.val + i.val) % 64 = i.val := by omega
  rw [rows_at, e_at H]; simp only [e1, e2]

theorem dk_out (c : Fin 8) (i : Fin 64) (l : Fin 256) :
    B.dk c (B.ds d (7 - c.val)) (ix2 i l) = ((x c).dk (carry y (J + (7 - c))) i l : EReal) := by
  refine dk_at (tiles_at H hx hd c) _ _ (fun i l => ?_) (fun i l => ?_) i l
  all_goals
    have e1 : (64 * c.val + i.val) / 64 = c.val := by omega
    have e2 : (64 * c.val + i.val) % 64 = i.val := by omega
  · rw [rows_at, einv_at H]; simp only [e1, e2]
  · rw [rows_at, eout_at H]; simp only [e1, e2]

theorem dv_out (c : Fin 8) (i : Fin 64) (l : Fin 512) :
    B.dv c (B.ds d (7 - c.val)) (ix2 i l) = ((x c).dv (carry y (J + (7 - c))) i (l / 128) (l % 128) : EReal) :=
  dv_at (tiles_at H hx hd c) i l

theorem dpre_at (r : Fin 512) (l : Fin 256) :
    B.dpre d (ix2 r l) = ((x (r / 64)).dpre (carry y (J + (7 - r / 64))) (r % 64) l : EReal) := by
  have h1 (r : Fin 512) (l : Fin 256) : pile (fun c => B.dcum c (B.ds d (7 - c.val))) (ix2 r l)
      = ((x (r / 64)).dcum (carry y (J + (7 - r / 64))) (r % 64) l : EReal) := by
    rw [pile_at]
    exact dcum_at (tiles_at H hx hd _) _ l
  have h2 : pile (fun c => B.dcl c (B.ds d (7 - c.val))) (ix2 r l)
      = ((x (r / 64)).dcl (carry y (J + (7 - r / 64))) l : EReal) := by
    rw [pile_at]
    exact dcl_at (tiles_at H hx hd _) _ (dec_at H _) _ l
  pointwise [In.dpre]
  rw [sums_at upp (fun i j => if i / 64 = j / 64 ∧ i ≤ j then 1 else 0) upp_at _
      (fun r l => (x (r / 64)).dcum (carry y (J + (7 - r / 64))) (r % 64) l) h1, h2, dact_at H, bits_sixteenth,
    sum_square (fun i j => i ≤ j) (fun n i j _ _ => by omega)
      (fun k => (x (k / 64)).dcum (carry y (J + (7 - k / 64))) (k % 64) l) r r.isLt,
    ← EReal.coe_add, ← EReal.coe_mul, ← EReal.coe_mul]
  unfold Chunk.dpre Chunk.da
  congr 4
  refine Finset.sum_congr rfl fun j _ => ?_
  have e1 : (64 * (r.val / 64) + j.val) / 64 = r.val / 64 := by omega
  have e2 : (64 * (r.val / 64) + j.val) % 64 = j.val := by omega
  rw [e1, e2]

theorem dlr_out (r : Fin 512) (n : Fin 128) : B.dlr d (ix2 r n)
    = ((if n.val < 16 then (x (r / 64)).dlr (carry y (J + (7 - r / 64))) (r % 64) n else 0 : ℝ) : EReal) := by
  pointwise [In.dlr]
  rw [coe_dot _ _ _ _ (fun l => dpre_at H hx hd r l) (fun l => H.w (r / 64) n l)]
  congr 1
  split
  · rfl
  · simp

theorem dw_out (acc : FVec Ideal S128x256 .f32) (hacc : ∀ (n : Fin 128) (l : Fin 256), acc (ix2 n l) = (carryW y J n l : EReal))
    (n : Fin 128) (l : Fin 256) : B.dw d acc (ix2 n l) = (carryW y (J + 8) n l : EReal) := by
  have h : (∑ r : Fin 512, (x (r / 64)).lr (r % 64) n * (x (r / 64)).dpre (carry y (J + (7 - r / 64))) (r % 64) l)
      = ∑ c : Fin 8, (x c).dw (carry y (J + (7 - c))) n l := by
    rw [sum_chunks (fun r => (x (r / 64)).lr (r % 64) n * (x (r / 64)).dpre (carry y (J + (7 - r / 64))) (r % 64) l)]
    refine Finset.sum_congr rfl fun c _ => ?_
    unfold Chunk.dw
    refine Finset.sum_congr rfl fun i _ => ?_
    have e1 : (64 * c.val + i.val) / 64 = c.val := by omega
    have e2 : (64 * c.val + i.val) % 64 = i.val := by omega
    rw [e1, e2]
  pointwise [In.dw]
  rw [hacc, coe_dot _ _ _ _ (fun r => H.lr r n) (fun r => dpre_at H hx hd r l), ← EReal.coe_add, carryW_block hx, h]

theorem db_out (acc : FVec Ideal S1x256 .f32) (hacc : ∀ l : Fin 256, acc (ix2 (0 : Fin 1) l) = (carryB y J l : EReal))
    (l : Fin 256) : B.db d acc (ix2 (0 : Fin 1) l) = (carryB y (J + 8) l : EReal) := by
  have h : (∑ r : Fin 512, (x (r / 64)).dpre (carry y (J + (7 - r / 64))) (r % 64) l)
      = ∑ c : Fin 8, (x c).db (carry y (J + (7 - c))) l := by
    rw [sum_chunks (fun r => (x (r / 64)).dpre (carry y (J + (7 - r / 64))) (r % 64) l)]
    refine Finset.sum_congr rfl fun c _ => ?_
    unfold Chunk.db
    refine Finset.sum_congr rfl fun i _ => ?_
    have e1 : (64 * c.val + i.val) / 64 = c.val := by omega
    have e2 : (64 * c.val + i.val) % 64 = i.val := by omega
    rw [e1, e2]
  pointwise [In.db]
  rw [hacc, coe_sum_of _ _ _ (fun r _ => dpre_at H hx hd r l), ← EReal.coe_add, carryB_block hx, h]

end Gla.Core

end
-- ==== Proof.Gla.Prep.lean ====
/-
  What the host prepares for the kernel: the gate's weight behind sixteen rows padded with zeros, its bias as a row, and the saved
  states of the four heads on the diagonal of one matrix per chunk.
-/
module

public import proofs.«01_k».proof.Proof.Gla.Block
public import proofs.«01_k».proof.Proof.Gen.KernelIdeal.Value
public import Idealize.ShloMosaic.Lib.StableHlo.Run
public import Idealize.ShloMosaic.Lib.Routing.OpsPair
public import Idealize.ShloMosaic.Lib.Routing.OpsSet

@[expose] public section

set_option maxRecDepth 16384

noncomputable section

namespace Gla.Prep

open Idealize.ShloMosaic Idealize.ShloMosaic.TcCoe Cert.KernelIdeal Cert.KernelIdeal.Gen
open Idealize.ShloMosaic.StableHlo Idealize.ShloMosaic.Routing

variable (m : (ℓ : Loc nD τ sig) → Buf (Elt Ideal) ℓ) (c : Dev nD)
variable (F : Valuation τ sig (Elt Ideal))

/-- The states of the four heads side by side, four times over. -/
theorem seg4_v12 : (StableHlo.after (hostOps0_4 (F := Ideal)) F main_v12 : FVec Ideal S128x512x256 .bf16) =
    concatenate S128x512x256 2 [⟨S128x512x64, (F main_v6 : FVec Ideal S128x512x64 .bf16)⟩, ⟨S128x512x64, (F main_v6 : FVec Ideal S128x512x64 .bf16)⟩, ⟨S128x512x64, (F main_v6 : FVec Ideal S128x512x64 .bf16)⟩, ⟨S128x512x64, (F main_v6 : FVec Ideal S128x512x64 .bf16)⟩] concatenates_S128x512x64_S128x512x64_S128x512x64_S128x512x64_S128x512x256_d2 := by
  simp only [hostOps0_4]
  after_results
  rfl

/-- The mask of the diagonal blocks. -/
theorem seg4_v11 : (StableHlo.after (hostOps0_4 (F := Ideal)) F main_v11 : IVec S128x512x256 1) = cmpi .eq (F main_v8 : IVec S128x512x256 32) (F main_v10 : IVec S128x512x256 32) := by
  simp only [hostOps0_4]
  after_results

/-- Division rounding down as the host spells it, on one pair of words. -/
def floorWord (w k : BitVec 32) : BitVec 32 :=
  if (IntOp.cmpi .ne (if w = 0 then (0 : BitVec 32) else if w.msb then -1 else 1) (if k = 0 then 0 else if k.msb then -1 else 1))
      &&& (IntOp.cmpi .ne (IntOp.remsi .host w k) 0#32) = 1#1
    then IntOp.divsi .host w k - 1#32 else IntOp.divsi .host w k

theorem floorWord_64 : ∀ l : Fin 256, floorWord (BitVec.ofNat 32 l.val) 64#32 = BitVec.ofNat 32 (l.val / 64) := by decide +kernel
theorem floorWord_128 : ∀ l : Fin 512, floorWord (BitVec.ofNat 32 l.val) 128#32 = BitVec.ofNat 32 (l.val / 128) := by decide +kernel

/-- The number of a column's head. -/
theorem seg3_v10 (h9 : (F main_v9 : IVec S128x512x256 32) = iotaInDim S128x512x256 32 2) (h1 : (F main_c_1 : IVec S_ 32) = constantI S_ 32 64#32)
    (x : Fin 128) (r : Fin 512) (l : Fin 256) : (StableHlo.after (hostOps0_3 (F := Ideal)) F main_v10 : IVec S128x512x256 32) (ix3 x r l) = BitVec.ofNat 32 (l.val / 64) := by
  simp only [hostOps0_3]
  after_results
  simp only [TRef.ofBuf_toBuf]
  rw [h9, h1]
  exact Eq.trans (b := floorWord (BitVec.ofNat 32 l.val) 64#32) rfl (floorWord_64 l)

/-- The number of a row's head. -/
theorem seg1_v8 (h9 : (F main_v7 : IVec S128x512x256 32) = iotaInDim S128x512x256 32 1) (h1 : (F main_c_0 : IVec S_ 32) = constantI S_ 32 128#32)
    (x : Fin 128) (r : Fin 512) (l : Fin 256) : (StableHlo.after (hostOps0_1 (F := Ideal)) F main_v8 : IVec S128x512x256 32) (ix3 x r l) = BitVec.ofNat 32 (r.val / 128) := by
  simp only [hostOps0_1]
  after_results
  simp only [TRef.ofBuf_toBuf]
  rw [h9, h1]
  exact Eq.trans (b := floorWord (BitVec.ofNat 32 r.val) 128#32) rfl (floorWord_128 r)

/-- The states behind the mask. -/
theorem seg5_v13 (h : (F main_c_2 : IVec S_ 32) = constantI S_ 32 0#32) (i : S128x512x256.Idx) :
    (StableHlo.after (hostOps0_5 (F := Ideal)) F main_v13 : FVec Ideal S128x512x256 .bf16) i
      = if (F main_v11 : IVec S128x512x256 1) i = 1#1 then (F main_v12 : FVec Ideal S128x512x256 .bf16) i else (0 : EReal) := by
  simp only [hostOps0_5]
  after_results
  simp only [TRef.ofBuf_toBuf]
  rw [h]
  exact Eq.trans (b := Scalar.select ((F main_v11 : IVec S128x512x256 1) i) ((F main_v12 : FVec Ideal S128x512x256 .bf16) i) (FloatOps.sitofp (F := Ideal) .bf16 (0#32))) rfl
    (by
      have z : (FloatOps.sitofp (F := Ideal) .bf16 (0#32) : EReal) = 0 := by
        show (((0#32 : BitVec 32).toInt : ℝ) : EReal) = 0
        norm_num
      rw [z]
      rfl)

theorem eq_word (a b : ℕ) (ha : a < 4) (hb : b < 4) : IntOp.cmpi .eq (BitVec.ofNat 32 a) (BitVec.ofNat 32 b) = if a = b then 1#1 else 0#1 := by
  interval_cases a <;> interval_cases b <;> decide

/-- The state of chunk `x` as the kernel reads it: head by head on the diagonal, transposed. -/
theorem s_eq (x : Fin 128) (r : Fin 512) (l : Fin 256) :
    (V m c main_v13 : FVec Ideal S128x512x256 .bf16) (ix3 x r l)
      = if r.val / 128 = l.val / 64 then (m (c, main_arg3) : FVec Ideal S4x128x64x128 .bf16) (ix4 (⟨r.val / 128, by omega⟩ : Fin 4) x (⟨l.val % 64, by omega⟩ : Fin 64) (⟨r.val % 128, by omega⟩ : Fin 128)) else (0 : EReal) := by
  unfold V
  simp only [List.flatten_cons, List.flatten_nil, List.append_nil, StableHlo.after_append]
  rw [seg5_v13 _ (by simp only [hostOps0_4]; after_results)]
  rw [seg4_v11, seg4_v12]
  have e10 := seg3_v10 (after hostOps0_2 (after hostOps0_1 (after hostOps0 fun b => m (c, b)))) (by simp only [hostOps0_2]; after_results) (by simp only [hostOps0_2]; after_results) x r l
  have e8 : (after hostOps0_3 (after hostOps0_2 (after hostOps0_1 (after hostOps0 fun b => m (c, b)))) main_v8 : IVec S128x512x256 32) (ix3 x r l) = BitVec.ofNat 32 (r.val / 128) := by
    have e := seg1_v8 (after hostOps0 fun b => m (c, b)) (by simp only [hostOps0]; after_results) (by simp only [hostOps0]; after_results) x r l
    rw [← e]
    refine congrFun ?_ (ix3 x r l)
    generalize after hostOps0_1 (after hostOps0 fun b => m (c, b)) = G
    simp only [hostOps0_3, hostOps0_2]
    after_results
  have e6 : (after hostOps0_3 (after hostOps0_2 (after hostOps0_1 (after hostOps0 fun b => m (c, b)))) main_v6 : FVec Ideal S128x512x64 .bf16)
      = shapeCast S128x512x64 (transpose S128x4x128x64 [1, 0, 3, 2] (m (c, main_arg3) : FVec Ideal S4x128x64x128 .bf16) transposes_S4x128x64x128_S128x4x128x64_1_0_3_2) shapeCasts_S128x4x128x64_S128x512x64 := by
    simp only [hostOps0_3, hostOps0_2, hostOps0_1, hostOps0]
    after_results
    rfl
  have hc : cmpi CmpIPredicate.eq
            (after hostOps0_3 (after hostOps0_2 (after hostOps0_1 (after hostOps0 fun b => m (c, b)))) main_v8 : IVec S128x512x256 32)
            (after hostOps0_3 (after hostOps0_2 (after hostOps0_1 (after hostOps0 fun b => m (c, b)))) main_v10 : IVec S128x512x256 32) (ix3 x r l) = if r.val / 128 = l.val / 64 then 1#1 else 0#1 :=
    (congrArg₂ (IntOp.cmpi .eq) e8 e10).trans (eq_word _ _ (by omega) (by omega))
  rw [hc, e6]
  by_cases h : r.val / 128 = l.val / 64
  · rw [if_pos h, if_pos h, if_pos rfl]
    pointwise []
    have e (p : Fin 64) (hp : p.val = l.val % 64) :
        (m (c, main_arg3) : FVec Ideal S4x128x64x128 .bf16) (ix4 (⟨r.val / 128, by omega⟩ : Fin 4) x p (⟨r.val % 128, by omega⟩ : Fin 128))
          = (m (c, main_arg3) : FVec Ideal S4x128x64x128 .bf16) (ix4 (⟨r.val / 128, by omega⟩ : Fin 4) x (⟨l.val % 64, by omega⟩ : Fin 64) (⟨r.val % 128, by omega⟩ : Fin 128)) := by
      have hp' : p = (⟨l.val % 64, by omega⟩ : Fin 64) := Fin.ext hp
      exact congrArg (fun p : Fin 64 => (m (c, main_arg3) : FVec Ideal S4x128x64x128 .bf16) (ix4 (⟨r.val / 128, by omega⟩ : Fin 4) x p (⟨r.val % 128, by omega⟩ : Fin 128))) hp'
    by_cases h0 : l.val < 64
    · rw [dif_pos h0]; exact e _ (by show l.val = _; omega)
    rw [dif_neg h0]
    by_cases h1 : l.val - 64 < 64
    · rw [dif_pos h1]; exact e _ (by show l.val - 64 = _; omega)
    rw [dif_neg h1]
    by_cases h2 : l.val - 64 - 64 < 64
    · rw [dif_pos h2]; exact e _ (by show l.val - 64 - 64 = _; omega)
    rw [dif_neg h2]
    exact e _ (by show l.val - 64 - 64 - 64 = _; omega)
  · rw [if_neg h, if_neg h]
    rfl

/-- An update of the gate weight's sixteen rows lands on the row of its own number. -/
theorem lands (i : S4x16x256.Idx) (x : Fin 4) (r : Fin 128) (l : Fin 256) :
    scatter_S4x128x256_S1_S4x16x256_012_n_1_0.resultIdx? i (fun _ => 0#32 : IVec S1 32) = some (ix3 x r l) ↔ (i 0).val = x.val ∧ (i 1).val = r.val ∧ (i 2).val = l.val := by
  rw [resultIdx?_eq_some]
  have st : ∀ a, scatter_S4x128x256_S1_S4x16x256_012_n_1_0.start i (fun _ => 0#32 : IVec S1 32) a = 0 := by
    intro a
    unfold ScatterDims.start
    split <;> rfl
  have w0 : scatter_S4x128x256_S1_S4x16x256_012_n_1_0.window i (0 : Fin 3) = (i 0).val := rfl
  have w1 : scatter_S4x128x256_S1_S4x16x256_012_n_1_0.window i (1 : Fin 3) = (i 1).val := rfl
  have w2 : scatter_S4x128x256_S1_S4x16x256_012_n_1_0.window i (2 : Fin 3) = (i 2).val := rfl
  constructor
  · intro h
    have h0 := h (0 : Fin 3); have h1 := h (1 : Fin 3); have h2 := h (2 : Fin 3)
    rw [st, w0] at h0; rw [st, w1] at h1; rw [st, w2] at h2
    have e0 : ((i 0).val : Int) = x.val := by simpa using h0
    have e1 : ((i 1).val : Int) = r.val := by simpa using h1
    have e2 : ((i 2).val : Int) = l.val := by simpa using h2
    omega
  · rintro ⟨h0, h1, h2⟩ a
    rw [st]
    match a with
    | ⟨0, _⟩ => show 0 + ((i 0).val : Int) = x.val; omega
    | ⟨1, _⟩ => show 0 + ((i 1).val : Int) = r.val; omega
    | ⟨2, _⟩ => show 0 + ((i 2).val : Int) = l.val; omega

/-- The gate's weight as the kernel reads it. -/
theorem w_eq (x : Fin 4) (r : Fin 128) (l : Fin 256) :
    (V m c main_v3 : FVec Ideal S4x128x256 .bf16) (ix3 x r l)
      = if h : r.val < 16 then (m (c, main_arg1) : FVec Ideal S4x16x256 .f32) (ix3 x (⟨r.val, h⟩ : Fin 16) l) else (0 : EReal) := by
  unfold V
  simp only [List.flatten_cons, List.flatten_nil, List.append_nil, List.cons_append, List.nil_append]
  after_results
  have hz : (broadcastInDim S1 ![] bcast_S_S1 (constantI S_ 32 0#32) : IVec S1 32) = fun _ => 0#32 := rfl
  rw [hz]
  by_cases h : r.val < 16
  · rw [dif_pos h]
    refine scatter_set_hit _ _ _ _ _ _ (fun j hj => ?_) (ix3 x (⟨r.val, h⟩ : Fin 16) l) ((lands _ x r l).2 ⟨rfl, rfl, rfl⟩)
    obtain ⟨h0, h1, h2⟩ := (lands j x r l).1 hj
    have ej : j = ix3 x (⟨r.val, h⟩ : Fin 16) l := by
      rw [eq_ix3 j]
      rw [show j 0 = x from Fin.ext h0, show j 1 = (⟨r.val, h⟩ : Fin 16) from Fin.ext h1, show j 2 = l from Fin.ext h2]
    rw [ej]
    rfl
  · rw [dif_neg h]
    refine (scatter_set_miss _ _ _ _ _ fun j hj => ?_).trans ?_
    · obtain ⟨h0, h1, h2⟩ := (lands j x r l).1 hj
      exact h (h1 ▸ (j 1).isLt)
    · pointwise []

/-- The gate's bias as the kernel reads it. -/
theorem b_eq (x : Fin 4) (z : Fin 1) (l : Fin 256) :
    (V m c main_v4 : FVec Ideal S4x1x256 .f32) (ix3 x z l) = (m (c, main_arg2) : FVec Ideal S4x256 .f32) (ix2 x l) := by
  unfold V
  simp only [List.flatten_cons, List.flatten_nil, List.append_nil, List.cons_append, List.nil_append]
  after_results
  pointwise []

end Gla.Prep

end
-- ==== Proof.Gla.Load.lean ====
/-
  What the body loads for a block, and the lists of its stores, chunk by chunk.
-/
module

public import proofs.«01_k».proof.Proof.Gla.Core
public import proofs.«01_k».proof.Proof.Gen.KernelIdeal.Frame
public import Idealize.ShloMosaic.Lib.VecWindow
public import Idealize.ShloMosaic.Lib.Pointwise
public import Idealize.ShloMosaic.Lib.Pipeline.ValueKit.Tiles

@[expose] public section

set_option maxRecDepth 16384

noncomputable section

namespace Gla.Core

open Idealize.ShloMosaic Cert.KernelIdeal Cert.KernelIdeal.Gen

variable {F : FTy → Type} [FloatOps F]

theorem inbV : ∀ c : Fin 8, ∀ a, (![64 * c.val, 0] : Fin 2 → Nat) a + S64x512.size a ≤ S512x512.size a := by decide
theorem inbQ : ∀ c : Fin 8, ∀ a, (![64 * c.val, 0] : Fin 2 → Nat) a + S64x256.size a ≤ S512x256.size a := by decide
theorem inbS : ∀ c : Fin 8, ∀ a, (![c.val, 0, 0] : Fin 3 → Nat) a + S1x512x256.size a ≤ S8x512x256.size a := by decide

/-- What the body loads, from whole buffers that hold `x0` to `x7`. -/
def loads {arg1 : Memref sig .tc .vmem S512x256 .bf16} (harg1 : arg1.IsWhole)
    {arg2 : Memref sig .tc .vmem S512x256 .bf16} (harg2 : arg2.IsWhole)
    {arg3 : Memref sig .tc .vmem S512x512 .bf16} (harg3 : arg3.IsWhole)
    {arg4 : Memref sig .tc .vmem S512x128 .bf16} (harg4 : arg4.IsWhole)
    {arg5 : Memref sig .tc .vmem S1x128x256 .bf16} (harg5 : arg5.IsWhole)
    {arg6 : Memref sig .tc .vmem S1x1x256 .f32} (harg6 : arg6.IsWhole)
    {arg7 : Memref sig .tc .vmem S8x512x256 .bf16} (harg7 : arg7.IsWhole)
    {arg8 : Memref sig .tc .vmem S512x512 .bf16} (harg8 : arg8.IsWhole)
    (x0 x1 : Vec F S512x256 .bf16) (x2 : Vec F S512x512 .bf16) (x3 : Vec F S512x128 .bf16)
    (x4 : Vec F S1x128x256 .bf16) (x5 : Vec F S1x1x256 .f32) (x6 : Vec F S8x512x256 .bf16) (x7 : Vec F S512x512 .bf16) :
    In F where
  q := View.readAt (Elt F) arg1.view (Rect.unit (s := S512x256) ![0, 0] S512x256.size inb_S512x256_S512x256_0_0).toLoadRect
    (harg1.unread x0)
  k := View.readAt (Elt F) arg2.view (Rect.unit (s := S512x256) ![0, 0] S512x256.size inb_S512x256_S512x256_0_0).toLoadRect
    (harg2.unread x1)
  lr := View.readAt (Elt F) arg4.view (Rect.unit (s := S512x128) ![0, 0] S512x128.size inb_S512x128_S512x128_0_0).toLoadRect
    (harg4.unread x3)
  w := View.readAt (Elt F) arg5.view
    (Rect.unit (s := S1x128x256) ![0, 0, 0] S1x128x256.size inb_S1x128x256_S1x128x256_0_0_0).toLoadRect (harg5.unread x4)
  b := View.readAt (Elt F) arg6.view
    (Rect.unit (s := S1x1x256) ![0, 0, 0] S1x1x256.size inb_S1x1x256_S1x1x256_0_0_0).toLoadRect (harg6.unread x5)
  v := fun c => View.readAt (Elt F) arg3.view (Rect.unit (s := S512x512) ![64 * c.val, 0] S64x512.size (inbV c)).toLoadRect
    (harg3.unread x2)
  o := fun c => View.readAt (Elt F) arg8.view (Rect.unit (s := S512x512) ![64 * c.val, 0] S64x512.size (inbV c)).toLoadRect
    (harg8.unread x7)
  s := fun c => View.readAt (Elt F) arg7.view
    (Rect.unit (s := S8x512x256) ![c.val, 0, 0] S1x512x256.size (inbS c)).toLoadRect (harg7.unread x6)

/-- The same as plain functions of the blocks. -/
def block (x0 x1 : Vec F S512x256 .bf16) (x2 : Vec F S512x512 .bf16) (x3 : Vec F S512x128 .bf16)
    (x4 : Vec F S1x128x256 .bf16) (x5 : Vec F S1x1x256 .f32) (x6 : Vec F S8x512x256 .bf16) (x7 : Vec F S512x512 .bf16) :
    In F where
  q := x0
  k := x1
  lr := x3
  w := x4
  b := x5
  v := fun c j => x2 ((Rect.unit (s := S512x512) ![64 * c.val, 0] S64x512.size (inbV c)).toLoadRect.idx j)
  o := fun c j => x7 ((Rect.unit (s := S512x512) ![64 * c.val, 0] S64x512.size (inbV c)).toLoadRect.idx j)
  s := fun c j => x6 ((Rect.unit (s := S8x512x256) ![c.val, 0, 0] S1x512x256.size (inbS c)).toLoadRect.idx j)

theorem loads_eq {arg1 : Memref sig .tc .vmem S512x256 .bf16} (harg1 : arg1.IsWhole)
    {arg2 : Memref sig .tc .vmem S512x256 .bf16} (harg2 : arg2.IsWhole)
    {arg3 : Memref sig .tc .vmem S512x512 .bf16} (harg3 : arg3.IsWhole)
    {arg4 : Memref sig .tc .vmem S512x128 .bf16} (harg4 : arg4.IsWhole)
    {arg5 : Memref sig .tc .vmem S1x128x256 .bf16} (harg5 : arg5.IsWhole)
    {arg6 : Memref sig .tc .vmem S1x1x256 .f32} (harg6 : arg6.IsWhole)
    {arg7 : Memref sig .tc .vmem S8x512x256 .bf16} (harg7 : arg7.IsWhole)
    {arg8 : Memref sig .tc .vmem S512x512 .bf16} (harg8 : arg8.IsWhole)
    (x0 x1 : Vec F S512x256 .bf16) (x2 : Vec F S512x512 .bf16) (x3 : Vec F S512x128 .bf16)
    (x4 : Vec F S1x128x256 .bf16) (x5 : Vec F S1x1x256 .f32) (x6 : Vec F S8x512x256 .bf16) (x7 : Vec F S512x512 .bf16) :
    loads harg1 harg2 harg3 harg4 harg5 harg6 harg7 harg8 x0 x1 x2 x3 x4 x5 x6 x7 = block x0 x1 x2 x3 x4 x5 x6 x7 := by
  have e (A B : In F) (h1 : A.q = B.q) (h2 : A.k = B.k) (h3 : A.lr = B.lr) (h4 : A.w = B.w) (h5 : A.b = B.b)
      (h6 : A.v = B.v) (h7 : A.o = B.o) (h8 : A.s = B.s) : A = B := by
    cases A; cases B; cases h1; cases h2; cases h3; cases h4; cases h5; cases h6; cases h7; cases h8; rfl
  apply e
  · exact (View.readAt_full _ _ _).trans (harg1.read_unread _)
  · exact (View.readAt_full _ _ _).trans (harg2.read_unread _)
  · exact (View.readAt_full _ _ _).trans (harg4.read_unread _)
  · exact (View.readAt_full _ _ _).trans (harg5.read_unread _)
  · exact (View.readAt_full _ _ _).trans (harg6.read_unread _)
  · funext c j; exact congrFun (harg3.read_unread _) _
  · funext c j; exact congrFun (harg8.read_unread _) _
  · funext c j; exact congrFun (harg7.read_unread _) _

/-- Eight stores of 64 rows, the last first. -/
def stores256 (P : Fin 8 → Vec F S64x256 .bf16) : List (View.Piece (Elt F) S512x256 .bf16) :=
  [⟨Rect.unit (s := S512x256) ![0, 0] S64x256.size inb_S512x256_S64x256_0_0, P 0⟩,
   ⟨Rect.unit (s := S512x256) ![64, 0] S64x256.size inb_S512x256_S64x256_64_0, P 1⟩,
   ⟨Rect.unit (s := S512x256) ![128, 0] S64x256.size inb_S512x256_S64x256_128_0, P 2⟩,
   ⟨Rect.unit (s := S512x256) ![192, 0] S64x256.size inb_S512x256_S64x256_192_0, P 3⟩,
   ⟨Rect.unit (s := S512x256) ![256, 0] S64x256.size inb_S512x256_S64x256_256_0, P 4⟩,
   ⟨Rect.unit (s := S512x256) ![320, 0] S64x256.size inb_S512x256_S64x256_320_0, P 5⟩,
   ⟨Rect.unit (s := S512x256) ![384, 0] S64x256.size inb_S512x256_S64x256_384_0, P 6⟩,
   ⟨Rect.unit (s := S512x256) ![448, 0] S64x256.size inb_S512x256_S64x256_448_0, P 7⟩]

def stores512 (P : Fin 8 → Vec F S64x512 .bf16) : List (View.Piece (Elt F) S512x512 .bf16) :=
  [⟨Rect.unit (s := S512x512) ![0, 0] S64x512.size inb_S512x512_S64x512_0_0, P 0⟩,
   ⟨Rect.unit (s := S512x512) ![64, 0] S64x512.size inb_S512x512_S64x512_64_0, P 1⟩,
   ⟨Rect.unit (s := S512x512) ![128, 0] S64x512.size inb_S512x512_S64x512_128_0, P 2⟩,
   ⟨Rect.unit (s := S512x512) ![192, 0] S64x512.size inb_S512x512_S64x512_192_0, P 3⟩,
   ⟨Rect.unit (s := S512x512) ![256, 0] S64x512.size inb_S512x512_S64x512_256_0, P 4⟩,
   ⟨Rect.unit (s := S512x512) ![320, 0] S64x512.size inb_S512x512_S64x512_320_0, P 5⟩,
   ⟨Rect.unit (s := S512x512) ![384, 0] S64x512.size inb_S512x512_S64x512_384_0, P 6⟩,
   ⟨Rect.unit (s := S512x512) ![448, 0] S64x512.size inb_S512x512_S64x512_448_0, P 7⟩]

theorem stores256_eq {P : Fin 8 → Vec F S64x256 .bf16} {p0 p1 p2 p3 p4 p5 p6 p7 : Vec F S64x256 .bf16}
    (h0 : p0 = P 0) (h1 : p1 = P 1) (h2 : p2 = P 2) (h3 : p3 = P 3) (h4 : p4 = P 4) (h5 : p5 = P 5) (h6 : p6 = P 6) (h7 : p7 = P 7) :
    ([⟨Rect.unit (s := S512x256) ![0, 0] S64x256.size inb_S512x256_S64x256_0_0, p0⟩, ⟨Rect.unit (s := S512x256) ![64, 0] S64x256.size inb_S512x256_S64x256_64_0, p1⟩, ⟨Rect.unit (s := S512x256) ![128, 0] S64x256.size inb_S512x256_S64x256_128_0, p2⟩, ⟨Rect.unit (s := S512x256) ![192, 0] S64x256.size inb_S512x256_S64x256_192_0, p3⟩, ⟨Rect.unit (s := S512x256) ![256, 0] S64x256.size inb_S512x256_S64x256_256_0, p4⟩, ⟨Rect.unit (s := S512x256) ![320, 0] S64x256.size inb_S512x256_S64x256_320_0, p5⟩, ⟨Rect.unit (s := S512x256) ![384, 0] S64x256.size inb_S512x256_S64x256_384_0, p6⟩, ⟨Rect.unit (s := S512x256) ![448, 0] S64x256.size inb_S512x256_S64x256_448_0, p7⟩] :
      List (View.Piece (Elt F) S512x256 .bf16)) = stores256 P := by
  subst h0 h1 h2 h3 h4 h5 h6 h7; rfl

theorem stores512_eq {P : Fin 8 → Vec F S64x512 .bf16} {p0 p1 p2 p3 p4 p5 p6 p7 : Vec F S64x512 .bf16}
    (h0 : p0 = P 0) (h1 : p1 = P 1) (h2 : p2 = P 2) (h3 : p3 = P 3) (h4 : p4 = P 4) (h5 : p5 = P 5) (h6 : p6 = P 6) (h7 : p7 = P 7) :
    ([⟨Rect.unit (s := S512x512) ![0, 0] S64x512.size inb_S512x512_S64x512_0_0, p0⟩, ⟨Rect.unit (s := S512x512) ![64, 0] S64x512.size inb_S512x512_S64x512_64_0, p1⟩, ⟨Rect.unit (s := S512x512) ![128, 0] S64x512.size inb_S512x512_S64x512_128_0, p2⟩, ⟨Rect.unit (s := S512x512) ![192, 0] S64x512.size inb_S512x512_S64x512_192_0, p3⟩, ⟨Rect.unit (s := S512x512) ![256, 0] S64x512.size inb_S512x512_S64x512_256_0, p4⟩, ⟨Rect.unit (s := S512x512) ![320, 0] S64x512.size inb_S512x512_S64x512_320_0, p5⟩, ⟨Rect.unit (s := S512x512) ![384, 0] S64x512.size inb_S512x512_S64x512_384_0, p6⟩, ⟨Rect.unit (s := S512x512) ![448, 0] S64x512.size inb_S512x512_S64x512_448_0, p7⟩] :
      List (View.Piece (Elt F) S512x512 .bf16)) = stores512 P := by
  subst h0 h1 h2 h3 h4 h5 h6 h7; rfl

/-- The array that eight tiles of 64 rows make. -/
def tile256 (P : Fin 8 → Vec F S64x256 .bf16) : Vec F S512x256 .bf16 := fun j =>
  P ⟨(j 0).val / 64, by have h : (j 0).val < 512 := (j 0).isLt; omega⟩ (ix2 ⟨(j 0).val % 64, by omega⟩ (j 1))

theorem canon_stores256 (P : Fin 8 → Vec F S64x256 .bf16) : View.canon (stores256 P) = tile256 P := by
  funext y
  have hy0 : (y 0).val < 512 := (y 0).isLt
  have hy1 : (y 1).val < 256 := (y 1).isLt
  have inb (k : Fin 8) (a : Fin 2) : (![64 * k.val, 0] : Fin 2 → ℕ) a + S64x256.size a ≤ S512x256.size a := by
    revert k a; decide +kernel
  have e : stores256 P = List.ofFn fun k : Fin 8 =>
      (⟨Rect.unit (s := S512x256) ![64 * k.val, 0] S64x256.size (inb k), P k⟩ : View.Piece (Elt F) S512x256 .bf16) := by
    simp only [List.ofFn_succ, List.ofFn_zero]; rfl
  rw [e]
  refine View.canon_ofFn_unit_eq_of_forall (S := S512x256) (fun k : Fin 8 => ![64 * k.val, 0]) S64x256.size inb P y _
    ⟨⟨(y 0).val / 64, by omega⟩, fun a => ?_⟩ fun k x hx => ?_
  · match a with
    | ⟨0, _⟩ => show 64 * ((y 0).val / 64) ≤ (y 0).val ∧ (y 0).val < 64 * ((y 0).val / 64) + 64; omega
    | ⟨1, _⟩ => show 0 ≤ (y 1).val ∧ (y 1).val < 0 + 256; omega
  · have h0 : (y 0).val = 64 * k.val + (x 0).val := hx 0
    have h1 : (y 1).val = 0 + (x 1).val := hx 1
    have hx0 : (x 0).val < 64 := (x 0).isLt
    have hk : k = ⟨(y 0).val / 64, by omega⟩ := Fin.ext (by show k.val = (y 0).val / 64; omega)
    have hxy : x = ix2 ⟨(y 0).val % 64, by omega⟩ (y 1) := by
      funext a
      match a with
      | ⟨0, _⟩ => exact Fin.ext (by show (x 0).val = (y 0).val % 64; omega)
      | ⟨1, _⟩ => exact Fin.ext (by show (x 1).val = (y 1).val; omega)
    rw [tile256, ← hk]; exact congrArg (P k) hxy

/-- The array that eight tiles of 64 rows make. -/
def tile512 (P : Fin 8 → Vec F S64x512 .bf16) : Vec F S512x512 .bf16 := fun j =>
  P ⟨(j 0).val / 64, by have h : (j 0).val < 512 := (j 0).isLt; omega⟩ (ix2 ⟨(j 0).val % 64, by omega⟩ (j 1))

theorem canon_stores512 (P : Fin 8 → Vec F S64x512 .bf16) : View.canon (stores512 P) = tile512 P := by
  funext y
  have hy0 : (y 0).val < 512 := (y 0).isLt
  have hy1 : (y 1).val < 512 := (y 1).isLt
  have inb (k : Fin 8) (a : Fin 2) : (![64 * k.val, 0] : Fin 2 → ℕ) a + S64x512.size a ≤ S512x512.size a := by
    revert k a; decide +kernel
  have e : stores512 P = List.ofFn fun k : Fin 8 =>
      (⟨Rect.unit (s := S512x512) ![64 * k.val, 0] S64x512.size (inb k), P k⟩ : View.Piece (Elt F) S512x512 .bf16) := by
    simp only [List.ofFn_succ, List.ofFn_zero]; rfl
  rw [e]
  refine View.canon_ofFn_unit_eq_of_forall (S := S512x512) (fun k : Fin 8 => ![64 * k.val, 0]) S64x512.size inb P y _
    ⟨⟨(y 0).val / 64, by omega⟩, fun a => ?_⟩ fun k x hx => ?_
  · match a with
    | ⟨0, _⟩ => show 64 * ((y 0).val / 64) ≤ (y 0).val ∧ (y 0).val < 64 * ((y 0).val / 64) + 64; omega
    | ⟨1, _⟩ => show 0 ≤ (y 1).val ∧ (y 1).val < 0 + 512; omega
  · have h0 : (y 0).val = 64 * k.val + (x 0).val := hx 0
    have h1 : (y 1).val = 0 + (x 1).val := hx 1
    have hx0 : (x 0).val < 64 := (x 0).isLt
    have hk : k = ⟨(y 0).val / 64, by omega⟩ := Fin.ext (by show k.val = (y 0).val / 64; omega)
    have hxy : x = ix2 ⟨(y 0).val % 64, by omega⟩ (y 1) := by
      funext a
      match a with
      | ⟨0, _⟩ => exact Fin.ext (by show (x 0).val = (y 0).val % 64; omega)
      | ⟨1, _⟩ => exact Fin.ext (by show (x 1).val = (y 1).val; omega)
    rw [tile512, ← hk]; exact congrArg (P k) hxy

end Gla.Core

end
-- ==== Proof.Gla.RefChunk.lean ====
/-
  One trip of the reference's loop, read at an index: every value the results depend on is the real number that `Gla.Chunk`
  names.
-/
module

public import proofs.«01_k».proof.Proof.Gen.ReferenceIdeal.Step
public import proofs.«01_k».proof.Proof.Gla.Spec
public import proofs.«01_k».proof.Proof.Gla.Reals

@[expose] public section

set_option maxRecDepth 16384

noncomputable section

namespace Gla.Ref

open Idealize.ShloMosaic Cert.ReferenceIdeal Cert.ReferenceIdeal.Gen Cert.ReferenceIdeal.Step

/-- What a trip reads, as real numbers. -/
structure Trip (j : ℕ) (s : State Ideal) (x : Chunk) (D : ℕ → ℕ → ℕ → ℝ) : Prop where
  q : ∀ (i : Fin 64) (l : Fin 256), b17 j s (ix2 i l) = (x.q i l : EReal)
  k : ∀ (i : Fin 64) (l : Fin 256), b18 j s (ix2 i l) = (x.k i l : EReal)
  v : ∀ (i : Fin 64) (l : Fin 512), b19 j s (ix2 i l) = (x.v i l : EReal)
  lr : ∀ (i : Fin 64) (r : Fin 16), b30 j s (ix2 i r) = (x.lr i r : EReal)
  o : ∀ (i : Fin 64) (l : Fin 512), b11 j s (ix2 i l) = (x.o i l : EReal)
  st : ∀ (h : Fin 4) (d : Fin 64) (e : Fin 128), b16 j s (ix3 h d e) = (x.s h d e : EReal)
  w : ∀ (r : Fin 16) (l : Fin 256), s.main_v16_3 (ix2 r l) = (x.w r l : EReal)
  b : ∀ l : Fin 256, s.main_v16_4 (ix1 l) = (x.b l : EReal)
  D : ∀ (h : Fin 4) (d : Fin 64) (e : Fin 128), s.main_v16_6 (ix3 h d e) = (D h d e : EReal)

variable {j : ℕ} {s : State Ideal} {x : Chunk} {D : ℕ → ℕ → ℕ → ℝ} (H : Trip j s x D)
include H

theorem e25 (h : Fin 4) (i d : Fin 64) : b25 j s (ix3 h i d) = ((x.q i (64 * h + d) * (1 / 8) : ℝ) : EReal) := by
  pointwise [b25, b24, b23, b22, b21]
  rw [H.q, bits_eighth, ← EReal.coe_mul, Nat.mul_comm 64]

theorem e27 (h : Fin 4) (i d : Fin 64) : b27 j s (ix3 h i d) = (x.k i (64 * h + d) : EReal) := by
  pointwise [b27, b26]
  rw [H.k, Nat.mul_comm 64]

theorem e29 (h : Fin 4) (i : Fin 64) (e : Fin 128) : b29 j s (ix3 h i e) = (x.v i (128 * h + e) : EReal) := by
  pointwise [b29, b28]
  rw [H.v, Nat.mul_comm 128]

theorem e141 (h : Fin 4) (i : Fin 64) (e : Fin 128) : b141 j s (ix3 h i e) = (x.o i (128 * h + e) : EReal) := by
  pointwise [b141, b140]
  rw [H.o, Nat.mul_comm 128]

theorem e34 (i : Fin 64) (l : Fin 256) : b34 j s (ix2 i l) = (x.pre i l : EReal) := by
  pointwise [b34, b31, b33, b32]
  rw [coe_dot _ _ _ _ (fun r => H.lr i r) (fun r => H.w r l), H.b, ← EReal.coe_add]
  rfl

theorem e35 (i : Fin 64) (l : Fin 256) : b35 j s (ix2 i l) = ((-x.pre i l : ℝ) : EReal) := by
  pointwise [b35]
  rw [e34 H, ← EReal.coe_neg]

theorem e40 (i : Fin 64) (l : Fin 256) : b40 j s (ix2 i l) = ((-x.pre i l : ℝ) : EReal) := by
  pointwise [b40, b39, b36]
  rw [e35 H]

theorem e48 (i : Fin 64) (l : Fin 256) : b48 j s (ix2 i l) = ((Real.log (1 + Real.exp (-x.pre i l)) : ℝ) : EReal) := by
  pointwise [b48, b38, b37, b36, b47, b46, b45, b44]
  rw [e40 H, e35 H]
  show max ((-x.pre i l : ℝ) : EReal) ((0 : ℝ) : EReal) + Ideal.log1p (Ideal.exp (-max ((-x.pre i l : ℝ) : EReal) (-((-x.pre i l : ℝ) : EReal)))) = _
  rw [abs_coe, ← EReal.coe_neg, log1p_exp, max_coe, ← EReal.coe_add, softplus_eq]

theorem e49 (i : Fin 64) (l : Fin 256) : b49 j s (ix2 i l) = ((Real.log (1 + Real.exp (-x.pre i l)) : ℝ) : EReal) := by
  pointwise [b49, b41]
  rw [e48 H, e40 H]
  rw [if_neg (by simp)]

theorem e63 (i : Fin 64) (l : Fin 256) : b63 j s (ix2 i l) = ((1 / (1 + Real.exp (x.pre i l)) : ℝ) : EReal) := by
  pointwise [b63, b62, b55, b61, b52, b58, b51, b57, b50, b56]
  rw [e49 H, e35 H]
  rw [bits_top, if_neg (EReal.coe_ne_top _), if_neg (EReal.coe_ne_top _), ← EReal.coe_sub, exp_coe, exp_sub_softplus, neg_neg]

theorem e85 (i : Fin 64) (l : Fin 256) : b85 j s (ix2 i l) = (x.la i l : EReal) := by
  pointwise [b85, b82, b84, b83]
  rw [e49 H]
  rw [bits_sixteen, ← EReal.coe_neg, div_coe _ (by norm_num)]
  rfl

theorem e90 (h : Fin 4) (i d : Fin 64) : b90 j s (ix3 h i d) = (x.cum i (64 * h + d) : EReal) := by
  unfold b90 Host.reduceWindowAdd
  refine (window_down (A := 4) (C := 64) _ _ ?_ _ h i d (fun k => x.la k (64 * h + d)) ?_).trans ?_
  · pointwise [b89, b88]
  · intro k
    pointwise [b87, b86]
    rw [e85 H, Nat.mul_comm 64]
  · rw [cum_eq _ _ _ i.isLt]

theorem e115 (h : Fin 4) (i k : Fin 64) : b115 j s (ix3 h i k) = if k.val ≤ i.val then 1#1 else 0#1 := by
  pointwise [b115, b111, b110, b109, b108, b107, b106, b105, b104, b103, b102, b101]
  revert i k
  decide +kernel

theorem e91 (h : Fin 4) (d : Fin 64) : b91 j s (ix3 h (0 : Fin 1) d) = (x.cl (64 * h + d) : EReal) := by
  pointwise [b91]
  rw [e90 H]
  rfl

theorem e92 (h : Fin 4) (i d : Fin 64) : b92 j s (ix3 h i d) = (Real.exp (x.cum i (64 * h + d)) : EReal) := by
  pointwise [b92]
  rw [e90 H, exp_coe]

theorem e93 (h : Fin 4) (i d : Fin 64) : b93 j s (ix3 h i d) = (x.qin i (64 * h + d) : EReal) := by
  pointwise [b93]
  rw [e25 H, e92 H, ← EReal.coe_mul]
  rfl

theorem e95 (h : Fin 4) (i d : Fin 64) : b95 j s (ix3 h i d) = (Real.exp (-x.cum i (64 * h + d)) : EReal) := by
  pointwise [b95, b94]
  rw [e90 H, ← EReal.coe_neg, exp_coe]

theorem e96 (h : Fin 4) (i d : Fin 64) : b96 j s (ix3 h i d) = (x.kin i (64 * h + d) : EReal) := by
  pointwise [b96]
  rw [e27 H, e95 H, ← EReal.coe_mul]
  rfl

theorem e99 (h : Fin 4) (i d : Fin 64) :
    b99 j s (ix3 h i d) = (Real.exp (x.cl (64 * h + d) - x.cum i (64 * h + d)) : EReal) := by
  pointwise [b99, b98, b97]
  rw [e90 H, e91 H, ← EReal.coe_sub, exp_coe]

theorem e100 (h : Fin 4) (i d : Fin 64) : b100 j s (ix3 h i d) = (x.kout i (64 * h + d) : EReal) := by
  pointwise [b100]
  rw [e27 H, e99 H, ← EReal.coe_mul]
  rfl

theorem e112 (h : Fin 4) (i k : Fin 64) :
    b112 j s (ix3 h i k) = ((∑ d : Fin 64, x.qin i (64 * h + d) * x.kin k (64 * h + d) : ℝ) : EReal) := by
  pointwise [b112]
  exact coe_dot _ _ _ _ (fun d => e93 H h i d) (fun d => e96 H h k d)

theorem e117 (h : Fin 4) (i k : Fin 64) : b117 j s (ix3 h i k) = (x.sc h i k : EReal) := by
  pointwise [b117, b116, b114, b113]
  rw [e115 H, e112 H]
  unfold Chunk.sc
  split
  · exact if_pos rfl
  · exact if_neg (by decide)

theorem e155 (h : Fin 4) (i k : Fin 64) :
    b155 j s (ix3 h i k) = ((∑ e : Fin 128, x.o i (128 * h + e) * x.v k (128 * h + e) : ℝ) : EReal) := by
  pointwise [b155]
  exact coe_dot _ _ _ _ (fun d => e141 H h i d) (fun d => e29 H h k d)

theorem e158 (h : Fin 4) (i k : Fin 64) : b158 j s (ix3 h i k) = (x.dsc h i k : EReal) := by
  pointwise [b158, b157, b156]
  rw [e115 H, e155 H]
  unfold Chunk.dsc
  split
  · exact if_pos rfl
  · exact if_neg (by decide)

theorem e123 (h : Fin 4) (d : Fin 64) : b123 j s (ix2 h d) = (Real.exp (x.cl (64 * h + d)) : EReal) := by
  pointwise [b123, b122]
  rw [e91 H, exp_coe]

theorem e144 (h : Fin 4) (d : Fin 64) (e : Fin 128) : b144 j s (ix3 h d e) = (x.dstate D h d e : EReal) := by
  pointwise [b144, b133, b132, b128, b143, b142]
  rw [e123 H, H.D, coe_dot _ _ _ _ (fun i => e141 H h i e) (fun i => e93 H h i d), ← EReal.coe_mul, ← EReal.coe_add]
  unfold Chunk.dstate
  rw [mul_comm]
  simp only [mul_comm]

omit H in
theorem hdiv (h d : ℕ) (hd : d < 64) : (64 * h + d) / 64 = h := by omega
omit H in
theorem hmod (h d : ℕ) (hd : d < 64) : (64 * h + d) % 64 = d := by omega

theorem e139 (h : Fin 4) (d : Fin 64) : b139 j s (ix2 h d) = (x.ddec D (64 * h + d) : EReal) := by
  pointwise [b139, b138, b137, b136, b135, b134]
  unfold Chunk.ddec
  rw [hdiv _ _ d.isLt, hmod _ _ d.isLt, ← coe_dot _ _ _ _ (fun e => H.D h d e) (fun e => H.st h d e), Fin.sum_univ_one]

theorem e147 (h : Fin 4) (d : Fin 64) :
    b147 j s (ix3 h (0 : Fin 1) d) = ((x.ddec D (64 * h + d) * Real.exp (x.cl (64 * h + d)) : ℝ) : EReal) := by
  pointwise [b147, b146]
  rw [e139 H, e123 H, ← EReal.coe_mul]

theorem e151 (h : Fin 4) (i d : Fin 64) : b151 j s (ix3 h i d) = (x.dkout D i (64 * h + d) : EReal) := by
  pointwise [b151, b150]
  rw [coe_dot _ _ _ _ (fun e => H.D h d e) (fun e => e29 H h i e)]
  unfold Chunk.dkout
  rw [hdiv _ _ d.isLt, hmod _ _ d.isLt]
  simp only [mul_comm]

theorem e154 (h : Fin 4) (i : Fin 64) (e : Fin 128) : b154 j s (ix3 h i e) = (x.dv D i h e : EReal) := by
  pointwise [b154, b149, b148, b153, b152]
  rw [coe_dot _ _ _ _ (fun d => H.D h d e) (fun d => e100 H h i d), coe_dot _ _ _ _ (fun k => e141 H h k e) (fun k => e117 H h k i),
    ← EReal.coe_add]
  unfold Chunk.dv
  rw [add_comm]
  simp only [mul_comm]

theorem e159 (h : Fin 4) (i d : Fin 64) : b159 j s (ix3 h i d) = (x.dkin i (64 * h + d) : EReal) := by
  pointwise [b159]
  rw [coe_dot _ _ _ _ (fun k => e158 H h k i) (fun k => e93 H h k d)]
  unfold Chunk.dkin
  rw [hdiv _ _ d.isLt]

theorem e161 (h : Fin 4) (i d : Fin 64) : b161 j s (ix3 h i d) = (x.dqin i (64 * h + d) : EReal) := by
  pointwise [b161, b145, b160]
  rw [coe_dot _ _ _ _ (fun e => e141 H h i e) (fun e => H.st h d e), coe_dot _ _ _ _ (fun k => e158 H h i k) (fun k => e96 H h k d),
    ← EReal.coe_add]
  unfold Chunk.dqin
  rw [hdiv _ _ d.isLt, hmod _ _ d.isLt]

theorem e164 (h : Fin 4) (i d : Fin 64) :
    b164 j s (ix3 h i d) = ((x.dkout D i (64 * h + d) * x.kout i (64 * h + d) : ℝ) : EReal) := by
  pointwise [b164, b162]
  rw [e27 H, e151 H, e99 H, ← EReal.coe_mul, ← EReal.coe_mul]
  unfold Chunk.kout
  congr 1; ring

theorem e169 (h : Fin 4) (d : Fin 64) : b169 j s (ix3 h (0 : Fin 1) d) = (x.dcl D (64 * h + d) : EReal) := by
  pointwise [b169, b167, b166, b165]
  rw [e147 H, coe_sum_of _ _ _ (fun i _ => e164 H h i d), ← EReal.coe_add, add_comm]
  rfl

theorem e172 (h : Fin 4) (i d : Fin 64) : b172 j s (ix3 h i d) = (x.dk D i (64 * h + d) : EReal) := by
  pointwise [b172, b163, b171]
  rw [e151 H, e99 H, e159 H, e95 H, ← EReal.coe_mul, ← EReal.coe_mul, ← EReal.coe_add, add_comm]
  rfl

theorem e179 (h : Fin 4) (i d : Fin 64) : b179 j s (ix3 h i d) = (x.dcum D i (64 * h + d) : EReal) := by
  pointwise [b179, b175, b168, b174, b173, b170, b178, b176]
  rw [e164 H, e27 H, e159 H, e95 H, e25 H, e161 H, e92 H]
  simp only [← EReal.coe_mul, ← EReal.coe_neg, ← EReal.coe_add]
  unfold Chunk.dcum Chunk.qin Chunk.kin
  congr 1; ring

theorem e182 (h : Fin 4) (i d : Fin 64) : b182 j s (ix3 h i d)
    = ((x.dcum D i (64 * h + d) + if i.val = 63 then x.dcl D (64 * h + d) else 0 : ℝ) : EReal) := by
  pointwise [b182, b181, b180]
  rw [e179 H]
  by_cases h63 : i.val = 63
  · rw [dif_pos (by omega), if_pos h63, EReal.coe_add, ← e169 H h d]
    congr 2
    exact congrArg (fun k => ix3 h k d) (Fin.ext (by show i.val - 63 = 0; omega))
  · rw [dif_neg (by omega), if_neg h63, add_zero, add_zero]

theorem e185 (h : Fin 4) (i d : Fin 64) : b185 j s (ix3 h i d) = (x.da D i (64 * h + d) : EReal) := by
  unfold b185 Host.reduceWindowAdd
  refine (window_up (A := 4) (C := 64) _ _ ?_ _ h i d
    (fun k => x.dcum D k (64 * h + d) + if k = 63 then x.dcl D (64 * h + d) else 0) ?_).trans ?_
  · pointwise [b184, b183]
  · intro k
    exact e182 H h k d
  · unfold Chunk.da
    congr 1
    rw [← Finset.sum_filter, Finset.sum_add_distrib, Finset.sum_filter]
    congr 1
    rw [Finset.sum_eq_single (63 : Fin 64)]
    · simp
    · intro k _ hk; rw [if_neg]; intro h'; exact hk (Fin.ext h')
    · intro h'; exact absurd (Finset.mem_filter.mpr ⟨Finset.mem_univ _, by have := i.isLt; show i.val ≤ 63; omega⟩) h'

theorem e187 (i : Fin 64) (l : Fin 256) : b187 j s (ix2 i l) = (x.da D i l : EReal) := by
  pointwise [b187, b186]
  rw [e185 H]
  simp only [Nat.div_add_mod]

theorem e193 (i : Fin 64) (l : Fin 256) : b193 j s (ix2 i l) = (x.dpre D i l : EReal) := by
  pointwise [b193, b192, b191, b190, b189, b188]
  rw [e187 H, e63 H, bits_sixteen, div_coe _ (by norm_num), ← EReal.coe_neg, ← EReal.coe_mul, ← EReal.coe_neg]
  unfold Chunk.dpre
  congr 1; ring

theorem e198 (l : Fin 256) : b198 j s (ix1 l) = (x.db D l : EReal) := by
  pointwise [b198, b197, b196, b195, b194]
  rw [coe_sum_of _ _ _ (fun i _ => e193 H i l), Fin.sum_univ_one]
  rfl

theorem e200 (r : Fin 16) (l : Fin 256) : b200 j s (ix2 r l) = (x.dw D r l : EReal) := by
  pointwise [b200, b199]
  rw [coe_dot _ _ _ _ (fun i => e193 H i l) (fun i => H.lr i r)]
  unfold Chunk.dw
  simp only [mul_comm]

theorem e201 (i : Fin 64) (r : Fin 16) : b201 j s (ix2 i r) = (x.dlr D i r : EReal) := by
  pointwise [b201]
  exact coe_dot _ _ _ _ (fun l => e193 H i l) (fun l => H.w r l)

theorem e203 (i : Fin 64) (r : Fin 128) : b203 j s (ix2 i r) = ((if r.val < 16 then x.dlr D i r else 0 : ℝ) : EReal) := by
  pointwise [b203, b202]
  split
  · rw [e201 H]
  · rfl

theorem e205 (i : Fin 64) (l : Fin 512) : b205 j s (ix2 i l) = (x.dv D i (l / 128) (l % 128) : EReal) := by
  pointwise [b205, b204]
  rw [e154 H]

theorem e207 (i : Fin 64) (l : Fin 256) : b207 j s (ix2 i l) = (x.dk D i l : EReal) := by
  pointwise [b207, b206]
  rw [e172 H]
  simp only [Nat.div_add_mod]

theorem e212 (i : Fin 64) (l : Fin 256) : b212 j s (ix2 i l) = (x.dq i l : EReal) := by
  pointwise [b212, b211, b210, b209, b208, b177]
  rw [e161 H, e92 H, bits_eighth, ← EReal.coe_mul, ← EReal.coe_mul]
  simp only [Nat.div_add_mod]
  rfl

theorem e215 (i : Fin 64) (l : Fin 1152) : b215 j s (ix2 i l) =
    ((if l.val < 256 then x.dq i l else if l.val < 512 then x.dk D i (l - 256)
      else if l.val < 1024 then x.dv D i ((l - 512) / 128) ((l - 512) % 128)
      else if l.val - 1024 < 16 then x.dlr D i (l - 1024) else 0 : ℝ) : EReal) := by
  pointwise [b215]
  by_cases h1 : l.val < 256
  · rw [dif_pos h1, if_pos h1, e212 H]
  rw [dif_neg h1, if_neg h1]
  by_cases h2 : l.val < 512
  · rw [dif_pos (by omega), if_pos h2, e207 H]
  rw [dif_neg (by omega), if_neg h2]
  by_cases h3 : l.val < 1024
  · rw [dif_pos (by omega), if_pos h3]
    refine (e205 H _ _).trans ?_
    show ((x.dv D i ((l.val - 256 - 256) / 128) ((l.val - 256 - 256) % 128) : ℝ) : EReal) = _
    rw [Nat.sub_sub]
  rw [dif_neg (by omega), if_neg h3]
  refine (e203 H _ _).trans ?_
  show ((if l.val - 256 - 256 - 512 < 16 then x.dlr D i (l.val - 256 - 256 - 512) else 0 : ℝ) : EReal) = _
  rw [Nat.sub_sub, Nat.sub_sub]

end Gla.Ref

end
-- ==== Proof.Gla.RefLoop.lean ====
/-
  The reference's loop over all its trips, and its results, as real numbers.
-/
module

public import proofs.«01_k».proof.Proof.Gla.RefChunk
public import Idealize.ShloMosaic.Lib.WordCmp

@[expose] public section

set_option maxRecDepth 16384

noncomputable section

namespace Gla

/-- The arguments as real numbers: the projection, the gate's weight and bias, the chunks' states and the output's gradient. -/
structure Args where
  p : ℕ → ℕ → ℝ
  w : ℕ → ℕ → ℝ
  b : ℕ → ℝ
  s : ℕ → ℕ → ℕ → ℕ → ℝ
  o : ℕ → ℕ → ℝ

/-- What chunk `n` reads. -/
def Args.chunk (a : Args) (n : ℕ) : Chunk where
  q i l := a.p (64 * n + i) (1536 + l)
  k i l := a.p (64 * n + i) (1792 + l)
  v i l := a.p (64 * n + i) (2048 + l)
  lr i r := a.p (64 * n + i) (3072 + r)
  w := a.w
  b := a.b
  s h d e := a.s h n d e
  o i l := a.o (64 * n + i) l

end Gla

namespace Gla.Ref

open Idealize.ShloMosaic Cert.ReferenceIdeal Cert.ReferenceIdeal.Gen Cert.ReferenceIdeal.Step

/-- A state's constants are the arguments. -/
structure Const (s : State Ideal) (a : Args) : Prop where
  p : ∀ (n : Fin 128) (i : Fin 64) (l : Fin 3200), s.main_v16_0 (ix3 n i l) = (a.p (64 * n + i) l : EReal)
  o : ∀ (n : Fin 128) (i : Fin 64) (l : Fin 512), s.main_v16_1 (ix3 n i l) = (a.o (64 * n + i) l : EReal)
  st : ∀ (n : Fin 128) (h : Fin 4) (d : Fin 64) (e : Fin 128), s.main_v16_2 (ix4 n h d e) = (a.s h n d e : EReal)
  w : ∀ (r : Fin 16) (l : Fin 256), s.main_v16_3 (ix2 r l) = (a.w r l : EReal)
  b : ∀ l : Fin 256, s.main_v16_4 (ix1 l) = (a.b l : EReal)

theorem start_toInt (s : State Ideal) : ∀ j : Fin 128, ((b3 j s) (Shape.Idx.first h_S_)).toInt = 127 - (j.val : ℤ) := by
  intro j
  have : ∀ j : Fin 128, (IntOp.subi (IntOp.subi 128#32 (BitVec.ofNat 32 j)) 1#32).toInt = 127 - (j.val : ℤ) := by decide +kernel
  exact this j

variable {s : State Ideal} {a : Args}

theorem at3 {α : Type*} {A B C : ℕ} (f : Shape.Idx ⟨3, ![A, B, C]⟩ → α) {n n' : Fin A} {i i' : Fin B} {l l' : Fin C}
    (hn : n.val = n'.val) (hi : i.val = i'.val) (hl : l.val = l'.val) : f (ix3 n i l) = f (ix3 n' i' l') := by
  rw [Fin.ext hn, Fin.ext hi, Fin.ext hl]

theorem at4 {α : Type*} {A B C E : ℕ} (f : Shape.Idx ⟨4, ![A, B, C, E]⟩ → α) {n n' : Fin A} {i i' : Fin B} {l l' : Fin C} {e e' : Fin E}
    (hn : n.val = n'.val) (hi : i.val = i'.val) (hl : l.val = l'.val) (he : e.val = e'.val) :
    f (ix4 n i l e) = f (ix4 n' i' l' e') := by
  rw [Fin.ext hn, Fin.ext hi, Fin.ext hl, Fin.ext he]

theorem start_eq (s : State Ideal) (j : Fin 128) : ((b3 j s) (Shape.Idx.first h_S_)).toInt = ((127 - j.val : ℕ) : ℤ) := by
  rw [start_toInt]; omega

theorem zero_add_val {n k : ℕ} (h : k = 0) : k + n = n := by omega

theorem e7 (H : Const s a) (j : Fin 128) (i : Fin 64) (l : Fin 3200) :
    b7 j s (ix2 i l) = (a.p (64 * (127 - j) + i) l : EReal) := by
  pointwise [b7, b6]
  have h0 := Host.clampedStart_of_le (s := S128x64x3200) (t := S1x64x3200) rfl (fun k => BitVec.toInt (![b3 (↑j) s, b4 (↑j) s, b5 (↑j) s] k (Shape.Idx.first h_S_)))
    0 (127 - j.val) (start_eq s j) (by show 127 - j.val + 1 ≤ 128; omega)
  have h1 := Host.clampedStart_of_le (s := S128x64x3200) (t := S1x64x3200) rfl (fun k => BitVec.toInt (![b3 (↑j) s, b4 (↑j) s, b5 (↑j) s] k (Shape.Idx.first h_S_)))
    1 0 rfl (by show 0 + 64 ≤ 64; omega)
  have h2 := Host.clampedStart_of_le (s := S128x64x3200) (t := S1x64x3200) rfl (fun k => BitVec.toInt (![b3 (↑j) s, b4 (↑j) s, b5 (↑j) s] k (Shape.Idx.first h_S_)))
    2 0 rfl (by show 0 + 3200 ≤ 3200; omega)
  refine Eq.trans ?_ (H.p ⟨127 - j.val, by omega⟩ i l)
  exact at3 (α := EReal) (A := 128) (B := 64) (C := 3200) s.main_v16_0 h0 (by show _ + i.val = i.val; rw [h1]; omega) (by show _ + l.val = l.val; rw [h2]; omega)

theorem e11 (H : Const s a) (j : Fin 128) (i : Fin 64) (l : Fin 512) :
    b11 j s (ix2 i l) = (a.o (64 * (127 - j) + i) l : EReal) := by
  pointwise [b11, b10]
  have h0 := Host.clampedStart_of_le (s := S128x64x512) (t := S1x64x512) rfl (fun k => BitVec.toInt (![b3 (↑j) s, b8 (↑j) s, b9 (↑j) s] k (Shape.Idx.first h_S_)))
    0 (127 - j.val) (start_eq s j) (by show 127 - j.val + 1 ≤ 128; omega)
  have h1 := Host.clampedStart_of_le (s := S128x64x512) (t := S1x64x512) rfl (fun k => BitVec.toInt (![b3 (↑j) s, b8 (↑j) s, b9 (↑j) s] k (Shape.Idx.first h_S_)))
    1 0 rfl (by show 0 + 64 ≤ 64; omega)
  have h2 := Host.clampedStart_of_le (s := S128x64x512) (t := S1x64x512) rfl (fun k => BitVec.toInt (![b3 (↑j) s, b8 (↑j) s, b9 (↑j) s] k (Shape.Idx.first h_S_)))
    2 0 rfl (by show 0 + 512 ≤ 512; omega)
  refine Eq.trans ?_ (H.o ⟨127 - j.val, by omega⟩ i l)
  exact at3 (α := EReal) (A := 128) (B := 64) (C := 512) s.main_v16_1 h0 (by show _ + i.val = i.val; rw [h1]; omega) (by show _ + l.val = l.val; rw [h2]; omega)

theorem e16 (H : Const s a) (j : Fin 128) (h : Fin 4) (d : Fin 64) (e : Fin 128) :
    b16 j s (ix3 h d e) = (a.s h (127 - j) d e : EReal) := by
  pointwise [b16, b15]
  have h0 := Host.clampedStart_of_le (s := S128x4x64x128) (t := S1x4x64x128) rfl (fun k => BitVec.toInt (![b3 (↑j) s, b12 (↑j) s, b13 (↑j) s, b14 (↑j) s] k (Shape.Idx.first h_S_)))
    0 (127 - j.val) (start_eq s j) (by show 127 - j.val + 1 ≤ 128; omega)
  have h1 := Host.clampedStart_of_le (s := S128x4x64x128) (t := S1x4x64x128) rfl (fun k => BitVec.toInt (![b3 (↑j) s, b12 (↑j) s, b13 (↑j) s, b14 (↑j) s] k (Shape.Idx.first h_S_)))
    1 0 rfl (by show 0 + 4 ≤ 4; omega)
  have h2 := Host.clampedStart_of_le (s := S128x4x64x128) (t := S1x4x64x128) rfl (fun k => BitVec.toInt (![b3 (↑j) s, b12 (↑j) s, b13 (↑j) s, b14 (↑j) s] k (Shape.Idx.first h_S_)))
    2 0 rfl (by show 0 + 64 ≤ 64; omega)
  have h3 := Host.clampedStart_of_le (s := S128x4x64x128) (t := S1x4x64x128) rfl (fun k => BitVec.toInt (![b3 (↑j) s, b12 (↑j) s, b13 (↑j) s, b14 (↑j) s] k (Shape.Idx.first h_S_)))
    3 0 rfl (by show 0 + 128 ≤ 128; omega)
  refine Eq.trans ?_ (H.st ⟨127 - j.val, by omega⟩ h d e)
  exact at4 (α := EReal) (A := 128) (B := 4) (C := 64) (E := 128) s.main_v16_2 h0 (by show _ + h.val = h.val; rw [h1]; omega) (by show _ + d.val = d.val; rw [h2]; omega) (by show _ + e.val = e.val; rw [h3]; omega)

theorem trip (H : Const s a) (j : Fin 128) (D : ℕ → ℕ → ℕ → ℝ)
    (hD : ∀ (h : Fin 4) (d : Fin 64) (e : Fin 128), s.main_v16_6 (ix3 h d e) = (D h d e : EReal)) :
    Trip j s (a.chunk (127 - j)) D where
  q i l := by
    pointwise [b17]
    rw [e7 H]
    rfl
  k i l := by
    pointwise [b18]
    rw [e7 H]
    rfl
  v i l := by
    pointwise [b19]
    rw [e7 H]
    rfl
  lr i l := by
    pointwise [b30, b20]
    rw [e7 H]
    rfl
  o i l := e11 H j i l
  st h d e := e16 H j h d e
  w r l := H.w r l
  b l := H.b l
  D := hD

/-- The row of all four gradients of a chunk that the loop writes. -/
def row (x : Chunk) (D : ℕ → ℕ → ℕ → ℝ) (i l : ℕ) : ℝ :=
  if l < 256 then x.dq i l else if l < 512 then x.dk D i (l - 256)
  else if l < 1024 then x.dv D i ((l - 512) / 128) ((l - 512) % 128)
  else if l - 1024 < 16 then x.dlr D i (l - 1024) else 0

theorem e219 {D : ℕ → ℕ → ℕ → ℝ} {x : Chunk} (j : Fin 128) (H : Trip j s x D) (n : Fin 128) (i : Fin 64) (l : Fin 1152) :
    b219 j s (ix3 n i l) = if n.val = 127 - j.val then (row x D i l : EReal) else s.main_v16_9 (ix3 n i l) := by
  pointwise [b219, b216]
  have h0 := Host.clampedStart_of_le (s := S128x64x1152) (t := S1x64x1152) rfl (fun k => BitVec.toInt (![b3 (↑j) s, b217 (↑j) s, b218 (↑j) s] k (Shape.Idx.first h_S_)))
    0 (127 - j.val) (start_eq s j) (by show 127 - j.val + 1 ≤ 128; omega)
  have h1 := Host.clampedStart_of_le (s := S128x64x1152) (t := S1x64x1152) rfl (fun k => BitVec.toInt (![b3 (↑j) s, b217 (↑j) s, b218 (↑j) s] k (Shape.Idx.first h_S_)))
    1 0 rfl (by show 0 + 64 ≤ 64; omega)
  have h2 := Host.clampedStart_of_le (s := S128x64x1152) (t := S1x64x1152) rfl (fun k => BitVec.toInt (![b3 (↑j) s, b217 (↑j) s, b218 (↑j) s] k (Shape.Idx.first h_S_)))
    2 0 rfl (by show 0 + 1152 ≤ 1152; omega)
  by_cases hn : n.val = 127 - j.val
  · rw [if_pos hn, dif_pos ⟨⟨by rw [h0, hn], by rw [h0, hn]; omega⟩, by rw [h1]; omega, by rw [h2]; omega⟩]
    refine Eq.trans ?_ (e215 H i l)
    exact congrArg₂ (fun p q => b215 (↑j) s (ix2 p q)) (Fin.ext (by show i.val - _ = i.val; rw [h1]; rfl))
      (Fin.ext (by show l.val - _ = l.val; rw [h2]; rfl))
  · rw [if_neg hn, dif_neg]
    rintro ⟨⟨p, q⟩, _⟩
    rw [h0] at p q
    omega

/-- What the loop holds after `n` trips. -/
structure After (a : Args) (n : ℕ) (s : State Ideal) : Prop where
  const : Const s a
  D : ∀ (h : Fin 4) (d : Fin 64) (e : Fin 128), s.main_v16_6 (ix3 h d e) = (carry a.chunk n h d e : EReal)
  W : ∀ (r : Fin 16) (l : Fin 256), s.main_v16_7 (ix2 r l) = (carryW a.chunk n r l : EReal)
  B : ∀ l : Fin 256, s.main_v16_8 (ix1 l) = (carryB a.chunk n l : EReal)
  out : ∀ (m : Fin 128) (i : Fin 64) (l : Fin 1152), 127 < m.val + n →
    s.main_v16_9 (ix3 m i l) = (row (a.chunk m) (carry a.chunk (127 - m)) i l : EReal)

theorem after_step {n : ℕ} (hn : n < 128) (H : After a n s) : After a (n + 1) (step n s) := by
  have T := trip H.const ⟨n, hn⟩ _ H.D
  refine ⟨⟨H.const.p, H.const.o, H.const.st, H.const.w, H.const.b⟩, fun h d e => ?_, fun r l => ?_, fun l => ?_, fun m i l hm => ?_⟩
  · exact e144 T h d e
  · show b213 n s (ix2 r l) = _
    pointwise [b213]
    rw [H.W, e200 T, ← EReal.coe_add]
    rfl
  · show b214 n s (ix1 l) = _
    pointwise [b214]
    rw [H.B, e198 T, ← EReal.coe_add]
    rfl
  · show b219 n s (ix3 m i l) = _
    rw [e219 ⟨n, hn⟩ T]
    by_cases h : m.val = 127 - n
    · rw [if_pos h, h, show 127 - (127 - n) = n by omega]
    · rw [if_neg h]
      exact H.out m i l (by omega)

theorem after_iter (it : ℕ → State Ideal) (hs : ∀ n, it (n + 1) = step n (it n)) (H0 : After a 0 (it 0)) :
    ∀ n, n ≤ 128 → After a n (it n) := by
  intro n
  induction n with
  | zero => exact fun _ => H0
  | succ n ih => exact fun h => hs n ▸ after_step (by omega) (ih (by omega))

/-! The results. -/

theorem last_row (H : After a 128 s) (R : Fin 8192) (l : Fin 1152) :
    s.main_v16_9 (ix3 ⟨R.val / 64, by omega⟩ ⟨R.val % 64, by omega⟩ l)
      = (row (a.chunk (R / 64)) (carry a.chunk (127 - R / 64)) (R % 64) l : EReal) := by
  exact H.out _ _ _ (by show 127 < R.val / 64 + 128; omega)

theorem r19 (H : After a 128 s) (R : Fin 8192) (l : Fin 256) :
    R_main_v19 s (ix2 R l) = ((a.chunk (R / 64)).dq (R % 64) l : EReal) := by
  pointwise [R_main_v19]
  refine (last_row H R ⟨l.val, by omega⟩).trans ?_
  have hl := l.isLt
  unfold row
  rw [if_pos (by show l.val < 256; omega)]

theorem r20 (H : After a 128 s) (R : Fin 8192) (l : Fin 256) :
    R_main_v20 s (ix2 R l) = ((a.chunk (R / 64)).dk (carry a.chunk (127 - R / 64)) (R % 64) l : EReal) := by
  pointwise [R_main_v20]
  refine (last_row H R ⟨256 + l.val, by omega⟩).trans ?_
  have hl := l.isLt
  unfold row
  rw [if_neg (by show ¬ 256 + l.val < 256; omega), if_pos (by show 256 + l.val < 512; omega), Nat.add_sub_cancel_left]

theorem r21 (H : After a 128 s) (R : Fin 8192) (l : Fin 512) :
    R_main_v21 s (ix2 R l) = ((a.chunk (R / 64)).dv (carry a.chunk (127 - R / 64)) (R % 64) (l / 128) (l % 128) : EReal) := by
  pointwise [R_main_v21]
  refine (last_row H R ⟨512 + l.val, by omega⟩).trans ?_
  have hl := l.isLt
  unfold row
  rw [if_neg (by show ¬ 512 + l.val < 256; omega), if_neg (by show ¬ 512 + l.val < 512; omega),
    if_pos (by show 512 + l.val < 1024; omega), Nat.add_sub_cancel_left]

theorem r22 (H : After a 128 s) (R : Fin 8192) (l : Fin 128) :
    R_main_v22 s (ix2 R l)
      = ((if l.val < 16 then (a.chunk (R / 64)).dlr (carry a.chunk (127 - R / 64)) (R % 64) l else 0 : ℝ) : EReal) := by
  pointwise [R_main_v22]
  refine (last_row H R ⟨1024 + l.val, by omega⟩).trans ?_
  have hl := l.isLt
  unfold row
  rw [if_neg (by show ¬ 1024 + l.val < 256; omega), if_neg (by show ¬ 1024 + l.val < 512; omega),
    if_neg (by show ¬ 1024 + l.val < 1024; omega), Nat.add_sub_cancel_left]

theorem r23 (H : After a 128 s) (r : Fin 128) (l : Fin 256) :
    R_main_v23 s (ix2 r l) = ((if r.val < 16 then carryW a.chunk 128 r l else 0 : ℝ) : EReal) := by
  pointwise [R_main_v23]
  split
  · exact H.W _ _
  · show (((0#32).toInt : ℝ) : EReal) = _
    simp

theorem r24 (H : After a 128 s) (l : Fin 256) :
    R_main_v24 s (ix2 (0 : Fin 1) l) = (carryB a.chunk 128 l : EReal) := by
  pointwise [R_main_v24]
  exact H.B l

end Gla.Ref

end
-- ==== Proof.Gla.Blocks.lean ====
/-
  The blocks the grid's points read, as the chunks of the arguments.
-/
module

public import proofs.«01_k».proof.Proof.Gla.Prep
public import proofs.«01_k».proof.Proof.Gla.Load
public import proofs.«01_k».proof.Proof.Gla.RefLoop

@[expose] public section

set_option maxRecDepth 16384

noncomputable section

namespace Gla.Prep

open Idealize.ShloMosaic Idealize.ShloMosaic.TcCoe Cert.KernelIdeal Cert.KernelIdeal.Gen

/-- The arrays hold the arguments `a`. -/
structure Holds (a : Args) (A0 : FVec Ideal S8192x3200 .bf16) (A1 : FVec Ideal S4x16x256 .f32) (A2 : FVec Ideal S4x256 .f32)
    (A3 : FVec Ideal S4x128x64x128 .bf16) (A4 : FVec Ideal S8192x512 .bf16) : Prop where
  p : ∀ (r : Fin 8192) (l : Fin 3200), A0 (ix2 r l) = (a.p r l : EReal)
  w : ∀ (r : Fin 16) (l : Fin 256), A1 (ix3 (0 : Fin 4) r l) = (a.w r l : EReal)
  b : ∀ l : Fin 256, A2 (ix2 (0 : Fin 4) l) = (a.b l : EReal)
  s : ∀ (h : Fin 4) (n : Fin 128) (d : Fin 64) (e : Fin 128), A3 (ix4 h n d e) = (a.s h n d e : EReal)
  o : ∀ (r : Fin 8192) (l : Fin 512), A4 (ix2 r l) = (a.o r l : EReal)

variable (m : (ℓ : Loc nD τ sig) → Buf (Elt Ideal) ℓ) (c : Dev nD)

theorem lt16 (t : Fin cfg0.N) : t.val < 16 := lt_of_lt_of_eq t.isLt N_0

theorem idx0 : ∀ t : Fin cfg0.N, win0_0.index t (0 : Fin 2) = 15 - t.val ∧ win0_0.index t (1 : Fin 2) = 6 := by decide +kernel
theorem idx1 : ∀ t : Fin cfg0.N, win0_1.index t (0 : Fin 2) = 15 - t.val ∧ win0_1.index t (1 : Fin 2) = 7 := by decide +kernel
theorem idx2 : ∀ t : Fin cfg0.N, win0_2.index t (0 : Fin 2) = 15 - t.val ∧ win0_2.index t (1 : Fin 2) = 4 := by decide +kernel
theorem idx3 : ∀ t : Fin cfg0.N, win0_3.index t (0 : Fin 2) = 15 - t.val ∧ win0_3.index t (1 : Fin 2) = 24 := by decide +kernel
theorem idx4 : ∀ t : Fin cfg0.N, win0_4.index t (0 : Fin 3) = 0 ∧ win0_4.index t (1 : Fin 3) = 0 ∧ win0_4.index t (2 : Fin 3) = 0 := by decide +kernel
theorem idx5 : ∀ t : Fin cfg0.N, win0_5.index t (0 : Fin 3) = 0 ∧ win0_5.index t (1 : Fin 3) = 0 ∧ win0_5.index t (2 : Fin 3) = 0 := by decide +kernel
theorem idx6 : ∀ t : Fin cfg0.N, win0_6.index t (0 : Fin 3) = 15 - t.val ∧ win0_6.index t (1 : Fin 3) = 0 ∧ win0_6.index t (2 : Fin 3) = 0 := by decide +kernel
theorem idx7 : ∀ t : Fin cfg0.N, win0_7.index t (0 : Fin 2) = 15 - t.val ∧ win0_7.index t (1 : Fin 2) = 0 := by decide +kernel

theorem x0_at (t : Fin cfg0.N) (r : Fin 512) (l : Fin 256) (R : Fin 8192) (L : Fin 3200) (hR : R.val = 512 * (15 - t.val) + r.val) (hL : L.val = 1536 + l.val) :
    (X0_0 m c t : FVec Ideal S512x256 .bf16) (ix2 r l) = (m ((c : Thread nD τ).loc main_arg0) : FVec Ideal S8192x3200 .bf16) (ix2 R L) := by
  unfold X0_0 Pipeline.Window.fill
  rw [dif_pos (moved0_0 t (ix2 r l)), ← V_main_arg0 m c]
  unfold iblk
  rw [View.read_apply]
  show V m c main_arg0 _ = V m c main_arg0 _
  congr 1
  funext a
  apply Fin.ext
  match a with
  | ⟨0, _⟩ => show win0_0.index t (0 : Fin 2) * 512 + 1 * r.val = R.val; rw [(idx0 t).1]; omega
  | ⟨1, _⟩ => show win0_0.index t (1 : Fin 2) * 256 + 1 * l.val = L.val; rw [(idx0 t).2]; omega

theorem x1_at (t : Fin cfg0.N) (r : Fin 512) (l : Fin 256) (R : Fin 8192) (L : Fin 3200) (hR : R.val = 512 * (15 - t.val) + r.val) (hL : L.val = 1792 + l.val) :
    (X0_1 m c t : FVec Ideal S512x256 .bf16) (ix2 r l) = (m ((c : Thread nD τ).loc main_arg0) : FVec Ideal S8192x3200 .bf16) (ix2 R L) := by
  unfold X0_1 Pipeline.Window.fill
  rw [dif_pos (moved0_1 t (ix2 r l)), ← V_main_arg0 m c]
  unfold iblk
  rw [View.read_apply]
  show V m c main_arg0 _ = V m c main_arg0 _
  congr 1
  funext a
  apply Fin.ext
  match a with
  | ⟨0, _⟩ => show win0_1.index t (0 : Fin 2) * 512 + 1 * r.val = R.val; rw [(idx1 t).1]; omega
  | ⟨1, _⟩ => show win0_1.index t (1 : Fin 2) * 256 + 1 * l.val = L.val; rw [(idx1 t).2]; omega

theorem x2_at (t : Fin cfg0.N) (r : Fin 512) (l : Fin 512) (R : Fin 8192) (L : Fin 3200) (hR : R.val = 512 * (15 - t.val) + r.val) (hL : L.val = 2048 + l.val) :
    (X0_2 m c t : FVec Ideal S512x512 .bf16) (ix2 r l) = (m ((c : Thread nD τ).loc main_arg0) : FVec Ideal S8192x3200 .bf16) (ix2 R L) := by
  unfold X0_2 Pipeline.Window.fill
  rw [dif_pos (moved0_2 t (ix2 r l)), ← V_main_arg0 m c]
  unfold iblk
  rw [View.read_apply]
  show V m c main_arg0 _ = V m c main_arg0 _
  congr 1
  funext a
  apply Fin.ext
  match a with
  | ⟨0, _⟩ => show win0_2.index t (0 : Fin 2) * 512 + 1 * r.val = R.val; rw [(idx2 t).1]; omega
  | ⟨1, _⟩ => show win0_2.index t (1 : Fin 2) * 512 + 1 * l.val = L.val; rw [(idx2 t).2]; omega

theorem x3_at (t : Fin cfg0.N) (r : Fin 512) (l : Fin 128) (R : Fin 8192) (L : Fin 3200) (hR : R.val = 512 * (15 - t.val) + r.val) (hL : L.val = 3072 + l.val) :
    (iblk m c 3 t : FVec Ideal S512x128 .bf16) (ix2 r l) = (m ((c : Thread nD τ).loc main_arg0) : FVec Ideal S8192x3200 .bf16) (ix2 R L) := by
  rw [← V_main_arg0 m c]
  unfold iblk
  rw [View.read_apply]
  show V m c main_arg0 _ = V m c main_arg0 _
  congr 1
  funext a
  apply Fin.ext
  match a with
  | ⟨0, _⟩ => show win0_3.index t (0 : Fin 2) * 512 + 1 * r.val = R.val; rw [(idx3 t).1]; omega
  | ⟨1, _⟩ => show win0_3.index t (1 : Fin 2) * 128 + 1 * l.val = L.val; rw [(idx3 t).2]; omega

theorem x4_at (t : Fin cfg0.N) (n : Fin 128) (l : Fin 256) :
    (iblk m c 4 t : FVec Ideal S1x128x256 .bf16) (ix3 (0 : Fin 1) n l) = (V m c main_v3 : FVec Ideal S4x128x256 .bf16) (ix3 (0 : Fin 4) n l) := by
  unfold iblk
  rw [View.read_apply]
  show V m c main_v3 _ = V m c main_v3 _
  congr 1
  funext a
  apply Fin.ext
  match a with
  | ⟨0, _⟩ => show win0_4.index t (0 : Fin 3) * 1 + 1 * 0 = 0; rw [(idx4 t).1]
  | ⟨1, _⟩ => show win0_4.index t (1 : Fin 3) * 128 + 1 * n.val = n.val; rw [(idx4 t).2.1]; omega
  | ⟨2, _⟩ => show win0_4.index t (2 : Fin 3) * 256 + 1 * l.val = l.val; rw [(idx4 t).2.2]; omega

theorem x5_at (t : Fin cfg0.N) (l : Fin 256) :
    (iblk m c 5 t : FVec Ideal S1x1x256 .f32) (ix3 (0 : Fin 1) (0 : Fin 1) l) = (V m c main_v4 : FVec Ideal S4x1x256 .f32) (ix3 (0 : Fin 4) (0 : Fin 1) l) := by
  unfold iblk
  rw [View.read_apply]
  show V m c main_v4 _ = V m c main_v4 _
  congr 1
  funext a
  apply Fin.ext
  match a with
  | ⟨0, _⟩ => show win0_5.index t (0 : Fin 3) * 1 + 1 * 0 = 0; rw [(idx5 t).1]
  | ⟨1, _⟩ => show win0_5.index t (1 : Fin 3) * 1 + 1 * 0 = 0; rw [(idx5 t).2.1]
  | ⟨2, _⟩ => show win0_5.index t (2 : Fin 3) * 256 + 1 * l.val = l.val; rw [(idx5 t).2.2]; omega

theorem x6_at (t : Fin cfg0.N) (x : Fin 8) (r : Fin 512) (l : Fin 256) (X : Fin 128) (hX : X.val = 8 * (15 - t.val) + x.val) :
    (iblk m c 6 t : FVec Ideal S8x512x256 .bf16) (ix3 x r l) = (V m c main_v13 : FVec Ideal S128x512x256 .bf16) (ix3 X r l) := by
  unfold iblk
  rw [View.read_apply]
  show V m c main_v13 _ = V m c main_v13 _
  congr 1
  funext a
  apply Fin.ext
  match a with
  | ⟨0, _⟩ => show win0_6.index t (0 : Fin 3) * 8 + 1 * x.val = X.val; rw [(idx6 t).1]; omega
  | ⟨1, _⟩ => show win0_6.index t (1 : Fin 3) * 512 + 1 * r.val = r.val; rw [(idx6 t).2.1]; omega
  | ⟨2, _⟩ => show win0_6.index t (2 : Fin 3) * 256 + 1 * l.val = l.val; rw [(idx6 t).2.2]; omega

theorem x7_at (t : Fin cfg0.N) (r : Fin 512) (l : Fin 512) (R : Fin 8192) (hR : R.val = 512 * (15 - t.val) + r.val) :
    (iblk m c 7 t : FVec Ideal S512x512 .bf16) (ix2 r l) = (m ((c : Thread nD τ).loc main_arg4) : FVec Ideal S8192x512 .bf16) (ix2 R l) := by
  rw [← V_main_arg4 m c]
  unfold iblk
  rw [View.read_apply]
  show V m c main_arg4 _ = V m c main_arg4 _
  congr 1
  funext a
  apply Fin.ext
  match a with
  | ⟨0, _⟩ => show win0_7.index t (0 : Fin 2) * 512 + 1 * r.val = R.val; rw [(idx7 t).1]; omega
  | ⟨1, _⟩ => show win0_7.index t (1 : Fin 2) * 512 + 1 * l.val = l.val; rw [(idx7 t).2]; omega

/-- What point `t` reads. -/
def readAt (t : Fin cfg0.N) : Core.In Ideal :=
  Core.block (X0_0 m c t) (X0_1 m c t) (X0_2 m c t) (iblk m c 3 t) (iblk m c 4 t) (iblk m c 5 t) (iblk m c 6 t) (iblk m c 7 t)

theorem tile_idx (k : Fin 8) (i : Fin 64) (l : Fin 512) (h : 64 * k.val + i.val < 512) :
    (Rect.unit (s := S512x512) ![64 * k.val, 0] S64x512.size (Core.inbV k)).toLoadRect.idx (ix2 i l) = ix2 (⟨64 * k.val + i.val, h⟩ : Fin 512) l := by
  funext b
  apply Fin.ext
  match b with
  | ⟨0, _⟩ => show 64 * k.val + 1 * i.val = 64 * k.val + i.val; omega
  | ⟨1, _⟩ => show 0 + 1 * l.val = l.val; omega

theorem slab_idx (k : Fin 8) (r : Fin 512) (l : Fin 256) :
    (Rect.unit (s := S8x512x256) ![k.val, 0, 0] S1x512x256.size (Core.inbS k)).toLoadRect.idx (ix3 (0 : Fin 1) r l) = ix3 k r l := by
  funext b
  apply Fin.ext
  match b with
  | ⟨0, _⟩ => show k.val + 1 * 0 = k.val; omega
  | ⟨1, _⟩ => show 0 + 1 * r.val = r.val; omega
  | ⟨2, _⟩ => show 0 + 1 * l.val = l.val; omega

section
variable (x0 x1 : Vec Ideal S512x256 .bf16) (x2 : Vec Ideal S512x512 .bf16) (x3 : Vec Ideal S512x128 .bf16)
    (x4 : Vec Ideal S1x128x256 .bf16) (x5 : Vec Ideal S1x1x256 .f32) (x6 : Vec Ideal S8x512x256 .bf16) (x7 : Vec Ideal S512x512 .bf16)
theorem block_q : (Core.block x0 x1 x2 x3 x4 x5 x6 x7).q = x0 := rfl
theorem block_k : (Core.block x0 x1 x2 x3 x4 x5 x6 x7).k = x1 := rfl
theorem block_lr : (Core.block x0 x1 x2 x3 x4 x5 x6 x7).lr = x3 := rfl
theorem block_w : (Core.block x0 x1 x2 x3 x4 x5 x6 x7).w = x4 := rfl
theorem block_b : (Core.block x0 x1 x2 x3 x4 x5 x6 x7).b = x5 := rfl

theorem block_v (k : Fin 8) (i : Fin 64) (l : Fin 512) :
    (Core.block x0 x1 x2 x3 x4 x5 x6 x7).v k (ix2 i l) = x2 (ix2 (⟨64 * k.val + i.val, by omega⟩ : Fin 512) l) :=
  congrArg x2 (tile_idx k i l _)

theorem block_o (k : Fin 8) (i : Fin 64) (l : Fin 512) :
    (Core.block x0 x1 x2 x3 x4 x5 x6 x7).o k (ix2 i l) = x7 (ix2 (⟨64 * k.val + i.val, by omega⟩ : Fin 512) l) :=
  congrArg x7 (tile_idx k i l _)

theorem block_s (k : Fin 8) (r : Fin 512) (l : Fin 256) :
    (Core.block x0 x1 x2 x3 x4 x5 x6 x7).s k (ix3 (0 : Fin 1) r l) = x6 (ix3 k r l) :=
  congrArg x6 (slab_idx k r l)

end

variable {m c} {a : Args}

theorem row (t k i : ℕ) : 64 * (8 * (15 - t) + k) + i = 512 * (15 - t) + (64 * k + i) := by omega

theorem row' (t r : ℕ) : 64 * (8 * (15 - t) + r / 64) + r % 64 = 512 * (15 - t) + r := by rw [row, Nat.div_add_mod]

theorem reads (H : Holds a (m ((c : Thread nD τ).loc main_arg0)) (m ((c : Thread nD τ).loc main_arg1)) (m ((c : Thread nD τ).loc main_arg2))
    (m ((c : Thread nD τ).loc main_arg3)) (m ((c : Thread nD τ).loc main_arg4))) (t : Fin cfg0.N) :
    Core.Reads (readAt m c t) fun k => a.chunk (8 * (15 - t.val) + k) where
  q r l := by
    unfold readAt
    rw [block_q, x0_at m c t r l ⟨512 * (15 - t.val) + r.val, by omega⟩ ⟨1536 + l.val, by omega⟩ rfl rfl, H.p]
    exact congrArg (fun R => ((a.p R (1536 + l.val) : ℝ) : EReal)) (row' t.val r.val).symm
  k r l := by
    unfold readAt
    rw [block_k, x1_at m c t r l ⟨512 * (15 - t.val) + r.val, by omega⟩ ⟨1792 + l.val, by omega⟩ rfl rfl, H.p]
    exact congrArg (fun R => ((a.p R (1792 + l.val) : ℝ) : EReal)) (row' t.val r.val).symm
  lr r l := by
    unfold readAt
    rw [block_lr, x3_at m c t r l ⟨512 * (15 - t.val) + r.val, by omega⟩ ⟨3072 + l.val, by omega⟩ rfl rfl, H.p]
    exact congrArg (fun R => ((a.p R (3072 + l.val) : ℝ) : EReal)) (row' t.val r.val).symm
  w k n l := by
    unfold readAt
    rw [block_w, x4_at m c t n l, w_eq m c 0 n l]
    by_cases h : n.val < 16
    · rw [dif_pos h, if_pos h]; exact H.w ⟨n.val, h⟩ l
    · rw [dif_neg h, if_neg h]; rfl
  b k l := by
    unfold readAt
    rw [block_b, x5_at m c t l, b_eq m c 0 0 l]
    exact H.b l
  v k i l := by
    unfold readAt
    rw [block_v, x2_at m c t _ l ⟨512 * (15 - t.val) + (64 * k.val + i.val), by omega⟩ ⟨2048 + l.val, by omega⟩ rfl rfl, H.p]
    exact congrArg (fun R => ((a.p R (2048 + l.val) : ℝ) : EReal)) (row t.val k.val i.val).symm
  o k i l := by
    unfold readAt
    rw [block_o, x7_at m c t _ l ⟨512 * (15 - t.val) + (64 * k.val + i.val), by omega⟩ rfl, H.o]
    exact congrArg (fun R => ((a.o R l.val : ℝ) : EReal)) (row t.val k.val i.val).symm
  s k r l := by
    have ht := lt16 t
    unfold readAt
    rw [block_s, x6_at m c t k r l ⟨8 * (15 - t.val) + k.val, by omega⟩ rfl, s_eq m c _ r l]
    by_cases h : r.val / 128 = l.val / 64
    · rw [if_pos h, if_pos h]
      refine (H.s _ _ _ _).trans ?_
      exact congrArg (fun R => ((a.s R (8 * (15 - t.val) + k.val) (l.val % 64) (r.val % 128) : ℝ) : EReal)) h
    · rw [if_neg h, if_neg h]; rfl

end Gla.Prep

end
-- ==== Proof.Gla.Finite.lean ====
/-
  Arrays of finite values are arrays of real numbers: the precondition gives the arguments.
-/
module

public import proofs.«01_k».proof.Pre_finite
public import proofs.«01_k».proof.Proof.Gen.Pre_finite
public import proofs.«01_k».proof.Proof.Gla.Blocks
public import Idealize.ShloMosaic.Lib.ReduceAll

@[expose] public section

set_option maxRecDepth 16384

noncomputable section

namespace Gla.Prep

open Idealize.ShloMosaic Cert.KernelIdeal

theorem top16 : Ideal.ofBits .bf16 0x7F80#16 = (⊤ : EReal) := by
  simp [Ideal.ofBits, Ideal.ieee]

/-- A value whose absolute value is below infinity is a real number. -/
theorem coe_of_abs (x t : EReal) (ht : t = ⊤) (h : Ideal.cmp .olt (max x (-x)) t = 1#1) : x = (x.toReal : EReal) := by
  subst ht
  have h1 : max x (-x) < ⊤ := by
    by_contra hn
    have : Ideal.cmp .olt (max x (-x)) ⊤ = 0#1 := by
      show BitVec.ofBool (decide (max x (-x) < ⊤)) = 0#1
      rw [decide_eq_false hn]; rfl
    rw [this] at h
    exact absurd h (by decide)
  have h2 := max_lt_iff.mp h1
  refine (EReal.coe_toReal h2.1.ne ?_).symm
  rintro rfl
  exact absurd h2.2 (by simp)

instance : Subsingleton (Shape.Idx Cert.Pre_finite.S_) := ⟨fun i j => funext fun a => a.elim0⟩

/-- The arguments that the arrays hold. -/
def argsOf (A0 : FVec Ideal S8192x3200 .bf16) (A1 : FVec Ideal S4x16x256 .f32) (A2 : FVec Ideal S4x256 .f32)
    (A3 : FVec Ideal S4x128x64x128 .bf16) (A4 : FVec Ideal S8192x512 .bf16) : Args where
  p r l := if h : r < 8192 ∧ l < 3200 then EReal.toReal (A0 (ix2 ⟨r, h.1⟩ ⟨l, h.2⟩)) else 0
  w r l := if h : r < 16 ∧ l < 256 then EReal.toReal (A1 (ix3 (0 : Fin 4) ⟨r, h.1⟩ ⟨l, h.2⟩)) else 0
  b l := if h : l < 256 then EReal.toReal (A2 (ix2 (0 : Fin 4) ⟨l, h⟩)) else 0
  s h n d e := if k : h < 4 ∧ n < 128 ∧ d < 64 ∧ e < 128 then EReal.toReal (A3 (ix4 ⟨h, k.1⟩ ⟨n, k.2.1⟩ ⟨d, k.2.2.1⟩ ⟨e, k.2.2.2⟩)) else 0
  o r l := if h : r < 8192 ∧ l < 512 then EReal.toReal (A4 (ix2 ⟨r, h.1⟩ ⟨l, h.2⟩)) else 0

variable {A0 : FVec Ideal S8192x3200 .bf16} {A1 : FVec Ideal S4x16x256 .f32} {A2 : FVec Ideal S4x256 .f32}
    {A3 : FVec Ideal S4x128x64x128 .bf16} {A4 : FVec Ideal S8192x512 .bf16}

/-- All of an array's values have an absolute value below infinity. -/
theorem coe_of_all {s : Shape} {φ : FTy} {axes : List (Fin s.rank)} (A T : FVec Ideal s φ) (hT : ∀ i, T i = (⊤ : EReal)) (init : IVec Cert.Pre_finite.S_ 1)
    (h : s.ReducesTo axes Cert.Pre_finite.S_) (hu : 0 < Cert.Pre_finite.S_.numel)
    (e : Host.reduce IntOp.andi (cmpf .olt (Host.absf A) T) init h hu = fun _ => 1#1) (i : s.Idx) : A i = ((EReal.toReal (A i) : ℝ) : EReal) :=
  coe_of_abs (A i) (T i) (hT i) (Host.reduce_andi_all _ init h hu ix0 (congrFun e ix0) i)

theorem fin0 (h : (Cert.Pre_finite.fn (F := Ideal) A0 A1 A2 A3 A4).1 = fun _ => 1#1) (i) : A0 i = ((EReal.toReal (A0 i) : ℝ) : EReal) := by
  unfold Cert.Pre_finite.fn Cert.Pre_finite.fn_part1 at h
  dsimp only at h
  exact coe_of_all A0 _ (fun _ => top16) _ Cert.Pre_finite.Facts.reducesTo_S8192x3200_S_d0_1 _ h i

theorem fin1 (h : (Cert.Pre_finite.fn (F := Ideal) A0 A1 A2 A3 A4).2.1 = fun _ => 1#1) (i) : A1 i = ((EReal.toReal (A1 i) : ℝ) : EReal) := by
  unfold Cert.Pre_finite.fn Cert.Pre_finite.fn_part1 at h
  dsimp only at h
  exact coe_of_all A1 _ (fun _ => bits_top) _ Cert.Pre_finite.Facts.reducesTo_S4x16x256_S_d0_1_2 _ h i

theorem fin2 (h : (Cert.Pre_finite.fn (F := Ideal) A0 A1 A2 A3 A4).2.2.1 = fun _ => 1#1) (i) : A2 i = ((EReal.toReal (A2 i) : ℝ) : EReal) := by
  unfold Cert.Pre_finite.fn Cert.Pre_finite.fn_part1 at h
  dsimp only at h
  exact coe_of_all A2 _ (fun _ => bits_top) _ Cert.Pre_finite.Facts.reducesTo_S4x256_S_d0_1 _ h i

theorem fin3 (h : (Cert.Pre_finite.fn (F := Ideal) A0 A1 A2 A3 A4).2.2.2.1 = fun _ => 1#1) (i) : A3 i = ((EReal.toReal (A3 i) : ℝ) : EReal) := by
  unfold Cert.Pre_finite.fn Cert.Pre_finite.fn_part1 at h
  dsimp only at h
  exact coe_of_all A3 _ (fun _ => top16) _ Cert.Pre_finite.Facts.reducesTo_S4x128x64x128_S_d0_1_2_3 _ h i

theorem fin4 (h : (Cert.Pre_finite.fn (F := Ideal) A0 A1 A2 A3 A4).2.2.2.2 = fun _ => 1#1) (i) : A4 i = ((EReal.toReal (A4 i) : ℝ) : EReal) := by
  unfold Cert.Pre_finite.fn Cert.Pre_finite.fn_part1 at h
  dsimp only at h
  exact coe_of_all A4 _ (fun _ => top16) _ Cert.Pre_finite.Facts.reducesTo_S8192x512_S_d0_1 _ h i

theorem holds_argsOf (h : (Cert.Pre_finite.fn (F := Ideal) A0 A1 A2 A3 A4).1 = (fun _ => 1#1)
    ∧ (Cert.Pre_finite.fn (F := Ideal) A0 A1 A2 A3 A4).2.1 = (fun _ => 1#1)
    ∧ (Cert.Pre_finite.fn (F := Ideal) A0 A1 A2 A3 A4).2.2.1 = (fun _ => 1#1)
    ∧ (Cert.Pre_finite.fn (F := Ideal) A0 A1 A2 A3 A4).2.2.2.1 = (fun _ => 1#1)
    ∧ (Cert.Pre_finite.fn (F := Ideal) A0 A1 A2 A3 A4).2.2.2.2 = (fun _ => 1#1)) : Holds (argsOf A0 A1 A2 A3 A4) A0 A1 A2 A3 A4 where
  p r l := by
    refine (fin0 h.1 _).trans (congrArg _ ?_)
    unfold argsOf
    dsimp only
    rw [dif_pos (And.intro r.isLt l.isLt)]
  w r l := by
    refine (fin1 h.2.1 _).trans (congrArg _ ?_)
    unfold argsOf
    dsimp only
    rw [dif_pos (And.intro r.isLt l.isLt)]
  b l := by
    refine (fin2 h.2.2.1 _).trans (congrArg _ ?_)
    unfold argsOf
    dsimp only
    rw [dif_pos l.isLt]
  s x n d e := by
    refine (fin3 h.2.2.2.1 _).trans (congrArg _ ?_)
    unfold argsOf
    dsimp only
    rw [dif_pos (And.intro x.isLt (And.intro n.isLt (And.intro d.isLt e.isLt)))]
  o r l := by
    refine (fin4 h.2.2.2.2 _).trans (congrArg _ ?_)
    unfold argsOf
    dsimp only
    rw [dif_pos (And.intro r.isLt l.isLt)]

end Gla.Prep

end
-- ==== Proof.Gla.DsA.lean ====
/-
  The gradient of the state through a block in which the gradient of the state starts from zero.
-/
module

public import proofs.«01_k».proof.Proof.Gla.Load

@[expose] public section

set_option maxRecDepth 16384
set_option maxHeartbeats 1000000

noncomputable section

namespace Gla.Core.RunA

open Idealize.ShloMosaic Cert.KernelIdeal Cert.KernelIdeal.Gen

open Cert.KernelIdeal.Gen.kernelRun0_A

variable {F : FTy → Type} [FloatOps F]

variable (c : Dev nD) (i : grid0.Coords) (arg1 : Memref sig .tc .vmem S512x256 .bf16) (harg1 : arg1.IsWhole) (arg2 : Memref sig .tc .vmem S512x256 .bf16) (harg2 : arg2.IsWhole) (arg3 : Memref sig .tc .vmem S512x512 .bf16) (harg3 : arg3.IsWhole) (arg4 : Memref sig .tc .vmem S512x128 .bf16) (harg4 : arg4.IsWhole) (arg5 : Memref sig .tc .vmem S1x128x256 .bf16) (harg5 : arg5.IsWhole) (arg6 : Memref sig .tc .vmem S1x1x256 .f32) (harg6 : arg6.IsWhole) (arg7 : Memref sig .tc .vmem S8x512x256 .bf16) (harg7 : arg7.IsWhole) (arg8 : Memref sig .tc .vmem S512x512 .bf16) (harg8 : arg8.IsWhole) (arg9 : Memref sig .tc .vmem S512x256 .bf16) (harg9 : arg9.IsWhole) (arg10 : Memref sig .tc .vmem S512x256 .bf16) (harg10 : arg10.IsWhole) (arg11 : Memref sig .tc .vmem S512x512 .bf16) (harg11 : arg11.IsWhole) (arg12 : Memref sig .tc .vmem S512x128 .bf16) (harg12 : arg12.IsWhole) (arg13 : Memref sig .tc .vmem S128x256 .f32) (harg13 : arg13.IsWhole) (arg14 : Memref sig .tc .vmem S1x256 .f32) (harg14 : arg14.IsWhole) (arg15 : Memref sig .tc .vmem S512x256 .f32) (harg15 : arg15.IsWhole) (hc0 : cond0_0 i)
  (x0 : Vec F S512x256 .bf16) (x1 : Vec F S512x256 .bf16) (x2 : Vec F S512x512 .bf16) (x3 : Vec F S512x128 .bf16) (x4 : Vec F S1x128x256 .bf16) (x5 : Vec F S1x1x256 .f32) (x6 : Vec F S8x512x256 .bf16) (x7 : Vec F S512x512 .bf16)

theorem ds1 : (sl.v423 c arg1 harg1 arg4 harg4 arg5 harg5 arg6 harg6 arg8 harg8 arg15 x0 x3 x4 x5 x7) = In.ds (loads harg1 harg2 harg3 harg4 harg5 harg6 harg7 harg8 x0 x1 x2 x3 x4 x5 x6 x7) (sl.v288 (F := F) c arg15) 1 := by
  rw [In.ds, In.ds]
  refine (View.readCov_cons_toLoadRect _ _ _ _).trans ?_
  dsimp only [sl.r, sl.r_10, sl.r_11, sl.r_12, sl.r_13, sl.r_14, sl.r_2, sl.r_25, sl.r_28, sl.r_31, sl.r_32, sl.r_4, sl.r_5, sl.r_6, sl.r_7, sl.r_8, sl.r_9, sl.v121, sl.v3, sl.v4, k0_pay10, k0_pay11, k0_pay22, k0_pay25, k0_pay27, k0_pay28, k0_pay29, k0_pay30, k0_pay31, k0_pay32, k0_pay33, k0_pay34, k0_pay35, k0_pay36, k0_pay37, k0_pay38, k0_pay39, k0_pay40, k0_pay43, k0_pay45, k0_pay51, k0_pay54, k0_pay56, k0_pay6, k0_pay7, k0_pay72, k0_pay8, k0_pay9, Core.dq, Core.dk, Core.dv, Core.dcum, Core.dcl, Core.dqin, Core.dkin, Core.dkout, Core.ddec, Core.dqStack, Core.dscores, Core.scores, Core.stack, Core.dvScores, Core.dstate, keep, rows, pile, sums, In.pre, In.la, In.cum, In.cl, In.e, In.einv, In.eout, In.qin, In.kin, In.kout, In.dec, In.st, In.dq, In.dk, In.dv, In.dcum, In.dcl, In.dact, In.at', hd0, hd1, hd2, hd3, tri, low, upp, diag, loads]
  exact rfl

theorem ds2 : (sl.v558 c arg1 harg1 arg4 harg4 arg5 harg5 arg6 harg6 arg8 harg8 arg15 x0 x3 x4 x5 x7) = In.ds (loads harg1 harg2 harg3 harg4 harg5 harg6 harg7 harg8 x0 x1 x2 x3 x4 x5 x6 x7) (sl.v288 (F := F) c arg15) 2 := by
  rw [In.ds, ← ds1]
  refine (View.readCov_cons_toLoadRect _ _ _ _).trans ?_
  dsimp only [sl.r, sl.r_10, sl.r_11, sl.r_12, sl.r_13, sl.r_14, sl.r_18, sl.r_19, sl.r_2, sl.r_4, sl.r_5, sl.r_53, sl.r_56, sl.r_6, sl.r_62, sl.r_63, sl.r_7, sl.r_79, sl.r_8, sl.r_9, sl.v121, sl.v3, sl.v4, k0_pay10, k0_pay108, k0_pay109, k0_pay11, k0_pay22, k0_pay25, k0_pay27, k0_pay28, k0_pay29, k0_pay30, k0_pay31, k0_pay32, k0_pay33, k0_pay34, k0_pay35, k0_pay36, k0_pay37, k0_pay38, k0_pay39, k0_pay40, k0_pay43, k0_pay45, k0_pay6, k0_pay7, k0_pay8, k0_pay83, k0_pay86, k0_pay9, k0_pay92, Core.dq, Core.dk, Core.dv, Core.dcum, Core.dcl, Core.dqin, Core.dkin, Core.dkout, Core.ddec, Core.dqStack, Core.dscores, Core.scores, Core.stack, Core.dvScores, Core.dstate, keep, rows, pile, sums, In.pre, In.la, In.cum, In.cl, In.e, In.einv, In.eout, In.qin, In.kin, In.kout, In.dec, In.st, In.dq, In.dk, In.dv, In.dcum, In.dcl, In.dact, In.at', hd0, hd1, hd2, hd3, tri, low, upp, diag, loads]
  exact rfl

theorem ds3 : (sl.v693 c arg1 harg1 arg4 harg4 arg5 harg5 arg6 harg6 arg8 harg8 arg15 x0 x3 x4 x5 x7) = In.ds (loads harg1 harg2 harg3 harg4 harg5 harg6 harg7 harg8 x0 x1 x2 x3 x4 x5 x6 x7) (sl.v288 (F := F) c arg15) 3 := by
  rw [In.ds, ← ds2]
  refine (View.readCov_cons_toLoadRect _ _ _ _).trans ?_
  dsimp only [sl.cst_189, sl.r, sl.r_10, sl.r_107, sl.r_11, sl.r_12, sl.r_13, sl.r_14, sl.r_18, sl.r_19, sl.r_2, sl.r_4, sl.r_5, sl.r_6, sl.r_7, sl.r_8, sl.r_85, sl.r_88, sl.r_9, sl.r_93, sl.r_94, sl.v121, sl.v3, sl.v4, k0_pay10, k0_pay11, k0_pay119, k0_pay122, k0_pay126, k0_pay139, k0_pay140, k0_pay22, k0_pay25, k0_pay27, k0_pay28, k0_pay29, k0_pay30, k0_pay31, k0_pay32, k0_pay33, k0_pay34, k0_pay35, k0_pay36, k0_pay37, k0_pay38, k0_pay39, k0_pay40, k0_pay43, k0_pay45, k0_pay6, k0_pay7, k0_pay8, k0_pay9, Core.dq, Core.dk, Core.dv, Core.dcum, Core.dcl, Core.dqin, Core.dkin, Core.dkout, Core.ddec, Core.dqStack, Core.dscores, Core.scores, Core.stack, Core.dvScores, Core.dstate, keep, rows, pile, sums, In.pre, In.la, In.cum, In.cl, In.e, In.einv, In.eout, In.qin, In.kin, In.kout, In.dec, In.st, In.dq, In.dk, In.dv, In.dcum, In.dcl, In.dact, In.at', hd0, hd1, hd2, hd3, tri, low, upp, diag, loads]
  exact rfl

theorem ds4 : (sl.v828 c arg1 harg1 arg4 harg4 arg5 harg5 arg6 harg6 arg8 harg8 arg15 x0 x3 x4 x5 x7) = In.ds (loads harg1 harg2 harg3 harg4 harg5 harg6 harg7 harg8 x0 x1 x2 x3 x4 x5 x6 x7) (sl.v288 (F := F) c arg15) 4 := by
  rw [In.ds, ← ds3]
  refine (View.readCov_cons_toLoadRect _ _ _ _).trans ?_
  dsimp only [sl.r, sl.r_10, sl.r_11, sl.r_113, sl.r_116, sl.r_12, sl.r_120, sl.r_121, sl.r_13, sl.r_14, sl.r_18, sl.r_19, sl.r_2, sl.r_4, sl.r_5, sl.r_6, sl.r_7, sl.r_8, sl.r_9, sl.v121, sl.v3, sl.v4, k0_pay10, k0_pay11, k0_pay150, k0_pay153, k0_pay156, k0_pay170, k0_pay22, k0_pay25, k0_pay27, k0_pay28, k0_pay29, k0_pay30, k0_pay31, k0_pay32, k0_pay33, k0_pay34, k0_pay35, k0_pay36, k0_pay37, k0_pay38, k0_pay39, k0_pay40, k0_pay43, k0_pay45, k0_pay6, k0_pay7, k0_pay8, k0_pay9, Core.dq, Core.dk, Core.dv, Core.dcum, Core.dcl, Core.dqin, Core.dkin, Core.dkout, Core.ddec, Core.dqStack, Core.dscores, Core.scores, Core.stack, Core.dvScores, Core.dstate, keep, rows, pile, sums, In.pre, In.la, In.cum, In.cl, In.e, In.einv, In.eout, In.qin, In.kin, In.kout, In.dec, In.st, In.dq, In.dk, In.dv, In.dcum, In.dcl, In.dact, In.at', hd0, hd1, hd2, hd3, tri, low, upp, diag, loads]
  exact rfl

theorem ds5 : (sl.v963 c arg1 harg1 arg4 harg4 arg5 harg5 arg6 harg6 arg8 harg8 arg15 x0 x3 x4 x5 x7) = In.ds (loads harg1 harg2 harg3 harg4 harg5 harg6 harg7 harg8 x0 x1 x2 x3 x4 x5 x6 x7) (sl.v288 (F := F) c arg15) 5 := by
  rw [In.ds, ← ds4]
  refine (View.readCov_cons_toLoadRect _ _ _ _).trans ?_
  dsimp only [sl.r, sl.r_10, sl.r_11, sl.r_12, sl.r_13, sl.r_138, sl.r_14, sl.r_141, sl.r_142, sl.r_145, sl.r_146, sl.r_18, sl.r_19, sl.r_2, sl.r_4, sl.r_5, sl.r_6, sl.r_7, sl.r_8, sl.r_9, sl.v121, sl.v3, sl.v4, k0_pay10, k0_pay11, k0_pay180, k0_pay183, k0_pay184, k0_pay186, k0_pay201, k0_pay22, k0_pay25, k0_pay27, k0_pay28, k0_pay29, k0_pay30, k0_pay31, k0_pay32, k0_pay33, k0_pay34, k0_pay35, k0_pay36, k0_pay37, k0_pay38, k0_pay39, k0_pay40, k0_pay43, k0_pay45, k0_pay6, k0_pay7, k0_pay8, k0_pay9, Core.dq, Core.dk, Core.dv, Core.dcum, Core.dcl, Core.dqin, Core.dkin, Core.dkout, Core.ddec, Core.dqStack, Core.dscores, Core.scores, Core.stack, Core.dvScores, Core.dstate, keep, rows, pile, sums, In.pre, In.la, In.cum, In.cl, In.e, In.einv, In.eout, In.qin, In.kin, In.kout, In.dec, In.st, In.dq, In.dk, In.dv, In.dcum, In.dcl, In.dact, In.at', hd0, hd1, hd2, hd3, tri, low, upp, diag, loads]
  exact rfl

theorem ds6 : (sl.v1098 c arg1 harg1 arg4 harg4 arg5 harg5 arg6 harg6 arg8 harg8 arg15 x0 x3 x4 x5 x7) = In.ds (loads harg1 harg2 harg3 harg4 harg5 harg6 harg7 harg8 x0 x1 x2 x3 x4 x5 x6 x7) (sl.v288 (F := F) c arg15) 6 := by
  rw [In.ds, ← ds5]
  refine (View.readCov_cons_toLoadRect _ _ _ _).trans ?_
  dsimp only [sl.r, sl.r_10, sl.r_11, sl.r_12, sl.r_13, sl.r_14, sl.r_167, sl.r_170, sl.r_171, sl.r_18, sl.r_19, sl.r_2, sl.r_4, sl.r_5, sl.r_6, sl.r_7, sl.r_8, sl.r_9, sl.v121, sl.v3, sl.v4, k0_pay10, k0_pay11, k0_pay211, k0_pay214, k0_pay216, k0_pay22, k0_pay233, k0_pay25, k0_pay27, k0_pay28, k0_pay29, k0_pay30, k0_pay31, k0_pay32, k0_pay33, k0_pay34, k0_pay35, k0_pay36, k0_pay37, k0_pay38, k0_pay39, k0_pay40, k0_pay43, k0_pay45, k0_pay6, k0_pay7, k0_pay8, k0_pay9, Core.dq, Core.dk, Core.dv, Core.dcum, Core.dcl, Core.dqin, Core.dkin, Core.dkout, Core.ddec, Core.dqStack, Core.dscores, Core.scores, Core.stack, Core.dvScores, Core.dstate, keep, rows, pile, sums, In.pre, In.la, In.cum, In.cl, In.e, In.einv, In.eout, In.qin, In.kin, In.kout, In.dec, In.st, In.dq, In.dk, In.dv, In.dcum, In.dcl, In.dact, In.at', hd0, hd1, hd2, hd3, tri, low, upp, diag, loads]
  exact rfl

theorem ds7 : (sl.v1233 c arg1 harg1 arg4 harg4 arg5 harg5 arg6 harg6 arg8 harg8 arg15 x0 x3 x4 x5 x7) = In.ds (loads harg1 harg2 harg3 harg4 harg5 harg6 harg7 harg8 x0 x1 x2 x3 x4 x5 x6 x7) (sl.v288 (F := F) c arg15) 7 := by
  rw [In.ds, ← ds6]
  refine (View.readCov_cons_toLoadRect _ _ _ _).trans ?_
  dsimp only [sl.r, sl.r_10, sl.r_11, sl.r_12, sl.r_13, sl.r_14, sl.r_18, sl.r_19, sl.r_193, sl.r_196, sl.r_197, sl.r_2, sl.r_4, sl.r_5, sl.r_6, sl.r_7, sl.r_8, sl.r_9, sl.v121, sl.v3, sl.v4, k0_pay10, k0_pay11, k0_pay22, k0_pay243, k0_pay246, k0_pay248, k0_pay25, k0_pay263, k0_pay27, k0_pay28, k0_pay29, k0_pay30, k0_pay31, k0_pay32, k0_pay33, k0_pay34, k0_pay35, k0_pay36, k0_pay37, k0_pay38, k0_pay39, k0_pay40, k0_pay43, k0_pay45, k0_pay6, k0_pay7, k0_pay8, k0_pay9, Core.dq, Core.dk, Core.dv, Core.dcum, Core.dcl, Core.dqin, Core.dkin, Core.dkout, Core.ddec, Core.dqStack, Core.dscores, Core.scores, Core.stack, Core.dvScores, Core.dstate, keep, rows, pile, sums, In.pre, In.la, In.cum, In.cl, In.e, In.einv, In.eout, In.qin, In.kin, In.kout, In.dec, In.st, In.dq, In.dk, In.dv, In.dcum, In.dcl, In.dact, In.at', hd0, hd1, hd2, hd3, tri, low, upp, diag, loads]
  exact rfl

end Gla.Core.RunA

end
-- ==== Proof.Gla.QueryA.lean ====
/-
  The gradients of queries and keys stored by a block in which the gradient of the state starts from zero.
-/
module

public import proofs.«01_k».proof.Proof.Gla.DsA

@[expose] public section

set_option maxRecDepth 16384
set_option maxHeartbeats 1000000

noncomputable section

namespace Gla.Core.RunA

open Idealize.ShloMosaic Cert.KernelIdeal Cert.KernelIdeal.Gen

open Cert.KernelIdeal.Gen.kernelRun0_A

variable {F : FTy → Type} [FloatOps F]

variable (c : Dev nD) (i : grid0.Coords) (arg1 : Memref sig .tc .vmem S512x256 .bf16) (harg1 : arg1.IsWhole) (arg2 : Memref sig .tc .vmem S512x256 .bf16) (harg2 : arg2.IsWhole) (arg3 : Memref sig .tc .vmem S512x512 .bf16) (harg3 : arg3.IsWhole) (arg4 : Memref sig .tc .vmem S512x128 .bf16) (harg4 : arg4.IsWhole) (arg5 : Memref sig .tc .vmem S1x128x256 .bf16) (harg5 : arg5.IsWhole) (arg6 : Memref sig .tc .vmem S1x1x256 .f32) (harg6 : arg6.IsWhole) (arg7 : Memref sig .tc .vmem S8x512x256 .bf16) (harg7 : arg7.IsWhole) (arg8 : Memref sig .tc .vmem S512x512 .bf16) (harg8 : arg8.IsWhole) (arg9 : Memref sig .tc .vmem S512x256 .bf16) (harg9 : arg9.IsWhole) (arg10 : Memref sig .tc .vmem S512x256 .bf16) (harg10 : arg10.IsWhole) (arg11 : Memref sig .tc .vmem S512x512 .bf16) (harg11 : arg11.IsWhole) (arg12 : Memref sig .tc .vmem S512x128 .bf16) (harg12 : arg12.IsWhole) (arg13 : Memref sig .tc .vmem S128x256 .f32) (harg13 : arg13.IsWhole) (arg14 : Memref sig .tc .vmem S1x256 .f32) (harg14 : arg14.IsWhole) (arg15 : Memref sig .tc .vmem S512x256 .f32) (harg15 : arg15.IsWhole) (hc0 : cond0_0 i)
  (x0 : Vec F S512x256 .bf16) (x1 : Vec F S512x256 .bf16) (x2 : Vec F S512x512 .bf16) (x3 : Vec F S512x128 .bf16) (x4 : Vec F S1x128x256 .bf16) (x5 : Vec F S1x1x256 .f32) (x6 : Vec F S8x512x256 .bf16) (x7 : Vec F S512x512 .bf16)

theorem dq0 : (k0_pay299 (sl.r_234 c arg2 harg2 arg3 harg3 arg4 harg4 arg5 harg5 arg6 harg6 arg7 harg7 arg8 harg8 x1 x2 x3 x4 x5 x6 x7)) = In.dq (loads harg1 harg2 harg3 harg4 harg5 harg6 harg7 harg8 x0 x1 x2 x3 x4 x5 x6 x7) 0 := by
  dsimp only [sl.cst_115, sl.r, sl.r_15, sl.r_20, sl.r_212, sl.r_220, sl.r_221, sl.r_223, sl.r_226, sl.r_231, sl.r_232, sl.r_233, sl.r_234, sl.r_4, sl.r_5, sl.r_6, sl.v3, sl.v4, k0_pay10, k0_pay11, k0_pay17, k0_pay18, k0_pay22, k0_pay25, k0_pay27, k0_pay270, k0_pay274, k0_pay279, k0_pay28, k0_pay282, k0_pay284, k0_pay286, k0_pay287, k0_pay288, k0_pay289, k0_pay29, k0_pay290, k0_pay294, k0_pay299, k0_pay30, k0_pay40, k0_pay41, k0_pay44, k0_pay46, k0_pay6, k0_pay7, k0_pay8, k0_pay9, Core.dq, Core.dk, Core.dv, Core.dcum, Core.dcl, Core.dqin, Core.dkin, Core.dkout, Core.ddec, Core.dqStack, Core.dscores, Core.scores, Core.stack, Core.dvScores, Core.dstate, keep, rows, pile, sums, In.pre, In.la, In.cum, In.cl, In.e, In.einv, In.eout, In.qin, In.kin, In.kout, In.dec, In.st, In.dq, In.dk, In.dv, In.dcum, In.dcl, In.dact, In.at', hd0, hd1, hd2, hd3, tri, low, upp, diag, loads]
  exact rfl

theorem dq1 : (k0_pay267 (k0_pay17 k0_pay14) (k0_pay18 k0_pay14) (sl.r_187 c arg4 harg4 arg5 harg5 arg6 harg6 x3 x4 x5) (sl.r_206 c arg2 harg2 arg3 harg3 arg4 harg4 arg5 harg5 arg6 harg6 arg8 harg8 x1 x2 x3 x4 x5 x7) (sl.r_207 c arg2 harg2 arg3 harg3 arg4 harg4 arg5 harg5 arg6 harg6 arg7 harg7 arg8 harg8 x1 x2 x3 x4 x5 x6 x7) (sl.r_208 c arg2 harg2 arg3 harg3 arg4 harg4 arg5 harg5 arg6 harg6 arg8 harg8 x1 x2 x3 x4 x5 x7) sl.cst_115) = In.dq (loads harg1 harg2 harg3 harg4 harg5 harg6 harg7 harg8 x0 x1 x2 x3 x4 x5 x6 x7) 1 := by
  dsimp only [sl.cst_115, sl.r, sl.r_15, sl.r_187, sl.r_195, sl.r_196, sl.r_198, sl.r_20, sl.r_201, sl.r_203, sl.r_206, sl.r_207, sl.r_208, sl.r_4, sl.r_5, sl.r_6, sl.v3, sl.v4, k0_pay10, k0_pay11, k0_pay17, k0_pay18, k0_pay22, k0_pay240, k0_pay244, k0_pay249, k0_pay25, k0_pay252, k0_pay254, k0_pay255, k0_pay257, k0_pay258, k0_pay259, k0_pay260, k0_pay267, k0_pay27, k0_pay28, k0_pay29, k0_pay30, k0_pay40, k0_pay41, k0_pay44, k0_pay46, k0_pay6, k0_pay7, k0_pay8, k0_pay9, Core.dq, Core.dk, Core.dv, Core.dcum, Core.dcl, Core.dqin, Core.dkin, Core.dkout, Core.ddec, Core.dqStack, Core.dscores, Core.scores, Core.stack, Core.dvScores, Core.dstate, keep, rows, pile, sums, In.pre, In.la, In.cum, In.cl, In.e, In.einv, In.eout, In.qin, In.kin, In.kout, In.dec, In.st, In.dq, In.dk, In.dv, In.dcum, In.dcl, In.dact, In.at', hd0, hd1, hd2, hd3, tri, low, upp, diag, loads]
  exact rfl

theorem dq2 : (k0_pay237 (k0_pay18 k0_pay14) (sl.r_161 c arg4 harg4 arg5 harg5 arg6 harg6 x3 x4 x5) (sl.r_182 c arg2 harg2 arg3 harg3 arg4 harg4 arg5 harg5 arg6 harg6 arg7 harg7 arg8 harg8 x1 x2 x3 x4 x5 x6 x7) (sl.r_183 c arg2 harg2 arg3 harg3 arg4 harg4 arg5 harg5 arg6 harg6 arg8 harg8 x1 x2 x3 x4 x5 x7)) = In.dq (loads harg1 harg2 harg3 harg4 harg5 harg6 harg7 harg8 x0 x1 x2 x3 x4 x5 x6 x7) 2 := by
  dsimp only [sl.cst_306, sl.r, sl.r_15, sl.r_161, sl.r_169, sl.r_170, sl.r_172, sl.r_175, sl.r_177, sl.r_178, sl.r_179, sl.r_182, sl.r_183, sl.r_20, sl.r_4, sl.r_5, sl.r_6, sl.v3, sl.v4, k0_pay10, k0_pay11, k0_pay17, k0_pay18, k0_pay208, k0_pay212, k0_pay217, k0_pay22, k0_pay220, k0_pay222, k0_pay223, k0_pay224, k0_pay225, k0_pay227, k0_pay228, k0_pay229, k0_pay230, k0_pay237, k0_pay25, k0_pay27, k0_pay28, k0_pay29, k0_pay30, k0_pay40, k0_pay41, k0_pay44, k0_pay46, k0_pay6, k0_pay7, k0_pay8, k0_pay9, Core.dq, Core.dk, Core.dv, Core.dcum, Core.dcl, Core.dqin, Core.dkin, Core.dkout, Core.ddec, Core.dqStack, Core.dscores, Core.scores, Core.stack, Core.dvScores, Core.dstate, keep, rows, pile, sums, In.pre, In.la, In.cum, In.cl, In.e, In.einv, In.eout, In.qin, In.kin, In.kout, In.dec, In.st, In.dq, In.dk, In.dv, In.dcum, In.dcl, In.dact, In.at', hd0, hd1, hd2, hd3, tri, low, upp, diag, loads]
  exact rfl

theorem dq3 : (k0_pay205 (sl.r_135 c arg4 harg4 arg5 harg5 arg6 harg6 x3 x4 x5) (sl.r_158 c arg2 harg2 arg3 harg3 arg4 harg4 arg5 harg5 arg6 harg6 arg7 harg7 arg8 harg8 x1 x2 x3 x4 x5 x6 x7)) = In.dq (loads harg1 harg2 harg3 harg4 harg5 harg6 harg7 harg8 x0 x1 x2 x3 x4 x5 x6 x7) 3 := by
  dsimp only [sl.r, sl.r_135, sl.r_139, sl.r_144, sl.r_145, sl.r_147, sl.r_15, sl.r_150, sl.r_152, sl.r_153, sl.r_154, sl.r_155, sl.r_158, sl.r_20, sl.r_4, sl.r_5, sl.r_6, sl.v3, sl.v4, k0_pay10, k0_pay11, k0_pay17, k0_pay177, k0_pay18, k0_pay181, k0_pay187, k0_pay190, k0_pay192, k0_pay193, k0_pay194, k0_pay195, k0_pay196, k0_pay198, k0_pay205, k0_pay22, k0_pay25, k0_pay27, k0_pay28, k0_pay29, k0_pay30, k0_pay40, k0_pay41, k0_pay44, k0_pay46, k0_pay6, k0_pay7, k0_pay8, k0_pay9, Core.dq, Core.dk, Core.dv, Core.dcum, Core.dcl, Core.dqin, Core.dkin, Core.dkout, Core.ddec, Core.dqStack, Core.dscores, Core.scores, Core.stack, Core.dvScores, Core.dstate, keep, rows, pile, sums, In.pre, In.la, In.cum, In.cl, In.e, In.einv, In.eout, In.qin, In.kin, In.kout, In.dec, In.st, In.dq, In.dk, In.dv, In.dcum, In.dcl, In.dact, In.at', hd0, hd1, hd2, hd3, tri, low, upp, diag, loads]
  exact rfl

theorem dq4 : (k0_pay174 (sl.r_110 c arg4 harg4 arg5 harg5 arg6 harg6 x3 x4 x5) (sl.r_129 c arg2 harg2 arg3 harg3 arg4 harg4 arg5 harg5 arg6 harg6 arg7 harg7 arg8 harg8 x1 x2 x3 x4 x5 x6 x7)) = In.dq (loads harg1 harg2 harg3 harg4 harg5 harg6 harg7 harg8 x0 x1 x2 x3 x4 x5 x6 x7) 4 := by
  dsimp only [sl.r, sl.r_110, sl.r_114, sl.r_120, sl.r_122, sl.r_125, sl.r_127, sl.r_129, sl.r_15, sl.r_20, sl.r_4, sl.r_5, sl.r_6, sl.v3, sl.v4, k0_pay10, k0_pay11, k0_pay147, k0_pay151, k0_pay157, k0_pay160, k0_pay162, k0_pay163, k0_pay164, k0_pay166, k0_pay17, k0_pay174, k0_pay18, k0_pay22, k0_pay25, k0_pay27, k0_pay28, k0_pay29, k0_pay30, k0_pay40, k0_pay41, k0_pay44, k0_pay46, k0_pay6, k0_pay7, k0_pay8, k0_pay9, Core.dq, Core.dk, Core.dv, Core.dcum, Core.dcl, Core.dqin, Core.dkin, Core.dkout, Core.ddec, Core.dqStack, Core.dscores, Core.scores, Core.stack, Core.dvScores, Core.dstate, keep, rows, pile, sums, In.pre, In.la, In.cum, In.cl, In.e, In.einv, In.eout, In.qin, In.kin, In.kout, In.dec, In.st, In.dq, In.dk, In.dv, In.dcum, In.dcl, In.dact, In.at', hd0, hd1, hd2, hd3, tri, low, upp, diag, loads]
  exact rfl

theorem dq5 : (k0_pay144 (sl.r_82 c arg4 harg4 arg5 harg5 arg6 harg6 x3 x4 x5) (sl.r_103 c arg2 harg2 arg3 harg3 arg4 harg4 arg5 harg5 arg6 harg6 arg7 harg7 arg8 harg8 x1 x2 x3 x4 x5 x6 x7)) = In.dq (loads harg1 harg2 harg3 harg4 harg5 harg6 harg7 harg8 x0 x1 x2 x3 x4 x5 x6 x7) 5 := by
  dsimp only [sl.r, sl.r_100, sl.r_103, sl.r_15, sl.r_20, sl.r_4, sl.r_5, sl.r_6, sl.r_82, sl.r_86, sl.r_93, sl.r_95, sl.r_98, sl.v3, sl.v4, k0_pay10, k0_pay11, k0_pay116, k0_pay120, k0_pay127, k0_pay130, k0_pay132, k0_pay135, k0_pay144, k0_pay17, k0_pay18, k0_pay22, k0_pay25, k0_pay27, k0_pay28, k0_pay29, k0_pay30, k0_pay40, k0_pay41, k0_pay44, k0_pay46, k0_pay6, k0_pay7, k0_pay8, k0_pay9, Core.dq, Core.dk, Core.dv, Core.dcum, Core.dcl, Core.dqin, Core.dkin, Core.dkout, Core.ddec, Core.dqStack, Core.dscores, Core.scores, Core.stack, Core.dvScores, Core.dstate, keep, rows, pile, sums, In.pre, In.la, In.cum, In.cl, In.e, In.einv, In.eout, In.qin, In.kin, In.kout, In.dec, In.st, In.dq, In.dk, In.dv, In.dcum, In.dcl, In.dact, In.at', hd0, hd1, hd2, hd3, tri, low, upp, diag, loads]
  exact rfl

theorem dq6 : (k0_pay113 (sl.r_50 c arg4 harg4 arg5 harg5 arg6 harg6 x3 x4 x5) (sl.r_75 c arg2 harg2 arg3 harg3 arg4 harg4 arg5 harg5 arg6 harg6 arg7 harg7 arg8 harg8 x1 x2 x3 x4 x5 x6 x7)) = In.dq (loads harg1 harg2 harg3 harg4 harg5 harg6 harg7 harg8 x0 x1 x2 x3 x4 x5 x6 x7) 6 := by
  dsimp only [sl.r, sl.r_15, sl.r_20, sl.r_4, sl.r_5, sl.r_50, sl.r_54, sl.r_6, sl.r_62, sl.r_64, sl.r_67, sl.r_69, sl.r_75, sl.v3, sl.v4, k0_pay10, k0_pay104, k0_pay11, k0_pay113, k0_pay17, k0_pay18, k0_pay22, k0_pay25, k0_pay27, k0_pay28, k0_pay29, k0_pay30, k0_pay40, k0_pay41, k0_pay44, k0_pay46, k0_pay6, k0_pay7, k0_pay8, k0_pay80, k0_pay84, k0_pay9, k0_pay93, k0_pay96, k0_pay98, Core.dq, Core.dk, Core.dv, Core.dcum, Core.dcl, Core.dqin, Core.dkin, Core.dkout, Core.ddec, Core.dqStack, Core.dscores, Core.scores, Core.stack, Core.dvScores, Core.dstate, keep, rows, pile, sums, In.pre, In.la, In.cum, In.cl, In.e, In.einv, In.eout, In.qin, In.kin, In.kout, In.dec, In.st, In.dq, In.dk, In.dv, In.dcum, In.dcl, In.dact, In.at', hd0, hd1, hd2, hd3, tri, low, upp, diag, loads]
  exact rfl

theorem dq7 : (k0_pay77 (sl.r_47 c arg2 harg2 arg3 harg3 arg4 harg4 arg5 harg5 arg6 harg6 arg7 harg7 arg8 harg8 x1 x2 x3 x4 x5 x6 x7)) = In.dq (loads harg1 harg2 harg3 harg4 harg5 harg6 harg7 harg8 x0 x1 x2 x3 x4 x5 x6 x7) 7 := by
  dsimp only [sl.r, sl.r_22, sl.r_26, sl.r_31, sl.r_33, sl.r_35, sl.r_37, sl.r_4, sl.r_47, sl.r_5, sl.r_6, sl.v3, sl.v4, k0_pay10, k0_pay11, k0_pay17, k0_pay18, k0_pay22, k0_pay25, k0_pay27, k0_pay28, k0_pay29, k0_pay30, k0_pay40, k0_pay41, k0_pay44, k0_pay46, k0_pay48, k0_pay52, k0_pay57, k0_pay6, k0_pay60, k0_pay62, k0_pay68, k0_pay7, k0_pay73, k0_pay77, k0_pay8, k0_pay9, Core.dq, Core.dk, Core.dv, Core.dcum, Core.dcl, Core.dqin, Core.dkin, Core.dkout, Core.ddec, Core.dqStack, Core.dscores, Core.scores, Core.stack, Core.dvScores, Core.dstate, keep, rows, pile, sums, In.pre, In.la, In.cum, In.cl, In.e, In.einv, In.eout, In.qin, In.kin, In.kout, In.dec, In.st, In.dq, In.dk, In.dv, In.dcum, In.dcl, In.dact, In.at', hd0, hd1, hd2, hd3, tri, low, upp, diag, loads]
  exact rfl

theorem dk0 : (k0_pay300 (sl.r_235 c arg1 harg1 arg3 harg3 arg4 harg4 arg5 harg5 arg6 harg6 arg8 harg8 arg15 x0 x2 x3 x4 x5 x7)) = In.dk (loads harg1 harg2 harg3 harg4 harg5 harg6 harg7 harg8 x0 x1 x2 x3 x4 x5 x6 x7) 0 (In.ds (loads harg1 harg2 harg3 harg4 harg5 harg6 harg7 harg8 x0 x1 x2 x3 x4 x5 x6 x7) (sl.v288 (F := F) c arg15) 7) := by
  rw [← ds7]
  dsimp only [sl.r, sl.r_10, sl.r_11, sl.r_12, sl.r_13, sl.r_14, sl.r_16, sl.r_17, sl.r_18, sl.r_213, sl.r_214, sl.r_219, sl.r_220, sl.r_221, sl.r_228, sl.r_229, sl.r_235, sl.r_4, sl.r_5, sl.r_6, sl.r_7, sl.r_8, sl.r_9, sl.v3, sl.v4, k0_pay10, k0_pay11, k0_pay17, k0_pay18, k0_pay22, k0_pay25, k0_pay27, k0_pay271, k0_pay272, k0_pay273, k0_pay277, k0_pay28, k0_pay283, k0_pay284, k0_pay29, k0_pay291, k0_pay292, k0_pay295, k0_pay30, k0_pay300, k0_pay31, k0_pay32, k0_pay33, k0_pay34, k0_pay35, k0_pay36, k0_pay37, k0_pay38, k0_pay39, k0_pay40, k0_pay41, k0_pay42, k0_pay43, k0_pay6, k0_pay7, k0_pay8, k0_pay9, Core.dq, Core.dk, Core.dv, Core.dcum, Core.dcl, Core.dqin, Core.dkin, Core.dkout, Core.ddec, Core.dqStack, Core.dscores, Core.scores, Core.stack, Core.dvScores, Core.dstate, keep, rows, pile, sums, In.pre, In.la, In.cum, In.cl, In.e, In.einv, In.eout, In.qin, In.kin, In.kout, In.dec, In.st, In.dq, In.dk, In.dv, In.dcum, In.dcl, In.dact, In.at', hd0, hd1, hd2, hd3, tri, low, upp, diag, loads]
  exact rfl

theorem dk1 : (sl.r_211 c arg1 harg1 arg3 harg3 arg4 harg4 arg5 harg5 arg6 harg6 arg8 harg8 arg15 x0 x2 x3 x4 x5 x7) = In.dk (loads harg1 harg2 harg3 harg4 harg5 harg6 harg7 harg8 x0 x1 x2 x3 x4 x5 x6 x7) 1 (In.ds (loads harg1 harg2 harg3 harg4 harg5 harg6 harg7 harg8 x0 x1 x2 x3 x4 x5 x6 x7) (sl.v288 (F := F) c arg15) 6) := by
  rw [← ds6]
  dsimp only [sl.r, sl.r_10, sl.r_11, sl.r_12, sl.r_13, sl.r_14, sl.r_16, sl.r_17, sl.r_18, sl.r_188, sl.r_189, sl.r_194, sl.r_195, sl.r_196, sl.r_202, sl.r_203, sl.r_204, sl.r_211, sl.r_4, sl.r_5, sl.r_6, sl.r_7, sl.r_8, sl.r_9, sl.v3, sl.v4, k0_pay10, k0_pay11, k0_pay17, k0_pay18, k0_pay22, k0_pay241, k0_pay242, k0_pay243, k0_pay247, k0_pay25, k0_pay253, k0_pay254, k0_pay255, k0_pay261, k0_pay262, k0_pay268, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay6, k0_pay7, k0_pay8, k0_pay9, Core.dq, Core.dk, Core.dv, Core.dcum, Core.dcl, Core.dqin, Core.dkin, Core.dkout, Core.ddec, Core.dqStack, Core.dscores, Core.scores, Core.stack, Core.dvScores, Core.dstate, keep, rows, pile, sums, In.pre, In.la, In.cum, In.cl, In.e, In.einv, In.eout, In.qin, In.kin, In.kout, In.dec, In.st, In.dq, In.dk, In.dv, In.dcum, In.dcl, In.dact, In.at', hd0, hd1, hd2, hd3, tri, low, upp, diag, loads]
  exact rfl

theorem dk2 : (k0_pay238 (sl.r_162 c arg4 harg4 arg5 harg5 arg6 harg6 x3 x4 x5) (sl.r_163 c arg4 harg4 arg5 harg5 arg6 harg6 x3 x4 x5) (sl.r_168 c arg1 harg1 arg4 harg4 arg5 harg5 arg6 harg6 x0 x3 x4 x5) (sl.r_169 c arg3 harg3 x2) (sl.r_176 c arg1 harg1 arg4 harg4 arg5 harg5 arg6 harg6 arg8 harg8 arg15 x0 x3 x4 x5 x7) (sl.r_180 c arg3 harg3 arg8 harg8 x2 x7)) = In.dk (loads harg1 harg2 harg3 harg4 harg5 harg6 harg7 harg8 x0 x1 x2 x3 x4 x5 x6 x7) 2 (In.ds (loads harg1 harg2 harg3 harg4 harg5 harg6 harg7 harg8 x0 x1 x2 x3 x4 x5 x6 x7) (sl.v288 (F := F) c arg15) 5) := by
  rw [← ds5]
  dsimp only [sl.cst_306, sl.r, sl.r_10, sl.r_11, sl.r_12, sl.r_13, sl.r_14, sl.r_16, sl.r_162, sl.r_163, sl.r_168, sl.r_169, sl.r_17, sl.r_170, sl.r_176, sl.r_177, sl.r_178, sl.r_179, sl.r_18, sl.r_180, sl.r_4, sl.r_5, sl.r_6, sl.r_7, sl.r_8, sl.r_9, sl.v3, sl.v4, k0_pay10, k0_pay11, k0_pay17, k0_pay18, k0_pay209, k0_pay210, k0_pay211, k0_pay215, k0_pay22, k0_pay221, k0_pay222, k0_pay223, k0_pay224, k0_pay225, k0_pay231, k0_pay232, k0_pay238, k0_pay25, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay6, k0_pay7, k0_pay8, k0_pay9, Core.dq, Core.dk, Core.dv, Core.dcum, Core.dcl, Core.dqin, Core.dkin, Core.dkout, Core.ddec, Core.dqStack, Core.dscores, Core.scores, Core.stack, Core.dvScores, Core.dstate, keep, rows, pile, sums, In.pre, In.la, In.cum, In.cl, In.e, In.einv, In.eout, In.qin, In.kin, In.kout, In.dec, In.st, In.dq, In.dk, In.dv, In.dcum, In.dcl, In.dact, In.at', hd0, hd1, hd2, hd3, tri, low, upp, diag, loads]
  exact rfl

theorem dk3 : (k0_pay206 (sl.r_136 c arg4 harg4 arg5 harg5 arg6 harg6 x3 x4 x5) (sl.r_137 c arg4 harg4 arg5 harg5 arg6 harg6 x3 x4 x5) (sl.r_143 c arg1 harg1 arg4 harg4 arg5 harg5 arg6 harg6 x0 x3 x4 x5) (sl.r_144 c arg3 harg3 x2) (sl.r_151 c arg1 harg1 arg4 harg4 arg5 harg5 arg6 harg6 arg8 harg8 arg15 x0 x3 x4 x5 x7) (sl.r_156 c arg3 harg3 arg8 harg8 x2 x7)) = In.dk (loads harg1 harg2 harg3 harg4 harg5 harg6 harg7 harg8 x0 x1 x2 x3 x4 x5 x6 x7) 3 (In.ds (loads harg1 harg2 harg3 harg4 harg5 harg6 harg7 harg8 x0 x1 x2 x3 x4 x5 x6 x7) (sl.v288 (F := F) c arg15) 4) := by
  rw [← ds4]
  dsimp only [sl.r, sl.r_10, sl.r_11, sl.r_12, sl.r_13, sl.r_136, sl.r_137, sl.r_138, sl.r_14, sl.r_143, sl.r_144, sl.r_151, sl.r_152, sl.r_153, sl.r_154, sl.r_155, sl.r_156, sl.r_16, sl.r_17, sl.r_18, sl.r_4, sl.r_5, sl.r_6, sl.r_7, sl.r_8, sl.r_9, sl.v3, sl.v4, k0_pay10, k0_pay11, k0_pay17, k0_pay178, k0_pay179, k0_pay18, k0_pay180, k0_pay185, k0_pay191, k0_pay192, k0_pay193, k0_pay194, k0_pay195, k0_pay196, k0_pay199, k0_pay200, k0_pay206, k0_pay22, k0_pay25, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay6, k0_pay7, k0_pay8, k0_pay9, Core.dq, Core.dk, Core.dv, Core.dcum, Core.dcl, Core.dqin, Core.dkin, Core.dkout, Core.ddec, Core.dqStack, Core.dscores, Core.scores, Core.stack, Core.dvScores, Core.dstate, keep, rows, pile, sums, In.pre, In.la, In.cum, In.cl, In.e, In.einv, In.eout, In.qin, In.kin, In.kout, In.dec, In.st, In.dq, In.dk, In.dv, In.dcum, In.dcl, In.dact, In.at', hd0, hd1, hd2, hd3, tri, low, upp, diag, loads]
  exact rfl

theorem dk4 : (k0_pay175 (sl.r_111 c arg4 harg4 arg5 harg5 arg6 harg6 x3 x4 x5) (sl.r_112 c arg4 harg4 arg5 harg5 arg6 harg6 x3 x4 x5) (sl.r_130 c arg1 harg1 arg3 harg3 arg4 harg4 arg5 harg5 arg6 harg6 arg8 harg8 x0 x2 x3 x4 x5 x7) (sl.r_131 c arg1 harg1 arg3 harg3 arg4 harg4 arg5 harg5 arg6 harg6 arg8 harg8 arg15 x0 x2 x3 x4 x5 x7)) = In.dk (loads harg1 harg2 harg3 harg4 harg5 harg6 harg7 harg8 x0 x1 x2 x3 x4 x5 x6 x7) 4 (In.ds (loads harg1 harg2 harg3 harg4 harg5 harg6 harg7 harg8 x0 x1 x2 x3 x4 x5 x6 x7) (sl.v288 (F := F) c arg15) 3) := by
  rw [← ds3]
  dsimp only [sl.r, sl.r_10, sl.r_11, sl.r_111, sl.r_112, sl.r_113, sl.r_117, sl.r_118, sl.r_119, sl.r_12, sl.r_126, sl.r_127, sl.r_13, sl.r_130, sl.r_131, sl.r_14, sl.r_16, sl.r_17, sl.r_18, sl.r_4, sl.r_5, sl.r_6, sl.r_7, sl.r_8, sl.r_9, sl.v3, sl.v4, k0_pay10, k0_pay11, k0_pay148, k0_pay149, k0_pay150, k0_pay154, k0_pay155, k0_pay161, k0_pay162, k0_pay163, k0_pay164, k0_pay167, k0_pay168, k0_pay17, k0_pay175, k0_pay18, k0_pay22, k0_pay25, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay6, k0_pay7, k0_pay8, k0_pay9, Core.dq, Core.dk, Core.dv, Core.dcum, Core.dcl, Core.dqin, Core.dkin, Core.dkout, Core.ddec, Core.dqStack, Core.dscores, Core.scores, Core.stack, Core.dvScores, Core.dstate, keep, rows, pile, sums, In.pre, In.la, In.cum, In.cl, In.e, In.einv, In.eout, In.qin, In.kin, In.kout, In.dec, In.st, In.dq, In.dk, In.dv, In.dcum, In.dcl, In.dact, In.at', hd0, hd1, hd2, hd3, tri, low, upp, diag, loads]
  exact rfl

theorem dk5 : (k0_pay145 (sl.r_83 c arg4 harg4 arg5 harg5 arg6 harg6 x3 x4 x5) (sl.r_84 c arg4 harg4 arg5 harg5 arg6 harg6 x3 x4 x5) (sl.r_104 c arg1 harg1 arg3 harg3 arg4 harg4 arg5 harg5 arg6 harg6 arg8 harg8 x0 x2 x3 x4 x5 x7) (sl.r_105 c arg1 harg1 arg3 harg3 arg4 harg4 arg5 harg5 arg6 harg6 arg8 harg8 arg15 x0 x2 x3 x4 x5 x7)) = In.dk (loads harg1 harg2 harg3 harg4 harg5 harg6 harg7 harg8 x0 x1 x2 x3 x4 x5 x6 x7) 5 (In.ds (loads harg1 harg2 harg3 harg4 harg5 harg6 harg7 harg8 x0 x1 x2 x3 x4 x5 x6 x7) (sl.v288 (F := F) c arg15) 2) := by
  rw [← ds2]
  dsimp only [sl.cst_115, sl.r, sl.r_10, sl.r_100, sl.r_104, sl.r_105, sl.r_11, sl.r_12, sl.r_13, sl.r_14, sl.r_16, sl.r_17, sl.r_18, sl.r_4, sl.r_5, sl.r_6, sl.r_7, sl.r_8, sl.r_83, sl.r_84, sl.r_85, sl.r_89, sl.r_9, sl.r_90, sl.r_91, sl.r_92, sl.r_99, sl.v3, sl.v4, k0_pay10, k0_pay11, k0_pay117, k0_pay118, k0_pay119, k0_pay123, k0_pay124, k0_pay125, k0_pay131, k0_pay132, k0_pay136, k0_pay137, k0_pay145, k0_pay17, k0_pay18, k0_pay22, k0_pay25, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay6, k0_pay7, k0_pay8, k0_pay9, Core.dq, Core.dk, Core.dv, Core.dcum, Core.dcl, Core.dqin, Core.dkin, Core.dkout, Core.ddec, Core.dqStack, Core.dscores, Core.scores, Core.stack, Core.dvScores, Core.dstate, keep, rows, pile, sums, In.pre, In.la, In.cum, In.cl, In.e, In.einv, In.eout, In.qin, In.kin, In.kout, In.dec, In.st, In.dq, In.dk, In.dv, In.dcum, In.dcl, In.dact, In.at', hd0, hd1, hd2, hd3, tri, low, upp, diag, loads]
  exact rfl

theorem dk6 : (k0_pay114 (sl.r_51 c arg4 harg4 arg5 harg5 arg6 harg6 x3 x4 x5) (sl.r_52 c arg4 harg4 arg5 harg5 arg6 harg6 x3 x4 x5) (sl.r_76 c arg1 harg1 arg3 harg3 arg4 harg4 arg5 harg5 arg6 harg6 arg8 harg8 x0 x2 x3 x4 x5 x7) (sl.r_77 c arg1 harg1 arg3 harg3 arg4 harg4 arg5 harg5 arg6 harg6 arg8 harg8 arg15 x0 x2 x3 x4 x5 x7)) = In.dk (loads harg1 harg2 harg3 harg4 harg5 harg6 harg7 harg8 x0 x1 x2 x3 x4 x5 x6 x7) 6 (In.ds (loads harg1 harg2 harg3 harg4 harg5 harg6 harg7 harg8 x0 x1 x2 x3 x4 x5 x6 x7) (sl.v288 (F := F) c arg15) 1) := by
  rw [← ds1]
  dsimp only [sl.cst_115, sl.r, sl.r_10, sl.r_11, sl.r_12, sl.r_13, sl.r_14, sl.r_16, sl.r_17, sl.r_18, sl.r_4, sl.r_5, sl.r_51, sl.r_52, sl.r_53, sl.r_57, sl.r_58, sl.r_59, sl.r_6, sl.r_60, sl.r_61, sl.r_68, sl.r_69, sl.r_7, sl.r_76, sl.r_77, sl.r_8, sl.r_9, sl.v3, sl.v4, k0_pay10, k0_pay105, k0_pay106, k0_pay11, k0_pay114, k0_pay17, k0_pay18, k0_pay22, k0_pay25, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay6, k0_pay7, k0_pay8, k0_pay81, k0_pay82, k0_pay83, k0_pay87, k0_pay88, k0_pay89, k0_pay9, k0_pay90, k0_pay91, k0_pay97, k0_pay98, Core.dq, Core.dk, Core.dv, Core.dcum, Core.dcl, Core.dqin, Core.dkin, Core.dkout, Core.ddec, Core.dqStack, Core.dscores, Core.scores, Core.stack, Core.dvScores, Core.dstate, keep, rows, pile, sums, In.pre, In.la, In.cum, In.cl, In.e, In.einv, In.eout, In.qin, In.kin, In.kout, In.dec, In.st, In.dq, In.dk, In.dv, In.dcum, In.dcl, In.dact, In.at', hd0, hd1, hd2, hd3, tri, low, upp, diag, loads]
  exact rfl

theorem dk7 : (k0_pay78 (sl.r_23 c arg4 harg4 arg5 harg5 arg6 harg6 x3 x4 x5) (sl.r_24 c arg4 harg4 arg5 harg5 arg6 harg6 x3 x4 x5) (sl.r_44 c arg1 harg1 arg3 harg3 arg4 harg4 arg5 harg5 arg6 harg6 arg8 harg8 x0 x2 x3 x4 x5 x7) (sl.r_45 c arg3 harg3 arg15 x2)) = In.dk (loads harg1 harg2 harg3 harg4 harg5 harg6 harg7 harg8 x0 x1 x2 x3 x4 x5 x6 x7) 7 (In.ds (loads harg1 harg2 harg3 harg4 harg5 harg6 harg7 harg8 x0 x1 x2 x3 x4 x5 x6 x7) (sl.v288 (F := F) c arg15) 0) := by
  dsimp only [sl.r, sl.r_10, sl.r_11, sl.r_12, sl.r_13, sl.r_14, sl.r_23, sl.r_24, sl.r_29, sl.r_30, sl.r_36, sl.r_37, sl.r_4, sl.r_44, sl.r_45, sl.r_5, sl.r_6, sl.r_7, sl.r_8, sl.r_9, sl.v3, sl.v4, k0_pay10, k0_pay11, k0_pay17, k0_pay18, k0_pay22, k0_pay25, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay49, k0_pay50, k0_pay51, k0_pay55, k0_pay6, k0_pay61, k0_pay62, k0_pay69, k0_pay7, k0_pay70, k0_pay78, k0_pay8, k0_pay9, Core.dq, Core.dk, Core.dv, Core.dcum, Core.dcl, Core.dqin, Core.dkin, Core.dkout, Core.ddec, Core.dqStack, Core.dscores, Core.scores, Core.stack, Core.dvScores, Core.dstate, keep, rows, pile, sums, In.pre, In.la, In.cum, In.cl, In.e, In.einv, In.eout, In.qin, In.kin, In.kout, In.dec, In.st, In.dq, In.dk, In.dv, In.dcum, In.dcl, In.dact, In.at', hd0, hd1, hd2, hd3, tri, low, upp, diag, loads, In.ds]
  exact rfl

theorem L8 : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).1 = stores256 (In.dq (loads harg1 harg2 harg3 harg4 harg5 harg6 harg7 harg8 x0 x1 x2 x3 x4 x5 x6 x7)) :=
  stores256_eq (dq0 ..) (dq1 ..) (dq2 ..) (dq3 ..) (dq4 ..) (dq5 ..) (dq6 ..) (dq7 ..)

theorem L9 : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).2.1 = stores256 fun j => In.dk (loads harg1 harg2 harg3 harg4 harg5 harg6 harg7 harg8 x0 x1 x2 x3 x4 x5 x6 x7) j (In.ds (loads harg1 harg2 harg3 harg4 harg5 harg6 harg7 harg8 x0 x1 x2 x3 x4 x5 x6 x7) (sl.v288 (F := F) c arg15) (7 - j.val)) :=
  stores256_eq (P := fun j => In.dk (loads harg1 harg2 harg3 harg4 harg5 harg6 harg7 harg8 x0 x1 x2 x3 x4 x5 x6 x7) j (In.ds (loads harg1 harg2 harg3 harg4 harg5 harg6 harg7 harg8 x0 x1 x2 x3 x4 x5 x6 x7) (sl.v288 (F := F) c arg15) (7 - j.val))) (dk0 ..) (dk1 ..) (dk2 ..) (dk3 ..) (dk4 ..) (dk5 ..) (dk6 ..) (dk7 ..)

end Gla.Core.RunA

end
-- ==== Proof.Gla.ValueA.lean ====
/-
  The gradients of values stored by a block in which the gradient of the state starts from zero.
-/
module

public import proofs.«01_k».proof.Proof.Gla.DsA

@[expose] public section

set_option maxRecDepth 16384
set_option maxHeartbeats 1000000

noncomputable section

namespace Gla.Core.RunA

open Idealize.ShloMosaic Cert.KernelIdeal Cert.KernelIdeal.Gen

open Cert.KernelIdeal.Gen.kernelRun0_A

variable {F : FTy → Type} [FloatOps F]

variable (c : Dev nD) (i : grid0.Coords) (arg1 : Memref sig .tc .vmem S512x256 .bf16) (harg1 : arg1.IsWhole) (arg2 : Memref sig .tc .vmem S512x256 .bf16) (harg2 : arg2.IsWhole) (arg3 : Memref sig .tc .vmem S512x512 .bf16) (harg3 : arg3.IsWhole) (arg4 : Memref sig .tc .vmem S512x128 .bf16) (harg4 : arg4.IsWhole) (arg5 : Memref sig .tc .vmem S1x128x256 .bf16) (harg5 : arg5.IsWhole) (arg6 : Memref sig .tc .vmem S1x1x256 .f32) (harg6 : arg6.IsWhole) (arg7 : Memref sig .tc .vmem S8x512x256 .bf16) (harg7 : arg7.IsWhole) (arg8 : Memref sig .tc .vmem S512x512 .bf16) (harg8 : arg8.IsWhole) (arg9 : Memref sig .tc .vmem S512x256 .bf16) (harg9 : arg9.IsWhole) (arg10 : Memref sig .tc .vmem S512x256 .bf16) (harg10 : arg10.IsWhole) (arg11 : Memref sig .tc .vmem S512x512 .bf16) (harg11 : arg11.IsWhole) (arg12 : Memref sig .tc .vmem S512x128 .bf16) (harg12 : arg12.IsWhole) (arg13 : Memref sig .tc .vmem S128x256 .f32) (harg13 : arg13.IsWhole) (arg14 : Memref sig .tc .vmem S1x256 .f32) (harg14 : arg14.IsWhole) (arg15 : Memref sig .tc .vmem S512x256 .f32) (harg15 : arg15.IsWhole) (hc0 : cond0_0 i)
  (x0 : Vec F S512x256 .bf16) (x1 : Vec F S512x256 .bf16) (x2 : Vec F S512x512 .bf16) (x3 : Vec F S512x128 .bf16) (x4 : Vec F S1x128x256 .bf16) (x5 : Vec F S1x1x256 .f32) (x6 : Vec F S8x512x256 .bf16) (x7 : Vec F S512x512 .bf16)

theorem dv0 : (k0_pay301 (sl.r_230 c arg1 harg1 arg2 harg2 arg4 harg4 arg5 harg5 arg6 harg6 arg8 harg8 arg15 x0 x1 x3 x4 x5 x7)) = In.dv (loads harg1 harg2 harg3 harg4 harg5 harg6 harg7 harg8 x0 x1 x2 x3 x4 x5 x6 x7) 0 (In.ds (loads harg1 harg2 harg3 harg4 harg5 harg6 harg7 harg8 x0 x1 x2 x3 x4 x5 x6 x7) (sl.v288 (F := F) c arg15) 7) := by
  rw [← ds7]
  dsimp only [sl.r, sl.r_10, sl.r_11, sl.r_12, sl.r_13, sl.r_14, sl.r_18, sl.r_20, sl.r_21, sl.r_221, sl.r_224, sl.r_225, sl.r_230, sl.r_4, sl.r_5, sl.r_6, sl.r_7, sl.r_8, sl.r_9, sl.v3, sl.v4, k0_pay10, k0_pay11, k0_pay17, k0_pay18, k0_pay22, k0_pay25, k0_pay27, k0_pay273, k0_pay274, k0_pay275, k0_pay277, k0_pay279, k0_pay28, k0_pay280, k0_pay281, k0_pay283, k0_pay285, k0_pay29, k0_pay30, k0_pay301, k0_pay31, k0_pay32, k0_pay33, k0_pay34, k0_pay35, k0_pay36, k0_pay37, k0_pay38, k0_pay39, k0_pay40, k0_pay41, k0_pay42, k0_pay43, k0_pay44, k0_pay46, k0_pay47, k0_pay6, k0_pay7, k0_pay8, k0_pay9, Core.dq, Core.dk, Core.dv, Core.dcum, Core.dcl, Core.dqin, Core.dkin, Core.dkout, Core.ddec, Core.dqStack, Core.dscores, Core.scores, Core.stack, Core.dvScores, Core.dstate, keep, rows, pile, sums, In.pre, In.la, In.cum, In.cl, In.e, In.einv, In.eout, In.qin, In.kin, In.kout, In.dec, In.st, In.dq, In.dk, In.dv, In.dcum, In.dcl, In.dact, In.at', hd0, hd1, hd2, hd3, tri, low, upp, diag, loads]
  exact rfl

theorem dv1 : (k0_pay269 (sl.r_205 c arg1 harg1 arg2 harg2 arg4 harg4 arg5 harg5 arg6 harg6 arg8 harg8 arg15 x0 x1 x3 x4 x5 x7)) = In.dv (loads harg1 harg2 harg3 harg4 harg5 harg6 harg7 harg8 x0 x1 x2 x3 x4 x5 x6 x7) 1 (In.ds (loads harg1 harg2 harg3 harg4 harg5 harg6 harg7 harg8 x0 x1 x2 x3 x4 x5 x6 x7) (sl.v288 (F := F) c arg15) 6) := by
  rw [← ds6]
  dsimp only [sl.r, sl.r_10, sl.r_11, sl.r_12, sl.r_13, sl.r_14, sl.r_18, sl.r_196, sl.r_199, sl.r_20, sl.r_200, sl.r_202, sl.r_205, sl.r_21, sl.r_4, sl.r_5, sl.r_6, sl.r_7, sl.r_8, sl.r_9, sl.v3, sl.v4, k0_pay10, k0_pay11, k0_pay17, k0_pay18, k0_pay22, k0_pay243, k0_pay244, k0_pay245, k0_pay247, k0_pay249, k0_pay25, k0_pay250, k0_pay251, k0_pay253, k0_pay256, k0_pay269, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay46, k0_pay47, k0_pay6, k0_pay7, k0_pay8, k0_pay9, Core.dq, Core.dk, Core.dv, Core.dcum, Core.dcl, Core.dqin, Core.dkin, Core.dkout, Core.ddec, Core.dqStack, Core.dscores, Core.scores, Core.stack, Core.dvScores, Core.dstate, keep, rows, pile, sums, In.pre, In.la, In.cum, In.cl, In.e, In.einv, In.eout, In.qin, In.kin, In.kout, In.dec, In.st, In.dq, In.dk, In.dv, In.dcum, In.dcl, In.dact, In.at', hd0, hd1, hd2, hd3, tri, low, upp, diag, loads]
  exact rfl

theorem dv2 : (sl.r_186 c arg1 harg1 arg2 harg2 arg4 harg4 arg5 harg5 arg6 harg6 arg8 harg8 arg15 x0 x1 x3 x4 x5 x7) = In.dv (loads harg1 harg2 harg3 harg4 harg5 harg6 harg7 harg8 x0 x1 x2 x3 x4 x5 x6 x7) 2 (In.ds (loads harg1 harg2 harg3 harg4 harg5 harg6 harg7 harg8 x0 x1 x2 x3 x4 x5 x6 x7) (sl.v288 (F := F) c arg15) 5) := by
  rw [← ds5]
  dsimp only [sl.r, sl.r_10, sl.r_11, sl.r_12, sl.r_13, sl.r_14, sl.r_170, sl.r_173, sl.r_174, sl.r_176, sl.r_18, sl.r_181, sl.r_186, sl.r_20, sl.r_21, sl.r_4, sl.r_5, sl.r_6, sl.r_7, sl.r_8, sl.r_9, sl.v3, sl.v4, k0_pay10, k0_pay11, k0_pay17, k0_pay18, k0_pay211, k0_pay212, k0_pay213, k0_pay215, k0_pay217, k0_pay218, k0_pay219, k0_pay22, k0_pay221, k0_pay226, k0_pay239, k0_pay25, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay46, k0_pay47, k0_pay6, k0_pay7, k0_pay8, k0_pay9, Core.dq, Core.dk, Core.dv, Core.dcum, Core.dcl, Core.dqin, Core.dkin, Core.dkout, Core.ddec, Core.dqStack, Core.dscores, Core.scores, Core.stack, Core.dvScores, Core.dstate, keep, rows, pile, sums, In.pre, In.la, In.cum, In.cl, In.e, In.einv, In.eout, In.qin, In.kin, In.kout, In.dec, In.st, In.dq, In.dk, In.dv, In.dcum, In.dcl, In.dact, In.at', hd0, hd1, hd2, hd3, tri, low, upp, diag, loads]
  exact rfl

theorem dv3 : (k0_pay207 (sl.r_157 c arg1 harg1 arg2 harg2 arg4 harg4 arg5 harg5 arg6 harg6 arg8 harg8 arg15 x0 x1 x3 x4 x5 x7)) = In.dv (loads harg1 harg2 harg3 harg4 harg5 harg6 harg7 harg8 x0 x1 x2 x3 x4 x5 x6 x7) 3 (In.ds (loads harg1 harg2 harg3 harg4 harg5 harg6 harg7 harg8 x0 x1 x2 x3 x4 x5 x6 x7) (sl.v288 (F := F) c arg15) 4) := by
  rw [← ds4]
  dsimp only [sl.r, sl.r_10, sl.r_11, sl.r_12, sl.r_13, sl.r_138, sl.r_139, sl.r_14, sl.r_140, sl.r_145, sl.r_148, sl.r_149, sl.r_151, sl.r_157, sl.r_18, sl.r_20, sl.r_21, sl.r_4, sl.r_5, sl.r_6, sl.r_7, sl.r_8, sl.r_9, sl.v3, sl.v4, k0_pay10, k0_pay11, k0_pay17, k0_pay18, k0_pay180, k0_pay181, k0_pay182, k0_pay185, k0_pay187, k0_pay188, k0_pay189, k0_pay191, k0_pay197, k0_pay207, k0_pay22, k0_pay25, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay46, k0_pay47, k0_pay6, k0_pay7, k0_pay8, k0_pay9, Core.dq, Core.dk, Core.dv, Core.dcum, Core.dcl, Core.dqin, Core.dkin, Core.dkout, Core.ddec, Core.dqStack, Core.dscores, Core.scores, Core.stack, Core.dvScores, Core.dstate, keep, rows, pile, sums, In.pre, In.la, In.cum, In.cl, In.e, In.einv, In.eout, In.qin, In.kin, In.kout, In.dec, In.st, In.dq, In.dk, In.dv, In.dcum, In.dcl, In.dact, In.at', hd0, hd1, hd2, hd3, tri, low, upp, diag, loads]
  exact rfl

theorem dv4 : (k0_pay176 (sl.r_128 c arg1 harg1 arg2 harg2 arg4 harg4 arg5 harg5 arg6 harg6 arg8 harg8 arg15 x0 x1 x3 x4 x5 x7)) = In.dv (loads harg1 harg2 harg3 harg4 harg5 harg6 harg7 harg8 x0 x1 x2 x3 x4 x5 x6 x7) 4 (In.ds (loads harg1 harg2 harg3 harg4 harg5 harg6 harg7 harg8 x0 x1 x2 x3 x4 x5 x6 x7) (sl.v288 (F := F) c arg15) 3) := by
  rw [← ds3]
  dsimp only [sl.r, sl.r_10, sl.r_11, sl.r_113, sl.r_114, sl.r_115, sl.r_117, sl.r_12, sl.r_120, sl.r_123, sl.r_124, sl.r_126, sl.r_128, sl.r_13, sl.r_14, sl.r_18, sl.r_20, sl.r_21, sl.r_4, sl.r_5, sl.r_6, sl.r_7, sl.r_8, sl.r_9, sl.v3, sl.v4, k0_pay10, k0_pay11, k0_pay150, k0_pay151, k0_pay152, k0_pay154, k0_pay155, k0_pay157, k0_pay158, k0_pay159, k0_pay161, k0_pay165, k0_pay17, k0_pay176, k0_pay18, k0_pay22, k0_pay25, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay46, k0_pay47, k0_pay6, k0_pay7, k0_pay8, k0_pay9, Core.dq, Core.dk, Core.dv, Core.dcum, Core.dcl, Core.dqin, Core.dkin, Core.dkout, Core.ddec, Core.dqStack, Core.dscores, Core.scores, Core.stack, Core.dvScores, Core.dstate, keep, rows, pile, sums, In.pre, In.la, In.cum, In.cl, In.e, In.einv, In.eout, In.qin, In.kin, In.kout, In.dec, In.st, In.dq, In.dk, In.dv, In.dcum, In.dcl, In.dact, In.at', hd0, hd1, hd2, hd3, tri, low, upp, diag, loads]
  exact rfl

theorem dv5 : (k0_pay146 (sl.r_102 c arg1 harg1 arg2 harg2 arg4 harg4 arg5 harg5 arg6 harg6 arg8 harg8 arg15 x0 x1 x3 x4 x5 x7)) = In.dv (loads harg1 harg2 harg3 harg4 harg5 harg6 harg7 harg8 x0 x1 x2 x3 x4 x5 x6 x7) 5 (In.ds (loads harg1 harg2 harg3 harg4 harg5 harg6 harg7 harg8 x0 x1 x2 x3 x4 x5 x6 x7) (sl.v288 (F := F) c arg15) 2) := by
  rw [← ds2]
  dsimp only [sl.cst_115, sl.r, sl.r_10, sl.r_101, sl.r_102, sl.r_11, sl.r_12, sl.r_13, sl.r_14, sl.r_18, sl.r_20, sl.r_21, sl.r_4, sl.r_5, sl.r_6, sl.r_7, sl.r_8, sl.r_85, sl.r_86, sl.r_87, sl.r_89, sl.r_9, sl.r_90, sl.r_93, sl.r_96, sl.r_97, sl.r_99, sl.v3, sl.v4, k0_pay10, k0_pay11, k0_pay119, k0_pay120, k0_pay121, k0_pay123, k0_pay124, k0_pay125, k0_pay127, k0_pay128, k0_pay129, k0_pay131, k0_pay133, k0_pay134, k0_pay146, k0_pay17, k0_pay18, k0_pay22, k0_pay25, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay46, k0_pay47, k0_pay6, k0_pay7, k0_pay8, k0_pay9, Core.dq, Core.dk, Core.dv, Core.dcum, Core.dcl, Core.dqin, Core.dkin, Core.dkout, Core.ddec, Core.dqStack, Core.dscores, Core.scores, Core.stack, Core.dvScores, Core.dstate, keep, rows, pile, sums, In.pre, In.la, In.cum, In.cl, In.e, In.einv, In.eout, In.qin, In.kin, In.kout, In.dec, In.st, In.dq, In.dk, In.dv, In.dcum, In.dcl, In.dact, In.at', hd0, hd1, hd2, hd3, tri, low, upp, diag, loads]
  exact rfl

theorem dv6 : (k0_pay115 (sl.r_74 c arg1 harg1 arg2 harg2 arg4 harg4 arg5 harg5 arg6 harg6 arg8 harg8 arg15 x0 x1 x3 x4 x5 x7)) = In.dv (loads harg1 harg2 harg3 harg4 harg5 harg6 harg7 harg8 x0 x1 x2 x3 x4 x5 x6 x7) 6 (In.ds (loads harg1 harg2 harg3 harg4 harg5 harg6 harg7 harg8 x0 x1 x2 x3 x4 x5 x6 x7) (sl.v288 (F := F) c arg15) 1) := by
  rw [← ds1]
  dsimp only [sl.cst_115, sl.r, sl.r_10, sl.r_11, sl.r_12, sl.r_13, sl.r_14, sl.r_18, sl.r_20, sl.r_21, sl.r_4, sl.r_5, sl.r_53, sl.r_54, sl.r_55, sl.r_57, sl.r_58, sl.r_59, sl.r_6, sl.r_62, sl.r_65, sl.r_66, sl.r_68, sl.r_7, sl.r_70, sl.r_71, sl.r_72, sl.r_73, sl.r_74, sl.r_8, sl.r_9, sl.v3, sl.v4, k0_pay10, k0_pay100, k0_pay101, k0_pay102, k0_pay103, k0_pay11, k0_pay115, k0_pay17, k0_pay18, k0_pay22, k0_pay25, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay46, k0_pay47, k0_pay6, k0_pay7, k0_pay8, k0_pay83, k0_pay84, k0_pay85, k0_pay87, k0_pay88, k0_pay89, k0_pay9, k0_pay90, k0_pay91, k0_pay93, k0_pay94, k0_pay95, k0_pay97, k0_pay99, Core.dq, Core.dk, Core.dv, Core.dcum, Core.dcl, Core.dqin, Core.dkin, Core.dkout, Core.ddec, Core.dqStack, Core.dscores, Core.scores, Core.stack, Core.dvScores, Core.dstate, keep, rows, pile, sums, In.pre, In.la, In.cum, In.cl, In.e, In.einv, In.eout, In.qin, In.kin, In.kout, In.dec, In.st, In.dq, In.dk, In.dv, In.dcum, In.dcl, In.dact, In.at', hd0, hd1, hd2, hd3, tri, low, upp, diag, loads]
  exact rfl

theorem dv7 : (k0_pay79 (sl.r_42 c arg1 harg1 arg2 harg2 arg4 harg4 arg5 harg5 arg6 harg6 arg8 harg8 arg15 x0 x1 x3 x4 x5 x7)) = In.dv (loads harg1 harg2 harg3 harg4 harg5 harg6 harg7 harg8 x0 x1 x2 x3 x4 x5 x6 x7) 7 (In.ds (loads harg1 harg2 harg3 harg4 harg5 harg6 harg7 harg8 x0 x1 x2 x3 x4 x5 x6 x7) (sl.v288 (F := F) c arg15) 0) := by
  dsimp only [sl.r, sl.r_10, sl.r_11, sl.r_12, sl.r_13, sl.r_14, sl.r_26, sl.r_27, sl.r_29, sl.r_34, sl.r_36, sl.r_38, sl.r_39, sl.r_4, sl.r_40, sl.r_41, sl.r_42, sl.r_5, sl.r_6, sl.r_7, sl.r_8, sl.r_9, sl.v3, sl.v4, k0_pay10, k0_pay11, k0_pay17, k0_pay18, k0_pay22, k0_pay25, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay46, k0_pay47, k0_pay51, k0_pay52, k0_pay53, k0_pay55, k0_pay57, k0_pay58, k0_pay59, k0_pay6, k0_pay61, k0_pay63, k0_pay64, k0_pay65, k0_pay66, k0_pay67, k0_pay7, k0_pay79, k0_pay8, k0_pay9, Core.dq, Core.dk, Core.dv, Core.dcum, Core.dcl, Core.dqin, Core.dkin, Core.dkout, Core.ddec, Core.dqStack, Core.dscores, Core.scores, Core.stack, Core.dvScores, Core.dstate, keep, rows, pile, sums, In.pre, In.la, In.cum, In.cl, In.e, In.einv, In.eout, In.qin, In.kin, In.kout, In.dec, In.st, In.dq, In.dk, In.dv, In.dcum, In.dcl, In.dact, In.at', hd0, hd1, hd2, hd3, tri, low, upp, diag, loads, In.ds]
  exact rfl

theorem L10 : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).2.2.1 = stores512 fun j => In.dv (loads harg1 harg2 harg3 harg4 harg5 harg6 harg7 harg8 x0 x1 x2 x3 x4 x5 x6 x7) j (In.ds (loads harg1 harg2 harg3 harg4 harg5 harg6 harg7 harg8 x0 x1 x2 x3 x4 x5 x6 x7) (sl.v288 (F := F) c arg15) (7 - j.val)) :=
  stores512_eq (P := fun j => In.dv (loads harg1 harg2 harg3 harg4 harg5 harg6 harg7 harg8 x0 x1 x2 x3 x4 x5 x6 x7) j (In.ds (loads harg1 harg2 harg3 harg4 harg5 harg6 harg7 harg8 x0 x1 x2 x3 x4 x5 x6 x7) (sl.v288 (F := F) c arg15) (7 - j.val))) (dv0 ..) (dv1 ..) (dv2 ..) (dv3 ..) (dv4 ..) (dv5 ..) (dv6 ..) (dv7 ..)

end Gla.Core.RunA

end
-- ==== Proof.Gla.GateA.lean ====
/-
  The gradients of the gate in a block in which the gradient of the state starts from zero, and the state gradient it leaves.
-/
module

public import proofs.«01_k».proof.Proof.Gla.DsA

@[expose] public section

set_option maxRecDepth 16384
set_option maxHeartbeats 1000000

noncomputable section

namespace Gla.Core.RunA

open Idealize.ShloMosaic Cert.KernelIdeal Cert.KernelIdeal.Gen

open Cert.KernelIdeal.Gen.kernelRun0_A

variable {F : FTy → Type} [FloatOps F]

variable (c : Dev nD) (i : grid0.Coords) (arg1 : Memref sig .tc .vmem S512x256 .bf16) (harg1 : arg1.IsWhole) (arg2 : Memref sig .tc .vmem S512x256 .bf16) (harg2 : arg2.IsWhole) (arg3 : Memref sig .tc .vmem S512x512 .bf16) (harg3 : arg3.IsWhole) (arg4 : Memref sig .tc .vmem S512x128 .bf16) (harg4 : arg4.IsWhole) (arg5 : Memref sig .tc .vmem S1x128x256 .bf16) (harg5 : arg5.IsWhole) (arg6 : Memref sig .tc .vmem S1x1x256 .f32) (harg6 : arg6.IsWhole) (arg7 : Memref sig .tc .vmem S8x512x256 .bf16) (harg7 : arg7.IsWhole) (arg8 : Memref sig .tc .vmem S512x512 .bf16) (harg8 : arg8.IsWhole) (arg9 : Memref sig .tc .vmem S512x256 .bf16) (harg9 : arg9.IsWhole) (arg10 : Memref sig .tc .vmem S512x256 .bf16) (harg10 : arg10.IsWhole) (arg11 : Memref sig .tc .vmem S512x512 .bf16) (harg11 : arg11.IsWhole) (arg12 : Memref sig .tc .vmem S512x128 .bf16) (harg12 : arg12.IsWhole) (arg13 : Memref sig .tc .vmem S128x256 .f32) (harg13 : arg13.IsWhole) (arg14 : Memref sig .tc .vmem S1x256 .f32) (harg14 : arg14.IsWhole) (arg15 : Memref sig .tc .vmem S512x256 .f32) (harg15 : arg15.IsWhole) (hc0 : cond0_0 i)
  (x0 : Vec F S512x256 .bf16) (x1 : Vec F S512x256 .bf16) (x2 : Vec F S512x512 .bf16) (x3 : Vec F S512x128 .bf16) (x4 : Vec F S1x128x256 .bf16) (x5 : Vec F S1x1x256 .f32) (x6 : Vec F S8x512x256 .bf16) (x7 : Vec F S512x512 .bf16)

theorem dcum7 : (sl.r_48 c arg1 harg1 arg2 harg2 arg3 harg3 arg4 harg4 arg5 harg5 arg6 harg6 arg7 harg7 arg8 harg8 arg15 x0 x1 x2 x3 x4 x5 x6 x7) = In.dcum (loads harg1 harg2 harg3 harg4 harg5 harg6 harg7 harg8 x0 x1 x2 x3 x4 x5 x6 x7) 7 (In.ds (loads harg1 harg2 harg3 harg4 harg5 harg6 harg7 harg8 x0 x1 x2 x3 x4 x5 x6 x7) (sl.v288 (F := F) c arg15) 0) := by
  dsimp only [sl.r, sl.r_10, sl.r_11, sl.r_12, sl.r_13, sl.r_14, sl.r_25, sl.r_26, sl.r_27, sl.r_29, sl.r_30, sl.r_31, sl.r_33, sl.r_35, sl.r_36, sl.r_37, sl.r_4, sl.r_43, sl.r_44, sl.r_45, sl.r_48, sl.r_5, sl.r_6, sl.r_7, sl.r_8, sl.r_9, sl.v3, sl.v4, k0_pay10, k0_pay11, k0_pay17, k0_pay18, k0_pay22, k0_pay25, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay46, k0_pay47, k0_pay51, k0_pay52, k0_pay53, k0_pay55, k0_pay57, k0_pay6, k0_pay60, k0_pay61, k0_pay62, k0_pay68, k0_pay69, k0_pay7, k0_pay70, k0_pay74, k0_pay75, k0_pay8, k0_pay9, Core.dq, Core.dk, Core.dv, Core.dcum, Core.dcl, Core.dqin, Core.dkin, Core.dkout, Core.ddec, Core.dqStack, Core.dscores, Core.scores, Core.stack, Core.dvScores, Core.dstate, keep, rows, pile, sums, In.pre, In.la, In.cum, In.cl, In.e, In.einv, In.eout, In.qin, In.kin, In.kout, In.dec, In.st, In.dq, In.dk, In.dv, In.dcum, In.dcl, In.dact, In.at', hd0, hd1, hd2, hd3, tri, low, upp, diag, loads, In.ds]
  exact rfl

theorem dcl7 : (sl.r_49 c arg2 harg2 arg3 harg3 arg4 harg4 arg5 harg5 arg6 harg6 arg7 harg7 arg15 x1 x2 x3 x4 x5 x6) = In.dcl (loads harg1 harg2 harg3 harg4 harg5 harg6 harg7 harg8 x0 x1 x2 x3 x4 x5 x6 x7) 7 (In.ds (loads harg1 harg2 harg3 harg4 harg5 harg6 harg7 harg8 x0 x1 x2 x3 x4 x5 x6 x7) (sl.v288 (F := F) c arg15) 0) := by
  dsimp only [sl.r, sl.r_10, sl.r_11, sl.r_12, sl.r_13, sl.r_14, sl.r_27, sl.r_28, sl.r_30, sl.r_35, sl.r_36, sl.r_4, sl.r_45, sl.r_46, sl.r_49, sl.r_5, sl.r_6, sl.r_7, sl.r_8, sl.r_9, sl.v3, sl.v4, k0_pay10, k0_pay11, k0_pay22, k0_pay25, k0_pay27, k0_pay28, k0_pay29, k0_pay30, k0_pay31, k0_pay32, k0_pay33, k0_pay34, k0_pay35, k0_pay36, k0_pay37, k0_pay38, k0_pay39, k0_pay42, k0_pay44, k0_pay45, k0_pay47, k0_pay53, k0_pay54, k0_pay6, k0_pay60, k0_pay61, k0_pay7, k0_pay70, k0_pay71, k0_pay74, k0_pay76, k0_pay8, k0_pay9, Core.dq, Core.dk, Core.dv, Core.dcum, Core.dcl, Core.dqin, Core.dkin, Core.dkout, Core.ddec, Core.dqStack, Core.dscores, Core.scores, Core.stack, Core.dvScores, Core.dstate, keep, rows, pile, sums, In.pre, In.la, In.cum, In.cl, In.e, In.einv, In.eout, In.qin, In.kin, In.kout, In.dec, In.st, In.dq, In.dk, In.dv, In.dcum, In.dcl, In.dact, In.at', hd0, hd1, hd2, hd3, tri, low, upp, diag, loads, In.ds]
  exact rfl

theorem dcum6 : (sl.r_80 c arg1 harg1 arg2 harg2 arg3 harg3 arg4 harg4 arg5 harg5 arg6 harg6 arg7 harg7 arg8 harg8 arg15 x0 x1 x2 x3 x4 x5 x6 x7) = In.dcum (loads harg1 harg2 harg3 harg4 harg5 harg6 harg7 harg8 x0 x1 x2 x3 x4 x5 x6 x7) 6 (In.ds (loads harg1 harg2 harg3 harg4 harg5 harg6 harg7 harg8 x0 x1 x2 x3 x4 x5 x6 x7) (sl.v288 (F := F) c arg15) 1) := by
  rw [← ds1]
  dsimp only [sl.cst_115, sl.r, sl.r_10, sl.r_11, sl.r_12, sl.r_13, sl.r_14, sl.r_18, sl.r_20, sl.r_21, sl.r_4, sl.r_5, sl.r_53, sl.r_54, sl.r_55, sl.r_57, sl.r_58, sl.r_59, sl.r_6, sl.r_60, sl.r_61, sl.r_62, sl.r_64, sl.r_67, sl.r_68, sl.r_69, sl.r_7, sl.r_75, sl.r_76, sl.r_77, sl.r_8, sl.r_80, sl.r_9, sl.v3, sl.v4, k0_pay10, k0_pay104, k0_pay105, k0_pay106, k0_pay11, k0_pay110, k0_pay111, k0_pay17, k0_pay18, k0_pay22, k0_pay25, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay46, k0_pay47, k0_pay6, k0_pay7, k0_pay8, k0_pay83, k0_pay84, k0_pay85, k0_pay87, k0_pay88, k0_pay89, k0_pay9, k0_pay90, k0_pay91, k0_pay93, k0_pay96, k0_pay97, k0_pay98, Core.dq, Core.dk, Core.dv, Core.dcum, Core.dcl, Core.dqin, Core.dkin, Core.dkout, Core.ddec, Core.dqStack, Core.dscores, Core.scores, Core.stack, Core.dvScores, Core.dstate, keep, rows, pile, sums, In.pre, In.la, In.cum, In.cl, In.e, In.einv, In.eout, In.qin, In.kin, In.kout, In.dec, In.st, In.dq, In.dk, In.dv, In.dcum, In.dcl, In.dact, In.at', hd0, hd1, hd2, hd3, tri, low, upp, diag, loads]
  exact rfl

theorem dcl6 : (sl.r_81 c arg1 harg1 arg2 harg2 arg3 harg3 arg4 harg4 arg5 harg5 arg6 harg6 arg7 harg7 arg8 harg8 arg15 x0 x1 x2 x3 x4 x5 x6 x7) = In.dcl (loads harg1 harg2 harg3 harg4 harg5 harg6 harg7 harg8 x0 x1 x2 x3 x4 x5 x6 x7) 6 (In.ds (loads harg1 harg2 harg3 harg4 harg5 harg6 harg7 harg8 x0 x1 x2 x3 x4 x5 x6 x7) (sl.v288 (F := F) c arg15) 1) := by
  rw [← ds1]
  dsimp only [sl.r, sl.r_10, sl.r_11, sl.r_12, sl.r_13, sl.r_14, sl.r_19, sl.r_21, sl.r_4, sl.r_5, sl.r_55, sl.r_56, sl.r_6, sl.r_61, sl.r_67, sl.r_68, sl.r_7, sl.r_77, sl.r_78, sl.r_8, sl.r_81, sl.r_9, sl.v3, sl.v4, k0_pay10, k0_pay106, k0_pay107, k0_pay11, k0_pay110, k0_pay112, k0_pay22, k0_pay25, k0_pay27, k0_pay28, k0_pay29, k0_pay30, k0_pay31, k0_pay32, k0_pay33, k0_pay34, k0_pay35, k0_pay36, k0_pay37, k0_pay38, k0_pay39, k0_pay42, k0_pay44, k0_pay45, k0_pay47, k0_pay6, k0_pay7, k0_pay8, k0_pay85, k0_pay86, k0_pay9, k0_pay96, k0_pay97, Core.dq, Core.dk, Core.dv, Core.dcum, Core.dcl, Core.dqin, Core.dkin, Core.dkout, Core.ddec, Core.dqStack, Core.dscores, Core.scores, Core.stack, Core.dvScores, Core.dstate, keep, rows, pile, sums, In.pre, In.la, In.cum, In.cl, In.e, In.einv, In.eout, In.qin, In.kin, In.kout, In.dec, In.st, In.dq, In.dk, In.dv, In.dcum, In.dcl, In.dact, In.at', hd0, hd1, hd2, hd3, tri, low, upp, diag, loads]
  exact rfl

theorem dcum5 : (sl.r_108 c arg1 harg1 arg2 harg2 arg3 harg3 arg4 harg4 arg5 harg5 arg6 harg6 arg7 harg7 arg8 harg8 arg15 x0 x1 x2 x3 x4 x5 x6 x7) = In.dcum (loads harg1 harg2 harg3 harg4 harg5 harg6 harg7 harg8 x0 x1 x2 x3 x4 x5 x6 x7) 5 (In.ds (loads harg1 harg2 harg3 harg4 harg5 harg6 harg7 harg8 x0 x1 x2 x3 x4 x5 x6 x7) (sl.v288 (F := F) c arg15) 2) := by
  rw [← ds2]
  dsimp only [sl.cst_115, sl.r, sl.r_10, sl.r_100, sl.r_103, sl.r_104, sl.r_105, sl.r_108, sl.r_11, sl.r_12, sl.r_13, sl.r_14, sl.r_18, sl.r_20, sl.r_21, sl.r_4, sl.r_5, sl.r_6, sl.r_7, sl.r_8, sl.r_85, sl.r_86, sl.r_87, sl.r_89, sl.r_9, sl.r_90, sl.r_91, sl.r_92, sl.r_93, sl.r_95, sl.r_98, sl.r_99, sl.v3, sl.v4, k0_pay10, k0_pay11, k0_pay119, k0_pay120, k0_pay121, k0_pay123, k0_pay124, k0_pay125, k0_pay127, k0_pay130, k0_pay131, k0_pay132, k0_pay135, k0_pay136, k0_pay137, k0_pay141, k0_pay142, k0_pay17, k0_pay18, k0_pay22, k0_pay25, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay46, k0_pay47, k0_pay6, k0_pay7, k0_pay8, k0_pay9, Core.dq, Core.dk, Core.dv, Core.dcum, Core.dcl, Core.dqin, Core.dkin, Core.dkout, Core.ddec, Core.dqStack, Core.dscores, Core.scores, Core.stack, Core.dvScores, Core.dstate, keep, rows, pile, sums, In.pre, In.la, In.cum, In.cl, In.e, In.einv, In.eout, In.qin, In.kin, In.kout, In.dec, In.st, In.dq, In.dk, In.dv, In.dcum, In.dcl, In.dact, In.at', hd0, hd1, hd2, hd3, tri, low, upp, diag, loads]
  exact rfl

theorem dcl5 : (sl.r_109 c arg1 harg1 arg2 harg2 arg3 harg3 arg4 harg4 arg5 harg5 arg6 harg6 arg7 harg7 arg8 harg8 arg15 x0 x1 x2 x3 x4 x5 x6 x7) = In.dcl (loads harg1 harg2 harg3 harg4 harg5 harg6 harg7 harg8 x0 x1 x2 x3 x4 x5 x6 x7) 5 (In.ds (loads harg1 harg2 harg3 harg4 harg5 harg6 harg7 harg8 x0 x1 x2 x3 x4 x5 x6 x7) (sl.v288 (F := F) c arg15) 2) := by
  rw [← ds2]
  dsimp only [sl.r, sl.r_10, sl.r_105, sl.r_106, sl.r_109, sl.r_11, sl.r_12, sl.r_13, sl.r_14, sl.r_19, sl.r_21, sl.r_4, sl.r_5, sl.r_6, sl.r_7, sl.r_8, sl.r_87, sl.r_88, sl.r_9, sl.r_92, sl.r_98, sl.r_99, sl.v3, sl.v4, k0_pay10, k0_pay11, k0_pay121, k0_pay122, k0_pay130, k0_pay131, k0_pay137, k0_pay138, k0_pay141, k0_pay143, k0_pay22, k0_pay25, k0_pay27, k0_pay28, k0_pay29, k0_pay30, k0_pay31, k0_pay32, k0_pay33, k0_pay34, k0_pay35, k0_pay36, k0_pay37, k0_pay38, k0_pay39, k0_pay42, k0_pay44, k0_pay45, k0_pay47, k0_pay6, k0_pay7, k0_pay8, k0_pay9, Core.dq, Core.dk, Core.dv, Core.dcum, Core.dcl, Core.dqin, Core.dkin, Core.dkout, Core.ddec, Core.dqStack, Core.dscores, Core.scores, Core.stack, Core.dvScores, Core.dstate, keep, rows, pile, sums, In.pre, In.la, In.cum, In.cl, In.e, In.einv, In.eout, In.qin, In.kin, In.kout, In.dec, In.st, In.dq, In.dk, In.dv, In.dcum, In.dcl, In.dact, In.at', hd0, hd1, hd2, hd3, tri, low, upp, diag, loads]
  exact rfl

theorem dcum4 : (sl.r_133 c arg1 harg1 arg2 harg2 arg3 harg3 arg4 harg4 arg5 harg5 arg6 harg6 arg7 harg7 arg8 harg8 arg15 x0 x1 x2 x3 x4 x5 x6 x7) = In.dcum (loads harg1 harg2 harg3 harg4 harg5 harg6 harg7 harg8 x0 x1 x2 x3 x4 x5 x6 x7) 4 (In.ds (loads harg1 harg2 harg3 harg4 harg5 harg6 harg7 harg8 x0 x1 x2 x3 x4 x5 x6 x7) (sl.v288 (F := F) c arg15) 3) := by
  rw [← ds3]
  dsimp only [sl.r, sl.r_10, sl.r_11, sl.r_113, sl.r_114, sl.r_115, sl.r_117, sl.r_118, sl.r_119, sl.r_12, sl.r_120, sl.r_122, sl.r_125, sl.r_126, sl.r_127, sl.r_129, sl.r_13, sl.r_130, sl.r_131, sl.r_133, sl.r_14, sl.r_18, sl.r_20, sl.r_21, sl.r_4, sl.r_5, sl.r_6, sl.r_7, sl.r_8, sl.r_9, sl.v3, sl.v4, k0_pay10, k0_pay11, k0_pay150, k0_pay151, k0_pay152, k0_pay154, k0_pay155, k0_pay157, k0_pay160, k0_pay161, k0_pay162, k0_pay163, k0_pay164, k0_pay166, k0_pay167, k0_pay168, k0_pay17, k0_pay171, k0_pay172, k0_pay18, k0_pay22, k0_pay25, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay46, k0_pay47, k0_pay6, k0_pay7, k0_pay8, k0_pay9, Core.dq, Core.dk, Core.dv, Core.dcum, Core.dcl, Core.dqin, Core.dkin, Core.dkout, Core.ddec, Core.dqStack, Core.dscores, Core.scores, Core.stack, Core.dvScores, Core.dstate, keep, rows, pile, sums, In.pre, In.la, In.cum, In.cl, In.e, In.einv, In.eout, In.qin, In.kin, In.kout, In.dec, In.st, In.dq, In.dk, In.dv, In.dcum, In.dcl, In.dact, In.at', hd0, hd1, hd2, hd3, tri, low, upp, diag, loads]
  exact rfl

theorem dcl4 : (sl.r_134 c arg1 harg1 arg2 harg2 arg3 harg3 arg4 harg4 arg5 harg5 arg6 harg6 arg7 harg7 arg8 harg8 arg15 x0 x1 x2 x3 x4 x5 x6 x7) = In.dcl (loads harg1 harg2 harg3 harg4 harg5 harg6 harg7 harg8 x0 x1 x2 x3 x4 x5 x6 x7) 4 (In.ds (loads harg1 harg2 harg3 harg4 harg5 harg6 harg7 harg8 x0 x1 x2 x3 x4 x5 x6 x7) (sl.v288 (F := F) c arg15) 3) := by
  rw [← ds3]
  dsimp only [sl.r, sl.r_10, sl.r_11, sl.r_115, sl.r_116, sl.r_119, sl.r_12, sl.r_125, sl.r_126, sl.r_13, sl.r_131, sl.r_132, sl.r_134, sl.r_14, sl.r_19, sl.r_21, sl.r_4, sl.r_5, sl.r_6, sl.r_7, sl.r_8, sl.r_9, sl.v3, sl.v4, k0_pay10, k0_pay11, k0_pay152, k0_pay153, k0_pay160, k0_pay161, k0_pay168, k0_pay169, k0_pay171, k0_pay173, k0_pay22, k0_pay25, k0_pay27, k0_pay28, k0_pay29, k0_pay30, k0_pay31, k0_pay32, k0_pay33, k0_pay34, k0_pay35, k0_pay36, k0_pay37, k0_pay38, k0_pay39, k0_pay42, k0_pay44, k0_pay45, k0_pay47, k0_pay6, k0_pay7, k0_pay8, k0_pay9, Core.dq, Core.dk, Core.dv, Core.dcum, Core.dcl, Core.dqin, Core.dkin, Core.dkout, Core.ddec, Core.dqStack, Core.dscores, Core.scores, Core.stack, Core.dvScores, Core.dstate, keep, rows, pile, sums, In.pre, In.la, In.cum, In.cl, In.e, In.einv, In.eout, In.qin, In.kin, In.kout, In.dec, In.st, In.dq, In.dk, In.dv, In.dcum, In.dcl, In.dact, In.at', hd0, hd1, hd2, hd3, tri, low, upp, diag, loads]
  exact rfl

theorem dcum3 : (sl.r_159 c arg1 harg1 arg2 harg2 arg3 harg3 arg4 harg4 arg5 harg5 arg6 harg6 arg7 harg7 arg8 harg8 arg15 x0 x1 x2 x3 x4 x5 x6 x7) = In.dcum (loads harg1 harg2 harg3 harg4 harg5 harg6 harg7 harg8 x0 x1 x2 x3 x4 x5 x6 x7) 3 (In.ds (loads harg1 harg2 harg3 harg4 harg5 harg6 harg7 harg8 x0 x1 x2 x3 x4 x5 x6 x7) (sl.v288 (F := F) c arg15) 4) := by
  rw [← ds4]
  dsimp only [sl.r, sl.r_10, sl.r_11, sl.r_12, sl.r_13, sl.r_138, sl.r_139, sl.r_14, sl.r_140, sl.r_143, sl.r_144, sl.r_145, sl.r_147, sl.r_150, sl.r_151, sl.r_152, sl.r_153, sl.r_154, sl.r_155, sl.r_156, sl.r_158, sl.r_159, sl.r_18, sl.r_20, sl.r_21, sl.r_4, sl.r_5, sl.r_6, sl.r_7, sl.r_8, sl.r_9, sl.v3, sl.v4, k0_pay10, k0_pay11, k0_pay17, k0_pay18, k0_pay180, k0_pay181, k0_pay182, k0_pay185, k0_pay187, k0_pay190, k0_pay191, k0_pay192, k0_pay193, k0_pay194, k0_pay195, k0_pay196, k0_pay198, k0_pay199, k0_pay200, k0_pay202, k0_pay203, k0_pay22, k0_pay25, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay46, k0_pay47, k0_pay6, k0_pay7, k0_pay8, k0_pay9, Core.dq, Core.dk, Core.dv, Core.dcum, Core.dcl, Core.dqin, Core.dkin, Core.dkout, Core.ddec, Core.dqStack, Core.dscores, Core.scores, Core.stack, Core.dvScores, Core.dstate, keep, rows, pile, sums, In.pre, In.la, In.cum, In.cl, In.e, In.einv, In.eout, In.qin, In.kin, In.kout, In.dec, In.st, In.dq, In.dk, In.dv, In.dcum, In.dcl, In.dact, In.at', hd0, hd1, hd2, hd3, tri, low, upp, diag, loads]
  exact rfl

theorem dcl3 : (sl.r_160 c arg1 harg1 arg2 harg2 arg3 harg3 arg4 harg4 arg5 harg5 arg6 harg6 arg7 harg7 arg8 harg8 arg15 x0 x1 x2 x3 x4 x5 x6 x7) = In.dcl (loads harg1 harg2 harg3 harg4 harg5 harg6 harg7 harg8 x0 x1 x2 x3 x4 x5 x6 x7) 3 (In.ds (loads harg1 harg2 harg3 harg4 harg5 harg6 harg7 harg8 x0 x1 x2 x3 x4 x5 x6 x7) (sl.v288 (F := F) c arg15) 4) := by
  rw [← ds4]
  dsimp only [sl.r, sl.r_10, sl.r_11, sl.r_12, sl.r_13, sl.r_14, sl.r_140, sl.r_141, sl.r_142, sl.r_144, sl.r_150, sl.r_151, sl.r_160, sl.r_19, sl.r_21, sl.r_4, sl.r_5, sl.r_6, sl.r_7, sl.r_8, sl.r_9, sl.v3, sl.v4, k0_pay10, k0_pay11, k0_pay182, k0_pay183, k0_pay184, k0_pay190, k0_pay191, k0_pay200, k0_pay202, k0_pay204, k0_pay22, k0_pay25, k0_pay27, k0_pay28, k0_pay29, k0_pay30, k0_pay31, k0_pay32, k0_pay33, k0_pay34, k0_pay35, k0_pay36, k0_pay37, k0_pay38, k0_pay39, k0_pay42, k0_pay44, k0_pay45, k0_pay47, k0_pay6, k0_pay7, k0_pay8, k0_pay9, Core.dq, Core.dk, Core.dv, Core.dcum, Core.dcl, Core.dqin, Core.dkin, Core.dkout, Core.ddec, Core.dqStack, Core.dscores, Core.scores, Core.stack, Core.dvScores, Core.dstate, keep, rows, pile, sums, In.pre, In.la, In.cum, In.cl, In.e, In.einv, In.eout, In.qin, In.kin, In.kout, In.dec, In.st, In.dq, In.dk, In.dv, In.dcum, In.dcl, In.dact, In.at', hd0, hd1, hd2, hd3, tri, low, upp, diag, loads]
  exact rfl

theorem dcum2 : (sl.r_184 c arg1 harg1 arg2 harg2 arg3 harg3 arg4 harg4 arg5 harg5 arg6 harg6 arg7 harg7 arg8 harg8 arg15 x0 x1 x2 x3 x4 x5 x6 x7) = In.dcum (loads harg1 harg2 harg3 harg4 harg5 harg6 harg7 harg8 x0 x1 x2 x3 x4 x5 x6 x7) 2 (In.ds (loads harg1 harg2 harg3 harg4 harg5 harg6 harg7 harg8 x0 x1 x2 x3 x4 x5 x6 x7) (sl.v288 (F := F) c arg15) 5) := by
  rw [← ds5]
  dsimp only [sl.cst_306, sl.r, sl.r_10, sl.r_11, sl.r_12, sl.r_13, sl.r_14, sl.r_164, sl.r_165, sl.r_166, sl.r_168, sl.r_169, sl.r_170, sl.r_172, sl.r_175, sl.r_176, sl.r_177, sl.r_178, sl.r_179, sl.r_18, sl.r_180, sl.r_182, sl.r_183, sl.r_184, sl.r_20, sl.r_21, sl.r_4, sl.r_5, sl.r_6, sl.r_7, sl.r_8, sl.r_9, sl.v3, sl.v4, k0_pay10, k0_pay11, k0_pay17, k0_pay18, k0_pay211, k0_pay212, k0_pay213, k0_pay215, k0_pay217, k0_pay22, k0_pay220, k0_pay221, k0_pay222, k0_pay223, k0_pay224, k0_pay225, k0_pay227, k0_pay228, k0_pay229, k0_pay230, k0_pay231, k0_pay232, k0_pay234, k0_pay235, k0_pay25, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay46, k0_pay47, k0_pay6, k0_pay7, k0_pay8, k0_pay9, Core.dq, Core.dk, Core.dv, Core.dcum, Core.dcl, Core.dqin, Core.dkin, Core.dkout, Core.ddec, Core.dqStack, Core.dscores, Core.scores, Core.stack, Core.dvScores, Core.dstate, keep, rows, pile, sums, In.pre, In.la, In.cum, In.cl, In.e, In.einv, In.eout, In.qin, In.kin, In.kout, In.dec, In.st, In.dq, In.dk, In.dv, In.dcum, In.dcl, In.dact, In.at', hd0, hd1, hd2, hd3, tri, low, upp, diag, loads]
  exact rfl

theorem dcl2 : (sl.r_185 c arg1 harg1 arg2 harg2 arg3 harg3 arg4 harg4 arg5 harg5 arg6 harg6 arg7 harg7 arg8 harg8 arg15 x0 x1 x2 x3 x4 x5 x6 x7) = In.dcl (loads harg1 harg2 harg3 harg4 harg5 harg6 harg7 harg8 x0 x1 x2 x3 x4 x5 x6 x7) 2 (In.ds (loads harg1 harg2 harg3 harg4 harg5 harg6 harg7 harg8 x0 x1 x2 x3 x4 x5 x6 x7) (sl.v288 (F := F) c arg15) 5) := by
  rw [← ds5]
  dsimp only [sl.r, sl.r_10, sl.r_11, sl.r_12, sl.r_13, sl.r_14, sl.r_166, sl.r_167, sl.r_169, sl.r_175, sl.r_176, sl.r_185, sl.r_19, sl.r_21, sl.r_4, sl.r_5, sl.r_6, sl.r_7, sl.r_8, sl.r_9, sl.v3, sl.v4, k0_pay10, k0_pay11, k0_pay213, k0_pay214, k0_pay22, k0_pay220, k0_pay221, k0_pay232, k0_pay234, k0_pay236, k0_pay25, k0_pay27, k0_pay28, k0_pay29, k0_pay30, k0_pay31, k0_pay32, k0_pay33, k0_pay34, k0_pay35, k0_pay36, k0_pay37, k0_pay38, k0_pay39, k0_pay42, k0_pay44, k0_pay45, k0_pay47, k0_pay6, k0_pay7, k0_pay8, k0_pay9, Core.dq, Core.dk, Core.dv, Core.dcum, Core.dcl, Core.dqin, Core.dkin, Core.dkout, Core.ddec, Core.dqStack, Core.dscores, Core.scores, Core.stack, Core.dvScores, Core.dstate, keep, rows, pile, sums, In.pre, In.la, In.cum, In.cl, In.e, In.einv, In.eout, In.qin, In.kin, In.kout, In.dec, In.st, In.dq, In.dk, In.dv, In.dcum, In.dcl, In.dact, In.at', hd0, hd1, hd2, hd3, tri, low, upp, diag, loads]
  exact rfl

theorem dcum1 : (sl.r_209 c arg1 harg1 arg2 harg2 arg3 harg3 arg4 harg4 arg5 harg5 arg6 harg6 arg7 harg7 arg8 harg8 arg15 x0 x1 x2 x3 x4 x5 x6 x7) = In.dcum (loads harg1 harg2 harg3 harg4 harg5 harg6 harg7 harg8 x0 x1 x2 x3 x4 x5 x6 x7) 1 (In.ds (loads harg1 harg2 harg3 harg4 harg5 harg6 harg7 harg8 x0 x1 x2 x3 x4 x5 x6 x7) (sl.v288 (F := F) c arg15) 6) := by
  rw [← ds6]
  dsimp only [sl.cst_115, sl.r, sl.r_10, sl.r_11, sl.r_12, sl.r_13, sl.r_14, sl.r_18, sl.r_190, sl.r_191, sl.r_192, sl.r_194, sl.r_195, sl.r_196, sl.r_198, sl.r_20, sl.r_201, sl.r_202, sl.r_203, sl.r_204, sl.r_206, sl.r_207, sl.r_208, sl.r_209, sl.r_21, sl.r_4, sl.r_5, sl.r_6, sl.r_7, sl.r_8, sl.r_9, sl.v3, sl.v4, k0_pay10, k0_pay11, k0_pay17, k0_pay18, k0_pay22, k0_pay243, k0_pay244, k0_pay245, k0_pay247, k0_pay249, k0_pay25, k0_pay252, k0_pay253, k0_pay254, k0_pay255, k0_pay257, k0_pay258, k0_pay259, k0_pay260, k0_pay261, k0_pay262, k0_pay264, k0_pay265, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay46, k0_pay47, k0_pay6, k0_pay7, k0_pay8, k0_pay9, Core.dq, Core.dk, Core.dv, Core.dcum, Core.dcl, Core.dqin, Core.dkin, Core.dkout, Core.ddec, Core.dqStack, Core.dscores, Core.scores, Core.stack, Core.dvScores, Core.dstate, keep, rows, pile, sums, In.pre, In.la, In.cum, In.cl, In.e, In.einv, In.eout, In.qin, In.kin, In.kout, In.dec, In.st, In.dq, In.dk, In.dv, In.dcum, In.dcl, In.dact, In.at', hd0, hd1, hd2, hd3, tri, low, upp, diag, loads]
  exact rfl

theorem dcl1 : (sl.r_210 c arg1 harg1 arg2 harg2 arg3 harg3 arg4 harg4 arg5 harg5 arg6 harg6 arg7 harg7 arg8 harg8 arg15 x0 x1 x2 x3 x4 x5 x6 x7) = In.dcl (loads harg1 harg2 harg3 harg4 harg5 harg6 harg7 harg8 x0 x1 x2 x3 x4 x5 x6 x7) 1 (In.ds (loads harg1 harg2 harg3 harg4 harg5 harg6 harg7 harg8 x0 x1 x2 x3 x4 x5 x6 x7) (sl.v288 (F := F) c arg15) 6) := by
  rw [← ds6]
  dsimp only [sl.r, sl.r_10, sl.r_11, sl.r_12, sl.r_13, sl.r_14, sl.r_19, sl.r_192, sl.r_193, sl.r_195, sl.r_201, sl.r_202, sl.r_21, sl.r_210, sl.r_4, sl.r_5, sl.r_6, sl.r_7, sl.r_8, sl.r_9, sl.v3, sl.v4, k0_pay10, k0_pay11, k0_pay22, k0_pay245, k0_pay246, k0_pay25, k0_pay252, k0_pay253, k0_pay262, k0_pay264, k0_pay266, k0_pay27, k0_pay28, k0_pay29, k0_pay30, k0_pay31, k0_pay32, k0_pay33, k0_pay34, k0_pay35, k0_pay36, k0_pay37, k0_pay38, k0_pay39, k0_pay42, k0_pay44, k0_pay45, k0_pay47, k0_pay6, k0_pay7, k0_pay8, k0_pay9, Core.dq, Core.dk, Core.dv, Core.dcum, Core.dcl, Core.dqin, Core.dkin, Core.dkout, Core.ddec, Core.dqStack, Core.dscores, Core.scores, Core.stack, Core.dvScores, Core.dstate, keep, rows, pile, sums, In.pre, In.la, In.cum, In.cl, In.e, In.einv, In.eout, In.qin, In.kin, In.kout, In.dec, In.st, In.dq, In.dk, In.dv, In.dcum, In.dcl, In.dact, In.at', hd0, hd1, hd2, hd3, tri, low, upp, diag, loads]
  exact rfl

theorem dcum0 : (sl.r_236 c arg1 harg1 arg2 harg2 arg3 harg3 arg4 harg4 arg5 harg5 arg6 harg6 arg7 harg7 arg8 harg8 arg15 x0 x1 x2 x3 x4 x5 x6 x7) = In.dcum (loads harg1 harg2 harg3 harg4 harg5 harg6 harg7 harg8 x0 x1 x2 x3 x4 x5 x6 x7) 0 (In.ds (loads harg1 harg2 harg3 harg4 harg5 harg6 harg7 harg8 x0 x1 x2 x3 x4 x5 x6 x7) (sl.v288 (F := F) c arg15) 7) := by
  rw [← ds7]
  dsimp only [sl.cst_115, sl.r, sl.r_10, sl.r_11, sl.r_12, sl.r_13, sl.r_14, sl.r_18, sl.r_20, sl.r_21, sl.r_215, sl.r_216, sl.r_217, sl.r_219, sl.r_220, sl.r_221, sl.r_223, sl.r_226, sl.r_228, sl.r_229, sl.r_231, sl.r_232, sl.r_233, sl.r_236, sl.r_4, sl.r_5, sl.r_6, sl.r_7, sl.r_8, sl.r_9, sl.v3, sl.v4, k0_pay10, k0_pay11, k0_pay17, k0_pay18, k0_pay22, k0_pay25, k0_pay27, k0_pay273, k0_pay274, k0_pay275, k0_pay277, k0_pay279, k0_pay28, k0_pay282, k0_pay283, k0_pay284, k0_pay286, k0_pay287, k0_pay288, k0_pay289, k0_pay29, k0_pay290, k0_pay291, k0_pay292, k0_pay296, k0_pay297, k0_pay30, k0_pay31, k0_pay32, k0_pay33, k0_pay34, k0_pay35, k0_pay36, k0_pay37, k0_pay38, k0_pay39, k0_pay40, k0_pay41, k0_pay42, k0_pay43, k0_pay44, k0_pay46, k0_pay47, k0_pay6, k0_pay7, k0_pay8, k0_pay9, Core.dq, Core.dk, Core.dv, Core.dcum, Core.dcl, Core.dqin, Core.dkin, Core.dkout, Core.ddec, Core.dqStack, Core.dscores, Core.scores, Core.stack, Core.dvScores, Core.dstate, keep, rows, pile, sums, In.pre, In.la, In.cum, In.cl, In.e, In.einv, In.eout, In.qin, In.kin, In.kout, In.dec, In.st, In.dq, In.dk, In.dv, In.dcum, In.dcl, In.dact, In.at', hd0, hd1, hd2, hd3, tri, low, upp, diag, loads]
  exact rfl

theorem dcl0 : (sl.r_237 c arg1 harg1 arg2 harg2 arg3 harg3 arg4 harg4 arg5 harg5 arg6 harg6 arg7 harg7 arg8 harg8 arg15 x0 x1 x2 x3 x4 x5 x6 x7) = In.dcl (loads harg1 harg2 harg3 harg4 harg5 harg6 harg7 harg8 x0 x1 x2 x3 x4 x5 x6 x7) 0 (In.ds (loads harg1 harg2 harg3 harg4 harg5 harg6 harg7 harg8 x0 x1 x2 x3 x4 x5 x6 x7) (sl.v288 (F := F) c arg15) 7) := by
  rw [← ds7]
  dsimp only [sl.r, sl.r_10, sl.r_11, sl.r_12, sl.r_13, sl.r_14, sl.r_19, sl.r_21, sl.r_217, sl.r_218, sl.r_220, sl.r_226, sl.r_227, sl.r_228, sl.r_237, sl.r_4, sl.r_5, sl.r_6, sl.r_7, sl.r_8, sl.r_9, sl.v3, sl.v4, k0_pay10, k0_pay11, k0_pay22, k0_pay25, k0_pay27, k0_pay275, k0_pay276, k0_pay28, k0_pay282, k0_pay283, k0_pay29, k0_pay292, k0_pay296, k0_pay298, k0_pay30, k0_pay31, k0_pay32, k0_pay33, k0_pay34, k0_pay35, k0_pay36, k0_pay37, k0_pay38, k0_pay39, k0_pay42, k0_pay44, k0_pay45, k0_pay47, k0_pay6, k0_pay7, k0_pay8, k0_pay9, Core.dq, Core.dk, Core.dv, Core.dcum, Core.dcl, Core.dqin, Core.dkin, Core.dkout, Core.ddec, Core.dqStack, Core.dscores, Core.scores, Core.stack, Core.dvScores, Core.dstate, keep, rows, pile, sums, In.pre, In.la, In.cum, In.cl, In.e, In.einv, In.eout, In.qin, In.kin, In.kout, In.dec, In.st, In.dq, In.dk, In.dv, In.dcum, In.dcl, In.dact, In.at', hd0, hd1, hd2, hd3, tri, low, upp, diag, loads]
  exact rfl

theorem dact : (sl.r_3 c arg4 harg4 arg5 harg5 arg6 harg6 x3 x4 x5) = In.dact (loads harg1 harg2 harg3 harg4 harg5 harg6 harg7 harg8 x0 x1 x2 x3 x4 x5 x6 x7) := by
  dsimp only [sl.r_3, k0_pay25, k0_pay26, Core.dq, Core.dk, Core.dv, Core.dcum, Core.dcl, Core.dqin, Core.dkin, Core.dkout, Core.ddec, Core.dqStack, Core.dscores, Core.scores, Core.stack, Core.dvScores, Core.dstate, keep, rows, pile, sums, In.pre, In.la, In.cum, In.cl, In.e, In.einv, In.eout, In.qin, In.kin, In.kout, In.dec, In.st, In.dq, In.dk, In.dv, In.dcum, In.dcl, In.dact, In.at', hd0, hd1, hd2, hd3, tri, low, upp, diag, loads]

theorem dpre : (sl.r_238 c arg1 harg1 arg2 harg2 arg3 harg3 arg4 harg4 arg5 harg5 arg6 harg6 arg7 harg7 arg8 harg8 arg15 x0 x1 x2 x3 x4 x5 x6 x7) = In.dpre (loads harg1 harg2 harg3 harg4 harg5 harg6 harg7 harg8 x0 x1 x2 x3 x4 x5 x6 x7) (sl.v288 (F := F) c arg15) := by
  rw [sl.r_238, dact (harg1 := harg1) (harg2 := harg2) (harg3 := harg3) (harg4 := harg4) (harg5 := harg5) (harg6 := harg6) (harg7 := harg7) (harg8 := harg8) (x0 := x0) (x1 := x1) (x2 := x2) (x3 := x3) (x4 := x4) (x5 := x5) (x6 := x6) (x7 := x7), dcum7 (harg1 := harg1) (harg2 := harg2) (harg3 := harg3) (harg4 := harg4) (harg5 := harg5) (harg6 := harg6) (harg7 := harg7) (harg8 := harg8) (x0 := x0) (x1 := x1) (x2 := x2) (x3 := x3) (x4 := x4) (x5 := x5) (x6 := x6) (x7 := x7), dcl7 (harg1 := harg1) (harg2 := harg2) (harg3 := harg3) (harg4 := harg4) (harg5 := harg5) (harg6 := harg6) (harg7 := harg7) (harg8 := harg8) (x0 := x0) (x1 := x1) (x2 := x2) (x3 := x3) (x4 := x4) (x5 := x5) (x6 := x6) (x7 := x7), dcum6 (harg1 := harg1) (harg2 := harg2) (harg3 := harg3) (harg4 := harg4) (harg5 := harg5) (harg6 := harg6) (harg7 := harg7) (harg8 := harg8) (x0 := x0) (x1 := x1) (x2 := x2) (x3 := x3) (x4 := x4) (x5 := x5) (x6 := x6) (x7 := x7), dcl6 (harg1 := harg1) (harg2 := harg2) (harg3 := harg3) (harg4 := harg4) (harg5 := harg5) (harg6 := harg6) (harg7 := harg7) (harg8 := harg8) (x0 := x0) (x1 := x1) (x2 := x2) (x3 := x3) (x4 := x4) (x5 := x5) (x6 := x6) (x7 := x7), dcum5 (harg1 := harg1) (harg2 := harg2) (harg3 := harg3) (harg4 := harg4) (harg5 := harg5) (harg6 := harg6) (harg7 := harg7) (harg8 := harg8) (x0 := x0) (x1 := x1) (x2 := x2) (x3 := x3) (x4 := x4) (x5 := x5) (x6 := x6) (x7 := x7), dcl5 (harg1 := harg1) (harg2 := harg2) (harg3 := harg3) (harg4 := harg4) (harg5 := harg5) (harg6 := harg6) (harg7 := harg7) (harg8 := harg8) (x0 := x0) (x1 := x1) (x2 := x2) (x3 := x3) (x4 := x4) (x5 := x5) (x6 := x6) (x7 := x7), dcum4 (harg1 := harg1) (harg2 := harg2) (harg3 := harg3) (harg4 := harg4) (harg5 := harg5) (harg6 := harg6) (harg7 := harg7) (harg8 := harg8) (x0 := x0) (x1 := x1) (x2 := x2) (x3 := x3) (x4 := x4) (x5 := x5) (x6 := x6) (x7 := x7), dcl4 (harg1 := harg1) (harg2 := harg2) (harg3 := harg3) (harg4 := harg4) (harg5 := harg5) (harg6 := harg6) (harg7 := harg7) (harg8 := harg8) (x0 := x0) (x1 := x1) (x2 := x2) (x3 := x3) (x4 := x4) (x5 := x5) (x6 := x6) (x7 := x7), dcum3 (harg1 := harg1) (harg2 := harg2) (harg3 := harg3) (harg4 := harg4) (harg5 := harg5) (harg6 := harg6) (harg7 := harg7) (harg8 := harg8) (x0 := x0) (x1 := x1) (x2 := x2) (x3 := x3) (x4 := x4) (x5 := x5) (x6 := x6) (x7 := x7), dcl3 (harg1 := harg1) (harg2 := harg2) (harg3 := harg3) (harg4 := harg4) (harg5 := harg5) (harg6 := harg6) (harg7 := harg7) (harg8 := harg8) (x0 := x0) (x1 := x1) (x2 := x2) (x3 := x3) (x4 := x4) (x5 := x5) (x6 := x6) (x7 := x7), dcum2 (harg1 := harg1) (harg2 := harg2) (harg3 := harg3) (harg4 := harg4) (harg5 := harg5) (harg6 := harg6) (harg7 := harg7) (harg8 := harg8) (x0 := x0) (x1 := x1) (x2 := x2) (x3 := x3) (x4 := x4) (x5 := x5) (x6 := x6) (x7 := x7), dcl2 (harg1 := harg1) (harg2 := harg2) (harg3 := harg3) (harg4 := harg4) (harg5 := harg5) (harg6 := harg6) (harg7 := harg7) (harg8 := harg8) (x0 := x0) (x1 := x1) (x2 := x2) (x3 := x3) (x4 := x4) (x5 := x5) (x6 := x6) (x7 := x7), dcum1 (harg1 := harg1) (harg2 := harg2) (harg3 := harg3) (harg4 := harg4) (harg5 := harg5) (harg6 := harg6) (harg7 := harg7) (harg8 := harg8) (x0 := x0) (x1 := x1) (x2 := x2) (x3 := x3) (x4 := x4) (x5 := x5) (x6 := x6) (x7 := x7), dcl1 (harg1 := harg1) (harg2 := harg2) (harg3 := harg3) (harg4 := harg4) (harg5 := harg5) (harg6 := harg6) (harg7 := harg7) (harg8 := harg8) (x0 := x0) (x1 := x1) (x2 := x2) (x3 := x3) (x4 := x4) (x5 := x5) (x6 := x6) (x7 := x7), dcum0 (harg1 := harg1) (harg2 := harg2) (harg3 := harg3) (harg4 := harg4) (harg5 := harg5) (harg6 := harg6) (harg7 := harg7) (harg8 := harg8) (x0 := x0) (x1 := x1) (x2 := x2) (x3 := x3) (x4 := x4) (x5 := x5) (x6 := x6) (x7 := x7), dcl0 (harg1 := harg1) (harg2 := harg2) (harg3 := harg3) (harg4 := harg4) (harg5 := harg5) (harg6 := harg6) (harg7 := harg7) (harg8 := harg8) (x0 := x0) (x1 := x1) (x2 := x2) (x3 := x3) (x4 := x4) (x5 := x5) (x6 := x6) (x7 := x7)]
  dsimp only [k0_pay302, sl.r_1, In.dpre, pile, sums, upp]
  exact rfl

theorem dlr : (k0_pay2 (sl.r_239 c arg1 harg1 arg2 harg2 arg3 harg3 arg4 harg4 arg5 harg5 arg6 harg6 arg7 harg7 arg8 harg8 arg15 x0 x1 x2 x3 x4 x5 x6 x7)) = In.dlr (loads harg1 harg2 harg3 harg4 harg5 harg6 harg7 harg8 x0 x1 x2 x3 x4 x5 x6 x7) (sl.v288 (F := F) c arg15) := by
  rw [In.dlr, ← dpre (c := c)]
  dsimp only [k0_pay2, sl.r_239, sl.r_238, k0_pay304, k0_pay303, loads]

theorem dw : (sl.r_240 c arg1 harg1 arg2 harg2 arg3 harg3 arg4 harg4 arg5 harg5 arg6 harg6 arg7 harg7 arg8 harg8 arg13 arg15 x0 x1 x2 x3 x4 x5 x6 x7) = In.dw (loads harg1 harg2 harg3 harg4 harg5 harg6 harg7 harg8 x0 x1 x2 x3 x4 x5 x6 x7) (sl.v288 (F := F) c arg15) (sl.v1355 (F := F) c arg13) := by
  rw [In.dw, ← dpre (c := c)]
  dsimp only [sl.r_240, sl.r_238, k0_pay305, k0_pay303, loads]

theorem db : (k0_pay1 (sl.r_238 c arg1 harg1 arg2 harg2 arg3 harg3 arg4 harg4 arg5 harg5 arg6 harg6 arg7 harg7 arg8 harg8 arg15 x0 x1 x2 x3 x4 x5 x6 x7) (sl.v1361 c arg14)) = In.db (loads harg1 harg2 harg3 harg4 harg5 harg6 harg7 harg8 x0 x1 x2 x3 x4 x5 x6 x7) (sl.v288 (F := F) c arg15) (sl.v1361 (F := F) c arg14) := by
  rw [In.db, ← dpre (c := c)]
  dsimp only [k0_pay1]

theorem dsLast : (k0_pay293 sl.r_2 (sl.r_218 c arg4 harg4 arg5 harg5 arg6 harg6 x3 x4 x5) (sl.r_221 c arg8 harg8 x7) (sl.r_222 c arg1 harg1 arg4 harg4 arg5 harg5 arg6 harg6 x0 x3 x4 x5) (sl.v1233 c arg1 harg1 arg4 harg4 arg5 harg5 arg6 harg6 arg8 harg8 arg15 x0 x3 x4 x5 x7)) = In.ds (loads harg1 harg2 harg3 harg4 harg5 harg6 harg7 harg8 x0 x1 x2 x3 x4 x5 x6 x7) (sl.v288 (F := F) c arg15) 8 := by
  rw [In.ds, ← ds7]
  dsimp only [sl.r, sl.r_10, sl.r_11, sl.r_12, sl.r_13, sl.r_14, sl.r_18, sl.r_19, sl.r_2, sl.r_218, sl.r_221, sl.r_222, sl.r_4, sl.r_5, sl.r_6, sl.r_7, sl.r_8, sl.r_9, sl.v121, sl.v3, sl.v4, k0_pay10, k0_pay11, k0_pay22, k0_pay25, k0_pay27, k0_pay273, k0_pay276, k0_pay278, k0_pay28, k0_pay29, k0_pay293, k0_pay30, k0_pay31, k0_pay32, k0_pay33, k0_pay34, k0_pay35, k0_pay36, k0_pay37, k0_pay38, k0_pay39, k0_pay40, k0_pay43, k0_pay45, k0_pay6, k0_pay7, k0_pay8, k0_pay9, Core.dq, Core.dk, Core.dv, Core.dcum, Core.dcl, Core.dqin, Core.dkin, Core.dkout, Core.ddec, Core.dqStack, Core.dscores, Core.scores, Core.stack, Core.dvScores, Core.dstate, keep, rows, pile, sums, In.pre, In.la, In.cum, In.cl, In.e, In.einv, In.eout, In.qin, In.kin, In.kout, In.dec, In.st, In.dq, In.dk, In.dv, In.dcum, In.dcl, In.dact, In.at', hd0, hd1, hd2, hd3, tri, low, upp, diag, loads]
  exact rfl

end Gla.Core.RunA

end
-- ==== Proof.Gla.OutA.lean ====
/-
  What a block in which the gradient of the state starts from zero leaves in its outputs and in the scratch.
-/
module

public import proofs.«01_k».proof.Proof.Gla.QueryA
public import proofs.«01_k».proof.Proof.Gla.ValueA
public import proofs.«01_k».proof.Proof.Gla.GateA

@[expose] public section

set_option maxRecDepth 16384
set_option maxHeartbeats 1000000

noncomputable section

namespace Gla.Core.RunA

open Idealize.ShloMosaic Cert.KernelIdeal Cert.KernelIdeal.Gen

variable {F : FTy → Type} [FloatOps F]

variable (c : Dev nD) (i : grid0.Coords) (arg1 : Memref sig .tc .vmem S512x256 .bf16) (harg1 : arg1.IsWhole) (arg2 : Memref sig .tc .vmem S512x256 .bf16) (harg2 : arg2.IsWhole) (arg3 : Memref sig .tc .vmem S512x512 .bf16) (harg3 : arg3.IsWhole) (arg4 : Memref sig .tc .vmem S512x128 .bf16) (harg4 : arg4.IsWhole) (arg5 : Memref sig .tc .vmem S1x128x256 .bf16) (harg5 : arg5.IsWhole) (arg6 : Memref sig .tc .vmem S1x1x256 .f32) (harg6 : arg6.IsWhole) (arg7 : Memref sig .tc .vmem S8x512x256 .bf16) (harg7 : arg7.IsWhole) (arg8 : Memref sig .tc .vmem S512x512 .bf16) (harg8 : arg8.IsWhole) (arg9 : Memref sig .tc .vmem S512x256 .bf16) (harg9 : arg9.IsWhole) (arg10 : Memref sig .tc .vmem S512x256 .bf16) (harg10 : arg10.IsWhole) (arg11 : Memref sig .tc .vmem S512x512 .bf16) (harg11 : arg11.IsWhole) (arg12 : Memref sig .tc .vmem S512x128 .bf16) (harg12 : arg12.IsWhole) (arg13 : Memref sig .tc .vmem S128x256 .f32) (harg13 : arg13.IsWhole) (arg14 : Memref sig .tc .vmem S1x256 .f32) (harg14 : arg14.IsWhole) (arg15 : Memref sig .tc .vmem S512x256 .f32) (harg15 : arg15.IsWhole) (hc0 : cond0_0 i)
  (x0 : Vec F S512x256 .bf16) (x1 : Vec F S512x256 .bf16) (x2 : Vec F S512x512 .bf16) (x3 : Vec F S512x128 .bf16) (x4 : Vec F S1x128x256 .bf16) (x5 : Vec F S1x1x256 .f32) (x6 : Vec F S8x512x256 .bf16) (x7 : Vec F S512x512 .bf16)

/-- What the block finds as the gradient of the state. -/
theorem start : (kernelRun0_A.sl.v288 (F := F) c arg15) = k0_pay3 := (View.readCov_full _ _ _ _ _)
theorem acc12 : (kernelRun0_A.sl.v1355 (F := F) c arg13) = k0_pay4 := View.readCov_full _ _ _ _ _
theorem acc13 : (kernelRun0_A.sl.v1361 (F := F) c arg14) = k0_pay5 := View.readCov_full _ _ _ _ _

theorem out8 : out0_A_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 = tile256 (In.dq (block x0 x1 x2 x3 x4 x5 x6 x7)) := by
  rw [out0_A_8, View.read_writes_junk_eq_canon, L8, canon_stores256, loads_eq]

theorem out9 : out0_A_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 = tile256 fun j => In.dk (block x0 x1 x2 x3 x4 x5 x6 x7) j (In.ds (block x0 x1 x2 x3 x4 x5 x6 x7) k0_pay3 (7 - j.val)) := by
  rw [out0_A_9, View.read_writes_junk_eq_canon, L9, canon_stores256, loads_eq, start]

theorem out10 : out0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 = tile512 fun j => In.dv (block x0 x1 x2 x3 x4 x5 x6 x7) j (In.ds (block x0 x1 x2 x3 x4 x5 x6 x7) k0_pay3 (7 - j.val)) := by
  rw [out0_A_10, View.read_writes_junk_eq_canon, L10, canon_stores512, loads_eq, start]

theorem out11 : out0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 = In.dlr (block x0 x1 x2 x3 x4 x5 x6 x7) k0_pay3 := by
  refine (View.read_writes_full VO0_11 VO0_11.junk _ _ _).trans ((dlr ..).trans ?_)
  rw [loads_eq, start]

theorem out12 : out0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 = In.dw (block x0 x1 x2 x3 x4 x5 x6 x7) k0_pay3 k0_pay4 := by
  refine (View.read_writes_full VO0_12 VO0_12.junk _ _ _).trans ((dw ..).trans ?_)
  rw [loads_eq, start, acc12]

theorem out13 : out0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 = In.db (block x0 x1 x2 x3 x4 x5 x6 x7) k0_pay3 k0_pay5 := by
  refine (View.read_writes_full VO0_13 VO0_13.junk _ _ _).trans ((db ..).trans ?_)
  rw [loads_eq, start, acc13]

theorem sout : sout0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 = In.ds (block x0 x1 x2 x3 x4 x5 x6 x7) k0_pay3 8 := by
  refine (View.read_writes_full VS0_0 VS0_0.junk _ _ _).trans ((dsLast (harg1 := harg1) (harg2 := harg2) (harg3 := harg3) (harg4 := harg4) (harg5 := harg5) (harg6 := harg6) (harg7 := harg7) (harg8 := harg8) (x0 := x0) (x1 := x1) (x2 := x2) (x3 := x3) (x4 := x4) (x5 := x5) (x6 := x6) (x7 := x7) ..).trans ?_)
  rw [loads_eq, start]

end Gla.Core.RunA

end
-- ==== Proof.Gla.DsB.lean ====
/-
  The gradient of the state through a block that another block came before.
-/
module

public import proofs.«01_k».proof.Proof.Gla.Load

@[expose] public section

set_option maxRecDepth 16384
set_option maxHeartbeats 1000000

noncomputable section

namespace Gla.Core.RunB

open Idealize.ShloMosaic Cert.KernelIdeal Cert.KernelIdeal.Gen

open Cert.KernelIdeal.Gen.kernelRun0_B

variable {F : FTy → Type} [FloatOps F]

variable (c : Dev nD) (i : grid0.Coords) (arg1 : Memref sig .tc .vmem S512x256 .bf16) (harg1 : arg1.IsWhole) (arg2 : Memref sig .tc .vmem S512x256 .bf16) (harg2 : arg2.IsWhole) (arg3 : Memref sig .tc .vmem S512x512 .bf16) (harg3 : arg3.IsWhole) (arg4 : Memref sig .tc .vmem S512x128 .bf16) (harg4 : arg4.IsWhole) (arg5 : Memref sig .tc .vmem S1x128x256 .bf16) (harg5 : arg5.IsWhole) (arg6 : Memref sig .tc .vmem S1x1x256 .f32) (harg6 : arg6.IsWhole) (arg7 : Memref sig .tc .vmem S8x512x256 .bf16) (harg7 : arg7.IsWhole) (arg8 : Memref sig .tc .vmem S512x512 .bf16) (harg8 : arg8.IsWhole) (arg9 : Memref sig .tc .vmem S512x256 .bf16) (harg9 : arg9.IsWhole) (arg10 : Memref sig .tc .vmem S512x256 .bf16) (harg10 : arg10.IsWhole) (arg11 : Memref sig .tc .vmem S512x512 .bf16) (harg11 : arg11.IsWhole) (arg12 : Memref sig .tc .vmem S512x128 .bf16) (harg12 : arg12.IsWhole) (arg13 : Memref sig .tc .vmem S128x256 .f32) (harg13 : arg13.IsWhole) (arg14 : Memref sig .tc .vmem S1x256 .f32) (harg14 : arg14.IsWhole) (arg15 : Memref sig .tc .vmem S512x256 .f32) (harg15 : arg15.IsWhole) (hc0 : ¬cond0_0 i)
  (x0 : Vec F S512x256 .bf16) (x1 : Vec F S512x256 .bf16) (x2 : Vec F S512x512 .bf16) (x3 : Vec F S512x128 .bf16) (x4 : Vec F S1x128x256 .bf16) (x5 : Vec F S1x1x256 .f32) (x6 : Vec F S8x512x256 .bf16) (x7 : Vec F S512x512 .bf16) (xo12 : Vec F S128x256 .f32) (xo13 : Vec F S1x256 .f32) (xs0 : Vec F S512x256 .f32)

theorem ds1 : (sl.v423 c arg1 harg1 arg4 harg4 arg5 harg5 arg6 harg6 arg8 harg8 arg15 harg15 x0 x3 x4 x5 x7 xs0) = In.ds (loads harg1 harg2 harg3 harg4 harg5 harg6 harg7 harg8 x0 x1 x2 x3 x4 x5 x6 x7) (View.readAt (Elt F) arg15.view (Rect.unit (s := S512x256) ![0, 0] S512x256.size inb_S512x256_S512x256_0_0).toLoadRect (harg15.unread xs0)) 1 := by
  rw [In.ds, In.ds]
  refine (View.readCov_cons_toLoadRect _ _ _ _).trans ?_
  dsimp only [sl.r, sl.r_10, sl.r_11, sl.r_12, sl.r_13, sl.r_14, sl.r_2, sl.r_25, sl.r_28, sl.r_31, sl.r_32, sl.r_36, sl.r_4, sl.r_5, sl.r_6, sl.r_7, sl.r_8, sl.r_9, sl.v121, sl.v3, sl.v4, k0_pay10, k0_pay11, k0_pay22, k0_pay25, k0_pay27, k0_pay28, k0_pay29, k0_pay30, k0_pay31, k0_pay32, k0_pay33, k0_pay34, k0_pay35, k0_pay36, k0_pay37, k0_pay38, k0_pay39, k0_pay40, k0_pay43, k0_pay45, k0_pay51, k0_pay54, k0_pay56, k0_pay6, k0_pay7, k0_pay72, k0_pay8, k0_pay9, Core.dq, Core.dk, Core.dv, Core.dcum, Core.dcl, Core.dqin, Core.dkin, Core.dkout, Core.ddec, Core.dqStack, Core.dscores, Core.scores, Core.stack, Core.dvScores, Core.dstate, keep, rows, pile, sums, In.pre, In.la, In.cum, In.cl, In.e, In.einv, In.eout, In.qin, In.kin, In.kout, In.dec, In.st, In.dq, In.dk, In.dv, In.dcum, In.dcl, In.dact, In.at', hd0, hd1, hd2, hd3, tri, low, upp, diag, loads]
  exact rfl

theorem ds2 : (sl.v558 c arg1 harg1 arg4 harg4 arg5 harg5 arg6 harg6 arg8 harg8 arg15 harg15 x0 x3 x4 x5 x7 xs0) = In.ds (loads harg1 harg2 harg3 harg4 harg5 harg6 harg7 harg8 x0 x1 x2 x3 x4 x5 x6 x7) (View.readAt (Elt F) arg15.view (Rect.unit (s := S512x256) ![0, 0] S512x256.size inb_S512x256_S512x256_0_0).toLoadRect (harg15.unread xs0)) 2 := by
  rw [In.ds, ← ds1]
  refine (View.readCov_cons_toLoadRect _ _ _ _).trans ?_
  dsimp only [sl.r, sl.r_10, sl.r_11, sl.r_12, sl.r_13, sl.r_14, sl.r_18, sl.r_19, sl.r_2, sl.r_4, sl.r_5, sl.r_54, sl.r_57, sl.r_6, sl.r_63, sl.r_64, sl.r_7, sl.r_8, sl.r_80, sl.r_9, sl.v121, sl.v3, sl.v4, k0_pay10, k0_pay108, k0_pay109, k0_pay11, k0_pay22, k0_pay25, k0_pay27, k0_pay28, k0_pay29, k0_pay30, k0_pay31, k0_pay32, k0_pay33, k0_pay34, k0_pay35, k0_pay36, k0_pay37, k0_pay38, k0_pay39, k0_pay40, k0_pay43, k0_pay45, k0_pay6, k0_pay7, k0_pay8, k0_pay83, k0_pay86, k0_pay9, k0_pay92, Core.dq, Core.dk, Core.dv, Core.dcum, Core.dcl, Core.dqin, Core.dkin, Core.dkout, Core.ddec, Core.dqStack, Core.dscores, Core.scores, Core.stack, Core.dvScores, Core.dstate, keep, rows, pile, sums, In.pre, In.la, In.cum, In.cl, In.e, In.einv, In.eout, In.qin, In.kin, In.kout, In.dec, In.st, In.dq, In.dk, In.dv, In.dcum, In.dcl, In.dact, In.at', hd0, hd1, hd2, hd3, tri, low, upp, diag, loads]
  exact rfl

theorem ds3 : (sl.v693 c arg1 harg1 arg4 harg4 arg5 harg5 arg6 harg6 arg8 harg8 arg15 harg15 x0 x3 x4 x5 x7 xs0) = In.ds (loads harg1 harg2 harg3 harg4 harg5 harg6 harg7 harg8 x0 x1 x2 x3 x4 x5 x6 x7) (View.readAt (Elt F) arg15.view (Rect.unit (s := S512x256) ![0, 0] S512x256.size inb_S512x256_S512x256_0_0).toLoadRect (harg15.unread xs0)) 3 := by
  rw [In.ds, ← ds2]
  refine (View.readCov_cons_toLoadRect _ _ _ _).trans ?_
  dsimp only [sl.cst_189, sl.r, sl.r_10, sl.r_108, sl.r_11, sl.r_12, sl.r_13, sl.r_14, sl.r_18, sl.r_19, sl.r_2, sl.r_4, sl.r_5, sl.r_6, sl.r_7, sl.r_8, sl.r_86, sl.r_89, sl.r_9, sl.r_94, sl.r_95, sl.v121, sl.v3, sl.v4, k0_pay10, k0_pay11, k0_pay119, k0_pay122, k0_pay126, k0_pay139, k0_pay140, k0_pay22, k0_pay25, k0_pay27, k0_pay28, k0_pay29, k0_pay30, k0_pay31, k0_pay32, k0_pay33, k0_pay34, k0_pay35, k0_pay36, k0_pay37, k0_pay38, k0_pay39, k0_pay40, k0_pay43, k0_pay45, k0_pay6, k0_pay7, k0_pay8, k0_pay9, Core.dq, Core.dk, Core.dv, Core.dcum, Core.dcl, Core.dqin, Core.dkin, Core.dkout, Core.ddec, Core.dqStack, Core.dscores, Core.scores, Core.stack, Core.dvScores, Core.dstate, keep, rows, pile, sums, In.pre, In.la, In.cum, In.cl, In.e, In.einv, In.eout, In.qin, In.kin, In.kout, In.dec, In.st, In.dq, In.dk, In.dv, In.dcum, In.dcl, In.dact, In.at', hd0, hd1, hd2, hd3, tri, low, upp, diag, loads]
  exact rfl

theorem ds4 : (sl.v828 c arg1 harg1 arg4 harg4 arg5 harg5 arg6 harg6 arg8 harg8 arg15 harg15 x0 x3 x4 x5 x7 xs0) = In.ds (loads harg1 harg2 harg3 harg4 harg5 harg6 harg7 harg8 x0 x1 x2 x3 x4 x5 x6 x7) (View.readAt (Elt F) arg15.view (Rect.unit (s := S512x256) ![0, 0] S512x256.size inb_S512x256_S512x256_0_0).toLoadRect (harg15.unread xs0)) 4 := by
  rw [In.ds, ← ds3]
  refine (View.readCov_cons_toLoadRect _ _ _ _).trans ?_
  dsimp only [sl.r, sl.r_10, sl.r_11, sl.r_114, sl.r_117, sl.r_12, sl.r_121, sl.r_122, sl.r_13, sl.r_14, sl.r_18, sl.r_19, sl.r_2, sl.r_4, sl.r_5, sl.r_6, sl.r_7, sl.r_8, sl.r_9, sl.v121, sl.v3, sl.v4, k0_pay10, k0_pay11, k0_pay150, k0_pay153, k0_pay156, k0_pay170, k0_pay22, k0_pay25, k0_pay27, k0_pay28, k0_pay29, k0_pay30, k0_pay31, k0_pay32, k0_pay33, k0_pay34, k0_pay35, k0_pay36, k0_pay37, k0_pay38, k0_pay39, k0_pay40, k0_pay43, k0_pay45, k0_pay6, k0_pay7, k0_pay8, k0_pay9, Core.dq, Core.dk, Core.dv, Core.dcum, Core.dcl, Core.dqin, Core.dkin, Core.dkout, Core.ddec, Core.dqStack, Core.dscores, Core.scores, Core.stack, Core.dvScores, Core.dstate, keep, rows, pile, sums, In.pre, In.la, In.cum, In.cl, In.e, In.einv, In.eout, In.qin, In.kin, In.kout, In.dec, In.st, In.dq, In.dk, In.dv, In.dcum, In.dcl, In.dact, In.at', hd0, hd1, hd2, hd3, tri, low, upp, diag, loads]
  exact rfl

theorem ds5 : (sl.v963 c arg1 harg1 arg4 harg4 arg5 harg5 arg6 harg6 arg8 harg8 arg15 harg15 x0 x3 x4 x5 x7 xs0) = In.ds (loads harg1 harg2 harg3 harg4 harg5 harg6 harg7 harg8 x0 x1 x2 x3 x4 x5 x6 x7) (View.readAt (Elt F) arg15.view (Rect.unit (s := S512x256) ![0, 0] S512x256.size inb_S512x256_S512x256_0_0).toLoadRect (harg15.unread xs0)) 5 := by
  rw [In.ds, ← ds4]
  refine (View.readCov_cons_toLoadRect _ _ _ _).trans ?_
  dsimp only [sl.r, sl.r_10, sl.r_11, sl.r_12, sl.r_13, sl.r_139, sl.r_14, sl.r_142, sl.r_143, sl.r_146, sl.r_147, sl.r_18, sl.r_19, sl.r_2, sl.r_4, sl.r_5, sl.r_6, sl.r_7, sl.r_8, sl.r_9, sl.v121, sl.v3, sl.v4, k0_pay10, k0_pay11, k0_pay180, k0_pay183, k0_pay184, k0_pay186, k0_pay201, k0_pay22, k0_pay25, k0_pay27, k0_pay28, k0_pay29, k0_pay30, k0_pay31, k0_pay32, k0_pay33, k0_pay34, k0_pay35, k0_pay36, k0_pay37, k0_pay38, k0_pay39, k0_pay40, k0_pay43, k0_pay45, k0_pay6, k0_pay7, k0_pay8, k0_pay9, Core.dq, Core.dk, Core.dv, Core.dcum, Core.dcl, Core.dqin, Core.dkin, Core.dkout, Core.ddec, Core.dqStack, Core.dscores, Core.scores, Core.stack, Core.dvScores, Core.dstate, keep, rows, pile, sums, In.pre, In.la, In.cum, In.cl, In.e, In.einv, In.eout, In.qin, In.kin, In.kout, In.dec, In.st, In.dq, In.dk, In.dv, In.dcum, In.dcl, In.dact, In.at', hd0, hd1, hd2, hd3, tri, low, upp, diag, loads]
  exact rfl

theorem ds6 : (sl.v1098 c arg1 harg1 arg4 harg4 arg5 harg5 arg6 harg6 arg8 harg8 arg15 harg15 x0 x3 x4 x5 x7 xs0) = In.ds (loads harg1 harg2 harg3 harg4 harg5 harg6 harg7 harg8 x0 x1 x2 x3 x4 x5 x6 x7) (View.readAt (Elt F) arg15.view (Rect.unit (s := S512x256) ![0, 0] S512x256.size inb_S512x256_S512x256_0_0).toLoadRect (harg15.unread xs0)) 6 := by
  rw [In.ds, ← ds5]
  refine (View.readCov_cons_toLoadRect _ _ _ _).trans ?_
  dsimp only [sl.r, sl.r_10, sl.r_11, sl.r_12, sl.r_13, sl.r_14, sl.r_168, sl.r_171, sl.r_172, sl.r_18, sl.r_19, sl.r_2, sl.r_4, sl.r_5, sl.r_6, sl.r_7, sl.r_8, sl.r_9, sl.v121, sl.v3, sl.v4, k0_pay10, k0_pay11, k0_pay211, k0_pay214, k0_pay216, k0_pay22, k0_pay233, k0_pay25, k0_pay27, k0_pay28, k0_pay29, k0_pay30, k0_pay31, k0_pay32, k0_pay33, k0_pay34, k0_pay35, k0_pay36, k0_pay37, k0_pay38, k0_pay39, k0_pay40, k0_pay43, k0_pay45, k0_pay6, k0_pay7, k0_pay8, k0_pay9, Core.dq, Core.dk, Core.dv, Core.dcum, Core.dcl, Core.dqin, Core.dkin, Core.dkout, Core.ddec, Core.dqStack, Core.dscores, Core.scores, Core.stack, Core.dvScores, Core.dstate, keep, rows, pile, sums, In.pre, In.la, In.cum, In.cl, In.e, In.einv, In.eout, In.qin, In.kin, In.kout, In.dec, In.st, In.dq, In.dk, In.dv, In.dcum, In.dcl, In.dact, In.at', hd0, hd1, hd2, hd3, tri, low, upp, diag, loads]
  exact rfl

theorem ds7 : (sl.v1233 c arg1 harg1 arg4 harg4 arg5 harg5 arg6 harg6 arg8 harg8 arg15 harg15 x0 x3 x4 x5 x7 xs0) = In.ds (loads harg1 harg2 harg3 harg4 harg5 harg6 harg7 harg8 x0 x1 x2 x3 x4 x5 x6 x7) (View.readAt (Elt F) arg15.view (Rect.unit (s := S512x256) ![0, 0] S512x256.size inb_S512x256_S512x256_0_0).toLoadRect (harg15.unread xs0)) 7 := by
  rw [In.ds, ← ds6]
  refine (View.readCov_cons_toLoadRect _ _ _ _).trans ?_
  dsimp only [sl.r, sl.r_10, sl.r_11, sl.r_12, sl.r_13, sl.r_14, sl.r_18, sl.r_19, sl.r_194, sl.r_197, sl.r_198, sl.r_2, sl.r_4, sl.r_5, sl.r_6, sl.r_7, sl.r_8, sl.r_9, sl.v121, sl.v3, sl.v4, k0_pay10, k0_pay11, k0_pay22, k0_pay243, k0_pay246, k0_pay248, k0_pay25, k0_pay263, k0_pay27, k0_pay28, k0_pay29, k0_pay30, k0_pay31, k0_pay32, k0_pay33, k0_pay34, k0_pay35, k0_pay36, k0_pay37, k0_pay38, k0_pay39, k0_pay40, k0_pay43, k0_pay45, k0_pay6, k0_pay7, k0_pay8, k0_pay9, Core.dq, Core.dk, Core.dv, Core.dcum, Core.dcl, Core.dqin, Core.dkin, Core.dkout, Core.ddec, Core.dqStack, Core.dscores, Core.scores, Core.stack, Core.dvScores, Core.dstate, keep, rows, pile, sums, In.pre, In.la, In.cum, In.cl, In.e, In.einv, In.eout, In.qin, In.kin, In.kout, In.dec, In.st, In.dq, In.dk, In.dv, In.dcum, In.dcl, In.dact, In.at', hd0, hd1, hd2, hd3, tri, low, upp, diag, loads]
  exact rfl

end Gla.Core.RunB

end
-- ==== Proof.Gla.QueryB.lean ====
/-
  The gradients of queries and keys stored by a block that another block came before.
-/
module

public import proofs.«01_k».proof.Proof.Gla.DsB

@[expose] public section

set_option maxRecDepth 16384
set_option maxHeartbeats 1000000

noncomputable section

namespace Gla.Core.RunB

open Idealize.ShloMosaic Cert.KernelIdeal Cert.KernelIdeal.Gen

open Cert.KernelIdeal.Gen.kernelRun0_B

variable {F : FTy → Type} [FloatOps F]

variable (c : Dev nD) (i : grid0.Coords) (arg1 : Memref sig .tc .vmem S512x256 .bf16) (harg1 : arg1.IsWhole) (arg2 : Memref sig .tc .vmem S512x256 .bf16) (harg2 : arg2.IsWhole) (arg3 : Memref sig .tc .vmem S512x512 .bf16) (harg3 : arg3.IsWhole) (arg4 : Memref sig .tc .vmem S512x128 .bf16) (harg4 : arg4.IsWhole) (arg5 : Memref sig .tc .vmem S1x128x256 .bf16) (harg5 : arg5.IsWhole) (arg6 : Memref sig .tc .vmem S1x1x256 .f32) (harg6 : arg6.IsWhole) (arg7 : Memref sig .tc .vmem S8x512x256 .bf16) (harg7 : arg7.IsWhole) (arg8 : Memref sig .tc .vmem S512x512 .bf16) (harg8 : arg8.IsWhole) (arg9 : Memref sig .tc .vmem S512x256 .bf16) (harg9 : arg9.IsWhole) (arg10 : Memref sig .tc .vmem S512x256 .bf16) (harg10 : arg10.IsWhole) (arg11 : Memref sig .tc .vmem S512x512 .bf16) (harg11 : arg11.IsWhole) (arg12 : Memref sig .tc .vmem S512x128 .bf16) (harg12 : arg12.IsWhole) (arg13 : Memref sig .tc .vmem S128x256 .f32) (harg13 : arg13.IsWhole) (arg14 : Memref sig .tc .vmem S1x256 .f32) (harg14 : arg14.IsWhole) (arg15 : Memref sig .tc .vmem S512x256 .f32) (harg15 : arg15.IsWhole) (hc0 : ¬cond0_0 i)
  (x0 : Vec F S512x256 .bf16) (x1 : Vec F S512x256 .bf16) (x2 : Vec F S512x512 .bf16) (x3 : Vec F S512x128 .bf16) (x4 : Vec F S1x128x256 .bf16) (x5 : Vec F S1x1x256 .f32) (x6 : Vec F S8x512x256 .bf16) (x7 : Vec F S512x512 .bf16) (xo12 : Vec F S128x256 .f32) (xo13 : Vec F S1x256 .f32) (xs0 : Vec F S512x256 .f32)

theorem dq0 : (k0_pay299 (sl.r_235 c arg2 harg2 arg3 harg3 arg4 harg4 arg5 harg5 arg6 harg6 arg7 harg7 arg8 harg8 x1 x2 x3 x4 x5 x6 x7)) = In.dq (loads harg1 harg2 harg3 harg4 harg5 harg6 harg7 harg8 x0 x1 x2 x3 x4 x5 x6 x7) 0 := by
  dsimp only [sl.cst_115, sl.r, sl.r_15, sl.r_20, sl.r_213, sl.r_221, sl.r_222, sl.r_224, sl.r_227, sl.r_232, sl.r_233, sl.r_234, sl.r_235, sl.r_4, sl.r_5, sl.r_6, sl.v3, sl.v4, k0_pay10, k0_pay11, k0_pay17, k0_pay18, k0_pay22, k0_pay25, k0_pay27, k0_pay270, k0_pay274, k0_pay279, k0_pay28, k0_pay282, k0_pay284, k0_pay286, k0_pay287, k0_pay288, k0_pay289, k0_pay29, k0_pay290, k0_pay294, k0_pay299, k0_pay30, k0_pay40, k0_pay41, k0_pay44, k0_pay46, k0_pay6, k0_pay7, k0_pay8, k0_pay9, Core.dq, Core.dk, Core.dv, Core.dcum, Core.dcl, Core.dqin, Core.dkin, Core.dkout, Core.ddec, Core.dqStack, Core.dscores, Core.scores, Core.stack, Core.dvScores, Core.dstate, keep, rows, pile, sums, In.pre, In.la, In.cum, In.cl, In.e, In.einv, In.eout, In.qin, In.kin, In.kout, In.dec, In.st, In.dq, In.dk, In.dv, In.dcum, In.dcl, In.dact, In.at', hd0, hd1, hd2, hd3, tri, low, upp, diag, loads]
  exact rfl

theorem dq1 : (k0_pay267 (k0_pay17 k0_pay14) (k0_pay18 k0_pay14) (sl.r_188 c arg4 harg4 arg5 harg5 arg6 harg6 x3 x4 x5) (sl.r_207 c arg2 harg2 arg3 harg3 arg4 harg4 arg5 harg5 arg6 harg6 arg8 harg8 x1 x2 x3 x4 x5 x7) (sl.r_208 c arg2 harg2 arg3 harg3 arg4 harg4 arg5 harg5 arg6 harg6 arg7 harg7 arg8 harg8 x1 x2 x3 x4 x5 x6 x7) (sl.r_209 c arg2 harg2 arg3 harg3 arg4 harg4 arg5 harg5 arg6 harg6 arg8 harg8 x1 x2 x3 x4 x5 x7) sl.cst_115) = In.dq (loads harg1 harg2 harg3 harg4 harg5 harg6 harg7 harg8 x0 x1 x2 x3 x4 x5 x6 x7) 1 := by
  dsimp only [sl.cst_115, sl.r, sl.r_15, sl.r_188, sl.r_196, sl.r_197, sl.r_199, sl.r_20, sl.r_202, sl.r_204, sl.r_207, sl.r_208, sl.r_209, sl.r_4, sl.r_5, sl.r_6, sl.v3, sl.v4, k0_pay10, k0_pay11, k0_pay17, k0_pay18, k0_pay22, k0_pay240, k0_pay244, k0_pay249, k0_pay25, k0_pay252, k0_pay254, k0_pay255, k0_pay257, k0_pay258, k0_pay259, k0_pay260, k0_pay267, k0_pay27, k0_pay28, k0_pay29, k0_pay30, k0_pay40, k0_pay41, k0_pay44, k0_pay46, k0_pay6, k0_pay7, k0_pay8, k0_pay9, Core.dq, Core.dk, Core.dv, Core.dcum, Core.dcl, Core.dqin, Core.dkin, Core.dkout, Core.ddec, Core.dqStack, Core.dscores, Core.scores, Core.stack, Core.dvScores, Core.dstate, keep, rows, pile, sums, In.pre, In.la, In.cum, In.cl, In.e, In.einv, In.eout, In.qin, In.kin, In.kout, In.dec, In.st, In.dq, In.dk, In.dv, In.dcum, In.dcl, In.dact, In.at', hd0, hd1, hd2, hd3, tri, low, upp, diag, loads]
  exact rfl

theorem dq2 : (k0_pay237 (k0_pay18 k0_pay14) (sl.r_162 c arg4 harg4 arg5 harg5 arg6 harg6 x3 x4 x5) (sl.r_183 c arg2 harg2 arg3 harg3 arg4 harg4 arg5 harg5 arg6 harg6 arg7 harg7 arg8 harg8 x1 x2 x3 x4 x5 x6 x7) (sl.r_184 c arg2 harg2 arg3 harg3 arg4 harg4 arg5 harg5 arg6 harg6 arg8 harg8 x1 x2 x3 x4 x5 x7)) = In.dq (loads harg1 harg2 harg3 harg4 harg5 harg6 harg7 harg8 x0 x1 x2 x3 x4 x5 x6 x7) 2 := by
  dsimp only [sl.cst_306, sl.r, sl.r_15, sl.r_162, sl.r_170, sl.r_171, sl.r_173, sl.r_176, sl.r_178, sl.r_179, sl.r_180, sl.r_183, sl.r_184, sl.r_20, sl.r_4, sl.r_5, sl.r_6, sl.v3, sl.v4, k0_pay10, k0_pay11, k0_pay17, k0_pay18, k0_pay208, k0_pay212, k0_pay217, k0_pay22, k0_pay220, k0_pay222, k0_pay223, k0_pay224, k0_pay225, k0_pay227, k0_pay228, k0_pay229, k0_pay230, k0_pay237, k0_pay25, k0_pay27, k0_pay28, k0_pay29, k0_pay30, k0_pay40, k0_pay41, k0_pay44, k0_pay46, k0_pay6, k0_pay7, k0_pay8, k0_pay9, Core.dq, Core.dk, Core.dv, Core.dcum, Core.dcl, Core.dqin, Core.dkin, Core.dkout, Core.ddec, Core.dqStack, Core.dscores, Core.scores, Core.stack, Core.dvScores, Core.dstate, keep, rows, pile, sums, In.pre, In.la, In.cum, In.cl, In.e, In.einv, In.eout, In.qin, In.kin, In.kout, In.dec, In.st, In.dq, In.dk, In.dv, In.dcum, In.dcl, In.dact, In.at', hd0, hd1, hd2, hd3, tri, low, upp, diag, loads]
  exact rfl

theorem dq3 : (k0_pay205 (sl.r_136 c arg4 harg4 arg5 harg5 arg6 harg6 x3 x4 x5) (sl.r_159 c arg2 harg2 arg3 harg3 arg4 harg4 arg5 harg5 arg6 harg6 arg7 harg7 arg8 harg8 x1 x2 x3 x4 x5 x6 x7)) = In.dq (loads harg1 harg2 harg3 harg4 harg5 harg6 harg7 harg8 x0 x1 x2 x3 x4 x5 x6 x7) 3 := by
  dsimp only [sl.r, sl.r_136, sl.r_140, sl.r_145, sl.r_146, sl.r_148, sl.r_15, sl.r_151, sl.r_153, sl.r_154, sl.r_155, sl.r_156, sl.r_159, sl.r_20, sl.r_4, sl.r_5, sl.r_6, sl.v3, sl.v4, k0_pay10, k0_pay11, k0_pay17, k0_pay177, k0_pay18, k0_pay181, k0_pay187, k0_pay190, k0_pay192, k0_pay193, k0_pay194, k0_pay195, k0_pay196, k0_pay198, k0_pay205, k0_pay22, k0_pay25, k0_pay27, k0_pay28, k0_pay29, k0_pay30, k0_pay40, k0_pay41, k0_pay44, k0_pay46, k0_pay6, k0_pay7, k0_pay8, k0_pay9, Core.dq, Core.dk, Core.dv, Core.dcum, Core.dcl, Core.dqin, Core.dkin, Core.dkout, Core.ddec, Core.dqStack, Core.dscores, Core.scores, Core.stack, Core.dvScores, Core.dstate, keep, rows, pile, sums, In.pre, In.la, In.cum, In.cl, In.e, In.einv, In.eout, In.qin, In.kin, In.kout, In.dec, In.st, In.dq, In.dk, In.dv, In.dcum, In.dcl, In.dact, In.at', hd0, hd1, hd2, hd3, tri, low, upp, diag, loads]
  exact rfl

theorem dq4 : (k0_pay174 (sl.r_111 c arg4 harg4 arg5 harg5 arg6 harg6 x3 x4 x5) (sl.r_130 c arg2 harg2 arg3 harg3 arg4 harg4 arg5 harg5 arg6 harg6 arg7 harg7 arg8 harg8 x1 x2 x3 x4 x5 x6 x7)) = In.dq (loads harg1 harg2 harg3 harg4 harg5 harg6 harg7 harg8 x0 x1 x2 x3 x4 x5 x6 x7) 4 := by
  dsimp only [sl.r, sl.r_111, sl.r_115, sl.r_121, sl.r_123, sl.r_126, sl.r_128, sl.r_130, sl.r_15, sl.r_20, sl.r_4, sl.r_5, sl.r_6, sl.v3, sl.v4, k0_pay10, k0_pay11, k0_pay147, k0_pay151, k0_pay157, k0_pay160, k0_pay162, k0_pay163, k0_pay164, k0_pay166, k0_pay17, k0_pay174, k0_pay18, k0_pay22, k0_pay25, k0_pay27, k0_pay28, k0_pay29, k0_pay30, k0_pay40, k0_pay41, k0_pay44, k0_pay46, k0_pay6, k0_pay7, k0_pay8, k0_pay9, Core.dq, Core.dk, Core.dv, Core.dcum, Core.dcl, Core.dqin, Core.dkin, Core.dkout, Core.ddec, Core.dqStack, Core.dscores, Core.scores, Core.stack, Core.dvScores, Core.dstate, keep, rows, pile, sums, In.pre, In.la, In.cum, In.cl, In.e, In.einv, In.eout, In.qin, In.kin, In.kout, In.dec, In.st, In.dq, In.dk, In.dv, In.dcum, In.dcl, In.dact, In.at', hd0, hd1, hd2, hd3, tri, low, upp, diag, loads]
  exact rfl

theorem dq5 : (k0_pay144 (sl.r_83 c arg4 harg4 arg5 harg5 arg6 harg6 x3 x4 x5) (sl.r_104 c arg2 harg2 arg3 harg3 arg4 harg4 arg5 harg5 arg6 harg6 arg7 harg7 arg8 harg8 x1 x2 x3 x4 x5 x6 x7)) = In.dq (loads harg1 harg2 harg3 harg4 harg5 harg6 harg7 harg8 x0 x1 x2 x3 x4 x5 x6 x7) 5 := by
  dsimp only [sl.r, sl.r_101, sl.r_104, sl.r_15, sl.r_20, sl.r_4, sl.r_5, sl.r_6, sl.r_83, sl.r_87, sl.r_94, sl.r_96, sl.r_99, sl.v3, sl.v4, k0_pay10, k0_pay11, k0_pay116, k0_pay120, k0_pay127, k0_pay130, k0_pay132, k0_pay135, k0_pay144, k0_pay17, k0_pay18, k0_pay22, k0_pay25, k0_pay27, k0_pay28, k0_pay29, k0_pay30, k0_pay40, k0_pay41, k0_pay44, k0_pay46, k0_pay6, k0_pay7, k0_pay8, k0_pay9, Core.dq, Core.dk, Core.dv, Core.dcum, Core.dcl, Core.dqin, Core.dkin, Core.dkout, Core.ddec, Core.dqStack, Core.dscores, Core.scores, Core.stack, Core.dvScores, Core.dstate, keep, rows, pile, sums, In.pre, In.la, In.cum, In.cl, In.e, In.einv, In.eout, In.qin, In.kin, In.kout, In.dec, In.st, In.dq, In.dk, In.dv, In.dcum, In.dcl, In.dact, In.at', hd0, hd1, hd2, hd3, tri, low, upp, diag, loads]
  exact rfl

theorem dq6 : (k0_pay113 (sl.r_51 c arg4 harg4 arg5 harg5 arg6 harg6 x3 x4 x5) (sl.r_76 c arg2 harg2 arg3 harg3 arg4 harg4 arg5 harg5 arg6 harg6 arg7 harg7 arg8 harg8 x1 x2 x3 x4 x5 x6 x7)) = In.dq (loads harg1 harg2 harg3 harg4 harg5 harg6 harg7 harg8 x0 x1 x2 x3 x4 x5 x6 x7) 6 := by
  dsimp only [sl.r, sl.r_15, sl.r_20, sl.r_4, sl.r_5, sl.r_51, sl.r_55, sl.r_6, sl.r_63, sl.r_65, sl.r_68, sl.r_70, sl.r_76, sl.v3, sl.v4, k0_pay10, k0_pay104, k0_pay11, k0_pay113, k0_pay17, k0_pay18, k0_pay22, k0_pay25, k0_pay27, k0_pay28, k0_pay29, k0_pay30, k0_pay40, k0_pay41, k0_pay44, k0_pay46, k0_pay6, k0_pay7, k0_pay8, k0_pay80, k0_pay84, k0_pay9, k0_pay93, k0_pay96, k0_pay98, Core.dq, Core.dk, Core.dv, Core.dcum, Core.dcl, Core.dqin, Core.dkin, Core.dkout, Core.ddec, Core.dqStack, Core.dscores, Core.scores, Core.stack, Core.dvScores, Core.dstate, keep, rows, pile, sums, In.pre, In.la, In.cum, In.cl, In.e, In.einv, In.eout, In.qin, In.kin, In.kout, In.dec, In.st, In.dq, In.dk, In.dv, In.dcum, In.dcl, In.dact, In.at', hd0, hd1, hd2, hd3, tri, low, upp, diag, loads]
  exact rfl

theorem dq7 : (k0_pay77 (sl.r_48 c arg2 harg2 arg3 harg3 arg4 harg4 arg5 harg5 arg6 harg6 arg7 harg7 arg8 harg8 x1 x2 x3 x4 x5 x6 x7)) = In.dq (loads harg1 harg2 harg3 harg4 harg5 harg6 harg7 harg8 x0 x1 x2 x3 x4 x5 x6 x7) 7 := by
  dsimp only [sl.r, sl.r_22, sl.r_26, sl.r_31, sl.r_33, sl.r_35, sl.r_38, sl.r_4, sl.r_48, sl.r_5, sl.r_6, sl.v3, sl.v4, k0_pay10, k0_pay11, k0_pay17, k0_pay18, k0_pay22, k0_pay25, k0_pay27, k0_pay28, k0_pay29, k0_pay30, k0_pay40, k0_pay41, k0_pay44, k0_pay46, k0_pay48, k0_pay52, k0_pay57, k0_pay6, k0_pay60, k0_pay62, k0_pay68, k0_pay7, k0_pay73, k0_pay77, k0_pay8, k0_pay9, Core.dq, Core.dk, Core.dv, Core.dcum, Core.dcl, Core.dqin, Core.dkin, Core.dkout, Core.ddec, Core.dqStack, Core.dscores, Core.scores, Core.stack, Core.dvScores, Core.dstate, keep, rows, pile, sums, In.pre, In.la, In.cum, In.cl, In.e, In.einv, In.eout, In.qin, In.kin, In.kout, In.dec, In.st, In.dq, In.dk, In.dv, In.dcum, In.dcl, In.dact, In.at', hd0, hd1, hd2, hd3, tri, low, upp, diag, loads]
  exact rfl

theorem dk0 : (k0_pay300 (sl.r_236 c arg1 harg1 arg3 harg3 arg4 harg4 arg5 harg5 arg6 harg6 arg8 harg8 arg15 harg15 x0 x2 x3 x4 x5 x7 xs0)) = In.dk (loads harg1 harg2 harg3 harg4 harg5 harg6 harg7 harg8 x0 x1 x2 x3 x4 x5 x6 x7) 0 (In.ds (loads harg1 harg2 harg3 harg4 harg5 harg6 harg7 harg8 x0 x1 x2 x3 x4 x5 x6 x7) (View.readAt (Elt F) arg15.view (Rect.unit (s := S512x256) ![0, 0] S512x256.size inb_S512x256_S512x256_0_0).toLoadRect (harg15.unread xs0)) 7) := by
  rw [← ds7]
  dsimp only [sl.r, sl.r_10, sl.r_11, sl.r_12, sl.r_13, sl.r_14, sl.r_16, sl.r_17, sl.r_18, sl.r_214, sl.r_215, sl.r_220, sl.r_221, sl.r_222, sl.r_229, sl.r_230, sl.r_236, sl.r_4, sl.r_5, sl.r_6, sl.r_7, sl.r_8, sl.r_9, sl.v3, sl.v4, k0_pay10, k0_pay11, k0_pay17, k0_pay18, k0_pay22, k0_pay25, k0_pay27, k0_pay271, k0_pay272, k0_pay273, k0_pay277, k0_pay28, k0_pay283, k0_pay284, k0_pay29, k0_pay291, k0_pay292, k0_pay295, k0_pay30, k0_pay300, k0_pay31, k0_pay32, k0_pay33, k0_pay34, k0_pay35, k0_pay36, k0_pay37, k0_pay38, k0_pay39, k0_pay40, k0_pay41, k0_pay42, k0_pay43, k0_pay6, k0_pay7, k0_pay8, k0_pay9, Core.dq, Core.dk, Core.dv, Core.dcum, Core.dcl, Core.dqin, Core.dkin, Core.dkout, Core.ddec, Core.dqStack, Core.dscores, Core.scores, Core.stack, Core.dvScores, Core.dstate, keep, rows, pile, sums, In.pre, In.la, In.cum, In.cl, In.e, In.einv, In.eout, In.qin, In.kin, In.kout, In.dec, In.st, In.dq, In.dk, In.dv, In.dcum, In.dcl, In.dact, In.at', hd0, hd1, hd2, hd3, tri, low, upp, diag, loads]
  exact rfl

theorem dk1 : (sl.r_212 c arg1 harg1 arg3 harg3 arg4 harg4 arg5 harg5 arg6 harg6 arg8 harg8 arg15 harg15 x0 x2 x3 x4 x5 x7 xs0) = In.dk (loads harg1 harg2 harg3 harg4 harg5 harg6 harg7 harg8 x0 x1 x2 x3 x4 x5 x6 x7) 1 (In.ds (loads harg1 harg2 harg3 harg4 harg5 harg6 harg7 harg8 x0 x1 x2 x3 x4 x5 x6 x7) (View.readAt (Elt F) arg15.view (Rect.unit (s := S512x256) ![0, 0] S512x256.size inb_S512x256_S512x256_0_0).toLoadRect (harg15.unread xs0)) 6) := by
  rw [← ds6]
  dsimp only [sl.r, sl.r_10, sl.r_11, sl.r_12, sl.r_13, sl.r_14, sl.r_16, sl.r_17, sl.r_18, sl.r_189, sl.r_190, sl.r_195, sl.r_196, sl.r_197, sl.r_203, sl.r_204, sl.r_205, sl.r_212, sl.r_4, sl.r_5, sl.r_6, sl.r_7, sl.r_8, sl.r_9, sl.v3, sl.v4, k0_pay10, k0_pay11, k0_pay17, k0_pay18, k0_pay22, k0_pay241, k0_pay242, k0_pay243, k0_pay247, k0_pay25, k0_pay253, k0_pay254, k0_pay255, k0_pay261, k0_pay262, k0_pay268, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay6, k0_pay7, k0_pay8, k0_pay9, Core.dq, Core.dk, Core.dv, Core.dcum, Core.dcl, Core.dqin, Core.dkin, Core.dkout, Core.ddec, Core.dqStack, Core.dscores, Core.scores, Core.stack, Core.dvScores, Core.dstate, keep, rows, pile, sums, In.pre, In.la, In.cum, In.cl, In.e, In.einv, In.eout, In.qin, In.kin, In.kout, In.dec, In.st, In.dq, In.dk, In.dv, In.dcum, In.dcl, In.dact, In.at', hd0, hd1, hd2, hd3, tri, low, upp, diag, loads]
  exact rfl

theorem dk2 : (k0_pay238 (sl.r_163 c arg4 harg4 arg5 harg5 arg6 harg6 x3 x4 x5) (sl.r_164 c arg4 harg4 arg5 harg5 arg6 harg6 x3 x4 x5) (sl.r_169 c arg1 harg1 arg4 harg4 arg5 harg5 arg6 harg6 x0 x3 x4 x5) (sl.r_170 c arg3 harg3 x2) (sl.r_177 c arg1 harg1 arg4 harg4 arg5 harg5 arg6 harg6 arg8 harg8 arg15 harg15 x0 x3 x4 x5 x7 xs0) (sl.r_181 c arg3 harg3 arg8 harg8 x2 x7)) = In.dk (loads harg1 harg2 harg3 harg4 harg5 harg6 harg7 harg8 x0 x1 x2 x3 x4 x5 x6 x7) 2 (In.ds (loads harg1 harg2 harg3 harg4 harg5 harg6 harg7 harg8 x0 x1 x2 x3 x4 x5 x6 x7) (View.readAt (Elt F) arg15.view (Rect.unit (s := S512x256) ![0, 0] S512x256.size inb_S512x256_S512x256_0_0).toLoadRect (harg15.unread xs0)) 5) := by
  rw [← ds5]
  dsimp only [sl.cst_306, sl.r, sl.r_10, sl.r_11, sl.r_12, sl.r_13, sl.r_14, sl.r_16, sl.r_163, sl.r_164, sl.r_169, sl.r_17, sl.r_170, sl.r_171, sl.r_177, sl.r_178, sl.r_179, sl.r_18, sl.r_180, sl.r_181, sl.r_4, sl.r_5, sl.r_6, sl.r_7, sl.r_8, sl.r_9, sl.v3, sl.v4, k0_pay10, k0_pay11, k0_pay17, k0_pay18, k0_pay209, k0_pay210, k0_pay211, k0_pay215, k0_pay22, k0_pay221, k0_pay222, k0_pay223, k0_pay224, k0_pay225, k0_pay231, k0_pay232, k0_pay238, k0_pay25, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay6, k0_pay7, k0_pay8, k0_pay9, Core.dq, Core.dk, Core.dv, Core.dcum, Core.dcl, Core.dqin, Core.dkin, Core.dkout, Core.ddec, Core.dqStack, Core.dscores, Core.scores, Core.stack, Core.dvScores, Core.dstate, keep, rows, pile, sums, In.pre, In.la, In.cum, In.cl, In.e, In.einv, In.eout, In.qin, In.kin, In.kout, In.dec, In.st, In.dq, In.dk, In.dv, In.dcum, In.dcl, In.dact, In.at', hd0, hd1, hd2, hd3, tri, low, upp, diag, loads]
  exact rfl

theorem dk3 : (k0_pay206 (sl.r_137 c arg4 harg4 arg5 harg5 arg6 harg6 x3 x4 x5) (sl.r_138 c arg4 harg4 arg5 harg5 arg6 harg6 x3 x4 x5) (sl.r_144 c arg1 harg1 arg4 harg4 arg5 harg5 arg6 harg6 x0 x3 x4 x5) (sl.r_145 c arg3 harg3 x2) (sl.r_152 c arg1 harg1 arg4 harg4 arg5 harg5 arg6 harg6 arg8 harg8 arg15 harg15 x0 x3 x4 x5 x7 xs0) (sl.r_157 c arg3 harg3 arg8 harg8 x2 x7)) = In.dk (loads harg1 harg2 harg3 harg4 harg5 harg6 harg7 harg8 x0 x1 x2 x3 x4 x5 x6 x7) 3 (In.ds (loads harg1 harg2 harg3 harg4 harg5 harg6 harg7 harg8 x0 x1 x2 x3 x4 x5 x6 x7) (View.readAt (Elt F) arg15.view (Rect.unit (s := S512x256) ![0, 0] S512x256.size inb_S512x256_S512x256_0_0).toLoadRect (harg15.unread xs0)) 4) := by
  rw [← ds4]
  dsimp only [sl.r, sl.r_10, sl.r_11, sl.r_12, sl.r_13, sl.r_137, sl.r_138, sl.r_139, sl.r_14, sl.r_144, sl.r_145, sl.r_152, sl.r_153, sl.r_154, sl.r_155, sl.r_156, sl.r_157, sl.r_16, sl.r_17, sl.r_18, sl.r_4, sl.r_5, sl.r_6, sl.r_7, sl.r_8, sl.r_9, sl.v3, sl.v4, k0_pay10, k0_pay11, k0_pay17, k0_pay178, k0_pay179, k0_pay18, k0_pay180, k0_pay185, k0_pay191, k0_pay192, k0_pay193, k0_pay194, k0_pay195, k0_pay196, k0_pay199, k0_pay200, k0_pay206, k0_pay22, k0_pay25, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay6, k0_pay7, k0_pay8, k0_pay9, Core.dq, Core.dk, Core.dv, Core.dcum, Core.dcl, Core.dqin, Core.dkin, Core.dkout, Core.ddec, Core.dqStack, Core.dscores, Core.scores, Core.stack, Core.dvScores, Core.dstate, keep, rows, pile, sums, In.pre, In.la, In.cum, In.cl, In.e, In.einv, In.eout, In.qin, In.kin, In.kout, In.dec, In.st, In.dq, In.dk, In.dv, In.dcum, In.dcl, In.dact, In.at', hd0, hd1, hd2, hd3, tri, low, upp, diag, loads]
  exact rfl

theorem dk4 : (k0_pay175 (sl.r_112 c arg4 harg4 arg5 harg5 arg6 harg6 x3 x4 x5) (sl.r_113 c arg4 harg4 arg5 harg5 arg6 harg6 x3 x4 x5) (sl.r_131 c arg1 harg1 arg3 harg3 arg4 harg4 arg5 harg5 arg6 harg6 arg8 harg8 x0 x2 x3 x4 x5 x7) (sl.r_132 c arg1 harg1 arg3 harg3 arg4 harg4 arg5 harg5 arg6 harg6 arg8 harg8 arg15 harg15 x0 x2 x3 x4 x5 x7 xs0)) = In.dk (loads harg1 harg2 harg3 harg4 harg5 harg6 harg7 harg8 x0 x1 x2 x3 x4 x5 x6 x7) 4 (In.ds (loads harg1 harg2 harg3 harg4 harg5 harg6 harg7 harg8 x0 x1 x2 x3 x4 x5 x6 x7) (View.readAt (Elt F) arg15.view (Rect.unit (s := S512x256) ![0, 0] S512x256.size inb_S512x256_S512x256_0_0).toLoadRect (harg15.unread xs0)) 3) := by
  rw [← ds3]
  dsimp only [sl.r, sl.r_10, sl.r_11, sl.r_112, sl.r_113, sl.r_114, sl.r_118, sl.r_119, sl.r_12, sl.r_120, sl.r_127, sl.r_128, sl.r_13, sl.r_131, sl.r_132, sl.r_14, sl.r_16, sl.r_17, sl.r_18, sl.r_4, sl.r_5, sl.r_6, sl.r_7, sl.r_8, sl.r_9, sl.v3, sl.v4, k0_pay10, k0_pay11, k0_pay148, k0_pay149, k0_pay150, k0_pay154, k0_pay155, k0_pay161, k0_pay162, k0_pay163, k0_pay164, k0_pay167, k0_pay168, k0_pay17, k0_pay175, k0_pay18, k0_pay22, k0_pay25, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay6, k0_pay7, k0_pay8, k0_pay9, Core.dq, Core.dk, Core.dv, Core.dcum, Core.dcl, Core.dqin, Core.dkin, Core.dkout, Core.ddec, Core.dqStack, Core.dscores, Core.scores, Core.stack, Core.dvScores, Core.dstate, keep, rows, pile, sums, In.pre, In.la, In.cum, In.cl, In.e, In.einv, In.eout, In.qin, In.kin, In.kout, In.dec, In.st, In.dq, In.dk, In.dv, In.dcum, In.dcl, In.dact, In.at', hd0, hd1, hd2, hd3, tri, low, upp, diag, loads]
  exact rfl

theorem dk5 : (k0_pay145 (sl.r_84 c arg4 harg4 arg5 harg5 arg6 harg6 x3 x4 x5) (sl.r_85 c arg4 harg4 arg5 harg5 arg6 harg6 x3 x4 x5) (sl.r_105 c arg1 harg1 arg3 harg3 arg4 harg4 arg5 harg5 arg6 harg6 arg8 harg8 x0 x2 x3 x4 x5 x7) (sl.r_106 c arg1 harg1 arg3 harg3 arg4 harg4 arg5 harg5 arg6 harg6 arg8 harg8 arg15 harg15 x0 x2 x3 x4 x5 x7 xs0)) = In.dk (loads harg1 harg2 harg3 harg4 harg5 harg6 harg7 harg8 x0 x1 x2 x3 x4 x5 x6 x7) 5 (In.ds (loads harg1 harg2 harg3 harg4 harg5 harg6 harg7 harg8 x0 x1 x2 x3 x4 x5 x6 x7) (View.readAt (Elt F) arg15.view (Rect.unit (s := S512x256) ![0, 0] S512x256.size inb_S512x256_S512x256_0_0).toLoadRect (harg15.unread xs0)) 2) := by
  rw [← ds2]
  dsimp only [sl.cst_115, sl.r, sl.r_10, sl.r_100, sl.r_101, sl.r_105, sl.r_106, sl.r_11, sl.r_12, sl.r_13, sl.r_14, sl.r_16, sl.r_17, sl.r_18, sl.r_4, sl.r_5, sl.r_6, sl.r_7, sl.r_8, sl.r_84, sl.r_85, sl.r_86, sl.r_9, sl.r_90, sl.r_91, sl.r_92, sl.r_93, sl.v3, sl.v4, k0_pay10, k0_pay11, k0_pay117, k0_pay118, k0_pay119, k0_pay123, k0_pay124, k0_pay125, k0_pay131, k0_pay132, k0_pay136, k0_pay137, k0_pay145, k0_pay17, k0_pay18, k0_pay22, k0_pay25, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay6, k0_pay7, k0_pay8, k0_pay9, Core.dq, Core.dk, Core.dv, Core.dcum, Core.dcl, Core.dqin, Core.dkin, Core.dkout, Core.ddec, Core.dqStack, Core.dscores, Core.scores, Core.stack, Core.dvScores, Core.dstate, keep, rows, pile, sums, In.pre, In.la, In.cum, In.cl, In.e, In.einv, In.eout, In.qin, In.kin, In.kout, In.dec, In.st, In.dq, In.dk, In.dv, In.dcum, In.dcl, In.dact, In.at', hd0, hd1, hd2, hd3, tri, low, upp, diag, loads]
  exact rfl

theorem dk6 : (k0_pay114 (sl.r_52 c arg4 harg4 arg5 harg5 arg6 harg6 x3 x4 x5) (sl.r_53 c arg4 harg4 arg5 harg5 arg6 harg6 x3 x4 x5) (sl.r_77 c arg1 harg1 arg3 harg3 arg4 harg4 arg5 harg5 arg6 harg6 arg8 harg8 x0 x2 x3 x4 x5 x7) (sl.r_78 c arg1 harg1 arg3 harg3 arg4 harg4 arg5 harg5 arg6 harg6 arg8 harg8 arg15 harg15 x0 x2 x3 x4 x5 x7 xs0)) = In.dk (loads harg1 harg2 harg3 harg4 harg5 harg6 harg7 harg8 x0 x1 x2 x3 x4 x5 x6 x7) 6 (In.ds (loads harg1 harg2 harg3 harg4 harg5 harg6 harg7 harg8 x0 x1 x2 x3 x4 x5 x6 x7) (View.readAt (Elt F) arg15.view (Rect.unit (s := S512x256) ![0, 0] S512x256.size inb_S512x256_S512x256_0_0).toLoadRect (harg15.unread xs0)) 1) := by
  rw [← ds1]
  dsimp only [sl.cst_115, sl.r, sl.r_10, sl.r_11, sl.r_12, sl.r_13, sl.r_14, sl.r_16, sl.r_17, sl.r_18, sl.r_4, sl.r_5, sl.r_52, sl.r_53, sl.r_54, sl.r_58, sl.r_59, sl.r_6, sl.r_60, sl.r_61, sl.r_62, sl.r_69, sl.r_7, sl.r_70, sl.r_77, sl.r_78, sl.r_8, sl.r_9, sl.v3, sl.v4, k0_pay10, k0_pay105, k0_pay106, k0_pay11, k0_pay114, k0_pay17, k0_pay18, k0_pay22, k0_pay25, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay6, k0_pay7, k0_pay8, k0_pay81, k0_pay82, k0_pay83, k0_pay87, k0_pay88, k0_pay89, k0_pay9, k0_pay90, k0_pay91, k0_pay97, k0_pay98, Core.dq, Core.dk, Core.dv, Core.dcum, Core.dcl, Core.dqin, Core.dkin, Core.dkout, Core.ddec, Core.dqStack, Core.dscores, Core.scores, Core.stack, Core.dvScores, Core.dstate, keep, rows, pile, sums, In.pre, In.la, In.cum, In.cl, In.e, In.einv, In.eout, In.qin, In.kin, In.kout, In.dec, In.st, In.dq, In.dk, In.dv, In.dcum, In.dcl, In.dact, In.at', hd0, hd1, hd2, hd3, tri, low, upp, diag, loads]
  exact rfl

theorem dk7 : (k0_pay78 (sl.r_23 c arg4 harg4 arg5 harg5 arg6 harg6 x3 x4 x5) (sl.r_24 c arg4 harg4 arg5 harg5 arg6 harg6 x3 x4 x5) (sl.r_45 c arg1 harg1 arg3 harg3 arg4 harg4 arg5 harg5 arg6 harg6 arg8 harg8 x0 x2 x3 x4 x5 x7) (sl.r_46 c arg3 harg3 arg15 harg15 x2 xs0)) = In.dk (loads harg1 harg2 harg3 harg4 harg5 harg6 harg7 harg8 x0 x1 x2 x3 x4 x5 x6 x7) 7 (In.ds (loads harg1 harg2 harg3 harg4 harg5 harg6 harg7 harg8 x0 x1 x2 x3 x4 x5 x6 x7) (View.readAt (Elt F) arg15.view (Rect.unit (s := S512x256) ![0, 0] S512x256.size inb_S512x256_S512x256_0_0).toLoadRect (harg15.unread xs0)) 0) := by
  dsimp only [sl.r, sl.r_10, sl.r_11, sl.r_12, sl.r_13, sl.r_14, sl.r_23, sl.r_24, sl.r_29, sl.r_30, sl.r_37, sl.r_38, sl.r_4, sl.r_45, sl.r_46, sl.r_5, sl.r_6, sl.r_7, sl.r_8, sl.r_9, sl.v3, sl.v4, k0_pay10, k0_pay11, k0_pay17, k0_pay18, k0_pay22, k0_pay25, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay49, k0_pay50, k0_pay51, k0_pay55, k0_pay6, k0_pay61, k0_pay62, k0_pay69, k0_pay7, k0_pay70, k0_pay78, k0_pay8, k0_pay9, Core.dq, Core.dk, Core.dv, Core.dcum, Core.dcl, Core.dqin, Core.dkin, Core.dkout, Core.ddec, Core.dqStack, Core.dscores, Core.scores, Core.stack, Core.dvScores, Core.dstate, keep, rows, pile, sums, In.pre, In.la, In.cum, In.cl, In.e, In.einv, In.eout, In.qin, In.kin, In.kout, In.dec, In.st, In.dq, In.dk, In.dv, In.dcum, In.dcl, In.dact, In.at', hd0, hd1, hd2, hd3, tri, low, upp, diag, loads, In.ds]
  exact rfl

theorem L8 : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xo12 xo13 xs0).1 = stores256 (In.dq (loads harg1 harg2 harg3 harg4 harg5 harg6 harg7 harg8 x0 x1 x2 x3 x4 x5 x6 x7)) :=
  stores256_eq (dq0 ..) (dq1 ..) (dq2 ..) (dq3 ..) (dq4 ..) (dq5 ..) (dq6 ..) (dq7 ..)

theorem L9 : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xo12 xo13 xs0).2.1 = stores256 fun j => In.dk (loads harg1 harg2 harg3 harg4 harg5 harg6 harg7 harg8 x0 x1 x2 x3 x4 x5 x6 x7) j (In.ds (loads harg1 harg2 harg3 harg4 harg5 harg6 harg7 harg8 x0 x1 x2 x3 x4 x5 x6 x7) (View.readAt (Elt F) arg15.view (Rect.unit (s := S512x256) ![0, 0] S512x256.size inb_S512x256_S512x256_0_0).toLoadRect (harg15.unread xs0)) (7 - j.val)) :=
  stores256_eq (P := fun j => In.dk (loads harg1 harg2 harg3 harg4 harg5 harg6 harg7 harg8 x0 x1 x2 x3 x4 x5 x6 x7) j (In.ds (loads harg1 harg2 harg3 harg4 harg5 harg6 harg7 harg8 x0 x1 x2 x3 x4 x5 x6 x7) (View.readAt (Elt F) arg15.view (Rect.unit (s := S512x256) ![0, 0] S512x256.size inb_S512x256_S512x256_0_0).toLoadRect (harg15.unread xs0)) (7 - j.val))) (dk0 ..) (dk1 ..) (dk2 ..) (dk3 ..) (dk4 ..) (dk5 ..) (dk6 ..) (dk7 ..)

end Gla.Core.RunB

end
-- ==== Proof.Gla.ValueB.lean ====
/-
  The gradients of values stored by a block that another block came before.
-/
module

public import proofs.«01_k».proof.Proof.Gla.DsB

@[expose] public section

set_option maxRecDepth 16384
set_option maxHeartbeats 1000000

noncomputable section

namespace Gla.Core.RunB

open Idealize.ShloMosaic Cert.KernelIdeal Cert.KernelIdeal.Gen

open Cert.KernelIdeal.Gen.kernelRun0_B

variable {F : FTy → Type} [FloatOps F]

variable (c : Dev nD) (i : grid0.Coords) (arg1 : Memref sig .tc .vmem S512x256 .bf16) (harg1 : arg1.IsWhole) (arg2 : Memref sig .tc .vmem S512x256 .bf16) (harg2 : arg2.IsWhole) (arg3 : Memref sig .tc .vmem S512x512 .bf16) (harg3 : arg3.IsWhole) (arg4 : Memref sig .tc .vmem S512x128 .bf16) (harg4 : arg4.IsWhole) (arg5 : Memref sig .tc .vmem S1x128x256 .bf16) (harg5 : arg5.IsWhole) (arg6 : Memref sig .tc .vmem S1x1x256 .f32) (harg6 : arg6.IsWhole) (arg7 : Memref sig .tc .vmem S8x512x256 .bf16) (harg7 : arg7.IsWhole) (arg8 : Memref sig .tc .vmem S512x512 .bf16) (harg8 : arg8.IsWhole) (arg9 : Memref sig .tc .vmem S512x256 .bf16) (harg9 : arg9.IsWhole) (arg10 : Memref sig .tc .vmem S512x256 .bf16) (harg10 : arg10.IsWhole) (arg11 : Memref sig .tc .vmem S512x512 .bf16) (harg11 : arg11.IsWhole) (arg12 : Memref sig .tc .vmem S512x128 .bf16) (harg12 : arg12.IsWhole) (arg13 : Memref sig .tc .vmem S128x256 .f32) (harg13 : arg13.IsWhole) (arg14 : Memref sig .tc .vmem S1x256 .f32) (harg14 : arg14.IsWhole) (arg15 : Memref sig .tc .vmem S512x256 .f32) (harg15 : arg15.IsWhole) (hc0 : ¬cond0_0 i)
  (x0 : Vec F S512x256 .bf16) (x1 : Vec F S512x256 .bf16) (x2 : Vec F S512x512 .bf16) (x3 : Vec F S512x128 .bf16) (x4 : Vec F S1x128x256 .bf16) (x5 : Vec F S1x1x256 .f32) (x6 : Vec F S8x512x256 .bf16) (x7 : Vec F S512x512 .bf16) (xo12 : Vec F S128x256 .f32) (xo13 : Vec F S1x256 .f32) (xs0 : Vec F S512x256 .f32)

theorem dv0 : (k0_pay301 (sl.r_231 c arg1 harg1 arg2 harg2 arg4 harg4 arg5 harg5 arg6 harg6 arg8 harg8 arg15 harg15 x0 x1 x3 x4 x5 x7 xs0)) = In.dv (loads harg1 harg2 harg3 harg4 harg5 harg6 harg7 harg8 x0 x1 x2 x3 x4 x5 x6 x7) 0 (In.ds (loads harg1 harg2 harg3 harg4 harg5 harg6 harg7 harg8 x0 x1 x2 x3 x4 x5 x6 x7) (View.readAt (Elt F) arg15.view (Rect.unit (s := S512x256) ![0, 0] S512x256.size inb_S512x256_S512x256_0_0).toLoadRect (harg15.unread xs0)) 7) := by
  rw [← ds7]
  dsimp only [sl.r, sl.r_10, sl.r_11, sl.r_12, sl.r_13, sl.r_14, sl.r_18, sl.r_20, sl.r_21, sl.r_222, sl.r_225, sl.r_226, sl.r_231, sl.r_4, sl.r_5, sl.r_6, sl.r_7, sl.r_8, sl.r_9, sl.v3, sl.v4, k0_pay10, k0_pay11, k0_pay17, k0_pay18, k0_pay22, k0_pay25, k0_pay27, k0_pay273, k0_pay274, k0_pay275, k0_pay277, k0_pay279, k0_pay28, k0_pay280, k0_pay281, k0_pay283, k0_pay285, k0_pay29, k0_pay30, k0_pay301, k0_pay31, k0_pay32, k0_pay33, k0_pay34, k0_pay35, k0_pay36, k0_pay37, k0_pay38, k0_pay39, k0_pay40, k0_pay41, k0_pay42, k0_pay43, k0_pay44, k0_pay46, k0_pay47, k0_pay6, k0_pay7, k0_pay8, k0_pay9, Core.dq, Core.dk, Core.dv, Core.dcum, Core.dcl, Core.dqin, Core.dkin, Core.dkout, Core.ddec, Core.dqStack, Core.dscores, Core.scores, Core.stack, Core.dvScores, Core.dstate, keep, rows, pile, sums, In.pre, In.la, In.cum, In.cl, In.e, In.einv, In.eout, In.qin, In.kin, In.kout, In.dec, In.st, In.dq, In.dk, In.dv, In.dcum, In.dcl, In.dact, In.at', hd0, hd1, hd2, hd3, tri, low, upp, diag, loads]
  exact rfl

theorem dv1 : (k0_pay269 (sl.r_206 c arg1 harg1 arg2 harg2 arg4 harg4 arg5 harg5 arg6 harg6 arg8 harg8 arg15 harg15 x0 x1 x3 x4 x5 x7 xs0)) = In.dv (loads harg1 harg2 harg3 harg4 harg5 harg6 harg7 harg8 x0 x1 x2 x3 x4 x5 x6 x7) 1 (In.ds (loads harg1 harg2 harg3 harg4 harg5 harg6 harg7 harg8 x0 x1 x2 x3 x4 x5 x6 x7) (View.readAt (Elt F) arg15.view (Rect.unit (s := S512x256) ![0, 0] S512x256.size inb_S512x256_S512x256_0_0).toLoadRect (harg15.unread xs0)) 6) := by
  rw [← ds6]
  dsimp only [sl.r, sl.r_10, sl.r_11, sl.r_12, sl.r_13, sl.r_14, sl.r_18, sl.r_197, sl.r_20, sl.r_200, sl.r_201, sl.r_203, sl.r_206, sl.r_21, sl.r_4, sl.r_5, sl.r_6, sl.r_7, sl.r_8, sl.r_9, sl.v3, sl.v4, k0_pay10, k0_pay11, k0_pay17, k0_pay18, k0_pay22, k0_pay243, k0_pay244, k0_pay245, k0_pay247, k0_pay249, k0_pay25, k0_pay250, k0_pay251, k0_pay253, k0_pay256, k0_pay269, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay46, k0_pay47, k0_pay6, k0_pay7, k0_pay8, k0_pay9, Core.dq, Core.dk, Core.dv, Core.dcum, Core.dcl, Core.dqin, Core.dkin, Core.dkout, Core.ddec, Core.dqStack, Core.dscores, Core.scores, Core.stack, Core.dvScores, Core.dstate, keep, rows, pile, sums, In.pre, In.la, In.cum, In.cl, In.e, In.einv, In.eout, In.qin, In.kin, In.kout, In.dec, In.st, In.dq, In.dk, In.dv, In.dcum, In.dcl, In.dact, In.at', hd0, hd1, hd2, hd3, tri, low, upp, diag, loads]
  exact rfl

theorem dv2 : (sl.r_187 c arg1 harg1 arg2 harg2 arg4 harg4 arg5 harg5 arg6 harg6 arg8 harg8 arg15 harg15 x0 x1 x3 x4 x5 x7 xs0) = In.dv (loads harg1 harg2 harg3 harg4 harg5 harg6 harg7 harg8 x0 x1 x2 x3 x4 x5 x6 x7) 2 (In.ds (loads harg1 harg2 harg3 harg4 harg5 harg6 harg7 harg8 x0 x1 x2 x3 x4 x5 x6 x7) (View.readAt (Elt F) arg15.view (Rect.unit (s := S512x256) ![0, 0] S512x256.size inb_S512x256_S512x256_0_0).toLoadRect (harg15.unread xs0)) 5) := by
  rw [← ds5]
  dsimp only [sl.r, sl.r_10, sl.r_11, sl.r_12, sl.r_13, sl.r_14, sl.r_171, sl.r_174, sl.r_175, sl.r_177, sl.r_18, sl.r_182, sl.r_187, sl.r_20, sl.r_21, sl.r_4, sl.r_5, sl.r_6, sl.r_7, sl.r_8, sl.r_9, sl.v3, sl.v4, k0_pay10, k0_pay11, k0_pay17, k0_pay18, k0_pay211, k0_pay212, k0_pay213, k0_pay215, k0_pay217, k0_pay218, k0_pay219, k0_pay22, k0_pay221, k0_pay226, k0_pay239, k0_pay25, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay46, k0_pay47, k0_pay6, k0_pay7, k0_pay8, k0_pay9, Core.dq, Core.dk, Core.dv, Core.dcum, Core.dcl, Core.dqin, Core.dkin, Core.dkout, Core.ddec, Core.dqStack, Core.dscores, Core.scores, Core.stack, Core.dvScores, Core.dstate, keep, rows, pile, sums, In.pre, In.la, In.cum, In.cl, In.e, In.einv, In.eout, In.qin, In.kin, In.kout, In.dec, In.st, In.dq, In.dk, In.dv, In.dcum, In.dcl, In.dact, In.at', hd0, hd1, hd2, hd3, tri, low, upp, diag, loads]
  exact rfl

theorem dv3 : (k0_pay207 (sl.r_158 c arg1 harg1 arg2 harg2 arg4 harg4 arg5 harg5 arg6 harg6 arg8 harg8 arg15 harg15 x0 x1 x3 x4 x5 x7 xs0)) = In.dv (loads harg1 harg2 harg3 harg4 harg5 harg6 harg7 harg8 x0 x1 x2 x3 x4 x5 x6 x7) 3 (In.ds (loads harg1 harg2 harg3 harg4 harg5 harg6 harg7 harg8 x0 x1 x2 x3 x4 x5 x6 x7) (View.readAt (Elt F) arg15.view (Rect.unit (s := S512x256) ![0, 0] S512x256.size inb_S512x256_S512x256_0_0).toLoadRect (harg15.unread xs0)) 4) := by
  rw [← ds4]
  dsimp only [sl.r, sl.r_10, sl.r_11, sl.r_12, sl.r_13, sl.r_139, sl.r_14, sl.r_140, sl.r_141, sl.r_146, sl.r_149, sl.r_150, sl.r_152, sl.r_158, sl.r_18, sl.r_20, sl.r_21, sl.r_4, sl.r_5, sl.r_6, sl.r_7, sl.r_8, sl.r_9, sl.v3, sl.v4, k0_pay10, k0_pay11, k0_pay17, k0_pay18, k0_pay180, k0_pay181, k0_pay182, k0_pay185, k0_pay187, k0_pay188, k0_pay189, k0_pay191, k0_pay197, k0_pay207, k0_pay22, k0_pay25, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay46, k0_pay47, k0_pay6, k0_pay7, k0_pay8, k0_pay9, Core.dq, Core.dk, Core.dv, Core.dcum, Core.dcl, Core.dqin, Core.dkin, Core.dkout, Core.ddec, Core.dqStack, Core.dscores, Core.scores, Core.stack, Core.dvScores, Core.dstate, keep, rows, pile, sums, In.pre, In.la, In.cum, In.cl, In.e, In.einv, In.eout, In.qin, In.kin, In.kout, In.dec, In.st, In.dq, In.dk, In.dv, In.dcum, In.dcl, In.dact, In.at', hd0, hd1, hd2, hd3, tri, low, upp, diag, loads]
  exact rfl

theorem dv4 : (k0_pay176 (sl.r_129 c arg1 harg1 arg2 harg2 arg4 harg4 arg5 harg5 arg6 harg6 arg8 harg8 arg15 harg15 x0 x1 x3 x4 x5 x7 xs0)) = In.dv (loads harg1 harg2 harg3 harg4 harg5 harg6 harg7 harg8 x0 x1 x2 x3 x4 x5 x6 x7) 4 (In.ds (loads harg1 harg2 harg3 harg4 harg5 harg6 harg7 harg8 x0 x1 x2 x3 x4 x5 x6 x7) (View.readAt (Elt F) arg15.view (Rect.unit (s := S512x256) ![0, 0] S512x256.size inb_S512x256_S512x256_0_0).toLoadRect (harg15.unread xs0)) 3) := by
  rw [← ds3]
  dsimp only [sl.r, sl.r_10, sl.r_11, sl.r_114, sl.r_115, sl.r_116, sl.r_118, sl.r_12, sl.r_121, sl.r_124, sl.r_125, sl.r_127, sl.r_129, sl.r_13, sl.r_14, sl.r_18, sl.r_20, sl.r_21, sl.r_4, sl.r_5, sl.r_6, sl.r_7, sl.r_8, sl.r_9, sl.v3, sl.v4, k0_pay10, k0_pay11, k0_pay150, k0_pay151, k0_pay152, k0_pay154, k0_pay155, k0_pay157, k0_pay158, k0_pay159, k0_pay161, k0_pay165, k0_pay17, k0_pay176, k0_pay18, k0_pay22, k0_pay25, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay46, k0_pay47, k0_pay6, k0_pay7, k0_pay8, k0_pay9, Core.dq, Core.dk, Core.dv, Core.dcum, Core.dcl, Core.dqin, Core.dkin, Core.dkout, Core.ddec, Core.dqStack, Core.dscores, Core.scores, Core.stack, Core.dvScores, Core.dstate, keep, rows, pile, sums, In.pre, In.la, In.cum, In.cl, In.e, In.einv, In.eout, In.qin, In.kin, In.kout, In.dec, In.st, In.dq, In.dk, In.dv, In.dcum, In.dcl, In.dact, In.at', hd0, hd1, hd2, hd3, tri, low, upp, diag, loads]
  exact rfl

theorem dv5 : (k0_pay146 (sl.r_103 c arg1 harg1 arg2 harg2 arg4 harg4 arg5 harg5 arg6 harg6 arg8 harg8 arg15 harg15 x0 x1 x3 x4 x5 x7 xs0)) = In.dv (loads harg1 harg2 harg3 harg4 harg5 harg6 harg7 harg8 x0 x1 x2 x3 x4 x5 x6 x7) 5 (In.ds (loads harg1 harg2 harg3 harg4 harg5 harg6 harg7 harg8 x0 x1 x2 x3 x4 x5 x6 x7) (View.readAt (Elt F) arg15.view (Rect.unit (s := S512x256) ![0, 0] S512x256.size inb_S512x256_S512x256_0_0).toLoadRect (harg15.unread xs0)) 2) := by
  rw [← ds2]
  dsimp only [sl.cst_115, sl.r, sl.r_10, sl.r_100, sl.r_102, sl.r_103, sl.r_11, sl.r_12, sl.r_13, sl.r_14, sl.r_18, sl.r_20, sl.r_21, sl.r_4, sl.r_5, sl.r_6, sl.r_7, sl.r_8, sl.r_86, sl.r_87, sl.r_88, sl.r_9, sl.r_90, sl.r_91, sl.r_94, sl.r_97, sl.r_98, sl.v3, sl.v4, k0_pay10, k0_pay11, k0_pay119, k0_pay120, k0_pay121, k0_pay123, k0_pay124, k0_pay125, k0_pay127, k0_pay128, k0_pay129, k0_pay131, k0_pay133, k0_pay134, k0_pay146, k0_pay17, k0_pay18, k0_pay22, k0_pay25, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay46, k0_pay47, k0_pay6, k0_pay7, k0_pay8, k0_pay9, Core.dq, Core.dk, Core.dv, Core.dcum, Core.dcl, Core.dqin, Core.dkin, Core.dkout, Core.ddec, Core.dqStack, Core.dscores, Core.scores, Core.stack, Core.dvScores, Core.dstate, keep, rows, pile, sums, In.pre, In.la, In.cum, In.cl, In.e, In.einv, In.eout, In.qin, In.kin, In.kout, In.dec, In.st, In.dq, In.dk, In.dv, In.dcum, In.dcl, In.dact, In.at', hd0, hd1, hd2, hd3, tri, low, upp, diag, loads]
  exact rfl

theorem dv6 : (k0_pay115 (sl.r_75 c arg1 harg1 arg2 harg2 arg4 harg4 arg5 harg5 arg6 harg6 arg8 harg8 arg15 harg15 x0 x1 x3 x4 x5 x7 xs0)) = In.dv (loads harg1 harg2 harg3 harg4 harg5 harg6 harg7 harg8 x0 x1 x2 x3 x4 x5 x6 x7) 6 (In.ds (loads harg1 harg2 harg3 harg4 harg5 harg6 harg7 harg8 x0 x1 x2 x3 x4 x5 x6 x7) (View.readAt (Elt F) arg15.view (Rect.unit (s := S512x256) ![0, 0] S512x256.size inb_S512x256_S512x256_0_0).toLoadRect (harg15.unread xs0)) 1) := by
  rw [← ds1]
  dsimp only [sl.cst_115, sl.r, sl.r_10, sl.r_11, sl.r_12, sl.r_13, sl.r_14, sl.r_18, sl.r_20, sl.r_21, sl.r_4, sl.r_5, sl.r_54, sl.r_55, sl.r_56, sl.r_58, sl.r_59, sl.r_6, sl.r_60, sl.r_63, sl.r_66, sl.r_67, sl.r_69, sl.r_7, sl.r_71, sl.r_72, sl.r_73, sl.r_74, sl.r_75, sl.r_8, sl.r_9, sl.v3, sl.v4, k0_pay10, k0_pay100, k0_pay101, k0_pay102, k0_pay103, k0_pay11, k0_pay115, k0_pay17, k0_pay18, k0_pay22, k0_pay25, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay46, k0_pay47, k0_pay6, k0_pay7, k0_pay8, k0_pay83, k0_pay84, k0_pay85, k0_pay87, k0_pay88, k0_pay89, k0_pay9, k0_pay90, k0_pay91, k0_pay93, k0_pay94, k0_pay95, k0_pay97, k0_pay99, Core.dq, Core.dk, Core.dv, Core.dcum, Core.dcl, Core.dqin, Core.dkin, Core.dkout, Core.ddec, Core.dqStack, Core.dscores, Core.scores, Core.stack, Core.dvScores, Core.dstate, keep, rows, pile, sums, In.pre, In.la, In.cum, In.cl, In.e, In.einv, In.eout, In.qin, In.kin, In.kout, In.dec, In.st, In.dq, In.dk, In.dv, In.dcum, In.dcl, In.dact, In.at', hd0, hd1, hd2, hd3, tri, low, upp, diag, loads]
  exact rfl

theorem dv7 : (k0_pay79 (sl.r_43 c arg1 harg1 arg2 harg2 arg4 harg4 arg5 harg5 arg6 harg6 arg8 harg8 arg15 harg15 x0 x1 x3 x4 x5 x7 xs0)) = In.dv (loads harg1 harg2 harg3 harg4 harg5 harg6 harg7 harg8 x0 x1 x2 x3 x4 x5 x6 x7) 7 (In.ds (loads harg1 harg2 harg3 harg4 harg5 harg6 harg7 harg8 x0 x1 x2 x3 x4 x5 x6 x7) (View.readAt (Elt F) arg15.view (Rect.unit (s := S512x256) ![0, 0] S512x256.size inb_S512x256_S512x256_0_0).toLoadRect (harg15.unread xs0)) 0) := by
  dsimp only [sl.r, sl.r_10, sl.r_11, sl.r_12, sl.r_13, sl.r_14, sl.r_26, sl.r_27, sl.r_29, sl.r_34, sl.r_37, sl.r_39, sl.r_4, sl.r_40, sl.r_41, sl.r_42, sl.r_43, sl.r_5, sl.r_6, sl.r_7, sl.r_8, sl.r_9, sl.v3, sl.v4, k0_pay10, k0_pay11, k0_pay17, k0_pay18, k0_pay22, k0_pay25, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay46, k0_pay47, k0_pay51, k0_pay52, k0_pay53, k0_pay55, k0_pay57, k0_pay58, k0_pay59, k0_pay6, k0_pay61, k0_pay63, k0_pay64, k0_pay65, k0_pay66, k0_pay67, k0_pay7, k0_pay79, k0_pay8, k0_pay9, Core.dq, Core.dk, Core.dv, Core.dcum, Core.dcl, Core.dqin, Core.dkin, Core.dkout, Core.ddec, Core.dqStack, Core.dscores, Core.scores, Core.stack, Core.dvScores, Core.dstate, keep, rows, pile, sums, In.pre, In.la, In.cum, In.cl, In.e, In.einv, In.eout, In.qin, In.kin, In.kout, In.dec, In.st, In.dq, In.dk, In.dv, In.dcum, In.dcl, In.dact, In.at', hd0, hd1, hd2, hd3, tri, low, upp, diag, loads, In.ds]
  exact rfl

theorem L10 : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xo12 xo13 xs0).2.2.1 = stores512 fun j => In.dv (loads harg1 harg2 harg3 harg4 harg5 harg6 harg7 harg8 x0 x1 x2 x3 x4 x5 x6 x7) j (In.ds (loads harg1 harg2 harg3 harg4 harg5 harg6 harg7 harg8 x0 x1 x2 x3 x4 x5 x6 x7) (View.readAt (Elt F) arg15.view (Rect.unit (s := S512x256) ![0, 0] S512x256.size inb_S512x256_S512x256_0_0).toLoadRect (harg15.unread xs0)) (7 - j.val)) :=
  stores512_eq (P := fun j => In.dv (loads harg1 harg2 harg3 harg4 harg5 harg6 harg7 harg8 x0 x1 x2 x3 x4 x5 x6 x7) j (In.ds (loads harg1 harg2 harg3 harg4 harg5 harg6 harg7 harg8 x0 x1 x2 x3 x4 x5 x6 x7) (View.readAt (Elt F) arg15.view (Rect.unit (s := S512x256) ![0, 0] S512x256.size inb_S512x256_S512x256_0_0).toLoadRect (harg15.unread xs0)) (7 - j.val))) (dv0 ..) (dv1 ..) (dv2 ..) (dv3 ..) (dv4 ..) (dv5 ..) (dv6 ..) (dv7 ..)

end Gla.Core.RunB

end
-- ==== Proof.Gla.GateB.lean ====
/-
  The gradients of the gate in a block that another block came before, and the state gradient it leaves.
-/
module

public import proofs.«01_k».proof.Proof.Gla.DsB

@[expose] public section

set_option maxRecDepth 16384
set_option maxHeartbeats 1000000

noncomputable section

namespace Gla.Core.RunB

open Idealize.ShloMosaic Cert.KernelIdeal Cert.KernelIdeal.Gen

open Cert.KernelIdeal.Gen.kernelRun0_B

variable {F : FTy → Type} [FloatOps F]

variable (c : Dev nD) (i : grid0.Coords) (arg1 : Memref sig .tc .vmem S512x256 .bf16) (harg1 : arg1.IsWhole) (arg2 : Memref sig .tc .vmem S512x256 .bf16) (harg2 : arg2.IsWhole) (arg3 : Memref sig .tc .vmem S512x512 .bf16) (harg3 : arg3.IsWhole) (arg4 : Memref sig .tc .vmem S512x128 .bf16) (harg4 : arg4.IsWhole) (arg5 : Memref sig .tc .vmem S1x128x256 .bf16) (harg5 : arg5.IsWhole) (arg6 : Memref sig .tc .vmem S1x1x256 .f32) (harg6 : arg6.IsWhole) (arg7 : Memref sig .tc .vmem S8x512x256 .bf16) (harg7 : arg7.IsWhole) (arg8 : Memref sig .tc .vmem S512x512 .bf16) (harg8 : arg8.IsWhole) (arg9 : Memref sig .tc .vmem S512x256 .bf16) (harg9 : arg9.IsWhole) (arg10 : Memref sig .tc .vmem S512x256 .bf16) (harg10 : arg10.IsWhole) (arg11 : Memref sig .tc .vmem S512x512 .bf16) (harg11 : arg11.IsWhole) (arg12 : Memref sig .tc .vmem S512x128 .bf16) (harg12 : arg12.IsWhole) (arg13 : Memref sig .tc .vmem S128x256 .f32) (harg13 : arg13.IsWhole) (arg14 : Memref sig .tc .vmem S1x256 .f32) (harg14 : arg14.IsWhole) (arg15 : Memref sig .tc .vmem S512x256 .f32) (harg15 : arg15.IsWhole) (hc0 : ¬cond0_0 i)
  (x0 : Vec F S512x256 .bf16) (x1 : Vec F S512x256 .bf16) (x2 : Vec F S512x512 .bf16) (x3 : Vec F S512x128 .bf16) (x4 : Vec F S1x128x256 .bf16) (x5 : Vec F S1x1x256 .f32) (x6 : Vec F S8x512x256 .bf16) (x7 : Vec F S512x512 .bf16) (xo12 : Vec F S128x256 .f32) (xo13 : Vec F S1x256 .f32) (xs0 : Vec F S512x256 .f32)

theorem dcum7 : (sl.r_49 c arg1 harg1 arg2 harg2 arg3 harg3 arg4 harg4 arg5 harg5 arg6 harg6 arg7 harg7 arg8 harg8 arg15 harg15 x0 x1 x2 x3 x4 x5 x6 x7 xs0) = In.dcum (loads harg1 harg2 harg3 harg4 harg5 harg6 harg7 harg8 x0 x1 x2 x3 x4 x5 x6 x7) 7 (In.ds (loads harg1 harg2 harg3 harg4 harg5 harg6 harg7 harg8 x0 x1 x2 x3 x4 x5 x6 x7) (View.readAt (Elt F) arg15.view (Rect.unit (s := S512x256) ![0, 0] S512x256.size inb_S512x256_S512x256_0_0).toLoadRect (harg15.unread xs0)) 0) := by
  dsimp only [sl.r, sl.r_10, sl.r_11, sl.r_12, sl.r_13, sl.r_14, sl.r_25, sl.r_26, sl.r_27, sl.r_29, sl.r_30, sl.r_31, sl.r_33, sl.r_35, sl.r_37, sl.r_38, sl.r_4, sl.r_44, sl.r_45, sl.r_46, sl.r_49, sl.r_5, sl.r_6, sl.r_7, sl.r_8, sl.r_9, sl.v3, sl.v4, k0_pay10, k0_pay11, k0_pay17, k0_pay18, k0_pay22, k0_pay25, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay46, k0_pay47, k0_pay51, k0_pay52, k0_pay53, k0_pay55, k0_pay57, k0_pay6, k0_pay60, k0_pay61, k0_pay62, k0_pay68, k0_pay69, k0_pay7, k0_pay70, k0_pay74, k0_pay75, k0_pay8, k0_pay9, Core.dq, Core.dk, Core.dv, Core.dcum, Core.dcl, Core.dqin, Core.dkin, Core.dkout, Core.ddec, Core.dqStack, Core.dscores, Core.scores, Core.stack, Core.dvScores, Core.dstate, keep, rows, pile, sums, In.pre, In.la, In.cum, In.cl, In.e, In.einv, In.eout, In.qin, In.kin, In.kout, In.dec, In.st, In.dq, In.dk, In.dv, In.dcum, In.dcl, In.dact, In.at', hd0, hd1, hd2, hd3, tri, low, upp, diag, loads, In.ds]
  exact rfl

theorem dcl7 : (sl.r_50 c arg2 harg2 arg3 harg3 arg4 harg4 arg5 harg5 arg6 harg6 arg7 harg7 arg15 harg15 x1 x2 x3 x4 x5 x6 xs0) = In.dcl (loads harg1 harg2 harg3 harg4 harg5 harg6 harg7 harg8 x0 x1 x2 x3 x4 x5 x6 x7) 7 (In.ds (loads harg1 harg2 harg3 harg4 harg5 harg6 harg7 harg8 x0 x1 x2 x3 x4 x5 x6 x7) (View.readAt (Elt F) arg15.view (Rect.unit (s := S512x256) ![0, 0] S512x256.size inb_S512x256_S512x256_0_0).toLoadRect (harg15.unread xs0)) 0) := by
  dsimp only [sl.r, sl.r_10, sl.r_11, sl.r_12, sl.r_13, sl.r_14, sl.r_27, sl.r_28, sl.r_30, sl.r_35, sl.r_36, sl.r_37, sl.r_4, sl.r_46, sl.r_47, sl.r_5, sl.r_50, sl.r_6, sl.r_7, sl.r_8, sl.r_9, sl.v3, sl.v4, k0_pay10, k0_pay11, k0_pay22, k0_pay25, k0_pay27, k0_pay28, k0_pay29, k0_pay30, k0_pay31, k0_pay32, k0_pay33, k0_pay34, k0_pay35, k0_pay36, k0_pay37, k0_pay38, k0_pay39, k0_pay42, k0_pay44, k0_pay45, k0_pay47, k0_pay53, k0_pay54, k0_pay6, k0_pay60, k0_pay61, k0_pay7, k0_pay70, k0_pay71, k0_pay74, k0_pay76, k0_pay8, k0_pay9, Core.dq, Core.dk, Core.dv, Core.dcum, Core.dcl, Core.dqin, Core.dkin, Core.dkout, Core.ddec, Core.dqStack, Core.dscores, Core.scores, Core.stack, Core.dvScores, Core.dstate, keep, rows, pile, sums, In.pre, In.la, In.cum, In.cl, In.e, In.einv, In.eout, In.qin, In.kin, In.kout, In.dec, In.st, In.dq, In.dk, In.dv, In.dcum, In.dcl, In.dact, In.at', hd0, hd1, hd2, hd3, tri, low, upp, diag, loads, In.ds]
  exact rfl

theorem dcum6 : (sl.r_81 c arg1 harg1 arg2 harg2 arg3 harg3 arg4 harg4 arg5 harg5 arg6 harg6 arg7 harg7 arg8 harg8 arg15 harg15 x0 x1 x2 x3 x4 x5 x6 x7 xs0) = In.dcum (loads harg1 harg2 harg3 harg4 harg5 harg6 harg7 harg8 x0 x1 x2 x3 x4 x5 x6 x7) 6 (In.ds (loads harg1 harg2 harg3 harg4 harg5 harg6 harg7 harg8 x0 x1 x2 x3 x4 x5 x6 x7) (View.readAt (Elt F) arg15.view (Rect.unit (s := S512x256) ![0, 0] S512x256.size inb_S512x256_S512x256_0_0).toLoadRect (harg15.unread xs0)) 1) := by
  rw [← ds1]
  dsimp only [sl.cst_115, sl.r, sl.r_10, sl.r_11, sl.r_12, sl.r_13, sl.r_14, sl.r_18, sl.r_20, sl.r_21, sl.r_4, sl.r_5, sl.r_54, sl.r_55, sl.r_56, sl.r_58, sl.r_59, sl.r_6, sl.r_60, sl.r_61, sl.r_62, sl.r_63, sl.r_65, sl.r_68, sl.r_69, sl.r_7, sl.r_70, sl.r_76, sl.r_77, sl.r_78, sl.r_8, sl.r_81, sl.r_9, sl.v3, sl.v4, k0_pay10, k0_pay104, k0_pay105, k0_pay106, k0_pay11, k0_pay110, k0_pay111, k0_pay17, k0_pay18, k0_pay22, k0_pay25, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay46, k0_pay47, k0_pay6, k0_pay7, k0_pay8, k0_pay83, k0_pay84, k0_pay85, k0_pay87, k0_pay88, k0_pay89, k0_pay9, k0_pay90, k0_pay91, k0_pay93, k0_pay96, k0_pay97, k0_pay98, Core.dq, Core.dk, Core.dv, Core.dcum, Core.dcl, Core.dqin, Core.dkin, Core.dkout, Core.ddec, Core.dqStack, Core.dscores, Core.scores, Core.stack, Core.dvScores, Core.dstate, keep, rows, pile, sums, In.pre, In.la, In.cum, In.cl, In.e, In.einv, In.eout, In.qin, In.kin, In.kout, In.dec, In.st, In.dq, In.dk, In.dv, In.dcum, In.dcl, In.dact, In.at', hd0, hd1, hd2, hd3, tri, low, upp, diag, loads]
  exact rfl

theorem dcl6 : (sl.r_82 c arg1 harg1 arg2 harg2 arg3 harg3 arg4 harg4 arg5 harg5 arg6 harg6 arg7 harg7 arg8 harg8 arg15 harg15 x0 x1 x2 x3 x4 x5 x6 x7 xs0) = In.dcl (loads harg1 harg2 harg3 harg4 harg5 harg6 harg7 harg8 x0 x1 x2 x3 x4 x5 x6 x7) 6 (In.ds (loads harg1 harg2 harg3 harg4 harg5 harg6 harg7 harg8 x0 x1 x2 x3 x4 x5 x6 x7) (View.readAt (Elt F) arg15.view (Rect.unit (s := S512x256) ![0, 0] S512x256.size inb_S512x256_S512x256_0_0).toLoadRect (harg15.unread xs0)) 1) := by
  rw [← ds1]
  dsimp only [sl.r, sl.r_10, sl.r_11, sl.r_12, sl.r_13, sl.r_14, sl.r_19, sl.r_21, sl.r_4, sl.r_5, sl.r_56, sl.r_57, sl.r_6, sl.r_62, sl.r_68, sl.r_69, sl.r_7, sl.r_78, sl.r_79, sl.r_8, sl.r_82, sl.r_9, sl.v3, sl.v4, k0_pay10, k0_pay106, k0_pay107, k0_pay11, k0_pay110, k0_pay112, k0_pay22, k0_pay25, k0_pay27, k0_pay28, k0_pay29, k0_pay30, k0_pay31, k0_pay32, k0_pay33, k0_pay34, k0_pay35, k0_pay36, k0_pay37, k0_pay38, k0_pay39, k0_pay42, k0_pay44, k0_pay45, k0_pay47, k0_pay6, k0_pay7, k0_pay8, k0_pay85, k0_pay86, k0_pay9, k0_pay96, k0_pay97, Core.dq, Core.dk, Core.dv, Core.dcum, Core.dcl, Core.dqin, Core.dkin, Core.dkout, Core.ddec, Core.dqStack, Core.dscores, Core.scores, Core.stack, Core.dvScores, Core.dstate, keep, rows, pile, sums, In.pre, In.la, In.cum, In.cl, In.e, In.einv, In.eout, In.qin, In.kin, In.kout, In.dec, In.st, In.dq, In.dk, In.dv, In.dcum, In.dcl, In.dact, In.at', hd0, hd1, hd2, hd3, tri, low, upp, diag, loads]
  exact rfl

theorem dcum5 : (sl.r_109 c arg1 harg1 arg2 harg2 arg3 harg3 arg4 harg4 arg5 harg5 arg6 harg6 arg7 harg7 arg8 harg8 arg15 harg15 x0 x1 x2 x3 x4 x5 x6 x7 xs0) = In.dcum (loads harg1 harg2 harg3 harg4 harg5 harg6 harg7 harg8 x0 x1 x2 x3 x4 x5 x6 x7) 5 (In.ds (loads harg1 harg2 harg3 harg4 harg5 harg6 harg7 harg8 x0 x1 x2 x3 x4 x5 x6 x7) (View.readAt (Elt F) arg15.view (Rect.unit (s := S512x256) ![0, 0] S512x256.size inb_S512x256_S512x256_0_0).toLoadRect (harg15.unread xs0)) 2) := by
  rw [← ds2]
  dsimp only [sl.cst_115, sl.r, sl.r_10, sl.r_100, sl.r_101, sl.r_104, sl.r_105, sl.r_106, sl.r_109, sl.r_11, sl.r_12, sl.r_13, sl.r_14, sl.r_18, sl.r_20, sl.r_21, sl.r_4, sl.r_5, sl.r_6, sl.r_7, sl.r_8, sl.r_86, sl.r_87, sl.r_88, sl.r_9, sl.r_90, sl.r_91, sl.r_92, sl.r_93, sl.r_94, sl.r_96, sl.r_99, sl.v3, sl.v4, k0_pay10, k0_pay11, k0_pay119, k0_pay120, k0_pay121, k0_pay123, k0_pay124, k0_pay125, k0_pay127, k0_pay130, k0_pay131, k0_pay132, k0_pay135, k0_pay136, k0_pay137, k0_pay141, k0_pay142, k0_pay17, k0_pay18, k0_pay22, k0_pay25, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay46, k0_pay47, k0_pay6, k0_pay7, k0_pay8, k0_pay9, Core.dq, Core.dk, Core.dv, Core.dcum, Core.dcl, Core.dqin, Core.dkin, Core.dkout, Core.ddec, Core.dqStack, Core.dscores, Core.scores, Core.stack, Core.dvScores, Core.dstate, keep, rows, pile, sums, In.pre, In.la, In.cum, In.cl, In.e, In.einv, In.eout, In.qin, In.kin, In.kout, In.dec, In.st, In.dq, In.dk, In.dv, In.dcum, In.dcl, In.dact, In.at', hd0, hd1, hd2, hd3, tri, low, upp, diag, loads]
  exact rfl

theorem dcl5 : (sl.r_110 c arg1 harg1 arg2 harg2 arg3 harg3 arg4 harg4 arg5 harg5 arg6 harg6 arg7 harg7 arg8 harg8 arg15 harg15 x0 x1 x2 x3 x4 x5 x6 x7 xs0) = In.dcl (loads harg1 harg2 harg3 harg4 harg5 harg6 harg7 harg8 x0 x1 x2 x3 x4 x5 x6 x7) 5 (In.ds (loads harg1 harg2 harg3 harg4 harg5 harg6 harg7 harg8 x0 x1 x2 x3 x4 x5 x6 x7) (View.readAt (Elt F) arg15.view (Rect.unit (s := S512x256) ![0, 0] S512x256.size inb_S512x256_S512x256_0_0).toLoadRect (harg15.unread xs0)) 2) := by
  rw [← ds2]
  dsimp only [sl.r, sl.r_10, sl.r_100, sl.r_106, sl.r_107, sl.r_11, sl.r_110, sl.r_12, sl.r_13, sl.r_14, sl.r_19, sl.r_21, sl.r_4, sl.r_5, sl.r_6, sl.r_7, sl.r_8, sl.r_88, sl.r_89, sl.r_9, sl.r_93, sl.r_99, sl.v3, sl.v4, k0_pay10, k0_pay11, k0_pay121, k0_pay122, k0_pay130, k0_pay131, k0_pay137, k0_pay138, k0_pay141, k0_pay143, k0_pay22, k0_pay25, k0_pay27, k0_pay28, k0_pay29, k0_pay30, k0_pay31, k0_pay32, k0_pay33, k0_pay34, k0_pay35, k0_pay36, k0_pay37, k0_pay38, k0_pay39, k0_pay42, k0_pay44, k0_pay45, k0_pay47, k0_pay6, k0_pay7, k0_pay8, k0_pay9, Core.dq, Core.dk, Core.dv, Core.dcum, Core.dcl, Core.dqin, Core.dkin, Core.dkout, Core.ddec, Core.dqStack, Core.dscores, Core.scores, Core.stack, Core.dvScores, Core.dstate, keep, rows, pile, sums, In.pre, In.la, In.cum, In.cl, In.e, In.einv, In.eout, In.qin, In.kin, In.kout, In.dec, In.st, In.dq, In.dk, In.dv, In.dcum, In.dcl, In.dact, In.at', hd0, hd1, hd2, hd3, tri, low, upp, diag, loads]
  exact rfl

theorem dcum4 : (sl.r_134 c arg1 harg1 arg2 harg2 arg3 harg3 arg4 harg4 arg5 harg5 arg6 harg6 arg7 harg7 arg8 harg8 arg15 harg15 x0 x1 x2 x3 x4 x5 x6 x7 xs0) = In.dcum (loads harg1 harg2 harg3 harg4 harg5 harg6 harg7 harg8 x0 x1 x2 x3 x4 x5 x6 x7) 4 (In.ds (loads harg1 harg2 harg3 harg4 harg5 harg6 harg7 harg8 x0 x1 x2 x3 x4 x5 x6 x7) (View.readAt (Elt F) arg15.view (Rect.unit (s := S512x256) ![0, 0] S512x256.size inb_S512x256_S512x256_0_0).toLoadRect (harg15.unread xs0)) 3) := by
  rw [← ds3]
  dsimp only [sl.r, sl.r_10, sl.r_11, sl.r_114, sl.r_115, sl.r_116, sl.r_118, sl.r_119, sl.r_12, sl.r_120, sl.r_121, sl.r_123, sl.r_126, sl.r_127, sl.r_128, sl.r_13, sl.r_130, sl.r_131, sl.r_132, sl.r_134, sl.r_14, sl.r_18, sl.r_20, sl.r_21, sl.r_4, sl.r_5, sl.r_6, sl.r_7, sl.r_8, sl.r_9, sl.v3, sl.v4, k0_pay10, k0_pay11, k0_pay150, k0_pay151, k0_pay152, k0_pay154, k0_pay155, k0_pay157, k0_pay160, k0_pay161, k0_pay162, k0_pay163, k0_pay164, k0_pay166, k0_pay167, k0_pay168, k0_pay17, k0_pay171, k0_pay172, k0_pay18, k0_pay22, k0_pay25, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay46, k0_pay47, k0_pay6, k0_pay7, k0_pay8, k0_pay9, Core.dq, Core.dk, Core.dv, Core.dcum, Core.dcl, Core.dqin, Core.dkin, Core.dkout, Core.ddec, Core.dqStack, Core.dscores, Core.scores, Core.stack, Core.dvScores, Core.dstate, keep, rows, pile, sums, In.pre, In.la, In.cum, In.cl, In.e, In.einv, In.eout, In.qin, In.kin, In.kout, In.dec, In.st, In.dq, In.dk, In.dv, In.dcum, In.dcl, In.dact, In.at', hd0, hd1, hd2, hd3, tri, low, upp, diag, loads]
  exact rfl

theorem dcl4 : (sl.r_135 c arg1 harg1 arg2 harg2 arg3 harg3 arg4 harg4 arg5 harg5 arg6 harg6 arg7 harg7 arg8 harg8 arg15 harg15 x0 x1 x2 x3 x4 x5 x6 x7 xs0) = In.dcl (loads harg1 harg2 harg3 harg4 harg5 harg6 harg7 harg8 x0 x1 x2 x3 x4 x5 x6 x7) 4 (In.ds (loads harg1 harg2 harg3 harg4 harg5 harg6 harg7 harg8 x0 x1 x2 x3 x4 x5 x6 x7) (View.readAt (Elt F) arg15.view (Rect.unit (s := S512x256) ![0, 0] S512x256.size inb_S512x256_S512x256_0_0).toLoadRect (harg15.unread xs0)) 3) := by
  rw [← ds3]
  dsimp only [sl.r, sl.r_10, sl.r_11, sl.r_116, sl.r_117, sl.r_12, sl.r_120, sl.r_126, sl.r_127, sl.r_13, sl.r_132, sl.r_133, sl.r_135, sl.r_14, sl.r_19, sl.r_21, sl.r_4, sl.r_5, sl.r_6, sl.r_7, sl.r_8, sl.r_9, sl.v3, sl.v4, k0_pay10, k0_pay11, k0_pay152, k0_pay153, k0_pay160, k0_pay161, k0_pay168, k0_pay169, k0_pay171, k0_pay173, k0_pay22, k0_pay25, k0_pay27, k0_pay28, k0_pay29, k0_pay30, k0_pay31, k0_pay32, k0_pay33, k0_pay34, k0_pay35, k0_pay36, k0_pay37, k0_pay38, k0_pay39, k0_pay42, k0_pay44, k0_pay45, k0_pay47, k0_pay6, k0_pay7, k0_pay8, k0_pay9, Core.dq, Core.dk, Core.dv, Core.dcum, Core.dcl, Core.dqin, Core.dkin, Core.dkout, Core.ddec, Core.dqStack, Core.dscores, Core.scores, Core.stack, Core.dvScores, Core.dstate, keep, rows, pile, sums, In.pre, In.la, In.cum, In.cl, In.e, In.einv, In.eout, In.qin, In.kin, In.kout, In.dec, In.st, In.dq, In.dk, In.dv, In.dcum, In.dcl, In.dact, In.at', hd0, hd1, hd2, hd3, tri, low, upp, diag, loads]
  exact rfl

theorem dcum3 : (sl.r_160 c arg1 harg1 arg2 harg2 arg3 harg3 arg4 harg4 arg5 harg5 arg6 harg6 arg7 harg7 arg8 harg8 arg15 harg15 x0 x1 x2 x3 x4 x5 x6 x7 xs0) = In.dcum (loads harg1 harg2 harg3 harg4 harg5 harg6 harg7 harg8 x0 x1 x2 x3 x4 x5 x6 x7) 3 (In.ds (loads harg1 harg2 harg3 harg4 harg5 harg6 harg7 harg8 x0 x1 x2 x3 x4 x5 x6 x7) (View.readAt (Elt F) arg15.view (Rect.unit (s := S512x256) ![0, 0] S512x256.size inb_S512x256_S512x256_0_0).toLoadRect (harg15.unread xs0)) 4) := by
  rw [← ds4]
  dsimp only [sl.r, sl.r_10, sl.r_11, sl.r_12, sl.r_13, sl.r_139, sl.r_14, sl.r_140, sl.r_141, sl.r_144, sl.r_145, sl.r_146, sl.r_148, sl.r_151, sl.r_152, sl.r_153, sl.r_154, sl.r_155, sl.r_156, sl.r_157, sl.r_159, sl.r_160, sl.r_18, sl.r_20, sl.r_21, sl.r_4, sl.r_5, sl.r_6, sl.r_7, sl.r_8, sl.r_9, sl.v3, sl.v4, k0_pay10, k0_pay11, k0_pay17, k0_pay18, k0_pay180, k0_pay181, k0_pay182, k0_pay185, k0_pay187, k0_pay190, k0_pay191, k0_pay192, k0_pay193, k0_pay194, k0_pay195, k0_pay196, k0_pay198, k0_pay199, k0_pay200, k0_pay202, k0_pay203, k0_pay22, k0_pay25, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay46, k0_pay47, k0_pay6, k0_pay7, k0_pay8, k0_pay9, Core.dq, Core.dk, Core.dv, Core.dcum, Core.dcl, Core.dqin, Core.dkin, Core.dkout, Core.ddec, Core.dqStack, Core.dscores, Core.scores, Core.stack, Core.dvScores, Core.dstate, keep, rows, pile, sums, In.pre, In.la, In.cum, In.cl, In.e, In.einv, In.eout, In.qin, In.kin, In.kout, In.dec, In.st, In.dq, In.dk, In.dv, In.dcum, In.dcl, In.dact, In.at', hd0, hd1, hd2, hd3, tri, low, upp, diag, loads]
  exact rfl

theorem dcl3 : (sl.r_161 c arg1 harg1 arg2 harg2 arg3 harg3 arg4 harg4 arg5 harg5 arg6 harg6 arg7 harg7 arg8 harg8 arg15 harg15 x0 x1 x2 x3 x4 x5 x6 x7 xs0) = In.dcl (loads harg1 harg2 harg3 harg4 harg5 harg6 harg7 harg8 x0 x1 x2 x3 x4 x5 x6 x7) 3 (In.ds (loads harg1 harg2 harg3 harg4 harg5 harg6 harg7 harg8 x0 x1 x2 x3 x4 x5 x6 x7) (View.readAt (Elt F) arg15.view (Rect.unit (s := S512x256) ![0, 0] S512x256.size inb_S512x256_S512x256_0_0).toLoadRect (harg15.unread xs0)) 4) := by
  rw [← ds4]
  dsimp only [sl.r, sl.r_10, sl.r_11, sl.r_12, sl.r_13, sl.r_14, sl.r_141, sl.r_142, sl.r_143, sl.r_145, sl.r_151, sl.r_152, sl.r_161, sl.r_19, sl.r_21, sl.r_4, sl.r_5, sl.r_6, sl.r_7, sl.r_8, sl.r_9, sl.v3, sl.v4, k0_pay10, k0_pay11, k0_pay182, k0_pay183, k0_pay184, k0_pay190, k0_pay191, k0_pay200, k0_pay202, k0_pay204, k0_pay22, k0_pay25, k0_pay27, k0_pay28, k0_pay29, k0_pay30, k0_pay31, k0_pay32, k0_pay33, k0_pay34, k0_pay35, k0_pay36, k0_pay37, k0_pay38, k0_pay39, k0_pay42, k0_pay44, k0_pay45, k0_pay47, k0_pay6, k0_pay7, k0_pay8, k0_pay9, Core.dq, Core.dk, Core.dv, Core.dcum, Core.dcl, Core.dqin, Core.dkin, Core.dkout, Core.ddec, Core.dqStack, Core.dscores, Core.scores, Core.stack, Core.dvScores, Core.dstate, keep, rows, pile, sums, In.pre, In.la, In.cum, In.cl, In.e, In.einv, In.eout, In.qin, In.kin, In.kout, In.dec, In.st, In.dq, In.dk, In.dv, In.dcum, In.dcl, In.dact, In.at', hd0, hd1, hd2, hd3, tri, low, upp, diag, loads]
  exact rfl

theorem dcum2 : (sl.r_185 c arg1 harg1 arg2 harg2 arg3 harg3 arg4 harg4 arg5 harg5 arg6 harg6 arg7 harg7 arg8 harg8 arg15 harg15 x0 x1 x2 x3 x4 x5 x6 x7 xs0) = In.dcum (loads harg1 harg2 harg3 harg4 harg5 harg6 harg7 harg8 x0 x1 x2 x3 x4 x5 x6 x7) 2 (In.ds (loads harg1 harg2 harg3 harg4 harg5 harg6 harg7 harg8 x0 x1 x2 x3 x4 x5 x6 x7) (View.readAt (Elt F) arg15.view (Rect.unit (s := S512x256) ![0, 0] S512x256.size inb_S512x256_S512x256_0_0).toLoadRect (harg15.unread xs0)) 5) := by
  rw [← ds5]
  dsimp only [sl.cst_306, sl.r, sl.r_10, sl.r_11, sl.r_12, sl.r_13, sl.r_14, sl.r_165, sl.r_166, sl.r_167, sl.r_169, sl.r_170, sl.r_171, sl.r_173, sl.r_176, sl.r_177, sl.r_178, sl.r_179, sl.r_18, sl.r_180, sl.r_181, sl.r_183, sl.r_184, sl.r_185, sl.r_20, sl.r_21, sl.r_4, sl.r_5, sl.r_6, sl.r_7, sl.r_8, sl.r_9, sl.v3, sl.v4, k0_pay10, k0_pay11, k0_pay17, k0_pay18, k0_pay211, k0_pay212, k0_pay213, k0_pay215, k0_pay217, k0_pay22, k0_pay220, k0_pay221, k0_pay222, k0_pay223, k0_pay224, k0_pay225, k0_pay227, k0_pay228, k0_pay229, k0_pay230, k0_pay231, k0_pay232, k0_pay234, k0_pay235, k0_pay25, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay46, k0_pay47, k0_pay6, k0_pay7, k0_pay8, k0_pay9, Core.dq, Core.dk, Core.dv, Core.dcum, Core.dcl, Core.dqin, Core.dkin, Core.dkout, Core.ddec, Core.dqStack, Core.dscores, Core.scores, Core.stack, Core.dvScores, Core.dstate, keep, rows, pile, sums, In.pre, In.la, In.cum, In.cl, In.e, In.einv, In.eout, In.qin, In.kin, In.kout, In.dec, In.st, In.dq, In.dk, In.dv, In.dcum, In.dcl, In.dact, In.at', hd0, hd1, hd2, hd3, tri, low, upp, diag, loads]
  exact rfl

theorem dcl2 : (sl.r_186 c arg1 harg1 arg2 harg2 arg3 harg3 arg4 harg4 arg5 harg5 arg6 harg6 arg7 harg7 arg8 harg8 arg15 harg15 x0 x1 x2 x3 x4 x5 x6 x7 xs0) = In.dcl (loads harg1 harg2 harg3 harg4 harg5 harg6 harg7 harg8 x0 x1 x2 x3 x4 x5 x6 x7) 2 (In.ds (loads harg1 harg2 harg3 harg4 harg5 harg6 harg7 harg8 x0 x1 x2 x3 x4 x5 x6 x7) (View.readAt (Elt F) arg15.view (Rect.unit (s := S512x256) ![0, 0] S512x256.size inb_S512x256_S512x256_0_0).toLoadRect (harg15.unread xs0)) 5) := by
  rw [← ds5]
  dsimp only [sl.r, sl.r_10, sl.r_11, sl.r_12, sl.r_13, sl.r_14, sl.r_167, sl.r_168, sl.r_170, sl.r_176, sl.r_177, sl.r_186, sl.r_19, sl.r_21, sl.r_4, sl.r_5, sl.r_6, sl.r_7, sl.r_8, sl.r_9, sl.v3, sl.v4, k0_pay10, k0_pay11, k0_pay213, k0_pay214, k0_pay22, k0_pay220, k0_pay221, k0_pay232, k0_pay234, k0_pay236, k0_pay25, k0_pay27, k0_pay28, k0_pay29, k0_pay30, k0_pay31, k0_pay32, k0_pay33, k0_pay34, k0_pay35, k0_pay36, k0_pay37, k0_pay38, k0_pay39, k0_pay42, k0_pay44, k0_pay45, k0_pay47, k0_pay6, k0_pay7, k0_pay8, k0_pay9, Core.dq, Core.dk, Core.dv, Core.dcum, Core.dcl, Core.dqin, Core.dkin, Core.dkout, Core.ddec, Core.dqStack, Core.dscores, Core.scores, Core.stack, Core.dvScores, Core.dstate, keep, rows, pile, sums, In.pre, In.la, In.cum, In.cl, In.e, In.einv, In.eout, In.qin, In.kin, In.kout, In.dec, In.st, In.dq, In.dk, In.dv, In.dcum, In.dcl, In.dact, In.at', hd0, hd1, hd2, hd3, tri, low, upp, diag, loads]
  exact rfl

theorem dcum1 : (sl.r_210 c arg1 harg1 arg2 harg2 arg3 harg3 arg4 harg4 arg5 harg5 arg6 harg6 arg7 harg7 arg8 harg8 arg15 harg15 x0 x1 x2 x3 x4 x5 x6 x7 xs0) = In.dcum (loads harg1 harg2 harg3 harg4 harg5 harg6 harg7 harg8 x0 x1 x2 x3 x4 x5 x6 x7) 1 (In.ds (loads harg1 harg2 harg3 harg4 harg5 harg6 harg7 harg8 x0 x1 x2 x3 x4 x5 x6 x7) (View.readAt (Elt F) arg15.view (Rect.unit (s := S512x256) ![0, 0] S512x256.size inb_S512x256_S512x256_0_0).toLoadRect (harg15.unread xs0)) 6) := by
  rw [← ds6]
  dsimp only [sl.cst_115, sl.r, sl.r_10, sl.r_11, sl.r_12, sl.r_13, sl.r_14, sl.r_18, sl.r_191, sl.r_192, sl.r_193, sl.r_195, sl.r_196, sl.r_197, sl.r_199, sl.r_20, sl.r_202, sl.r_203, sl.r_204, sl.r_205, sl.r_207, sl.r_208, sl.r_209, sl.r_21, sl.r_210, sl.r_4, sl.r_5, sl.r_6, sl.r_7, sl.r_8, sl.r_9, sl.v3, sl.v4, k0_pay10, k0_pay11, k0_pay17, k0_pay18, k0_pay22, k0_pay243, k0_pay244, k0_pay245, k0_pay247, k0_pay249, k0_pay25, k0_pay252, k0_pay253, k0_pay254, k0_pay255, k0_pay257, k0_pay258, k0_pay259, k0_pay260, k0_pay261, k0_pay262, k0_pay264, k0_pay265, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay46, k0_pay47, k0_pay6, k0_pay7, k0_pay8, k0_pay9, Core.dq, Core.dk, Core.dv, Core.dcum, Core.dcl, Core.dqin, Core.dkin, Core.dkout, Core.ddec, Core.dqStack, Core.dscores, Core.scores, Core.stack, Core.dvScores, Core.dstate, keep, rows, pile, sums, In.pre, In.la, In.cum, In.cl, In.e, In.einv, In.eout, In.qin, In.kin, In.kout, In.dec, In.st, In.dq, In.dk, In.dv, In.dcum, In.dcl, In.dact, In.at', hd0, hd1, hd2, hd3, tri, low, upp, diag, loads]
  exact rfl

theorem dcl1 : (sl.r_211 c arg1 harg1 arg2 harg2 arg3 harg3 arg4 harg4 arg5 harg5 arg6 harg6 arg7 harg7 arg8 harg8 arg15 harg15 x0 x1 x2 x3 x4 x5 x6 x7 xs0) = In.dcl (loads harg1 harg2 harg3 harg4 harg5 harg6 harg7 harg8 x0 x1 x2 x3 x4 x5 x6 x7) 1 (In.ds (loads harg1 harg2 harg3 harg4 harg5 harg6 harg7 harg8 x0 x1 x2 x3 x4 x5 x6 x7) (View.readAt (Elt F) arg15.view (Rect.unit (s := S512x256) ![0, 0] S512x256.size inb_S512x256_S512x256_0_0).toLoadRect (harg15.unread xs0)) 6) := by
  rw [← ds6]
  dsimp only [sl.r, sl.r_10, sl.r_11, sl.r_12, sl.r_13, sl.r_14, sl.r_19, sl.r_193, sl.r_194, sl.r_196, sl.r_202, sl.r_203, sl.r_21, sl.r_211, sl.r_4, sl.r_5, sl.r_6, sl.r_7, sl.r_8, sl.r_9, sl.v3, sl.v4, k0_pay10, k0_pay11, k0_pay22, k0_pay245, k0_pay246, k0_pay25, k0_pay252, k0_pay253, k0_pay262, k0_pay264, k0_pay266, k0_pay27, k0_pay28, k0_pay29, k0_pay30, k0_pay31, k0_pay32, k0_pay33, k0_pay34, k0_pay35, k0_pay36, k0_pay37, k0_pay38, k0_pay39, k0_pay42, k0_pay44, k0_pay45, k0_pay47, k0_pay6, k0_pay7, k0_pay8, k0_pay9, Core.dq, Core.dk, Core.dv, Core.dcum, Core.dcl, Core.dqin, Core.dkin, Core.dkout, Core.ddec, Core.dqStack, Core.dscores, Core.scores, Core.stack, Core.dvScores, Core.dstate, keep, rows, pile, sums, In.pre, In.la, In.cum, In.cl, In.e, In.einv, In.eout, In.qin, In.kin, In.kout, In.dec, In.st, In.dq, In.dk, In.dv, In.dcum, In.dcl, In.dact, In.at', hd0, hd1, hd2, hd3, tri, low, upp, diag, loads]
  exact rfl

theorem dcum0 : (sl.r_237 c arg1 harg1 arg2 harg2 arg3 harg3 arg4 harg4 arg5 harg5 arg6 harg6 arg7 harg7 arg8 harg8 arg15 harg15 x0 x1 x2 x3 x4 x5 x6 x7 xs0) = In.dcum (loads harg1 harg2 harg3 harg4 harg5 harg6 harg7 harg8 x0 x1 x2 x3 x4 x5 x6 x7) 0 (In.ds (loads harg1 harg2 harg3 harg4 harg5 harg6 harg7 harg8 x0 x1 x2 x3 x4 x5 x6 x7) (View.readAt (Elt F) arg15.view (Rect.unit (s := S512x256) ![0, 0] S512x256.size inb_S512x256_S512x256_0_0).toLoadRect (harg15.unread xs0)) 7) := by
  rw [← ds7]
  dsimp only [sl.cst_115, sl.r, sl.r_10, sl.r_11, sl.r_12, sl.r_13, sl.r_14, sl.r_18, sl.r_20, sl.r_21, sl.r_216, sl.r_217, sl.r_218, sl.r_220, sl.r_221, sl.r_222, sl.r_224, sl.r_227, sl.r_229, sl.r_230, sl.r_232, sl.r_233, sl.r_234, sl.r_237, sl.r_4, sl.r_5, sl.r_6, sl.r_7, sl.r_8, sl.r_9, sl.v3, sl.v4, k0_pay10, k0_pay11, k0_pay17, k0_pay18, k0_pay22, k0_pay25, k0_pay27, k0_pay273, k0_pay274, k0_pay275, k0_pay277, k0_pay279, k0_pay28, k0_pay282, k0_pay283, k0_pay284, k0_pay286, k0_pay287, k0_pay288, k0_pay289, k0_pay29, k0_pay290, k0_pay291, k0_pay292, k0_pay296, k0_pay297, k0_pay30, k0_pay31, k0_pay32, k0_pay33, k0_pay34, k0_pay35, k0_pay36, k0_pay37, k0_pay38, k0_pay39, k0_pay40, k0_pay41, k0_pay42, k0_pay43, k0_pay44, k0_pay46, k0_pay47, k0_pay6, k0_pay7, k0_pay8, k0_pay9, Core.dq, Core.dk, Core.dv, Core.dcum, Core.dcl, Core.dqin, Core.dkin, Core.dkout, Core.ddec, Core.dqStack, Core.dscores, Core.scores, Core.stack, Core.dvScores, Core.dstate, keep, rows, pile, sums, In.pre, In.la, In.cum, In.cl, In.e, In.einv, In.eout, In.qin, In.kin, In.kout, In.dec, In.st, In.dq, In.dk, In.dv, In.dcum, In.dcl, In.dact, In.at', hd0, hd1, hd2, hd3, tri, low, upp, diag, loads]
  exact rfl

theorem dcl0 : (sl.r_238 c arg1 harg1 arg2 harg2 arg3 harg3 arg4 harg4 arg5 harg5 arg6 harg6 arg7 harg7 arg8 harg8 arg15 harg15 x0 x1 x2 x3 x4 x5 x6 x7 xs0) = In.dcl (loads harg1 harg2 harg3 harg4 harg5 harg6 harg7 harg8 x0 x1 x2 x3 x4 x5 x6 x7) 0 (In.ds (loads harg1 harg2 harg3 harg4 harg5 harg6 harg7 harg8 x0 x1 x2 x3 x4 x5 x6 x7) (View.readAt (Elt F) arg15.view (Rect.unit (s := S512x256) ![0, 0] S512x256.size inb_S512x256_S512x256_0_0).toLoadRect (harg15.unread xs0)) 7) := by
  rw [← ds7]
  dsimp only [sl.r, sl.r_10, sl.r_11, sl.r_12, sl.r_13, sl.r_14, sl.r_19, sl.r_21, sl.r_218, sl.r_219, sl.r_221, sl.r_227, sl.r_228, sl.r_229, sl.r_238, sl.r_4, sl.r_5, sl.r_6, sl.r_7, sl.r_8, sl.r_9, sl.v3, sl.v4, k0_pay10, k0_pay11, k0_pay22, k0_pay25, k0_pay27, k0_pay275, k0_pay276, k0_pay28, k0_pay282, k0_pay283, k0_pay29, k0_pay292, k0_pay296, k0_pay298, k0_pay30, k0_pay31, k0_pay32, k0_pay33, k0_pay34, k0_pay35, k0_pay36, k0_pay37, k0_pay38, k0_pay39, k0_pay42, k0_pay44, k0_pay45, k0_pay47, k0_pay6, k0_pay7, k0_pay8, k0_pay9, Core.dq, Core.dk, Core.dv, Core.dcum, Core.dcl, Core.dqin, Core.dkin, Core.dkout, Core.ddec, Core.dqStack, Core.dscores, Core.scores, Core.stack, Core.dvScores, Core.dstate, keep, rows, pile, sums, In.pre, In.la, In.cum, In.cl, In.e, In.einv, In.eout, In.qin, In.kin, In.kout, In.dec, In.st, In.dq, In.dk, In.dv, In.dcum, In.dcl, In.dact, In.at', hd0, hd1, hd2, hd3, tri, low, upp, diag, loads]
  exact rfl

theorem dact : (sl.r_3 c arg4 harg4 arg5 harg5 arg6 harg6 x3 x4 x5) = In.dact (loads harg1 harg2 harg3 harg4 harg5 harg6 harg7 harg8 x0 x1 x2 x3 x4 x5 x6 x7) := by
  dsimp only [sl.r_3, k0_pay25, k0_pay26, Core.dq, Core.dk, Core.dv, Core.dcum, Core.dcl, Core.dqin, Core.dkin, Core.dkout, Core.ddec, Core.dqStack, Core.dscores, Core.scores, Core.stack, Core.dvScores, Core.dstate, keep, rows, pile, sums, In.pre, In.la, In.cum, In.cl, In.e, In.einv, In.eout, In.qin, In.kin, In.kout, In.dec, In.st, In.dq, In.dk, In.dv, In.dcum, In.dcl, In.dact, In.at', hd0, hd1, hd2, hd3, tri, low, upp, diag, loads]

theorem dpre : (sl.r_239 c arg1 harg1 arg2 harg2 arg3 harg3 arg4 harg4 arg5 harg5 arg6 harg6 arg7 harg7 arg8 harg8 arg15 harg15 x0 x1 x2 x3 x4 x5 x6 x7 xs0) = In.dpre (loads harg1 harg2 harg3 harg4 harg5 harg6 harg7 harg8 x0 x1 x2 x3 x4 x5 x6 x7) (View.readAt (Elt F) arg15.view (Rect.unit (s := S512x256) ![0, 0] S512x256.size inb_S512x256_S512x256_0_0).toLoadRect (harg15.unread xs0)) := by
  rw [sl.r_239, dact (harg1 := harg1) (harg2 := harg2) (harg3 := harg3) (harg4 := harg4) (harg5 := harg5) (harg6 := harg6) (harg7 := harg7) (harg8 := harg8) (x0 := x0) (x1 := x1) (x2 := x2) (x3 := x3) (x4 := x4) (x5 := x5) (x6 := x6) (x7 := x7), dcum7 (harg1 := harg1) (harg2 := harg2) (harg3 := harg3) (harg4 := harg4) (harg5 := harg5) (harg6 := harg6) (harg7 := harg7) (harg8 := harg8) (x0 := x0) (x1 := x1) (x2 := x2) (x3 := x3) (x4 := x4) (x5 := x5) (x6 := x6) (x7 := x7), dcl7 (harg1 := harg1) (harg2 := harg2) (harg3 := harg3) (harg4 := harg4) (harg5 := harg5) (harg6 := harg6) (harg7 := harg7) (harg8 := harg8) (x0 := x0) (x1 := x1) (x2 := x2) (x3 := x3) (x4 := x4) (x5 := x5) (x6 := x6) (x7 := x7), dcum6 (harg1 := harg1) (harg2 := harg2) (harg3 := harg3) (harg4 := harg4) (harg5 := harg5) (harg6 := harg6) (harg7 := harg7) (harg8 := harg8) (x0 := x0) (x1 := x1) (x2 := x2) (x3 := x3) (x4 := x4) (x5 := x5) (x6 := x6) (x7 := x7), dcl6 (harg1 := harg1) (harg2 := harg2) (harg3 := harg3) (harg4 := harg4) (harg5 := harg5) (harg6 := harg6) (harg7 := harg7) (harg8 := harg8) (x0 := x0) (x1 := x1) (x2 := x2) (x3 := x3) (x4 := x4) (x5 := x5) (x6 := x6) (x7 := x7), dcum5 (harg1 := harg1) (harg2 := harg2) (harg3 := harg3) (harg4 := harg4) (harg5 := harg5) (harg6 := harg6) (harg7 := harg7) (harg8 := harg8) (x0 := x0) (x1 := x1) (x2 := x2) (x3 := x3) (x4 := x4) (x5 := x5) (x6 := x6) (x7 := x7), dcl5 (harg1 := harg1) (harg2 := harg2) (harg3 := harg3) (harg4 := harg4) (harg5 := harg5) (harg6 := harg6) (harg7 := harg7) (harg8 := harg8) (x0 := x0) (x1 := x1) (x2 := x2) (x3 := x3) (x4 := x4) (x5 := x5) (x6 := x6) (x7 := x7), dcum4 (harg1 := harg1) (harg2 := harg2) (harg3 := harg3) (harg4 := harg4) (harg5 := harg5) (harg6 := harg6) (harg7 := harg7) (harg8 := harg8) (x0 := x0) (x1 := x1) (x2 := x2) (x3 := x3) (x4 := x4) (x5 := x5) (x6 := x6) (x7 := x7), dcl4 (harg1 := harg1) (harg2 := harg2) (harg3 := harg3) (harg4 := harg4) (harg5 := harg5) (harg6 := harg6) (harg7 := harg7) (harg8 := harg8) (x0 := x0) (x1 := x1) (x2 := x2) (x3 := x3) (x4 := x4) (x5 := x5) (x6 := x6) (x7 := x7), dcum3 (harg1 := harg1) (harg2 := harg2) (harg3 := harg3) (harg4 := harg4) (harg5 := harg5) (harg6 := harg6) (harg7 := harg7) (harg8 := harg8) (x0 := x0) (x1 := x1) (x2 := x2) (x3 := x3) (x4 := x4) (x5 := x5) (x6 := x6) (x7 := x7), dcl3 (harg1 := harg1) (harg2 := harg2) (harg3 := harg3) (harg4 := harg4) (harg5 := harg5) (harg6 := harg6) (harg7 := harg7) (harg8 := harg8) (x0 := x0) (x1 := x1) (x2 := x2) (x3 := x3) (x4 := x4) (x5 := x5) (x6 := x6) (x7 := x7), dcum2 (harg1 := harg1) (harg2 := harg2) (harg3 := harg3) (harg4 := harg4) (harg5 := harg5) (harg6 := harg6) (harg7 := harg7) (harg8 := harg8) (x0 := x0) (x1 := x1) (x2 := x2) (x3 := x3) (x4 := x4) (x5 := x5) (x6 := x6) (x7 := x7), dcl2 (harg1 := harg1) (harg2 := harg2) (harg3 := harg3) (harg4 := harg4) (harg5 := harg5) (harg6 := harg6) (harg7 := harg7) (harg8 := harg8) (x0 := x0) (x1 := x1) (x2 := x2) (x3 := x3) (x4 := x4) (x5 := x5) (x6 := x6) (x7 := x7), dcum1 (harg1 := harg1) (harg2 := harg2) (harg3 := harg3) (harg4 := harg4) (harg5 := harg5) (harg6 := harg6) (harg7 := harg7) (harg8 := harg8) (x0 := x0) (x1 := x1) (x2 := x2) (x3 := x3) (x4 := x4) (x5 := x5) (x6 := x6) (x7 := x7), dcl1 (harg1 := harg1) (harg2 := harg2) (harg3 := harg3) (harg4 := harg4) (harg5 := harg5) (harg6 := harg6) (harg7 := harg7) (harg8 := harg8) (x0 := x0) (x1 := x1) (x2 := x2) (x3 := x3) (x4 := x4) (x5 := x5) (x6 := x6) (x7 := x7), dcum0 (harg1 := harg1) (harg2 := harg2) (harg3 := harg3) (harg4 := harg4) (harg5 := harg5) (harg6 := harg6) (harg7 := harg7) (harg8 := harg8) (x0 := x0) (x1 := x1) (x2 := x2) (x3 := x3) (x4 := x4) (x5 := x5) (x6 := x6) (x7 := x7), dcl0 (harg1 := harg1) (harg2 := harg2) (harg3 := harg3) (harg4 := harg4) (harg5 := harg5) (harg6 := harg6) (harg7 := harg7) (harg8 := harg8) (x0 := x0) (x1 := x1) (x2 := x2) (x3 := x3) (x4 := x4) (x5 := x5) (x6 := x6) (x7 := x7)]
  dsimp only [k0_pay302, sl.r_1, In.dpre, pile, sums, upp]
  exact rfl

theorem dlr : (k0_pay2 (sl.r_240 c arg1 harg1 arg2 harg2 arg3 harg3 arg4 harg4 arg5 harg5 arg6 harg6 arg7 harg7 arg8 harg8 arg15 harg15 x0 x1 x2 x3 x4 x5 x6 x7 xs0)) = In.dlr (loads harg1 harg2 harg3 harg4 harg5 harg6 harg7 harg8 x0 x1 x2 x3 x4 x5 x6 x7) (View.readAt (Elt F) arg15.view (Rect.unit (s := S512x256) ![0, 0] S512x256.size inb_S512x256_S512x256_0_0).toLoadRect (harg15.unread xs0)) := by
  rw [In.dlr, ← dpre (c := c)]
  dsimp only [k0_pay2, sl.r_240, sl.r_239, k0_pay304, k0_pay303, loads]

theorem dw : (sl.r_241 c arg1 harg1 arg2 harg2 arg3 harg3 arg4 harg4 arg5 harg5 arg6 harg6 arg7 harg7 arg8 harg8 arg13 harg13 arg15 harg15 x0 x1 x2 x3 x4 x5 x6 x7 xo12 xs0) = In.dw (loads harg1 harg2 harg3 harg4 harg5 harg6 harg7 harg8 x0 x1 x2 x3 x4 x5 x6 x7) (View.readAt (Elt F) arg15.view (Rect.unit (s := S512x256) ![0, 0] S512x256.size inb_S512x256_S512x256_0_0).toLoadRect (harg15.unread xs0)) (View.readAt (Elt F) arg13.view (Rect.unit (s := S128x256) ![0, 0] S128x256.size inb_S128x256_S128x256_0_0).toLoadRect (harg13.unread xo12)) := by
  rw [In.dw, ← dpre (c := c)]
  dsimp only [sl.r_241, sl.r_239, k0_pay305, k0_pay303, loads]

theorem db : (k0_pay1 (sl.r_239 c arg1 harg1 arg2 harg2 arg3 harg3 arg4 harg4 arg5 harg5 arg6 harg6 arg7 harg7 arg8 harg8 arg15 harg15 x0 x1 x2 x3 x4 x5 x6 x7 xs0) (View.readAt (Elt F) (Memref.view arg14) (Rect.toLoadRect (Rect.unit (Matrix.vecCons 0 (Matrix.vecCons 0 Matrix.vecEmpty)) (Matrix.vecCons 1 (Matrix.vecCons 256 Matrix.vecEmpty)) inb_S1x256_S1x256_0_0)) (Memref.IsWhole.unread harg14 xo13))) = In.db (loads harg1 harg2 harg3 harg4 harg5 harg6 harg7 harg8 x0 x1 x2 x3 x4 x5 x6 x7) (View.readAt (Elt F) arg15.view (Rect.unit (s := S512x256) ![0, 0] S512x256.size inb_S512x256_S512x256_0_0).toLoadRect (harg15.unread xs0)) (View.readAt (Elt F) arg14.view (Rect.unit (s := S1x256) ![0, 0] S1x256.size inb_S1x256_S1x256_0_0).toLoadRect (harg14.unread xo13)) := by
  rw [In.db, ← dpre (c := c)]
  dsimp only [k0_pay1]

theorem dsLast : (k0_pay293 sl.r_2 (sl.r_219 c arg4 harg4 arg5 harg5 arg6 harg6 x3 x4 x5) (sl.r_222 c arg8 harg8 x7) (sl.r_223 c arg1 harg1 arg4 harg4 arg5 harg5 arg6 harg6 x0 x3 x4 x5) (sl.v1233 c arg1 harg1 arg4 harg4 arg5 harg5 arg6 harg6 arg8 harg8 arg15 harg15 x0 x3 x4 x5 x7 xs0)) = In.ds (loads harg1 harg2 harg3 harg4 harg5 harg6 harg7 harg8 x0 x1 x2 x3 x4 x5 x6 x7) (View.readAt (Elt F) arg15.view (Rect.unit (s := S512x256) ![0, 0] S512x256.size inb_S512x256_S512x256_0_0).toLoadRect (harg15.unread xs0)) 8 := by
  rw [In.ds, ← ds7]
  dsimp only [sl.r, sl.r_10, sl.r_11, sl.r_12, sl.r_13, sl.r_14, sl.r_18, sl.r_19, sl.r_2, sl.r_219, sl.r_222, sl.r_223, sl.r_4, sl.r_5, sl.r_6, sl.r_7, sl.r_8, sl.r_9, sl.v121, sl.v3, sl.v4, k0_pay10, k0_pay11, k0_pay22, k0_pay25, k0_pay27, k0_pay273, k0_pay276, k0_pay278, k0_pay28, k0_pay29, k0_pay293, k0_pay30, k0_pay31, k0_pay32, k0_pay33, k0_pay34, k0_pay35, k0_pay36, k0_pay37, k0_pay38, k0_pay39, k0_pay40, k0_pay43, k0_pay45, k0_pay6, k0_pay7, k0_pay8, k0_pay9, Core.dq, Core.dk, Core.dv, Core.dcum, Core.dcl, Core.dqin, Core.dkin, Core.dkout, Core.ddec, Core.dqStack, Core.dscores, Core.scores, Core.stack, Core.dvScores, Core.dstate, keep, rows, pile, sums, In.pre, In.la, In.cum, In.cl, In.e, In.einv, In.eout, In.qin, In.kin, In.kout, In.dec, In.st, In.dq, In.dk, In.dv, In.dcum, In.dcl, In.dact, In.at', hd0, hd1, hd2, hd3, tri, low, upp, diag, loads]
  exact rfl

end Gla.Core.RunB

end
-- ==== Proof.Gla.OutB.lean ====
/-
  What a block that another block came before leaves in its outputs and in the scratch.
-/
module

public import proofs.«01_k».proof.Proof.Gla.QueryB
public import proofs.«01_k».proof.Proof.Gla.ValueB
public import proofs.«01_k».proof.Proof.Gla.GateB

@[expose] public section

set_option maxRecDepth 16384
set_option maxHeartbeats 1000000

noncomputable section

namespace Gla.Core.RunB

open Idealize.ShloMosaic Cert.KernelIdeal Cert.KernelIdeal.Gen

variable {F : FTy → Type} [FloatOps F]

variable (c : Dev nD) (i : grid0.Coords) (arg1 : Memref sig .tc .vmem S512x256 .bf16) (harg1 : arg1.IsWhole) (arg2 : Memref sig .tc .vmem S512x256 .bf16) (harg2 : arg2.IsWhole) (arg3 : Memref sig .tc .vmem S512x512 .bf16) (harg3 : arg3.IsWhole) (arg4 : Memref sig .tc .vmem S512x128 .bf16) (harg4 : arg4.IsWhole) (arg5 : Memref sig .tc .vmem S1x128x256 .bf16) (harg5 : arg5.IsWhole) (arg6 : Memref sig .tc .vmem S1x1x256 .f32) (harg6 : arg6.IsWhole) (arg7 : Memref sig .tc .vmem S8x512x256 .bf16) (harg7 : arg7.IsWhole) (arg8 : Memref sig .tc .vmem S512x512 .bf16) (harg8 : arg8.IsWhole) (arg9 : Memref sig .tc .vmem S512x256 .bf16) (harg9 : arg9.IsWhole) (arg10 : Memref sig .tc .vmem S512x256 .bf16) (harg10 : arg10.IsWhole) (arg11 : Memref sig .tc .vmem S512x512 .bf16) (harg11 : arg11.IsWhole) (arg12 : Memref sig .tc .vmem S512x128 .bf16) (harg12 : arg12.IsWhole) (arg13 : Memref sig .tc .vmem S128x256 .f32) (harg13 : arg13.IsWhole) (arg14 : Memref sig .tc .vmem S1x256 .f32) (harg14 : arg14.IsWhole) (arg15 : Memref sig .tc .vmem S512x256 .f32) (harg15 : arg15.IsWhole) (hc0 : ¬cond0_0 i)
  (x0 : Vec F S512x256 .bf16) (x1 : Vec F S512x256 .bf16) (x2 : Vec F S512x512 .bf16) (x3 : Vec F S512x128 .bf16) (x4 : Vec F S1x128x256 .bf16) (x5 : Vec F S1x1x256 .f32) (x6 : Vec F S8x512x256 .bf16) (x7 : Vec F S512x512 .bf16) (xo12 : Vec F S128x256 .f32) (xo13 : Vec F S1x256 .f32) (xs0 : Vec F S512x256 .f32)

/-- What the block finds as the gradient of the state. -/
theorem start : (View.readAt (Elt F) arg15.view (Rect.unit (s := S512x256) ![0, 0] S512x256.size inb_S512x256_S512x256_0_0).toLoadRect (harg15.unread xs0)) = xs0 := ((View.readAt_full _ _ _).trans (harg15.read_unread _))
theorem acc12 : (View.readAt (Elt F) arg13.view (Rect.unit (s := S128x256) ![0, 0] S128x256.size inb_S128x256_S128x256_0_0).toLoadRect (harg13.unread xo12)) = xo12 := (View.readAt_full _ _ _).trans (harg13.read_unread _)
theorem acc13 : (View.readAt (Elt F) arg14.view (Rect.unit (s := S1x256) ![0, 0] S1x256.size inb_S1x256_S1x256_0_0).toLoadRect (harg14.unread xo13)) = xo13 := (View.readAt_full _ _ _).trans (harg14.read_unread _)

theorem out8 : out0_B_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xo12 xo13 xs0 = tile256 (In.dq (block x0 x1 x2 x3 x4 x5 x6 x7)) := by
  rw [out0_B_8, View.read_writes_junk_eq_canon, L8, canon_stores256, loads_eq]

theorem out9 : out0_B_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xo12 xo13 xs0 = tile256 fun j => In.dk (block x0 x1 x2 x3 x4 x5 x6 x7) j (In.ds (block x0 x1 x2 x3 x4 x5 x6 x7) xs0 (7 - j.val)) := by
  rw [out0_B_9, View.read_writes_junk_eq_canon, L9, canon_stores256, loads_eq, start]

theorem out10 : out0_B_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xo12 xo13 xs0 = tile512 fun j => In.dv (block x0 x1 x2 x3 x4 x5 x6 x7) j (In.ds (block x0 x1 x2 x3 x4 x5 x6 x7) xs0 (7 - j.val)) := by
  rw [out0_B_10, View.read_writes_junk_eq_canon, L10, canon_stores512, loads_eq, start]

theorem out11 : out0_B_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xo12 xo13 xs0 = In.dlr (block x0 x1 x2 x3 x4 x5 x6 x7) xs0 := by
  refine (View.read_writes_full VO0_11 VO0_11.junk _ _ _).trans ((dlr ..).trans ?_)
  rw [loads_eq, start]

theorem out12 : out0_B_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xo12 xo13 xs0 = In.dw (block x0 x1 x2 x3 x4 x5 x6 x7) xs0 xo12 := by
  refine (View.read_writes_full VO0_12 VO0_12.junk _ _ _).trans ((dw ..).trans ?_)
  rw [loads_eq, start, acc12]

theorem out13 : out0_B_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xo12 xo13 xs0 = In.db (block x0 x1 x2 x3 x4 x5 x6 x7) xs0 xo13 := by
  refine (View.read_writes_full VO0_13 VO0_13.junk _ _ _).trans ((db ..).trans ?_)
  rw [loads_eq, start, acc13]

theorem sout : sout0_B_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xo12 xo13 xs0 = In.ds (block x0 x1 x2 x3 x4 x5 x6 x7) xs0 8 := by
  refine (View.read_writes_full VS0_0 VS0_0.junk _ _ _).trans ((dsLast (harg1 := harg1) (harg2 := harg2) (harg3 := harg3) (harg4 := harg4) (harg5 := harg5) (harg6 := harg6) (harg7 := harg7) (harg8 := harg8) (x0 := x0) (x1 := x1) (x2 := x2) (x3 := x3) (x4 := x4) (x5 := x5) (x6 := x6) (x7 := x7) ..).trans ?_)
  rw [loads_eq, start]

end Gla.Core.RunB

end
-- ==== Proof.Gla.Points.lean ====
/-
  What each point of the grid leaves in its outputs and in the scratch, as the chunks of the arguments.
-/
module

public import proofs.«01_k».proof.Proof.Gla.Blocks
public import proofs.«01_k».proof.Proof.Gla.Block
public import proofs.«01_k».proof.Proof.Gla.OutA
public import proofs.«01_k».proof.Proof.Gla.OutB

@[expose] public section

set_option maxRecDepth 16384
set_option maxHeartbeats 1000000

noncomputable section

namespace Gla.Prep

open Idealize.ShloMosaic Idealize.ShloMosaic.TcCoe Cert.KernelIdeal Cert.KernelIdeal.Gen

/-- A point's outputs and its scratch. -/
abbrev Outs : Type :=
  Vec Ideal S512x256 .bf16 × Vec Ideal S512x256 .bf16 × Vec Ideal S512x512 .bf16 × Vec Ideal S512x128 .bf16 × Vec Ideal S128x256 .f32
    × Vec Ideal S1x256 .f32 × Vec Ideal S512x256 .f32

/-- What a point leaves that reads `B` and finds the state's gradient `d` and the accumulators `aw` and `ab`. -/
def outs (B : Core.In Ideal) (d : Vec Ideal S512x256 .f32) (aw : Vec Ideal S128x256 .f32) (ab : Vec Ideal S1x256 .f32) : Outs :=
  (Core.tile256 B.dq, Core.tile256 (fun j => B.dk j (B.ds d (7 - j.val))), Core.tile512 (fun j => B.dv j (B.ds d (7 - j.val))),
    B.dlr d, B.dw d aw, B.db d ab, B.ds d 8)

/-- The outputs of point `t`, the scratch once `J` chunks from the last one are done, and the accumulators. -/
structure Point (a : Args) (t : ℕ) (o : Outs) : Prop where
  q : ∀ (r : Fin 512) (l : Fin 256), o.1 (ix2 r l) = ((a.chunk (8 * (15 - t) + r / 64)).dq (r % 64) l : EReal)
  k : ∀ (r : Fin 512) (l : Fin 256), o.2.1 (ix2 r l)
    = ((a.chunk (8 * (15 - t) + r / 64)).dk (carry a.chunk (8 * t + (7 - r / 64))) (r % 64) l : EReal)
  v : ∀ (r : Fin 512) (l : Fin 512), o.2.2.1 (ix2 r l)
    = ((a.chunk (8 * (15 - t) + r / 64)).dv (carry a.chunk (8 * t + (7 - r / 64))) (r % 64) (l / 128) (l % 128) : EReal)
  lr : ∀ (r : Fin 512) (n : Fin 128), o.2.2.2.1 (ix2 r n)
    = ((if n.val < 16 then (a.chunk (8 * (15 - t) + r / 64)).dlr (carry a.chunk (8 * t + (7 - r / 64))) (r % 64) n else 0 : ℝ) : EReal)
  w : ∀ (n : Fin 128) (l : Fin 256), o.2.2.2.2.1 (ix2 n l) = (carryW a.chunk (8 * (t + 1)) n l : EReal)
  b : ∀ l : Fin 256, o.2.2.2.2.2.1 (ix2 (0 : Fin 1) l) = (carryB a.chunk (8 * (t + 1)) l : EReal)
  d : ∀ (r : Fin 512) (l : Fin 256), o.2.2.2.2.2.2 (ix2 r l)
    = ((if r.val / 128 = l.val / 64 then carry a.chunk (8 * (t + 1)) (l / 64) (l % 64) (r % 128) else 0 : ℝ) : EReal)

theorem tile256_at (P : Fin 8 → Vec Ideal S64x256 .bf16) (r : Fin 512) (l : Fin 256) :
    Core.tile256 P (ix2 r l) = P ⟨r.val / 64, by omega⟩ (ix2 ⟨r.val % 64, by omega⟩ l) := (rfl)

theorem tile512_at (P : Fin 8 → Vec Ideal S64x512 .bf16) (r : Fin 512) (l : Fin 512) :
    Core.tile512 P (ix2 r l) = P ⟨r.val / 64, by omega⟩ (ix2 ⟨r.val % 64, by omega⟩ l) := (rfl)

theorem point {a : Args} {B : Core.In Ideal} {t : ℕ} (ht : t < 16) (H : Core.Reads B fun k => a.chunk (8 * (15 - t) + k))
    (d : Vec Ideal S512x256 .f32) (aw : Vec Ideal S128x256 .f32) (ab : Vec Ideal S1x256 .f32)
    (hd : ∀ (r : Fin 512) (l : Fin 256), d (ix2 r l)
      = ((if r.val / 128 = l.val / 64 then carry a.chunk (8 * t) (l / 64) (l % 64) (r % 128) else 0 : ℝ) : EReal))
    (hw : ∀ (n : Fin 128) (l : Fin 256), aw (ix2 n l) = (carryW a.chunk (8 * t) n l : EReal))
    (hb : ∀ l : Fin 256, ab (ix2 (0 : Fin 1) l) = (carryB a.chunk (8 * t) l : EReal)) : Point a t (outs B d aw ab) := by
  have hx : ∀ c < 8, a.chunk (8 * (15 - t) + c) = a.chunk (127 - (8 * t + (7 - c))) := fun c hc => by congr 1; omega
  exact {
    q := fun r l => (tile256_at _ r l).trans (Core.dq_out H hx hd _ _ _)
    k := fun r l => (tile256_at (fun j => B.dk j (B.ds d (7 - j.val))) r l).trans (Core.dk_out H hx hd _ _ _)
    v := fun r l => (tile512_at (fun j => B.dv j (B.ds d (7 - j.val))) r l).trans (Core.dv_out H hx hd _ _ _)
    lr := fun r n => Core.dlr_out H hx hd r n
    w := fun n l => Core.dw_out H hx hd aw hw n l
    b := fun l => Core.db_out H hx hd ab hb l
    d := fun r l => Core.ds_at H hx hd 8 le_rfl r l }

variable (m : (ℓ : Loc nD τ sig) → Buf (Elt Ideal) ℓ) (c : Dev nD)

theorem outs_A (t : Fin cfg0.N) (h0 : t.val % 16 = 0) :
    outsAt0 m c t.val t.isLt = outs (readAt m c t) (k0_pay3 (F := Ideal)) (k0_pay4 (F := Ideal)) (k0_pay5 (F := Ideal)) := by
  rw [outsAt0_A m c t h0, Core.RunA.out8, Core.RunA.out9, Core.RunA.out10, Core.RunA.out11, Core.RunA.out12, Core.RunA.out13, Core.RunA.sout]
  rfl

theorem outs_B (t : Fin cfg0.N) (h0 : ¬t.val % 16 = 0) (o : Outs)
    (ho : outsAt0 m c (t.val - 1) (Nat.lt_of_le_of_lt (Nat.sub_le _ _) t.isLt) = o) :
    outsAt0 m c t.val t.isLt = outs (readAt m c t) o.2.2.2.2.2.2 o.2.2.2.2.1 o.2.2.2.2.2.1 := by
  rw [outsAt0_B m c t h0, Core.RunB.out8, Core.RunB.out9, Core.RunB.out10, Core.RunB.out11, Core.RunB.out12, Core.RunB.out13, Core.RunB.sout, ho]
  rfl

theorem zero3 (r : Fin 512) (l : Fin 256) : (k0_pay3 : FVec Ideal S512x256 .f32) (ix2 r l) = ((0 : ℝ) : EReal) := by
  pointwise [k0_pay3]; rfl
theorem zero4 (r : Fin 128) (l : Fin 256) : (k0_pay4 : FVec Ideal S128x256 .f32) (ix2 r l) = ((0 : ℝ) : EReal) := by
  pointwise [k0_pay4]; rfl
theorem zero5 (l : Fin 256) : (k0_pay5 : FVec Ideal S1x256 .f32) (ix2 (0 : Fin 1) l) = ((0 : ℝ) : EReal) := by
  pointwise [k0_pay5]; rfl

variable {m c} {a : Args}

theorem point_at (H : Holds a (m ((c : Thread nD τ).loc main_arg0)) (m ((c : Thread nD τ).loc main_arg1)) (m ((c : Thread nD τ).loc main_arg2))
    (m ((c : Thread nD τ).loc main_arg3)) (m ((c : Thread nD τ).loc main_arg4))) :
    ∀ (n : ℕ) (hn : n < cfg0.N), Point a n (outsAt0 m c n hn)
  | 0, hn => by
    rw [show outsAt0 m c 0 hn = _ from outs_A m c ⟨0, hn⟩ rfl]
    refine point (lt16 ⟨0, hn⟩) (reads H ⟨0, hn⟩) _ _ _ (fun r l => ?_) (fun n l => zero4 n l) (fun l => zero5 l)
    rw [zero3]
    congr 1
    exact (ite_self _).symm
  | n + 1, hn => by
    have hN : n + 1 < 16 := lt_of_lt_of_eq hn N_0
    have ih := point_at H n (Nat.lt_of_succ_lt hn)
    rw [show outsAt0 m c (n + 1) hn = _ from outs_B m c ⟨n + 1, hn⟩ (by show ¬(n + 1) % 16 = 0; omega) _ rfl]
    exact point hN (reads H ⟨n + 1, hn⟩) _ _ _ ih.d ih.w ih.b

end Gla.Prep

end
-- ==== Proof.Gla.Final.lean ====
/-
  The kernel's result arrays, as the chunks of the arguments.
-/
module

public import proofs.«01_k».proof.Proof.Gla.Points
public import proofs.«01_k».proof.Proof.Gen.KernelIdeal.Value
public import Idealize.ShloMosaic.Lib.Pipeline.ValueKit

@[expose] public section

set_option maxRecDepth 16384
set_option maxHeartbeats 1000000

noncomputable section

namespace Gla.Prep

open Idealize.ShloMosaic Idealize.ShloMosaic.TcCoe Cert.KernelIdeal Cert.KernelIdeal.Gen
open Idealize.ShloMosaic.Pipeline (Dat)

variable (m : (ℓ : Loc nD τ sig) → Buf (Elt Ideal) ℓ) (c : Dev nD)

theorem idx8 : ∀ t : Fin cfg0.N, win0_8.index t (0 : Fin 2) = 15 - t.val ∧ win0_8.index t (1 : Fin 2) = 0 := by decide +kernel
theorem idx9 : ∀ t : Fin cfg0.N, win0_9.index t (0 : Fin 2) = 15 - t.val ∧ win0_9.index t (1 : Fin 2) = 0 := by decide +kernel
theorem idx10 : ∀ t : Fin cfg0.N, win0_10.index t (0 : Fin 2) = 15 - t.val ∧ win0_10.index t (1 : Fin 2) = 0 := by decide +kernel
theorem idx11 : ∀ t : Fin cfg0.N, win0_11.index t (0 : Fin 2) = 15 - t.val ∧ win0_11.index t (1 : Fin 2) = 0 := by decide +kernel

/-- The point that writes row `R`. -/
def pointOf (R : Fin 8192) : Fin cfg0.N := ⟨15 - R.val / 512, lt_of_lt_of_eq (by omega : 15 - R.val / 512 < 16) N_0.symm⟩

theorem row_of (R : Fin 8192) : 512 * (15 - (pointOf R).val) + R.val % 512 = R.val := by
  show 512 * (15 - (15 - R.val / 512)) + R.val % 512 = R.val
  omega

theorem read8 (A : FVec Ideal S8192x256 .bf16) (t : Fin cfg0.N) (r : Fin 512) (l : Fin 256) (R : Fin 8192) (hR : R.val = 512 * (15 - t.val) + r.val) :
    (((cfg0.win 8).blk t).view.read (Elt Ideal) A : FVec Ideal S512x256 .bf16) (ix2 r l) = A (ix2 R l) := by
  rw [View.read_apply]
  show A _ = A _
  congr 1
  funext a
  apply Fin.ext
  match a with
  | ⟨0, _⟩ => show win0_8.index t (0 : Fin 2) * 512 + 1 * r.val = R.val; rw [(idx8 t).1]; omega
  | ⟨1, _⟩ => show win0_8.index t (1 : Fin 2) * 256 + 1 * l.val = l.val; rw [(idx8 t).2]; omega

theorem final8 (R : Fin 8192) (l : Fin 256) : ((dats m 0 c).arrAt 8 cfg0.N : FVec Ideal S8192x256 .bf16) (ix2 R l)
    = (outsAt0 m c (pointOf R).val (pointOf R).isLt).1 (ix2 (⟨R.val % 512, by omega⟩ : Fin 512) l) := by
  have h := (Value.blocks8 m c (pointOf R) (flush0_8 _)).trans (Value.flushed8 m c (pointOf R))
  generalize (dats m 0 c).arrAt 8 cfg0.N = A at h ⊢
  generalize outsAt0 m c (pointOf R).val (pointOf R).isLt = o at h ⊢
  exact (read8 A (pointOf R) ⟨R.val % 512, by omega⟩ l R (row_of R).symm).symm.trans (congrFun h (ix2 (⟨R.val % 512, by omega⟩ : Fin 512) l))

theorem read9 (A : FVec Ideal S8192x256 .bf16) (t : Fin cfg0.N) (r : Fin 512) (l : Fin 256) (R : Fin 8192) (hR : R.val = 512 * (15 - t.val) + r.val) :
    (((cfg0.win 9).blk t).view.read (Elt Ideal) A : FVec Ideal S512x256 .bf16) (ix2 r l) = A (ix2 R l) := by
  rw [View.read_apply]
  show A _ = A _
  congr 1
  funext a
  apply Fin.ext
  match a with
  | ⟨0, _⟩ => show win0_9.index t (0 : Fin 2) * 512 + 1 * r.val = R.val; rw [(idx9 t).1]; omega
  | ⟨1, _⟩ => show win0_9.index t (1 : Fin 2) * 256 + 1 * l.val = l.val; rw [(idx9 t).2]; omega

theorem final9 (R : Fin 8192) (l : Fin 256) : ((dats m 0 c).arrAt 9 cfg0.N : FVec Ideal S8192x256 .bf16) (ix2 R l)
    = (outsAt0 m c (pointOf R).val (pointOf R).isLt).2.1 (ix2 (⟨R.val % 512, by omega⟩ : Fin 512) l) := by
  have h := (Value.blocks9 m c (pointOf R) (flush0_9 _)).trans (Value.flushed9 m c (pointOf R))
  generalize (dats m 0 c).arrAt 9 cfg0.N = A at h ⊢
  generalize outsAt0 m c (pointOf R).val (pointOf R).isLt = o at h ⊢
  exact (read9 A (pointOf R) ⟨R.val % 512, by omega⟩ l R (row_of R).symm).symm.trans (congrFun h (ix2 (⟨R.val % 512, by omega⟩ : Fin 512) l))

theorem read10 (A : FVec Ideal S8192x512 .bf16) (t : Fin cfg0.N) (r : Fin 512) (l : Fin 512) (R : Fin 8192) (hR : R.val = 512 * (15 - t.val) + r.val) :
    (((cfg0.win 10).blk t).view.read (Elt Ideal) A : FVec Ideal S512x512 .bf16) (ix2 r l) = A (ix2 R l) := by
  rw [View.read_apply]
  show A _ = A _
  congr 1
  funext a
  apply Fin.ext
  match a with
  | ⟨0, _⟩ => show win0_10.index t (0 : Fin 2) * 512 + 1 * r.val = R.val; rw [(idx10 t).1]; omega
  | ⟨1, _⟩ => show win0_10.index t (1 : Fin 2) * 512 + 1 * l.val = l.val; rw [(idx10 t).2]; omega

theorem final10 (R : Fin 8192) (l : Fin 512) : ((dats m 0 c).arrAt 10 cfg0.N : FVec Ideal S8192x512 .bf16) (ix2 R l)
    = (outsAt0 m c (pointOf R).val (pointOf R).isLt).2.2.1 (ix2 (⟨R.val % 512, by omega⟩ : Fin 512) l) := by
  have h := (Value.blocks10 m c (pointOf R) (flush0_10 _)).trans (Value.flushed10 m c (pointOf R))
  generalize (dats m 0 c).arrAt 10 cfg0.N = A at h ⊢
  generalize outsAt0 m c (pointOf R).val (pointOf R).isLt = o at h ⊢
  exact (read10 A (pointOf R) ⟨R.val % 512, by omega⟩ l R (row_of R).symm).symm.trans (congrFun h (ix2 (⟨R.val % 512, by omega⟩ : Fin 512) l))

theorem read11 (A : FVec Ideal S8192x128 .bf16) (t : Fin cfg0.N) (r : Fin 512) (l : Fin 128) (R : Fin 8192) (hR : R.val = 512 * (15 - t.val) + r.val) :
    (((cfg0.win 11).blk t).view.read (Elt Ideal) A : FVec Ideal S512x128 .bf16) (ix2 r l) = A (ix2 R l) := by
  rw [View.read_apply]
  show A _ = A _
  congr 1
  funext a
  apply Fin.ext
  match a with
  | ⟨0, _⟩ => show win0_11.index t (0 : Fin 2) * 512 + 1 * r.val = R.val; rw [(idx11 t).1]; omega
  | ⟨1, _⟩ => show win0_11.index t (1 : Fin 2) * 128 + 1 * l.val = l.val; rw [(idx11 t).2]; omega

theorem final11 (R : Fin 8192) (l : Fin 128) : ((dats m 0 c).arrAt 11 cfg0.N : FVec Ideal S8192x128 .bf16) (ix2 R l)
    = (outsAt0 m c (pointOf R).val (pointOf R).isLt).2.2.2.1 (ix2 (⟨R.val % 512, by omega⟩ : Fin 512) l) := by
  have h := (Value.blocks11 m c (pointOf R) (flush0_11 _)).trans (Value.flushed11 m c (pointOf R))
  generalize (dats m 0 c).arrAt 11 cfg0.N = A at h ⊢
  generalize outsAt0 m c (pointOf R).val (pointOf R).isLt = o at h ⊢
  exact (read11 A (pointOf R) ⟨R.val % 512, by omega⟩ l R (row_of R).symm).symm.trans (congrFun h (ix2 (⟨R.val % 512, by omega⟩ : Fin 512) l))

/-- The last point. -/
def lastPoint : Fin cfg0.N := ⟨15, lt_of_lt_of_eq (by decide : 15 < 16) N_0.symm⟩

theorem final12 : (dats m 0 c).arrAt 12 cfg0.N = (outsAt0 m c lastPoint.val lastPoint.isLt).2.2.2.2.1 := by
  refine Dat.arrAt_eq_of_after_last (dats m 0 c) 12 lastPoint (by decide +kernel) _ fun j => ?_
  rw [after0_12]
  generalize outsAt0 m c lastPoint.val lastPoint.isLt = o
  rfl

theorem final13 : (dats m 0 c).arrAt 13 cfg0.N = (outsAt0 m c lastPoint.val lastPoint.isLt).2.2.2.2.2.1 := by
  refine Dat.arrAt_eq_of_after_last (dats m 0 c) 13 lastPoint (by decide +kernel) _ fun j => ?_
  rw [after0_13]
  generalize outsAt0 m c lastPoint.val lastPoint.isLt = o
  rfl

end Gla.Prep

end
-- ==== Proof.Gla.RefStart.lean ====
/-
  The state the reference's loop starts from holds the arguments.
-/
module

public import proofs.«01_k».proof.Proof.Gla.RefLoop

@[expose] public section

set_option maxRecDepth 16384

noncomputable section

namespace Gla.Ref

open Idealize.ShloMosaic Cert.ReferenceIdeal Cert.ReferenceIdeal.Gen Cert.ReferenceIdeal.Step

variable {a : Args} {A0 : FVec Ideal S8192x3200 .bf16} {A1 : FVec Ideal S4x16x256 .f32} {A2 : FVec Ideal S4x256 .f32}
    {A3 : FVec Ideal S4x128x64x128 .bf16} {A4 : FVec Ideal S8192x512 .bf16}

theorem start (hp : ∀ (r : Fin 8192) (l : Fin 3200), A0 (ix2 r l) = (a.p r l : EReal))
    (hw : ∀ (r : Fin 16) (l : Fin 256), A1 (ix3 (0 : Fin 4) r l) = (a.w r l : EReal))
    (hb : ∀ l : Fin 256, A2 (ix2 (0 : Fin 4) l) = (a.b l : EReal))
    (hst : ∀ (h : Fin 4) (n : Fin 128) (d : Fin 64) (e : Fin 128), A3 (ix4 h n d e) = (a.s h n d e : EReal))
    (ho : ∀ (r : Fin 8192) (l : Fin 512), A4 (ix2 r l) = (a.o r l : EReal)) :
    After a 0 (Step.init (F := Ideal) A0 A1 A2 A3 A4) where
  const := {
    p := fun n i l => by
      show A_main_v12 (F := Ideal) A0 A1 A2 A3 A4 (ix3 n i l) = _
      pointwise [A_main_v12, A_main_v11]
      rw [hp]
      exact congrArg (fun k => ((a.p k l : ℝ) : EReal)) (congrArg (· + i.val) (Nat.mul_comm n.val 64))
    o := fun n i l => by
      show A_main_v14 (F := Ideal) A0 A1 A2 A3 A4 (ix3 n i l) = _
      pointwise [A_main_v14, A_main_v13]
      rw [ho]
      exact congrArg (fun k => ((a.o k l : ℝ) : EReal)) (congrArg (· + i.val) (Nat.mul_comm n.val 64))
    st := fun n h d e => by
      show A_main_v5 (F := Ideal) A0 A1 A2 A3 A4 (ix4 n h d e) = _
      pointwise [A_main_v5, A_main_v4]
      exact hst h n d e
    w := fun r l => by
      show A_main_v1 (F := Ideal) A0 A1 A2 A3 A4 (ix2 r l) = _
      pointwise [A_main_v1, A_main_v0]
      exact hw r l
    b := fun l => by
      show A_main_v3 (F := Ideal) A0 A1 A2 A3 A4 (ix1 l) = _
      pointwise [A_main_v3, A_main_v2]
      exact hb l }
  D h d e := by
    show K_main_v8 (F := Ideal) (ix3 h d e) = _
    pointwise [K_main_v8, K_main_cst]
    rfl
  W r l := by
    show K_main_v9 (F := Ideal) (ix2 r l) = _
    pointwise [K_main_v9, K_main_cst_0]
    rfl
  B l := by
    show K_main_v10 (F := Ideal) (ix1 l) = _
    pointwise [K_main_v10, K_main_cst_1]
    rfl
  out m i l h := absurd h (by omega)

end Gla.Ref

end
-- ==== Proof.Gla.Agree.lean ====
/-
  The kernel's result arrays and the reference's are the same values; the claim.
-/
module

public import proofs.«01_k».proof.Defs
public import proofs.«01_k».proof.Proof.Gen.On_of_gate
public import proofs.«01_k».proof.Proof.Gla.Finite
public import proofs.«01_k».proof.Proof.Gla.Final
public import proofs.«01_k».proof.Proof.Gla.RefStart
public import proofs.«01_k».proof.Proof.Gla.RefRun

@[expose] public section

set_option maxRecDepth 16384
set_option maxHeartbeats 1000000

noncomputable section

namespace Gla.Prep

open Idealize.ShloMosaic Idealize.ShloMosaic.TcCoe Idealize.SL.Sem Cert.KernelIdeal Cert.KernelIdeal.Gen

theorem chunk_of (R : Fin 8192) : 8 * (15 - (pointOf R).val) + R.val % 512 / 64 = R.val / 64 := by
  show 8 * (15 - (15 - R.val / 512)) + R.val % 512 / 64 = R.val / 64
  omega

theorem done_of (R : Fin 8192) : 8 * (pointOf R).val + (7 - R.val % 512 / 64) = 127 - R.val / 64 := by
  show 8 * (15 - R.val / 512) + (7 - R.val % 512 / 64) = 127 - R.val / 64
  omega

theorem token_of (R : Fin 8192) : R.val % 512 % 64 = R.val % 64 := by omega

theorem low_of (r : Fin 128) (h : IntOp.cmpi .slt (BitVec.ofNat 32 r.val) 16#32 = 1#1) : r.val < 16 := by
  have k : ∀ r : Fin 128, IntOp.cmpi .slt (BitVec.ofNat 32 r.val) 16#32 = 1#1 → r.val < 16 := by decide +kernel
  exact k r h

variable {m : (ℓ : Loc nD τ sig) → Buf (Elt Ideal) ℓ} {c : Dev nD} {a : Args} {s : Cert.ReferenceIdeal.Step.State Ideal}
  (H : Holds a (m ((c : Thread nD τ).loc main_arg0)) (m ((c : Thread nD τ).loc main_arg1)) (m ((c : Thread nD τ).loc main_arg2))
    (m ((c : Thread nD τ).loc main_arg3)) (m ((c : Thread nD τ).loc main_arg4))) (K : Ref.After a 128 s)
include H K

theorem agree8 (R : Fin 8192) (l : Fin 256) : ((dats m 0 c).arrAt 8 cfg0.N : FVec Ideal S8192x256 .bf16) (ix2 R l)
    = (Cert.ReferenceIdeal.Step.R_main_v19 s : FVec Ideal S8192x256 .bf16) (ix2 R l) := by
  refine (final8 m c R l).trans (((point_at H _ _).q _ _).trans ?_)
  refine Eq.trans ?_ (Ref.r19 K R l).symm
  show (((a.chunk (8 * (15 - (pointOf R).val) + R.val % 512 / 64)).dq (R.val % 512 % 64) l : ℝ) : EReal) = _
  rw [chunk_of, token_of]

theorem agree9 (R : Fin 8192) (l : Fin 256) : ((dats m 0 c).arrAt 9 cfg0.N : FVec Ideal S8192x256 .bf16) (ix2 R l)
    = (Cert.ReferenceIdeal.Step.R_main_v20 s : FVec Ideal S8192x256 .bf16) (ix2 R l) := by
  refine (final9 m c R l).trans (((point_at H _ _).k _ _).trans ?_)
  refine Eq.trans ?_ (Ref.r20 K R l).symm
  show (((a.chunk (8 * (15 - (pointOf R).val) + R.val % 512 / 64)).dk (carry a.chunk (8 * (pointOf R).val + (7 - R.val % 512 / 64))) (R.val % 512 % 64) l : ℝ) : EReal) = _
  rw [chunk_of, token_of, done_of]

theorem agree10 (R : Fin 8192) (l : Fin 512) : ((dats m 0 c).arrAt 10 cfg0.N : FVec Ideal S8192x512 .bf16) (ix2 R l)
    = (Cert.ReferenceIdeal.Step.R_main_v21 s : FVec Ideal S8192x512 .bf16) (ix2 R l) := by
  refine (final10 m c R l).trans (((point_at H _ _).v _ _).trans ?_)
  refine Eq.trans ?_ (Ref.r21 K R l).symm
  show (((a.chunk (8 * (15 - (pointOf R).val) + R.val % 512 / 64)).dv (carry a.chunk (8 * (pointOf R).val + (7 - R.val % 512 / 64))) (R.val % 512 % 64) (l.val / 128) (l.val % 128) : ℝ) : EReal) = _
  rw [chunk_of, token_of, done_of]

theorem agree11 (R : Fin 8192) (l : Fin 128) : ((dats m 0 c).arrAt 11 cfg0.N : FVec Ideal S8192x128 .bf16) (ix2 R l)
    = (Cert.ReferenceIdeal.Step.R_main_v22 s : FVec Ideal S8192x128 .bf16) (ix2 R l) := by
  refine (final11 m c R l).trans (((point_at H _ _).lr _ _).trans ?_)
  refine Eq.trans ?_ (Ref.r22 K R l).symm
  show ((if l.val < 16 then (a.chunk (8 * (15 - (pointOf R).val) + R.val % 512 / 64)).dlr (carry a.chunk (8 * (pointOf R).val + (7 - R.val % 512 / 64))) (R.val % 512 % 64) l else 0 : ℝ) : EReal) = _
  rw [chunk_of, token_of, done_of]

theorem agree12 (r : Fin 128) (l : Fin 256) (hr : r.val < 16) : ((dats m 0 c).arrAt 12 cfg0.N : FVec Ideal S128x256 .f32) (ix2 r l)
    = (Cert.ReferenceIdeal.Step.R_main_v23 s : FVec Ideal S128x256 .f32) (ix2 r l) := by
  refine (congrFun (final12 m c) (ix2 r l)).trans (((point_at H _ _).w r l).trans ?_)
  refine Eq.trans ?_ (Ref.r23 K r l).symm
  rw [if_pos hr]
  rfl

theorem agree13 (l : Fin 256) : ((dats m 0 c).arrAt 13 cfg0.N : FVec Ideal S1x256 .f32) (ix2 (0 : Fin 1) l)
    = (Cert.ReferenceIdeal.Step.R_main_v24 s : FVec Ideal S1x256 .f32) (ix2 (0 : Fin 1) l) := by
  refine (congrFun (final13 m c) (ix2 (0 : Fin 1) l)).trans (((point_at H _ _).b l).trans ?_)
  exact (Ref.r24 K l).symm

end Gla.Prep

namespace Gla

open Idealize.ShloMosaic Idealize.ShloMosaic.TcCoe Idealize.SL.Sem Cert.KernelIdeal Cert.KernelIdeal.Gen

/-- The states of the reference's loop. -/
def states (s : Cert.ReferenceIdeal.Step.State Ideal) : ℕ → Cert.ReferenceIdeal.Step.State Ideal
  | 0 => s
  | n + 1 => Cert.ReferenceIdeal.Step.step n (states s n)

theorem algebraic : Cert.algebraic_KernelIdeal_ReferenceIdeal_on_of_gate_pre_finite := by
  intro m g m' g' hpre hagree
  have H (c : Dev nD) := Prep.holds_argsOf (hpre c)
  have K (c : Dev nD) : Ref.After (Prep.argsOf (m ((c : Thread nD τ).loc main_arg0)) (m ((c : Thread nD τ).loc main_arg1)) (m ((c : Thread nD τ).loc main_arg2))
      (m ((c : Thread nD τ).loc main_arg3)) (m ((c : Thread nD τ).loc main_arg4))) 128 (states (Cert.ReferenceIdeal.RefRun.initState m' c) 128) := by
    refine Ref.after_iter (states (Cert.ReferenceIdeal.RefRun.initState m' c)) (fun _ => rfl) ?_ 128 le_rfl
    show Ref.After _ 0 (Cert.ReferenceIdeal.RefRun.initState m' c)
    unfold Cert.ReferenceIdeal.RefRun.initState
    rw [(hagree c).1, (hagree c).2.1, (hagree c).2.2.1, (hagree c).2.2.2.1, (hagree c).2.2.2.2]
    exact Ref.start (H c).p (H c).w (H c).b (H c).s (H c).o
  refine ⟨fun c => (dats m 0 c).arrAt 8 cfg0.N, fun c => (dats m 0 c).arrAt 9 cfg0.N, fun c => (dats m 0 c).arrAt 10 cfg0.N,
    fun c => (dats m 0 c).arrAt 11 cfg0.N, fun c => (dats m 0 c).arrAt 12 cfg0.N, fun c => (dats m 0 c).arrAt 13 cfg0.N, ?_, ?_⟩
  · refine (θ_run Cert.KernelIdeal.defs _ _).mono (fun _ h c => ?_) (Value.run_blocks m g)
    obtain ⟨h0, h1, h2, h3, h4, h5, hk⟩ := h c
    exact ⟨fun i _ => congrFun h0 i, fun i _ => congrFun h1 i, fun i _ => congrFun h2 i, fun i _ => congrFun h3 i,
      fun i _ => congrFun h4 i, fun i _ => congrFun h5 i, hk⟩
  · refine (θ_run Cert.ReferenceIdeal.defs _ _).mono (fun _ h c => ?_)
      (Cert.ReferenceIdeal.RefRun.run_iter m' g' (fun c => states (Cert.ReferenceIdeal.RefRun.initState m' c)) (fun _ => rfl) (fun _ _ => rfl))
    obtain ⟨h0, h1, h2, h3, h4, h5, hk⟩ := h c
    refine ⟨fun i _ => (congrFun h0 i).trans ?_, fun i _ => (congrFun h1 i).trans ?_, fun i _ => (congrFun h2 i).trans ?_,
      fun i _ => (congrFun h3 i).trans ?_, fun i hi => (congrFun h4 i).trans ?_, fun i _ => (congrFun h5 i).trans ?_, hk⟩
    · rw [eq_ix2 i]; exact (Prep.agree8 (H c) (K c) (i 0) (i 1)).symm
    · rw [eq_ix2 i]; exact (Prep.agree9 (H c) (K c) (i 0) (i 1)).symm
    · rw [eq_ix2 i]; exact (Prep.agree10 (H c) (K c) (i 0) (i 1)).symm
    · rw [eq_ix2 i]; exact (Prep.agree11 (H c) (K c) (i 0) (i 1)).symm
    · have hr : (i 0).val < 16 := Prep.low_of (i 0) hi
      rw [eq_ix2 i]; exact (Prep.agree12 (H c) (K c) (i 0) (i 1) hr).symm
    · have hz : i = ix2 (0 : Fin 1) (i 1) := (eq_ix2 i).trans (congrArg (fun z : Fin 1 => ix2 z (i 1)) (Subsingleton.elim _ _))
      rw [hz]; exact (Prep.agree13 (H c) (K c) (i 1)).symm

end Gla

end
-- ==== Proof.Products.Frames.lean ====
/-
  Each of these programs runs to an end and leaves its arguments as they were: the kernels on words and on
  reals, the references on reals.
-/
module

public import proofs.«01_k».proof.Defs
public import proofs.«01_k».proof.Proof.Gen.Kernel2.Frame
public import proofs.«01_k».proof.Proof.Gen.Kernel2Ideal.Frame
public import proofs.«01_k».proof.Proof.Gen.Reference2Ideal.Run
public import proofs.«01_k».proof.Proof.Gen.Kernel3.Frame
public import proofs.«01_k».proof.Proof.Gen.Kernel3Ideal.Frame
public import proofs.«01_k».proof.Proof.Gen.Reference3Ideal.Run
public import proofs.«01_k».proof.Proof.Gen.Kernel4.Frame
public import proofs.«01_k».proof.Proof.Gen.Kernel4Ideal.Frame
public import proofs.«01_k».proof.Proof.Gen.Reference4Ideal.Run
public import proofs.«01_k».proof.Proof.Gen.Kernel5.Frame
public import proofs.«01_k».proof.Proof.Gen.Kernel5Ideal.Frame
public import proofs.«01_k».proof.Proof.Gen.Reference5Ideal.Run
public import proofs.«01_k».proof.Proof.Gen.Kernel6.Frame
public import proofs.«01_k».proof.Proof.Gen.Kernel6Ideal.Frame
public import proofs.«01_k».proof.Proof.Gen.Reference6Ideal.Run
public import proofs.«01_k».proof.Proof.Gen.Kernel7.Frame
public import proofs.«01_k».proof.Proof.Gen.Kernel7Ideal.Frame
public import proofs.«01_k».proof.Proof.Gen.Reference7Ideal.Run
public import proofs.«01_k».proof.Proof.Gen.Kernel8.Frame
public import proofs.«01_k».proof.Proof.Gen.Kernel8Ideal.Frame
public import proofs.«01_k».proof.Proof.Gen.Reference8Ideal.Run
public import proofs.«01_k».proof.Proof.Gen.Kernel9.Frame
public import proofs.«01_k».proof.Proof.Gen.Kernel9Ideal.Frame
public import proofs.«01_k».proof.Proof.Gen.Reference9Ideal.Run
public import proofs.«01_k».proof.Proof.Gen.Kernel10.Frame
public import proofs.«01_k».proof.Proof.Gen.Kernel10Ideal.Frame
public import proofs.«01_k».proof.Proof.Gen.Reference10Ideal.Run
public import proofs.«01_k».proof.Proof.Gen.Kernel11.Frame
public import proofs.«01_k».proof.Proof.Gen.Kernel11Ideal.Frame
public import proofs.«01_k».proof.Proof.Gen.Reference11Ideal.Run
public import proofs.«01_k».proof.Proof.Gen.Kernel12.Frame
public import proofs.«01_k».proof.Proof.Gen.Kernel12Ideal.Frame
public import proofs.«01_k».proof.Proof.Gen.Reference12Ideal.Run
public import proofs.«01_k».proof.Proof.Gen.Kernel13.Frame
public import proofs.«01_k».proof.Proof.Gen.Kernel13Ideal.Frame
public import proofs.«01_k».proof.Proof.Gen.Reference13Ideal.Run
public import proofs.«01_k».proof.Proof.Gen.Kernel14.Frame
public import proofs.«01_k».proof.Proof.Gen.Kernel14Ideal.Frame
public import proofs.«01_k».proof.Proof.Gen.Reference14Ideal.Run
public import proofs.«01_k».proof.Proof.Gen.Kernel15.Frame
public import proofs.«01_k».proof.Proof.Gen.Kernel15Ideal.Frame
public import proofs.«01_k».proof.Proof.Gen.Reference15Ideal.Run
public import proofs.«01_k».proof.Proof.Gen.Kernel16.Frame
public import proofs.«01_k».proof.Proof.Gen.Kernel16Ideal.Frame
public import proofs.«01_k».proof.Proof.Gen.Reference16Ideal.Run
public import Idealize.ShloMosaic.Lib.StableHlo.Run

@[expose] public section

noncomputable section

namespace Products

open Idealize.ShloMosaic Idealize.SL.Sem Cert

theorem frame_words2 : quiescent_Kernel2 (hKernel2 := Kernel2.Gen.facts) :=
  fun m ρ _ => Kernel2.Gen.frame m ρ

theorem frame_kernel2 : quiescent_Kernel2Ideal (hKernel2Ideal := Kernel2Ideal.Gen.facts) :=
  fun m ρ _ => Kernel2Ideal.Gen.frame m ρ

theorem frame_reference2 : quiescent_Reference2Ideal (hReference2Ideal := Reference2Ideal.Gen.facts) :=
  fun m ρ _ => (θ_run Reference2Ideal.defs _ _).mono
    (fun _ h => ⟨fun c => (h c).2, sem_eq_zero_of_no_sems rfl _⟩) (Reference2Ideal.Value.run m ρ)

theorem frame_words3 : quiescent_Kernel3 (hKernel3 := Kernel3.Gen.facts) :=
  fun m ρ _ => Kernel3.Gen.frame m ρ

theorem frame_kernel3 : quiescent_Kernel3Ideal (hKernel3Ideal := Kernel3Ideal.Gen.facts) :=
  fun m ρ _ => Kernel3Ideal.Gen.frame m ρ

theorem frame_reference3 : quiescent_Reference3Ideal (hReference3Ideal := Reference3Ideal.Gen.facts) :=
  fun m ρ _ => (θ_run Reference3Ideal.defs _ _).mono
    (fun _ h => ⟨fun c => (h c).2, sem_eq_zero_of_no_sems rfl _⟩) (Reference3Ideal.Value.run m ρ)

theorem frame_words4 : quiescent_Kernel4 (hKernel4 := Kernel4.Gen.facts) :=
  fun m ρ _ => Kernel4.Gen.frame m ρ

theorem frame_kernel4 : quiescent_Kernel4Ideal (hKernel4Ideal := Kernel4Ideal.Gen.facts) :=
  fun m ρ _ => Kernel4Ideal.Gen.frame m ρ

theorem frame_reference4 : quiescent_Reference4Ideal (hReference4Ideal := Reference4Ideal.Gen.facts) :=
  fun m ρ _ => (θ_run Reference4Ideal.defs _ _).mono
    (fun _ h => ⟨fun c => (h c).2, sem_eq_zero_of_no_sems rfl _⟩) (Reference4Ideal.Value.run m ρ)

theorem frame_words5 : quiescent_Kernel5 (hKernel5 := Kernel5.Gen.facts) :=
  fun m ρ _ => Kernel5.Gen.frame m ρ

theorem frame_kernel5 : quiescent_Kernel5Ideal (hKernel5Ideal := Kernel5Ideal.Gen.facts) :=
  fun m ρ _ => Kernel5Ideal.Gen.frame m ρ

theorem frame_reference5 : quiescent_Reference5Ideal (hReference5Ideal := Reference5Ideal.Gen.facts) :=
  fun m ρ _ => (θ_run Reference5Ideal.defs _ _).mono
    (fun _ h => ⟨fun c => (h c).2, sem_eq_zero_of_no_sems rfl _⟩) (Reference5Ideal.Value.run m ρ)

theorem frame_words6 : quiescent_Kernel6 (hKernel6 := Kernel6.Gen.facts) :=
  fun m ρ _ => Kernel6.Gen.frame m ρ

theorem frame_kernel6 : quiescent_Kernel6Ideal (hKernel6Ideal := Kernel6Ideal.Gen.facts) :=
  fun m ρ _ => Kernel6Ideal.Gen.frame m ρ

theorem frame_reference6 : quiescent_Reference6Ideal (hReference6Ideal := Reference6Ideal.Gen.facts) :=
  fun m ρ _ => (θ_run Reference6Ideal.defs _ _).mono
    (fun _ h => ⟨fun c => (h c).2, sem_eq_zero_of_no_sems rfl _⟩) (Reference6Ideal.Value.run m ρ)

theorem frame_words7 : quiescent_Kernel7 (hKernel7 := Kernel7.Gen.facts) :=
  fun m ρ _ => Kernel7.Gen.frame m ρ

theorem frame_kernel7 : quiescent_Kernel7Ideal (hKernel7Ideal := Kernel7Ideal.Gen.facts) :=
  fun m ρ _ => Kernel7Ideal.Gen.frame m ρ

theorem frame_reference7 : quiescent_Reference7Ideal (hReference7Ideal := Reference7Ideal.Gen.facts) :=
  fun m ρ _ => (θ_run Reference7Ideal.defs _ _).mono
    (fun _ h => ⟨fun c => (h c).2, sem_eq_zero_of_no_sems rfl _⟩) (Reference7Ideal.Value.run m ρ)

theorem frame_words8 : quiescent_Kernel8 (hKernel8 := Kernel8.Gen.facts) :=
  fun m ρ _ => Kernel8.Gen.frame m ρ

theorem frame_kernel8 : quiescent_Kernel8Ideal (hKernel8Ideal := Kernel8Ideal.Gen.facts) :=
  fun m ρ _ => Kernel8Ideal.Gen.frame m ρ

theorem frame_reference8 : quiescent_Reference8Ideal (hReference8Ideal := Reference8Ideal.Gen.facts) :=
  fun m ρ _ => (θ_run Reference8Ideal.defs _ _).mono
    (fun _ h => ⟨fun c => (h c).2, sem_eq_zero_of_no_sems rfl _⟩) (Reference8Ideal.Value.run m ρ)

theorem frame_words9 : quiescent_Kernel9 (hKernel9 := Kernel9.Gen.facts) :=
  fun m ρ _ => Kernel9.Gen.frame m ρ

theorem frame_kernel9 : quiescent_Kernel9Ideal (hKernel9Ideal := Kernel9Ideal.Gen.facts) :=
  fun m ρ _ => Kernel9Ideal.Gen.frame m ρ

theorem frame_reference9 : quiescent_Reference9Ideal (hReference9Ideal := Reference9Ideal.Gen.facts) :=
  fun m ρ _ => (θ_run Reference9Ideal.defs _ _).mono
    (fun _ h => ⟨fun c => (h c).2, sem_eq_zero_of_no_sems rfl _⟩) (Reference9Ideal.Value.run m ρ)

theorem frame_words10 : quiescent_Kernel10 (hKernel10 := Kernel10.Gen.facts) :=
  fun m ρ _ => Kernel10.Gen.frame m ρ

theorem frame_kernel10 : quiescent_Kernel10Ideal (hKernel10Ideal := Kernel10Ideal.Gen.facts) :=
  fun m ρ _ => Kernel10Ideal.Gen.frame m ρ

theorem frame_reference10 : quiescent_Reference10Ideal (hReference10Ideal := Reference10Ideal.Gen.facts) :=
  fun m ρ _ => (θ_run Reference10Ideal.defs _ _).mono
    (fun _ h => ⟨fun c => (h c).2, sem_eq_zero_of_no_sems rfl _⟩) (Reference10Ideal.Value.run m ρ)

theorem frame_words11 : quiescent_Kernel11 (hKernel11 := Kernel11.Gen.facts) :=
  fun m ρ _ => Kernel11.Gen.frame m ρ

theorem frame_kernel11 : quiescent_Kernel11Ideal (hKernel11Ideal := Kernel11Ideal.Gen.facts) :=
  fun m ρ _ => Kernel11Ideal.Gen.frame m ρ

theorem frame_reference11 : quiescent_Reference11Ideal (hReference11Ideal := Reference11Ideal.Gen.facts) :=
  fun m ρ _ => (θ_run Reference11Ideal.defs _ _).mono
    (fun _ h => ⟨fun c => (h c).2, sem_eq_zero_of_no_sems rfl _⟩) (Reference11Ideal.Value.run m ρ)

theorem frame_words12 : quiescent_Kernel12 (hKernel12 := Kernel12.Gen.facts) :=
  fun m ρ _ => Kernel12.Gen.frame m ρ

theorem frame_kernel12 : quiescent_Kernel12Ideal (hKernel12Ideal := Kernel12Ideal.Gen.facts) :=
  fun m ρ _ => Kernel12Ideal.Gen.frame m ρ

theorem frame_reference12 : quiescent_Reference12Ideal (hReference12Ideal := Reference12Ideal.Gen.facts) :=
  fun m ρ _ => (θ_run Reference12Ideal.defs _ _).mono
    (fun _ h => ⟨fun c => (h c).2, sem_eq_zero_of_no_sems rfl _⟩) (Reference12Ideal.Value.run m ρ)

theorem frame_words13 : quiescent_Kernel13 (hKernel13 := Kernel13.Gen.facts) :=
  fun m ρ _ => Kernel13.Gen.frame m ρ

theorem frame_kernel13 : quiescent_Kernel13Ideal (hKernel13Ideal := Kernel13Ideal.Gen.facts) :=
  fun m ρ _ => Kernel13Ideal.Gen.frame m ρ

theorem frame_reference13 : quiescent_Reference13Ideal (hReference13Ideal := Reference13Ideal.Gen.facts) :=
  fun m ρ _ => (θ_run Reference13Ideal.defs _ _).mono
    (fun _ h => ⟨fun c => (h c).2, sem_eq_zero_of_no_sems rfl _⟩) (Reference13Ideal.Value.run m ρ)

theorem frame_words14 : quiescent_Kernel14 (hKernel14 := Kernel14.Gen.facts) :=
  fun m ρ _ => Kernel14.Gen.frame m ρ

theorem frame_kernel14 : quiescent_Kernel14Ideal (hKernel14Ideal := Kernel14Ideal.Gen.facts) :=
  fun m ρ _ => Kernel14Ideal.Gen.frame m ρ

theorem frame_reference14 : quiescent_Reference14Ideal (hReference14Ideal := Reference14Ideal.Gen.facts) :=
  fun m ρ _ => (θ_run Reference14Ideal.defs _ _).mono
    (fun _ h => ⟨fun c => (h c).2, sem_eq_zero_of_no_sems rfl _⟩) (Reference14Ideal.Value.run m ρ)

theorem frame_words15 : quiescent_Kernel15 (hKernel15 := Kernel15.Gen.facts) :=
  fun m ρ _ => Kernel15.Gen.frame m ρ

theorem frame_kernel15 : quiescent_Kernel15Ideal (hKernel15Ideal := Kernel15Ideal.Gen.facts) :=
  fun m ρ _ => Kernel15Ideal.Gen.frame m ρ

theorem frame_reference15 : quiescent_Reference15Ideal (hReference15Ideal := Reference15Ideal.Gen.facts) :=
  fun m ρ _ => (θ_run Reference15Ideal.defs _ _).mono
    (fun _ h => ⟨fun c => (h c).2, sem_eq_zero_of_no_sems rfl _⟩) (Reference15Ideal.Value.run m ρ)

theorem frame_words16 : quiescent_Kernel16 (hKernel16 := Kernel16.Gen.facts) :=
  fun m ρ _ => Kernel16.Gen.frame m ρ

theorem frame_kernel16 : quiescent_Kernel16Ideal (hKernel16Ideal := Kernel16Ideal.Gen.facts) :=
  fun m ρ _ => Kernel16Ideal.Gen.frame m ρ

theorem frame_reference16 : quiescent_Reference16Ideal (hReference16Ideal := Reference16Ideal.Gen.facts) :=
  fun m ρ _ => (θ_run Reference16Ideal.defs _ _).mono
    (fun _ h => ⟨fun c => (h c).2.2, sem_eq_zero_of_no_sems rfl _⟩) (Reference16Ideal.Value.run m ρ)

end Products

end
-- ==== Proof.Products.Sums.lean ====
/-
  Sums over all positions of a contraction, from the parts a grid goes through.
-/
module

public import Mathlib.Algebra.BigOperators.Fin
public import Mathlib.Data.EReal.Basic
public import Mathlib.Logic.Equiv.Fin.Basic

@[expose] public section

noncomputable section

namespace Products

/-- A sum over two parts. -/
theorem sum_parts {a b n : ℕ} (hn : a + b = n) (f : Fin n → EReal) (g : Fin a → EReal) (h : Fin b → EReal)
    (hg : ∀ p : Fin a, g p = f ⟨p.val, by omega⟩) (hh : ∀ p : Fin b, h p = f ⟨a + p.val, by omega⟩) : ∑ p, g p + ∑ p, h p = ∑ p, f p := by
  subst hn
  exact ((Fin.sum_univ_add f).trans
    (congrArg₂ (· + ·) (Finset.sum_congr rfl fun p _ => (hg p).symm) (Finset.sum_congr rfl fun p _ => (hh p).symm))).symm

theorem block_lt {a b k p n : ℕ} (hn : a * b = n) (hk : k < a) (hp : p < b) : b * k + p < n := by
  have h := Nat.mul_le_mul_left b (show k + 1 ≤ a from hk)
  rw [Nat.mul_add, Nat.mul_one, Nat.mul_comm b a] at h
  omega

/-- A sum over `a` blocks of `b` positions. -/
theorem sum_blocks {a b n : ℕ} (hn : a * b = n) (f : Fin n → EReal) (g : Fin a → Fin b → EReal)
    (hg : ∀ k p, g k p = f ⟨b * k.val + p.val, block_lt hn k.isLt p.isLt⟩) : ∑ k, ∑ p, g k p = ∑ p, f p := by
  subst hn
  rw [← Fintype.sum_prod_type' (f := g)]
  refine Fintype.sum_equiv finProdFinEquiv _ f fun x => ?_
  obtain ⟨k, p⟩ := x
  exact (hg k p).trans (congrArg f (Fin.ext (Nat.add_comm _ _)))

/-- A sum over `a` positions, behind `b` zeros. -/
theorem sum_padded {a b n : ℕ} (hn : a + b = n) (f : Fin a → EReal) (g : Fin n → EReal) (hg : ∀ p : Fin a, g ⟨p.val, by omega⟩ = f p)
    (hz : ∀ p : Fin b, g ⟨a + p.val, by omega⟩ = 0) : ∑ p, g p = ∑ p, f p := by
  rw [← sum_parts hn g f (fun _ => 0) (fun p => (hg p).symm) (fun p => (hz p).symm), Finset.sum_const_zero, add_zero]

end Products

end
-- ==== Proof.Products.Four.lean ====
/-
  A product over one of the four blocks of 704 columns that a point reads at once.
-/
module

public import Idealize.ShloMosaic.Lib.Pipeline.ValueKit
public import Idealize.ShloMosaic.Lib.VecWindow

@[expose] public section

noncomputable section

namespace Products

open Idealize.ShloMosaic

abbrev Rows4 : Shape := ⟨3, ![4, 1024, 704]⟩
abbrev Rows1 : Shape := ⟨3, ![1, 1024, 704]⟩
abbrev Cols4 : Shape := ⟨4, ![1, 4, 704, 1024]⟩
abbrev Cols1 : Shape := ⟨4, ![1, 1, 704, 1024]⟩

/-- One block's products, where the blocks are parts of larger arrays. -/
theorem products (x0 : Vec Ideal Rows4 .bf16) (x1 : Vec Ideal Cols4 .bf16) (k : Fin 4) {o0 : Fin 3 → ℕ} {o1 : Fin 4 → ℕ}
    (h0 : o0 = ![k.val, 0, 0]) (h1 : o1 = ![0, k.val, 0, 0]) (i0 : ∀ a, o0 a + Rows1.size a ≤ Rows4.size a)
    (i1 : ∀ a, o1 a + Cols1.size a ≤ Cols4.size a) (r l : Fin 1024) :
    (∑ p : Fin 704, (View.ld x0 (Rect.unit (s := Rows4) o0 Rows1.size i0) : Vec Ideal Rows1 .bf16) (ix3 (0 : Fin 1) r p)
        * (View.ld x1 (Rect.unit (s := Cols4) o1 Cols1.size i1) : Vec Ideal Cols1 .bf16) (ix4 (0 : Fin 1) (0 : Fin 1) p l) : EReal)
      = ∑ p : Fin 704, x0 (ix3 k r p) * x1 (ix4 (0 : Fin 1) k p l) := by
  subst h0 h1
  refine Finset.sum_congr rfl fun p _ => congrArg₂ (fun a b : EReal => a * b)
    (congrArg x0 (funext fun a => Fin.ext ?_)) (congrArg x1 (funext fun a => Fin.ext ?_))
  · match a with
    | ⟨0, _⟩ => show k.val + 1 * 0 = k.val; omega
    | ⟨1, _⟩ => show 0 + 1 * r.val = r.val; omega
    | ⟨2, _⟩ => show 0 + 1 * p.val = p.val; omega
  · match a with
    | ⟨0, _⟩ => rfl
    | ⟨1, _⟩ => show k.val + 1 * 0 = k.val; omega
    | ⟨2, _⟩ => show 0 + 1 * p.val = p.val; omega
    | ⟨3, _⟩ => show 0 + 1 * l.val = l.val; omega

end Products

end
-- ==== Proof.Products.FfnUpDx.lean ====
/-
  The gradient of the first feed-forward product's input: each point adds up four of the eight blocks of 704 columns, the
  second point of a block of rows on top of the first.
-/
module

public import proofs.«01_k».proof.Defs
public import proofs.«01_k».proof.Proof.Products.Sums
public import proofs.«01_k».proof.Proof.Products.Four
public import proofs.«01_k».proof.Proof.Gen.Kernel2Ideal.Value
public import proofs.«01_k».proof.Proof.Gen.Reference2Ideal.Run
public import Idealize.ShloMosaic.Lib.Pipeline.ValueKit
public import Idealize.ShloMosaic.Lib.VecWindow
public import Idealize.ShloMosaic.Lib.StableHlo.Run

@[expose] public section

set_option maxRecDepth 16384
set_option maxHeartbeats 1000000

noncomputable section

namespace Products.FfnUpDx.Ref

open Idealize.ShloMosaic Cert.Reference2Ideal Cert.Reference2Ideal.Gen

/-- The reference's array. -/
theorem array_at (A : FVec Ideal S1024x5632 .f32) (B : FVec Ideal S8192x5632 .bf16) (r : Fin 8192) (l : Fin 1024) :
    (truncf .bf16 (Host.dotGeneral dot_S8192x5632_S1024x5632_S8192x1024_1_1_0_0_n_n none (extf .f32 B bitsLt_bf16_f32) A) bitsLt_bf16_f32
      : FVec Ideal S8192x1024 .bf16) (ix2 r l) = ∑ p : Fin 5632, B (ix2 r p) * A (ix2 l p) := by
  pointwise []

end Products.FfnUpDx.Ref

namespace Products.FfnUpDx

open Idealize.ShloMosaic Idealize.ShloMosaic.TcCoe Idealize.SL.Sem Cert.Kernel2Ideal Cert.Kernel2Ideal.Gen

section
variable {F : FTy → Type} [FloatOps F]

abbrev rows0 : Rect S4x1024x704 := Rect.unit (s := S4x1024x704) ![0, 0, 0] S1x1024x704.size inb_S4x1024x704_S1x1024x704_0_0_0
abbrev cols0 : Rect S1x4x704x1024 := Rect.unit (s := S1x4x704x1024) ![0, 0, 0, 0] S1x1x704x1024.size inb_S1x4x704x1024_S1x1x704x1024_0_0_0_0
abbrev rows1 : Rect S4x1024x704 := Rect.unit (s := S4x1024x704) ![1, 0, 0] S1x1024x704.size inb_S4x1024x704_S1x1024x704_1_0_0
abbrev cols1 : Rect S1x4x704x1024 := Rect.unit (s := S1x4x704x1024) ![0, 1, 0, 0] S1x1x704x1024.size inb_S1x4x704x1024_S1x1x704x1024_0_1_0_0
abbrev rows2 : Rect S4x1024x704 := Rect.unit (s := S4x1024x704) ![2, 0, 0] S1x1024x704.size inb_S4x1024x704_S1x1024x704_2_0_0
abbrev cols2 : Rect S1x4x704x1024 := Rect.unit (s := S1x4x704x1024) ![0, 2, 0, 0] S1x1x704x1024.size inb_S1x4x704x1024_S1x1x704x1024_0_2_0_0
abbrev rows3 : Rect S4x1024x704 := Rect.unit (s := S4x1024x704) ![3, 0, 0] S1x1024x704.size inb_S4x1024x704_S1x1024x704_3_0_0
abbrev cols3 : Rect S1x4x704x1024 := Rect.unit (s := S1x4x704x1024) ![0, 3, 0, 0] S1x1x704x1024.size inb_S1x4x704x1024_S1x1x704x1024_0_3_0_0

/-- What a point adds. -/
def step (x0 : Vec F S4x1024x704 .bf16) (x1 : Vec F S1x4x704x1024 .bf16) : FVec F S1024x1024 .f32 :=
  k0_pay4 (View.ld x0 rows0) (View.ld x1 cols0) (View.ld x0 rows1) (View.ld x1 cols1) (View.ld x0 rows2) (View.ld x1 cols2) (View.ld x0 rows3) (View.ld x1 cols3)

variable (c : Dev nD) (i : grid0.Coords) (arg3 : Memref sig .tc .vmem S4x1024x704 .bf16) (harg3 : arg3.IsWhole) (arg4 : Memref sig .tc .vmem S1x4x704x1024 .bf16) (harg4 : arg4.IsWhole) (arg5 : Memref sig .tc .vmem S1024x1024 .bf16) (harg5 : arg5.IsWhole) (arg6 : Memref sig .tc .vmem S1024x1024 .f32) (harg6 : arg6.IsWhole)
  (x0 : Vec F S4x1024x704 .bf16) (x1 : Vec F S1x4x704x1024 .bf16) (xs0 : Vec F S1024x1024 .f32)

theorem load0 (R : Rect S4x1024x704) : arg3.view.readAt (Elt F) R.toLoadRect (harg3.unread x0) = View.ld x0 R :=
  (View.readAt_eq_ld arg3.view (harg3.unread x0) R).trans (congrArg (fun x => View.ld x R) (harg3.read_unread x0))

theorem load1 (R : Rect S1x4x704x1024) : arg4.view.readAt (Elt F) R.toLoadRect (harg4.unread x1) = View.ld x1 R :=
  (View.readAt_eq_ld arg4.view (harg4.unread x1) R).trans (congrArg (fun x => View.ld x R) (harg4.read_unread x1))

theorem step_eq : k0_pay4 (arg3.view.readAt (Elt F) rows0.toLoadRect (harg3.unread x0)) (arg4.view.readAt (Elt F) cols0.toLoadRect (harg4.unread x1))
    (arg3.view.readAt (Elt F) rows1.toLoadRect (harg3.unread x0)) (arg4.view.readAt (Elt F) cols1.toLoadRect (harg4.unread x1))
    (arg3.view.readAt (Elt F) rows2.toLoadRect (harg3.unread x0)) (arg4.view.readAt (Elt F) cols2.toLoadRect (harg4.unread x1))
    (arg3.view.readAt (Elt F) rows3.toLoadRect (harg3.unread x0)) (arg4.view.readAt (Elt F) cols3.toLoadRect (harg4.unread x1)) = step x0 x1 :=
  congr (congr (congr (congr (congr (congr (congrArg₂ k0_pay4 (load0 arg3 harg3 x0 rows0) (load1 arg4 harg4 x1 cols0)) (load0 arg3 harg3 x0 rows1))
    (load1 arg4 harg4 x1 cols1)) (load0 arg3 harg3 x0 rows2)) (load1 arg4 harg4 x1 cols2)) (load0 arg3 harg3 x0 rows3)) (load1 arg4 harg4 x1 cols3)

theorem first (hc0 : cond0_0 i) (hc1 : ¬cond0_1 i) (hc2 : ¬cond0_2 i) :
    sout0_A_0 c i arg3 harg3 arg4 harg4 arg5 harg5 arg6 harg6 hc0 hc1 hc2 x0 x1 = k0_pay1 (step x0 x1) := by
  refine (View.read_writes_full VS0_0 VS0_0.junk _ _ _).trans ?_
  exact congrArg k0_pay1 (step_eq arg3 harg3 arg4 harg4 x0 x1)

theorem second (hc0 : ¬cond0_0 i) (hc1 : cond0_1 i) (hc2 : cond0_2 i) :
    out0_B_2 c i arg3 harg3 arg4 harg4 arg5 harg5 arg6 harg6 hc0 hc1 hc2 x0 x1 xs0 = k0_pay3 (k0_pay2 (step x0 x1) xs0) := by
  refine (View.read_writes_full VO0_2 VO0_2.junk _ _ _).trans ((congrArg k0_pay3 (View.readCov_full _ _ _ _ _)).trans ?_)
  have e2 := (View.readAt_full (Val := Elt F) arg6.view (harg6.unread xs0) inb_S1024x1024_S1024x1024_0_0).trans (harg6.read_unread _)
  exact congrArg k0_pay3 (congrArg₂ k0_pay2 (step_eq arg3 harg3 arg4 harg4 x0 x1) e2)

end

theorem four_at (v0 v1 v2 v3 : Vec Ideal S1x1024x704 .bf16) (w0 w1 w2 w3 : Vec Ideal S1x1x704x1024 .bf16) (r l : Fin 1024) :
    k0_pay4 v0 w0 v1 w1 v2 w2 v3 w3 (ix2 r l)
      = (∑ p : Fin 704, v0 (ix3 (0 : Fin 1) r p) * w0 (ix4 (0 : Fin 1) (0 : Fin 1) p l))
        + (∑ p : Fin 704, v1 (ix3 (0 : Fin 1) r p) * w1 (ix4 (0 : Fin 1) (0 : Fin 1) p l))
        + (∑ p : Fin 704, v2 (ix3 (0 : Fin 1) r p) * w2 (ix4 (0 : Fin 1) (0 : Fin 1) p l))
        + (∑ p : Fin 704, v3 (ix3 (0 : Fin 1) r p) * w3 (ix4 (0 : Fin 1) (0 : Fin 1) p l)) := by
  pointwise [k0_pay4]

/-- What a point adds, at an index. -/
theorem step_at (x0 : Vec Ideal S4x1024x704 .bf16) (x1 : Vec Ideal S1x4x704x1024 .bf16) (r l : Fin 1024) (f g : Fin 4 → Fin 704 → EReal)
    (hf : ∀ k p, x0 (ix3 k r p) = f k p) (hg : ∀ k p, x1 (ix4 (0 : Fin 1) k p l) = g k p) :
    step x0 x1 (ix2 r l) = (∑ p, f 0 p * g 0 p) + (∑ p, f 1 p * g 1 p) + (∑ p, f 2 p * g 2 p) + (∑ p, f 3 p * g 3 p) := by
  simp only [← hf, ← hg]
  exact (four_at _ _ _ _ _ _ _ _ r l).trans (congrArg₂ (fun a b : EReal => a + b) (congrArg₂ (fun a b : EReal => a + b)
    (congrArg₂ (fun a b : EReal => a + b) (products x0 x1 0 rfl rfl _ _ r l) (products x0 x1 1 rfl rfl _ _ r l)) (products x0 x1 2 rfl rfl _ _ r l))
    (products x0 x1 3 rfl rfl _ _ r l))

theorem eight (a b c d e f g h : EReal) : (a + b + c + d) + (e + f + g + h) = a + b + c + d + e + f + g + h := by
  simp only [add_assoc]

/-- Both halves of the product at an index. -/
theorem halves (x0 y0 : Vec Ideal S4x1024x704 .bf16) (x1 y1 : Vec Ideal S1x4x704x1024 .bf16) (r l : Fin 1024) (f g : Fin 8 → Fin 704 → EReal)
    (hx0 : ∀ (k : Fin 4) p, x0 (ix3 k r p) = f ⟨k.val, by omega⟩ p) (hx1 : ∀ (k : Fin 4) p, x1 (ix4 (0 : Fin 1) k p l) = g ⟨k.val, by omega⟩ p)
    (hy0 : ∀ (k : Fin 4) p, y0 (ix3 k r p) = f ⟨4 + k.val, by omega⟩ p) (hy1 : ∀ (k : Fin 4) p, y1 (ix4 (0 : Fin 1) k p l) = g ⟨4 + k.val, by omega⟩ p) :
    k0_pay3 (k0_pay2 (step y0 y1) (k0_pay1 (step x0 x1))) (ix2 r l) = ∑ k, ∑ p, f k p * g k p := by
  have e (u v : FVec Ideal S1024x1024 .f32) : k0_pay3 (k0_pay2 u (k0_pay1 v)) (ix2 r l) = v (ix2 r l) + u (ix2 r l) := by
    pointwise [k0_pay3, k0_pay2, k0_pay1]
  rw [e, step_at x0 x1 r l (fun k => f ⟨k.val, by omega⟩) (fun k => g ⟨k.val, by omega⟩) hx0 hx1,
    step_at y0 y1 r l (fun k => f ⟨4 + k.val, by omega⟩) (fun k => g ⟨4 + k.val, by omega⟩) hy0 hy1, Fin.sum_univ_eight]
  exact eight _ _ _ _ _ _ _ _

variable (m : (ℓ : Loc nD τ sig) → Buf (Elt Ideal) ℓ) (c : Dev nD)

theorem idx0 : ∀ t : Fin cfg0.N, win0_0.index t (0 : Fin 3) = t.val % 2 ∧ win0_0.index t (1 : Fin 3) = t.val / 2 ∧ win0_0.index t (2 : Fin 3) = 0 := by decide +kernel
theorem idx1 : ∀ t : Fin cfg0.N, win0_1.index t (0 : Fin 4) = 0 ∧ win0_1.index t (1 : Fin 4) = t.val % 2 ∧ win0_1.index t (2 : Fin 4) = 0
    ∧ win0_1.index t (3 : Fin 4) = 0 := by decide +kernel

/-- What the host prepares of the gradient: the columns in 8 blocks. -/
theorem prep0_at (B : FVec Ideal S8192x5632 .bf16) (hB : m ((c : Thread nD τ).loc main_arg1) = B) (x : Fin 8) (r : Fin 8192) (p : Fin 704) :
    (V m c main_v4 : FVec Ideal S8x8192x704 .bf16) (ix3 x r p) = B (ix2 r (⟨x.val * 704 + p.val, by omega⟩ : Fin 5632)) := by
  subst hB
  unfold V
  after_results
  pointwise []

/-- What the host prepares of the weight: transposed, the rows in 8 blocks. -/
theorem prep1_at (A : FVec Ideal S1024x5632 .f32) (hA : m ((c : Thread nD τ).loc main_arg0) = A) (x : Fin 8) (p : Fin 704) (l : Fin 1024) :
    (V m c main_v2 : FVec Ideal S1x8x704x1024 .bf16) (ix4 (0 : Fin 1) x p l) = A (ix2 l (⟨x.val * 704 + p.val, by omega⟩ : Fin 5632)) := by
  subst hA
  unfold V
  after_results
  pointwise []

theorem block0 (t : Fin cfg0.N) (k : Fin 4) (r : Fin 1024) (p : Fin 704) (x : Fin 8) (R : Fin 8192) (hx : x.val = 4 * (t.val % 2) + k.val)
    (hR : R.val = 1024 * (t.val / 2) + r.val) :
    (iblk m c 0 t : Vec Ideal S4x1024x704 .bf16) (ix3 k r p) = (V m c main_v4 : FVec Ideal S8x8192x704 .bf16) (ix3 x R p) := by
  unfold iblk
  rw [View.read_apply]
  refine congrArg (V m c main_v4 : FVec Ideal S8x8192x704 .bf16) ?_
  funext a
  apply Fin.ext
  match a with
  | ⟨0, _⟩ => show win0_0.index t (0 : Fin 3) * 4 + 1 * k.val = x.val; rw [(idx0 t).1]; omega
  | ⟨1, _⟩ => show win0_0.index t (1 : Fin 3) * 1024 + 1 * r.val = R.val; rw [(idx0 t).2.1]; omega
  | ⟨2, _⟩ => show win0_0.index t (2 : Fin 3) * 704 + 1 * p.val = p.val; rw [(idx0 t).2.2]; omega

theorem block1 (t : Fin cfg0.N) (k : Fin 4) (p : Fin 704) (l : Fin 1024) (x : Fin 8) (hx : x.val = 4 * (t.val % 2) + k.val) :
    (iblk m c 1 t : Vec Ideal S1x4x704x1024 .bf16) (ix4 (0 : Fin 1) k p l) = (V m c main_v2 : FVec Ideal S1x8x704x1024 .bf16) (ix4 (0 : Fin 1) x p l) := by
  unfold iblk
  rw [View.read_apply]
  refine congrArg (V m c main_v2 : FVec Ideal S1x8x704x1024 .bf16) ?_
  funext a
  apply Fin.ext
  match a with
  | ⟨0, _⟩ => show win0_1.index t (0 : Fin 4) * 1 + 1 * 0 = 0; rw [(idx1 t).1]
  | ⟨1, _⟩ => show win0_1.index t (1 : Fin 4) * 4 + 1 * k.val = x.val; rw [(idx1 t).2.1]; omega
  | ⟨2, _⟩ => show win0_1.index t (2 : Fin 4) * 704 + 1 * p.val = p.val; rw [(idx1 t).2.2.1]; omega
  | ⟨3, _⟩ => show win0_1.index t (3 : Fin 4) * 1024 + 1 * l.val = l.val; rw [(idx1 t).2.2.2]; omega

/-- What two points of a block of the output leave in it. -/
theorem pair (n : ℕ) (hn : n + 1 < cfg0.N) (h : n % 2 = 0) : (outsAt0 m c (n + 1) hn).1
    = k0_pay3 (k0_pay2 (step (iblk m c 0 ⟨n + 1, hn⟩) (iblk m c 1 ⟨n + 1, hn⟩)) (k0_pay1 (step (iblk m c 0 ⟨n, by omega⟩) (iblk m c 1 ⟨n, by omega⟩)))) := by
  have e := outsAt0_B m c ⟨n + 1, hn⟩ (show ¬(n + 1) % 2 = 0 by omega) (show (n + 1) % 2 = 1 by omega) (show (n + 1) % 2 = 1 by omega)
  have e' := outsAt0_A m c ⟨n, by omega⟩ (show n % 2 = 0 by omega) (show ¬n % 2 = 1 by omega) (show ¬n % 2 = 1 by omega)
  dsimp only at e e'
  simp only [Nat.add_sub_cancel] at e
  rw [e]
  dsimp only
  rw [second, e']
  dsimp only
  rw [first]

theorem point_lt (R : Fin 8192) : 2 * (R.val / 1024) + 1 < cfg0.N := lt_of_lt_of_eq (by omega) N_0.symm

/-- The points that write a block of rows. -/
theorem array_block (R : Fin 8192) (l : Fin 1024) : (Value.G2 m c : FVec Ideal S8192x1024 .bf16) (ix2 R l)
    = (outsAt0 m c (2 * (R.val / 1024) + 1) (point_lt R)).1 (ix2 (⟨R.val % 1024, by omega⟩ : Fin 1024) l) := by
  have hp : Value.pt2Of (ix2 R l) = 2 * (R.val / 1024) + 1 := by
    show 2 * (1 * (R.val / 1024 - 0) + 1 * (l.val / 1024 - 0)) + 1 = _
    omega
  have hl : Value.loc2Of (ix2 R l) = ix2 (⟨R.val % 1024, by omega⟩ : Fin 1024) l := by
    funext a; apply Fin.ext
    match a with
    | ⟨0, _⟩ => rfl
    | ⟨1, _⟩ => show l.val % 1024 = l.val; omega
  unfold Value.G2
  rw [dif_pos (by rw [hp]; exact point_lt R), hl, Value.fold0_congr m c _ _ (2 * (R.val / 1024) + 1) (by rw [Nat.zero_add]; exact point_lt R) hp,
    ← Value.outsAt0_sweep m c _ (point_lt R)]

/-- The kernel's array. -/
theorem array_at (A : FVec Ideal S1024x5632 .f32) (B : FVec Ideal S8192x5632 .bf16) (hA : m ((c : Thread nD τ).loc main_arg0) = A)
    (hB : m ((c : Thread nD τ).loc main_arg1) = B) (R : Fin 8192) (l : Fin 1024) :
    (Value.G2 m c : FVec Ideal S8192x1024 .bf16) (ix2 R l) = ∑ p : Fin 5632, B (ix2 R p) * A (ix2 l p) := by
  rw [array_block, pair m c (2 * (R.val / 1024)) (point_lt R) (by omega)]
  refine (halves _ _ _ _ ⟨R.val % 1024, by omega⟩ l (fun x p => B (ix2 R (⟨x.val * 704 + p.val, by omega⟩ : Fin 5632)))
    (fun x p => A (ix2 l (⟨x.val * 704 + p.val, by omega⟩ : Fin 5632)))
    (fun k p => (block0 m c _ k _ p _ R (show k.val = 4 * (2 * (R.val / 1024) % 2) + k.val by omega)
      (show R.val = 1024 * (2 * (R.val / 1024) / 2) + R.val % 1024 by omega)).trans (prep0_at m c B hB _ R p))
    (fun k p => (block1 m c _ k p l _ (show k.val = 4 * (2 * (R.val / 1024) % 2) + k.val by omega)).trans (prep1_at m c A hA _ p l))
    (fun k p => (block0 m c _ k _ p _ R (show 4 + k.val = 4 * ((2 * (R.val / 1024) + 1) % 2) + k.val by omega)
      (show R.val = 1024 * ((2 * (R.val / 1024) + 1) / 2) + R.val % 1024 by omega)).trans (prep0_at m c B hB _ R p))
    (fun k p => (block1 m c _ k p l _ (show 4 + k.val = 4 * ((2 * (R.val / 1024) + 1) % 2) + k.val by omega)).trans (prep1_at m c A hA _ p l))).trans ?_
  exact sum_blocks (a := 8) (b := 704) rfl (fun p : Fin 5632 => B (ix2 R p) * A (ix2 l p)) _
    (fun k p => congrArg (fun q : Fin 5632 => B (ix2 R q) * A (ix2 l q)) (Fin.ext (by show k.val * 704 + p.val = 704 * k.val + p.val; omega)))

theorem algebraic : Cert.algebraic_Kernel2Ideal_Reference2Ideal := by
  intro m g m' g' _ hagree
  refine ⟨fun c => Value.G2 m c, Value.run m g, ?_⟩
  refine (θ_run Cert.Reference2Ideal.defs _ _).mono (fun _ h c => ?_) (Cert.Reference2Ideal.Value.run m' g')
  obtain ⟨h0, hk⟩ := h c
  refine ⟨h0.trans ?_, hk⟩
  rw [(hagree c).1, (hagree c).2]
  funext i
  obtain ⟨r, l, rfl⟩ : ∃ (r : Fin 8192) (l : Fin 1024), i = ix2 r l := ⟨_, _, eq_ix2 i⟩
  exact (Ref.array_at _ _ r l).trans (array_at m c _ _ rfl rfl r l).symm

end Products.FfnUpDx

end
-- ==== Proof.Products.FfnUpDw.lean ====
/-
  The gradient of the up projection's weight, a block of its rows after another: the first point of a block leaves the product over
  the first 4096 tokens, the second adds the product over the rest.
-/
module

public import proofs.«01_k».proof.Defs
public import proofs.«01_k».proof.Proof.Products.Sums
public import proofs.«01_k».proof.Proof.Gen.Kernel3Ideal.Value
public import proofs.«01_k».proof.Proof.Gen.Reference3Ideal.Run
public import Idealize.ShloMosaic.Lib.Pipeline.ValueKit
public import Idealize.ShloMosaic.Lib.VecWindow
public import Idealize.ShloMosaic.Lib.StableHlo.Run

@[expose] public section

set_option maxRecDepth 16384
set_option maxHeartbeats 1000000

noncomputable section

namespace Products.FfnUpDw.Ref

open Idealize.ShloMosaic Cert.Reference3Ideal Cert.Reference3Ideal.Gen

/-- The reference's array. -/
theorem array_at (A : FVec Ideal S8192x5632 .bf16) (B : FVec Ideal S8192x1024 .bf16) (x : Fin 8) (r : Fin 704) (l : Fin 1024) :
    (shapeCast S8x704x1024 (transpose S5632x1024 [1, 0] (transpose S1024x5632 [1, 0] (Host.dotGeneral dot_S8192x5632_S8192x1024_S5632x1024_0_0_1_1_n_n none (extf .f32 A bitsLt_bf16_f32)
      (extf .f32 B bitsLt_bf16_f32)) transposes_S5632x1024_S1024x5632_1_0) transposes_S1024x5632_S5632x1024_1_0) shapeCasts_S5632x1024_S8x704x1024 : FVec Ideal S8x704x1024 .f32) (ix3 x r l)
      = ∑ p : Fin 8192, A (ix2 p (⟨x.val * 704 + r.val, by omega⟩ : Fin 5632)) * B (ix2 p l) := by
  pointwise []

end Products.FfnUpDw.Ref

namespace Products.FfnUpDw

open Idealize.ShloMosaic Idealize.ShloMosaic.TcCoe Idealize.SL.Sem Cert.Kernel3Ideal Cert.Kernel3Ideal.Gen

section
variable {F : FTy → Type} [FloatOps F]
variable (c : Dev nD) (i : grid0.Coords) (arg3 : Memref sig .tc .vmem S1x4096x704 .bf16) (harg3 : arg3.IsWhole) (arg4 : Memref sig .tc .vmem S4096x1024 .bf16) (harg4 : arg4.IsWhole)
  (arg5 : Memref sig .tc .vmem S1x704x1024 .f32) (harg5 : arg5.IsWhole) (arg6 : Memref sig .tc .vmem S704x1024 .f32) (harg6 : arg6.IsWhole)
  (x0 : Vec F S1x4096x704 .bf16) (x1 : Vec F S4096x1024 .bf16) (xs0 : Vec F S704x1024 .f32)

theorem first (hc0 : cond0_0 i) (hc1 : ¬cond0_1 i) (hc2 : ¬cond0_2 i) :
    sout0_A_0 c i arg3 harg3 arg4 harg4 arg5 harg5 arg6 harg6 hc0 hc1 hc2 x0 x1 = k0_pay2 x0 x1 := by
  refine (View.read_writes_full VS0_0 VS0_0.junk _ _ _).trans ?_
  exact congrArg₂ k0_pay2 ((View.readAt_full _ _ _).trans (harg3.read_unread _)) ((View.readAt_full _ _ _).trans (harg4.read_unread _))

theorem second (hc0 : ¬cond0_0 i) (hc1 : cond0_1 i) (hc2 : cond0_2 i) :
    out0_B_2 c i arg3 harg3 arg4 harg4 arg5 harg5 arg6 harg6 hc0 hc1 hc2 x0 x1 xs0 = k0_pay4 (k0_pay3 x0 x1 xs0) := by
  refine (View.read_writes_full VO0_2 VO0_2.junk _ _ _).trans ((congrArg k0_pay4 (View.readCov_full _ _ _ _ _)).trans ?_)
  have e0 := (View.readAt_full (Val := Elt F) arg3.view (harg3.unread x0) inb_S1x4096x704_S1x4096x704_0_0_0).trans (harg3.read_unread _)
  have e1 := (View.readAt_full (Val := Elt F) arg4.view (harg4.unread x1) inb_S4096x1024_S4096x1024_0_0).trans (harg4.read_unread _)
  have e2 := (View.readAt_full (Val := Elt F) arg6.view (harg6.unread xs0) inb_S704x1024_S704x1024_0_0).trans (harg6.read_unread _)
  exact congrArg k0_pay4 (congr (congrArg₂ k0_pay3 e0 e1) e2)

end

/-- Both halves of the product at an index. -/
theorem halves (x0 y0 : Vec Ideal S1x4096x704 .bf16) (x1 y1 : Vec Ideal S4096x1024 .bf16) (a b : Fin 8192 → EReal) (r : Fin 704) (l : Fin 1024)
    (hx0 : ∀ p : Fin 4096, x0 (ix3 (0 : Fin 1) p r) = a ⟨p.val, by omega⟩) (hx1 : ∀ p : Fin 4096, x1 (ix2 p l) = b ⟨p.val, by omega⟩)
    (hy0 : ∀ p : Fin 4096, y0 (ix3 (0 : Fin 1) p r) = a ⟨4096 + p.val, by omega⟩) (hy1 : ∀ p : Fin 4096, y1 (ix2 p l) = b ⟨4096 + p.val, by omega⟩) :
    k0_pay3 y0 y1 (k0_pay2 x0 x1) (ix2 r l) = ∑ p : Fin 8192, a p * b p := by
  have e (x0 : Vec Ideal S1x4096x704 .bf16) (x1 : Vec Ideal S4096x1024 .bf16) : k0_pay2 x0 x1 (ix2 r l) = ∑ p : Fin 4096, x0 (ix3 (0 : Fin 1) p r) * x1 (ix2 p l) := by
    pointwise [k0_pay2, k0_pay1]
  have e' (x0 : Vec Ideal S1x4096x704 .bf16) (x1 : Vec Ideal S4096x1024 .bf16) (y : Vec Ideal S704x1024 .f32) :
      k0_pay3 x0 x1 y (ix2 r l) = y (ix2 r l) + ∑ p : Fin 4096, x0 (ix3 (0 : Fin 1) p r) * x1 (ix2 p l) := by
    pointwise [k0_pay3, k0_pay1]
  rw [e', e]
  exact sum_parts (a := 4096) (b := 4096) rfl (fun p : Fin 8192 => a p * b p) (fun p => x0 (ix3 (0 : Fin 1) p r) * x1 (ix2 p l))
    (fun p => y0 (ix3 (0 : Fin 1) p r) * y1 (ix2 p l)) (fun p => congrArg₂ (· * ·) (hx0 p) (hx1 p)) (fun p => congrArg₂ (· * ·) (hy0 p) (hy1 p))

variable (m : (ℓ : Loc nD τ sig) → Buf (Elt Ideal) ℓ) (c : Dev nD)

theorem idx0 : ∀ t : Fin cfg0.N, win0_0.index t (0 : Fin 3) = t.val / 2 ∧ win0_0.index t (1 : Fin 3) = t.val % 2 ∧ win0_0.index t (2 : Fin 3) = 0 := by decide +kernel
theorem idx1 : ∀ t : Fin cfg0.N, win0_1.index t (0 : Fin 2) = t.val % 2 ∧ win0_1.index t (1 : Fin 2) = 0 := by decide +kernel

/-- What the host prepares: the columns in 8 blocks. -/
theorem prep_at (A : FVec Ideal S8192x5632 .bf16) (hA : m ((c : Thread nD τ).loc main_arg1) = A) (x : Fin 8) (p : Fin 8192) (r : Fin 704) :
    (V m c main_v1 : FVec Ideal S8x8192x704 .bf16) (ix3 x p r) = A (ix2 p (⟨x.val * 704 + r.val, by omega⟩ : Fin 5632)) := by
  subst hA
  unfold V
  after_results
  pointwise []

theorem block0 (A : FVec Ideal S8192x5632 .bf16) (hA : m ((c : Thread nD τ).loc main_arg1) = A) (t : Fin cfg0.N) (p : Fin 4096) (r : Fin 704) (P : Fin 8192) (R : Fin 5632)
    (hP : P.val = 4096 * (t.val % 2) + p.val) (hR : R.val = 704 * (t.val / 2) + r.val) :
    (iblk m c 0 t : Vec Ideal S1x4096x704 .bf16) (ix3 (0 : Fin 1) p r) = A (ix2 P R) := by
  have hx : t.val / 2 < 8 := by omega
  unfold iblk
  rw [View.read_apply]
  refine Eq.trans ?_ ((prep_at m c A hA ⟨t.val / 2, hx⟩ P r).trans (congrArg (fun q : Fin 5632 => A (ix2 P q)) (Fin.ext (by show t.val / 2 * 704 + r.val = R.val; omega))))
  show V m c main_v1 _ = V m c main_v1 _
  refine congrArg (V m c main_v1 : FVec Ideal S8x8192x704 .bf16) ?_
  funext a
  apply Fin.ext
  match a with
  | ⟨0, _⟩ => show win0_0.index t (0 : Fin 3) * 1 + 1 * 0 = t.val / 2; rw [(idx0 t).1]; omega
  | ⟨1, _⟩ => show win0_0.index t (1 : Fin 3) * 4096 + 1 * p.val = P.val; rw [(idx0 t).2.1]; omega
  | ⟨2, _⟩ => show win0_0.index t (2 : Fin 3) * 704 + 1 * r.val = r.val; rw [(idx0 t).2.2]; omega

theorem block1 (B : FVec Ideal S8192x1024 .bf16) (hB : m ((c : Thread nD τ).loc main_arg0) = B) (t : Fin cfg0.N) (p : Fin 4096) (r : Fin 1024) (P : Fin 8192)
    (hP : P.val = 4096 * (t.val % 2) + p.val) : (iblk m c 1 t : Vec Ideal S4096x1024 .bf16) (ix2 p r) = B (ix2 P r) := by
  subst hB
  unfold iblk
  rw [View.read_apply]
  show V m c main_arg0 _ = _
  rw [V_main_arg0]
  refine congrArg (m ((c : Thread nD τ).loc main_arg0) : FVec Ideal S8192x1024 .bf16) ?_
  funext a
  apply Fin.ext
  match a with
  | ⟨0, _⟩ => show win0_1.index t (0 : Fin 2) * 4096 + 1 * p.val = P.val; rw [(idx1 t).1]; omega
  | ⟨1, _⟩ => show win0_1.index t (1 : Fin 2) * 1024 + 1 * r.val = r.val; rw [(idx1 t).2]; omega

/-- What two points of a block of the output leave in it. -/
theorem pair (n : ℕ) (hn : n + 1 < cfg0.N) (h : n % 2 = 0) : (outsAt0 m c (n + 1) hn).1
    = k0_pay4 (k0_pay3 (iblk m c 0 ⟨n + 1, hn⟩) (iblk m c 1 ⟨n + 1, hn⟩) (k0_pay2 (iblk m c 0 ⟨n, by omega⟩) (iblk m c 1 ⟨n, by omega⟩))) := by
  have e := outsAt0_B m c ⟨n + 1, hn⟩ (show ¬(n + 1) % 2 = 0 by omega) (show (n + 1) % 2 = 1 by omega) (show (n + 1) % 2 = 1 by omega)
  have e' := outsAt0_A m c ⟨n, by omega⟩ (show n % 2 = 0 by omega) (show ¬n % 2 = 1 by omega) (show ¬n % 2 = 1 by omega)
  dsimp only at e e'
  simp only [Nat.add_sub_cancel] at e
  rw [e]
  dsimp only
  rw [second, e']
  dsimp only
  rw [first]

theorem point_lt (x : Fin 8) : 2 * x.val + 1 < cfg0.N := lt_of_lt_of_eq (by omega) N_0.symm

/-- The points that write a block of rows. -/
theorem array_block (x : Fin 8) (r : Fin 704) (l : Fin 1024) : (Value.G2 m c : FVec Ideal S8x704x1024 .f32) (ix3 x r l)
    = (outsAt0 m c (2 * x.val + 1) (point_lt x)).1 (ix3 (0 : Fin 1) r l) := by
  have hp : Value.pt2Of (ix3 x r l) = 2 * x.val + 1 := by
    show 2 * (1 * (x.val / 1 - 0) + 1 * (r.val / 704 - 0) + 1 * (l.val / 1024 - 0)) + 1 = _
    omega
  have hl : Value.loc2Of (ix3 x r l) = ix3 (0 : Fin 1) r l := by
    funext a; apply Fin.ext
    match a with
    | ⟨0, _⟩ => show x.val % 1 = 0; omega
    | ⟨1, _⟩ => show r.val % 704 = r.val; omega
    | ⟨2, _⟩ => show l.val % 1024 = l.val; omega
  unfold Value.G2
  rw [dif_pos (by rw [hp]; exact point_lt x), hl, Value.fold0_congr m c _ _ (2 * x.val + 1) (by rw [Nat.zero_add]; exact point_lt x) hp,
    ← Value.outsAt0_sweep m c _ (point_lt x)]

theorem last_at (y : Vec Ideal S704x1024 .f32) (r : Fin 704) (l : Fin 1024) : k0_pay4 y (ix3 (0 : Fin 1) r l) = y (ix2 r l) := by
  pointwise [k0_pay4]

/-- The kernel's array: the product over all tokens. -/
theorem array_at (A : FVec Ideal S8192x5632 .bf16) (B : FVec Ideal S8192x1024 .bf16) (hA : m ((c : Thread nD τ).loc main_arg1) = A) (hB : m ((c : Thread nD τ).loc main_arg0) = B)
    (x : Fin 8) (r : Fin 704) (l : Fin 1024) : (Value.G2 m c : FVec Ideal S8x704x1024 .f32) (ix3 x r l)
      = ∑ p : Fin 8192, A (ix2 p (⟨x.val * 704 + r.val, by omega⟩ : Fin 5632)) * B (ix2 p l) := by
  rw [array_block, pair m c (2 * x.val) (point_lt x) (by omega)]
  refine (last_at _ r l).trans ?_
  exact halves _ _ _ _ (fun p => A (ix2 p (⟨x.val * 704 + r.val, by omega⟩ : Fin 5632))) (fun p => B (ix2 p l)) r l
    (fun p => block0 m c A hA _ p r _ _ (show p.val = 4096 * (2 * x.val % 2) + p.val by omega) (show x.val * 704 + r.val = 704 * (2 * x.val / 2) + r.val by omega))
    (fun p => block1 m c B hB _ p l _ (show p.val = 4096 * (2 * x.val % 2) + p.val by omega))
    (fun p => block0 m c A hA _ p r _ _ (show 4096 + p.val = 4096 * ((2 * x.val + 1) % 2) + p.val by omega) (show x.val * 704 + r.val = 704 * ((2 * x.val + 1) / 2) + r.val by omega))
    (fun p => block1 m c B hB _ p l _ (show 4096 + p.val = 4096 * ((2 * x.val + 1) % 2) + p.val by omega))

theorem algebraic : Cert.algebraic_Kernel3Ideal_Reference3Ideal := by
  intro m g m' g' _ hagree
  refine ⟨fun c => Value.G2 m c, Value.run m g, ?_⟩
  refine (θ_run Cert.Reference3Ideal.defs _ _).mono (fun _ h c => ?_) (Cert.Reference3Ideal.Value.run m' g')
  obtain ⟨h0, hk⟩ := h c
  refine ⟨h0.trans ?_, hk⟩
  rw [(hagree c).1, (hagree c).2]
  funext i
  obtain ⟨x, r, l, rfl⟩ : ∃ (x : Fin 8) (r : Fin 704) (l : Fin 1024), i = ix3 x r l := ⟨_, _, _, eq_ix3 i⟩
  exact (Ref.array_at _ _ x r l).trans (array_at m c _ _ rfl rfl x r l).symm

end Products.FfnUpDw

end
-- ==== Proof.Products.FfnDownDx.lean ====
/-
  The gradient of the second feed-forward product's input, laid out by blocks of 704 columns: each point leaves the product
  of its 2048 rows with its block of the weight.
-/
module

public import proofs.«01_k».proof.Defs
public import proofs.«01_k».proof.Proof.Products.Sums
public import proofs.«01_k».proof.Proof.Gen.Kernel4Ideal.Value
public import proofs.«01_k».proof.Proof.Gen.Reference4Ideal.Run
public import Idealize.ShloMosaic.Lib.Pipeline.ValueKit
public import Idealize.ShloMosaic.Lib.VecWindow
public import Idealize.ShloMosaic.Lib.StableHlo.Run

@[expose] public section

set_option maxRecDepth 16384
set_option maxHeartbeats 1000000

noncomputable section

namespace Products.FfnDownDx.Ref

open Idealize.ShloMosaic Cert.Reference4Ideal Cert.Reference4Ideal.Gen

/-- The reference's array. -/
theorem array_at (A : FVec Ideal S2816x1024 .f32) (B : FVec Ideal S8192x1024 .bf16) (x : Fin 4) (r : Fin 8192) (l : Fin 704) :
    (transpose S4x8192x704 [1, 0, 2] (shapeCast _ (truncf .bf16 (Host.dotGeneral dot_S8192x1024_S2816x1024_S8192x2816_1_1_0_0_n_n none (extf .f32 B bitsLt_bf16_f32) A) bitsLt_bf16_f32) shapeCasts_S8192x2816_S8192x4x704) transposes_S8192x4x704_S4x8192x704_1_0_2
      : FVec Ideal S4x8192x704 .bf16) (ix3 x r l) = ∑ p : Fin 1024, B (ix2 r p) * A (ix2 (⟨x.val * 704 + l.val, by omega⟩ : Fin 2816) p) := by
  pointwise []

end Products.FfnDownDx.Ref

namespace Products.FfnDownDx

open Idealize.ShloMosaic Idealize.ShloMosaic.TcCoe Idealize.SL.Sem Cert.Kernel4Ideal Cert.Kernel4Ideal.Gen

/-- What a point leaves in its block, at an index. -/
theorem out_at (x0 : Vec Ideal S2048x1024 .bf16) (x1 : Vec Ideal S1x1x704x1024 .bf16) (r : Fin 2048) (l : Fin 704) :
    out0_2 x0 x1 (ix3 (0 : Fin 1) r l) = ∑ p : Fin 1024, x0 (ix2 r p) * x1 (ix4 (0 : Fin 1) (0 : Fin 1) l p) := by
  have e : out0_2 x0 x1 = k0_pay1 x0 x1 :=
    (View.canon_cons_unit_lit _ _ _ (by decide)).trans (congrArg₂ k0_pay1 (View.ld_unit_lit _ _ (by decide)) (View.ld_unit_lit _ _ (by decide)))
  rw [e]
  pointwise [k0_pay1]

variable (m : (ℓ : Loc nD τ sig) → Buf (Elt Ideal) ℓ) (c : Dev nD)

theorem idx0 : ∀ t : Fin cfg0.N, win0_0.index t (0 : Fin 2) = t.val / 4 ∧ win0_0.index t (1 : Fin 2) = 0 := by decide +kernel
theorem idx1 : ∀ t : Fin cfg0.N, win0_1.index t (0 : Fin 4) = 0 ∧ win0_1.index t (1 : Fin 4) = t.val % 4 ∧ win0_1.index t (2 : Fin 4) = 0
    ∧ win0_1.index t (3 : Fin 4) = 0 := by decide +kernel
theorem idx2 : ∀ t : Fin cfg0.N, win0_2.index t (0 : Fin 3) = t.val % 4 ∧ win0_2.index t (1 : Fin 3) = t.val / 4 ∧ win0_2.index t (2 : Fin 3) = 0 := by decide +kernel

/-- The weight as the call reads it: by blocks of 704 rows. -/
theorem prep_at (A : FVec Ideal S2816x1024 .f32) (hA : m ((c : Thread nD τ).loc main_arg0) = A) (x : Fin 4) (l : Fin 704) (p : Fin 1024) :
    (V m c main_v1 : FVec Ideal S1x4x704x1024 .bf16) (ix4 (0 : Fin 1) x l p) = A (ix2 (⟨x.val * 704 + l.val, by omega⟩ : Fin 2816) p) := by
  subst hA
  unfold V
  after_results
  pointwise []

theorem block0 (t : Fin cfg0.N) (r : Fin 2048) (p : Fin 1024) (R : Fin 8192) (hR : R.val = 2048 * (t.val / 4) + r.val) :
    (iblk m c 0 t : Vec Ideal S2048x1024 .bf16) (ix2 r p) = (m ((c : Thread nD τ).loc main_arg1) : FVec Ideal S8192x1024 .bf16) (ix2 R p) := by
  unfold iblk
  rw [View.read_apply]
  show V m c main_arg1 _ = _
  rw [V_main_arg1]
  refine congrArg (m ((c : Thread nD τ).loc main_arg1) : FVec Ideal S8192x1024 .bf16) ?_
  funext a
  apply Fin.ext
  match a with
  | ⟨0, _⟩ => show win0_0.index t (0 : Fin 2) * 2048 + 1 * r.val = R.val; rw [(idx0 t).1]; omega
  | ⟨1, _⟩ => show win0_0.index t (1 : Fin 2) * 1024 + 1 * p.val = p.val; rw [(idx0 t).2]; omega

theorem block1 (t : Fin cfg0.N) (l : Fin 704) (p : Fin 1024) (x : Fin 4) (hx : x.val = t.val % 4) :
    (iblk m c 1 t : Vec Ideal S1x1x704x1024 .bf16) (ix4 (0 : Fin 1) (0 : Fin 1) l p)
      = (V m c main_v1 : FVec Ideal S1x4x704x1024 .bf16) (ix4 (0 : Fin 1) x l p) := by
  unfold iblk
  rw [View.read_apply]
  refine congrArg (V m c main_v1 : FVec Ideal S1x4x704x1024 .bf16) ?_
  funext a
  apply Fin.ext
  match a with
  | ⟨0, _⟩ => show win0_1.index t (0 : Fin 4) * 1 + 1 * 0 = 0; rw [(idx1 t).1]
  | ⟨1, _⟩ => show win0_1.index t (1 : Fin 4) * 1 + 1 * 0 = x.val; rw [(idx1 t).2.1]; omega
  | ⟨2, _⟩ => show win0_1.index t (2 : Fin 4) * 704 + 1 * l.val = l.val; rw [(idx1 t).2.2.1]; omega
  | ⟨3, _⟩ => show win0_1.index t (3 : Fin 4) * 1024 + 1 * p.val = p.val; rw [(idx1 t).2.2.2]; omega

theorem read_at (A : FVec Ideal S4x8192x704 .bf16) (t : Fin cfg0.N) (r : Fin 2048) (l : Fin 704) (x : Fin 4) (hx : x.val = t.val % 4)
    (R : Fin 8192) (hR : R.val = 2048 * (t.val / 4) + r.val) :
    (((cfg0.win 2).blk t).view.read (Elt Ideal) A : FVec Ideal S1x2048x704 .bf16) (ix3 (0 : Fin 1) r l) = A (ix3 x R l) := by
  rw [View.read_apply]
  show A _ = A _
  congr 1
  funext a
  apply Fin.ext
  match a with
  | ⟨0, _⟩ => show win0_2.index t (0 : Fin 3) * 1 + 1 * 0 = x.val; rw [(idx2 t).1]; omega
  | ⟨1, _⟩ => show win0_2.index t (1 : Fin 3) * 2048 + 1 * r.val = R.val; rw [(idx2 t).2.1]; omega
  | ⟨2, _⟩ => show win0_2.index t (2 : Fin 3) * 704 + 1 * l.val = l.val; rw [(idx2 t).2.2]; omega

/-- The point that computes a row of a block. -/
def pointOf (x : Fin 4) (R : Fin 8192) : Fin cfg0.N := ⟨R.val / 2048 * 4 + x.val, lt_of_lt_of_eq (by omega) N_0.symm⟩

/-- The kernel's array. -/
theorem array_at (A : FVec Ideal S2816x1024 .f32) (B : FVec Ideal S8192x1024 .bf16) (hA : m ((c : Thread nD τ).loc main_arg0) = A)
    (hB : m ((c : Thread nD τ).loc main_arg1) = B) (x : Fin 4) (R : Fin 8192) (l : Fin 704) :
    ((dats m 0 c).arrAt 2 cfg0.N : FVec Ideal S4x8192x704 .bf16) (ix3 x R l)
      = ∑ p : Fin 1024, B (ix2 R p) * A (ix2 (⟨x.val * 704 + l.val, by omega⟩ : Fin 2816) p) := by
  have hR : R.val = 2048 * ((pointOf x R).val / 4) + R.val % 2048 := by
    show R.val = 2048 * ((R.val / 2048 * 4 + x.val) / 4) + R.val % 2048; omega
  have hx : x.val = (pointOf x R).val % 4 := by show x.val = (R.val / 2048 * 4 + x.val) % 4; omega
  have h := (Value.blocks2 m c (pointOf x R) (flush0_2 _)).trans (Value.flushed2 m c (pointOf x R))
  generalize (dats m 0 c).arrAt 2 cfg0.N = G at h ⊢
  refine (read_at G (pointOf x R) ⟨R.val % 2048, by omega⟩ l x hx R hR).symm.trans ((congrFun h (ix3 (0 : Fin 1) (⟨R.val % 2048, by omega⟩ : Fin 2048) l)).trans ?_)
  refine (out_at (iblk m c 0 (pointOf x R)) (iblk m c 1 (pointOf x R)) ⟨R.val % 2048, by omega⟩ l).trans ?_
  subst hB
  exact Finset.sum_congr rfl fun p _ => congrArg₂ (fun a b : EReal => a * b) (block0 m c (pointOf x R) _ p R hR)
    ((block1 m c (pointOf x R) l p x hx).trans (prep_at m c A hA x l p))

theorem algebraic : Cert.algebraic_Kernel4Ideal_Reference4Ideal := by
  intro m g m' g' _ hagree
  refine ⟨fun c => (dats m 0 c).arrAt 2 cfg0.N, Value.run_blocks m g, ?_⟩
  refine (θ_run Cert.Reference4Ideal.defs _ _).mono (fun _ h c => ?_) (Cert.Reference4Ideal.Value.run m' g')
  obtain ⟨h0, hk⟩ := h c
  refine ⟨h0.trans ?_, hk⟩
  rw [(hagree c).1, (hagree c).2]
  funext i
  obtain ⟨x, r, l, rfl⟩ : ∃ (x : Fin 4) (r : Fin 8192) (l : Fin 704), i = ix3 x r l := ⟨_, _, _, eq_ix3 i⟩
  exact (Ref.array_at _ _ x r l).trans (array_at m c _ _ rfl rfl x r l).symm

end Products.FfnDownDx

end
-- ==== Proof.Products.FfnDownDw.lean ====
/-
  The gradient of the down projection's weight, a block of its rows after another: the first point of a block leaves the product over
  the first 4096 tokens, the second adds the product over the rest.
-/
module

public import proofs.«01_k».proof.Defs
public import proofs.«01_k».proof.Proof.Products.Sums
public import proofs.«01_k».proof.Proof.Gen.Kernel5Ideal.Value
public import proofs.«01_k».proof.Proof.Gen.Reference5Ideal.Run
public import Idealize.ShloMosaic.Lib.Pipeline.ValueKit
public import Idealize.ShloMosaic.Lib.VecWindow
public import Idealize.ShloMosaic.Lib.StableHlo.Run

@[expose] public section

set_option maxRecDepth 16384
set_option maxHeartbeats 1000000

noncomputable section

namespace Products.FfnDownDw.Ref

open Idealize.ShloMosaic Cert.Reference5Ideal Cert.Reference5Ideal.Gen

/-- The reference's array. -/
theorem array_at (A : FVec Ideal S8192x2816 .bf16) (B : FVec Ideal S8192x1024 .bf16) (r : Fin 2816) (l : Fin 1024) :
    (transpose S2816x1024 [1, 0] (Host.dotGeneral dot_S8192x1024_S8192x2816_S1024x2816_0_0_1_1_n_n none (extf .f32 B bitsLt_bf16_f32)
      (extf .f32 A bitsLt_bf16_f32)) transposes_S1024x2816_S2816x1024_1_0 : FVec Ideal S2816x1024 .f32) (ix2 r l)
      = ∑ p : Fin 8192, A (ix2 p r) * B (ix2 p l) := by
  pointwise []
  exact Finset.sum_congr rfl fun p _ => mul_comm _ _

end Products.FfnDownDw.Ref

namespace Products.FfnDownDw

open Idealize.ShloMosaic Idealize.ShloMosaic.TcCoe Idealize.SL.Sem Cert.Kernel5Ideal Cert.Kernel5Ideal.Gen

section
variable {F : FTy → Type} [FloatOps F]
variable (c : Dev nD) (i : grid0.Coords) (arg3 : Memref sig .tc .vmem S1x4096x704 .bf16) (harg3 : arg3.IsWhole) (arg4 : Memref sig .tc .vmem S4096x1024 .bf16) (harg4 : arg4.IsWhole)
  (arg5 : Memref sig .tc .vmem S704x1024 .f32) (harg5 : arg5.IsWhole) (arg6 : Memref sig .tc .vmem S704x1024 .f32) (harg6 : arg6.IsWhole)
  (x0 : Vec F S1x4096x704 .bf16) (x1 : Vec F S4096x1024 .bf16) (xs0 : Vec F S704x1024 .f32)

theorem first (hc0 : cond0_0 i) (hc1 : ¬cond0_1 i) (hc2 : ¬cond0_2 i) :
    sout0_A_0 c i arg3 harg3 arg4 harg4 arg5 harg5 arg6 harg6 hc0 hc1 hc2 x0 x1 = k0_pay2 x0 x1 := by
  refine (View.read_writes_full VS0_0 VS0_0.junk _ _ _).trans ?_
  exact congrArg₂ k0_pay2 ((View.readAt_full _ _ _).trans (harg3.read_unread _)) ((View.readAt_full _ _ _).trans (harg4.read_unread _))

theorem second (hc0 : ¬cond0_0 i) (hc1 : cond0_1 i) (hc2 : cond0_2 i) :
    out0_B_2 c i arg3 harg3 arg4 harg4 arg5 harg5 arg6 harg6 hc0 hc1 hc2 x0 x1 xs0 = k0_pay3 x0 x1 xs0 := by
  refine (View.read_writes_full VO0_2 VO0_2.junk _ _ _).trans ((View.readCov_full _ _ _ _ _).trans ?_)
  have e0 := (View.readAt_full (Val := Elt F) arg3.view (harg3.unread x0) inb_S1x4096x704_S1x4096x704_0_0_0).trans (harg3.read_unread _)
  have e1 := (View.readAt_full (Val := Elt F) arg4.view (harg4.unread x1) inb_S4096x1024_S4096x1024_0_0).trans (harg4.read_unread _)
  have e2 := (View.readAt_full (Val := Elt F) arg6.view (harg6.unread xs0) inb_S704x1024_S704x1024_0_0).trans (harg6.read_unread _)
  exact congr (congrArg₂ k0_pay3 e0 e1) e2

end

/-- Both halves of the product at an index. -/
theorem halves (x0 y0 : Vec Ideal S1x4096x704 .bf16) (x1 y1 : Vec Ideal S4096x1024 .bf16) (a b : Fin 8192 → EReal) (r : Fin 704) (l : Fin 1024)
    (hx0 : ∀ p : Fin 4096, x0 (ix3 (0 : Fin 1) p r) = a ⟨p.val, by omega⟩) (hx1 : ∀ p : Fin 4096, x1 (ix2 p l) = b ⟨p.val, by omega⟩)
    (hy0 : ∀ p : Fin 4096, y0 (ix3 (0 : Fin 1) p r) = a ⟨4096 + p.val, by omega⟩) (hy1 : ∀ p : Fin 4096, y1 (ix2 p l) = b ⟨4096 + p.val, by omega⟩) :
    k0_pay3 y0 y1 (k0_pay2 x0 x1) (ix2 r l) = ∑ p : Fin 8192, a p * b p := by
  have e (x0 : Vec Ideal S1x4096x704 .bf16) (x1 : Vec Ideal S4096x1024 .bf16) : k0_pay2 x0 x1 (ix2 r l) = ∑ p : Fin 4096, x0 (ix3 (0 : Fin 1) p r) * x1 (ix2 p l) := by
    pointwise [k0_pay2, k0_pay1]
  have e' (x0 : Vec Ideal S1x4096x704 .bf16) (x1 : Vec Ideal S4096x1024 .bf16) (y : Vec Ideal S704x1024 .f32) :
      k0_pay3 x0 x1 y (ix2 r l) = y (ix2 r l) + ∑ p : Fin 4096, x0 (ix3 (0 : Fin 1) p r) * x1 (ix2 p l) := by
    pointwise [k0_pay3, k0_pay1]
  rw [e', e]
  exact sum_parts (a := 4096) (b := 4096) rfl (fun p : Fin 8192 => a p * b p) (fun p => x0 (ix3 (0 : Fin 1) p r) * x1 (ix2 p l))
    (fun p => y0 (ix3 (0 : Fin 1) p r) * y1 (ix2 p l)) (fun p => congrArg₂ (· * ·) (hx0 p) (hx1 p)) (fun p => congrArg₂ (· * ·) (hy0 p) (hy1 p))

variable (m : (ℓ : Loc nD τ sig) → Buf (Elt Ideal) ℓ) (c : Dev nD)

theorem idx0 : ∀ t : Fin cfg0.N, win0_0.index t (0 : Fin 3) = t.val / 2 ∧ win0_0.index t (1 : Fin 3) = t.val % 2 ∧ win0_0.index t (2 : Fin 3) = 0 := by decide +kernel
theorem idx1 : ∀ t : Fin cfg0.N, win0_1.index t (0 : Fin 2) = t.val % 2 ∧ win0_1.index t (1 : Fin 2) = 0 := by decide +kernel

/-- What the host prepares: the columns in 4 blocks. -/
theorem prep_at (A : FVec Ideal S8192x2816 .bf16) (hA : m ((c : Thread nD τ).loc main_arg0) = A) (x : Fin 4) (p : Fin 8192) (r : Fin 704) :
    (V m c main_v1 : FVec Ideal S4x8192x704 .bf16) (ix3 x p r) = A (ix2 p (⟨x.val * 704 + r.val, by omega⟩ : Fin 2816)) := by
  subst hA
  unfold V
  after_results
  pointwise []

theorem block0 (A : FVec Ideal S8192x2816 .bf16) (hA : m ((c : Thread nD τ).loc main_arg0) = A) (t : Fin cfg0.N) (p : Fin 4096) (r : Fin 704) (P : Fin 8192) (R : Fin 2816)
    (hP : P.val = 4096 * (t.val % 2) + p.val) (hR : R.val = 704 * (t.val / 2) + r.val) :
    (iblk m c 0 t : Vec Ideal S1x4096x704 .bf16) (ix3 (0 : Fin 1) p r) = A (ix2 P R) := by
  have hx : t.val / 2 < 4 := by omega
  unfold iblk
  rw [View.read_apply]
  refine Eq.trans ?_ ((prep_at m c A hA ⟨t.val / 2, hx⟩ P r).trans (congrArg (fun q : Fin 2816 => A (ix2 P q)) (Fin.ext (by show t.val / 2 * 704 + r.val = R.val; omega))))
  show V m c main_v1 _ = V m c main_v1 _
  refine congrArg (V m c main_v1 : FVec Ideal S4x8192x704 .bf16) ?_
  funext a
  apply Fin.ext
  match a with
  | ⟨0, _⟩ => show win0_0.index t (0 : Fin 3) * 1 + 1 * 0 = t.val / 2; rw [(idx0 t).1]; omega
  | ⟨1, _⟩ => show win0_0.index t (1 : Fin 3) * 4096 + 1 * p.val = P.val; rw [(idx0 t).2.1]; omega
  | ⟨2, _⟩ => show win0_0.index t (2 : Fin 3) * 704 + 1 * r.val = r.val; rw [(idx0 t).2.2]; omega

theorem block1 (B : FVec Ideal S8192x1024 .bf16) (hB : m ((c : Thread nD τ).loc main_arg1) = B) (t : Fin cfg0.N) (p : Fin 4096) (r : Fin 1024) (P : Fin 8192)
    (hP : P.val = 4096 * (t.val % 2) + p.val) : (iblk m c 1 t : Vec Ideal S4096x1024 .bf16) (ix2 p r) = B (ix2 P r) := by
  subst hB
  unfold iblk
  rw [View.read_apply]
  show V m c main_arg1 _ = _
  rw [V_main_arg1]
  refine congrArg (m ((c : Thread nD τ).loc main_arg1) : FVec Ideal S8192x1024 .bf16) ?_
  funext a
  apply Fin.ext
  match a with
  | ⟨0, _⟩ => show win0_1.index t (0 : Fin 2) * 4096 + 1 * p.val = P.val; rw [(idx1 t).1]; omega
  | ⟨1, _⟩ => show win0_1.index t (1 : Fin 2) * 1024 + 1 * r.val = r.val; rw [(idx1 t).2]; omega

/-- What two points of a block of the output leave in it. -/
theorem pair (n : ℕ) (hn : n + 1 < cfg0.N) (h : n % 2 = 0) : (outsAt0 m c (n + 1) hn).1
    = k0_pay3 (iblk m c 0 ⟨n + 1, hn⟩) (iblk m c 1 ⟨n + 1, hn⟩) (k0_pay2 (iblk m c 0 ⟨n, by omega⟩) (iblk m c 1 ⟨n, by omega⟩)) := by
  have e := outsAt0_B m c ⟨n + 1, hn⟩ (show ¬(n + 1) % 2 = 0 by omega) (show (n + 1) % 2 = 1 by omega) (show (n + 1) % 2 = 1 by omega)
  have e' := outsAt0_A m c ⟨n, by omega⟩ (show n % 2 = 0 by omega) (show ¬n % 2 = 1 by omega) (show ¬n % 2 = 1 by omega)
  dsimp only at e e'
  simp only [Nat.add_sub_cancel] at e
  rw [e]
  dsimp only
  rw [second, e']
  dsimp only
  rw [first]

theorem point_lt (R : Fin 2816) : 2 * (R.val / 704) + 1 < cfg0.N := lt_of_lt_of_eq (by omega) N_0.symm

/-- The points that write a row. -/
theorem array_block (R : Fin 2816) (l : Fin 1024) : (Value.G2 m c : FVec Ideal S2816x1024 .f32) (ix2 R l)
    = (outsAt0 m c (2 * (R.val / 704) + 1) (point_lt R)).1 (ix2 (⟨R.val % 704, by omega⟩ : Fin 704) l) := by
  have hp : Value.pt2Of (ix2 R l) = 2 * (R.val / 704) + 1 := by
    show 2 * (1 * (R.val / 704 - 0) + 1 * (l.val / 1024 - 0)) + 1 = _
    omega
  have hl : Value.loc2Of (ix2 R l) = ix2 (⟨R.val % 704, by omega⟩ : Fin 704) l := by
    funext a; apply Fin.ext
    match a with
    | ⟨0, _⟩ => rfl
    | ⟨1, _⟩ => show l.val % 1024 = l.val; omega
  unfold Value.G2
  rw [dif_pos (by rw [hp]; exact point_lt R), hl, Value.fold0_congr m c _ _ (2 * (R.val / 704) + 1) (by rw [Nat.zero_add]; exact point_lt R) hp,
    ← Value.outsAt0_sweep m c _ (point_lt R)]

/-- The kernel's array: the product over all tokens. -/
theorem array_at (A : FVec Ideal S8192x2816 .bf16) (B : FVec Ideal S8192x1024 .bf16) (hA : m ((c : Thread nD τ).loc main_arg0) = A) (hB : m ((c : Thread nD τ).loc main_arg1) = B)
    (R : Fin 2816) (l : Fin 1024) : (Value.G2 m c : FVec Ideal S2816x1024 .f32) (ix2 R l)
      = ∑ p : Fin 8192, A (ix2 p R) * B (ix2 p l) := by
  rw [array_block, pair m c (2 * (R.val / 704)) (point_lt R) (by omega)]
  exact halves _ _ _ _ (fun p => A (ix2 p R)) (fun p => B (ix2 p l)) ⟨R.val % 704, by omega⟩ l
    (fun p => block0 m c A hA _ p _ _ R (show p.val = 4096 * (2 * (R.val / 704) % 2) + p.val by omega) (show R.val = 704 * (2 * (R.val / 704) / 2) + R.val % 704 by omega))
    (fun p => block1 m c B hB _ p l _ (show p.val = 4096 * (2 * (R.val / 704) % 2) + p.val by omega))
    (fun p => block0 m c A hA _ p _ _ R (show 4096 + p.val = 4096 * ((2 * (R.val / 704) + 1) % 2) + p.val by omega) (show R.val = 704 * ((2 * (R.val / 704) + 1) / 2) + R.val % 704 by omega))
    (fun p => block1 m c B hB _ p l _ (show 4096 + p.val = 4096 * ((2 * (R.val / 704) + 1) % 2) + p.val by omega))

theorem algebraic : Cert.algebraic_Kernel5Ideal_Reference5Ideal := by
  intro m g m' g' _ hagree
  refine ⟨fun c => Value.G2 m c, Value.run m g, ?_⟩
  refine (θ_run Cert.Reference5Ideal.defs _ _).mono (fun _ h c => ?_) (Cert.Reference5Ideal.Value.run m' g')
  obtain ⟨h0, hk⟩ := h c
  refine ⟨h0.trans ?_, hk⟩
  rw [(hagree c).1, (hagree c).2]
  funext i
  obtain ⟨r, l, rfl⟩ : ∃ (r : Fin 2816) (l : Fin 1024), i = ix2 r l := ⟨_, _, eq_ix2 i⟩
  exact (Ref.array_at _ _ r l).trans (array_at m c _ _ rfl rfl r l).symm

end Products.FfnDownDw

end
-- ==== Proof.Products.ProjInDx.lean ====
/-
  The gradient of the input projection's input: each point leaves the product of its 1024 rows with the whole weight, both
  padded from 3104 columns to 3200.
-/
module

public import proofs.«01_k».proof.Defs
public import proofs.«01_k».proof.Proof.Products.Sums
public import proofs.«01_k».proof.Proof.Gen.Kernel6Ideal.Value
public import proofs.«01_k».proof.Proof.Gen.Reference6Ideal.Run
public import Idealize.ShloMosaic.Lib.Pipeline.ValueKit
public import Idealize.ShloMosaic.Lib.VecWindow
public import Idealize.ShloMosaic.Lib.StableHlo.Run

@[expose] public section

set_option maxRecDepth 16384
set_option maxHeartbeats 1000000

noncomputable section

namespace Products.ProjInDx.Ref

open Idealize.ShloMosaic Cert.Reference6Ideal Cert.Reference6Ideal.Gen

/-- The reference's array. -/
theorem array_at (A : FVec Ideal S1024x3104 .f32) (B : FVec Ideal S8192x3104 .bf16) (r : Fin 8192) (l : Fin 1024) :
    (truncf .bf16 (Host.dotGeneral dot_S8192x3104_S1024x3104_S8192x1024_1_1_0_0_n_n none (extf .f32 B bitsLt_bf16_f32) A) bitsLt_bf16_f32
      : FVec Ideal S8192x1024 .bf16) (ix2 r l) = ∑ p : Fin 3104, B (ix2 r p) * A (ix2 l p) := by
  pointwise []

end Products.ProjInDx.Ref

namespace Products.ProjInDx

open Idealize.ShloMosaic Idealize.ShloMosaic.TcCoe Idealize.SL.Sem Cert.Kernel6Ideal Cert.Kernel6Ideal.Gen

/-- What a point leaves in its block, at an index. -/
theorem out_at (x0 : Vec Ideal S1024x3200 .bf16) (x1 : Vec Ideal S1x3200x1024 .bf16) (r l : Fin 1024) :
    out0_2 x0 x1 (ix2 r l) = ∑ p : Fin 3200, x0 (ix2 r p) * x1 (ix3 (0 : Fin 1) p l) := by
  have e : out0_2 x0 x1 = k0_pay1 x0 x1 :=
    (View.canon_cons_unit_lit _ _ _ (by decide)).trans (congrArg₂ k0_pay1 (View.ld_unit_lit _ _ (by decide)) (View.ld_unit_lit _ _ (by decide)))
  rw [e]
  pointwise [k0_pay1]

variable (m : (ℓ : Loc nD τ sig) → Buf (Elt Ideal) ℓ) (c : Dev nD)

theorem idx0 : ∀ t : Fin cfg0.N, win0_0.index t (0 : Fin 2) = t.val ∧ win0_0.index t (1 : Fin 2) = 0 := by decide +kernel
theorem idx1 : ∀ t : Fin cfg0.N, win0_1.index t (0 : Fin 3) = 0 ∧ win0_1.index t (1 : Fin 3) = 0 ∧ win0_1.index t (2 : Fin 3) = 0 := by decide +kernel
theorem idx2 : ∀ t : Fin cfg0.N, win0_2.index t (0 : Fin 2) = t.val ∧ win0_2.index t (1 : Fin 2) = 0 := by decide +kernel

theorem zero (φ : FTy) : FloatOps.sitofp (F := Ideal) φ (0#32) = (0 : EReal) := by
  show (((0#32 : BitVec 32).toInt : ℝ) : EReal) = 0
  simp

theorem pad0_at (A : FVec Ideal S8192x3104 .bf16) (r : Fin 8192) (p : Fin 3200) :
    (pad S8192x3200 ![0, 0] ![0, 96] ![0, 0] A (sitofp .bf16 (constantI S_ 32 0#32)) pads_S8192x3104_S8192x3200_000_0960 h_S_ : FVec Ideal S8192x3200 .bf16) (ix2 r p)
      = if h : p.val < 3104 then A (ix2 r (⟨p.val, h⟩ : Fin 3104)) else (0 : EReal) := by
  pointwise []
  split
  · rfl
  · exact zero _

theorem pad1_at (A : FVec Ideal S1024x3104 .f32) (p : Fin 3200) (l : Fin 1024) :
    (broadcastInDim S1x3200x1024 ![1, 2] bcast_S3200x1024_S1x3200x1024_1_2 (pad S3200x1024 ![0, 0] ![96, 0] ![0, 0]
      (transpose S3104x1024 [1, 0] (truncf .bf16 A bitsLt_bf16_f32) transposes_S1024x3104_S3104x1024_1_0) (sitofp .bf16 (constantI S_ 32 0#32))
      pads_S3104x1024_S3200x1024_0960_000 h_S_) : FVec Ideal S1x3200x1024 .bf16) (ix3 (0 : Fin 1) p l)
      = if h : p.val < 3104 then A (ix2 l (⟨p.val, h⟩ : Fin 3104)) else (0 : EReal) := by
  pointwise []
  split
  · rfl
  · exact zero _

/-- The gradient as the call reads it: zero past column 3104. -/
theorem prep0_at (B : FVec Ideal S8192x3104 .bf16) (hB : m ((c : Thread nD τ).loc main_arg1) = B) (r : Fin 8192) (p : Fin 3200) :
    (V m c main_v4 : FVec Ideal S8192x3200 .bf16) (ix2 r p) = if h : p.val < 3104 then B (ix2 r ⟨p.val, h⟩) else (0 : EReal) := by
  subst hB
  unfold V
  simp only [List.flatten_cons, List.flatten_nil, List.append_nil, List.cons_append, List.nil_append]
  after_results
  exact pad0_at _ r p

/-- The weight as the call reads it: zero past row 3104. -/
theorem prep1_at (A : FVec Ideal S1024x3104 .f32) (hA : m ((c : Thread nD τ).loc main_arg0) = A) (p : Fin 3200) (l : Fin 1024) :
    (V m c main_v3 : FVec Ideal S1x3200x1024 .bf16) (ix3 (0 : Fin 1) p l) = if h : p.val < 3104 then A (ix2 l ⟨p.val, h⟩) else (0 : EReal) := by
  subst hA
  unfold V
  simp only [List.flatten_cons, List.flatten_nil, List.append_nil, List.cons_append, List.nil_append]
  after_results
  exact pad1_at _ p l

theorem block0 (t : Fin cfg0.N) (r : Fin 1024) (p : Fin 3200) (R : Fin 8192) (hR : R.val = 1024 * t.val + r.val) :
    (iblk m c 0 t : Vec Ideal S1024x3200 .bf16) (ix2 r p) = (V m c main_v4 : FVec Ideal S8192x3200 .bf16) (ix2 R p) := by
  unfold iblk
  rw [View.read_apply]
  refine congrArg (V m c main_v4 : FVec Ideal S8192x3200 .bf16) ?_
  funext a
  apply Fin.ext
  match a with
  | ⟨0, _⟩ => show win0_0.index t (0 : Fin 2) * 1024 + 1 * r.val = R.val; rw [(idx0 t).1]; omega
  | ⟨1, _⟩ => show win0_0.index t (1 : Fin 2) * 3200 + 1 * p.val = p.val; rw [(idx0 t).2]; omega

theorem block1 (t : Fin cfg0.N) (p : Fin 3200) (l : Fin 1024) :
    (iblk m c 1 t : Vec Ideal S1x3200x1024 .bf16) (ix3 (0 : Fin 1) p l) = (V m c main_v3 : FVec Ideal S1x3200x1024 .bf16) (ix3 (0 : Fin 1) p l) := by
  unfold iblk
  rw [View.read_apply]
  refine congrArg (V m c main_v3 : FVec Ideal S1x3200x1024 .bf16) ?_
  funext a
  apply Fin.ext
  match a with
  | ⟨0, _⟩ => show win0_1.index t (0 : Fin 3) * 1 + 1 * 0 = 0; rw [(idx1 t).1]
  | ⟨1, _⟩ => show win0_1.index t (1 : Fin 3) * 3200 + 1 * p.val = p.val; rw [(idx1 t).2.1]; omega
  | ⟨2, _⟩ => show win0_1.index t (2 : Fin 3) * 1024 + 1 * l.val = l.val; rw [(idx1 t).2.2]; omega

theorem read_at (A : FVec Ideal S8192x1024 .bf16) (t : Fin cfg0.N) (r l : Fin 1024) (R : Fin 8192) (hR : R.val = 1024 * t.val + r.val) :
    (((cfg0.win 2).blk t).view.read (Elt Ideal) A : FVec Ideal S1024x1024 .bf16) (ix2 r l) = A (ix2 R l) := by
  rw [View.read_apply]
  show A _ = A _
  congr 1
  funext a
  apply Fin.ext
  match a with
  | ⟨0, _⟩ => show win0_2.index t (0 : Fin 2) * 1024 + 1 * r.val = R.val; rw [(idx2 t).1]; omega
  | ⟨1, _⟩ => show win0_2.index t (1 : Fin 2) * 1024 + 1 * l.val = l.val; rw [(idx2 t).2]; omega

/-- The point that computes a row. -/
def pointOf (R : Fin 8192) : Fin cfg0.N := ⟨R.val / 1024, lt_of_lt_of_eq (by omega) N_0.symm⟩

/-- The kernel's array. -/
theorem array_at (A : FVec Ideal S1024x3104 .f32) (B : FVec Ideal S8192x3104 .bf16) (hA : m ((c : Thread nD τ).loc main_arg0) = A)
    (hB : m ((c : Thread nD τ).loc main_arg1) = B) (R : Fin 8192) (l : Fin 1024) :
    ((dats m 0 c).arrAt 2 cfg0.N : FVec Ideal S8192x1024 .bf16) (ix2 R l) = ∑ p : Fin 3104, B (ix2 R p) * A (ix2 l p) := by
  have hR : R.val = 1024 * (pointOf R).val + R.val % 1024 := by show R.val = 1024 * (R.val / 1024) + R.val % 1024; omega
  have h := (Value.blocks2 m c (pointOf R) (flush0_2 _)).trans (Value.flushed2 m c (pointOf R))
  generalize (dats m 0 c).arrAt 2 cfg0.N = G at h ⊢
  refine (read_at G (pointOf R) ⟨R.val % 1024, by omega⟩ l R hR).symm.trans ((congrFun h (ix2 (⟨R.val % 1024, by omega⟩ : Fin 1024) l)).trans ?_)
  refine (out_at (iblk m c 0 (pointOf R)) (iblk m c 1 (pointOf R)) ⟨R.val % 1024, by omega⟩ l).trans ?_
  have e (p : Fin 3200) := congrArg₂ (fun a b : EReal => a * b) ((block0 m c (pointOf R) ⟨R.val % 1024, by omega⟩ p R hR).trans (prep0_at m c B hB R p))
    ((block1 m c (pointOf R) p l).trans (prep1_at m c A hA p l))
  refine (Finset.sum_congr rfl fun p _ => e p).trans ?_
  refine sum_padded (a := 3104) (b := 96) rfl (fun p : Fin 3104 => B (ix2 R p) * A (ix2 l p)) _ (fun p => ?_) (fun p => ?_)
  · exact (dif_pos p.isLt).symm ▸ (dif_pos p.isLt).symm ▸ rfl
  · exact (congrArg₂ (fun a b : EReal => a * b) (dif_neg (by show ¬3104 + p.val < 3104; omega)) (dif_neg (by show ¬3104 + p.val < 3104; omega))).trans (mul_zero 0)

theorem algebraic : Cert.algebraic_Kernel6Ideal_Reference6Ideal := by
  intro m g m' g' _ hagree
  refine ⟨fun c => (dats m 0 c).arrAt 2 cfg0.N, Value.run_blocks m g, ?_⟩
  refine (θ_run Cert.Reference6Ideal.defs _ _).mono (fun _ h c => ?_) (Cert.Reference6Ideal.Value.run m' g')
  obtain ⟨h0, hk⟩ := h c
  refine ⟨h0.trans ?_, hk⟩
  rw [(hagree c).1, (hagree c).2]
  funext i
  obtain ⟨r, l, rfl⟩ : ∃ (r : Fin 8192) (l : Fin 1024), i = ix2 r l := ⟨_, _, eq_ix2 i⟩
  exact (Ref.array_at _ _ r l).trans (array_at m c _ _ rfl rfl r l).symm

end Products.ProjInDx

end
-- ==== Proof.Products.ProjInDw.lean ====
/-
  The gradient of the input projection's weight, a block of its rows after another: the first point of a block leaves the product over
  the first 4096 tokens, the second adds the product over the rest.
-/
module

public import proofs.«01_k».proof.Defs
public import proofs.«01_k».proof.Proof.Products.Sums
public import proofs.«01_k».proof.Proof.Gen.Kernel7Ideal.Value
public import proofs.«01_k».proof.Proof.Gen.Reference7Ideal.Run
public import Idealize.ShloMosaic.Lib.Pipeline.ValueKit
public import Idealize.ShloMosaic.Lib.VecWindow
public import Idealize.ShloMosaic.Lib.StableHlo.Run

@[expose] public section

set_option maxRecDepth 16384
set_option maxHeartbeats 1000000

noncomputable section

namespace Products.ProjInDw

open Idealize.ShloMosaic

theorem zero (φ : FTy) : (FloatOps.sitofp (F := Ideal) φ (0#32) : EReal) = 0 := by
  show (((0#32 : BitVec 32).toInt : ℝ) : EReal) = 0
  norm_num

end Products.ProjInDw

namespace Products.ProjInDw.Ref

open Idealize.ShloMosaic Cert.Reference7Ideal Cert.Reference7Ideal.Gen

/-- The reference's array: 96 rows of zeros behind the product's. -/
theorem array_at (A : FVec Ideal S8192x3104 .bf16) (B : FVec Ideal S8192x1024 .bf16) (r : Fin 3200) (l : Fin 1024) :
    (pad S3200x1024 ![0, 0] ![96, 0] ![0, 0] (transpose S3104x1024 [1, 0] (transpose S1024x3104 [1, 0] (Host.dotGeneral dot_S8192x3104_S8192x1024_S3104x1024_0_0_1_1_n_n none (extf .f32 A bitsLt_bf16_f32)
      (extf .f32 B bitsLt_bf16_f32)) transposes_S3104x1024_S1024x3104_1_0) transposes_S1024x3104_S3104x1024_1_0) (sitofp .f32 (constantI S_ 32 0#32)) pads_S3104x1024_S3200x1024_0960_000 h_S_ : FVec Ideal S3200x1024 .f32) (ix2 r l)
      = if h : r.val < 3104 then ∑ p : Fin 8192, A (ix2 p (⟨r.val, h⟩ : Fin 3104)) * B (ix2 p l) else 0 := by
  pointwise []
  split
  · rfl
  · exact zero _

end Products.ProjInDw.Ref

namespace Products.ProjInDw

open Idealize.ShloMosaic Idealize.ShloMosaic.TcCoe Idealize.SL.Sem Cert.Kernel7Ideal Cert.Kernel7Ideal.Gen

section
variable {F : FTy → Type} [FloatOps F]
variable (c : Dev nD) (i : grid0.Coords) (arg3 : Memref sig .tc .vmem S4096x640 .bf16) (harg3 : arg3.IsWhole) (arg4 : Memref sig .tc .vmem S4096x1024 .bf16) (harg4 : arg4.IsWhole)
  (arg5 : Memref sig .tc .vmem S640x1024 .f32) (harg5 : arg5.IsWhole) (arg6 : Memref sig .tc .vmem S640x1024 .f32) (harg6 : arg6.IsWhole)
  (x0 : Vec F S4096x640 .bf16) (x1 : Vec F S4096x1024 .bf16) (xs0 : Vec F S640x1024 .f32)

theorem first (hc0 : cond0_0 i) (hc1 : ¬cond0_1 i) (hc2 : ¬cond0_2 i) :
    sout0_A_0 c i arg3 harg3 arg4 harg4 arg5 harg5 arg6 harg6 hc0 hc1 hc2 x0 x1 = k0_pay2 x0 x1 := by
  refine (View.read_writes_full VS0_0 VS0_0.junk _ _ _).trans ?_
  exact congrArg₂ k0_pay2 ((View.readAt_full _ _ _).trans (harg3.read_unread _)) ((View.readAt_full _ _ _).trans (harg4.read_unread _))

theorem second (hc0 : ¬cond0_0 i) (hc1 : cond0_1 i) (hc2 : cond0_2 i) :
    out0_B_2 c i arg3 harg3 arg4 harg4 arg5 harg5 arg6 harg6 hc0 hc1 hc2 x0 x1 xs0 = k0_pay3 x0 x1 xs0 := by
  refine (View.read_writes_full VO0_2 VO0_2.junk _ _ _).trans ((View.readCov_full _ _ _ _ _).trans ?_)
  have e0 := (View.readAt_full (Val := Elt F) arg3.view (harg3.unread x0) inb_S4096x640_S4096x640_0_0).trans (harg3.read_unread _)
  have e1 := (View.readAt_full (Val := Elt F) arg4.view (harg4.unread x1) inb_S4096x1024_S4096x1024_0_0).trans (harg4.read_unread _)
  have e2 := (View.readAt_full (Val := Elt F) arg6.view (harg6.unread xs0) inb_S640x1024_S640x1024_0_0).trans (harg6.read_unread _)
  exact congr (congrArg₂ k0_pay3 e0 e1) e2

end

/-- Both halves of the product at an index. -/
theorem halves (x0 y0 : Vec Ideal S4096x640 .bf16) (x1 y1 : Vec Ideal S4096x1024 .bf16) (a b : Fin 8192 → EReal) (r : Fin 640) (l : Fin 1024)
    (hx0 : ∀ p : Fin 4096, x0 (ix2 p r) = a ⟨p.val, by omega⟩) (hx1 : ∀ p : Fin 4096, x1 (ix2 p l) = b ⟨p.val, by omega⟩)
    (hy0 : ∀ p : Fin 4096, y0 (ix2 p r) = a ⟨4096 + p.val, by omega⟩) (hy1 : ∀ p : Fin 4096, y1 (ix2 p l) = b ⟨4096 + p.val, by omega⟩) :
    k0_pay3 y0 y1 (k0_pay2 x0 x1) (ix2 r l) = ∑ p : Fin 8192, a p * b p := by
  have e (x0 : Vec Ideal S4096x640 .bf16) (x1 : Vec Ideal S4096x1024 .bf16) : k0_pay2 x0 x1 (ix2 r l) = ∑ p : Fin 4096, x0 (ix2 p r) * x1 (ix2 p l) := by
    pointwise [k0_pay2, k0_pay1]
  have e' (x0 : Vec Ideal S4096x640 .bf16) (x1 : Vec Ideal S4096x1024 .bf16) (y : Vec Ideal S640x1024 .f32) :
      k0_pay3 x0 x1 y (ix2 r l) = y (ix2 r l) + ∑ p : Fin 4096, x0 (ix2 p r) * x1 (ix2 p l) := by
    pointwise [k0_pay3, k0_pay1]
  rw [e', e]
  exact sum_parts (a := 4096) (b := 4096) rfl (fun p : Fin 8192 => a p * b p) (fun p => x0 (ix2 p r) * x1 (ix2 p l))
    (fun p => y0 (ix2 p r) * y1 (ix2 p l)) (fun p => congrArg₂ (· * ·) (hx0 p) (hx1 p)) (fun p => congrArg₂ (· * ·) (hy0 p) (hy1 p))

variable (m : (ℓ : Loc nD τ sig) → Buf (Elt Ideal) ℓ) (c : Dev nD)

theorem idx0 : ∀ t : Fin cfg0.N, win0_0.index t (0 : Fin 2) = t.val % 2 ∧ win0_0.index t (1 : Fin 2) = t.val / 2 := by decide +kernel
theorem idx1 : ∀ t : Fin cfg0.N, win0_1.index t (0 : Fin 2) = t.val % 2 ∧ win0_1.index t (1 : Fin 2) = 0 := by decide +kernel

theorem pad_at (A : FVec Ideal S8192x3104 .bf16) (p : Fin 8192) (r : Fin 3200) :
    (pad S8192x3200 ![0, 0] ![0, 96] ![0, 0] A (sitofp .bf16 (constantI S_ 32 0#32)) pads_S8192x3104_S8192x3200_000_0960 h_S_ : FVec Ideal S8192x3200 .bf16) (ix2 p r)
      = if h : r.val < 3104 then A (ix2 p (⟨r.val, h⟩ : Fin 3104)) else (0 : EReal) := by
  pointwise []
  split
  · rfl
  · exact zero _

/-- What the host prepares: 96 columns of zeros behind the argument's. -/
theorem prep_at (A : FVec Ideal S8192x3104 .bf16) (hA : m ((c : Thread nD τ).loc main_arg1) = A) (p : Fin 8192) (r : Fin 3200) :
    (V m c main_v0 : FVec Ideal S8192x3200 .bf16) (ix2 p r) = if h : r.val < 3104 then A (ix2 p (⟨r.val, h⟩ : Fin 3104)) else (0 : EReal) := by
  subst hA
  unfold V
  simp only [List.flatten_cons, List.flatten_nil, List.append_nil, List.cons_append, List.nil_append]
  after_results
  exact pad_at _ p r

theorem block0 (A : FVec Ideal S8192x3104 .bf16) (hA : m ((c : Thread nD τ).loc main_arg1) = A) (t : Fin cfg0.N) (p : Fin 4096) (r : Fin 640) (P : Fin 8192) (R : Fin 3200)
    (hP : P.val = 4096 * (t.val % 2) + p.val) (hR : R.val = 640 * (t.val / 2) + r.val) :
    (iblk m c 0 t : Vec Ideal S4096x640 .bf16) (ix2 p r) = if h : R.val < 3104 then A (ix2 P (⟨R.val, h⟩ : Fin 3104)) else (0 : EReal) := by
  unfold iblk
  rw [View.read_apply]
  refine Eq.trans ?_ (prep_at m c A hA P R)
  show V m c main_v0 _ = V m c main_v0 _
  refine congrArg (V m c main_v0 : FVec Ideal S8192x3200 .bf16) ?_
  funext a
  apply Fin.ext
  match a with
  | ⟨0, _⟩ => show win0_0.index t (0 : Fin 2) * 4096 + 1 * p.val = P.val; rw [(idx0 t).1]; omega
  | ⟨1, _⟩ => show win0_0.index t (1 : Fin 2) * 640 + 1 * r.val = R.val; rw [(idx0 t).2]; omega

theorem block1 (B : FVec Ideal S8192x1024 .bf16) (hB : m ((c : Thread nD τ).loc main_arg0) = B) (t : Fin cfg0.N) (p : Fin 4096) (r : Fin 1024) (P : Fin 8192)
    (hP : P.val = 4096 * (t.val % 2) + p.val) : (iblk m c 1 t : Vec Ideal S4096x1024 .bf16) (ix2 p r) = B (ix2 P r) := by
  subst hB
  unfold iblk
  rw [View.read_apply]
  show V m c main_arg0 _ = _
  rw [V_main_arg0]
  refine congrArg (m ((c : Thread nD τ).loc main_arg0) : FVec Ideal S8192x1024 .bf16) ?_
  funext a
  apply Fin.ext
  match a with
  | ⟨0, _⟩ => show win0_1.index t (0 : Fin 2) * 4096 + 1 * p.val = P.val; rw [(idx1 t).1]; omega
  | ⟨1, _⟩ => show win0_1.index t (1 : Fin 2) * 1024 + 1 * r.val = r.val; rw [(idx1 t).2]; omega

/-- What two points of a block of the output leave in it. -/
theorem pair (n : ℕ) (hn : n + 1 < cfg0.N) (h : n % 2 = 0) : (outsAt0 m c (n + 1) hn).1
    = k0_pay3 (iblk m c 0 ⟨n + 1, hn⟩) (iblk m c 1 ⟨n + 1, hn⟩) (k0_pay2 (iblk m c 0 ⟨n, by omega⟩) (iblk m c 1 ⟨n, by omega⟩)) := by
  have e := outsAt0_B m c ⟨n + 1, hn⟩ (show ¬(n + 1) % 2 = 0 by omega) (show (n + 1) % 2 = 1 by omega) (show (n + 1) % 2 = 1 by omega)
  have e' := outsAt0_A m c ⟨n, by omega⟩ (show n % 2 = 0 by omega) (show ¬n % 2 = 1 by omega) (show ¬n % 2 = 1 by omega)
  dsimp only at e e'
  simp only [Nat.add_sub_cancel] at e
  rw [e]
  dsimp only
  rw [second, e']
  dsimp only
  rw [first]

theorem point_lt (R : Fin 3200) : 2 * (R.val / 640) + 1 < cfg0.N := lt_of_lt_of_eq (by omega) N_0.symm

/-- The points that write a row. -/
theorem array_block (R : Fin 3200) (l : Fin 1024) : (Value.G2 m c : FVec Ideal S3200x1024 .f32) (ix2 R l)
    = (outsAt0 m c (2 * (R.val / 640) + 1) (point_lt R)).1 (ix2 (⟨R.val % 640, by omega⟩ : Fin 640) l) := by
  have hp : Value.pt2Of (ix2 R l) = 2 * (R.val / 640) + 1 := by
    show 2 * (1 * (R.val / 640 - 0) + 1 * (l.val / 1024 - 0)) + 1 = _
    omega
  have hl : Value.loc2Of (ix2 R l) = ix2 (⟨R.val % 640, by omega⟩ : Fin 640) l := by
    funext a; apply Fin.ext
    match a with
    | ⟨0, _⟩ => rfl
    | ⟨1, _⟩ => show l.val % 1024 = l.val; omega
  unfold Value.G2
  rw [dif_pos (by rw [hp]; exact point_lt R), hl, Value.fold0_congr m c _ _ (2 * (R.val / 640) + 1) (by rw [Nat.zero_add]; exact point_lt R) hp,
    ← Value.outsAt0_sweep m c _ (point_lt R)]

/-- The kernel's array: the product over all tokens. -/
theorem array_at (A : FVec Ideal S8192x3104 .bf16) (B : FVec Ideal S8192x1024 .bf16) (hA : m ((c : Thread nD τ).loc main_arg1) = A) (hB : m ((c : Thread nD τ).loc main_arg0) = B)
    (R : Fin 3200) (l : Fin 1024) : (Value.G2 m c : FVec Ideal S3200x1024 .f32) (ix2 R l)
      = ∑ p : Fin 8192, (if h : R.val < 3104 then A (ix2 p (⟨R.val, h⟩ : Fin 3104)) else (0 : EReal)) * B (ix2 p l) := by
  rw [array_block, pair m c (2 * (R.val / 640)) (point_lt R) (by omega)]
  exact halves _ _ _ _ (fun p => (if h : R.val < 3104 then A (ix2 p (⟨R.val, h⟩ : Fin 3104)) else (0 : EReal))) (fun p => B (ix2 p l)) ⟨R.val % 640, by omega⟩ l
    (fun p => block0 m c A hA _ p _ _ R (show p.val = 4096 * (2 * (R.val / 640) % 2) + p.val by omega) (show R.val = 640 * (2 * (R.val / 640) / 2) + R.val % 640 by omega))
    (fun p => block1 m c B hB _ p l _ (show p.val = 4096 * (2 * (R.val / 640) % 2) + p.val by omega))
    (fun p => block0 m c A hA _ p _ _ R (show 4096 + p.val = 4096 * ((2 * (R.val / 640) + 1) % 2) + p.val by omega) (show R.val = 640 * ((2 * (R.val / 640) + 1) / 2) + R.val % 640 by omega))
    (fun p => block1 m c B hB _ p l _ (show 4096 + p.val = 4096 * ((2 * (R.val / 640) + 1) % 2) + p.val by omega))

theorem algebraic : Cert.algebraic_Kernel7Ideal_Reference7Ideal := by
  intro m g m' g' _ hagree
  refine ⟨fun c => Value.G2 m c, Value.run m g, ?_⟩
  refine (θ_run Cert.Reference7Ideal.defs _ _).mono (fun _ h c => ?_) (Cert.Reference7Ideal.Value.run m' g')
  obtain ⟨h0, hk⟩ := h c
  refine ⟨h0.trans ?_, hk⟩
  rw [(hagree c).1, (hagree c).2]
  funext i
  obtain ⟨r, l, rfl⟩ : ∃ (r : Fin 3200) (l : Fin 1024), i = ix2 r l := ⟨_, _, eq_ix2 i⟩
  refine (Ref.array_at _ _ r l).trans (Eq.trans ?_ (array_at m c _ _ rfl rfl r l).symm)
  by_cases h : r.val < 3104
  · simp only [dif_pos h]
  · simp only [dif_neg h]
    exact (Finset.sum_eq_zero fun p _ => zero_mul _).symm

end Products.ProjInDw

end
-- ==== Proof.Products.OutDx.lean ====
/-
  The gradient of the output projection's input: each point leaves the product of its 2048 rows with the whole weight.
-/
module

public import proofs.«01_k».proof.Defs
public import proofs.«01_k».proof.Proof.Products.Sums
public import proofs.«01_k».proof.Proof.Gen.Kernel8Ideal.Value
public import proofs.«01_k».proof.Proof.Gen.Reference8Ideal.Run
public import Idealize.ShloMosaic.Lib.Pipeline.ValueKit
public import Idealize.ShloMosaic.Lib.VecWindow
public import Idealize.ShloMosaic.Lib.StableHlo.Run

@[expose] public section

set_option maxRecDepth 16384
set_option maxHeartbeats 1000000

noncomputable section

namespace Products.OutDx.Ref

open Idealize.ShloMosaic Cert.Reference8Ideal Cert.Reference8Ideal.Gen

/-- The reference's array. -/
theorem array_at (A : FVec Ideal S1024x1024 .f32) (B : FVec Ideal S8192x1024 .bf16) (r : Fin 8192) (l : Fin 1024) :
    (truncf .bf16 (Host.dotGeneral dot_S8192x1024_S1024x1024_S8192x1024_1_1_0_0_n_n none (extf .f32 B bitsLt_bf16_f32) A) bitsLt_bf16_f32
      : FVec Ideal S8192x1024 .bf16) (ix2 r l) = ∑ p : Fin 1024, B (ix2 r p) * A (ix2 l p) := by
  pointwise []

end Products.OutDx.Ref

namespace Products.OutDx

open Idealize.ShloMosaic Idealize.ShloMosaic.TcCoe Idealize.SL.Sem Cert.Kernel8Ideal Cert.Kernel8Ideal.Gen

/-- What a point leaves in its block, at an index. -/
theorem out_at (x0 : Vec Ideal S2048x1024 .bf16) (x1 : Vec Ideal S1x1024x1024 .bf16) (r : Fin 2048) (l : Fin 1024) :
    out0_2 x0 x1 (ix2 r l) = ∑ p : Fin 1024, x0 (ix2 r p) * x1 (ix3 (0 : Fin 1) l p) := by
  have e : out0_2 x0 x1 = k0_pay1 x0 x1 :=
    (View.canon_cons_unit_lit _ _ _ (by decide)).trans (congrArg₂ k0_pay1 (View.ld_unit_lit _ _ (by decide)) (View.ld_unit_lit _ _ (by decide)))
  rw [e]
  pointwise [k0_pay1]

variable (m : (ℓ : Loc nD τ sig) → Buf (Elt Ideal) ℓ) (c : Dev nD)

theorem idx0 : ∀ t : Fin cfg0.N, win0_0.index t (0 : Fin 2) = t.val ∧ win0_0.index t (1 : Fin 2) = 0 := by decide +kernel
theorem idx1 : ∀ t : Fin cfg0.N, win0_1.index t (0 : Fin 3) = 0 ∧ win0_1.index t (1 : Fin 3) = 0 ∧ win0_1.index t (2 : Fin 3) = 0 := by decide +kernel
theorem idx2 : ∀ t : Fin cfg0.N, win0_2.index t (0 : Fin 2) = t.val ∧ win0_2.index t (1 : Fin 2) = 0 := by decide +kernel

/-- The weight as the call reads it. -/
theorem prep_at (A : FVec Ideal S1024x1024 .f32) (hA : m ((c : Thread nD τ).loc main_arg0) = A) (l p : Fin 1024) :
    (V m c main_v1 : FVec Ideal S1x1024x1024 .bf16) (ix3 (0 : Fin 1) l p) = A (ix2 l p) := by
  subst hA
  unfold V
  after_results
  pointwise []

theorem block0 (t : Fin cfg0.N) (r : Fin 2048) (p : Fin 1024) (R : Fin 8192) (hR : R.val = 2048 * t.val + r.val) :
    (iblk m c 0 t : Vec Ideal S2048x1024 .bf16) (ix2 r p) = (m ((c : Thread nD τ).loc main_arg1) : FVec Ideal S8192x1024 .bf16) (ix2 R p) := by
  unfold iblk
  rw [View.read_apply]
  show V m c main_arg1 _ = _
  rw [V_main_arg1]
  refine congrArg (m ((c : Thread nD τ).loc main_arg1) : FVec Ideal S8192x1024 .bf16) ?_
  funext a
  apply Fin.ext
  match a with
  | ⟨0, _⟩ => show win0_0.index t (0 : Fin 2) * 2048 + 1 * r.val = R.val; rw [(idx0 t).1]; omega
  | ⟨1, _⟩ => show win0_0.index t (1 : Fin 2) * 1024 + 1 * p.val = p.val; rw [(idx0 t).2]; omega

theorem block1 (t : Fin cfg0.N) (l p : Fin 1024) :
    (iblk m c 1 t : Vec Ideal S1x1024x1024 .bf16) (ix3 (0 : Fin 1) l p) = (V m c main_v1 : FVec Ideal S1x1024x1024 .bf16) (ix3 (0 : Fin 1) l p) := by
  unfold iblk
  rw [View.read_apply]
  refine congrArg (V m c main_v1 : FVec Ideal S1x1024x1024 .bf16) ?_
  funext a
  apply Fin.ext
  match a with
  | ⟨0, _⟩ => show win0_1.index t (0 : Fin 3) * 1 + 1 * 0 = 0; rw [(idx1 t).1]
  | ⟨1, _⟩ => show win0_1.index t (1 : Fin 3) * 1024 + 1 * l.val = l.val; rw [(idx1 t).2.1]; omega
  | ⟨2, _⟩ => show win0_1.index t (2 : Fin 3) * 1024 + 1 * p.val = p.val; rw [(idx1 t).2.2]; omega

theorem read_at (A : FVec Ideal S8192x1024 .bf16) (t : Fin cfg0.N) (r : Fin 2048) (l : Fin 1024) (R : Fin 8192) (hR : R.val = 2048 * t.val + r.val) :
    (((cfg0.win 2).blk t).view.read (Elt Ideal) A : FVec Ideal S2048x1024 .bf16) (ix2 r l) = A (ix2 R l) := by
  rw [View.read_apply]
  show A _ = A _
  congr 1
  funext a
  apply Fin.ext
  match a with
  | ⟨0, _⟩ => show win0_2.index t (0 : Fin 2) * 2048 + 1 * r.val = R.val; rw [(idx2 t).1]; omega
  | ⟨1, _⟩ => show win0_2.index t (1 : Fin 2) * 1024 + 1 * l.val = l.val; rw [(idx2 t).2]; omega

/-- The point that computes a row. -/
def pointOf (R : Fin 8192) : Fin cfg0.N := ⟨R.val / 2048, lt_of_lt_of_eq (by omega) N_0.symm⟩

/-- The kernel's array. -/
theorem array_at (A : FVec Ideal S1024x1024 .f32) (B : FVec Ideal S8192x1024 .bf16) (hA : m ((c : Thread nD τ).loc main_arg0) = A)
    (hB : m ((c : Thread nD τ).loc main_arg1) = B) (R : Fin 8192) (l : Fin 1024) :
    ((dats m 0 c).arrAt 2 cfg0.N : FVec Ideal S8192x1024 .bf16) (ix2 R l) = ∑ p : Fin 1024, B (ix2 R p) * A (ix2 l p) := by
  have hR : R.val = 2048 * (pointOf R).val + R.val % 2048 := by show R.val = 2048 * (R.val / 2048) + R.val % 2048; omega
  have h := (Value.blocks2 m c (pointOf R) (flush0_2 _)).trans (Value.flushed2 m c (pointOf R))
  generalize (dats m 0 c).arrAt 2 cfg0.N = G at h ⊢
  refine (read_at G (pointOf R) ⟨R.val % 2048, by omega⟩ l R hR).symm.trans ((congrFun h (ix2 (⟨R.val % 2048, by omega⟩ : Fin 2048) l)).trans ?_)
  refine (out_at (iblk m c 0 (pointOf R)) (iblk m c 1 (pointOf R)) ⟨R.val % 2048, by omega⟩ l).trans ?_
  subst hB
  exact Finset.sum_congr rfl fun p _ => congrArg₂ (fun a b : EReal => a * b) (block0 m c (pointOf R) _ p R hR)
    ((block1 m c (pointOf R) l p).trans (prep_at m c A hA l p))

theorem algebraic : Cert.algebraic_Kernel8Ideal_Reference8Ideal := by
  intro m g m' g' _ hagree
  refine ⟨fun c => (dats m 0 c).arrAt 2 cfg0.N, Value.run_blocks m g, ?_⟩
  refine (θ_run Cert.Reference8Ideal.defs _ _).mono (fun _ h c => ?_) (Cert.Reference8Ideal.Value.run m' g')
  obtain ⟨h0, hk⟩ := h c
  refine ⟨h0.trans ?_, hk⟩
  rw [(hagree c).1, (hagree c).2]
  funext i
  obtain ⟨r, l, rfl⟩ : ∃ (r : Fin 8192) (l : Fin 1024), i = ix2 r l := ⟨_, _, eq_ix2 i⟩
  exact (Ref.array_at _ _ r l).trans (array_at m c _ _ rfl rfl r l).symm

end Products.OutDx

end
-- ==== Proof.Products.OutDw.lean ====
/-
  The gradient of the output projection's weight: the first point leaves the product over the first 4096 tokens, the second
  adds the product over the rest.
-/
module

public import proofs.«01_k».proof.Defs
public import proofs.«01_k».proof.Proof.Products.Sums
public import proofs.«01_k».proof.Proof.Gen.Kernel9Ideal.Value
public import proofs.«01_k».proof.Proof.Gen.Reference9Ideal.Run
public import Idealize.ShloMosaic.Lib.Pipeline.ValueKit
public import Idealize.ShloMosaic.Lib.VecWindow

@[expose] public section

set_option maxRecDepth 16384
set_option maxHeartbeats 1000000

noncomputable section

namespace Products.OutDw.Ref

open Idealize.ShloMosaic Cert.Reference9Ideal Cert.Reference9Ideal.Gen

/-- The reference's array. -/
theorem array_at (A B : FVec Ideal S8192x1024 .bf16) (r l : Fin 1024) :
    (transpose S1024x1024 [1, 0] (Host.dotGeneral dot_S8192x1024_S8192x1024_S1024x1024_0_0_1_1_n_n none (extf .f32 B bitsLt_bf16_f32)
      (extf .f32 A bitsLt_bf16_f32)) transposes_S1024x1024_S1024x1024_1_0 : FVec Ideal S1024x1024 .f32) (ix2 r l)
      = ∑ p : Fin 8192, A (ix2 p r) * B (ix2 p l) := by
  pointwise []
  exact Finset.sum_congr rfl fun p _ => mul_comm _ _

end Products.OutDw.Ref

namespace Products.OutDw

open Idealize.ShloMosaic Idealize.ShloMosaic.TcCoe Idealize.SL.Sem Cert.Kernel9Ideal Cert.Kernel9Ideal.Gen

section
variable {F : FTy → Type} [FloatOps F]
variable (c : Dev nD) (i : grid0.Coords) (arg3 : Memref sig .tc .vmem S4096x1024 .bf16) (harg3 : arg3.IsWhole) (arg4 : Memref sig .tc .vmem S4096x1024 .bf16) (harg4 : arg4.IsWhole) (arg5 : Memref sig .tc .vmem S1024x1024 .f32) (harg5 : arg5.IsWhole) (arg6 : Memref sig .tc .vmem S1024x1024 .f32) (harg6 : arg6.IsWhole)
  (x0 x1 : Vec F S4096x1024 .bf16) (xs0 : Vec F S1024x1024 .f32)

theorem first (hc0 : cond0_0 i) (hc1 : ¬cond0_1 i) (hc2 : ¬cond0_2 i) :
    sout0_A_0 c i arg3 harg3 arg4 harg4 arg5 harg5 arg6 harg6 hc0 hc1 hc2 x0 x1 = k0_pay2 x0 x1 := by
  refine (View.read_writes_full VS0_0 VS0_0.junk _ _ _).trans ?_
  exact congrArg₂ k0_pay2 ((View.readAt_full _ _ _).trans (harg3.read_unread _)) ((View.readAt_full _ _ _).trans (harg4.read_unread _))

theorem second (hc0 : ¬cond0_0 i) (hc1 : cond0_1 i) (hc2 : cond0_2 i) :
    out0_B_2 c i arg3 harg3 arg4 harg4 arg5 harg5 arg6 harg6 hc0 hc1 hc2 x0 x1 xs0 = k0_pay3 x0 x1 xs0 := by
  refine (View.read_writes_full VO0_2 VO0_2.junk _ _ _).trans ((View.readCov_full _ _ _ _ _).trans ?_)
  have e0 := (View.readAt_full (Val := Elt F) arg3.view (harg3.unread x0) inb_S4096x1024_S4096x1024_0_0).trans (harg3.read_unread _)
  have e1 := (View.readAt_full (Val := Elt F) arg4.view (harg4.unread x1) inb_S4096x1024_S4096x1024_0_0).trans (harg4.read_unread _)
  have e2 := (View.readAt_full (Val := Elt F) arg6.view (harg6.unread xs0) inb_S1024x1024_S1024x1024_0_0).trans (harg6.read_unread _)
  exact congr (congrArg₂ k0_pay3 e0 e1) e2

end

/-- Both halves of the product at an index. -/
theorem halves (x0 x1 y0 y1 : Vec Ideal S4096x1024 .bf16) (A B : FVec Ideal S8192x1024 .bf16) (r l : Fin 1024)
    (hx0 : ∀ p : Fin 4096, x0 (ix2 p r) = A (ix2 (⟨p.val, by omega⟩ : Fin 8192) r))
    (hx1 : ∀ p : Fin 4096, x1 (ix2 p l) = B (ix2 (⟨p.val, by omega⟩ : Fin 8192) l))
    (hy0 : ∀ p : Fin 4096, y0 (ix2 p r) = A (ix2 (⟨4096 + p.val, by omega⟩ : Fin 8192) r))
    (hy1 : ∀ p : Fin 4096, y1 (ix2 p l) = B (ix2 (⟨4096 + p.val, by omega⟩ : Fin 8192) l)) :
    k0_pay3 y0 y1 (k0_pay2 x0 x1) (ix2 r l) = ∑ p : Fin 8192, A (ix2 p r) * B (ix2 p l) := by
  have e (x0 x1 : Vec Ideal S4096x1024 .bf16) : k0_pay2 x0 x1 (ix2 r l) = ∑ p : Fin 4096, x0 (ix2 p r) * x1 (ix2 p l) := by
    pointwise [k0_pay2, k0_pay1]
  have e' (x0 x1 : Vec Ideal S4096x1024 .bf16) (y : Vec Ideal S1024x1024 .f32) :
      k0_pay3 x0 x1 y (ix2 r l) = y (ix2 r l) + ∑ p : Fin 4096, x0 (ix2 p r) * x1 (ix2 p l) := by
    pointwise [k0_pay3, k0_pay1]
  rw [e', e]
  exact sum_parts (a := 4096) (b := 4096) rfl (fun p : Fin 8192 => A (ix2 p r) * B (ix2 p l)) (fun p => x0 (ix2 p r) * x1 (ix2 p l))
    (fun p => y0 (ix2 p r) * y1 (ix2 p l)) (fun p => congrArg₂ (· * ·) (hx0 p) (hx1 p)) (fun p => congrArg₂ (· * ·) (hy0 p) (hy1 p))

variable (m : (ℓ : Loc nD τ sig) → Buf (Elt Ideal) ℓ) (c : Dev nD)

theorem idx0 : ∀ t : Fin cfg0.N, win0_0.index t (0 : Fin 2) = t.val % 2 ∧ win0_0.index t (1 : Fin 2) = 0 := by decide +kernel
theorem idx1 : ∀ t : Fin cfg0.N, win0_1.index t (0 : Fin 2) = t.val % 2 ∧ win0_1.index t (1 : Fin 2) = 0 := by decide +kernel

theorem block0 (t : Fin cfg0.N) (p : Fin 4096) (r : Fin 1024) (P : Fin 8192) (hP : P.val = 4096 * (t.val % 2) + p.val) :
    (iblk m c 0 t : Vec Ideal S4096x1024 .bf16) (ix2 p r) = (m ((c : Thread nD τ).loc main_arg0) : FVec Ideal S8192x1024 .bf16) (ix2 P r) := by
  unfold iblk
  rw [View.read_apply]
  show V m c main_arg0 _ = _
  rw [V_main_arg0]
  refine congrArg (m ((c : Thread nD τ).loc main_arg0) : FVec Ideal S8192x1024 .bf16) ?_
  funext a
  apply Fin.ext
  match a with
  | ⟨0, _⟩ => show win0_0.index t (0 : Fin 2) * 4096 + 1 * p.val = P.val; rw [(idx0 t).1]; omega
  | ⟨1, _⟩ => show win0_0.index t (1 : Fin 2) * 1024 + 1 * r.val = r.val; rw [(idx0 t).2]; omega

theorem block1 (t : Fin cfg0.N) (p : Fin 4096) (r : Fin 1024) (P : Fin 8192) (hP : P.val = 4096 * (t.val % 2) + p.val) :
    (iblk m c 1 t : Vec Ideal S4096x1024 .bf16) (ix2 p r) = (m ((c : Thread nD τ).loc main_arg1) : FVec Ideal S8192x1024 .bf16) (ix2 P r) := by
  unfold iblk
  rw [View.read_apply]
  show V m c main_arg1 _ = _
  rw [V_main_arg1]
  refine congrArg (m ((c : Thread nD τ).loc main_arg1) : FVec Ideal S8192x1024 .bf16) ?_
  funext a
  apply Fin.ext
  match a with
  | ⟨0, _⟩ => show win0_1.index t (0 : Fin 2) * 4096 + 1 * p.val = P.val; rw [(idx1 t).1]; omega
  | ⟨1, _⟩ => show win0_1.index t (1 : Fin 2) * 1024 + 1 * r.val = r.val; rw [(idx1 t).2]; omega

/-- What two points of a block of the output leave in it. -/
theorem pair (n : ℕ) (hn : n + 1 < cfg0.N) (h : n % 2 = 0) : (outsAt0 m c (n + 1) hn).1
    = k0_pay3 (iblk m c 0 ⟨n + 1, hn⟩) (iblk m c 1 ⟨n + 1, hn⟩) (k0_pay2 (iblk m c 0 ⟨n, by omega⟩) (iblk m c 1 ⟨n, by omega⟩)) := by
  have e := outsAt0_B m c ⟨n + 1, hn⟩ (show ¬(n + 1) % 2 = 0 by omega) (show (n + 1) % 2 = 1 by omega) (show (n + 1) % 2 = 1 by omega)
  have e' := outsAt0_A m c ⟨n, by omega⟩ (show n % 2 = 0 by omega) (show ¬n % 2 = 1 by omega) (show ¬n % 2 = 1 by omega)
  dsimp only at e e'
  simp only [Nat.add_sub_cancel] at e
  rw [e]
  dsimp only
  rw [second, e']
  dsimp only
  rw [first]

/-- The kernel's array: the product over all tokens. -/
theorem array_at (A B : FVec Ideal S8192x1024 .bf16) (hA : m ((c : Thread nD τ).loc main_arg0) = A) (hB : m ((c : Thread nD τ).loc main_arg1) = B)
    (r l : Fin 1024) : (Value.G2 m c : FVec Ideal S1024x1024 .f32) (ix2 r l) = ∑ p : Fin 8192, A (ix2 p r) * B (ix2 p l) := by
  subst hA hB
  rw [Value.G2_last, ← Value.outsAt0_sweep m c 1 (lt_of_lt_of_eq (by decide) N_0.symm), pair m c 0 (lt_of_lt_of_eq (by decide) N_0.symm) rfl]
  exact halves _ _ _ _ _ _ r l (fun p => block0 m c _ p r _ (show p.val = 4096 * (0 % 2) + p.val by omega))
    (fun p => block1 m c _ p l _ (show p.val = 4096 * (0 % 2) + p.val by omega))
    (fun p => block0 m c _ p r _ (show 4096 + p.val = 4096 * (1 % 2) + p.val by omega))
    (fun p => block1 m c _ p l _ (show 4096 + p.val = 4096 * (1 % 2) + p.val by omega))

theorem algebraic : Cert.algebraic_Kernel9Ideal_Reference9Ideal := by
  intro m g m' g' _ hagree
  refine ⟨fun c => Value.G2 m c, Value.run m g, ?_⟩
  refine (θ_run Cert.Reference9Ideal.defs _ _).mono (fun _ h c => ?_) (Cert.Reference9Ideal.Value.run m' g')
  obtain ⟨h0, hk⟩ := h c
  refine ⟨h0.trans ?_, hk⟩
  rw [(hagree c).1, (hagree c).2]
  funext i
  obtain ⟨r, l, rfl⟩ : ∃ r l : Fin 1024, i = ix2 r l := ⟨_, _, eq_ix2 i⟩
  exact (Ref.array_at _ _ r l).trans (array_at m c _ _ rfl rfl r l).symm

end Products.OutDw

end
-- ==== Proof.Products.FfnUp.lean ====
/-
  The first feed-forward product: each point leaves the product of its 2048 rows with 704 columns of the weight.
-/
module

public import proofs.«01_k».proof.Defs
public import proofs.«01_k».proof.Proof.Products.Sums
public import proofs.«01_k».proof.Proof.Gen.Kernel10Ideal.Value
public import proofs.«01_k».proof.Proof.Gen.Reference10Ideal.Run
public import Idealize.ShloMosaic.Lib.Pipeline.ValueKit
public import Idealize.ShloMosaic.Lib.VecWindow
public import Idealize.ShloMosaic.Lib.StableHlo.Run

@[expose] public section

set_option maxRecDepth 16384
set_option maxHeartbeats 1000000

noncomputable section

namespace Products.FfnUp.Ref

open Idealize.ShloMosaic Cert.Reference10Ideal Cert.Reference10Ideal.Gen

/-- The reference's array: the columns in 8 blocks. -/
theorem array_at (A : FVec Ideal S8192x1024 .bf16) (B : FVec Ideal S1024x5632 .f32) (x : Fin 8) (r : Fin 8192) (l : Fin 704) :
    (transpose S8x8192x704 [1, 0, 2] (shapeCast _ (truncf .bf16 (Host.dotGeneral dot_S8192x1024_S1024x5632_S8192x5632_1_0_0_1_n_n none (extf .f32 A bitsLt_bf16_f32) B) bitsLt_bf16_f32) shapeCasts_S8192x5632_S8192x8x704) transposes_S8192x8x704_S8x8192x704_1_0_2
      : FVec Ideal S8x8192x704 .bf16) (ix3 x r l) = ∑ p : Fin 1024, A (ix2 r p) * B (ix2 p (⟨x.val * 704 + l.val, by omega⟩ : Fin 5632)) := by
  pointwise []

end Products.FfnUp.Ref

namespace Products.FfnUp

open Idealize.ShloMosaic Idealize.ShloMosaic.TcCoe Idealize.SL.Sem Cert.Kernel10Ideal Cert.Kernel10Ideal.Gen

/-- What a point leaves in its block, at an index. -/
theorem out_at (x0 : Vec Ideal S2048x1024 .bf16) (x1 : Vec Ideal S1x1x704x1024 .bf16) (r : Fin 2048) (l : Fin 704) :
    out0_2 x0 x1 (ix3 (0 : Fin 1) r l) = ∑ p : Fin 1024, x0 (ix2 r p) * x1 (ix4 (0 : Fin 1) (0 : Fin 1) l p) := by
  have e : out0_2 x0 x1 = k0_pay1 x0 x1 :=
    (View.canon_cons_unit_lit _ _ _ (by decide)).trans (congrArg₂ k0_pay1 (View.ld_unit_lit _ _ (by decide)) (View.ld_unit_lit _ _ (by decide)))
  rw [e]
  pointwise [k0_pay1]

variable (m : (ℓ : Loc nD τ sig) → Buf (Elt Ideal) ℓ) (c : Dev nD)

theorem idx0 : ∀ t : Fin cfg0.N, win0_0.index t (0 : Fin 2) = t.val / 8 ∧ win0_0.index t (1 : Fin 2) = 0 := by decide +kernel
theorem idx1 : ∀ t : Fin cfg0.N, win0_1.index t (0 : Fin 4) = 0 ∧ win0_1.index t (1 : Fin 4) = t.val % 8 ∧ win0_1.index t (2 : Fin 4) = 0
    ∧ win0_1.index t (3 : Fin 4) = 0 := by decide +kernel
theorem idx2 : ∀ t : Fin cfg0.N, win0_2.index t (0 : Fin 3) = t.val % 8 ∧ win0_2.index t (1 : Fin 3) = t.val / 8 ∧ win0_2.index t (2 : Fin 3) = 0 := by decide +kernel

/-- The weight as the call reads it: transposed, by blocks of 704 rows. -/
theorem prep_at (B : FVec Ideal S1024x5632 .f32) (hB : m ((c : Thread nD τ).loc main_arg1) = B) (x : Fin 8) (l : Fin 704) (p : Fin 1024) :
    (V m c main_v2 : FVec Ideal S1x8x704x1024 .bf16) (ix4 (0 : Fin 1) x l p) = B (ix2 p (⟨x.val * 704 + l.val, by omega⟩ : Fin 5632)) := by
  subst hB
  unfold V
  after_results
  pointwise []

theorem block0 (t : Fin cfg0.N) (r : Fin 2048) (p : Fin 1024) (R : Fin 8192) (hR : R.val = 2048 * (t.val / 8) + r.val) :
    (iblk m c 0 t : Vec Ideal S2048x1024 .bf16) (ix2 r p) = (m ((c : Thread nD τ).loc main_arg0) : FVec Ideal S8192x1024 .bf16) (ix2 R p) := by
  unfold iblk
  rw [View.read_apply]
  show V m c main_arg0 _ = _
  rw [V_main_arg0]
  refine congrArg (m ((c : Thread nD τ).loc main_arg0) : FVec Ideal S8192x1024 .bf16) (funext fun a => Fin.ext ?_)
  match a with
  | ⟨0, _⟩ => show win0_0.index t (0 : Fin 2) * 2048 + 1 * r.val = R.val; rw [(idx0 t).1]; omega
  | ⟨1, _⟩ => show win0_0.index t (1 : Fin 2) * 1024 + 1 * p.val = p.val; rw [(idx0 t).2]; omega

theorem block1 (t : Fin cfg0.N) (l : Fin 704) (p : Fin 1024) (x : Fin 8) (hx : x.val = t.val % 8) :
    (iblk m c 1 t : Vec Ideal S1x1x704x1024 .bf16) (ix4 (0 : Fin 1) (0 : Fin 1) l p)
      = (V m c main_v2 : FVec Ideal S1x8x704x1024 .bf16) (ix4 (0 : Fin 1) x l p) := by
  unfold iblk
  rw [View.read_apply]
  refine congrArg (V m c main_v2 : FVec Ideal S1x8x704x1024 .bf16) (funext fun a => Fin.ext ?_)
  match a with
  | ⟨0, _⟩ => show win0_1.index t (0 : Fin 4) * 1 + 1 * 0 = 0; rw [(idx1 t).1]
  | ⟨1, _⟩ => show win0_1.index t (1 : Fin 4) * 1 + 1 * 0 = x.val; rw [(idx1 t).2.1]; omega
  | ⟨2, _⟩ => show win0_1.index t (2 : Fin 4) * 704 + 1 * l.val = l.val; rw [(idx1 t).2.2.1]; omega
  | ⟨3, _⟩ => show win0_1.index t (3 : Fin 4) * 1024 + 1 * p.val = p.val; rw [(idx1 t).2.2.2]; omega

theorem read_at (G : FVec Ideal S8x8192x704 .bf16) (t : Fin cfg0.N) (r : Fin 2048) (l : Fin 704) (x : Fin 8) (hx : x.val = t.val % 8)
    (R : Fin 8192) (hR : R.val = 2048 * (t.val / 8) + r.val) :
    (((cfg0.win 2).blk t).view.read (Elt Ideal) G : FVec Ideal S1x2048x704 .bf16) (ix3 (0 : Fin 1) r l) = G (ix3 x R l) := by
  rw [View.read_apply]
  refine congrArg G (funext fun a => Fin.ext ?_)
  match a with
  | ⟨0, _⟩ => show win0_2.index t (0 : Fin 3) * 1 + 1 * 0 = x.val; rw [(idx2 t).1]; omega
  | ⟨1, _⟩ => show win0_2.index t (1 : Fin 3) * 2048 + 1 * r.val = R.val; rw [(idx2 t).2.1]; omega
  | ⟨2, _⟩ => show win0_2.index t (2 : Fin 3) * 704 + 1 * l.val = l.val; rw [(idx2 t).2.2]; omega

/-- The point that computes a row of a block. -/
def pointOf (x : Fin 8) (R : Fin 8192) : Fin cfg0.N := ⟨R.val / 2048 * 8 + x.val, lt_of_lt_of_eq (by omega) N_0.symm⟩

/-- The kernel's array. -/
theorem array_at (A : FVec Ideal S8192x1024 .bf16) (B : FVec Ideal S1024x5632 .f32) (hA : m ((c : Thread nD τ).loc main_arg0) = A)
    (hB : m ((c : Thread nD τ).loc main_arg1) = B) (x : Fin 8) (R : Fin 8192) (l : Fin 704) :
    ((dats m 0 c).arrAt 2 cfg0.N : FVec Ideal S8x8192x704 .bf16) (ix3 x R l)
      = ∑ p : Fin 1024, A (ix2 R p) * B (ix2 p (⟨x.val * 704 + l.val, by omega⟩ : Fin 5632)) := by
  have hR : R.val = 2048 * ((pointOf x R).val / 8) + R.val % 2048 := by
    show R.val = 2048 * ((R.val / 2048 * 8 + x.val) / 8) + R.val % 2048; omega
  have hx : x.val = (pointOf x R).val % 8 := by show x.val = (R.val / 2048 * 8 + x.val) % 8; omega
  have h := (Value.blocks2 m c (pointOf x R) (flush0_2 _)).trans (Value.flushed2 m c (pointOf x R))
  generalize (dats m 0 c).arrAt 2 cfg0.N = G at h ⊢
  refine (read_at G (pointOf x R) ⟨R.val % 2048, by omega⟩ l x hx R hR).symm.trans ((congrFun h (ix3 (0 : Fin 1) (⟨R.val % 2048, by omega⟩ : Fin 2048) l)).trans ?_)
  refine (out_at (iblk m c 0 (pointOf x R)) (iblk m c 1 (pointOf x R)) ⟨R.val % 2048, by omega⟩ l).trans ?_
  subst hA
  exact Finset.sum_congr rfl fun p _ => congrArg₂ (fun a b : EReal => a * b) (block0 m c (pointOf x R) _ p R hR)
    ((block1 m c (pointOf x R) l p x hx).trans (prep_at m c B hB x l p))

theorem algebraic : Cert.algebraic_Kernel10Ideal_Reference10Ideal := by
  intro m g m' g' _ hagree
  refine ⟨fun c => (dats m 0 c).arrAt 2 cfg0.N, Value.run_blocks m g, ?_⟩
  refine (θ_run Cert.Reference10Ideal.defs _ _).mono (fun _ h c => ?_) (Cert.Reference10Ideal.Value.run m' g')
  obtain ⟨h0, hk⟩ := h c
  refine ⟨h0.trans ?_, hk⟩
  rw [(hagree c).1, (hagree c).2]
  funext i
  obtain ⟨x, r, l, rfl⟩ : ∃ (x : Fin 8) (r : Fin 8192) (l : Fin 704), i = ix3 x r l := ⟨_, _, _, eq_ix3 i⟩
  exact (Ref.array_at _ _ x r l).trans (array_at m c _ _ rfl rfl x r l).symm

end Products.FfnUp

end
-- ==== Proof.Products.FfnDown.lean ====
/-
  The second feed-forward product: each point adds up the products of its 1024 rows over the four blocks of 704 columns.
-/
module

public import proofs.«01_k».proof.Defs
public import proofs.«01_k».proof.Proof.Products.Sums
public import proofs.«01_k».proof.Proof.Products.Four
public import proofs.«01_k».proof.Proof.Gen.Kernel11Ideal.Value
public import proofs.«01_k».proof.Proof.Gen.Reference11Ideal.Run
public import Idealize.ShloMosaic.Lib.Pipeline.ValueKit
public import Idealize.ShloMosaic.Lib.VecWindow
public import Idealize.ShloMosaic.Lib.StableHlo.Run

@[expose] public section

set_option maxRecDepth 16384
set_option maxHeartbeats 1000000

noncomputable section

namespace Products.FfnDown.Ref

open Idealize.ShloMosaic Cert.Reference11Ideal Cert.Reference11Ideal.Gen

/-- The reference's array. -/
theorem array_at (A : FVec Ideal S8192x2816 .bf16) (B : FVec Ideal S2816x1024 .f32) (r : Fin 8192) (l : Fin 1024) :
    (truncf .bf16 (Host.dotGeneral dot_S8192x2816_S2816x1024_S8192x1024_1_0_0_1_n_n none (extf .f32 A bitsLt_bf16_f32) B) bitsLt_bf16_f32
      : FVec Ideal S8192x1024 .bf16) (ix2 r l) = ∑ p : Fin 2816, A (ix2 r p) * B (ix2 p l) := by
  pointwise []

end Products.FfnDown.Ref

namespace Products.FfnDown

open Idealize.ShloMosaic Idealize.ShloMosaic.TcCoe Idealize.SL.Sem Cert.Kernel11Ideal Cert.Kernel11Ideal.Gen

/-- Four blocks' products at an index. -/
theorem four_at (v0 v1 v2 v3 : Vec Ideal S1x1024x704 .bf16) (w0 w1 w2 w3 : Vec Ideal S1x1x704x1024 .bf16) (r l : Fin 1024) :
    k0_pay1 v0 w0 v1 w1 v2 w2 v3 w3 (ix2 r l)
      = (∑ p : Fin 704, v0 (ix3 (0 : Fin 1) r p) * w0 (ix4 (0 : Fin 1) (0 : Fin 1) p l))
        + (∑ p : Fin 704, v1 (ix3 (0 : Fin 1) r p) * w1 (ix4 (0 : Fin 1) (0 : Fin 1) p l))
        + (∑ p : Fin 704, v2 (ix3 (0 : Fin 1) r p) * w2 (ix4 (0 : Fin 1) (0 : Fin 1) p l))
        + (∑ p : Fin 704, v3 (ix3 (0 : Fin 1) r p) * w3 (ix4 (0 : Fin 1) (0 : Fin 1) p l)) := by
  pointwise [k0_pay1]

/-- What a point leaves in its block, at an index. -/
theorem out_at (x0 : Vec Ideal S4x1024x704 .bf16) (x1 : Vec Ideal S1x4x704x1024 .bf16) (r l : Fin 1024) :
    out0_2 x0 x1 (ix2 r l) = ∑ k : Fin 4, ∑ p : Fin 704, x0 (ix3 k r p) * x1 (ix4 (0 : Fin 1) k p l) := by
  refine (congrFun (View.canon_cons_unit_lit _ _ _ (by decide)) (ix2 r l)).trans ((four_at _ _ _ _ _ _ _ _ r l).trans ?_)
  rw [Fin.sum_univ_four]
  exact congrArg₂ (fun a b : EReal => a + b) (congrArg₂ (fun a b : EReal => a + b) (congrArg₂ (fun a b : EReal => a + b)
    (products x0 x1 0 rfl rfl _ _ r l) (products x0 x1 1 rfl rfl _ _ r l)) (products x0 x1 2 rfl rfl _ _ r l)) (products x0 x1 3 rfl rfl _ _ r l)

variable (m : (ℓ : Loc nD τ sig) → Buf (Elt Ideal) ℓ) (c : Dev nD)

theorem idx0 : ∀ t : Fin cfg0.N, win0_0.index t (0 : Fin 3) = 0 ∧ win0_0.index t (1 : Fin 3) = t.val ∧ win0_0.index t (2 : Fin 3) = 0 := by decide +kernel
theorem idx1 : ∀ t : Fin cfg0.N, win0_1.index t (0 : Fin 4) = 0 ∧ win0_1.index t (1 : Fin 4) = 0 ∧ win0_1.index t (2 : Fin 4) = 0
    ∧ win0_1.index t (3 : Fin 4) = 0 := by decide +kernel
theorem idx2 : ∀ t : Fin cfg0.N, win0_2.index t (0 : Fin 2) = t.val ∧ win0_2.index t (1 : Fin 2) = 0 := by decide +kernel

/-- The activation as the call reads it: the columns in 4 blocks. -/
theorem prep0_at (A : FVec Ideal S8192x2816 .bf16) (hA : m ((c : Thread nD τ).loc main_arg0) = A) (k : Fin 4) (r : Fin 8192) (p : Fin 704) :
    (V m c main_v1 : FVec Ideal S4x8192x704 .bf16) (ix3 k r p) = A (ix2 r (⟨k.val * 704 + p.val, by omega⟩ : Fin 2816)) := by
  subst hA
  unfold V
  after_results
  pointwise []

/-- The weight as the call reads it: the rows in 4 blocks. -/
theorem prep1_at (B : FVec Ideal S2816x1024 .f32) (hB : m ((c : Thread nD τ).loc main_arg1) = B) (k : Fin 4) (p : Fin 704) (l : Fin 1024) :
    (V m c main_v3 : FVec Ideal S1x4x704x1024 .bf16) (ix4 (0 : Fin 1) k p l) = B (ix2 (⟨k.val * 704 + p.val, by omega⟩ : Fin 2816) l) := by
  subst hB
  unfold V
  after_results
  pointwise []

theorem block0 (t : Fin cfg0.N) (k : Fin 4) (r : Fin 1024) (p : Fin 704) (R : Fin 8192) (hR : R.val = 1024 * t.val + r.val) :
    (iblk m c 0 t : Vec Ideal S4x1024x704 .bf16) (ix3 k r p) = (V m c main_v1 : FVec Ideal S4x8192x704 .bf16) (ix3 k R p) := by
  unfold iblk
  rw [View.read_apply]
  refine congrArg (V m c main_v1 : FVec Ideal S4x8192x704 .bf16) (funext fun a => Fin.ext ?_)
  match a with
  | ⟨0, _⟩ => show win0_0.index t (0 : Fin 3) * 4 + 1 * k.val = k.val; rw [(idx0 t).1]; omega
  | ⟨1, _⟩ => show win0_0.index t (1 : Fin 3) * 1024 + 1 * r.val = R.val; rw [(idx0 t).2.1]; omega
  | ⟨2, _⟩ => show win0_0.index t (2 : Fin 3) * 704 + 1 * p.val = p.val; rw [(idx0 t).2.2]; omega

theorem block1 (t : Fin cfg0.N) (k : Fin 4) (p : Fin 704) (l : Fin 1024) :
    (iblk m c 1 t : Vec Ideal S1x4x704x1024 .bf16) (ix4 (0 : Fin 1) k p l) = (V m c main_v3 : FVec Ideal S1x4x704x1024 .bf16) (ix4 (0 : Fin 1) k p l) := by
  unfold iblk
  rw [View.read_apply]
  refine congrArg (V m c main_v3 : FVec Ideal S1x4x704x1024 .bf16) (funext fun a => Fin.ext ?_)
  match a with
  | ⟨0, _⟩ => show win0_1.index t (0 : Fin 4) * 1 + 1 * 0 = 0; rw [(idx1 t).1]
  | ⟨1, _⟩ => show win0_1.index t (1 : Fin 4) * 4 + 1 * k.val = k.val; rw [(idx1 t).2.1]; omega
  | ⟨2, _⟩ => show win0_1.index t (2 : Fin 4) * 704 + 1 * p.val = p.val; rw [(idx1 t).2.2.1]; omega
  | ⟨3, _⟩ => show win0_1.index t (3 : Fin 4) * 1024 + 1 * l.val = l.val; rw [(idx1 t).2.2.2]; omega

theorem read_at (G : FVec Ideal S8192x1024 .bf16) (t : Fin cfg0.N) (r : Fin 1024) (l : Fin 1024) (R : Fin 8192) (hR : R.val = 1024 * t.val + r.val) :
    (((cfg0.win 2).blk t).view.read (Elt Ideal) G : FVec Ideal S1024x1024 .bf16) (ix2 r l) = G (ix2 R l) := by
  rw [View.read_apply]
  refine congrArg G (funext fun a => Fin.ext ?_)
  match a with
  | ⟨0, _⟩ => show win0_2.index t (0 : Fin 2) * 1024 + 1 * r.val = R.val; rw [(idx2 t).1]; omega
  | ⟨1, _⟩ => show win0_2.index t (1 : Fin 2) * 1024 + 1 * l.val = l.val; rw [(idx2 t).2]; omega

/-- The point that computes a row. -/
def pointOf (R : Fin 8192) : Fin cfg0.N := ⟨R.val / 1024, lt_of_lt_of_eq (by omega) N_0.symm⟩

/-- The kernel's array. -/
theorem array_at (A : FVec Ideal S8192x2816 .bf16) (B : FVec Ideal S2816x1024 .f32) (hA : m ((c : Thread nD τ).loc main_arg0) = A)
    (hB : m ((c : Thread nD τ).loc main_arg1) = B) (R : Fin 8192) (l : Fin 1024) :
    ((dats m 0 c).arrAt 2 cfg0.N : FVec Ideal S8192x1024 .bf16) (ix2 R l) = ∑ p : Fin 2816, A (ix2 R p) * B (ix2 p l) := by
  have hR : R.val = 1024 * (pointOf R).val + R.val % 1024 := by show R.val = 1024 * (R.val / 1024) + R.val % 1024; omega
  have h := (Value.blocks2 m c (pointOf R) (flush0_2 _)).trans (Value.flushed2 m c (pointOf R))
  generalize (dats m 0 c).arrAt 2 cfg0.N = G at h ⊢
  refine (read_at G (pointOf R) ⟨R.val % 1024, by omega⟩ l R hR).symm.trans ((congrFun h (ix2 (⟨R.val % 1024, by omega⟩ : Fin 1024) l)).trans ?_)
  refine (out_at (iblk m c 0 (pointOf R)) (iblk m c 1 (pointOf R)) ⟨R.val % 1024, by omega⟩ l).trans ?_
  exact sum_blocks (a := 4) (b := 704) rfl (fun p : Fin 2816 => A (ix2 R p) * B (ix2 p l)) _ fun k p =>
    (congrArg₂ (fun a b : EReal => a * b) ((block0 m c (pointOf R) k _ p R hR).trans (prep0_at m c A hA k R p))
      ((block1 m c (pointOf R) k p l).trans (prep1_at m c B hB k p l))).trans
      (congrArg (fun q : Fin 2816 => A (ix2 R q) * B (ix2 q l)) (Fin.ext (by show k.val * 704 + p.val = 704 * k.val + p.val; omega)))

theorem algebraic : Cert.algebraic_Kernel11Ideal_Reference11Ideal := by
  intro m g m' g' _ hagree
  refine ⟨fun c => (dats m 0 c).arrAt 2 cfg0.N, Value.run_blocks m g, ?_⟩
  refine (θ_run Cert.Reference11Ideal.defs _ _).mono (fun _ h c => ?_) (Cert.Reference11Ideal.Value.run m' g')
  obtain ⟨h0, hk⟩ := h c
  refine ⟨h0.trans ?_, hk⟩
  rw [(hagree c).1, (hagree c).2]
  funext i
  obtain ⟨r, l, rfl⟩ : ∃ (r : Fin 8192) (l : Fin 1024), i = ix2 r l := ⟨_, _, eq_ix2 i⟩
  exact (Ref.array_at _ _ r l).trans (array_at m c _ _ rfl rfl r l).symm

end Products.FfnDown

end
-- ==== Proof.Products.ProjIn.lean ====
/-
  The input projection: each point leaves the product of its 2048 rows with 640 of the weight's 3200 columns, of which the
  last 96 are padding.
-/
module

public import proofs.«01_k».proof.Defs
public import proofs.«01_k».proof.Proof.Products.Sums
public import proofs.«01_k».proof.Proof.Gen.Kernel12Ideal.Value
public import proofs.«01_k».proof.Proof.Gen.Reference12Ideal.Run
public import Idealize.ShloMosaic.Lib.Pipeline.ValueKit
public import Idealize.ShloMosaic.Lib.VecWindow
public import Idealize.ShloMosaic.Lib.StableHlo.Run

@[expose] public section

set_option maxRecDepth 16384
set_option maxHeartbeats 1000000

noncomputable section

namespace Products.ProjIn.Ref

open Idealize.ShloMosaic Cert.Reference12Ideal Cert.Reference12Ideal.Gen

theorem zero (φ : FTy) : FloatOps.sitofp (F := Ideal) φ (0#32) = (0 : EReal) := by
  show (((0#32 : BitVec 32).toInt : ℝ) : EReal) = 0
  simp

/-- The reference's array: zero past column 3104. -/
theorem array_at (A : FVec Ideal S8192x1024 .bf16) (B : FVec Ideal S1024x3104 .f32) (r : Fin 8192) (l : Fin 3200) :
    (pad S8192x3200 ![0, 0] ![0, 96] ![0, 0] (truncf .bf16 (Host.dotGeneral dot_S8192x1024_S1024x3104_S8192x3104_1_0_0_1_n_n none (extf .f32 A bitsLt_bf16_f32) B) bitsLt_bf16_f32) (sitofp .bf16 (constantI S_ 32 0#32)) pads_S8192x3104_S8192x3200_000_0960 h_S_
      : FVec Ideal S8192x3200 .bf16) (ix2 r l)
      = if h : l.val < 3104 then ∑ p : Fin 1024, A (ix2 r p) * B (ix2 p (⟨l.val, h⟩ : Fin 3104)) else (0 : EReal) := by
  pointwise []
  split
  · rfl
  · exact zero _

end Products.ProjIn.Ref

namespace Products.ProjIn

open Idealize.ShloMosaic Idealize.ShloMosaic.TcCoe Idealize.SL.Sem Cert.Kernel12Ideal Cert.Kernel12Ideal.Gen

/-- What a point leaves in its block, at an index. -/
theorem out_at (x0 : Vec Ideal S2048x1024 .bf16) (x1 : Vec Ideal S1x640x1024 .bf16) (r : Fin 2048) (l : Fin 640) :
    out0_2 x0 x1 (ix2 r l) = ∑ p : Fin 1024, x0 (ix2 r p) * x1 (ix3 (0 : Fin 1) l p) := by
  have e : out0_2 x0 x1 = k0_pay1 x0 x1 :=
    (View.canon_cons_unit_lit _ _ _ (by decide)).trans (congrArg₂ k0_pay1 (View.ld_unit_lit _ _ (by decide)) (View.ld_unit_lit _ _ (by decide)))
  rw [e]
  pointwise [k0_pay1]

variable (m : (ℓ : Loc nD τ sig) → Buf (Elt Ideal) ℓ) (c : Dev nD)

theorem idx0 : ∀ t : Fin cfg0.N, win0_0.index t (0 : Fin 2) = t.val / 5 ∧ win0_0.index t (1 : Fin 2) = 0 := by decide +kernel
theorem idx1 : ∀ t : Fin cfg0.N, win0_1.index t (0 : Fin 3) = 0 ∧ win0_1.index t (1 : Fin 3) = t.val % 5 ∧ win0_1.index t (2 : Fin 3) = 0 := by decide +kernel
theorem idx2 : ∀ t : Fin cfg0.N, win0_2.index t (0 : Fin 2) = t.val / 5 ∧ win0_2.index t (1 : Fin 2) = t.val % 5 := by decide +kernel

theorem pad_at (B : FVec Ideal S1024x3104 .f32) (l : Fin 3200) (p : Fin 1024) :
    (broadcastInDim S1x3200x1024 ![1, 2] bcast_S3200x1024_S1x3200x1024_1_2 (pad S3200x1024 ![0, 0] ![96, 0] ![0, 0]
      (transpose S3104x1024 [1, 0] (truncf .bf16 B bitsLt_bf16_f32) transposes_S1024x3104_S3104x1024_1_0) (sitofp .bf16 (constantI S_ 32 0#32))
      pads_S3104x1024_S3200x1024_0960_000 h_S_) : FVec Ideal S1x3200x1024 .bf16) (ix3 (0 : Fin 1) l p)
      = if h : l.val < 3104 then B (ix2 p (⟨l.val, h⟩ : Fin 3104)) else (0 : EReal) := by
  pointwise []
  split
  · rfl
  · exact Ref.zero _

/-- The weight as the call reads it: transposed, zero past row 3104. -/
theorem prep_at (B : FVec Ideal S1024x3104 .f32) (hB : m ((c : Thread nD τ).loc main_arg1) = B) (l : Fin 3200) (p : Fin 1024) :
    (V m c main_v3 : FVec Ideal S1x3200x1024 .bf16) (ix3 (0 : Fin 1) l p) = if h : l.val < 3104 then B (ix2 p ⟨l.val, h⟩) else (0 : EReal) := by
  subst hB
  unfold V
  simp only [List.flatten_cons, List.flatten_nil, List.append_nil, List.cons_append, List.nil_append]
  after_results
  exact pad_at _ l p

theorem block0 (t : Fin cfg0.N) (r : Fin 2048) (p : Fin 1024) (R : Fin 8192) (hR : R.val = 2048 * (t.val / 5) + r.val) :
    (iblk m c 0 t : Vec Ideal S2048x1024 .bf16) (ix2 r p) = (m ((c : Thread nD τ).loc main_arg0) : FVec Ideal S8192x1024 .bf16) (ix2 R p) := by
  unfold iblk
  rw [View.read_apply]
  show V m c main_arg0 _ = _
  rw [V_main_arg0]
  refine congrArg (m ((c : Thread nD τ).loc main_arg0) : FVec Ideal S8192x1024 .bf16) (funext fun a => Fin.ext ?_)
  match a with
  | ⟨0, _⟩ => show win0_0.index t (0 : Fin 2) * 2048 + 1 * r.val = R.val; rw [(idx0 t).1]; omega
  | ⟨1, _⟩ => show win0_0.index t (1 : Fin 2) * 1024 + 1 * p.val = p.val; rw [(idx0 t).2]; omega

theorem block1 (t : Fin cfg0.N) (l : Fin 640) (p : Fin 1024) (l' : Fin 3200) (hl : l'.val = 640 * (t.val % 5) + l.val) :
    (iblk m c 1 t : Vec Ideal S1x640x1024 .bf16) (ix3 (0 : Fin 1) l p) = (V m c main_v3 : FVec Ideal S1x3200x1024 .bf16) (ix3 (0 : Fin 1) l' p) := by
  unfold iblk
  rw [View.read_apply]
  refine congrArg (V m c main_v3 : FVec Ideal S1x3200x1024 .bf16) (funext fun a => Fin.ext ?_)
  match a with
  | ⟨0, _⟩ => show win0_1.index t (0 : Fin 3) * 1 + 1 * 0 = 0; rw [(idx1 t).1]
  | ⟨1, _⟩ => show win0_1.index t (1 : Fin 3) * 640 + 1 * l.val = l'.val; rw [(idx1 t).2.1]; omega
  | ⟨2, _⟩ => show win0_1.index t (2 : Fin 3) * 1024 + 1 * p.val = p.val; rw [(idx1 t).2.2]; omega

theorem read_at (G : FVec Ideal S8192x3200 .bf16) (t : Fin cfg0.N) (r : Fin 2048) (l : Fin 640) (R : Fin 8192) (hR : R.val = 2048 * (t.val / 5) + r.val)
    (l' : Fin 3200) (hl : l'.val = 640 * (t.val % 5) + l.val) :
    (((cfg0.win 2).blk t).view.read (Elt Ideal) G : FVec Ideal S2048x640 .bf16) (ix2 r l) = G (ix2 R l') := by
  rw [View.read_apply]
  refine congrArg G (funext fun a => Fin.ext ?_)
  match a with
  | ⟨0, _⟩ => show win0_2.index t (0 : Fin 2) * 2048 + 1 * r.val = R.val; rw [(idx2 t).1]; omega
  | ⟨1, _⟩ => show win0_2.index t (1 : Fin 2) * 640 + 1 * l.val = l'.val; rw [(idx2 t).2]; omega

/-- The point that computes a position. -/
def pointOf (R : Fin 8192) (l : Fin 3200) : Fin cfg0.N := ⟨R.val / 2048 * 5 + l.val / 640, lt_of_lt_of_eq (by omega) N_0.symm⟩

/-- The kernel's array. -/
theorem array_at (A : FVec Ideal S8192x1024 .bf16) (B : FVec Ideal S1024x3104 .f32) (hA : m ((c : Thread nD τ).loc main_arg0) = A)
    (hB : m ((c : Thread nD τ).loc main_arg1) = B) (R : Fin 8192) (l : Fin 3200) :
    ((dats m 0 c).arrAt 2 cfg0.N : FVec Ideal S8192x3200 .bf16) (ix2 R l)
      = if h : l.val < 3104 then ∑ p : Fin 1024, A (ix2 R p) * B (ix2 p (⟨l.val, h⟩ : Fin 3104)) else (0 : EReal) := by
  have hR : R.val = 2048 * ((pointOf R l).val / 5) + R.val % 2048 := by
    show R.val = 2048 * ((R.val / 2048 * 5 + l.val / 640) / 5) + R.val % 2048; omega
  have hl : l.val = 640 * ((pointOf R l).val % 5) + l.val % 640 := by
    show l.val = 640 * ((R.val / 2048 * 5 + l.val / 640) % 5) + l.val % 640; omega
  have h := (Value.blocks2 m c (pointOf R l) (flush0_2 _)).trans (Value.flushed2 m c (pointOf R l))
  generalize (dats m 0 c).arrAt 2 cfg0.N = G at h ⊢
  refine (read_at G (pointOf R l) ⟨R.val % 2048, by omega⟩ ⟨l.val % 640, by omega⟩ R hR l hl).symm.trans
    ((congrFun h (ix2 (⟨R.val % 2048, by omega⟩ : Fin 2048) (⟨l.val % 640, by omega⟩ : Fin 640))).trans ?_)
  refine (out_at (iblk m c 0 (pointOf R l)) (iblk m c 1 (pointOf R l)) ⟨R.val % 2048, by omega⟩ ⟨l.val % 640, by omega⟩).trans ?_
  subst hA
  refine (Finset.sum_congr rfl fun p _ => congrArg₂ (fun a b : EReal => a * b) (block0 m c (pointOf R l) _ p R hR)
    ((block1 m c (pointOf R l) _ p l hl).trans (prep_at m c B hB l p))).trans ?_
  split
  · rfl
  · simp only [mul_zero, Finset.sum_const_zero]

theorem algebraic : Cert.algebraic_Kernel12Ideal_Reference12Ideal := by
  intro m g m' g' _ hagree
  refine ⟨fun c => (dats m 0 c).arrAt 2 cfg0.N, Value.run_blocks m g, ?_⟩
  refine (θ_run Cert.Reference12Ideal.defs _ _).mono (fun _ h c => ?_) (Cert.Reference12Ideal.Value.run m' g')
  obtain ⟨h0, hk⟩ := h c
  refine ⟨h0.trans ?_, hk⟩
  rw [(hagree c).1, (hagree c).2]
  funext i
  obtain ⟨r, l, rfl⟩ : ∃ (r : Fin 8192) (l : Fin 3200), i = ix2 r l := ⟨_, _, eq_ix2 i⟩
  exact (Ref.array_at _ _ r l).trans (array_at m c _ _ rfl rfl r l).symm

end Products.ProjIn

end
-- ==== Proof.Products.Out.lean ====
/-
  The output projection: each point leaves the product of its 2048 rows with the whole weight.
-/
module

public import proofs.«01_k».proof.Defs
public import proofs.«01_k».proof.Proof.Products.Sums
public import proofs.«01_k».proof.Proof.Gen.Kernel13Ideal.Value
public import proofs.«01_k».proof.Proof.Gen.Reference13Ideal.Run
public import Idealize.ShloMosaic.Lib.Pipeline.ValueKit
public import Idealize.ShloMosaic.Lib.VecWindow
public import Idealize.ShloMosaic.Lib.StableHlo.Run

@[expose] public section

set_option maxRecDepth 16384
set_option maxHeartbeats 1000000

noncomputable section

namespace Products.Out.Ref

open Idealize.ShloMosaic Cert.Reference13Ideal Cert.Reference13Ideal.Gen

/-- The reference's array. -/
theorem array_at (A : FVec Ideal S8192x1024 .bf16) (B : FVec Ideal S1024x1024 .f32) (r : Fin 8192) (l : Fin 1024) :
    (truncf .bf16 (Host.dotGeneral dot_S8192x1024_S1024x1024_S8192x1024_1_0_0_1_n_n none (extf .f32 A bitsLt_bf16_f32) B) bitsLt_bf16_f32
      : FVec Ideal S8192x1024 .bf16) (ix2 r l) = ∑ p : Fin 1024, A (ix2 r p) * B (ix2 p l) := by
  pointwise []

end Products.Out.Ref

namespace Products.Out

open Idealize.ShloMosaic Idealize.ShloMosaic.TcCoe Idealize.SL.Sem Cert.Kernel13Ideal Cert.Kernel13Ideal.Gen

/-- What a point leaves in its block, at an index. -/
theorem out_at (x0 : Vec Ideal S2048x1024 .bf16) (x1 : Vec Ideal S1x1024x1024 .bf16) (r : Fin 2048) (l : Fin 1024) :
    out0_2 x0 x1 (ix2 r l) = ∑ p : Fin 1024, x0 (ix2 r p) * x1 (ix3 (0 : Fin 1) p l) := by
  have e : out0_2 x0 x1 = k0_pay1 x0 x1 :=
    (View.canon_cons_unit_lit _ _ _ (by decide)).trans (congrArg₂ k0_pay1 (View.ld_unit_lit _ _ (by decide)) (View.ld_unit_lit _ _ (by decide)))
  rw [e]
  pointwise [k0_pay1]

variable (m : (ℓ : Loc nD τ sig) → Buf (Elt Ideal) ℓ) (c : Dev nD)

theorem idx0 : ∀ t : Fin cfg0.N, win0_0.index t (0 : Fin 2) = t.val ∧ win0_0.index t (1 : Fin 2) = 0 := by decide +kernel
theorem idx1 : ∀ t : Fin cfg0.N, win0_1.index t (0 : Fin 3) = 0 ∧ win0_1.index t (1 : Fin 3) = 0 ∧ win0_1.index t (2 : Fin 3) = 0 := by decide +kernel
theorem idx2 : ∀ t : Fin cfg0.N, win0_2.index t (0 : Fin 2) = t.val ∧ win0_2.index t (1 : Fin 2) = 0 := by decide +kernel

/-- The weight as the call reads it. -/
theorem prep_at (B : FVec Ideal S1024x1024 .f32) (hB : m ((c : Thread nD τ).loc main_arg1) = B) (p l : Fin 1024) :
    (V m c main_v1 : FVec Ideal S1x1024x1024 .bf16) (ix3 (0 : Fin 1) p l) = B (ix2 p l) := by
  subst hB
  unfold V
  after_results
  pointwise []

theorem block0 (t : Fin cfg0.N) (r : Fin 2048) (p : Fin 1024) (R : Fin 8192) (hR : R.val = 2048 * t.val + r.val) :
    (iblk m c 0 t : Vec Ideal S2048x1024 .bf16) (ix2 r p) = (m ((c : Thread nD τ).loc main_arg0) : FVec Ideal S8192x1024 .bf16) (ix2 R p) := by
  unfold iblk
  rw [View.read_apply]
  show V m c main_arg0 _ = _
  rw [V_main_arg0]
  refine congrArg (m ((c : Thread nD τ).loc main_arg0) : FVec Ideal S8192x1024 .bf16) (funext fun a => Fin.ext ?_)
  match a with
  | ⟨0, _⟩ => show win0_0.index t (0 : Fin 2) * 2048 + 1 * r.val = R.val; rw [(idx0 t).1]; omega
  | ⟨1, _⟩ => show win0_0.index t (1 : Fin 2) * 1024 + 1 * p.val = p.val; rw [(idx0 t).2]; omega

theorem block1 (t : Fin cfg0.N) (p l : Fin 1024) :
    (iblk m c 1 t : Vec Ideal S1x1024x1024 .bf16) (ix3 (0 : Fin 1) p l) = (V m c main_v1 : FVec Ideal S1x1024x1024 .bf16) (ix3 (0 : Fin 1) p l) := by
  unfold iblk
  rw [View.read_apply]
  refine congrArg (V m c main_v1 : FVec Ideal S1x1024x1024 .bf16) (funext fun a => Fin.ext ?_)
  match a with
  | ⟨0, _⟩ => show win0_1.index t (0 : Fin 3) * 1 + 1 * 0 = 0; rw [(idx1 t).1]
  | ⟨1, _⟩ => show win0_1.index t (1 : Fin 3) * 1024 + 1 * p.val = p.val; rw [(idx1 t).2.1]; omega
  | ⟨2, _⟩ => show win0_1.index t (2 : Fin 3) * 1024 + 1 * l.val = l.val; rw [(idx1 t).2.2]; omega

theorem read_at (G : FVec Ideal S8192x1024 .bf16) (t : Fin cfg0.N) (r : Fin 2048) (l : Fin 1024) (R : Fin 8192) (hR : R.val = 2048 * t.val + r.val) :
    (((cfg0.win 2).blk t).view.read (Elt Ideal) G : FVec Ideal S2048x1024 .bf16) (ix2 r l) = G (ix2 R l) := by
  rw [View.read_apply]
  refine congrArg G (funext fun a => Fin.ext ?_)
  match a with
  | ⟨0, _⟩ => show win0_2.index t (0 : Fin 2) * 2048 + 1 * r.val = R.val; rw [(idx2 t).1]; omega
  | ⟨1, _⟩ => show win0_2.index t (1 : Fin 2) * 1024 + 1 * l.val = l.val; rw [(idx2 t).2]; omega

/-- The point that computes a row. -/
def pointOf (R : Fin 8192) : Fin cfg0.N := ⟨R.val / 2048, lt_of_lt_of_eq (by omega) N_0.symm⟩

/-- The kernel's array. -/
theorem array_at (A : FVec Ideal S8192x1024 .bf16) (B : FVec Ideal S1024x1024 .f32) (hA : m ((c : Thread nD τ).loc main_arg0) = A)
    (hB : m ((c : Thread nD τ).loc main_arg1) = B) (R : Fin 8192) (l : Fin 1024) :
    ((dats m 0 c).arrAt 2 cfg0.N : FVec Ideal S8192x1024 .bf16) (ix2 R l) = ∑ p : Fin 1024, A (ix2 R p) * B (ix2 p l) := by
  have hR : R.val = 2048 * (pointOf R).val + R.val % 2048 := by show R.val = 2048 * (R.val / 2048) + R.val % 2048; omega
  have h := (Value.blocks2 m c (pointOf R) (flush0_2 _)).trans (Value.flushed2 m c (pointOf R))
  generalize (dats m 0 c).arrAt 2 cfg0.N = G at h ⊢
  refine (read_at G (pointOf R) ⟨R.val % 2048, by omega⟩ l R hR).symm.trans ((congrFun h (ix2 (⟨R.val % 2048, by omega⟩ : Fin 2048) l)).trans ?_)
  refine (out_at (iblk m c 0 (pointOf R)) (iblk m c 1 (pointOf R)) ⟨R.val % 2048, by omega⟩ l).trans ?_
  subst hA
  exact Finset.sum_congr rfl fun p _ => congrArg₂ (fun a b : EReal => a * b) (block0 m c (pointOf R) _ p R hR)
    ((block1 m c (pointOf R) p l).trans (prep_at m c B hB p l))

theorem algebraic : Cert.algebraic_Kernel13Ideal_Reference13Ideal := by
  intro m g m' g' _ hagree
  refine ⟨fun c => (dats m 0 c).arrAt 2 cfg0.N, Value.run_blocks m g, ?_⟩
  refine (θ_run Cert.Reference13Ideal.defs _ _).mono (fun _ h c => ?_) (Cert.Reference13Ideal.Value.run m' g')
  obtain ⟨h0, hk⟩ := h c
  refine ⟨h0.trans ?_, hk⟩
  rw [(hagree c).1, (hagree c).2]
  funext i
  obtain ⟨r, l, rfl⟩ : ∃ (r : Fin 8192) (l : Fin 1024), i = ix2 r l := ⟨_, _, eq_ix2 i⟩
  exact (Ref.array_at _ _ r l).trans (array_at m c _ _ rfl rfl r l).symm

end Products.Out

end
-- ==== Proof.Products.Act.lean ====
/-
  The gradient of the gated unit: each point leaves 1024 rows of 704 columns of both halves.
-/
module

public import proofs.«01_k».proof.Defs
public import proofs.«01_k».proof.Proof.Gla.Finite
public import proofs.«01_k».proof.Pre_finite_pair
public import proofs.«01_k».proof.Proof.Gen.Pre_finite_pair
public import proofs.«01_k».proof.Proof.Gen.Kernel14Ideal.Value
public import proofs.«01_k».proof.Proof.Gen.Reference14Ideal.Run
public import Idealize.ShloMosaic.Lib.Pipeline.ValueKit
public import Idealize.ShloMosaic.Lib.VecWindow
public import Idealize.ShloMosaic.Lib.StableHlo.Run

@[expose] public section

set_option maxRecDepth 16384
set_option maxHeartbeats 1000000

noncomputable section

namespace Products.Act

open Idealize.ShloMosaic

/-- The gradients with respect to the gate and to the value, at an entry. -/
def dgate (x v b : EReal) : EReal :=
  b * v * (Ideal.div 1 (1 + Ideal.exp (-x)) + x * Ideal.div 1 (1 + Ideal.exp (-x)) * (1 - Ideal.div 1 (1 + Ideal.exp (-x))))
def dvalue (x b : EReal) : EReal := b * (x * Ideal.div 1 (1 + Ideal.exp (-x)))

/-- The first as the chain rule gives it. -/
def dgateRule (x v b : EReal) : EReal :=
  b * v * Ideal.div 1 (1 + Ideal.exp (-x)) + x * (b * v) * (Ideal.div 1 (1 + Ideal.exp (-x)) * (1 - Ideal.div 1 (1 + Ideal.exp (-x))))
def dvalueRule (x b : EReal) : EReal := x * Ideal.div 1 (1 + Ideal.exp (-x)) * b

theorem dvalue_eq (x b : EReal) : dvalueRule x b = dvalue x b := mul_comm _ _

theorem dgate_eq {x v b : EReal} (hx : x = (x.toReal : EReal)) (hv : v = (v.toReal : EReal)) (hb : b = (b.toReal : EReal)) :
    dgateRule x v b = dgate x v b := by
  unfold dgateRule dgate
  have e : Ideal.div 1 (1 + Ideal.exp (-x)) = ((1 / (1 + Real.exp (-x.toReal)) : ℝ) : EReal) := by
    rw [hx, ← EReal.coe_neg, Gla.exp_coe, show (1 : EReal) = ((1 : ℝ) : EReal) from rfl, ← EReal.coe_add, EReal.toReal_coe]
    exact Gla.div_coe 1 (by have := Real.exp_pos (-x.toReal); linarith)
  rw [e]
  generalize (1 / (1 + Real.exp (-x.toReal)) : ℝ) = s
  rw [hx, hv, hb, show (1 : EReal) = ((1 : ℝ) : EReal) from rfl]
  simp only [← EReal.coe_mul, ← EReal.coe_add, ← EReal.coe_sub]
  exact congrArg _ (by ring)

/-- A position's column: of the gates, of the values, and of the unit's gradient. -/
def gate (h : Fin 4) (l : Fin 704) : Fin 5632 := ⟨h.val * 704 + l.val, by omega⟩
def value (h : Fin 4) (l : Fin 704) : Fin 5632 := ⟨2816 + h.val * 704 + l.val, by omega⟩
def col (h : Fin 4) (l : Fin 704) : Fin 2816 := ⟨h.val * 704 + l.val, by omega⟩

end Products.Act

namespace Products.Act.Ref

open Idealize.ShloMosaic Cert.Reference14Ideal Cert.Reference14Ideal.Gen

/-- The reference's array. -/
def arr (A : FVec Ideal S8192x5632 .bf16) (B : FVec Ideal S8192x2816 .bf16) : FVec Ideal S2x4x8192x704 .bf16 :=
  let x : FVec Ideal S8192x2816 .f32 := extractStridedSlice S8192x2816 ![0, 0] (extf .f32 A bitsLt_bf16_f32) slices_S8192x5632_S8192x2816_0_0
  let v : FVec Ideal S8192x2816 .f32 := extractStridedSlice S8192x2816 ![0, 2816] (extf .f32 A bitsLt_bf16_f32) slices_S8192x5632_S8192x2816_0_2816
  let d : FVec Ideal S8192x2816 .f32 := extf .f32 B bitsLt_bf16_f32
  let one : FVec Ideal S8192x2816 .f32 := broadcastInDim S8192x2816 ![] bcast_S_S8192x2816 (constant S_ .f32 0x3F800000#32)
  let s : FVec Ideal S8192x2816 .f32 := Host.divf one (addf one (Host.exp (Host.negf x)))
  transpose S2x4x8192x704 [1, 2, 0, 3] (shapeCast _ (truncf .bf16 (concatenate S8192x5632 1 [⟨S8192x2816, (addf (mulf (mulf d v) s) (mulf (mulf x (mulf d v)) (mulf s (subf one s))))⟩, ⟨S8192x2816, (mulf (mulf x s) d)⟩] concatenates_S8192x2816_S8192x2816_S8192x5632_d1) bitsLt_bf16_f32) shapeCasts_S8192x5632_S8192x2x4x704) transposes_S8192x2x4x704_S2x4x8192x704_1_2_0_3

theorem gate_at (A : FVec Ideal S8192x5632 .bf16) (B : FVec Ideal S8192x2816 .bf16) (hA : ∀ i, A i = ((A i).toReal : EReal)) (hB : ∀ i, B i = ((B i).toReal : EReal))
    (k : Fin 2) (hk : k.val = 0) (h : Fin 4) (r : Fin 8192) (l : Fin 704) :
    arr A B (ix4 k h r l) = dgate (A (ix2 r (gate h l))) (A (ix2 r (value h l))) (B (ix2 r (col h l))) := by
  refine Eq.trans ?_ (dgate_eq (hA _) (hA _) (hB _))
  unfold arr
  dsimp only
  pointwise []
  rw [dif_pos (by omega)]
  have e0 : (⟨k.val * 2816 + h.val * 704 + l.val, by omega⟩ : Fin 5632) = gate h l := Fin.ext (by show _ = h.val * 704 + l.val; dsimp only; omega)
  have e1 : (⟨2816 + (k.val * 2816 + h.val * 704 + l.val), by omega⟩ : Fin 5632) = value h l := Fin.ext (by show _ = 2816 + h.val * 704 + l.val; dsimp only; omega)
  have e2 : (⟨k.val * 2816 + h.val * 704 + l.val, by omega⟩ : Fin 2816) = col h l := Fin.ext (by show _ = h.val * 704 + l.val; dsimp only; omega)
  have e := congr (congrArg₂ dgateRule (congrArg (fun j => A (ix2 r j)) e0) (congrArg (fun j => A (ix2 r j)) e1)) (congrArg (fun j => B (ix2 r j)) e2)
  exact e

theorem value_at (A : FVec Ideal S8192x5632 .bf16) (B : FVec Ideal S8192x2816 .bf16) (k : Fin 2) (hk : k.val = 1) (h : Fin 4) (r : Fin 8192) (l : Fin 704) :
    arr A B (ix4 k h r l) = dvalue (A (ix2 r (gate h l))) (B (ix2 r (col h l))) := by
  refine Eq.trans ?_ (dvalue_eq _ _)
  unfold arr
  dsimp only
  pointwise []
  rw [dif_neg (by omega)]
  have e0 : (⟨k.val * 2816 + h.val * 704 + l.val - 2816, by omega⟩ : Fin 5632) = gate h l := Fin.ext (by show _ = h.val * 704 + l.val; dsimp only; omega)
  have e2 : (⟨k.val * 2816 + h.val * 704 + l.val - 2816, by omega⟩ : Fin 2816) = col h l := Fin.ext (by show _ = h.val * 704 + l.val; dsimp only; omega)
  exact congrArg₂ dvalueRule (congrArg (fun j => A (ix2 r j)) e0) (congrArg (fun j => B (ix2 r j)) e2)

end Products.Act.Ref

namespace Products.Act

open Idealize.ShloMosaic Idealize.ShloMosaic.TcCoe Idealize.SL.Sem Cert.Kernel14Ideal Cert.Kernel14Ideal.Gen

theorem pay5_at (x0 : Vec Ideal S1x1x1024x704 .bf16) (x1 : Vec Ideal S1x1024x704 .bf16) (x2 : Vec Ideal S1x1x1024x704 .bf16) (r : Fin 1024) (l : Fin 704) :
    k0_pay5 x0 x1 x2 (ix4 (0 : Fin 1) (0 : Fin 1) r l)
      = dgate (x0 (ix4 (0 : Fin 1) (0 : Fin 1) r l)) (x2 (ix4 (0 : Fin 1) (0 : Fin 1) r l)) (x1 (ix3 (0 : Fin 1) r l)) := by
  unfold dgate
  simp only [← zero_sub (x0 _)]
  pointwise [k0_pay5, k0_pay4, k0_pay3, k0_pay2, k0_pay1]

theorem pay6_at (x0 : Vec Ideal S1x1x1024x704 .bf16) (x1 : Vec Ideal S1x1024x704 .bf16) (r : Fin 1024) (l : Fin 704) :
    k0_pay6 x0 x1 (ix4 (0 : Fin 1) (0 : Fin 1) r l) = dvalue (x0 (ix4 (0 : Fin 1) (0 : Fin 1) r l)) (x1 (ix3 (0 : Fin 1) r l)) := by
  unfold dvalue
  simp only [← zero_sub (x0 _)]
  pointwise [k0_pay6, k0_pay4, k0_pay3, k0_pay2, k0_pay1]

/-- A half of a block, at an index. -/
theorem half (k : Fin 2) (off : Fin 4 → Nat) (h0 : off 0 = k.val) (hs : ∀ a : Fin 3, off a.succ = 0) (inb) (r : Fin 1024) (l : Fin 704) :
    (Rect.unit (s := S2x1x1024x704) off S1x1x1024x704.size inb).emb (ix4 (0 : Fin 1) (0 : Fin 1) r l) = ix4 k (0 : Fin 1) r l := by
  funext a
  refine Fin.ext ?_
  match a with
  | ⟨0, _⟩ => show off 0 + 1 * 0 = k.val; omega
  | ⟨1, _⟩ => show off 1 + 1 * 0 = 0; have : off 1 = 0 := hs 0; omega
  | ⟨2, _⟩ => show off 2 + 1 * r.val = r.val; have : off 2 = 0 := hs 1; omega
  | ⟨3, _⟩ => show off 3 + 1 * l.val = l.val; have : off 3 = 0 := hs 2; omega

theorem half0 (r : Fin 1024) (l : Fin 704) : r0_0.emb (ix4 (0 : Fin 1) (0 : Fin 1) r l) = ix4 (0 : Fin 2) (0 : Fin 1) r l := half 0 _ rfl (by decide) _ r l
theorem half1 (r : Fin 1024) (l : Fin 704) : r0_2.emb (ix4 (0 : Fin 1) (0 : Fin 1) r l) = ix4 (1 : Fin 2) (0 : Fin 1) r l := half 1 _ rfl (by decide) _ r l

/-- What a point leaves in its block, at an index of each half. -/
theorem out0_at (x0 : Vec Ideal S2x1x1024x704 .bf16) (x1 : Vec Ideal S1x1024x704 .bf16) (r : Fin 1024) (l : Fin 704) :
    out0_2 x0 x1 (ix4 (0 : Fin 2) (0 : Fin 1) r l)
      = dgate (x0 (ix4 (0 : Fin 2) (0 : Fin 1) r l)) (x0 (ix4 (1 : Fin 2) (0 : Fin 1) r l)) (x1 (ix3 (0 : Fin 1) r l)) := by
  unfold out0_2
  rw [View.canon_cons_of_not_mem, ← half0, View.canon_cons_emb]
  · refine (pay5_at _ _ _ r l).trans ?_
    rw [View.ld_unit_lit _ _ (by decide), ← half1]
    rfl
  · rw [Rect.mem_set_unit]
    exact fun hm => absurd (show 1 ≤ 0 from (hm (0 : Fin 4)).1) (by decide)

theorem out1_at (x0 : Vec Ideal S2x1x1024x704 .bf16) (x1 : Vec Ideal S1x1024x704 .bf16) (r : Fin 1024) (l : Fin 704) :
    out0_2 x0 x1 (ix4 (1 : Fin 2) (0 : Fin 1) r l) = dvalue (x0 (ix4 (0 : Fin 2) (0 : Fin 1) r l)) (x1 (ix3 (0 : Fin 1) r l)) := by
  unfold out0_2
  rw [← half1, View.canon_cons_emb]
  refine (pay6_at _ _ r l).trans ?_
  rw [View.ld_unit_lit _ _ (by decide), ← half0]
  rfl

variable (m : (ℓ : Loc nD τ sig) → Buf (Elt Ideal) ℓ) (c : Dev nD)

theorem idx (t : Fin cfg0.N) : (win0_0.index t (0 : Fin 4) = 0 ∧ win0_0.index t (1 : Fin 4) = t.val / 8 ∧ win0_0.index t (2 : Fin 4) = t.val % 8 ∧ win0_0.index t (3 : Fin 4) = 0)
    ∧ (win0_1.index t (0 : Fin 3) = t.val / 8 ∧ win0_1.index t (1 : Fin 3) = t.val % 8 ∧ win0_1.index t (2 : Fin 3) = 0)
    ∧ (win0_2.index t (0 : Fin 4) = 0 ∧ win0_2.index t (1 : Fin 4) = t.val / 8 ∧ win0_2.index t (2 : Fin 4) = t.val % 8 ∧ win0_2.index t (3 : Fin 4) = 0) := by
  revert t
  decide +kernel

/-- The operands as the call reads them. -/
theorem prep0_at (h : Fin 4) (R : Fin 8192) (l : Fin 704) :
    (V m c main_v1 : FVec Ideal S2x4x8192x704 .bf16) (ix4 (0 : Fin 2) h R l) = (m ((c : Thread nD τ).loc main_arg0) : FVec Ideal S8192x5632 .bf16) (ix2 R (gate h l)) := by
  unfold V
  after_results
  pointwise []
  rfl

theorem prep1_at (h : Fin 4) (R : Fin 8192) (l : Fin 704) :
    (V m c main_v1 : FVec Ideal S2x4x8192x704 .bf16) (ix4 (1 : Fin 2) h R l) = (m ((c : Thread nD τ).loc main_arg0) : FVec Ideal S8192x5632 .bf16) (ix2 R (value h l)) := by
  unfold V
  after_results
  pointwise []
  rfl

theorem prep2_at (h : Fin 4) (R : Fin 8192) (l : Fin 704) :
    (V m c main_v3 : FVec Ideal S4x8192x704 .bf16) (ix3 h R l) = (m ((c : Thread nD τ).loc main_arg1) : FVec Ideal S8192x2816 .bf16) (ix2 R (col h l)) := by
  unfold V
  after_results
  pointwise []
  rfl

theorem block0 (t : Fin cfg0.N) (k : Fin 2) (r : Fin 1024) (l : Fin 704) (h : Fin 4) (hh : h.val = t.val / 8) (R : Fin 8192) (hR : R.val = 1024 * (t.val % 8) + r.val) :
    (iblk m c 0 t : Vec Ideal S2x1x1024x704 .bf16) (ix4 k (0 : Fin 1) r l) = (V m c main_v1 : FVec Ideal S2x4x8192x704 .bf16) (ix4 k h R l) := by
  unfold iblk
  rw [View.read_apply]
  refine congrArg (V m c main_v1 : FVec Ideal S2x4x8192x704 .bf16) (funext fun a => Fin.ext ?_)
  match a with
  | ⟨0, _⟩ => show win0_0.index t (0 : Fin 4) * 2 + 1 * k.val = k.val; rw [(idx t).1.1]; omega
  | ⟨1, _⟩ => show win0_0.index t (1 : Fin 4) * 1 + 1 * 0 = h.val; rw [(idx t).1.2.1]; omega
  | ⟨2, _⟩ => show win0_0.index t (2 : Fin 4) * 1024 + 1 * r.val = R.val; rw [(idx t).1.2.2.1]; omega
  | ⟨3, _⟩ => show win0_0.index t (3 : Fin 4) * 704 + 1 * l.val = l.val; rw [(idx t).1.2.2.2]; omega

theorem block1 (t : Fin cfg0.N) (r : Fin 1024) (l : Fin 704) (h : Fin 4) (hh : h.val = t.val / 8) (R : Fin 8192) (hR : R.val = 1024 * (t.val % 8) + r.val) :
    (iblk m c 1 t : Vec Ideal S1x1024x704 .bf16) (ix3 (0 : Fin 1) r l) = (V m c main_v3 : FVec Ideal S4x8192x704 .bf16) (ix3 h R l) := by
  unfold iblk
  rw [View.read_apply]
  refine congrArg (V m c main_v3 : FVec Ideal S4x8192x704 .bf16) (funext fun a => Fin.ext ?_)
  match a with
  | ⟨0, _⟩ => show win0_1.index t (0 : Fin 3) * 1 + 1 * 0 = h.val; rw [(idx t).2.1.1]; omega
  | ⟨1, _⟩ => show win0_1.index t (1 : Fin 3) * 1024 + 1 * r.val = R.val; rw [(idx t).2.1.2.1]; omega
  | ⟨2, _⟩ => show win0_1.index t (2 : Fin 3) * 704 + 1 * l.val = l.val; rw [(idx t).2.1.2.2]; omega

theorem read_at (G : FVec Ideal S2x4x8192x704 .bf16) (t : Fin cfg0.N) (k : Fin 2) (r : Fin 1024) (l : Fin 704) (h : Fin 4) (hh : h.val = t.val / 8) (R : Fin 8192)
    (hR : R.val = 1024 * (t.val % 8) + r.val) :
    (((cfg0.win 2).blk t).view.read (Elt Ideal) G : FVec Ideal S2x1x1024x704 .bf16) (ix4 k (0 : Fin 1) r l) = G (ix4 k h R l) := by
  rw [View.read_apply]
  refine congrArg G (funext fun a => Fin.ext ?_)
  match a with
  | ⟨0, _⟩ => show win0_2.index t (0 : Fin 4) * 2 + 1 * k.val = k.val; rw [(idx t).2.2.1]; omega
  | ⟨1, _⟩ => show win0_2.index t (1 : Fin 4) * 1 + 1 * 0 = h.val; rw [(idx t).2.2.2.1]; omega
  | ⟨2, _⟩ => show win0_2.index t (2 : Fin 4) * 1024 + 1 * r.val = R.val; rw [(idx t).2.2.2.2.1]; omega
  | ⟨3, _⟩ => show win0_2.index t (3 : Fin 4) * 704 + 1 * l.val = l.val; rw [(idx t).2.2.2.2.2]; omega

/-- The point that computes a position. -/
def pointOf (h : Fin 4) (R : Fin 8192) : Fin cfg0.N := ⟨h.val * 8 + R.val / 1024, lt_of_lt_of_eq (by omega) N_0.symm⟩

theorem block_of (h : Fin 4) (R : Fin 8192) : h.val = (pointOf h R).val / 8 := by show h.val = (h.val * 8 + R.val / 1024) / 8; omega

theorem row_of (h : Fin 4) (R : Fin 8192) : R.val = 1024 * ((pointOf h R).val % 8) + R.val % 1024 := by
  show R.val = 1024 * ((h.val * 8 + R.val / 1024) % 8) + R.val % 1024; omega

/-- The kernel's array is what the points leave. -/
theorem left_at (k : Fin 2) (h : Fin 4) (R : Fin 8192) (l : Fin 704) : ((dats m 0 c).arrAt 2 cfg0.N : FVec Ideal S2x4x8192x704 .bf16) (ix4 k h R l)
    = out0_2 (iblk m c 0 (pointOf h R)) (iblk m c 1 (pointOf h R)) (ix4 k (0 : Fin 1) (⟨R.val % 1024, by omega⟩ : Fin 1024) l) := by
  have e := (Value.blocks2 m c (pointOf h R) (flush0_2 _)).trans (Value.flushed2 m c (pointOf h R))
  generalize (dats m 0 c).arrAt 2 cfg0.N = G at e ⊢
  exact (read_at G (pointOf h R) k ⟨R.val % 1024, by omega⟩ l h (block_of h R) R (row_of h R)).symm.trans
    (congrFun e (ix4 k (0 : Fin 1) (⟨R.val % 1024, by omega⟩ : Fin 1024) l))

variable {A : FVec Ideal S8192x5632 .bf16} {B : FVec Ideal S8192x2816 .bf16}

theorem gate_at (hA : m ((c : Thread nD τ).loc main_arg0) = A) (hB : m ((c : Thread nD τ).loc main_arg1) = B) (h : Fin 4) (R : Fin 8192) (l : Fin 704) :
    ((dats m 0 c).arrAt 2 cfg0.N : FVec Ideal S2x4x8192x704 .bf16) (ix4 (0 : Fin 2) h R l)
      = dgate (A (ix2 R (gate h l))) (A (ix2 R (value h l))) (B (ix2 R (col h l))) := by
  subst hA hB
  refine (left_at m c 0 h R l).trans ((out0_at (iblk m c 0 (pointOf h R)) (iblk m c 1 (pointOf h R)) _ l).trans ?_)
  rw [block0 m c _ 0 _ l h (block_of h R) R (row_of h R), block0 m c _ 1 _ l h (block_of h R) R (row_of h R), block1 m c _ _ l h (block_of h R) R (row_of h R),
    prep0_at, prep1_at, prep2_at]

theorem value_at (hA : m ((c : Thread nD τ).loc main_arg0) = A) (hB : m ((c : Thread nD τ).loc main_arg1) = B) (h : Fin 4) (R : Fin 8192) (l : Fin 704) :
    ((dats m 0 c).arrAt 2 cfg0.N : FVec Ideal S2x4x8192x704 .bf16) (ix4 (1 : Fin 2) h R l) = dvalue (A (ix2 R (gate h l))) (B (ix2 R (col h l))) := by
  subst hA hB
  refine (left_at m c 1 h R l).trans ((out1_at (iblk m c 0 (pointOf h R)) (iblk m c 1 (pointOf h R)) _ l).trans ?_)
  rw [block0 m c _ 0 _ l h (block_of h R) R (row_of h R), block1 m c _ _ l h (block_of h R) R (row_of h R), prep0_at, prep2_at]

theorem fin0 (h : (Cert.Pre_finite_pair.fn (F := Ideal) A B).1 = fun _ => 1#1) (i) : A i = ((EReal.toReal (A i) : ℝ) : EReal) := by
  unfold Cert.Pre_finite_pair.fn at h
  dsimp only at h
  exact Gla.Prep.coe_of_all A _ (fun _ => Gla.Prep.top16) _ Cert.Pre_finite_pair.Facts.reducesTo_S8192x5632_S_d0_1 _ h i

theorem fin1 (h : (Cert.Pre_finite_pair.fn (F := Ideal) A B).2 = fun _ => 1#1) (i) : B i = ((EReal.toReal (B i) : ℝ) : EReal) := by
  unfold Cert.Pre_finite_pair.fn at h
  dsimp only at h
  exact Gla.Prep.coe_of_all B _ (fun _ => Gla.Prep.top16) _ Cert.Pre_finite_pair.Facts.reducesTo_S8192x2816_S_d0_1 _ h i

theorem algebraic : Cert.algebraic_Kernel14Ideal_Reference14Ideal_pre_finite_pair := by
  intro m g m' g' hpre hagree
  refine ⟨fun c => (dats m 0 c).arrAt 2 cfg0.N, Value.run_blocks m g, ?_⟩
  refine (θ_run Cert.Reference14Ideal.defs _ _).mono (fun _ h c => ?_) (Cert.Reference14Ideal.Value.run m' g')
  obtain ⟨h0, hk⟩ := h c
  refine ⟨h0.trans ?_, hk⟩
  rw [(hagree c).1, (hagree c).2]
  refine Eq.trans (b := Ref.arr _ _) rfl ?_
  funext i
  obtain ⟨k, h, r, l, rfl⟩ : ∃ (k : Fin 2) (h : Fin 4) (r : Fin 8192) (l : Fin 704), i = ix4 k h r l := ⟨_, _, _, _, eq_ix4 i⟩
  match k with
  | 0 => exact (Ref.gate_at _ _ (fin0 (hpre c).1) (fin1 (hpre c).2) 0 rfl h r l).trans (gate_at m c rfl rfl h r l).symm
  | 1 => exact (Ref.value_at _ _ 1 rfl h r l).trans (value_at m c rfl rfl h r l).symm

end Products.Act

end
-- ==== Proof.Products.Norm.lean ====
/-
  The norm of the rows: each point leaves 512 of the rows, scaled to unit mean square and by the gain.
-/
module

public import proofs.«01_k».proof.Defs
public import proofs.«01_k».proof.Proof.Gen.Kernel15Ideal.Value
public import proofs.«01_k».proof.Proof.Gen.Reference15Ideal.Run
public import Idealize.ShloMosaic.Lib.Pipeline.ValueKit
public import Idealize.ShloMosaic.Lib.VecWindow
public import Idealize.ShloMosaic.Lib.StableHlo.Run

@[expose] public section

set_option maxRecDepth 16384
set_option maxHeartbeats 1000000

noncomputable section

namespace Products.Norm

open Idealize.ShloMosaic

/-- A row at a position, scaled to unit mean square and by the gain. -/
def row (f : Fin 1024 → EReal) (g : EReal) (l : Fin 1024) : EReal :=
  f l * Ideal.rsqrt (Ideal.div (∑ x, f x * f x) (Ideal.ofBits .f32 0x44800000#32) + Ideal.ofBits .f32 0x358637BD#32) * g

theorem row_congr {f f' : Fin 1024 → EReal} {g g' : EReal} (hf : ∀ x, f x = f' x) (hg : g = g') (l : Fin 1024) : row f g l = row f' g' l := by
  rw [funext hf, hg]

end Products.Norm

namespace Products.Norm.Ref

open Idealize.ShloMosaic Cert.Reference15Ideal Cert.Reference15Ideal.Gen

/-- The reference's array. -/
theorem array_at (A : FVec Ideal S8192x1024 .f32) (B : FVec Ideal S4x1024 .f32) (r : Fin 8192) (l : Fin 1024) :
    (truncf .bf16 (mulf (mulf A (broadcastInDim S8192x1024 ![0, 1] bcast_S8192x1_S8192x1024_0_1 (Host.rsqrt (addf (Host.divf (broadcastInDim S8192x1 ![0] bcast_S8192_S8192x1_0 (Host.reduceAdd (mulf A A) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1024 ![0, 1] bcast_S1x1024_S8192x1024_0_1 (broadcastInDim S1x1024 ![1] bcast_S1024_S1x1024_1 (shapeCast _ (extractStridedSlice S1x1024 ![0, 0] B slices_S4x1024_S1x1024_0_0) shapeCasts_S1x1024_S1024)))) bitsLt_bf16_f32
      : FVec Ideal S8192x1024 .bf16) (ix2 r l) = row (fun x => A (ix2 r x)) (B (ix2 (0 : Fin 4) l)) l := by
  unfold row
  pointwise []

end Products.Norm.Ref

namespace Products.Norm

open Idealize.ShloMosaic Idealize.ShloMosaic.TcCoe Idealize.SL.Sem Cert.Kernel15Ideal Cert.Kernel15Ideal.Gen

/-- What a point leaves in its block, at an index. -/
theorem out_at (x0 : Vec Ideal S512x1024 .f32) (x1 : Vec Ideal S1x1x1024 .f32) (r : Fin 512) (l : Fin 1024) :
    out0_2 x0 x1 (ix2 r l) = row (fun x => x0 (ix2 r x)) (x1 (ix3 (0 : Fin 1) (0 : Fin 1) l)) l := by
  have e : out0_2 x0 x1 = k0_pay1 x0 x1 :=
    (View.canon_cons_unit_lit _ _ _ (by decide)).trans (congrArg₂ k0_pay1 (View.ld_unit_lit _ _ (by decide)) (View.ld_unit_lit _ _ (by decide)))
  rw [e]
  unfold row
  pointwise [k0_pay1]

variable (m : (ℓ : Loc nD τ sig) → Buf (Elt Ideal) ℓ) (c : Dev nD)

theorem idx0 : ∀ t : Fin cfg0.N, win0_0.index t (0 : Fin 2) = t.val ∧ win0_0.index t (1 : Fin 2) = 0 := by decide +kernel
theorem idx1 : ∀ t : Fin cfg0.N, win0_1.index t (0 : Fin 3) = 0 ∧ win0_1.index t (1 : Fin 3) = 0 ∧ win0_1.index t (2 : Fin 3) = 0 := by decide +kernel
theorem idx2 : ∀ t : Fin cfg0.N, win0_2.index t (0 : Fin 2) = t.val ∧ win0_2.index t (1 : Fin 2) = 0 := by decide +kernel

/-- The gains as the call reads them. -/
theorem prep_at (B : FVec Ideal S4x1024 .f32) (hB : m ((c : Thread nD τ).loc main_arg1) = B) (l : Fin 1024) :
    (V m c main_v0 : FVec Ideal S4x1x1024 .f32) (ix3 (0 : Fin 4) (0 : Fin 1) l) = B (ix2 (0 : Fin 4) l) := by
  subst hB
  unfold V
  after_results
  pointwise []

theorem block0 (t : Fin cfg0.N) (r : Fin 512) (p : Fin 1024) (R : Fin 8192) (hR : R.val = 512 * t.val + r.val) :
    (iblk m c 0 t : Vec Ideal S512x1024 .f32) (ix2 r p) = (m ((c : Thread nD τ).loc main_arg0) : FVec Ideal S8192x1024 .f32) (ix2 R p) := by
  unfold iblk
  rw [View.read_apply]
  show V m c main_arg0 _ = _
  rw [V_main_arg0]
  refine congrArg (m ((c : Thread nD τ).loc main_arg0) : FVec Ideal S8192x1024 .f32) (funext fun a => Fin.ext ?_)
  match a with
  | ⟨0, _⟩ => show win0_0.index t (0 : Fin 2) * 512 + 1 * r.val = R.val; rw [(idx0 t).1]; omega
  | ⟨1, _⟩ => show win0_0.index t (1 : Fin 2) * 1024 + 1 * p.val = p.val; rw [(idx0 t).2]; omega

theorem block1 (t : Fin cfg0.N) (l : Fin 1024) :
    (iblk m c 1 t : Vec Ideal S1x1x1024 .f32) (ix3 (0 : Fin 1) (0 : Fin 1) l) = (V m c main_v0 : FVec Ideal S4x1x1024 .f32) (ix3 (0 : Fin 4) (0 : Fin 1) l) := by
  unfold iblk
  rw [View.read_apply]
  refine congrArg (V m c main_v0 : FVec Ideal S4x1x1024 .f32) (funext fun a => Fin.ext ?_)
  match a with
  | ⟨0, _⟩ => show win0_1.index t (0 : Fin 3) * 1 + 1 * 0 = 0; rw [(idx1 t).1]
  | ⟨1, _⟩ => show win0_1.index t (1 : Fin 3) * 1 + 1 * 0 = 0; rw [(idx1 t).2.1]
  | ⟨2, _⟩ => show win0_1.index t (2 : Fin 3) * 1024 + 1 * l.val = l.val; rw [(idx1 t).2.2]; omega

theorem read_at (G : FVec Ideal S8192x1024 .bf16) (t : Fin cfg0.N) (r : Fin 512) (l : Fin 1024) (R : Fin 8192) (hR : R.val = 512 * t.val + r.val) :
    (((cfg0.win 2).blk t).view.read (Elt Ideal) G : FVec Ideal S512x1024 .bf16) (ix2 r l) = G (ix2 R l) := by
  rw [View.read_apply]
  refine congrArg G (funext fun a => Fin.ext ?_)
  match a with
  | ⟨0, _⟩ => show win0_2.index t (0 : Fin 2) * 512 + 1 * r.val = R.val; rw [(idx2 t).1]; omega
  | ⟨1, _⟩ => show win0_2.index t (1 : Fin 2) * 1024 + 1 * l.val = l.val; rw [(idx2 t).2]; omega

/-- The point that computes a row. -/
def pointOf (R : Fin 8192) : Fin cfg0.N := ⟨R.val / 512, lt_of_lt_of_eq (by omega) N_0.symm⟩

/-- The kernel's array. -/
theorem array_at (A : FVec Ideal S8192x1024 .f32) (B : FVec Ideal S4x1024 .f32) (hA : m ((c : Thread nD τ).loc main_arg0) = A)
    (hB : m ((c : Thread nD τ).loc main_arg1) = B) (R : Fin 8192) (l : Fin 1024) :
    ((dats m 0 c).arrAt 2 cfg0.N : FVec Ideal S8192x1024 .bf16) (ix2 R l) = row (fun x => A (ix2 R x)) (B (ix2 (0 : Fin 4) l)) l := by
  have hR : R.val = 512 * (pointOf R).val + R.val % 512 := by show R.val = 512 * (R.val / 512) + R.val % 512; omega
  have h := (Value.blocks2 m c (pointOf R) (flush0_2 _)).trans (Value.flushed2 m c (pointOf R))
  generalize (dats m 0 c).arrAt 2 cfg0.N = G at h ⊢
  refine (read_at G (pointOf R) ⟨R.val % 512, by omega⟩ l R hR).symm.trans ((congrFun h (ix2 (⟨R.val % 512, by omega⟩ : Fin 512) l)).trans ?_)
  refine (out_at (iblk m c 0 (pointOf R)) (iblk m c 1 (pointOf R)) ⟨R.val % 512, by omega⟩ l).trans ?_
  subst hA
  exact row_congr (fun p => block0 m c (pointOf R) _ p R hR) ((block1 m c (pointOf R) l).trans (prep_at m c B hB l)) l

theorem algebraic : Cert.algebraic_Kernel15Ideal_Reference15Ideal := by
  intro m g m' g' _ hagree
  refine ⟨fun c => (dats m 0 c).arrAt 2 cfg0.N, Value.run_blocks m g, ?_⟩
  refine (θ_run Cert.Reference15Ideal.defs _ _).mono (fun _ h c => ?_) (Cert.Reference15Ideal.Value.run m' g')
  obtain ⟨h0, hk⟩ := h c
  refine ⟨h0.trans ?_, hk⟩
  rw [(hagree c).1, (hagree c).2]
  funext i
  obtain ⟨r, l, rfl⟩ : ∃ (r : Fin 8192) (l : Fin 1024), i = ix2 r l := ⟨_, _, eq_ix2 i⟩
  exact (Ref.array_at _ _ r l).trans (array_at m c _ _ rfl rfl r l).symm

end Products.Norm

end
-- ==== Proof.Products.NormPost.lean ====
/-
  The sum of the state and the norm of a sublayer's rows, and the norm of that sum: each point leaves 512 rows of both.
-/
module

public import proofs.«01_k».proof.Defs
public import proofs.«01_k».proof.Proof.Products.Norm
public import proofs.«01_k».proof.Proof.Gen.Kernel16Ideal.Value
public import proofs.«01_k».proof.Proof.Gen.Reference16Ideal.Run
public import Idealize.ShloMosaic.Lib.Pipeline.ValueKit
public import Idealize.ShloMosaic.Lib.VecWindow
public import Idealize.ShloMosaic.Lib.StableHlo.Run

@[expose] public section

set_option maxRecDepth 16384
set_option maxHeartbeats 1000000

noncomputable section

namespace Products.Norm.Post.Ref

open Idealize.ShloMosaic Cert.Reference16Ideal Cert.Reference16Ideal.Gen

/-- The reference's sum. -/
theorem sum_at (X : FVec Ideal S8192x1024 .f32) (Y : FVec Ideal S8192x1024 .bf16) (G : FVec Ideal S4x1024 .f32) (r : Fin 8192) (l : Fin 1024) :
    (addf X (mulf (mulf (extf .f32 Y bitsLt_bf16_f32) (broadcastInDim S8192x1024 ![0, 1] bcast_S8192x1_S8192x1024_0_1 (Host.rsqrt (addf (Host.divf (broadcastInDim S8192x1 ![0] bcast_S8192_S8192x1_0 (Host.reduceAdd (mulf (extf .f32 Y bitsLt_bf16_f32) (extf .f32 Y bitsLt_bf16_f32)) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1024 ![0, 1] bcast_S1x1024_S8192x1024_0_1 (broadcastInDim S1x1024 ![1] bcast_S1024_S1x1024_1 (shapeCast _ (extractStridedSlice S1x1024 ![0, 0] G slices_S4x1024_S1x1024_0_0) shapeCasts_S1x1024_S1024))))
      : FVec Ideal S8192x1024 .f32) (ix2 r l) = X (ix2 r l) + row (fun x => Y (ix2 r x)) (G (ix2 (0 : Fin 4) l)) l := by
  unfold row
  pointwise []

/-- The norm of a sum `S`. -/
theorem norm_at (S : FVec Ideal S8192x1024 .f32) (H : FVec Ideal S4x1024 .f32) (r : Fin 8192) (l : Fin 1024) :
    (truncf .bf16 (mulf (mulf S (broadcastInDim S8192x1024 ![0, 1] bcast_S8192x1_S8192x1024_0_1 (Host.rsqrt (addf (Host.divf (broadcastInDim S8192x1 ![0] bcast_S8192_S8192x1_0 (Host.reduceAdd (mulf S S) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1024 ![0, 1] bcast_S1x1024_S8192x1024_0_1 (broadcastInDim S1x1024 ![1] bcast_S1024_S1x1024_1 (shapeCast _ (extractStridedSlice S1x1024 ![0, 0] H slices_S4x1024_S1x1024_0_0) shapeCasts_S1x1024_S1024)))) bitsLt_bf16_f32
      : FVec Ideal S8192x1024 .bf16) (ix2 r l) = row (fun x => S (ix2 r x)) (H (ix2 (0 : Fin 4) l)) l := by
  unfold row
  pointwise []

end Products.Norm.Post.Ref

namespace Products.Norm.Post

open Idealize.ShloMosaic Idealize.ShloMosaic.TcCoe Idealize.SL.Sem Cert.Kernel16Ideal Cert.Kernel16Ideal.Gen

/-- The sum at an index, of a row's values. -/
def state (x y : Fin 1024 → EReal) (g : Fin 1024 → EReal) (l : Fin 1024) : EReal := x l + row y (g l) l

theorem pay1_at (x1 : Vec Ideal S512x1024 .bf16) (x0 : Vec Ideal S512x1024 .f32) (x2 : Vec Ideal S1x1x1024 .f32) (r : Fin 512) (l : Fin 1024) :
    k0_pay1 x1 x0 x2 (ix2 r l) = state (fun x => x0 (ix2 r x)) (fun x => x1 (ix2 r x)) (fun x => x2 (ix3 (0 : Fin 1) (0 : Fin 1) x)) l := by
  unfold state row
  pointwise [k0_pay1]

/-- What a point leaves of the sum, at an index. -/
theorem out4_at (x0 : Vec Ideal S512x1024 .f32) (x1 : Vec Ideal S512x1024 .bf16) (x2 x3 : Vec Ideal S1x1x1024 .f32) (r : Fin 512) (l : Fin 1024) :
    out0_4 x0 x1 x2 x3 (ix2 r l) = state (fun x => x0 (ix2 r x)) (fun x => x1 (ix2 r x)) (fun x => x2 (ix3 (0 : Fin 1) (0 : Fin 1) x)) l := by
  have e : out0_4 x0 x1 x2 x3 = k0_pay1 x1 x0 x2 := by
    unfold out0_4
    rw [View.canon_cons_unit_lit _ _ _ (by decide), View.ld_unit_lit _ _ (by decide), View.ld_unit_lit _ _ (by decide), View.ld_unit_lit _ _ (by decide)]
  rw [e]
  exact pay1_at x1 x0 x2 r l

/-- What a point leaves of the norm, at an index. -/
theorem out5_at (x0 : Vec Ideal S512x1024 .f32) (x1 : Vec Ideal S512x1024 .bf16) (x2 x3 : Vec Ideal S1x1x1024 .f32) (r : Fin 512) (l : Fin 1024) :
    out0_5 x0 x1 x2 x3 (ix2 r l) = row (state (fun x => x0 (ix2 r x)) (fun x => x1 (ix2 r x)) (fun x => x2 (ix3 (0 : Fin 1) (0 : Fin 1) x)))
      (x3 (ix3 (0 : Fin 1) (0 : Fin 1) l)) l := by
  have e : out0_5 x0 x1 x2 x3 = k0_pay2 x1 x0 x2 x3 := by
    unfold out0_5
    rw [View.canon_cons_unit_lit _ _ _ (by decide), View.ld_unit_lit _ _ (by decide), View.ld_unit_lit _ _ (by decide), View.ld_unit_lit _ _ (by decide), View.ld_unit_lit _ _ (by decide)]
  rw [e]
  have s := pay1_at x1 x0 x2 r
  unfold k0_pay2
  generalize k0_pay1 x1 x0 x2 = S at s ⊢
  refine Eq.trans ?_ (row_congr s rfl l)
  unfold row
  pointwise []

variable (m : (ℓ : Loc nD τ sig) → Buf (Elt Ideal) ℓ) (c : Dev nD)

theorem idx (t : Fin cfg0.N) : (win0_0.index t (0 : Fin 2) = t.val ∧ win0_0.index t (1 : Fin 2) = 0)
    ∧ (win0_1.index t (0 : Fin 2) = t.val ∧ win0_1.index t (1 : Fin 2) = 0)
    ∧ (win0_2.index t (0 : Fin 3) = 0 ∧ win0_2.index t (1 : Fin 3) = 0 ∧ win0_2.index t (2 : Fin 3) = 0)
    ∧ (win0_3.index t (0 : Fin 3) = 0 ∧ win0_3.index t (1 : Fin 3) = 0 ∧ win0_3.index t (2 : Fin 3) = 0)
    ∧ (win0_4.index t (0 : Fin 2) = t.val ∧ win0_4.index t (1 : Fin 2) = 0)
    ∧ (win0_5.index t (0 : Fin 2) = t.val ∧ win0_5.index t (1 : Fin 2) = 0) := by
  revert t
  decide +kernel

/-- The gains as the call reads them. -/
theorem prep2_at (l : Fin 1024) : (V m c main_v0 : FVec Ideal S4x1x1024 .f32) (ix3 (0 : Fin 4) (0 : Fin 1) l)
    = (m ((c : Thread nD τ).loc main_arg2) : FVec Ideal S4x1024 .f32) (ix2 (0 : Fin 4) l) := by
  unfold V
  after_results
  pointwise []

theorem prep3_at (l : Fin 1024) : (V m c main_v1 : FVec Ideal S4x1x1024 .f32) (ix3 (0 : Fin 4) (0 : Fin 1) l)
    = (m ((c : Thread nD τ).loc main_arg3) : FVec Ideal S4x1024 .f32) (ix2 (0 : Fin 4) l) := by
  unfold V
  after_results
  pointwise []

theorem block0 (t : Fin cfg0.N) (r : Fin 512) (p : Fin 1024) (R : Fin 8192) (hR : R.val = 512 * t.val + r.val) :
    (iblk m c 0 t : Vec Ideal S512x1024 .f32) (ix2 r p) = (m ((c : Thread nD τ).loc main_arg0) : FVec Ideal S8192x1024 .f32) (ix2 R p) := by
  unfold iblk
  rw [View.read_apply]
  show V m c main_arg0 _ = _
  rw [V_main_arg0]
  refine congrArg (m ((c : Thread nD τ).loc main_arg0) : FVec Ideal S8192x1024 .f32) (funext fun a => Fin.ext ?_)
  match a with
  | ⟨0, _⟩ => show win0_0.index t (0 : Fin 2) * 512 + 1 * r.val = R.val; rw [(idx t).1.1]; omega
  | ⟨1, _⟩ => show win0_0.index t (1 : Fin 2) * 1024 + 1 * p.val = p.val; rw [(idx t).1.2]; omega

theorem block1 (t : Fin cfg0.N) (r : Fin 512) (p : Fin 1024) (R : Fin 8192) (hR : R.val = 512 * t.val + r.val) :
    (iblk m c 1 t : Vec Ideal S512x1024 .bf16) (ix2 r p) = (m ((c : Thread nD τ).loc main_arg1) : FVec Ideal S8192x1024 .bf16) (ix2 R p) := by
  unfold iblk
  rw [View.read_apply]
  show V m c main_arg1 _ = _
  rw [V_main_arg1]
  refine congrArg (m ((c : Thread nD τ).loc main_arg1) : FVec Ideal S8192x1024 .bf16) (funext fun a => Fin.ext ?_)
  match a with
  | ⟨0, _⟩ => show win0_1.index t (0 : Fin 2) * 512 + 1 * r.val = R.val; rw [(idx t).2.1.1]; omega
  | ⟨1, _⟩ => show win0_1.index t (1 : Fin 2) * 1024 + 1 * p.val = p.val; rw [(idx t).2.1.2]; omega

theorem block2 (t : Fin cfg0.N) (l : Fin 1024) : (iblk m c 2 t : Vec Ideal S1x1x1024 .f32) (ix3 (0 : Fin 1) (0 : Fin 1) l)
    = (m ((c : Thread nD τ).loc main_arg2) : FVec Ideal S4x1024 .f32) (ix2 (0 : Fin 4) l) := by
  refine Eq.trans ?_ (prep2_at m c l)
  unfold iblk
  rw [View.read_apply]
  refine congrArg (V m c main_v0 : FVec Ideal S4x1x1024 .f32) (funext fun a => Fin.ext ?_)
  match a with
  | ⟨0, _⟩ => show win0_2.index t (0 : Fin 3) * 1 + 1 * 0 = 0; rw [(idx t).2.2.1.1]
  | ⟨1, _⟩ => show win0_2.index t (1 : Fin 3) * 1 + 1 * 0 = 0; rw [(idx t).2.2.1.2.1]
  | ⟨2, _⟩ => show win0_2.index t (2 : Fin 3) * 1024 + 1 * l.val = l.val; rw [(idx t).2.2.1.2.2]; omega

theorem block3 (t : Fin cfg0.N) (l : Fin 1024) : (iblk m c 3 t : Vec Ideal S1x1x1024 .f32) (ix3 (0 : Fin 1) (0 : Fin 1) l)
    = (m ((c : Thread nD τ).loc main_arg3) : FVec Ideal S4x1024 .f32) (ix2 (0 : Fin 4) l) := by
  refine Eq.trans ?_ (prep3_at m c l)
  unfold iblk
  rw [View.read_apply]
  refine congrArg (V m c main_v1 : FVec Ideal S4x1x1024 .f32) (funext fun a => Fin.ext ?_)
  match a with
  | ⟨0, _⟩ => show win0_3.index t (0 : Fin 3) * 1 + 1 * 0 = 0; rw [(idx t).2.2.2.1.1]
  | ⟨1, _⟩ => show win0_3.index t (1 : Fin 3) * 1 + 1 * 0 = 0; rw [(idx t).2.2.2.1.2.1]
  | ⟨2, _⟩ => show win0_3.index t (2 : Fin 3) * 1024 + 1 * l.val = l.val; rw [(idx t).2.2.2.1.2.2]; omega

theorem read4_at (G : FVec Ideal S8192x1024 .f32) (t : Fin cfg0.N) (r : Fin 512) (l : Fin 1024) (R : Fin 8192) (hR : R.val = 512 * t.val + r.val) :
    (((cfg0.win 4).blk t).view.read (Elt Ideal) G : FVec Ideal S512x1024 .f32) (ix2 r l) = G (ix2 R l) := by
  rw [View.read_apply]
  refine congrArg G (funext fun a => Fin.ext ?_)
  match a with
  | ⟨0, _⟩ => show win0_4.index t (0 : Fin 2) * 512 + 1 * r.val = R.val; rw [(idx t).2.2.2.2.1.1]; omega
  | ⟨1, _⟩ => show win0_4.index t (1 : Fin 2) * 1024 + 1 * l.val = l.val; rw [(idx t).2.2.2.2.1.2]; omega

theorem read5_at (G : FVec Ideal S8192x1024 .bf16) (t : Fin cfg0.N) (r : Fin 512) (l : Fin 1024) (R : Fin 8192) (hR : R.val = 512 * t.val + r.val) :
    (((cfg0.win 5).blk t).view.read (Elt Ideal) G : FVec Ideal S512x1024 .bf16) (ix2 r l) = G (ix2 R l) := by
  rw [View.read_apply]
  refine congrArg G (funext fun a => Fin.ext ?_)
  match a with
  | ⟨0, _⟩ => show win0_5.index t (0 : Fin 2) * 512 + 1 * r.val = R.val; rw [(idx t).2.2.2.2.2.1]; omega
  | ⟨1, _⟩ => show win0_5.index t (1 : Fin 2) * 1024 + 1 * l.val = l.val; rw [(idx t).2.2.2.2.2.2]; omega

/-- The point that computes a row. -/
def pointOf (R : Fin 8192) : Fin cfg0.N := ⟨R.val / 512, lt_of_lt_of_eq (by omega) N_0.symm⟩

theorem row_of (R : Fin 8192) : R.val = 512 * (pointOf R).val + R.val % 512 := by show R.val = 512 * (R.val / 512) + R.val % 512; omega

variable {X : FVec Ideal S8192x1024 .f32} {Y : FVec Ideal S8192x1024 .bf16} {G H : FVec Ideal S4x1024 .f32}
  (hX : m ((c : Thread nD τ).loc main_arg0) = X) (hY : m ((c : Thread nD τ).loc main_arg1) = Y) (hG : m ((c : Thread nD τ).loc main_arg2) = G)
  (hH : m ((c : Thread nD τ).loc main_arg3) = H) (R : Fin 8192)
include hX hY hG

/-- The row that a point computes, from its blocks. -/
theorem state_at (r : Fin 512) (hR : R.val = 512 * (pointOf R).val + r.val) :
    state (fun x => (iblk m c 0 (pointOf R) : Vec Ideal S512x1024 .f32) (ix2 r x)) (fun x => (iblk m c 1 (pointOf R) : Vec Ideal S512x1024 .bf16) (ix2 r x))
      (fun x => (iblk m c 2 (pointOf R) : Vec Ideal S1x1x1024 .f32) (ix3 (0 : Fin 1) (0 : Fin 1) x))
      = state (fun x => X (ix2 R x)) (fun x => Y (ix2 R x)) (fun x => G (ix2 (0 : Fin 4) x)) := by
  subst hX hY hG
  rw [funext fun x => block0 m c (pointOf R) r x R hR, funext fun x => block1 m c (pointOf R) r x R hR, funext fun x => block2 m c (pointOf R) x]

/-- The kernel's sum. -/
theorem sum_at (l : Fin 1024) : ((dats m 0 c).arrAt 4 cfg0.N : FVec Ideal S8192x1024 .f32) (ix2 R l)
    = state (fun x => X (ix2 R x)) (fun x => Y (ix2 R x)) (fun x => G (ix2 (0 : Fin 4) x)) l := by
  have h := (Value.blocks4 m c (pointOf R) (flush0_4 _)).trans (Value.flushed4 m c (pointOf R))
  generalize (dats m 0 c).arrAt 4 cfg0.N = Z at h ⊢
  refine (read4_at Z (pointOf R) ⟨R.val % 512, by omega⟩ l R (row_of R)).symm.trans ((congrFun h (ix2 (⟨R.val % 512, by omega⟩ : Fin 512) l)).trans ?_)
  refine (out4_at (iblk m c 0 (pointOf R)) (iblk m c 1 (pointOf R)) (iblk m c 2 (pointOf R)) (iblk m c 3 (pointOf R)) ⟨R.val % 512, by omega⟩ l).trans ?_
  exact congrFun (state_at m c hX hY hG R _ (row_of R)) l

include hH
/-- The kernel's norm. -/
theorem norm_at (l : Fin 1024) : ((dats m 0 c).arrAt 5 cfg0.N : FVec Ideal S8192x1024 .bf16) (ix2 R l)
    = row (state (fun x => X (ix2 R x)) (fun x => Y (ix2 R x)) (fun x => G (ix2 (0 : Fin 4) x))) (H (ix2 (0 : Fin 4) l)) l := by
  have h := (Value.blocks5 m c (pointOf R) (flush0_5 _)).trans (Value.flushed5 m c (pointOf R))
  generalize (dats m 0 c).arrAt 5 cfg0.N = Z at h ⊢
  refine (read5_at Z (pointOf R) ⟨R.val % 512, by omega⟩ l R (row_of R)).symm.trans ((congrFun h (ix2 (⟨R.val % 512, by omega⟩ : Fin 512) l)).trans ?_)
  refine (out5_at (iblk m c 0 (pointOf R)) (iblk m c 1 (pointOf R)) (iblk m c 2 (pointOf R)) (iblk m c 3 (pointOf R)) ⟨R.val % 512, by omega⟩ l).trans ?_
  subst hH
  exact row_congr (congrFun (state_at m c hX hY hG R _ (row_of R))) (block3 m c (pointOf R) l) l

omit hX hY hG hH

theorem algebraic : Cert.algebraic_Kernel16Ideal_Reference16Ideal := by
  intro m g m' g' _ hagree
  refine ⟨fun c => (dats m 0 c).arrAt 4 cfg0.N, fun c => (dats m 0 c).arrAt 5 cfg0.N, Value.run_blocks m g, ?_⟩
  refine (θ_run Cert.Reference16Ideal.defs _ _).mono (fun _ h c => ?_) (Cert.Reference16Ideal.Value.run m' g')
  obtain ⟨h0, h1, hk⟩ := h c
  refine ⟨h0.trans ?_, h1.trans ?_, hk⟩
  · rw [(hagree c).1, (hagree c).2.1, (hagree c).2.2.1]
    funext i
    obtain ⟨r, l, rfl⟩ : ∃ (r : Fin 8192) (l : Fin 1024), i = ix2 r l := ⟨_, _, eq_ix2 i⟩
    exact (Ref.sum_at _ _ _ r l).trans (sum_at m c rfl rfl rfl r l).symm
  · rw [(hagree c).1, (hagree c).2.1, (hagree c).2.2.1, (hagree c).2.2.2]
    funext i
    obtain ⟨r, l, rfl⟩ : ∃ (r : Fin 8192) (l : Fin 1024), i = ix2 r l := ⟨_, _, eq_ix2 i⟩
    exact (Ref.norm_at _ _ r l).trans ((row_congr (fun x => Ref.sum_at _ _ _ r x) rfl l).trans (norm_at m c rfl rfl rfl rfl r l).symm)

end Products.Norm.Post

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.On_of_gate
public import proofs.«01_k».proof.Proof.Gen.KernelIdeal.Value
public import proofs.«01_k».proof.Proof.Gen.ReferenceIdeal.Run
public import proofs.«01_k».proof.Proof.Gen.ReferenceIdeal.Step
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Kernel16
public import proofs.«01_k».proof.Proof.Gen.Kernel16.Skeleton
public import proofs.«01_k».proof.Proof.Gen.Kernel16.Launch
public import proofs.«01_k».proof.Proof.Gen.Kernel16.Points
public import proofs.«01_k».proof.Proof.Gen.Kernel16.Frame
public import proofs.«01_k».proof.Proof.Gen.Kernel16Ideal
public import proofs.«01_k».proof.Proof.Gen.Kernel16Ideal.Skeleton
public import proofs.«01_k».proof.Proof.Gen.Kernel16Ideal.Launch
public import proofs.«01_k».proof.Proof.Gen.Kernel16Ideal.Points
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Run
public import proofs.«01_k».proof.Proof.Gen.Pre_finite_pair
public import proofs.«01_k».proof.Proof.Gla.Frames
public import proofs.«01_k».proof.Proof.Gla.RefRun
public import proofs.«01_k».proof.Proof.Gla.Agree
public import proofs.«01_k».proof.Proof.Products.Frames
public import proofs.«01_k».proof.Proof.Products.FfnUpDx
public import proofs.«01_k».proof.Proof.Products.FfnUpDw
public import proofs.«01_k».proof.Proof.Products.FfnDownDx
public import proofs.«01_k».proof.Proof.Products.FfnDownDw
public import proofs.«01_k».proof.Proof.Products.ProjInDx
public import proofs.«01_k».proof.Proof.Products.ProjInDw
public import proofs.«01_k».proof.Proof.Products.OutDx
public import proofs.«01_k».proof.Proof.Products.OutDw
public import proofs.«01_k».proof.Proof.Products.FfnUp
public import proofs.«01_k».proof.Proof.Products.FfnDown
public import proofs.«01_k».proof.Proof.Products.ProjIn
public import proofs.«01_k».proof.Proof.Products.Out
public import proofs.«01_k».proof.Proof.Products.Act
public import proofs.«01_k».proof.Proof.Products.Norm
public import proofs.«01_k».proof.Proof.Products.NormPost
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Pre_finite.Gen.facts, Cert.Pre_finite_pair.Gen.facts, Cert.On_of_gate.Gen.facts,
  Gla.frame_kernel, Gla.frame_kernelIdeal, fun m g _ => Gla.frame_kernelIdeal m g trivial,
  Gla.frame_referenceIdeal, fun m g _ => Gla.frame_referenceIdeal m g trivial,
  Products.frame_words2, Products.frame_kernel2, Products.frame_reference2,
  Products.frame_words3, Products.frame_kernel3, Products.frame_reference3,
  Products.frame_words4, Products.frame_kernel4, Products.frame_reference4,
  Products.frame_words5, Products.frame_kernel5, Products.frame_reference5,
  Products.frame_words6, Products.frame_kernel6, Products.frame_reference6,
  Products.frame_words7, Products.frame_kernel7, Products.frame_reference7,
  Products.frame_words8, Products.frame_kernel8, Products.frame_reference8,
  Products.frame_words9, Products.frame_kernel9, Products.frame_reference9,
  Products.frame_words10, Products.frame_kernel10, Products.frame_reference10,
  Products.frame_words11, Products.frame_kernel11, Products.frame_reference11,
  Products.frame_words12, Products.frame_kernel12, Products.frame_reference12,
  Products.frame_words13, Products.frame_kernel13, Products.frame_reference13,
  Products.frame_words14, Products.frame_kernel14, fun m g _ => Products.frame_kernel14 m g trivial,
  Products.frame_reference14, fun m g _ => Products.frame_reference14 m g trivial,
  Products.frame_words15, Products.frame_kernel15, Products.frame_reference15,
  Products.frame_words16, Products.frame_kernel16, Products.frame_reference16,
  trivial, Gla.algebraic,
  trivial, Products.FfnUpDx.algebraic,
  trivial, Products.FfnUpDw.algebraic,
  trivial, Products.FfnDownDx.algebraic,
  trivial, Products.FfnDownDw.algebraic,
  trivial, Products.ProjInDx.algebraic,
  trivial, Products.ProjInDw.algebraic,
  trivial, Products.OutDx.algebraic,
  trivial, Products.OutDw.algebraic,
  trivial, Products.FfnUp.algebraic,
  trivial, Products.FfnDown.algebraic,
  trivial, Products.ProjIn.algebraic,
  trivial, Products.Out.algebraic,
  trivial, Products.Act.algebraic,
  trivial, Products.Norm.algebraic,
  trivial, Products.Norm.Post.algebraic⟩

end Cert.Proof

end
